-- ==== Defs.lean ====
def Pre_PrePrompt (m : (ℓ : Loc Cert.PrePrompt.nD Cert.PrePrompt.τ Cert.PrePrompt.sig) → Buf (Elt Bits) ℓ) : Prop :=
  True

def Pre_PrePromptIdeal (m : (ℓ : Loc Cert.PrePromptIdeal.nD Cert.PrePromptIdeal.τ Cert.PrePromptIdeal.sig) → Buf (Elt Ideal) ℓ) : Prop :=
  True

def Pre_PrePromptIdeal_finite_args [hPre_finite_args : Cert.Pre_finite_args.Facts] (m : (ℓ : Loc Cert.PrePromptIdeal.nD Cert.PrePromptIdeal.τ Cert.PrePromptIdeal.sig) → Buf (Elt Ideal) ℓ) : Prop :=
  ∀ c : Dev Cert.PrePromptIdeal.nD,
    (Cert.Pre_finite_args.fn (F := Ideal) (m ((c.tc : Thread Cert.PrePromptIdeal.nD Cert.PrePromptIdeal.τ).loc Cert.PrePromptIdeal.main_arg0)) (m ((c.tc : Thread Cert.PrePromptIdeal.nD Cert.PrePromptIdeal.τ).loc Cert.PrePromptIdeal.main_arg1)) (m ((c.tc : Thread Cert.PrePromptIdeal.nD Cert.PrePromptIdeal.τ).loc Cert.PrePromptIdeal.main_arg2)) (m ((c.tc : Thread Cert.PrePromptIdeal.nD Cert.PrePromptIdeal.τ).loc Cert.PrePromptIdeal.main_arg3)) (m ((c.tc : Thread Cert.PrePromptIdeal.nD Cert.PrePromptIdeal.τ).loc Cert.PrePromptIdeal.main_arg4)) (m ((c.tc : Thread Cert.PrePromptIdeal.nD Cert.PrePromptIdeal.τ).loc Cert.PrePromptIdeal.main_arg5))).1 = (fun _ => 1#1)
    ∧ (Cert.Pre_finite_args.fn (F := Ideal) (m ((c.tc : Thread Cert.PrePromptIdeal.nD Cert.PrePromptIdeal.τ).loc Cert.PrePromptIdeal.main_arg0)) (m ((c.tc : Thread Cert.PrePromptIdeal.nD Cert.PrePromptIdeal.τ).loc Cert.PrePromptIdeal.main_arg1)) (m ((c.tc : Thread Cert.PrePromptIdeal.nD Cert.PrePromptIdeal.τ).loc Cert.PrePromptIdeal.main_arg2)) (m ((c.tc : Thread Cert.PrePromptIdeal.nD Cert.PrePromptIdeal.τ).loc Cert.PrePromptIdeal.main_arg3)) (m ((c.tc : Thread Cert.PrePromptIdeal.nD Cert.PrePromptIdeal.τ).loc Cert.PrePromptIdeal.main_arg4)) (m ((c.tc : Thread Cert.PrePromptIdeal.nD Cert.PrePromptIdeal.τ).loc Cert.PrePromptIdeal.main_arg5))).2.1 = (fun _ => 1#1)
    ∧ (Cert.Pre_finite_args.fn (F := Ideal) (m ((c.tc : Thread Cert.PrePromptIdeal.nD Cert.PrePromptIdeal.τ).loc Cert.PrePromptIdeal.main_arg0)) (m ((c.tc : Thread Cert.PrePromptIdeal.nD Cert.PrePromptIdeal.τ).loc Cert.PrePromptIdeal.main_arg1)) (m ((c.tc : Thread Cert.PrePromptIdeal.nD Cert.PrePromptIdeal.τ).loc Cert.PrePromptIdeal.main_arg2)) (m ((c.tc : Thread Cert.PrePromptIdeal.nD Cert.PrePromptIdeal.τ).loc Cert.PrePromptIdeal.main_arg3)) (m ((c.tc : Thread Cert.PrePromptIdeal.nD Cert.PrePromptIdeal.τ).loc Cert.PrePromptIdeal.main_arg4)) (m ((c.tc : Thread Cert.PrePromptIdeal.nD Cert.PrePromptIdeal.τ).loc Cert.PrePromptIdeal.main_arg5))).2.2.1 = (fun _ => 1#1)
    ∧ (Cert.Pre_finite_args.fn (F := Ideal) (m ((c.tc : Thread Cert.PrePromptIdeal.nD Cert.PrePromptIdeal.τ).loc Cert.PrePromptIdeal.main_arg0)) (m ((c.tc : Thread Cert.PrePromptIdeal.nD Cert.PrePromptIdeal.τ).loc Cert.PrePromptIdeal.main_arg1)) (m ((c.tc : Thread Cert.PrePromptIdeal.nD Cert.PrePromptIdeal.τ).loc Cert.PrePromptIdeal.main_arg2)) (m ((c.tc : Thread Cert.PrePromptIdeal.nD Cert.PrePromptIdeal.τ).loc Cert.PrePromptIdeal.main_arg3)) (m ((c.tc : Thread Cert.PrePromptIdeal.nD Cert.PrePromptIdeal.τ).loc Cert.PrePromptIdeal.main_arg4)) (m ((c.tc : Thread Cert.PrePromptIdeal.nD Cert.PrePromptIdeal.τ).loc Cert.PrePromptIdeal.main_arg5))).2.2.2 = (fun _ => 1#1)

def Pre_PrePromptRefIdeal (m : (ℓ : Loc Cert.PrePromptRefIdeal.nD Cert.PrePromptRefIdeal.τ Cert.PrePromptRefIdeal.sig) → Buf (Elt Ideal) ℓ) : Prop :=
  True

def Pre_PrePromptRefIdeal_finite_args [hPre_finite_args : Cert.Pre_finite_args.Facts] (m : (ℓ : Loc Cert.PrePromptRefIdeal.nD Cert.PrePromptRefIdeal.τ Cert.PrePromptRefIdeal.sig) → Buf (Elt Ideal) ℓ) : Prop :=
  ∀ c : Dev Cert.PrePromptRefIdeal.nD,
    (Cert.Pre_finite_args.fn (F := Ideal) (m ((c.tc : Thread Cert.PrePromptRefIdeal.nD Cert.PrePromptRefIdeal.τ).loc Cert.PrePromptRefIdeal.main_arg0)) (m ((c.tc : Thread Cert.PrePromptRefIdeal.nD Cert.PrePromptRefIdeal.τ).loc Cert.PrePromptRefIdeal.main_arg1)) (m ((c.tc : Thread Cert.PrePromptRefIdeal.nD Cert.PrePromptRefIdeal.τ).loc Cert.PrePromptRefIdeal.main_arg2)) (m ((c.tc : Thread Cert.PrePromptRefIdeal.nD Cert.PrePromptRefIdeal.τ).loc Cert.PrePromptRefIdeal.main_arg3)) (m ((c.tc : Thread Cert.PrePromptRefIdeal.nD Cert.PrePromptRefIdeal.τ).loc Cert.PrePromptRefIdeal.main_arg4)) (m ((c.tc : Thread Cert.PrePromptRefIdeal.nD Cert.PrePromptRefIdeal.τ).loc Cert.PrePromptRefIdeal.main_arg5))).1 = (fun _ => 1#1)
    ∧ (Cert.Pre_finite_args.fn (F := Ideal) (m ((c.tc : Thread Cert.PrePromptRefIdeal.nD Cert.PrePromptRefIdeal.τ).loc Cert.PrePromptRefIdeal.main_arg0)) (m ((c.tc : Thread Cert.PrePromptRefIdeal.nD Cert.PrePromptRefIdeal.τ).loc Cert.PrePromptRefIdeal.main_arg1)) (m ((c.tc : Thread Cert.PrePromptRefIdeal.nD Cert.PrePromptRefIdeal.τ).loc Cert.PrePromptRefIdeal.main_arg2)) (m ((c.tc : Thread Cert.PrePromptRefIdeal.nD Cert.PrePromptRefIdeal.τ).loc Cert.PrePromptRefIdeal.main_arg3)) (m ((c.tc : Thread Cert.PrePromptRefIdeal.nD Cert.PrePromptRefIdeal.τ).loc Cert.PrePromptRefIdeal.main_arg4)) (m ((c.tc : Thread Cert.PrePromptRefIdeal.nD Cert.PrePromptRefIdeal.τ).loc Cert.PrePromptRefIdeal.main_arg5))).2.1 = (fun _ => 1#1)
    ∧ (Cert.Pre_finite_args.fn (F := Ideal) (m ((c.tc : Thread Cert.PrePromptRefIdeal.nD Cert.PrePromptRefIdeal.τ).loc Cert.PrePromptRefIdeal.main_arg0)) (m ((c.tc : Thread Cert.PrePromptRefIdeal.nD Cert.PrePromptRefIdeal.τ).loc Cert.PrePromptRefIdeal.main_arg1)) (m ((c.tc : Thread Cert.PrePromptRefIdeal.nD Cert.PrePromptRefIdeal.τ).loc Cert.PrePromptRefIdeal.main_arg2)) (m ((c.tc : Thread Cert.PrePromptRefIdeal.nD Cert.PrePromptRefIdeal.τ).loc Cert.PrePromptRefIdeal.main_arg3)) (m ((c.tc : Thread Cert.PrePromptRefIdeal.nD Cert.PrePromptRefIdeal.τ).loc Cert.PrePromptRefIdeal.main_arg4)) (m ((c.tc : Thread Cert.PrePromptRefIdeal.nD Cert.PrePromptRefIdeal.τ).loc Cert.PrePromptRefIdeal.main_arg5))).2.2.1 = (fun _ => 1#1)
    ∧ (Cert.Pre_finite_args.fn (F := Ideal) (m ((c.tc : Thread Cert.PrePromptRefIdeal.nD Cert.PrePromptRefIdeal.τ).loc Cert.PrePromptRefIdeal.main_arg0)) (m ((c.tc : Thread Cert.PrePromptRefIdeal.nD Cert.PrePromptRefIdeal.τ).loc Cert.PrePromptRefIdeal.main_arg1)) (m ((c.tc : Thread Cert.PrePromptRefIdeal.nD Cert.PrePromptRefIdeal.τ).loc Cert.PrePromptRefIdeal.main_arg2)) (m ((c.tc : Thread Cert.PrePromptRefIdeal.nD Cert.PrePromptRefIdeal.τ).loc Cert.PrePromptRefIdeal.main_arg3)) (m ((c.tc : Thread Cert.PrePromptRefIdeal.nD Cert.PrePromptRefIdeal.τ).loc Cert.PrePromptRefIdeal.main_arg4)) (m ((c.tc : Thread Cert.PrePromptRefIdeal.nD Cert.PrePromptRefIdeal.τ).loc Cert.PrePromptRefIdeal.main_arg5))).2.2.2 = (fun _ => 1#1)

def Pre_PostPrompt (m : (ℓ : Loc Cert.PostPrompt.nD Cert.PostPrompt.τ Cert.PostPrompt.sig) → Buf (Elt Bits) ℓ) : Prop :=
  True

def Pre_PostPromptIdeal (m : (ℓ : Loc Cert.PostPromptIdeal.nD Cert.PostPromptIdeal.τ Cert.PostPromptIdeal.sig) → Buf (Elt Ideal) ℓ) : Prop :=
  True

def Pre_PostPromptRefIdeal (m : (ℓ : Loc Cert.PostPromptRefIdeal.nD Cert.PostPromptRefIdeal.τ Cert.PostPromptRefIdeal.sig) → Buf (Elt Ideal) ℓ) : Prop :=
  True

def Pre_PreSample (m : (ℓ : Loc Cert.PreSample.nD Cert.PreSample.τ Cert.PreSample.sig) → Buf (Elt Bits) ℓ) : Prop :=
  True

def Pre_PreSampleIdeal (m : (ℓ : Loc Cert.PreSampleIdeal.nD Cert.PreSampleIdeal.τ Cert.PreSampleIdeal.sig) → Buf (Elt Ideal) ℓ) : Prop :=
  True

def Pre_PreSampleIdeal_finite_step [hPre_finite_step : Cert.Pre_finite_step.Facts] (m : (ℓ : Loc Cert.PreSampleIdeal.nD Cert.PreSampleIdeal.τ Cert.PreSampleIdeal.sig) → Buf (Elt Ideal) ℓ) : Prop :=
  ∀ c : Dev Cert.PreSampleIdeal.nD,
    (Cert.Pre_finite_step.fn (F := Ideal) (m ((c.tc : Thread Cert.PreSampleIdeal.nD Cert.PreSampleIdeal.τ).loc Cert.PreSampleIdeal.main_arg0)) (m ((c.tc : Thread Cert.PreSampleIdeal.nD Cert.PreSampleIdeal.τ).loc Cert.PreSampleIdeal.main_arg1)) (m ((c.tc : Thread Cert.PreSampleIdeal.nD Cert.PreSampleIdeal.τ).loc Cert.PreSampleIdeal.main_arg2)) (m ((c.tc : Thread Cert.PreSampleIdeal.nD Cert.PreSampleIdeal.τ).loc Cert.PreSampleIdeal.main_arg3)) (m ((c.tc : Thread Cert.PreSampleIdeal.nD Cert.PreSampleIdeal.τ).loc Cert.PreSampleIdeal.main_arg4)) (m ((c.tc : Thread Cert.PreSampleIdeal.nD Cert.PreSampleIdeal.τ).loc Cert.PreSampleIdeal.main_arg5)) (m ((c.tc : Thread Cert.PreSampleIdeal.nD Cert.PreSampleIdeal.τ).loc Cert.PreSampleIdeal.main_arg6))).1 = (fun _ => 1#1)
    ∧ (Cert.Pre_finite_step.fn (F := Ideal) (m ((c.tc : Thread Cert.PreSampleIdeal.nD Cert.PreSampleIdeal.τ).loc Cert.PreSampleIdeal.main_arg0)) (m ((c.tc : Thread Cert.PreSampleIdeal.nD Cert.PreSampleIdeal.τ).loc Cert.PreSampleIdeal.main_arg1)) (m ((c.tc : Thread Cert.PreSampleIdeal.nD Cert.PreSampleIdeal.τ).loc Cert.PreSampleIdeal.main_arg2)) (m ((c.tc : Thread Cert.PreSampleIdeal.nD Cert.PreSampleIdeal.τ).loc Cert.PreSampleIdeal.main_arg3)) (m ((c.tc : Thread Cert.PreSampleIdeal.nD Cert.PreSampleIdeal.τ).loc Cert.PreSampleIdeal.main_arg4)) (m ((c.tc : Thread Cert.PreSampleIdeal.nD Cert.PreSampleIdeal.τ).loc Cert.PreSampleIdeal.main_arg5)) (m ((c.tc : Thread Cert.PreSampleIdeal.nD Cert.PreSampleIdeal.τ).loc Cert.PreSampleIdeal.main_arg6))).2.1 = (fun _ => 1#1)
    ∧ (Cert.Pre_finite_step.fn (F := Ideal) (m ((c.tc : Thread Cert.PreSampleIdeal.nD Cert.PreSampleIdeal.τ).loc Cert.PreSampleIdeal.main_arg0)) (m ((c.tc : Thread Cert.PreSampleIdeal.nD Cert.PreSampleIdeal.τ).loc Cert.PreSampleIdeal.main_arg1)) (m ((c.tc : Thread Cert.PreSampleIdeal.nD Cert.PreSampleIdeal.τ).loc Cert.PreSampleIdeal.main_arg2)) (m ((c.tc : Thread Cert.PreSampleIdeal.nD Cert.PreSampleIdeal.τ).loc Cert.PreSampleIdeal.main_arg3)) (m ((c.tc : Thread Cert.PreSampleIdeal.nD Cert.PreSampleIdeal.τ).loc Cert.PreSampleIdeal.main_arg4)) (m ((c.tc : Thread Cert.PreSampleIdeal.nD Cert.PreSampleIdeal.τ).loc Cert.PreSampleIdeal.main_arg5)) (m ((c.tc : Thread Cert.PreSampleIdeal.nD Cert.PreSampleIdeal.τ).loc Cert.PreSampleIdeal.main_arg6))).2.2.1 = (fun _ => 1#1)
    ∧ (Cert.Pre_finite_step.fn (F := Ideal) (m ((c.tc : Thread Cert.PreSampleIdeal.nD Cert.PreSampleIdeal.τ).loc Cert.PreSampleIdeal.main_arg0)) (m ((c.tc : Thread Cert.PreSampleIdeal.nD Cert.PreSampleIdeal.τ).loc Cert.PreSampleIdeal.main_arg1)) (m ((c.tc : Thread Cert.PreSampleIdeal.nD Cert.PreSampleIdeal.τ).loc Cert.PreSampleIdeal.main_arg2)) (m ((c.tc : Thread Cert.PreSampleIdeal.nD Cert.PreSampleIdeal.τ).loc Cert.PreSampleIdeal.main_arg3)) (m ((c.tc : Thread Cert.PreSampleIdeal.nD Cert.PreSampleIdeal.τ).loc Cert.PreSampleIdeal.main_arg4)) (m ((c.tc : Thread Cert.PreSampleIdeal.nD Cert.PreSampleIdeal.τ).loc Cert.PreSampleIdeal.main_arg5)) (m ((c.tc : Thread Cert.PreSampleIdeal.nD Cert.PreSampleIdeal.τ).loc Cert.PreSampleIdeal.main_arg6))).2.2.2.1 = (fun _ => 1#1)
    ∧ (Cert.Pre_finite_step.fn (F := Ideal) (m ((c.tc : Thread Cert.PreSampleIdeal.nD Cert.PreSampleIdeal.τ).loc Cert.PreSampleIdeal.main_arg0)) (m ((c.tc : Thread Cert.PreSampleIdeal.nD Cert.PreSampleIdeal.τ).loc Cert.PreSampleIdeal.main_arg1)) (m ((c.tc : Thread Cert.PreSampleIdeal.nD Cert.PreSampleIdeal.τ).loc Cert.PreSampleIdeal.main_arg2)) (m ((c.tc : Thread Cert.PreSampleIdeal.nD Cert.PreSampleIdeal.τ).loc Cert.PreSampleIdeal.main_arg3)) (m ((c.tc : Thread Cert.PreSampleIdeal.nD Cert.PreSampleIdeal.τ).loc Cert.PreSampleIdeal.main_arg4)) (m ((c.tc : Thread Cert.PreSampleIdeal.nD Cert.PreSampleIdeal.τ).loc Cert.PreSampleIdeal.main_arg5)) (m ((c.tc : Thread Cert.PreSampleIdeal.nD Cert.PreSampleIdeal.τ).loc Cert.PreSampleIdeal.main_arg6))).2.2.2.2 = (fun _ => 1#1)

def Pre_PreSampleRefIdeal (m : (ℓ : Loc Cert.PreSampleRefIdeal.nD Cert.PreSampleRefIdeal.τ Cert.PreSampleRefIdeal.sig) → Buf (Elt Ideal) ℓ) : Prop :=
  True

def Pre_PreSampleRefIdeal_finite_step [hPre_finite_step : Cert.Pre_finite_step.Facts] (m : (ℓ : Loc Cert.PreSampleRefIdeal.nD Cert.PreSampleRefIdeal.τ Cert.PreSampleRefIdeal.sig) → Buf (Elt Ideal) ℓ) : Prop :=
  ∀ c : Dev Cert.PreSampleRefIdeal.nD,
    (Cert.Pre_finite_step.fn (F := Ideal) (m ((c.tc : Thread Cert.PreSampleRefIdeal.nD Cert.PreSampleRefIdeal.τ).loc Cert.PreSampleRefIdeal.main_arg0)) (m ((c.tc : Thread Cert.PreSampleRefIdeal.nD Cert.PreSampleRefIdeal.τ).loc Cert.PreSampleRefIdeal.main_arg1)) (m ((c.tc : Thread Cert.PreSampleRefIdeal.nD Cert.PreSampleRefIdeal.τ).loc Cert.PreSampleRefIdeal.main_arg2)) (m ((c.tc : Thread Cert.PreSampleRefIdeal.nD Cert.PreSampleRefIdeal.τ).loc Cert.PreSampleRefIdeal.main_arg3)) (m ((c.tc : Thread Cert.PreSampleRefIdeal.nD Cert.PreSampleRefIdeal.τ).loc Cert.PreSampleRefIdeal.main_arg4)) (m ((c.tc : Thread Cert.PreSampleRefIdeal.nD Cert.PreSampleRefIdeal.τ).loc Cert.PreSampleRefIdeal.main_arg5)) (m ((c.tc : Thread Cert.PreSampleRefIdeal.nD Cert.PreSampleRefIdeal.τ).loc Cert.PreSampleRefIdeal.main_arg6))).1 = (fun _ => 1#1)
    ∧ (Cert.Pre_finite_step.fn (F := Ideal) (m ((c.tc : Thread Cert.PreSampleRefIdeal.nD Cert.PreSampleRefIdeal.τ).loc Cert.PreSampleRefIdeal.main_arg0)) (m ((c.tc : Thread Cert.PreSampleRefIdeal.nD Cert.PreSampleRefIdeal.τ).loc Cert.PreSampleRefIdeal.main_arg1)) (m ((c.tc : Thread Cert.PreSampleRefIdeal.nD Cert.PreSampleRefIdeal.τ).loc Cert.PreSampleRefIdeal.main_arg2)) (m ((c.tc : Thread Cert.PreSampleRefIdeal.nD Cert.PreSampleRefIdeal.τ).loc Cert.PreSampleRefIdeal.main_arg3)) (m ((c.tc : Thread Cert.PreSampleRefIdeal.nD Cert.PreSampleRefIdeal.τ).loc Cert.PreSampleRefIdeal.main_arg4)) (m ((c.tc : Thread Cert.PreSampleRefIdeal.nD Cert.PreSampleRefIdeal.τ).loc Cert.PreSampleRefIdeal.main_arg5)) (m ((c.tc : Thread Cert.PreSampleRefIdeal.nD Cert.PreSampleRefIdeal.τ).loc Cert.PreSampleRefIdeal.main_arg6))).2.1 = (fun _ => 1#1)
    ∧ (Cert.Pre_finite_step.fn (F := Ideal) (m ((c.tc : Thread Cert.PreSampleRefIdeal.nD Cert.PreSampleRefIdeal.τ).loc Cert.PreSampleRefIdeal.main_arg0)) (m ((c.tc : Thread Cert.PreSampleRefIdeal.nD Cert.PreSampleRefIdeal.τ).loc Cert.PreSampleRefIdeal.main_arg1)) (m ((c.tc : Thread Cert.PreSampleRefIdeal.nD Cert.PreSampleRefIdeal.τ).loc Cert.PreSampleRefIdeal.main_arg2)) (m ((c.tc : Thread Cert.PreSampleRefIdeal.nD Cert.PreSampleRefIdeal.τ).loc Cert.PreSampleRefIdeal.main_arg3)) (m ((c.tc : Thread Cert.PreSampleRefIdeal.nD Cert.PreSampleRefIdeal.τ).loc Cert.PreSampleRefIdeal.main_arg4)) (m ((c.tc : Thread Cert.PreSampleRefIdeal.nD Cert.PreSampleRefIdeal.τ).loc Cert.PreSampleRefIdeal.main_arg5)) (m ((c.tc : Thread Cert.PreSampleRefIdeal.nD Cert.PreSampleRefIdeal.τ).loc Cert.PreSampleRefIdeal.main_arg6))).2.2.1 = (fun _ => 1#1)
    ∧ (Cert.Pre_finite_step.fn (F := Ideal) (m ((c.tc : Thread Cert.PreSampleRefIdeal.nD Cert.PreSampleRefIdeal.τ).loc Cert.PreSampleRefIdeal.main_arg0)) (m ((c.tc : Thread Cert.PreSampleRefIdeal.nD Cert.PreSampleRefIdeal.τ).loc Cert.PreSampleRefIdeal.main_arg1)) (m ((c.tc : Thread Cert.PreSampleRefIdeal.nD Cert.PreSampleRefIdeal.τ).loc Cert.PreSampleRefIdeal.main_arg2)) (m ((c.tc : Thread Cert.PreSampleRefIdeal.nD Cert.PreSampleRefIdeal.τ).loc Cert.PreSampleRefIdeal.main_arg3)) (m ((c.tc : Thread Cert.PreSampleRefIdeal.nD Cert.PreSampleRefIdeal.τ).loc Cert.PreSampleRefIdeal.main_arg4)) (m ((c.tc : Thread Cert.PreSampleRefIdeal.nD Cert.PreSampleRefIdeal.τ).loc Cert.PreSampleRefIdeal.main_arg5)) (m ((c.tc : Thread Cert.PreSampleRefIdeal.nD Cert.PreSampleRefIdeal.τ).loc Cert.PreSampleRefIdeal.main_arg6))).2.2.2.1 = (fun _ => 1#1)
    ∧ (Cert.Pre_finite_step.fn (F := Ideal) (m ((c.tc : Thread Cert.PreSampleRefIdeal.nD Cert.PreSampleRefIdeal.τ).loc Cert.PreSampleRefIdeal.main_arg0)) (m ((c.tc : Thread Cert.PreSampleRefIdeal.nD Cert.PreSampleRefIdeal.τ).loc Cert.PreSampleRefIdeal.main_arg1)) (m ((c.tc : Thread Cert.PreSampleRefIdeal.nD Cert.PreSampleRefIdeal.τ).loc Cert.PreSampleRefIdeal.main_arg2)) (m ((c.tc : Thread Cert.PreSampleRefIdeal.nD Cert.PreSampleRefIdeal.τ).loc Cert.PreSampleRefIdeal.main_arg3)) (m ((c.tc : Thread Cert.PreSampleRefIdeal.nD Cert.PreSampleRefIdeal.τ).loc Cert.PreSampleRefIdeal.main_arg4)) (m ((c.tc : Thread Cert.PreSampleRefIdeal.nD Cert.PreSampleRefIdeal.τ).loc Cert.PreSampleRefIdeal.main_arg5)) (m ((c.tc : Thread Cert.PreSampleRefIdeal.nD Cert.PreSampleRefIdeal.τ).loc Cert.PreSampleRefIdeal.main_arg6))).2.2.2.2 = (fun _ => 1#1)

def Pre_PostSample (m : (ℓ : Loc Cert.PostSample.nD Cert.PostSample.τ Cert.PostSample.sig) → Buf (Elt Bits) ℓ) : Prop :=
  True

def Pre_PostSampleIdeal (m : (ℓ : Loc Cert.PostSampleIdeal.nD Cert.PostSampleIdeal.τ Cert.PostSampleIdeal.sig) → Buf (Elt Ideal) ℓ) : Prop :=
  True

def Pre_PostSampleRefIdeal (m : (ℓ : Loc Cert.PostSampleRefIdeal.nD Cert.PostSampleRefIdeal.τ Cert.PostSampleRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_PromptAttention (m : (ℓ : Loc Cert.PromptAttention.nD Cert.PromptAttention.τ Cert.PromptAttention.sig) → Buf (Elt Bits) ℓ) : Prop :=
  True

def Pre_PromptAttentionIdeal (m : (ℓ : Loc Cert.PromptAttentionIdeal.nD Cert.PromptAttentionIdeal.τ Cert.PromptAttentionIdeal.sig) → Buf (Elt Ideal) ℓ) : Prop :=
  True

def quiescent_PrePrompt [hPrePrompt : Cert.PrePrompt.Facts] : Prop :=
  ∀ (m : (ℓ : Loc Cert.PrePrompt.nD Cert.PrePrompt.τ Cert.PrePrompt.sig) → Buf (Elt Bits) ℓ) (g : Dev Cert.PrePrompt.nD → PrngReg), Pre_PrePrompt m →
    θ_run (Cert.PrePrompt.defs (F := Bits)) (onTc (τ := Cert.PrePrompt.τ) (Cert.PrePrompt.main (F := Bits))) ⟨m, fun _ => 0, g⟩ (fun r => (∀ c : Dev Cert.PrePrompt.nD,
      r.2.mem ((c.tc : Thread Cert.PrePrompt.nD Cert.PrePrompt.τ).loc Cert.PrePrompt.main_arg0) = m ((c.tc : Thread Cert.PrePrompt.nD Cert.PrePrompt.τ).loc Cert.PrePrompt.main_arg0)
      ∧ r.2.mem ((c.tc : Thread Cert.PrePrompt.nD Cert.PrePrompt.τ).loc Cert.PrePrompt.main_arg1) = m ((c.tc : Thread Cert.PrePrompt.nD Cert.PrePrompt.τ).loc Cert.PrePrompt.main_arg1)
      ∧ r.2.mem ((c.tc : Thread Cert.PrePrompt.nD Cert.PrePrompt.τ).loc Cert.PrePrompt.main_arg2) = m ((c.tc : Thread Cert.PrePrompt.nD Cert.PrePrompt.τ).loc Cert.PrePrompt.main_arg2)
      ∧ r.2.mem ((c.tc : Thread Cert.PrePrompt.nD Cert.PrePrompt.τ).loc Cert.PrePrompt.main_arg3) = m ((c.tc : Thread Cert.PrePrompt.nD Cert.PrePrompt.τ).loc Cert.PrePrompt.main_arg3)
      ∧ r.2.mem ((c.tc : Thread Cert.PrePrompt.nD Cert.PrePrompt.τ).loc Cert.PrePrompt.main_arg4) = m ((c.tc : Thread Cert.PrePrompt.nD Cert.PrePrompt.τ).loc Cert.PrePrompt.main_arg4)
      ∧ r.2.mem ((c.tc : Thread Cert.PrePrompt.nD Cert.PrePrompt.τ).loc Cert.PrePrompt.main_arg5) = m ((c.tc : Thread Cert.PrePrompt.nD Cert.PrePrompt.τ).loc Cert.PrePrompt.main_arg5))
      ∧ r.2.sem = fun _ => 0)

def quiescent_PrePromptIdeal [hPrePromptIdeal : Cert.PrePromptIdeal.Facts] : Prop :=
  ∀ (m : (ℓ : Loc Cert.PrePromptIdeal.nD Cert.PrePromptIdeal.τ Cert.PrePromptIdeal.sig) → Buf (Elt Ideal) ℓ) (g : Dev Cert.PrePromptIdeal.nD → PrngReg), Pre_PrePromptIdeal m →
    θ_run (Cert.PrePromptIdeal.defs (F := Ideal)) (onTc (τ := Cert.PrePromptIdeal.τ) (Cert.PrePromptIdeal.main (F := Ideal))) ⟨m, fun _ => 0, g⟩ (fun r => (∀ c : Dev Cert.PrePromptIdeal.nD,
      r.2.mem ((c.tc : Thread Cert.PrePromptIdeal.nD Cert.PrePromptIdeal.τ).loc Cert.PrePromptIdeal.main_arg0) = m ((c.tc : Thread Cert.PrePromptIdeal.nD Cert.PrePromptIdeal.τ).loc Cert.PrePromptIdeal.main_arg0)
      ∧ r.2.mem ((c.tc : Thread Cert.PrePromptIdeal.nD Cert.PrePromptIdeal.τ).loc Cert.PrePromptIdeal.main_arg1) = m ((c.tc : Thread Cert.PrePromptIdeal.nD Cert.PrePromptIdeal.τ).loc Cert.PrePromptIdeal.main_arg1)
      ∧ r.2.mem ((c.tc : Thread Cert.PrePromptIdeal.nD Cert.PrePromptIdeal.τ).loc Cert.PrePromptIdeal.main_arg2) = m ((c.tc : Thread Cert.PrePromptIdeal.nD Cert.PrePromptIdeal.τ).loc Cert.PrePromptIdeal.main_arg2)
      ∧ r.2.mem ((c.tc : Thread Cert.PrePromptIdeal.nD Cert.PrePromptIdeal.τ).loc Cert.PrePromptIdeal.main_arg3) = m ((c.tc : Thread Cert.PrePromptIdeal.nD Cert.PrePromptIdeal.τ).loc Cert.PrePromptIdeal.main_arg3)
      ∧ r.2.mem ((c.tc : Thread Cert.PrePromptIdeal.nD Cert.PrePromptIdeal.τ).loc Cert.PrePromptIdeal.main_arg4) = m ((c.tc : Thread Cert.PrePromptIdeal.nD Cert.PrePromptIdeal.τ).loc Cert.PrePromptIdeal.main_arg4)
      ∧ r.2.mem ((c.tc : Thread Cert.PrePromptIdeal.nD Cert.PrePromptIdeal.τ).loc Cert.PrePromptIdeal.main_arg5) = m ((c.tc : Thread Cert.PrePromptIdeal.nD Cert.PrePromptIdeal.τ).loc Cert.PrePromptIdeal.main_arg5))
      ∧ r.2.sem = fun _ => 0)

def quiescent_PrePromptIdeal_pre_finite_args [hPrePromptIdeal : Cert.PrePromptIdeal.Facts] [hPre_finite_args : Cert.Pre_finite_args.Facts] : Prop :=
  ∀ (m : (ℓ : Loc Cert.PrePromptIdeal.nD Cert.PrePromptIdeal.τ Cert.PrePromptIdeal.sig) → Buf (Elt Ideal) ℓ) (g : Dev Cert.PrePromptIdeal.nD → PrngReg), Pre_PrePromptIdeal_finite_args m →
    θ_run (Cert.PrePromptIdeal.defs (F := Ideal)) (onTc (τ := Cert.PrePromptIdeal.τ) (Cert.PrePromptIdeal.main (F := Ideal))) ⟨m, fun _ => 0, g⟩ (fun r => (∀ c : Dev Cert.PrePromptIdeal.nD,
      r.2.mem ((c.tc : Thread Cert.PrePromptIdeal.nD Cert.PrePromptIdeal.τ).loc Cert.PrePromptIdeal.main_arg0) = m ((c.tc : Thread Cert.PrePromptIdeal.nD Cert.PrePromptIdeal.τ).loc Cert.PrePromptIdeal.main_arg0)
      ∧ r.2.mem ((c.tc : Thread Cert.PrePromptIdeal.nD Cert.PrePromptIdeal.τ).loc Cert.PrePromptIdeal.main_arg1) = m ((c.tc : Thread Cert.PrePromptIdeal.nD Cert.PrePromptIdeal.τ).loc Cert.PrePromptIdeal.main_arg1)
      ∧ r.2.mem ((c.tc : Thread Cert.PrePromptIdeal.nD Cert.PrePromptIdeal.τ).loc Cert.PrePromptIdeal.main_arg2) = m ((c.tc : Thread Cert.PrePromptIdeal.nD Cert.PrePromptIdeal.τ).loc Cert.PrePromptIdeal.main_arg2)
      ∧ r.2.mem ((c.tc : Thread Cert.PrePromptIdeal.nD Cert.PrePromptIdeal.τ).loc Cert.PrePromptIdeal.main_arg3) = m ((c.tc : Thread Cert.PrePromptIdeal.nD Cert.PrePromptIdeal.τ).loc Cert.PrePromptIdeal.main_arg3)
      ∧ r.2.mem ((c.tc : Thread Cert.PrePromptIdeal.nD Cert.PrePromptIdeal.τ).loc Cert.PrePromptIdeal.main_arg4) = m ((c.tc : Thread Cert.PrePromptIdeal.nD Cert.PrePromptIdeal.τ).loc Cert.PrePromptIdeal.main_arg4)
      ∧ r.2.mem ((c.tc : Thread Cert.PrePromptIdeal.nD Cert.PrePromptIdeal.τ).loc Cert.PrePromptIdeal.main_arg5) = m ((c.tc : Thread Cert.PrePromptIdeal.nD Cert.PrePromptIdeal.τ).loc Cert.PrePromptIdeal.main_arg5))
      ∧ r.2.sem = fun _ => 0)

def quiescent_PrePromptRefIdeal [hPrePromptRefIdeal : Cert.PrePromptRefIdeal.Facts] : Prop :=
  ∀ (m : (ℓ : Loc Cert.PrePromptRefIdeal.nD Cert.PrePromptRefIdeal.τ Cert.PrePromptRefIdeal.sig) → Buf (Elt Ideal) ℓ) (g : Dev Cert.PrePromptRefIdeal.nD → PrngReg), Pre_PrePromptRefIdeal m →
    θ_run (Cert.PrePromptRefIdeal.defs (F := Ideal)) (onTc (τ := Cert.PrePromptRefIdeal.τ) (Cert.PrePromptRefIdeal.main (F := Ideal))) ⟨m, fun _ => 0, g⟩ (fun r => (∀ c : Dev Cert.PrePromptRefIdeal.nD,
      r.2.mem ((c.tc : Thread Cert.PrePromptRefIdeal.nD Cert.PrePromptRefIdeal.τ).loc Cert.PrePromptRefIdeal.main_arg0) = m ((c.tc : Thread Cert.PrePromptRefIdeal.nD Cert.PrePromptRefIdeal.τ).loc Cert.PrePromptRefIdeal.main_arg0)
      ∧ r.2.mem ((c.tc : Thread Cert.PrePromptRefIdeal.nD Cert.PrePromptRefIdeal.τ).loc Cert.PrePromptRefIdeal.main_arg1) = m ((c.tc : Thread Cert.PrePromptRefIdeal.nD Cert.PrePromptRefIdeal.τ).loc Cert.PrePromptRefIdeal.main_arg1)
      ∧ r.2.mem ((c.tc : Thread Cert.PrePromptRefIdeal.nD Cert.PrePromptRefIdeal.τ).loc Cert.PrePromptRefIdeal.main_arg2) = m ((c.tc : Thread Cert.PrePromptRefIdeal.nD Cert.PrePromptRefIdeal.τ).loc Cert.PrePromptRefIdeal.main_arg2)
      ∧ r.2.mem ((c.tc : Thread Cert.PrePromptRefIdeal.nD Cert.PrePromptRefIdeal.τ).loc Cert.PrePromptRefIdeal.main_arg3) = m ((c.tc : Thread Cert.PrePromptRefIdeal.nD Cert.PrePromptRefIdeal.τ).loc Cert.PrePromptRefIdeal.main_arg3)
      ∧ r.2.mem ((c.tc : Thread Cert.PrePromptRefIdeal.nD Cert.PrePromptRefIdeal.τ).loc Cert.PrePromptRefIdeal.main_arg4) = m ((c.tc : Thread Cert.PrePromptRefIdeal.nD Cert.PrePromptRefIdeal.τ).loc Cert.PrePromptRefIdeal.main_arg4)
      ∧ r.2.mem ((c.tc : Thread Cert.PrePromptRefIdeal.nD Cert.PrePromptRefIdeal.τ).loc Cert.PrePromptRefIdeal.main_arg5) = m ((c.tc : Thread Cert.PrePromptRefIdeal.nD Cert.PrePromptRefIdeal.τ).loc Cert.PrePromptRefIdeal.main_arg5))
      ∧ r.2.sem = fun _ => 0)

def quiescent_PrePromptRefIdeal_pre_finite_args [hPrePromptRefIdeal : Cert.PrePromptRefIdeal.Facts] [hPre_finite_args : Cert.Pre_finite_args.Facts] : Prop :=
  ∀ (m : (ℓ : Loc Cert.PrePromptRefIdeal.nD Cert.PrePromptRefIdeal.τ Cert.PrePromptRefIdeal.sig) → Buf (Elt Ideal) ℓ) (g : Dev Cert.PrePromptRefIdeal.nD → PrngReg), Pre_PrePromptRefIdeal_finite_args m →
    θ_run (Cert.PrePromptRefIdeal.defs (F := Ideal)) (onTc (τ := Cert.PrePromptRefIdeal.τ) (Cert.PrePromptRefIdeal.main (F := Ideal))) ⟨m, fun _ => 0, g⟩ (fun r => (∀ c : Dev Cert.PrePromptRefIdeal.nD,
      r.2.mem ((c.tc : Thread Cert.PrePromptRefIdeal.nD Cert.PrePromptRefIdeal.τ).loc Cert.PrePromptRefIdeal.main_arg0) = m ((c.tc : Thread Cert.PrePromptRefIdeal.nD Cert.PrePromptRefIdeal.τ).loc Cert.PrePromptRefIdeal.main_arg0)
      ∧ r.2.mem ((c.tc : Thread Cert.PrePromptRefIdeal.nD Cert.PrePromptRefIdeal.τ).loc Cert.PrePromptRefIdeal.main_arg1) = m ((c.tc : Thread Cert.PrePromptRefIdeal.nD Cert.PrePromptRefIdeal.τ).loc Cert.PrePromptRefIdeal.main_arg1)
      ∧ r.2.mem ((c.tc : Thread Cert.PrePromptRefIdeal.nD Cert.PrePromptRefIdeal.τ).loc Cert.PrePromptRefIdeal.main_arg2) = m ((c.tc : Thread Cert.PrePromptRefIdeal.nD Cert.PrePromptRefIdeal.τ).loc Cert.PrePromptRefIdeal.main_arg2)
      ∧ r.2.mem ((c.tc : Thread Cert.PrePromptRefIdeal.nD Cert.PrePromptRefIdeal.τ).loc Cert.PrePromptRefIdeal.main_arg3) = m ((c.tc : Thread Cert.PrePromptRefIdeal.nD Cert.PrePromptRefIdeal.τ).loc Cert.PrePromptRefIdeal.main_arg3)
      ∧ r.2.mem ((c.tc : Thread Cert.PrePromptRefIdeal.nD Cert.PrePromptRefIdeal.τ).loc Cert.PrePromptRefIdeal.main_arg4) = m ((c.tc : Thread Cert.PrePromptRefIdeal.nD Cert.PrePromptRefIdeal.τ).loc Cert.PrePromptRefIdeal.main_arg4)
      ∧ r.2.mem ((c.tc : Thread Cert.PrePromptRefIdeal.nD Cert.PrePromptRefIdeal.τ).loc Cert.PrePromptRefIdeal.main_arg5) = m ((c.tc : Thread Cert.PrePromptRefIdeal.nD Cert.PrePromptRefIdeal.τ).loc Cert.PrePromptRefIdeal.main_arg5))
      ∧ r.2.sem = fun _ => 0)

def quiescent_PostPrompt [hPostPrompt : Cert.PostPrompt.Facts] : Prop :=
  ∀ (m : (ℓ : Loc Cert.PostPrompt.nD Cert.PostPrompt.τ Cert.PostPrompt.sig) → Buf (Elt Bits) ℓ) (g : Dev Cert.PostPrompt.nD → PrngReg), Pre_PostPrompt m →
    θ_run (Cert.PostPrompt.defs (F := Bits)) (onTc (τ := Cert.PostPrompt.τ) (Cert.PostPrompt.main (F := Bits))) ⟨m, fun _ => 0, g⟩ (fun r => (∀ c : Dev Cert.PostPrompt.nD,
      r.2.mem ((c.tc : Thread Cert.PostPrompt.nD Cert.PostPrompt.τ).loc Cert.PostPrompt.main_arg0) = m ((c.tc : Thread Cert.PostPrompt.nD Cert.PostPrompt.τ).loc Cert.PostPrompt.main_arg0)
      ∧ r.2.mem ((c.tc : Thread Cert.PostPrompt.nD Cert.PostPrompt.τ).loc Cert.PostPrompt.main_arg1) = m ((c.tc : Thread Cert.PostPrompt.nD Cert.PostPrompt.τ).loc Cert.PostPrompt.main_arg1)
      ∧ r.2.mem ((c.tc : Thread Cert.PostPrompt.nD Cert.PostPrompt.τ).loc Cert.PostPrompt.main_arg2) = m ((c.tc : Thread Cert.PostPrompt.nD Cert.PostPrompt.τ).loc Cert.PostPrompt.main_arg2)
      ∧ r.2.mem ((c.tc : Thread Cert.PostPrompt.nD Cert.PostPrompt.τ).loc Cert.PostPrompt.main_arg3) = m ((c.tc : Thread Cert.PostPrompt.nD Cert.PostPrompt.τ).loc Cert.PostPrompt.main_arg3)
      ∧ r.2.mem ((c.tc : Thread Cert.PostPrompt.nD Cert.PostPrompt.τ).loc Cert.PostPrompt.main_arg4) = m ((c.tc : Thread Cert.PostPrompt.nD Cert.PostPrompt.τ).loc Cert.PostPrompt.main_arg4)
      ∧ r.2.mem ((c.tc : Thread Cert.PostPrompt.nD Cert.PostPrompt.τ).loc Cert.PostPrompt.main_arg5) = m ((c.tc : Thread Cert.PostPrompt.nD Cert.PostPrompt.τ).loc Cert.PostPrompt.main_arg5)
      ∧ r.2.mem ((c.tc : Thread Cert.PostPrompt.nD Cert.PostPrompt.τ).loc Cert.PostPrompt.main_arg6) = m ((c.tc : Thread Cert.PostPrompt.nD Cert.PostPrompt.τ).loc Cert.PostPrompt.main_arg6)
      ∧ r.2.mem ((c.tc : Thread Cert.PostPrompt.nD Cert.PostPrompt.τ).loc Cert.PostPrompt.main_arg7) = m ((c.tc : Thread Cert.PostPrompt.nD Cert.PostPrompt.τ).loc Cert.PostPrompt.main_arg7)
      ∧ r.2.mem ((c.tc : Thread Cert.PostPrompt.nD Cert.PostPrompt.τ).loc Cert.PostPrompt.main_arg8) = m ((c.tc : Thread Cert.PostPrompt.nD Cert.PostPrompt.τ).loc Cert.PostPrompt.main_arg8)
      ∧ r.2.mem ((c.tc : Thread Cert.PostPrompt.nD Cert.PostPrompt.τ).loc Cert.PostPrompt.main_arg9) = m ((c.tc : Thread Cert.PostPrompt.nD Cert.PostPrompt.τ).loc Cert.PostPrompt.main_arg9)
      ∧ r.2.mem ((c.tc : Thread Cert.PostPrompt.nD Cert.PostPrompt.τ).loc Cert.PostPrompt.main_arg10) = m ((c.tc : Thread Cert.PostPrompt.nD Cert.PostPrompt.τ).loc Cert.PostPrompt.main_arg10)
      ∧ r.2.mem ((c.tc : Thread Cert.PostPrompt.nD Cert.PostPrompt.τ).loc Cert.PostPrompt.main_arg11) = m ((c.tc : Thread Cert.PostPrompt.nD Cert.PostPrompt.τ).loc Cert.PostPrompt.main_arg11))
      ∧ r.2.sem = fun _ => 0)

def quiescent_PostPromptIdeal [hPostPromptIdeal : Cert.PostPromptIdeal.Facts] : Prop :=
  ∀ (m : (ℓ : Loc Cert.PostPromptIdeal.nD Cert.PostPromptIdeal.τ Cert.PostPromptIdeal.sig) → Buf (Elt Ideal) ℓ) (g : Dev Cert.PostPromptIdeal.nD → PrngReg), Pre_PostPromptIdeal m →
    θ_run (Cert.PostPromptIdeal.defs (F := Ideal)) (onTc (τ := Cert.PostPromptIdeal.τ) (Cert.PostPromptIdeal.main (F := Ideal))) ⟨m, fun _ => 0, g⟩ (fun r => (∀ c : Dev Cert.PostPromptIdeal.nD,
      r.2.mem ((c.tc : Thread Cert.PostPromptIdeal.nD Cert.PostPromptIdeal.τ).loc Cert.PostPromptIdeal.main_arg0) = m ((c.tc : Thread Cert.PostPromptIdeal.nD Cert.PostPromptIdeal.τ).loc Cert.PostPromptIdeal.main_arg0)
      ∧ r.2.mem ((c.tc : Thread Cert.PostPromptIdeal.nD Cert.PostPromptIdeal.τ).loc Cert.PostPromptIdeal.main_arg1) = m ((c.tc : Thread Cert.PostPromptIdeal.nD Cert.PostPromptIdeal.τ).loc Cert.PostPromptIdeal.main_arg1)
      ∧ r.2.mem ((c.tc : Thread Cert.PostPromptIdeal.nD Cert.PostPromptIdeal.τ).loc Cert.PostPromptIdeal.main_arg2) = m ((c.tc : Thread Cert.PostPromptIdeal.nD Cert.PostPromptIdeal.τ).loc Cert.PostPromptIdeal.main_arg2)
      ∧ r.2.mem ((c.tc : Thread Cert.PostPromptIdeal.nD Cert.PostPromptIdeal.τ).loc Cert.PostPromptIdeal.main_arg3) = m ((c.tc : Thread Cert.PostPromptIdeal.nD Cert.PostPromptIdeal.τ).loc Cert.PostPromptIdeal.main_arg3)
      ∧ r.2.mem ((c.tc : Thread Cert.PostPromptIdeal.nD Cert.PostPromptIdeal.τ).loc Cert.PostPromptIdeal.main_arg4) = m ((c.tc : Thread Cert.PostPromptIdeal.nD Cert.PostPromptIdeal.τ).loc Cert.PostPromptIdeal.main_arg4)
      ∧ r.2.mem ((c.tc : Thread Cert.PostPromptIdeal.nD Cert.PostPromptIdeal.τ).loc Cert.PostPromptIdeal.main_arg5) = m ((c.tc : Thread Cert.PostPromptIdeal.nD Cert.PostPromptIdeal.τ).loc Cert.PostPromptIdeal.main_arg5)
      ∧ r.2.mem ((c.tc : Thread Cert.PostPromptIdeal.nD Cert.PostPromptIdeal.τ).loc Cert.PostPromptIdeal.main_arg6) = m ((c.tc : Thread Cert.PostPromptIdeal.nD Cert.PostPromptIdeal.τ).loc Cert.PostPromptIdeal.main_arg6)
      ∧ r.2.mem ((c.tc : Thread Cert.PostPromptIdeal.nD Cert.PostPromptIdeal.τ).loc Cert.PostPromptIdeal.main_arg7) = m ((c.tc : Thread Cert.PostPromptIdeal.nD Cert.PostPromptIdeal.τ).loc Cert.PostPromptIdeal.main_arg7)
      ∧ r.2.mem ((c.tc : Thread Cert.PostPromptIdeal.nD Cert.PostPromptIdeal.τ).loc Cert.PostPromptIdeal.main_arg8) = m ((c.tc : Thread Cert.PostPromptIdeal.nD Cert.PostPromptIdeal.τ).loc Cert.PostPromptIdeal.main_arg8)
      ∧ r.2.mem ((c.tc : Thread Cert.PostPromptIdeal.nD Cert.PostPromptIdeal.τ).loc Cert.PostPromptIdeal.main_arg9) = m ((c.tc : Thread Cert.PostPromptIdeal.nD Cert.PostPromptIdeal.τ).loc Cert.PostPromptIdeal.main_arg9)
      ∧ r.2.mem ((c.tc : Thread Cert.PostPromptIdeal.nD Cert.PostPromptIdeal.τ).loc Cert.PostPromptIdeal.main_arg10) = m ((c.tc : Thread Cert.PostPromptIdeal.nD Cert.PostPromptIdeal.τ).loc Cert.PostPromptIdeal.main_arg10)
      ∧ r.2.mem ((c.tc : Thread Cert.PostPromptIdeal.nD Cert.PostPromptIdeal.τ).loc Cert.PostPromptIdeal.main_arg11) = m ((c.tc : Thread Cert.PostPromptIdeal.nD Cert.PostPromptIdeal.τ).loc Cert.PostPromptIdeal.main_arg11))
      ∧ r.2.sem = fun _ => 0)

def quiescent_PostPromptRefIdeal [hPostPromptRefIdeal : Cert.PostPromptRefIdeal.Facts] : Prop :=
  ∀ (m : (ℓ : Loc Cert.PostPromptRefIdeal.nD Cert.PostPromptRefIdeal.τ Cert.PostPromptRefIdeal.sig) → Buf (Elt Ideal) ℓ) (g : Dev Cert.PostPromptRefIdeal.nD → PrngReg), Pre_PostPromptRefIdeal m →
    θ_run (Cert.PostPromptRefIdeal.defs (F := Ideal)) (onTc (τ := Cert.PostPromptRefIdeal.τ) (Cert.PostPromptRefIdeal.main (F := Ideal))) ⟨m, fun _ => 0, g⟩ (fun r => (∀ c : Dev Cert.PostPromptRefIdeal.nD,
      r.2.mem ((c.tc : Thread Cert.PostPromptRefIdeal.nD Cert.PostPromptRefIdeal.τ).loc Cert.PostPromptRefIdeal.main_arg0) = m ((c.tc : Thread Cert.PostPromptRefIdeal.nD Cert.PostPromptRefIdeal.τ).loc Cert.PostPromptRefIdeal.main_arg0)
      ∧ r.2.mem ((c.tc : Thread Cert.PostPromptRefIdeal.nD Cert.PostPromptRefIdeal.τ).loc Cert.PostPromptRefIdeal.main_arg1) = m ((c.tc : Thread Cert.PostPromptRefIdeal.nD Cert.PostPromptRefIdeal.τ).loc Cert.PostPromptRefIdeal.main_arg1)
      ∧ r.2.mem ((c.tc : Thread Cert.PostPromptRefIdeal.nD Cert.PostPromptRefIdeal.τ).loc Cert.PostPromptRefIdeal.main_arg2) = m ((c.tc : Thread Cert.PostPromptRefIdeal.nD Cert.PostPromptRefIdeal.τ).loc Cert.PostPromptRefIdeal.main_arg2)
      ∧ r.2.mem ((c.tc : Thread Cert.PostPromptRefIdeal.nD Cert.PostPromptRefIdeal.τ).loc Cert.PostPromptRefIdeal.main_arg3) = m ((c.tc : Thread Cert.PostPromptRefIdeal.nD Cert.PostPromptRefIdeal.τ).loc Cert.PostPromptRefIdeal.main_arg3)
      ∧ r.2.mem ((c.tc : Thread Cert.PostPromptRefIdeal.nD Cert.PostPromptRefIdeal.τ).loc Cert.PostPromptRefIdeal.main_arg4) = m ((c.tc : Thread Cert.PostPromptRefIdeal.nD Cert.PostPromptRefIdeal.τ).loc Cert.PostPromptRefIdeal.main_arg4)
      ∧ r.2.mem ((c.tc : Thread Cert.PostPromptRefIdeal.nD Cert.PostPromptRefIdeal.τ).loc Cert.PostPromptRefIdeal.main_arg5) = m ((c.tc : Thread Cert.PostPromptRefIdeal.nD Cert.PostPromptRefIdeal.τ).loc Cert.PostPromptRefIdeal.main_arg5)
      ∧ r.2.mem ((c.tc : Thread Cert.PostPromptRefIdeal.nD Cert.PostPromptRefIdeal.τ).loc Cert.PostPromptRefIdeal.main_arg6) = m ((c.tc : Thread Cert.PostPromptRefIdeal.nD Cert.PostPromptRefIdeal.τ).loc Cert.PostPromptRefIdeal.main_arg6)
      ∧ r.2.mem ((c.tc : Thread Cert.PostPromptRefIdeal.nD Cert.PostPromptRefIdeal.τ).loc Cert.PostPromptRefIdeal.main_arg7) = m ((c.tc : Thread Cert.PostPromptRefIdeal.nD Cert.PostPromptRefIdeal.τ).loc Cert.PostPromptRefIdeal.main_arg7)
      ∧ r.2.mem ((c.tc : Thread Cert.PostPromptRefIdeal.nD Cert.PostPromptRefIdeal.τ).loc Cert.PostPromptRefIdeal.main_arg8) = m ((c.tc : Thread Cert.PostPromptRefIdeal.nD Cert.PostPromptRefIdeal.τ).loc Cert.PostPromptRefIdeal.main_arg8)
      ∧ r.2.mem ((c.tc : Thread Cert.PostPromptRefIdeal.nD Cert.PostPromptRefIdeal.τ).loc Cert.PostPromptRefIdeal.main_arg9) = m ((c.tc : Thread Cert.PostPromptRefIdeal.nD Cert.PostPromptRefIdeal.τ).loc Cert.PostPromptRefIdeal.main_arg9)
      ∧ r.2.mem ((c.tc : Thread Cert.PostPromptRefIdeal.nD Cert.PostPromptRefIdeal.τ).loc Cert.PostPromptRefIdeal.main_arg10) = m ((c.tc : Thread Cert.PostPromptRefIdeal.nD Cert.PostPromptRefIdeal.τ).loc Cert.PostPromptRefIdeal.main_arg10)
      ∧ r.2.mem ((c.tc : Thread Cert.PostPromptRefIdeal.nD Cert.PostPromptRefIdeal.τ).loc Cert.PostPromptRefIdeal.main_arg11) = m ((c.tc : Thread Cert.PostPromptRefIdeal.nD Cert.PostPromptRefIdeal.τ).loc Cert.PostPromptRefIdeal.main_arg11))
      ∧ r.2.sem = fun _ => 0)

def quiescent_PreSample [hPreSample : Cert.PreSample.Facts] : Prop :=
  ∀ (m : (ℓ : Loc Cert.PreSample.nD Cert.PreSample.τ Cert.PreSample.sig) → Buf (Elt Bits) ℓ) (g : Dev Cert.PreSample.nD → PrngReg), Pre_PreSample m →
    θ_run (Cert.PreSample.defs (F := Bits)) (onTc (τ := Cert.PreSample.τ) (Cert.PreSample.main (F := Bits))) ⟨m, fun _ => 0, g⟩ (fun r => (∀ c : Dev Cert.PreSample.nD,
      r.2.mem ((c.tc : Thread Cert.PreSample.nD Cert.PreSample.τ).loc Cert.PreSample.main_arg0) = m ((c.tc : Thread Cert.PreSample.nD Cert.PreSample.τ).loc Cert.PreSample.main_arg0)
      ∧ r.2.mem ((c.tc : Thread Cert.PreSample.nD Cert.PreSample.τ).loc Cert.PreSample.main_arg1) = m ((c.tc : Thread Cert.PreSample.nD Cert.PreSample.τ).loc Cert.PreSample.main_arg1)
      ∧ r.2.mem ((c.tc : Thread Cert.PreSample.nD Cert.PreSample.τ).loc Cert.PreSample.main_arg2) = m ((c.tc : Thread Cert.PreSample.nD Cert.PreSample.τ).loc Cert.PreSample.main_arg2)
      ∧ r.2.mem ((c.tc : Thread Cert.PreSample.nD Cert.PreSample.τ).loc Cert.PreSample.main_arg3) = m ((c.tc : Thread Cert.PreSample.nD Cert.PreSample.τ).loc Cert.PreSample.main_arg3)
      ∧ r.2.mem ((c.tc : Thread Cert.PreSample.nD Cert.PreSample.τ).loc Cert.PreSample.main_arg4) = m ((c.tc : Thread Cert.PreSample.nD Cert.PreSample.τ).loc Cert.PreSample.main_arg4)
      ∧ r.2.mem ((c.tc : Thread Cert.PreSample.nD Cert.PreSample.τ).loc Cert.PreSample.main_arg5) = m ((c.tc : Thread Cert.PreSample.nD Cert.PreSample.τ).loc Cert.PreSample.main_arg5)
      ∧ r.2.mem ((c.tc : Thread Cert.PreSample.nD Cert.PreSample.τ).loc Cert.PreSample.main_arg6) = m ((c.tc : Thread Cert.PreSample.nD Cert.PreSample.τ).loc Cert.PreSample.main_arg6))
      ∧ r.2.sem = fun _ => 0)

def quiescent_PreSampleIdeal [hPreSampleIdeal : Cert.PreSampleIdeal.Facts] : Prop :=
  ∀ (m : (ℓ : Loc Cert.PreSampleIdeal.nD Cert.PreSampleIdeal.τ Cert.PreSampleIdeal.sig) → Buf (Elt Ideal) ℓ) (g : Dev Cert.PreSampleIdeal.nD → PrngReg), Pre_PreSampleIdeal m →
    θ_run (Cert.PreSampleIdeal.defs (F := Ideal)) (onTc (τ := Cert.PreSampleIdeal.τ) (Cert.PreSampleIdeal.main (F := Ideal))) ⟨m, fun _ => 0, g⟩ (fun r => (∀ c : Dev Cert.PreSampleIdeal.nD,
      r.2.mem ((c.tc : Thread Cert.PreSampleIdeal.nD Cert.PreSampleIdeal.τ).loc Cert.PreSampleIdeal.main_arg0) = m ((c.tc : Thread Cert.PreSampleIdeal.nD Cert.PreSampleIdeal.τ).loc Cert.PreSampleIdeal.main_arg0)
      ∧ r.2.mem ((c.tc : Thread Cert.PreSampleIdeal.nD Cert.PreSampleIdeal.τ).loc Cert.PreSampleIdeal.main_arg1) = m ((c.tc : Thread Cert.PreSampleIdeal.nD Cert.PreSampleIdeal.τ).loc Cert.PreSampleIdeal.main_arg1)
      ∧ r.2.mem ((c.tc : Thread Cert.PreSampleIdeal.nD Cert.PreSampleIdeal.τ).loc Cert.PreSampleIdeal.main_arg2) = m ((c.tc : Thread Cert.PreSampleIdeal.nD Cert.PreSampleIdeal.τ).loc Cert.PreSampleIdeal.main_arg2)
      ∧ r.2.mem ((c.tc : Thread Cert.PreSampleIdeal.nD Cert.PreSampleIdeal.τ).loc Cert.PreSampleIdeal.main_arg3) = m ((c.tc : Thread Cert.PreSampleIdeal.nD Cert.PreSampleIdeal.τ).loc Cert.PreSampleIdeal.main_arg3)
      ∧ r.2.mem ((c.tc : Thread Cert.PreSampleIdeal.nD Cert.PreSampleIdeal.τ).loc Cert.PreSampleIdeal.main_arg4) = m ((c.tc : Thread Cert.PreSampleIdeal.nD Cert.PreSampleIdeal.τ).loc Cert.PreSampleIdeal.main_arg4)
      ∧ r.2.mem ((c.tc : Thread Cert.PreSampleIdeal.nD Cert.PreSampleIdeal.τ).loc Cert.PreSampleIdeal.main_arg5) = m ((c.tc : Thread Cert.PreSampleIdeal.nD Cert.PreSampleIdeal.τ).loc Cert.PreSampleIdeal.main_arg5)
      ∧ r.2.mem ((c.tc : Thread Cert.PreSampleIdeal.nD Cert.PreSampleIdeal.τ).loc Cert.PreSampleIdeal.main_arg6) = m ((c.tc : Thread Cert.PreSampleIdeal.nD Cert.PreSampleIdeal.τ).loc Cert.PreSampleIdeal.main_arg6))
      ∧ r.2.sem = fun _ => 0)

def quiescent_PreSampleIdeal_pre_finite_step [hPreSampleIdeal : Cert.PreSampleIdeal.Facts] [hPre_finite_step : Cert.Pre_finite_step.Facts] : Prop :=
  ∀ (m : (ℓ : Loc Cert.PreSampleIdeal.nD Cert.PreSampleIdeal.τ Cert.PreSampleIdeal.sig) → Buf (Elt Ideal) ℓ) (g : Dev Cert.PreSampleIdeal.nD → PrngReg), Pre_PreSampleIdeal_finite_step m →
    θ_run (Cert.PreSampleIdeal.defs (F := Ideal)) (onTc (τ := Cert.PreSampleIdeal.τ) (Cert.PreSampleIdeal.main (F := Ideal))) ⟨m, fun _ => 0, g⟩ (fun r => (∀ c : Dev Cert.PreSampleIdeal.nD,
      r.2.mem ((c.tc : Thread Cert.PreSampleIdeal.nD Cert.PreSampleIdeal.τ).loc Cert.PreSampleIdeal.main_arg0) = m ((c.tc : Thread Cert.PreSampleIdeal.nD Cert.PreSampleIdeal.τ).loc Cert.PreSampleIdeal.main_arg0)
      ∧ r.2.mem ((c.tc : Thread Cert.PreSampleIdeal.nD Cert.PreSampleIdeal.τ).loc Cert.PreSampleIdeal.main_arg1) = m ((c.tc : Thread Cert.PreSampleIdeal.nD Cert.PreSampleIdeal.τ).loc Cert.PreSampleIdeal.main_arg1)
      ∧ r.2.mem ((c.tc : Thread Cert.PreSampleIdeal.nD Cert.PreSampleIdeal.τ).loc Cert.PreSampleIdeal.main_arg2) = m ((c.tc : Thread Cert.PreSampleIdeal.nD Cert.PreSampleIdeal.τ).loc Cert.PreSampleIdeal.main_arg2)
      ∧ r.2.mem ((c.tc : Thread Cert.PreSampleIdeal.nD Cert.PreSampleIdeal.τ).loc Cert.PreSampleIdeal.main_arg3) = m ((c.tc : Thread Cert.PreSampleIdeal.nD Cert.PreSampleIdeal.τ).loc Cert.PreSampleIdeal.main_arg3)
      ∧ r.2.mem ((c.tc : Thread Cert.PreSampleIdeal.nD Cert.PreSampleIdeal.τ).loc Cert.PreSampleIdeal.main_arg4) = m ((c.tc : Thread Cert.PreSampleIdeal.nD Cert.PreSampleIdeal.τ).loc Cert.PreSampleIdeal.main_arg4)
      ∧ r.2.mem ((c.tc : Thread Cert.PreSampleIdeal.nD Cert.PreSampleIdeal.τ).loc Cert.PreSampleIdeal.main_arg5) = m ((c.tc : Thread Cert.PreSampleIdeal.nD Cert.PreSampleIdeal.τ).loc Cert.PreSampleIdeal.main_arg5)
      ∧ r.2.mem ((c.tc : Thread Cert.PreSampleIdeal.nD Cert.PreSampleIdeal.τ).loc Cert.PreSampleIdeal.main_arg6) = m ((c.tc : Thread Cert.PreSampleIdeal.nD Cert.PreSampleIdeal.τ).loc Cert.PreSampleIdeal.main_arg6))
      ∧ r.2.sem = fun _ => 0)

def quiescent_PreSampleRefIdeal [hPreSampleRefIdeal : Cert.PreSampleRefIdeal.Facts] : Prop :=
  ∀ (m : (ℓ : Loc Cert.PreSampleRefIdeal.nD Cert.PreSampleRefIdeal.τ Cert.PreSampleRefIdeal.sig) → Buf (Elt Ideal) ℓ) (g : Dev Cert.PreSampleRefIdeal.nD → PrngReg), Pre_PreSampleRefIdeal m →
    θ_run (Cert.PreSampleRefIdeal.defs (F := Ideal)) (onTc (τ := Cert.PreSampleRefIdeal.τ) (Cert.PreSampleRefIdeal.main (F := Ideal))) ⟨m, fun _ => 0, g⟩ (fun r => (∀ c : Dev Cert.PreSampleRefIdeal.nD,
      r.2.mem ((c.tc : Thread Cert.PreSampleRefIdeal.nD Cert.PreSampleRefIdeal.τ).loc Cert.PreSampleRefIdeal.main_arg0) = m ((c.tc : Thread Cert.PreSampleRefIdeal.nD Cert.PreSampleRefIdeal.τ).loc Cert.PreSampleRefIdeal.main_arg0)
      ∧ r.2.mem ((c.tc : Thread Cert.PreSampleRefIdeal.nD Cert.PreSampleRefIdeal.τ).loc Cert.PreSampleRefIdeal.main_arg1) = m ((c.tc : Thread Cert.PreSampleRefIdeal.nD Cert.PreSampleRefIdeal.τ).loc Cert.PreSampleRefIdeal.main_arg1)
      ∧ r.2.mem ((c.tc : Thread Cert.PreSampleRefIdeal.nD Cert.PreSampleRefIdeal.τ).loc Cert.PreSampleRefIdeal.main_arg2) = m ((c.tc : Thread Cert.PreSampleRefIdeal.nD Cert.PreSampleRefIdeal.τ).loc Cert.PreSampleRefIdeal.main_arg2)
      ∧ r.2.mem ((c.tc : Thread Cert.PreSampleRefIdeal.nD Cert.PreSampleRefIdeal.τ).loc Cert.PreSampleRefIdeal.main_arg3) = m ((c.tc : Thread Cert.PreSampleRefIdeal.nD Cert.PreSampleRefIdeal.τ).loc Cert.PreSampleRefIdeal.main_arg3)
      ∧ r.2.mem ((c.tc : Thread Cert.PreSampleRefIdeal.nD Cert.PreSampleRefIdeal.τ).loc Cert.PreSampleRefIdeal.main_arg4) = m ((c.tc : Thread Cert.PreSampleRefIdeal.nD Cert.PreSampleRefIdeal.τ).loc Cert.PreSampleRefIdeal.main_arg4)
      ∧ r.2.mem ((c.tc : Thread Cert.PreSampleRefIdeal.nD Cert.PreSampleRefIdeal.τ).loc Cert.PreSampleRefIdeal.main_arg5) = m ((c.tc : Thread Cert.PreSampleRefIdeal.nD Cert.PreSampleRefIdeal.τ).loc Cert.PreSampleRefIdeal.main_arg5)
      ∧ r.2.mem ((c.tc : Thread Cert.PreSampleRefIdeal.nD Cert.PreSampleRefIdeal.τ).loc Cert.PreSampleRefIdeal.main_arg6) = m ((c.tc : Thread Cert.PreSampleRefIdeal.nD Cert.PreSampleRefIdeal.τ).loc Cert.PreSampleRefIdeal.main_arg6))
      ∧ r.2.sem = fun _ => 0)

def quiescent_PreSampleRefIdeal_pre_finite_step [hPreSampleRefIdeal : Cert.PreSampleRefIdeal.Facts] [hPre_finite_step : Cert.Pre_finite_step.Facts] : Prop :=
  ∀ (m : (ℓ : Loc Cert.PreSampleRefIdeal.nD Cert.PreSampleRefIdeal.τ Cert.PreSampleRefIdeal.sig) → Buf (Elt Ideal) ℓ) (g : Dev Cert.PreSampleRefIdeal.nD → PrngReg), Pre_PreSampleRefIdeal_finite_step m →
    θ_run (Cert.PreSampleRefIdeal.defs (F := Ideal)) (onTc (τ := Cert.PreSampleRefIdeal.τ) (Cert.PreSampleRefIdeal.main (F := Ideal))) ⟨m, fun _ => 0, g⟩ (fun r => (∀ c : Dev Cert.PreSampleRefIdeal.nD,
      r.2.mem ((c.tc : Thread Cert.PreSampleRefIdeal.nD Cert.PreSampleRefIdeal.τ).loc Cert.PreSampleRefIdeal.main_arg0) = m ((c.tc : Thread Cert.PreSampleRefIdeal.nD Cert.PreSampleRefIdeal.τ).loc Cert.PreSampleRefIdeal.main_arg0)
      ∧ r.2.mem ((c.tc : Thread Cert.PreSampleRefIdeal.nD Cert.PreSampleRefIdeal.τ).loc Cert.PreSampleRefIdeal.main_arg1) = m ((c.tc : Thread Cert.PreSampleRefIdeal.nD Cert.PreSampleRefIdeal.τ).loc Cert.PreSampleRefIdeal.main_arg1)
      ∧ r.2.mem ((c.tc : Thread Cert.PreSampleRefIdeal.nD Cert.PreSampleRefIdeal.τ).loc Cert.PreSampleRefIdeal.main_arg2) = m ((c.tc : Thread Cert.PreSampleRefIdeal.nD Cert.PreSampleRefIdeal.τ).loc Cert.PreSampleRefIdeal.main_arg2)
      ∧ r.2.mem ((c.tc : Thread Cert.PreSampleRefIdeal.nD Cert.PreSampleRefIdeal.τ).loc Cert.PreSampleRefIdeal.main_arg3) = m ((c.tc : Thread Cert.PreSampleRefIdeal.nD Cert.PreSampleRefIdeal.τ).loc Cert.PreSampleRefIdeal.main_arg3)
      ∧ r.2.mem ((c.tc : Thread Cert.PreSampleRefIdeal.nD Cert.PreSampleRefIdeal.τ).loc Cert.PreSampleRefIdeal.main_arg4) = m ((c.tc : Thread Cert.PreSampleRefIdeal.nD Cert.PreSampleRefIdeal.τ).loc Cert.PreSampleRefIdeal.main_arg4)
      ∧ r.2.mem ((c.tc : Thread Cert.PreSampleRefIdeal.nD Cert.PreSampleRefIdeal.τ).loc Cert.PreSampleRefIdeal.main_arg5) = m ((c.tc : Thread Cert.PreSampleRefIdeal.nD Cert.PreSampleRefIdeal.τ).loc Cert.PreSampleRefIdeal.main_arg5)
      ∧ r.2.mem ((c.tc : Thread Cert.PreSampleRefIdeal.nD Cert.PreSampleRefIdeal.τ).loc Cert.PreSampleRefIdeal.main_arg6) = m ((c.tc : Thread Cert.PreSampleRefIdeal.nD Cert.PreSampleRefIdeal.τ).loc Cert.PreSampleRefIdeal.main_arg6))
      ∧ r.2.sem = fun _ => 0)

def quiescent_PostSample [hPostSample : Cert.PostSample.Facts] : Prop :=
  ∀ (m : (ℓ : Loc Cert.PostSample.nD Cert.PostSample.τ Cert.PostSample.sig) → Buf (Elt Bits) ℓ) (g : Dev Cert.PostSample.nD → PrngReg), Pre_PostSample m →
    θ_run (Cert.PostSample.defs (F := Bits)) (onTc (τ := Cert.PostSample.τ) (Cert.PostSample.main (F := Bits))) ⟨m, fun _ => 0, g⟩ (fun r => (∀ c : Dev Cert.PostSample.nD,
      r.2.mem ((c.tc : Thread Cert.PostSample.nD Cert.PostSample.τ).loc Cert.PostSample.main_arg0) = m ((c.tc : Thread Cert.PostSample.nD Cert.PostSample.τ).loc Cert.PostSample.main_arg0)
      ∧ r.2.mem ((c.tc : Thread Cert.PostSample.nD Cert.PostSample.τ).loc Cert.PostSample.main_arg1) = m ((c.tc : Thread Cert.PostSample.nD Cert.PostSample.τ).loc Cert.PostSample.main_arg1)
      ∧ r.2.mem ((c.tc : Thread Cert.PostSample.nD Cert.PostSample.τ).loc Cert.PostSample.main_arg2) = m ((c.tc : Thread Cert.PostSample.nD Cert.PostSample.τ).loc Cert.PostSample.main_arg2)
      ∧ r.2.mem ((c.tc : Thread Cert.PostSample.nD Cert.PostSample.τ).loc Cert.PostSample.main_arg3) = m ((c.tc : Thread Cert.PostSample.nD Cert.PostSample.τ).loc Cert.PostSample.main_arg3)
      ∧ r.2.mem ((c.tc : Thread Cert.PostSample.nD Cert.PostSample.τ).loc Cert.PostSample.main_arg4) = m ((c.tc : Thread Cert.PostSample.nD Cert.PostSample.τ).loc Cert.PostSample.main_arg4)
      ∧ r.2.mem ((c.tc : Thread Cert.PostSample.nD Cert.PostSample.τ).loc Cert.PostSample.main_arg5) = m ((c.tc : Thread Cert.PostSample.nD Cert.PostSample.τ).loc Cert.PostSample.main_arg5)
      ∧ r.2.mem ((c.tc : Thread Cert.PostSample.nD Cert.PostSample.τ).loc Cert.PostSample.main_arg6) = m ((c.tc : Thread Cert.PostSample.nD Cert.PostSample.τ).loc Cert.PostSample.main_arg6)
      ∧ r.2.mem ((c.tc : Thread Cert.PostSample.nD Cert.PostSample.τ).loc Cert.PostSample.main_arg7) = m ((c.tc : Thread Cert.PostSample.nD Cert.PostSample.τ).loc Cert.PostSample.main_arg7)
      ∧ r.2.mem ((c.tc : Thread Cert.PostSample.nD Cert.PostSample.τ).loc Cert.PostSample.main_arg8) = m ((c.tc : Thread Cert.PostSample.nD Cert.PostSample.τ).loc Cert.PostSample.main_arg8)
      ∧ r.2.mem ((c.tc : Thread Cert.PostSample.nD Cert.PostSample.τ).loc Cert.PostSample.main_arg9) = m ((c.tc : Thread Cert.PostSample.nD Cert.PostSample.τ).loc Cert.PostSample.main_arg9)
      ∧ r.2.mem ((c.tc : Thread Cert.PostSample.nD Cert.PostSample.τ).loc Cert.PostSample.main_arg10) = m ((c.tc : Thread Cert.PostSample.nD Cert.PostSample.τ).loc Cert.PostSample.main_arg10)
      ∧ r.2.mem ((c.tc : Thread Cert.PostSample.nD Cert.PostSample.τ).loc Cert.PostSample.main_arg11) = m ((c.tc : Thread Cert.PostSample.nD Cert.PostSample.τ).loc Cert.PostSample.main_arg11)
      ∧ r.2.mem ((c.tc : Thread Cert.PostSample.nD Cert.PostSample.τ).loc Cert.PostSample.main_arg12) = m ((c.tc : Thread Cert.PostSample.nD Cert.PostSample.τ).loc Cert.PostSample.main_arg12))
      ∧ r.2.sem = fun _ => 0)

def quiescent_PostSampleIdeal [hPostSampleIdeal : Cert.PostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
      ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
      ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
      ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
      ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8)
      ∧ r.2.mem ((c.tc : Thread Cert.PostSampleIdeal.nD Cert.PostSampleIdeal.τ).loc Cert.PostSampleIdeal.main_arg9) = m ((c.tc : Thread Cert.PostSampleIdeal.nD Cert.PostSampleIdeal.τ).loc Cert.PostSampleIdeal.main_arg9)
      ∧ r.2.mem ((c.tc : Thread Cert.PostSampleIdeal.nD Cert.PostSampleIdeal.τ).loc Cert.PostSampleIdeal.main_arg10) = m ((c.tc : Thread Cert.PostSampleIdeal.nD Cert.PostSampleIdeal.τ).loc Cert.PostSampleIdeal.main_arg10)
      ∧ r.2.mem ((c.tc : Thread Cert.PostSampleIdeal.nD Cert.PostSampleIdeal.τ).loc Cert.PostSampleIdeal.main_arg11) = m ((c.tc : Thread Cert.PostSampleIdeal.nD Cert.PostSampleIdeal.τ).loc Cert.PostSampleIdeal.main_arg11)
      ∧ r.2.mem ((c.tc : Thread Cert.PostSampleIdeal.nD Cert.PostSampleIdeal.τ).loc Cert.PostSampleIdeal.main_arg12) = m ((c.tc : Thread Cert.PostSampleIdeal.nD Cert.PostSampleIdeal.τ).loc Cert.PostSampleIdeal.main_arg12))
      ∧ r.2.sem = fun _ => 0)

def quiescent_PostSampleRefIdeal [hPostSampleRefIdeal : Cert.PostSampleRefIdeal.Facts] : Prop :=
  ∀ (m : (ℓ : Loc Cert.PostSampleRefIdeal.nD Cert.PostSampleRefIdeal.τ Cert.PostSampleRefIdeal.sig) → Buf (Elt Ideal) ℓ) (g : Dev Cert.PostSampleRefIdeal.nD → PrngReg), Pre_PostSampleRefIdeal m →
    θ_run (Cert.PostSampleRefIdeal.defs (F := Ideal)) (onTc (τ := Cert.PostSampleRefIdeal.τ) (Cert.PostSampleRefIdeal.main (F := Ideal))) ⟨m, fun _ => 0, g⟩ (fun r => (∀ c : Dev Cert.PostSampleRefIdeal.nD,
      r.2.mem ((c.tc : Thread Cert.PostSampleRefIdeal.nD Cert.PostSampleRefIdeal.τ).loc Cert.PostSampleRefIdeal.main_arg0) = m ((c.tc : Thread Cert.PostSampleRefIdeal.nD Cert.PostSampleRefIdeal.τ).loc Cert.PostSampleRefIdeal.main_arg0)
      ∧ r.2.mem ((c.tc : Thread Cert.PostSampleRefIdeal.nD Cert.PostSampleRefIdeal.τ).loc Cert.PostSampleRefIdeal.main_arg1) = m ((c.tc : Thread Cert.PostSampleRefIdeal.nD Cert.PostSampleRefIdeal.τ).loc Cert.PostSampleRefIdeal.main_arg1)
      ∧ r.2.mem ((c.tc : Thread Cert.PostSampleRefIdeal.nD Cert.PostSampleRefIdeal.τ).loc Cert.PostSampleRefIdeal.main_arg2) = m ((c.tc : Thread Cert.PostSampleRefIdeal.nD Cert.PostSampleRefIdeal.τ).loc Cert.PostSampleRefIdeal.main_arg2)
      ∧ r.2.mem ((c.tc : Thread Cert.PostSampleRefIdeal.nD Cert.PostSampleRefIdeal.τ).loc Cert.PostSampleRefIdeal.main_arg3) = m ((c.tc : Thread Cert.PostSampleRefIdeal.nD Cert.PostSampleRefIdeal.τ).loc Cert.PostSampleRefIdeal.main_arg3)
      ∧ r.2.mem ((c.tc : Thread Cert.PostSampleRefIdeal.nD Cert.PostSampleRefIdeal.τ).loc Cert.PostSampleRefIdeal.main_arg4) = m ((c.tc : Thread Cert.PostSampleRefIdeal.nD Cert.PostSampleRefIdeal.τ).loc Cert.PostSampleRefIdeal.main_arg4)
      ∧ r.2.mem ((c.tc : Thread Cert.PostSampleRefIdeal.nD Cert.PostSampleRefIdeal.τ).loc Cert.PostSampleRefIdeal.main_arg5) = m ((c.tc : Thread Cert.PostSampleRefIdeal.nD Cert.PostSampleRefIdeal.τ).loc Cert.PostSampleRefIdeal.main_arg5)
      ∧ r.2.mem ((c.tc : Thread Cert.PostSampleRefIdeal.nD Cert.PostSampleRefIdeal.τ).loc Cert.PostSampleRefIdeal.main_arg6) = m ((c.tc : Thread Cert.PostSampleRefIdeal.nD Cert.PostSampleRefIdeal.τ).loc Cert.PostSampleRefIdeal.main_arg6)
      ∧ r.2.mem ((c.tc : Thread Cert.PostSampleRefIdeal.nD Cert.PostSampleRefIdeal.τ).loc Cert.PostSampleRefIdeal.main_arg7) = m ((c.tc : Thread Cert.PostSampleRefIdeal.nD Cert.PostSampleRefIdeal.τ).loc Cert.PostSampleRefIdeal.main_arg7)
      ∧ r.2.mem ((c.tc : Thread Cert.PostSampleRefIdeal.nD Cert.PostSampleRefIdeal.τ).loc Cert.PostSampleRefIdeal.main_arg8) = m ((c.tc : Thread Cert.PostSampleRefIdeal.nD Cert.PostSampleRefIdeal.τ).loc Cert.PostSampleRefIdeal.main_arg8)
      ∧ r.2.mem ((c.tc : Thread Cert.PostSampleRefIdeal.nD Cert.PostSampleRefIdeal.τ).loc Cert.PostSampleRefIdeal.main_arg9) = m ((c.tc : Thread Cert.PostSampleRefIdeal.nD Cert.PostSampleRefIdeal.τ).loc Cert.PostSampleRefIdeal.main_arg9)
      ∧ r.2.mem ((c.tc : Thread Cert.PostSampleRefIdeal.nD Cert.PostSampleRefIdeal.τ).loc Cert.PostSampleRefIdeal.main_arg10) = m ((c.tc : Thread Cert.PostSampleRefIdeal.nD Cert.PostSampleRefIdeal.τ).loc Cert.PostSampleRefIdeal.main_arg10)
      ∧ r.2.mem ((c.tc : Thread Cert.PostSampleRefIdeal.nD Cert.PostSampleRefIdeal.τ).loc Cert.PostSampleRefIdeal.main_arg11) = m ((c.tc : Thread Cert.PostSampleRefIdeal.nD Cert.PostSampleRefIdeal.τ).loc Cert.PostSampleRefIdeal.main_arg11)
      ∧ r.2.mem ((c.tc : Thread Cert.PostSampleRefIdeal.nD Cert.PostSampleRefIdeal.τ).loc Cert.PostSampleRefIdeal.main_arg12) = m ((c.tc : Thread Cert.PostSampleRefIdeal.nD Cert.PostSampleRefIdeal.τ).loc Cert.PostSampleRefIdeal.main_arg12))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_PromptAttention [hPromptAttention : Cert.PromptAttention.Facts] : Prop :=
  ∀ (m : (ℓ : Loc Cert.PromptAttention.nD Cert.PromptAttention.τ Cert.PromptAttention.sig) → Buf (Elt Bits) ℓ) (g : Dev Cert.PromptAttention.nD → PrngReg), Pre_PromptAttention m →
    θ_run (Cert.PromptAttention.defs (F := Bits)) (onTc (τ := Cert.PromptAttention.τ) (Cert.PromptAttention.main (F := Bits))) ⟨m, fun _ => 0, g⟩ (fun r => (∀ c : Dev Cert.PromptAttention.nD,
      r.2.mem ((c.tc : Thread Cert.PromptAttention.nD Cert.PromptAttention.τ).loc Cert.PromptAttention.main_arg0) = m ((c.tc : Thread Cert.PromptAttention.nD Cert.PromptAttention.τ).loc Cert.PromptAttention.main_arg0)
      ∧ r.2.mem ((c.tc : Thread Cert.PromptAttention.nD Cert.PromptAttention.τ).loc Cert.PromptAttention.main_arg1) = m ((c.tc : Thread Cert.PromptAttention.nD Cert.PromptAttention.τ).loc Cert.PromptAttention.main_arg1)
      ∧ r.2.mem ((c.tc : Thread Cert.PromptAttention.nD Cert.PromptAttention.τ).loc Cert.PromptAttention.main_arg2) = m ((c.tc : Thread Cert.PromptAttention.nD Cert.PromptAttention.τ).loc Cert.PromptAttention.main_arg2))
      ∧ r.2.sem = fun _ => 0)

def quiescent_PromptAttentionIdeal [hPromptAttentionIdeal : Cert.PromptAttentionIdeal.Facts] : Prop :=
  ∀ (m : (ℓ : Loc Cert.PromptAttentionIdeal.nD Cert.PromptAttentionIdeal.τ Cert.PromptAttentionIdeal.sig) → Buf (Elt Ideal) ℓ) (g : Dev Cert.PromptAttentionIdeal.nD → PrngReg), Pre_PromptAttentionIdeal m →
    θ_run (Cert.PromptAttentionIdeal.defs (F := Ideal)) (onTc (τ := Cert.PromptAttentionIdeal.τ) (Cert.PromptAttentionIdeal.main (F := Ideal))) ⟨m, fun _ => 0, g⟩ (fun r => (∀ c : Dev Cert.PromptAttentionIdeal.nD,
      r.2.mem ((c.tc : Thread Cert.PromptAttentionIdeal.nD Cert.PromptAttentionIdeal.τ).loc Cert.PromptAttentionIdeal.main_arg0) = m ((c.tc : Thread Cert.PromptAttentionIdeal.nD Cert.PromptAttentionIdeal.τ).loc Cert.PromptAttentionIdeal.main_arg0)
      ∧ r.2.mem ((c.tc : Thread Cert.PromptAttentionIdeal.nD Cert.PromptAttentionIdeal.τ).loc Cert.PromptAttentionIdeal.main_arg1) = m ((c.tc : Thread Cert.PromptAttentionIdeal.nD Cert.PromptAttentionIdeal.τ).loc Cert.PromptAttentionIdeal.main_arg1)
      ∧ r.2.mem ((c.tc : Thread Cert.PromptAttentionIdeal.nD Cert.PromptAttentionIdeal.τ).loc Cert.PromptAttentionIdeal.main_arg2) = m ((c.tc : Thread Cert.PromptAttentionIdeal.nD Cert.PromptAttentionIdeal.τ).loc Cert.PromptAttentionIdeal.main_arg2))
      ∧ r.2.sem = fun _ => 0)

def preserves_PrePrompt_PrePromptIdeal : Prop :=
  True

def algebraic_PrePromptIdeal_PrePromptRefIdeal_pre_finite_args [hPrePromptIdeal : Cert.PrePromptIdeal.Facts] [hPrePromptRefIdeal : Cert.PrePromptRefIdeal.Facts] [hPre_finite_args : Cert.Pre_finite_args.Facts] : Prop :=
  ∀ (m : (ℓ : Loc Cert.PrePromptIdeal.nD Cert.PrePromptIdeal.τ Cert.PrePromptIdeal.sig) → Buf (Elt Ideal) ℓ) (g : Dev Cert.PrePromptIdeal.nD → PrngReg)
    (m' : (ℓ : Loc Cert.PrePromptRefIdeal.nD Cert.PrePromptRefIdeal.τ Cert.PrePromptRefIdeal.sig) → Buf (Elt Ideal) ℓ) (g' : Dev Cert.PrePromptRefIdeal.nD → PrngReg), Pre_PrePromptIdeal_finite_args m →
    (∀ c : Dev Cert.PrePromptIdeal.nD,
      m' ((c.tc : Thread Cert.PrePromptRefIdeal.nD Cert.PrePromptRefIdeal.τ).loc Cert.PrePromptRefIdeal.main_arg0) = m ((c.tc : Thread Cert.PrePromptIdeal.nD Cert.PrePromptIdeal.τ).loc Cert.PrePromptIdeal.main_arg0)
      ∧ m' ((c.tc : Thread Cert.PrePromptRefIdeal.nD Cert.PrePromptRefIdeal.τ).loc Cert.PrePromptRefIdeal.main_arg1) = m ((c.tc : Thread Cert.PrePromptIdeal.nD Cert.PrePromptIdeal.τ).loc Cert.PrePromptIdeal.main_arg1)
      ∧ m' ((c.tc : Thread Cert.PrePromptRefIdeal.nD Cert.PrePromptRefIdeal.τ).loc Cert.PrePromptRefIdeal.main_arg2) = m ((c.tc : Thread Cert.PrePromptIdeal.nD Cert.PrePromptIdeal.τ).loc Cert.PrePromptIdeal.main_arg2)
      ∧ m' ((c.tc : Thread Cert.PrePromptRefIdeal.nD Cert.PrePromptRefIdeal.τ).loc Cert.PrePromptRefIdeal.main_arg3) = m ((c.tc : Thread Cert.PrePromptIdeal.nD Cert.PrePromptIdeal.τ).loc Cert.PrePromptIdeal.main_arg3)
      ∧ m' ((c.tc : Thread Cert.PrePromptRefIdeal.nD Cert.PrePromptRefIdeal.τ).loc Cert.PrePromptRefIdeal.main_arg4) = m ((c.tc : Thread Cert.PrePromptIdeal.nD Cert.PrePromptIdeal.τ).loc Cert.PrePromptIdeal.main_arg4)
      ∧ m' ((c.tc : Thread Cert.PrePromptRefIdeal.nD Cert.PrePromptRefIdeal.τ).loc Cert.PrePromptRefIdeal.main_arg5) = m ((c.tc : Thread Cert.PrePromptIdeal.nD Cert.PrePromptIdeal.τ).loc Cert.PrePromptIdeal.main_arg5)) →
    ∃ (v0 : (c : Dev Cert.PrePromptIdeal.nD) → Buf (Elt Ideal) ((c.tc : Thread Cert.PrePromptIdeal.nD Cert.PrePromptIdeal.τ).loc Cert.PrePromptIdeal.main_v32_0)) (v1 : (c : Dev Cert.PrePromptIdeal.nD) → Buf (Elt Ideal) ((c.tc : Thread Cert.PrePromptIdeal.nD Cert.PrePromptIdeal.τ).loc Cert.PrePromptIdeal.main_v32_1)) (v2 : (c : Dev Cert.PrePromptIdeal.nD) → Buf (Elt Ideal) ((c.tc : Thread Cert.PrePromptIdeal.nD Cert.PrePromptIdeal.τ).loc Cert.PrePromptIdeal.main_v32_2)) (v3 : (c : Dev Cert.PrePromptIdeal.nD) → Buf (Elt Ideal) ((c.tc : Thread Cert.PrePromptIdeal.nD Cert.PrePromptIdeal.τ).loc Cert.PrePromptIdeal.main_v32_3)) (v4 : (c : Dev Cert.PrePromptIdeal.nD) → Buf (Elt Ideal) ((c.tc : Thread Cert.PrePromptIdeal.nD Cert.PrePromptIdeal.τ).loc Cert.PrePromptIdeal.main_v32_4)) (v5 : (c : Dev Cert.PrePromptIdeal.nD) → Buf (Elt Ideal) ((c.tc : Thread Cert.PrePromptIdeal.nD Cert.PrePromptIdeal.τ).loc Cert.PrePromptIdeal.main_v32_5)) (v6 : (c : Dev Cert.PrePromptIdeal.nD) → Buf (Elt Ideal) ((c.tc : Thread Cert.PrePromptIdeal.nD Cert.PrePromptIdeal.τ).loc Cert.PrePromptIdeal.main_v32_6)),
      θ_run (Cert.PrePromptIdeal.defs (F := Ideal)) (onTc (τ := Cert.PrePromptIdeal.τ) (Cert.PrePromptIdeal.main (F := Ideal))) ⟨m, fun _ => 0, g⟩ (fun r => ∀ c : Dev Cert.PrePromptIdeal.nD,
          r.2.mem ((c.tc : Thread Cert.PrePromptIdeal.nD Cert.PrePromptIdeal.τ).loc Cert.PrePromptIdeal.main_v32_0) = v0 c
          ∧ r.2.mem ((c.tc : Thread Cert.PrePromptIdeal.nD Cert.PrePromptIdeal.τ).loc Cert.PrePromptIdeal.main_v32_1) = v1 c
          ∧ r.2.mem ((c.tc : Thread Cert.PrePromptIdeal.nD Cert.PrePromptIdeal.τ).loc Cert.PrePromptIdeal.main_v32_2) = v2 c
          ∧ r.2.mem ((c.tc : Thread Cert.PrePromptIdeal.nD Cert.PrePromptIdeal.τ).loc Cert.PrePromptIdeal.main_v32_3) = v3 c
          ∧ r.2.mem ((c.tc : Thread Cert.PrePromptIdeal.nD Cert.PrePromptIdeal.τ).loc Cert.PrePromptIdeal.main_v32_4) = v4 c
          ∧ r.2.mem ((c.tc : Thread Cert.PrePromptIdeal.nD Cert.PrePromptIdeal.τ).loc Cert.PrePromptIdeal.main_v32_5) = v5 c
          ∧ r.2.mem ((c.tc : Thread Cert.PrePromptIdeal.nD Cert.PrePromptIdeal.τ).loc Cert.PrePromptIdeal.main_v32_6) = v6 c
          ∧ r.2.mem ((c.tc : Thread Cert.PrePromptIdeal.nD Cert.PrePromptIdeal.τ).loc Cert.PrePromptIdeal.main_arg0) = m ((c.tc : Thread Cert.PrePromptIdeal.nD Cert.PrePromptIdeal.τ).loc Cert.PrePromptIdeal.main_arg0)
          ∧ r.2.mem ((c.tc : Thread Cert.PrePromptIdeal.nD Cert.PrePromptIdeal.τ).loc Cert.PrePromptIdeal.main_arg1) = m ((c.tc : Thread Cert.PrePromptIdeal.nD Cert.PrePromptIdeal.τ).loc Cert.PrePromptIdeal.main_arg1)
          ∧ r.2.mem ((c.tc : Thread Cert.PrePromptIdeal.nD Cert.PrePromptIdeal.τ).loc Cert.PrePromptIdeal.main_arg2) = m ((c.tc : Thread Cert.PrePromptIdeal.nD Cert.PrePromptIdeal.τ).loc Cert.PrePromptIdeal.main_arg2)
          ∧ r.2.mem ((c.tc : Thread Cert.PrePromptIdeal.nD Cert.PrePromptIdeal.τ).loc Cert.PrePromptIdeal.main_arg3) = m ((c.tc : Thread Cert.PrePromptIdeal.nD Cert.PrePromptIdeal.τ).loc Cert.PrePromptIdeal.main_arg3)
          ∧ r.2.mem ((c.tc : Thread Cert.PrePromptIdeal.nD Cert.PrePromptIdeal.τ).loc Cert.PrePromptIdeal.main_arg4) = m ((c.tc : Thread Cert.PrePromptIdeal.nD Cert.PrePromptIdeal.τ).loc Cert.PrePromptIdeal.main_arg4)
          ∧ r.2.mem ((c.tc : Thread Cert.PrePromptIdeal.nD Cert.PrePromptIdeal.τ).loc Cert.PrePromptIdeal.main_arg5) = m ((c.tc : Thread Cert.PrePromptIdeal.nD Cert.PrePromptIdeal.τ).loc Cert.PrePromptIdeal.main_arg5))
      ∧ θ_run (Cert.PrePromptRefIdeal.defs (F := Ideal)) (onTc (τ := Cert.PrePromptRefIdeal.τ) (Cert.PrePromptRefIdeal.main (F := Ideal))) ⟨m', fun _ => 0, g'⟩ (fun r => ∀ c : Dev Cert.PrePromptRefIdeal.nD,
          r.2.mem ((c.tc : Thread Cert.PrePromptRefIdeal.nD Cert.PrePromptRefIdeal.τ).loc Cert.PrePromptRefIdeal.main_v218) = v0 c
          ∧ r.2.mem ((c.tc : Thread Cert.PrePromptRefIdeal.nD Cert.PrePromptRefIdeal.τ).loc Cert.PrePromptRefIdeal.main_v31) = v1 c
          ∧ r.2.mem ((c.tc : Thread Cert.PrePromptRefIdeal.nD Cert.PrePromptRefIdeal.τ).loc Cert.PrePromptRefIdeal.main_v222) = v2 c
          ∧ r.2.mem ((c.tc : Thread Cert.PrePromptRefIdeal.nD Cert.PrePromptRefIdeal.τ).loc Cert.PrePromptRefIdeal.main_v226) = v3 c
          ∧ r.2.mem ((c.tc : Thread Cert.PrePromptRefIdeal.nD Cert.PrePromptRefIdeal.τ).loc Cert.PrePromptRefIdeal.main_v225) = v4 c
          ∧ r.2.mem ((c.tc : Thread Cert.PrePromptRefIdeal.nD Cert.PrePromptRefIdeal.τ).loc Cert.PrePromptRefIdeal.main_v227) = v5 c
          ∧ r.2.mem ((c.tc : Thread Cert.PrePromptRefIdeal.nD Cert.PrePromptRefIdeal.τ).loc Cert.PrePromptRefIdeal.main_v228) = v6 c
          ∧ r.2.mem ((c.tc : Thread Cert.PrePromptRefIdeal.nD Cert.PrePromptRefIdeal.τ).loc Cert.PrePromptRefIdeal.main_arg0) = m' ((c.tc : Thread Cert.PrePromptRefIdeal.nD Cert.PrePromptRefIdeal.τ).loc Cert.PrePromptRefIdeal.main_arg0)
          ∧ r.2.mem ((c.tc : Thread Cert.PrePromptRefIdeal.nD Cert.PrePromptRefIdeal.τ).loc Cert.PrePromptRefIdeal.main_arg1) = m' ((c.tc : Thread Cert.PrePromptRefIdeal.nD Cert.PrePromptRefIdeal.τ).loc Cert.PrePromptRefIdeal.main_arg1)
          ∧ r.2.mem ((c.tc : Thread Cert.PrePromptRefIdeal.nD Cert.PrePromptRefIdeal.τ).loc Cert.PrePromptRefIdeal.main_arg2) = m' ((c.tc : Thread Cert.PrePromptRefIdeal.nD Cert.PrePromptRefIdeal.τ).loc Cert.PrePromptRefIdeal.main_arg2)
          ∧ r.2.mem ((c.tc : Thread Cert.PrePromptRefIdeal.nD Cert.PrePromptRefIdeal.τ).loc Cert.PrePromptRefIdeal.main_arg3) = m' ((c.tc : Thread Cert.PrePromptRefIdeal.nD Cert.PrePromptRefIdeal.τ).loc Cert.PrePromptRefIdeal.main_arg3)
          ∧ r.2.mem ((c.tc : Thread Cert.PrePromptRefIdeal.nD Cert.PrePromptRefIdeal.τ).loc Cert.PrePromptRefIdeal.main_arg4) = m' ((c.tc : Thread Cert.PrePromptRefIdeal.nD Cert.PrePromptRefIdeal.τ).loc Cert.PrePromptRefIdeal.main_arg4)
          ∧ r.2.mem ((c.tc : Thread Cert.PrePromptRefIdeal.nD Cert.PrePromptRefIdeal.τ).loc Cert.PrePromptRefIdeal.main_arg5) = m' ((c.tc : Thread Cert.PrePromptRefIdeal.nD Cert.PrePromptRefIdeal.τ).loc Cert.PrePromptRefIdeal.main_arg5))

def preserves_PostPrompt_PostPromptIdeal : Prop :=
  True

def algebraic_PostPromptIdeal_PostPromptRefIdeal [hPostPromptIdeal : Cert.PostPromptIdeal.Facts] [hPostPromptRefIdeal : Cert.PostPromptRefIdeal.Facts] : Prop :=
  ∀ (m : (ℓ : Loc Cert.PostPromptIdeal.nD Cert.PostPromptIdeal.τ Cert.PostPromptIdeal.sig) → Buf (Elt Ideal) ℓ) (g : Dev Cert.PostPromptIdeal.nD → PrngReg)
    (m' : (ℓ : Loc Cert.PostPromptRefIdeal.nD Cert.PostPromptRefIdeal.τ Cert.PostPromptRefIdeal.sig) → Buf (Elt Ideal) ℓ) (g' : Dev Cert.PostPromptRefIdeal.nD → PrngReg), Pre_PostPromptIdeal m →
    (∀ c : Dev Cert.PostPromptIdeal.nD,
      m' ((c.tc : Thread Cert.PostPromptRefIdeal.nD Cert.PostPromptRefIdeal.τ).loc Cert.PostPromptRefIdeal.main_arg0) = m ((c.tc : Thread Cert.PostPromptIdeal.nD Cert.PostPromptIdeal.τ).loc Cert.PostPromptIdeal.main_arg0)
      ∧ m' ((c.tc : Thread Cert.PostPromptRefIdeal.nD Cert.PostPromptRefIdeal.τ).loc Cert.PostPromptRefIdeal.main_arg1) = m ((c.tc : Thread Cert.PostPromptIdeal.nD Cert.PostPromptIdeal.τ).loc Cert.PostPromptIdeal.main_arg1)
      ∧ m' ((c.tc : Thread Cert.PostPromptRefIdeal.nD Cert.PostPromptRefIdeal.τ).loc Cert.PostPromptRefIdeal.main_arg2) = m ((c.tc : Thread Cert.PostPromptIdeal.nD Cert.PostPromptIdeal.τ).loc Cert.PostPromptIdeal.main_arg2)
      ∧ m' ((c.tc : Thread Cert.PostPromptRefIdeal.nD Cert.PostPromptRefIdeal.τ).loc Cert.PostPromptRefIdeal.main_arg3) = m ((c.tc : Thread Cert.PostPromptIdeal.nD Cert.PostPromptIdeal.τ).loc Cert.PostPromptIdeal.main_arg3)
      ∧ m' ((c.tc : Thread Cert.PostPromptRefIdeal.nD Cert.PostPromptRefIdeal.τ).loc Cert.PostPromptRefIdeal.main_arg4) = m ((c.tc : Thread Cert.PostPromptIdeal.nD Cert.PostPromptIdeal.τ).loc Cert.PostPromptIdeal.main_arg4)
      ∧ m' ((c.tc : Thread Cert.PostPromptRefIdeal.nD Cert.PostPromptRefIdeal.τ).loc Cert.PostPromptRefIdeal.main_arg5) = m ((c.tc : Thread Cert.PostPromptIdeal.nD Cert.PostPromptIdeal.τ).loc Cert.PostPromptIdeal.main_arg5)
      ∧ m' ((c.tc : Thread Cert.PostPromptRefIdeal.nD Cert.PostPromptRefIdeal.τ).loc Cert.PostPromptRefIdeal.main_arg6) = m ((c.tc : Thread Cert.PostPromptIdeal.nD Cert.PostPromptIdeal.τ).loc Cert.PostPromptIdeal.main_arg6)
      ∧ m' ((c.tc : Thread Cert.PostPromptRefIdeal.nD Cert.PostPromptRefIdeal.τ).loc Cert.PostPromptRefIdeal.main_arg7) = m ((c.tc : Thread Cert.PostPromptIdeal.nD Cert.PostPromptIdeal.τ).loc Cert.PostPromptIdeal.main_arg7)
      ∧ m' ((c.tc : Thread Cert.PostPromptRefIdeal.nD Cert.PostPromptRefIdeal.τ).loc Cert.PostPromptRefIdeal.main_arg8) = m ((c.tc : Thread Cert.PostPromptIdeal.nD Cert.PostPromptIdeal.τ).loc Cert.PostPromptIdeal.main_arg8)
      ∧ m' ((c.tc : Thread Cert.PostPromptRefIdeal.nD Cert.PostPromptRefIdeal.τ).loc Cert.PostPromptRefIdeal.main_arg9) = m ((c.tc : Thread Cert.PostPromptIdeal.nD Cert.PostPromptIdeal.τ).loc Cert.PostPromptIdeal.main_arg9)
      ∧ m' ((c.tc : Thread Cert.PostPromptRefIdeal.nD Cert.PostPromptRefIdeal.τ).loc Cert.PostPromptRefIdeal.main_arg10) = m ((c.tc : Thread Cert.PostPromptIdeal.nD Cert.PostPromptIdeal.τ).loc Cert.PostPromptIdeal.main_arg10)
      ∧ m' ((c.tc : Thread Cert.PostPromptRefIdeal.nD Cert.PostPromptRefIdeal.τ).loc Cert.PostPromptRefIdeal.main_arg11) = m ((c.tc : Thread Cert.PostPromptIdeal.nD Cert.PostPromptIdeal.τ).loc Cert.PostPromptIdeal.main_arg11)) →
    ∃ (v0 : (c : Dev Cert.PostPromptIdeal.nD) → Buf (Elt Ideal) ((c.tc : Thread Cert.PostPromptIdeal.nD Cert.PostPromptIdeal.τ).loc Cert.PostPromptIdeal.main_v19_0)) (v1 : (c : Dev Cert.PostPromptIdeal.nD) → Buf (Elt Ideal) ((c.tc : Thread Cert.PostPromptIdeal.nD Cert.PostPromptIdeal.τ).loc Cert.PostPromptIdeal.main_v19_1)),
      θ_run (Cert.PostPromptIdeal.defs (F := Ideal)) (onTc (τ := Cert.PostPromptIdeal.τ) (Cert.PostPromptIdeal.main (F := Ideal))) ⟨m, fun _ => 0, g⟩ (fun r => ∀ c : Dev Cert.PostPromptIdeal.nD,
          r.2.mem ((c.tc : Thread Cert.PostPromptIdeal.nD Cert.PostPromptIdeal.τ).loc Cert.PostPromptIdeal.main_v19_0) = v0 c
          ∧ r.2.mem ((c.tc : Thread Cert.PostPromptIdeal.nD Cert.PostPromptIdeal.τ).loc Cert.PostPromptIdeal.main_v19_1) = v1 c
          ∧ r.2.mem ((c.tc : Thread Cert.PostPromptIdeal.nD Cert.PostPromptIdeal.τ).loc Cert.PostPromptIdeal.main_arg0) = m ((c.tc : Thread Cert.PostPromptIdeal.nD Cert.PostPromptIdeal.τ).loc Cert.PostPromptIdeal.main_arg0)
          ∧ r.2.mem ((c.tc : Thread Cert.PostPromptIdeal.nD Cert.PostPromptIdeal.τ).loc Cert.PostPromptIdeal.main_arg1) = m ((c.tc : Thread Cert.PostPromptIdeal.nD Cert.PostPromptIdeal.τ).loc Cert.PostPromptIdeal.main_arg1)
          ∧ r.2.mem ((c.tc : Thread Cert.PostPromptIdeal.nD Cert.PostPromptIdeal.τ).loc Cert.PostPromptIdeal.main_arg2) = m ((c.tc : Thread Cert.PostPromptIdeal.nD Cert.PostPromptIdeal.τ).loc Cert.PostPromptIdeal.main_arg2)
          ∧ r.2.mem ((c.tc : Thread Cert.PostPromptIdeal.nD Cert.PostPromptIdeal.τ).loc Cert.PostPromptIdeal.main_arg3) = m ((c.tc : Thread Cert.PostPromptIdeal.nD Cert.PostPromptIdeal.τ).loc Cert.PostPromptIdeal.main_arg3)
          ∧ r.2.mem ((c.tc : Thread Cert.PostPromptIdeal.nD Cert.PostPromptIdeal.τ).loc Cert.PostPromptIdeal.main_arg4) = m ((c.tc : Thread Cert.PostPromptIdeal.nD Cert.PostPromptIdeal.τ).loc Cert.PostPromptIdeal.main_arg4)
          ∧ r.2.mem ((c.tc : Thread Cert.PostPromptIdeal.nD Cert.PostPromptIdeal.τ).loc Cert.PostPromptIdeal.main_arg5) = m ((c.tc : Thread Cert.PostPromptIdeal.nD Cert.PostPromptIdeal.τ).loc Cert.PostPromptIdeal.main_arg5)
          ∧ r.2.mem ((c.tc : Thread Cert.PostPromptIdeal.nD Cert.PostPromptIdeal.τ).loc Cert.PostPromptIdeal.main_arg6) = m ((c.tc : Thread Cert.PostPromptIdeal.nD Cert.PostPromptIdeal.τ).loc Cert.PostPromptIdeal.main_arg6)
          ∧ r.2.mem ((c.tc : Thread Cert.PostPromptIdeal.nD Cert.PostPromptIdeal.τ).loc Cert.PostPromptIdeal.main_arg7) = m ((c.tc : Thread Cert.PostPromptIdeal.nD Cert.PostPromptIdeal.τ).loc Cert.PostPromptIdeal.main_arg7)
          ∧ r.2.mem ((c.tc : Thread Cert.PostPromptIdeal.nD Cert.PostPromptIdeal.τ).loc Cert.PostPromptIdeal.main_arg8) = m ((c.tc : Thread Cert.PostPromptIdeal.nD Cert.PostPromptIdeal.τ).loc Cert.PostPromptIdeal.main_arg8)
          ∧ r.2.mem ((c.tc : Thread Cert.PostPromptIdeal.nD Cert.PostPromptIdeal.τ).loc Cert.PostPromptIdeal.main_arg9) = m ((c.tc : Thread Cert.PostPromptIdeal.nD Cert.PostPromptIdeal.τ).loc Cert.PostPromptIdeal.main_arg9)
          ∧ r.2.mem ((c.tc : Thread Cert.PostPromptIdeal.nD Cert.PostPromptIdeal.τ).loc Cert.PostPromptIdeal.main_arg10) = m ((c.tc : Thread Cert.PostPromptIdeal.nD Cert.PostPromptIdeal.τ).loc Cert.PostPromptIdeal.main_arg10)
          ∧ r.2.mem ((c.tc : Thread Cert.PostPromptIdeal.nD Cert.PostPromptIdeal.τ).loc Cert.PostPromptIdeal.main_arg11) = m ((c.tc : Thread Cert.PostPromptIdeal.nD Cert.PostPromptIdeal.τ).loc Cert.PostPromptIdeal.main_arg11))
      ∧ θ_run (Cert.PostPromptRefIdeal.defs (F := Ideal)) (onTc (τ := Cert.PostPromptRefIdeal.τ) (Cert.PostPromptRefIdeal.main (F := Ideal))) ⟨m', fun _ => 0, g'⟩ (fun r => ∀ c : Dev Cert.PostPromptRefIdeal.nD,
          r.2.mem ((c.tc : Thread Cert.PostPromptRefIdeal.nD Cert.PostPromptRefIdeal.τ).loc Cert.PostPromptRefIdeal.main_v101) = v0 c
          ∧ r.2.mem ((c.tc : Thread Cert.PostPromptRefIdeal.nD Cert.PostPromptRefIdeal.τ).loc Cert.PostPromptRefIdeal.main_v102) = v1 c
          ∧ r.2.mem ((c.tc : Thread Cert.PostPromptRefIdeal.nD Cert.PostPromptRefIdeal.τ).loc Cert.PostPromptRefIdeal.main_arg0) = m' ((c.tc : Thread Cert.PostPromptRefIdeal.nD Cert.PostPromptRefIdeal.τ).loc Cert.PostPromptRefIdeal.main_arg0)
          ∧ r.2.mem ((c.tc : Thread Cert.PostPromptRefIdeal.nD Cert.PostPromptRefIdeal.τ).loc Cert.PostPromptRefIdeal.main_arg1) = m' ((c.tc : Thread Cert.PostPromptRefIdeal.nD Cert.PostPromptRefIdeal.τ).loc Cert.PostPromptRefIdeal.main_arg1)
          ∧ r.2.mem ((c.tc : Thread Cert.PostPromptRefIdeal.nD Cert.PostPromptRefIdeal.τ).loc Cert.PostPromptRefIdeal.main_arg2) = m' ((c.tc : Thread Cert.PostPromptRefIdeal.nD Cert.PostPromptRefIdeal.τ).loc Cert.PostPromptRefIdeal.main_arg2)
          ∧ r.2.mem ((c.tc : Thread Cert.PostPromptRefIdeal.nD Cert.PostPromptRefIdeal.τ).loc Cert.PostPromptRefIdeal.main_arg3) = m' ((c.tc : Thread Cert.PostPromptRefIdeal.nD Cert.PostPromptRefIdeal.τ).loc Cert.PostPromptRefIdeal.main_arg3)
          ∧ r.2.mem ((c.tc : Thread Cert.PostPromptRefIdeal.nD Cert.PostPromptRefIdeal.τ).loc Cert.PostPromptRefIdeal.main_arg4) = m' ((c.tc : Thread Cert.PostPromptRefIdeal.nD Cert.PostPromptRefIdeal.τ).loc Cert.PostPromptRefIdeal.main_arg4)
          ∧ r.2.mem ((c.tc : Thread Cert.PostPromptRefIdeal.nD Cert.PostPromptRefIdeal.τ).loc Cert.PostPromptRefIdeal.main_arg5) = m' ((c.tc : Thread Cert.PostPromptRefIdeal.nD Cert.PostPromptRefIdeal.τ).loc Cert.PostPromptRefIdeal.main_arg5)
          ∧ r.2.mem ((c.tc : Thread Cert.PostPromptRefIdeal.nD Cert.PostPromptRefIdeal.τ).loc Cert.PostPromptRefIdeal.main_arg6) = m' ((c.tc : Thread Cert.PostPromptRefIdeal.nD Cert.PostPromptRefIdeal.τ).loc Cert.PostPromptRefIdeal.main_arg6)
          ∧ r.2.mem ((c.tc : Thread Cert.PostPromptRefIdeal.nD Cert.PostPromptRefIdeal.τ).loc Cert.PostPromptRefIdeal.main_arg7) = m' ((c.tc : Thread Cert.PostPromptRefIdeal.nD Cert.PostPromptRefIdeal.τ).loc Cert.PostPromptRefIdeal.main_arg7)
          ∧ r.2.mem ((c.tc : Thread Cert.PostPromptRefIdeal.nD Cert.PostPromptRefIdeal.τ).loc Cert.PostPromptRefIdeal.main_arg8) = m' ((c.tc : Thread Cert.PostPromptRefIdeal.nD Cert.PostPromptRefIdeal.τ).loc Cert.PostPromptRefIdeal.main_arg8)
          ∧ r.2.mem ((c.tc : Thread Cert.PostPromptRefIdeal.nD Cert.PostPromptRefIdeal.τ).loc Cert.PostPromptRefIdeal.main_arg9) = m' ((c.tc : Thread Cert.PostPromptRefIdeal.nD Cert.PostPromptRefIdeal.τ).loc Cert.PostPromptRefIdeal.main_arg9)
          ∧ r.2.mem ((c.tc : Thread Cert.PostPromptRefIdeal.nD Cert.PostPromptRefIdeal.τ).loc Cert.PostPromptRefIdeal.main_arg10) = m' ((c.tc : Thread Cert.PostPromptRefIdeal.nD Cert.PostPromptRefIdeal.τ).loc Cert.PostPromptRefIdeal.main_arg10)
          ∧ r.2.mem ((c.tc : Thread Cert.PostPromptRefIdeal.nD Cert.PostPromptRefIdeal.τ).loc Cert.PostPromptRefIdeal.main_arg11) = m' ((c.tc : Thread Cert.PostPromptRefIdeal.nD Cert.PostPromptRefIdeal.τ).loc Cert.PostPromptRefIdeal.main_arg11))

def preserves_PreSample_PreSampleIdeal : Prop :=
  True

def algebraic_PreSampleIdeal_PreSampleRefIdeal_pre_finite_step [hPreSampleIdeal : Cert.PreSampleIdeal.Facts] [hPreSampleRefIdeal : Cert.PreSampleRefIdeal.Facts] [hPre_finite_step : Cert.Pre_finite_step.Facts] : Prop :=
  ∀ (m : (ℓ : Loc Cert.PreSampleIdeal.nD Cert.PreSampleIdeal.τ Cert.PreSampleIdeal.sig) → Buf (Elt Ideal) ℓ) (g : Dev Cert.PreSampleIdeal.nD → PrngReg)
    (m' : (ℓ : Loc Cert.PreSampleRefIdeal.nD Cert.PreSampleRefIdeal.τ Cert.PreSampleRefIdeal.sig) → Buf (Elt Ideal) ℓ) (g' : Dev Cert.PreSampleRefIdeal.nD → PrngReg), Pre_PreSampleIdeal_finite_step m →
    (∀ c : Dev Cert.PreSampleIdeal.nD,
      m' ((c.tc : Thread Cert.PreSampleRefIdeal.nD Cert.PreSampleRefIdeal.τ).loc Cert.PreSampleRefIdeal.main_arg0) = m ((c.tc : Thread Cert.PreSampleIdeal.nD Cert.PreSampleIdeal.τ).loc Cert.PreSampleIdeal.main_arg0)
      ∧ m' ((c.tc : Thread Cert.PreSampleRefIdeal.nD Cert.PreSampleRefIdeal.τ).loc Cert.PreSampleRefIdeal.main_arg1) = m ((c.tc : Thread Cert.PreSampleIdeal.nD Cert.PreSampleIdeal.τ).loc Cert.PreSampleIdeal.main_arg1)
      ∧ m' ((c.tc : Thread Cert.PreSampleRefIdeal.nD Cert.PreSampleRefIdeal.τ).loc Cert.PreSampleRefIdeal.main_arg2) = m ((c.tc : Thread Cert.PreSampleIdeal.nD Cert.PreSampleIdeal.τ).loc Cert.PreSampleIdeal.main_arg2)
      ∧ m' ((c.tc : Thread Cert.PreSampleRefIdeal.nD Cert.PreSampleRefIdeal.τ).loc Cert.PreSampleRefIdeal.main_arg3) = m ((c.tc : Thread Cert.PreSampleIdeal.nD Cert.PreSampleIdeal.τ).loc Cert.PreSampleIdeal.main_arg3)
      ∧ m' ((c.tc : Thread Cert.PreSampleRefIdeal.nD Cert.PreSampleRefIdeal.τ).loc Cert.PreSampleRefIdeal.main_arg4) = m ((c.tc : Thread Cert.PreSampleIdeal.nD Cert.PreSampleIdeal.τ).loc Cert.PreSampleIdeal.main_arg4)
      ∧ m' ((c.tc : Thread Cert.PreSampleRefIdeal.nD Cert.PreSampleRefIdeal.τ).loc Cert.PreSampleRefIdeal.main_arg5) = m ((c.tc : Thread Cert.PreSampleIdeal.nD Cert.PreSampleIdeal.τ).loc Cert.PreSampleIdeal.main_arg5)
      ∧ m' ((c.tc : Thread Cert.PreSampleRefIdeal.nD Cert.PreSampleRefIdeal.τ).loc Cert.PreSampleRefIdeal.main_arg6) = m ((c.tc : Thread Cert.PreSampleIdeal.nD Cert.PreSampleIdeal.τ).loc Cert.PreSampleIdeal.main_arg6)) →
    ∃ (v0 : (c : Dev Cert.PreSampleIdeal.nD) → Buf (Elt Ideal) ((c.tc : Thread Cert.PreSampleIdeal.nD Cert.PreSampleIdeal.τ).loc Cert.PreSampleIdeal.main_v35_0)) (v1 : (c : Dev Cert.PreSampleIdeal.nD) → Buf (Elt Ideal) ((c.tc : Thread Cert.PreSampleIdeal.nD Cert.PreSampleIdeal.τ).loc Cert.PreSampleIdeal.main_v35_1)) (v2 : (c : Dev Cert.PreSampleIdeal.nD) → Buf (Elt Ideal) ((c.tc : Thread Cert.PreSampleIdeal.nD Cert.PreSampleIdeal.τ).loc Cert.PreSampleIdeal.main_v35_2)) (v3 : (c : Dev Cert.PreSampleIdeal.nD) → Buf (Elt Ideal) ((c.tc : Thread Cert.PreSampleIdeal.nD Cert.PreSampleIdeal.τ).loc Cert.PreSampleIdeal.main_v35_3)) (v4 : (c : Dev Cert.PreSampleIdeal.nD) → Buf (Elt Ideal) ((c.tc : Thread Cert.PreSampleIdeal.nD Cert.PreSampleIdeal.τ).loc Cert.PreSampleIdeal.main_v35_4)),
      θ_run (Cert.PreSampleIdeal.defs (F := Ideal)) (onTc (τ := Cert.PreSampleIdeal.τ) (Cert.PreSampleIdeal.main (F := Ideal))) ⟨m, fun _ => 0, g⟩ (fun r => ∀ c : Dev Cert.PreSampleIdeal.nD,
          r.2.mem ((c.tc : Thread Cert.PreSampleIdeal.nD Cert.PreSampleIdeal.τ).loc Cert.PreSampleIdeal.main_v35_0) = v0 c
          ∧ r.2.mem ((c.tc : Thread Cert.PreSampleIdeal.nD Cert.PreSampleIdeal.τ).loc Cert.PreSampleIdeal.main_v35_1) = v1 c
          ∧ r.2.mem ((c.tc : Thread Cert.PreSampleIdeal.nD Cert.PreSampleIdeal.τ).loc Cert.PreSampleIdeal.main_v35_2) = v2 c
          ∧ r.2.mem ((c.tc : Thread Cert.PreSampleIdeal.nD Cert.PreSampleIdeal.τ).loc Cert.PreSampleIdeal.main_v35_3) = v3 c
          ∧ r.2.mem ((c.tc : Thread Cert.PreSampleIdeal.nD Cert.PreSampleIdeal.τ).loc Cert.PreSampleIdeal.main_v35_4) = v4 c
          ∧ r.2.mem ((c.tc : Thread Cert.PreSampleIdeal.nD Cert.PreSampleIdeal.τ).loc Cert.PreSampleIdeal.main_arg0) = m ((c.tc : Thread Cert.PreSampleIdeal.nD Cert.PreSampleIdeal.τ).loc Cert.PreSampleIdeal.main_arg0)
          ∧ r.2.mem ((c.tc : Thread Cert.PreSampleIdeal.nD Cert.PreSampleIdeal.τ).loc Cert.PreSampleIdeal.main_arg1) = m ((c.tc : Thread Cert.PreSampleIdeal.nD Cert.PreSampleIdeal.τ).loc Cert.PreSampleIdeal.main_arg1)
          ∧ r.2.mem ((c.tc : Thread Cert.PreSampleIdeal.nD Cert.PreSampleIdeal.τ).loc Cert.PreSampleIdeal.main_arg2) = m ((c.tc : Thread Cert.PreSampleIdeal.nD Cert.PreSampleIdeal.τ).loc Cert.PreSampleIdeal.main_arg2)
          ∧ r.2.mem ((c.tc : Thread Cert.PreSampleIdeal.nD Cert.PreSampleIdeal.τ).loc Cert.PreSampleIdeal.main_arg3) = m ((c.tc : Thread Cert.PreSampleIdeal.nD Cert.PreSampleIdeal.τ).loc Cert.PreSampleIdeal.main_arg3)
          ∧ r.2.mem ((c.tc : Thread Cert.PreSampleIdeal.nD Cert.PreSampleIdeal.τ).loc Cert.PreSampleIdeal.main_arg4) = m ((c.tc : Thread Cert.PreSampleIdeal.nD Cert.PreSampleIdeal.τ).loc Cert.PreSampleIdeal.main_arg4)
          ∧ r.2.mem ((c.tc : Thread Cert.PreSampleIdeal.nD Cert.PreSampleIdeal.τ).loc Cert.PreSampleIdeal.main_arg5) = m ((c.tc : Thread Cert.PreSampleIdeal.nD Cert.PreSampleIdeal.τ).loc Cert.PreSampleIdeal.main_arg5)
          ∧ r.2.mem ((c.tc : Thread Cert.PreSampleIdeal.nD Cert.PreSampleIdeal.τ).loc Cert.PreSampleIdeal.main_arg6) = m ((c.tc : Thread Cert.PreSampleIdeal.nD Cert.PreSampleIdeal.τ).loc Cert.PreSampleIdeal.main_arg6))
      ∧ θ_run (Cert.PreSampleRefIdeal.defs (F := Ideal)) (onTc (τ := Cert.PreSampleRefIdeal.τ) (Cert.PreSampleRefIdeal.main (F := Ideal))) ⟨m', fun _ => 0, g'⟩ (fun r => ∀ c : Dev Cert.PreSampleRefIdeal.nD,
          r.2.mem ((c.tc : Thread Cert.PreSampleRefIdeal.nD Cert.PreSampleRefIdeal.τ).loc Cert.PreSampleRefIdeal.main_v224) = v0 c
          ∧ r.2.mem ((c.tc : Thread Cert.PreSampleRefIdeal.nD Cert.PreSampleRefIdeal.τ).loc Cert.PreSampleRefIdeal.main_v192) = v1 c
          ∧ r.2.mem ((c.tc : Thread Cert.PreSampleRefIdeal.nD Cert.PreSampleRefIdeal.τ).loc Cert.PreSampleRefIdeal.main_v222) = v2 c
          ∧ r.2.mem ((c.tc : Thread Cert.PreSampleRefIdeal.nD Cert.PreSampleRefIdeal.τ).loc Cert.PreSampleRefIdeal.main_v225) = v3 c
          ∧ r.2.mem ((c.tc : Thread Cert.PreSampleRefIdeal.nD Cert.PreSampleRefIdeal.τ).loc Cert.PreSampleRefIdeal.main_v227) = v4 c
          ∧ r.2.mem ((c.tc : Thread Cert.PreSampleRefIdeal.nD Cert.PreSampleRefIdeal.τ).loc Cert.PreSampleRefIdeal.main_arg0) = m' ((c.tc : Thread Cert.PreSampleRefIdeal.nD Cert.PreSampleRefIdeal.τ).loc Cert.PreSampleRefIdeal.main_arg0)
          ∧ r.2.mem ((c.tc : Thread Cert.PreSampleRefIdeal.nD Cert.PreSampleRefIdeal.τ).loc Cert.PreSampleRefIdeal.main_arg1) = m' ((c.tc : Thread Cert.PreSampleRefIdeal.nD Cert.PreSampleRefIdeal.τ).loc Cert.PreSampleRefIdeal.main_arg1)
          ∧ r.2.mem ((c.tc : Thread Cert.PreSampleRefIdeal.nD Cert.PreSampleRefIdeal.τ).loc Cert.PreSampleRefIdeal.main_arg2) = m' ((c.tc : Thread Cert.PreSampleRefIdeal.nD Cert.PreSampleRefIdeal.τ).loc Cert.PreSampleRefIdeal.main_arg2)
          ∧ r.2.mem ((c.tc : Thread Cert.PreSampleRefIdeal.nD Cert.PreSampleRefIdeal.τ).loc Cert.PreSampleRefIdeal.main_arg3) = m' ((c.tc : Thread Cert.PreSampleRefIdeal.nD Cert.PreSampleRefIdeal.τ).loc Cert.PreSampleRefIdeal.main_arg3)
          ∧ r.2.mem ((c.tc : Thread Cert.PreSampleRefIdeal.nD Cert.PreSampleRefIdeal.τ).loc Cert.PreSampleRefIdeal.main_arg4) = m' ((c.tc : Thread Cert.PreSampleRefIdeal.nD Cert.PreSampleRefIdeal.τ).loc Cert.PreSampleRefIdeal.main_arg4)
          ∧ r.2.mem ((c.tc : Thread Cert.PreSampleRefIdeal.nD Cert.PreSampleRefIdeal.τ).loc Cert.PreSampleRefIdeal.main_arg5) = m' ((c.tc : Thread Cert.PreSampleRefIdeal.nD Cert.PreSampleRefIdeal.τ).loc Cert.PreSampleRefIdeal.main_arg5)
          ∧ r.2.mem ((c.tc : Thread Cert.PreSampleRefIdeal.nD Cert.PreSampleRefIdeal.τ).loc Cert.PreSampleRefIdeal.main_arg6) = m' ((c.tc : Thread Cert.PreSampleRefIdeal.nD Cert.PreSampleRefIdeal.τ).loc Cert.PreSampleRefIdeal.main_arg6))

def preserves_PostSample_PostSampleIdeal : Prop :=
  True

def algebraic_PostSampleIdeal_PostSampleRefIdeal [hPostSampleIdeal : Cert.PostSampleIdeal.Facts] [hPostSampleRefIdeal : Cert.PostSampleRefIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg)
    (m' : (ℓ : Loc Cert.PostSampleRefIdeal.nD Cert.PostSampleRefIdeal.τ Cert.PostSampleRefIdeal.sig) → Buf (Elt Ideal) ℓ) (g' : Dev Cert.PostSampleRefIdeal.nD → PrngReg), Pre_PostSampleIdeal m →
    (∀ c : Dev Cert.PostSampleIdeal.nD,
      m' ((c.tc : Thread Cert.PostSampleRefIdeal.nD Cert.PostSampleRefIdeal.τ).loc Cert.PostSampleRefIdeal.main_arg0) = m ((c.tc : Thread Cert.PostSampleIdeal.nD Cert.PostSampleIdeal.τ).loc Cert.PostSampleIdeal.main_arg0)
      ∧ m' ((c.tc : Thread Cert.PostSampleRefIdeal.nD Cert.PostSampleRefIdeal.τ).loc Cert.PostSampleRefIdeal.main_arg1) = m ((c.tc : Thread Cert.PostSampleIdeal.nD Cert.PostSampleIdeal.τ).loc Cert.PostSampleIdeal.main_arg1)
      ∧ m' ((c.tc : Thread Cert.PostSampleRefIdeal.nD Cert.PostSampleRefIdeal.τ).loc Cert.PostSampleRefIdeal.main_arg2) = m ((c.tc : Thread Cert.PostSampleIdeal.nD Cert.PostSampleIdeal.τ).loc Cert.PostSampleIdeal.main_arg2)
      ∧ m' ((c.tc : Thread Cert.PostSampleRefIdeal.nD Cert.PostSampleRefIdeal.τ).loc Cert.PostSampleRefIdeal.main_arg3) = m ((c.tc : Thread Cert.PostSampleIdeal.nD Cert.PostSampleIdeal.τ).loc Cert.PostSampleIdeal.main_arg3)
      ∧ m' ((c.tc : Thread Cert.PostSampleRefIdeal.nD Cert.PostSampleRefIdeal.τ).loc Cert.PostSampleRefIdeal.main_arg4) = m ((c.tc : Thread Cert.PostSampleIdeal.nD Cert.PostSampleIdeal.τ).loc Cert.PostSampleIdeal.main_arg4)
      ∧ m' ((c.tc : Thread Cert.PostSampleRefIdeal.nD Cert.PostSampleRefIdeal.τ).loc Cert.PostSampleRefIdeal.main_arg5) = m ((c.tc : Thread Cert.PostSampleIdeal.nD Cert.PostSampleIdeal.τ).loc Cert.PostSampleIdeal.main_arg5)
      ∧ m' ((c.tc : Thread Cert.PostSampleRefIdeal.nD Cert.PostSampleRefIdeal.τ).loc Cert.PostSampleRefIdeal.main_arg6) = m ((c.tc : Thread Cert.PostSampleIdeal.nD Cert.PostSampleIdeal.τ).loc Cert.PostSampleIdeal.main_arg6)
      ∧ m' ((c.tc : Thread Cert.PostSampleRefIdeal.nD Cert.PostSampleRefIdeal.τ).loc Cert.PostSampleRefIdeal.main_arg7) = m ((c.tc : Thread Cert.PostSampleIdeal.nD Cert.PostSampleIdeal.τ).loc Cert.PostSampleIdeal.main_arg7)
      ∧ m' ((c.tc : Thread Cert.PostSampleRefIdeal.nD Cert.PostSampleRefIdeal.τ).loc Cert.PostSampleRefIdeal.main_arg8) = m ((c.tc : Thread Cert.PostSampleIdeal.nD Cert.PostSampleIdeal.τ).loc Cert.PostSampleIdeal.main_arg8)
      ∧ m' ((c.tc : Thread Cert.PostSampleRefIdeal.nD Cert.PostSampleRefIdeal.τ).loc Cert.PostSampleRefIdeal.main_arg9) = m ((c.tc : Thread Cert.PostSampleIdeal.nD Cert.PostSampleIdeal.τ).loc Cert.PostSampleIdeal.main_arg9)
      ∧ m' ((c.tc : Thread Cert.PostSampleRefIdeal.nD Cert.PostSampleRefIdeal.τ).loc Cert.PostSampleRefIdeal.main_arg10) = m ((c.tc : Thread Cert.PostSampleIdeal.nD Cert.PostSampleIdeal.τ).loc Cert.PostSampleIdeal.main_arg10)
      ∧ m' ((c.tc : Thread Cert.PostSampleRefIdeal.nD Cert.PostSampleRefIdeal.τ).loc Cert.PostSampleRefIdeal.main_arg11) = m ((c.tc : Thread Cert.PostSampleIdeal.nD Cert.PostSampleIdeal.τ).loc Cert.PostSampleIdeal.main_arg11)
      ∧ m' ((c.tc : Thread Cert.PostSampleRefIdeal.nD Cert.PostSampleRefIdeal.τ).loc Cert.PostSampleRefIdeal.main_arg12) = m ((c.tc : Thread Cert.PostSampleIdeal.nD Cert.PostSampleIdeal.τ).loc Cert.PostSampleIdeal.main_arg12)) →
    ∃ (v0 : (c : Dev Cert.PostSampleIdeal.nD) → Buf (Elt Ideal) ((c.tc : Thread Cert.PostSampleIdeal.nD Cert.PostSampleIdeal.τ).loc Cert.PostSampleIdeal.main_v30_0)) (v1 : (c : Dev Cert.PostSampleIdeal.nD) → Buf (Elt Ideal) ((c.tc : Thread Cert.PostSampleIdeal.nD Cert.PostSampleIdeal.τ).loc Cert.PostSampleIdeal.main_v30_1)),
      θ_run (Cert.PostSampleIdeal.defs (F := Ideal)) (onTc (τ := Cert.PostSampleIdeal.τ) (Cert.PostSampleIdeal.main (F := Ideal))) ⟨m, fun _ => 0, g⟩ (fun r => ∀ c : Dev Cert.PostSampleIdeal.nD,
          r.2.mem ((c.tc : Thread Cert.PostSampleIdeal.nD Cert.PostSampleIdeal.τ).loc Cert.PostSampleIdeal.main_v30_0) = v0 c
          ∧ r.2.mem ((c.tc : Thread Cert.PostSampleIdeal.nD Cert.PostSampleIdeal.τ).loc Cert.PostSampleIdeal.main_v30_1) = v1 c
          ∧ r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
          ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
          ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
          ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
          ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
          ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
          ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
          ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
          ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8)
          ∧ r.2.mem ((c.tc : Thread Cert.PostSampleIdeal.nD Cert.PostSampleIdeal.τ).loc Cert.PostSampleIdeal.main_arg9) = m ((c.tc : Thread Cert.PostSampleIdeal.nD Cert.PostSampleIdeal.τ).loc Cert.PostSampleIdeal.main_arg9)
          ∧ r.2.mem ((c.tc : Thread Cert.PostSampleIdeal.nD Cert.PostSampleIdeal.τ).loc Cert.PostSampleIdeal.main_arg10) = m ((c.tc : Thread Cert.PostSampleIdeal.nD Cert.PostSampleIdeal.τ).loc Cert.PostSampleIdeal.main_arg10)
          ∧ r.2.mem ((c.tc : Thread Cert.PostSampleIdeal.nD Cert.PostSampleIdeal.τ).loc Cert.PostSampleIdeal.main_arg11) = m ((c.tc : Thread Cert.PostSampleIdeal.nD Cert.PostSampleIdeal.τ).loc Cert.PostSampleIdeal.main_arg11)
          ∧ r.2.mem ((c.tc : Thread Cert.PostSampleIdeal.nD Cert.PostSampleIdeal.τ).loc Cert.PostSampleIdeal.main_arg12) = m ((c.tc : Thread Cert.PostSampleIdeal.nD Cert.PostSampleIdeal.τ).loc Cert.PostSampleIdeal.main_arg12))
      ∧ θ_run (Cert.PostSampleRefIdeal.defs (F := Ideal)) (onTc (τ := Cert.PostSampleRefIdeal.τ) (Cert.PostSampleRefIdeal.main (F := Ideal))) ⟨m', fun _ => 0, g'⟩ (fun r => ∀ c : Dev Cert.PostSampleRefIdeal.nD,
          r.2.mem ((c.tc : Thread Cert.PostSampleRefIdeal.nD Cert.PostSampleRefIdeal.τ).loc Cert.PostSampleRefIdeal.main_v99) = v0 c
          ∧ r.2.mem ((c.tc : Thread Cert.PostSampleRefIdeal.nD Cert.PostSampleRefIdeal.τ).loc Cert.PostSampleRefIdeal.main_v103) = v1 c
          ∧ r.2.mem ((c.tc : Thread Cert.PostSampleRefIdeal.nD Cert.PostSampleRefIdeal.τ).loc Cert.PostSampleRefIdeal.main_arg0) = m' ((c.tc : Thread Cert.PostSampleRefIdeal.nD Cert.PostSampleRefIdeal.τ).loc Cert.PostSampleRefIdeal.main_arg0)
          ∧ r.2.mem ((c.tc : Thread Cert.PostSampleRefIdeal.nD Cert.PostSampleRefIdeal.τ).loc Cert.PostSampleRefIdeal.main_arg1) = m' ((c.tc : Thread Cert.PostSampleRefIdeal.nD Cert.PostSampleRefIdeal.τ).loc Cert.PostSampleRefIdeal.main_arg1)
          ∧ r.2.mem ((c.tc : Thread Cert.PostSampleRefIdeal.nD Cert.PostSampleRefIdeal.τ).loc Cert.PostSampleRefIdeal.main_arg2) = m' ((c.tc : Thread Cert.PostSampleRefIdeal.nD Cert.PostSampleRefIdeal.τ).loc Cert.PostSampleRefIdeal.main_arg2)
          ∧ r.2.mem ((c.tc : Thread Cert.PostSampleRefIdeal.nD Cert.PostSampleRefIdeal.τ).loc Cert.PostSampleRefIdeal.main_arg3) = m' ((c.tc : Thread Cert.PostSampleRefIdeal.nD Cert.PostSampleRefIdeal.τ).loc Cert.PostSampleRefIdeal.main_arg3)
          ∧ r.2.mem ((c.tc : Thread Cert.PostSampleRefIdeal.nD Cert.PostSampleRefIdeal.τ).loc Cert.PostSampleRefIdeal.main_arg4) = m' ((c.tc : Thread Cert.PostSampleRefIdeal.nD Cert.PostSampleRefIdeal.τ).loc Cert.PostSampleRefIdeal.main_arg4)
          ∧ r.2.mem ((c.tc : Thread Cert.PostSampleRefIdeal.nD Cert.PostSampleRefIdeal.τ).loc Cert.PostSampleRefIdeal.main_arg5) = m' ((c.tc : Thread Cert.PostSampleRefIdeal.nD Cert.PostSampleRefIdeal.τ).loc Cert.PostSampleRefIdeal.main_arg5)
          ∧ r.2.mem ((c.tc : Thread Cert.PostSampleRefIdeal.nD Cert.PostSampleRefIdeal.τ).loc Cert.PostSampleRefIdeal.main_arg6) = m' ((c.tc : Thread Cert.PostSampleRefIdeal.nD Cert.PostSampleRefIdeal.τ).loc Cert.PostSampleRefIdeal.main_arg6)
          ∧ r.2.mem ((c.tc : Thread Cert.PostSampleRefIdeal.nD Cert.PostSampleRefIdeal.τ).loc Cert.PostSampleRefIdeal.main_arg7) = m' ((c.tc : Thread Cert.PostSampleRefIdeal.nD Cert.PostSampleRefIdeal.τ).loc Cert.PostSampleRefIdeal.main_arg7)
          ∧ r.2.mem ((c.tc : Thread Cert.PostSampleRefIdeal.nD Cert.PostSampleRefIdeal.τ).loc Cert.PostSampleRefIdeal.main_arg8) = m' ((c.tc : Thread Cert.PostSampleRefIdeal.nD Cert.PostSampleRefIdeal.τ).loc Cert.PostSampleRefIdeal.main_arg8)
          ∧ r.2.mem ((c.tc : Thread Cert.PostSampleRefIdeal.nD Cert.PostSampleRefIdeal.τ).loc Cert.PostSampleRefIdeal.main_arg9) = m' ((c.tc : Thread Cert.PostSampleRefIdeal.nD Cert.PostSampleRefIdeal.τ).loc Cert.PostSampleRefIdeal.main_arg9)
          ∧ r.2.mem ((c.tc : Thread Cert.PostSampleRefIdeal.nD Cert.PostSampleRefIdeal.τ).loc Cert.PostSampleRefIdeal.main_arg10) = m' ((c.tc : Thread Cert.PostSampleRefIdeal.nD Cert.PostSampleRefIdeal.τ).loc Cert.PostSampleRefIdeal.main_arg10)
          ∧ r.2.mem ((c.tc : Thread Cert.PostSampleRefIdeal.nD Cert.PostSampleRefIdeal.τ).loc Cert.PostSampleRefIdeal.main_arg11) = m' ((c.tc : Thread Cert.PostSampleRefIdeal.nD Cert.PostSampleRefIdeal.τ).loc Cert.PostSampleRefIdeal.main_arg11)
          ∧ r.2.mem ((c.tc : Thread Cert.PostSampleRefIdeal.nD Cert.PostSampleRefIdeal.τ).loc Cert.PostSampleRefIdeal.main_arg12) = m' ((c.tc : Thread Cert.PostSampleRefIdeal.nD Cert.PostSampleRefIdeal.τ).loc Cert.PostSampleRefIdeal.main_arg12))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v14) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_PromptAttention_PromptAttentionIdeal : Prop :=
  True

def Claim : Prop :=
  ∃ (hPrePrompt : Cert.PrePrompt.Facts) (hPrePromptIdeal : Cert.PrePromptIdeal.Facts) (hPrePromptRefIdeal : Cert.PrePromptRefIdeal.Facts) (hPostPrompt : Cert.PostPrompt.Facts) (hPostPromptIdeal : Cert.PostPromptIdeal.Facts) (hPostPromptRefIdeal : Cert.PostPromptRefIdeal.Facts) (hPreSample : Cert.PreSample.Facts) (hPreSampleIdeal : Cert.PreSampleIdeal.Facts) (hPreSampleRefIdeal : Cert.PreSampleRefIdeal.Facts) (hPostSample : Cert.PostSample.Facts) (hPostSampleIdeal : Cert.PostSampleIdeal.Facts) (hPostSampleRefIdeal : Cert.PostSampleRefIdeal.Facts) (hMod : Cert.Mod.Facts) (hModIdeal : Cert.ModIdeal.Facts) (hModRefIdeal : Cert.ModRefIdeal.Facts) (hPromptAttention : Cert.PromptAttention.Facts) (hPromptAttentionIdeal : Cert.PromptAttentionIdeal.Facts) (hPre_finite_args : Cert.Pre_finite_args.Facts) (hPre_finite_step : Cert.Pre_finite_step.Facts),
    quiescent_PrePrompt (hPrePrompt := hPrePrompt)
    ∧ quiescent_PrePromptIdeal (hPrePromptIdeal := hPrePromptIdeal)
    ∧ quiescent_PrePromptIdeal_pre_finite_args (hPrePromptIdeal := hPrePromptIdeal) (hPre_finite_args := hPre_finite_args)
    ∧ quiescent_PrePromptRefIdeal (hPrePromptRefIdeal := hPrePromptRefIdeal)
    ∧ quiescent_PrePromptRefIdeal_pre_finite_args (hPrePromptRefIdeal := hPrePromptRefIdeal) (hPre_finite_args := hPre_finite_args)
    ∧ quiescent_PostPrompt (hPostPrompt := hPostPrompt)
    ∧ quiescent_PostPromptIdeal (hPostPromptIdeal := hPostPromptIdeal)
    ∧ quiescent_PostPromptRefIdeal (hPostPromptRefIdeal := hPostPromptRefIdeal)
    ∧ quiescent_PreSample (hPreSample := hPreSample)
    ∧ quiescent_PreSampleIdeal (hPreSampleIdeal := hPreSampleIdeal)
    ∧ quiescent_PreSampleIdeal_pre_finite_step (hPreSampleIdeal := hPreSampleIdeal) (hPre_finite_step := hPre_finite_step)
    ∧ quiescent_PreSampleRefIdeal (hPreSampleRefIdeal := hPreSampleRefIdeal)
    ∧ quiescent_PreSampleRefIdeal_pre_finite_step (hPreSampleRefIdeal := hPreSampleRefIdeal) (hPre_finite_step := hPre_finite_step)
    ∧ quiescent_PostSample (hPostSample := hPostSample)
    ∧ quiescent_PostSampleIdeal (hPostSampleIdeal := hPostSampleIdeal)
    ∧ quiescent_PostSampleRefIdeal (hPostSampleRefIdeal := hPostSampleRefIdeal)
    ∧ quiescent_Mod (hMod := hMod)
    ∧ quiescent_ModIdeal (hModIdeal := hModIdeal)
    ∧ quiescent_ModRefIdeal (hModRefIdeal := hModRefIdeal)
    ∧ quiescent_PromptAttention (hPromptAttention := hPromptAttention)
    ∧ quiescent_PromptAttentionIdeal (hPromptAttentionIdeal := hPromptAttentionIdeal)
    ∧ preserves_PrePrompt_PrePromptIdeal
    ∧ algebraic_PrePromptIdeal_PrePromptRefIdeal_pre_finite_args (hPrePromptIdeal := hPrePromptIdeal) (hPrePromptRefIdeal := hPrePromptRefIdeal) (hPre_finite_args := hPre_finite_args)
    ∧ preserves_PostPrompt_PostPromptIdeal
    ∧ algebraic_PostPromptIdeal_PostPromptRefIdeal (hPostPromptIdeal := hPostPromptIdeal) (hPostPromptRefIdeal := hPostPromptRefIdeal)
    ∧ preserves_PreSample_PreSampleIdeal
    ∧ algebraic_PreSampleIdeal_PreSampleRefIdeal_pre_finite_step (hPreSampleIdeal := hPreSampleIdeal) (hPreSampleRefIdeal := hPreSampleRefIdeal) (hPre_finite_step := hPre_finite_step)
    ∧ preserves_PostSample_PostSampleIdeal
    ∧ algebraic_PostSampleIdeal_PostSampleRefIdeal (hPostSampleIdeal := hPostSampleIdeal) (hPostSampleRefIdeal := hPostSampleRefIdeal)
    ∧ preserves_Mod_ModIdeal
    ∧ algebraic_ModIdeal_ModRefIdeal (hModIdeal := hModIdeal) (hModRefIdeal := hModRefIdeal)
    ∧ preserves_PromptAttention_PromptAttentionIdeal
-- ==== Pre_finite_args.lean ====
abbrev S2x8192x1024 : Shape := ⟨3, ![2, 8192, 1024]⟩
abbrev S2x1x6144 : Shape := ⟨3, ![2, 1, 6144]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S_ : Shape := ⟨0, ![]⟩

class Facts : Prop where
  bcast_S_S2x8192x1024 : S_.BroadcastsInDim S2x8192x1024 (![] : Fin 0 → Fin S2x8192x1024.rank)
  bcast_S_S2x1x6144 : S_.BroadcastsInDim S2x1x6144 (![] : Fin 0 → Fin S2x1x6144.rank)
  bcast_S_S1x1024 : S_.BroadcastsInDim S1x1024 (![] : Fin 0 → Fin S1x1024.rank)
  bcast_S_S1x1024x2048 : S_.BroadcastsInDim S1x1024x2048 (![] : Fin 0 → Fin S1x1024x2048.rank)

variable [Facts]

def fn_part1 {F : FTy → Type} [FloatOps F] (main_arg3 : FVec F S1x1024x2048 .f32) (main_v4 : IVec S2x8192x1024 1) (main_v9 : IVec S2x1x6144 1) (main_v14 : IVec S1x1024 1) (main_v16 : IVec S1x1024x2048 1) : IVec S2x8192x1024 1 × IVec S2x1x6144 1 × IVec S1x1024 1 × IVec S1x1024x2048 1 :=
  let main_cst_6 : FVec F S_ .f32 := constant S_ .f32 0x7F800000#32
  let main_v17 : FVec F S1x1024x2048 .f32 := broadcastInDim S1x1024x2048 ![] bcast_S_S1x1024x2048 main_cst_6
  let main_v18 : IVec S1x1024x2048 1 := cmpf .olt main_arg3 main_v17
  let main_v19 : IVec S1x1024x2048 1 := andi main_v16 main_v18
  (main_v4, main_v9, main_v14, main_v19)

def fn {F : FTy → Type} [FloatOps F] (main_arg0 : FVec F S2x8192x1024 .f32) (main_arg1 : FVec F S2x1x6144 .f32) (main_arg2 : FVec F S1x1024 .f32) (main_arg3 : FVec F S1x1024x2048 .f32) (main_arg4 : FVec F S1x4x128x128 .f32) (main_arg5 : FVec F S1x512 .f32) : IVec S2x8192x1024 1 × IVec S2x1x6144 1 × IVec S1x1024 1 × IVec S1x1024x2048 1 :=
  let main_cst : FVec F S_ .f32 := constant S_ .f32 0xFF800000#32
  let main_v0 : FVec F S2x8192x1024 .f32 := broadcastInDim S2x8192x1024 ![] bcast_S_S2x8192x1024 main_cst
  let main_v1 : IVec S2x8192x1024 1 := cmpf .ogt main_arg0 main_v0
  let main_cst_0 : FVec F S_ .f32 := constant S_ .f32 0x7F800000#32
  let main_v2 : FVec F S2x8192x1024 .f32 := broadcastInDim S2x8192x1024 ![] bcast_S_S2x8192x1024 main_cst_0
  let main_v3 : IVec S2x8192x1024 1 := cmpf .olt main_arg0 main_v2
  let main_v4 : IVec S2x8192x1024 1 := andi main_v1 main_v3
  let main_cst_1 : FVec F S_ .f32 := constant S_ .f32 0xFF800000#32
  let main_v5 : FVec F S2x1x6144 .f32 := broadcastInDim S2x1x6144 ![] bcast_S_S2x1x6144 main_cst_1
  let main_v6 : IVec S2x1x6144 1 := cmpf .ogt main_arg1 main_v5
  let main_cst_2 : FVec F S_ .f32 := constant S_ .f32 0x7F800000#32
  let main_v7 : FVec F S2x1x6144 .f32 := broadcastInDim S2x1x6144 ![] bcast_S_S2x1x6144 main_cst_2
  let main_v8 : IVec S2x1x6144 1 := cmpf .olt main_arg1 main_v7
  let main_v9 : IVec S2x1x6144 1 := andi main_v6 main_v8
  let main_cst_3 : FVec F S_ .f32 := constant S_ .f32 0xFF800000#32
  let main_v10 : FVec F S1x1024 .f32 := broadcastInDim S1x1024 ![] bcast_S_S1x1024 main_cst_3
  let main_v11 : IVec S1x1024 1 := cmpf .ogt main_arg2 main_v10
  let main_cst_4 : FVec F S_ .f32 := constant S_ .f32 0x7F800000#32
  let main_v12 : FVec F S1x1024 .f32 := broadcastInDim S1x1024 ![] bcast_S_S1x1024 main_cst_4
  let main_v13 : IVec S1x1024 1 := cmpf .olt main_arg2 main_v12
  let main_v14 : IVec S1x1024 1 := andi main_v11 main_v13
  let main_cst_5 : FVec F S_ .f32 := constant S_ .f32 0xFF800000#32
  let main_v15 : FVec F S1x1024x2048 .f32 := broadcastInDim S1x1024x2048 ![] bcast_S_S1x1024x2048 main_cst_5
  let main_v16 : IVec S1x1024x2048 1 := cmpf .ogt main_arg3 main_v15
  fn_part1 (F := F) main_arg3 main_v4 main_v9 main_v14 main_v16
-- ==== Pre_finite_step.lean ====
abbrev S128x1x1024 : Shape := ⟨3, ![128, 1, 1024]⟩
abbrev S128x6144 : Shape := ⟨2, ![128, 6144]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S1x128x15x512 : Shape := ⟨4, ![1, 128, 15, 512]⟩
abbrev S_ : Shape := ⟨0, ![]⟩

class Facts : Prop where
  bcast_S_S128x1x1024 : S_.BroadcastsInDim S128x1x1024 (![] : Fin 0 → Fin S128x1x1024.rank)
  bcast_S_S128x6144 : S_.BroadcastsInDim S128x6144 (![] : Fin 0 → Fin S128x6144.rank)
  bcast_S_S1x1024 : S_.BroadcastsInDim S1x1024 (![] : Fin 0 → Fin S1x1024.rank)
  bcast_S_S1x1024x2048 : S_.BroadcastsInDim S1x1024x2048 (![] : Fin 0 → Fin S1x1024x2048.rank)
  bcast_S_S1x128x15x512 : S_.BroadcastsInDim S1x128x15x512 (![] : Fin 0 → Fin S1x128x15x512.rank)

variable [Facts]

def fn_part1 {F : FTy → Type} [FloatOps F] (main_arg3 : FVec F S1x1024x2048 .f32) (main_arg6 : FVec F S1x128x15x512 .f32) (main_v4 : IVec S128x1x1024 1) (main_v9 : IVec S128x6144 1) (main_v14 : IVec S1x1024 1) (main_v16 : IVec S1x1024x2048 1) : IVec S128x1x1024 1 × IVec S128x6144 1 × IVec S1x1024 1 × IVec S1x1024x2048 1 × IVec S1x128x15x512 1 :=
  let main_cst_6 : FVec F S_ .f32 := constant S_ .f32 0x7F800000#32
  let main_v17 : FVec F S1x1024x2048 .f32 := broadcastInDim S1x1024x2048 ![] bcast_S_S1x1024x2048 main_cst_6
  let main_v18 : IVec S1x1024x2048 1 := cmpf .olt main_arg3 main_v17
  let main_v19 : IVec S1x1024x2048 1 := andi main_v16 main_v18
  let main_cst_7 : FVec F S_ .f32 := constant S_ .f32 0xFF800000#32
  let main_v20 : FVec F S1x128x15x512 .f32 := broadcastInDim S1x128x15x512 ![] bcast_S_S1x128x15x512 main_cst_7
  let main_v21 : IVec S1x128x15x512 1 := cmpf .ogt main_arg6 main_v20
  let main_cst_8 : FVec F S_ .f32 := constant S_ .f32 0x7F800000#32
  let main_v22 : FVec F S1x128x15x512 .f32 := broadcastInDim S1x128x15x512 ![] bcast_S_S1x128x15x512 main_cst_8
  let main_v23 : IVec S1x128x15x512 1 := cmpf .olt main_arg6 main_v22
  let main_v24 : IVec S1x128x15x512 1 := andi main_v21 main_v23
  (main_v4, main_v9, main_v14, main_v19, main_v24)

def fn {F : FTy → Type} [FloatOps F] (main_arg0 : FVec F S128x1x1024 .f32) (main_arg1 : FVec F S128x6144 .f32) (main_arg2 : FVec F S1x1024 .f32) (main_arg3 : FVec F S1x1024x2048 .f32) (main_arg4 : FVec F S1x4x128x128 .f32) (main_arg5 : FVec F S1x512 .f32) (main_arg6 : FVec F S1x128x15x512 .f32) : IVec S128x1x1024 1 × IVec S128x6144 1 × IVec S1x1024 1 × IVec S1x1024x2048 1 × IVec S1x128x15x512 1 :=
  let main_cst : FVec F S_ .f32 := constant S_ .f32 0xFF800000#32
  let main_v0 : FVec F S128x1x1024 .f32 := broadcastInDim S128x1x1024 ![] bcast_S_S128x1x1024 main_cst
  let main_v1 : IVec S128x1x1024 1 := cmpf .ogt main_arg0 main_v0
  let main_cst_0 : FVec F S_ .f32 := constant S_ .f32 0x7F800000#32
  let main_v2 : FVec F S128x1x1024 .f32 := broadcastInDim S128x1x1024 ![] bcast_S_S128x1x1024 main_cst_0
  let main_v3 : IVec S128x1x1024 1 := cmpf .olt main_arg0 main_v2
  let main_v4 : IVec S128x1x1024 1 := andi main_v1 main_v3
  let main_cst_1 : FVec F S_ .f32 := constant S_ .f32 0xFF800000#32
  let main_v5 : FVec F S128x6144 .f32 := broadcastInDim S128x6144 ![] bcast_S_S128x6144 main_cst_1
  let main_v6 : IVec S128x6144 1 := cmpf .ogt main_arg1 main_v5
  let main_cst_2 : FVec F S_ .f32 := constant S_ .f32 0x7F800000#32
  let main_v7 : FVec F S128x6144 .f32 := broadcastInDim S128x6144 ![] bcast_S_S128x6144 main_cst_2
  let main_v8 : IVec S128x6144 1 := cmpf .olt main_arg1 main_v7
  let main_v9 : IVec S128x6144 1 := andi main_v6 main_v8
  let main_cst_3 : FVec F S_ .f32 := constant S_ .f32 0xFF800000#32
  let main_v10 : FVec F S1x1024 .f32 := broadcastInDim S1x1024 ![] bcast_S_S1x1024 main_cst_3
  let main_v11 : IVec S1x1024 1 := cmpf .ogt main_arg2 main_v10
  let main_cst_4 : FVec F S_ .f32 := constant S_ .f32 0x7F800000#32
  let main_v12 : FVec F S1x1024 .f32 := broadcastInDim S1x1024 ![] bcast_S_S1x1024 main_cst_4
  let main_v13 : IVec S1x1024 1 := cmpf .olt main_arg2 main_v12
  let main_v14 : IVec S1x1024 1 := andi main_v11 main_v13
  let main_cst_5 : FVec F S_ .f32 := constant S_ .f32 0xFF800000#32
  let main_v15 : FVec F S1x1024x2048 .f32 := broadcastInDim S1x1024x2048 ![] bcast_S_S1x1024x2048 main_cst_5
  let main_v16 : IVec S1x1024x2048 1 := cmpf .ogt main_arg3 main_v15
  fn_part1 (F := F) main_arg3 main_arg6 main_v4 main_v9 main_v14 main_v16
-- ==== PrePrompt.lean ====
abbrev S2x8192x1024 : Shape := ⟨3, ![2, 8192, 1024]⟩
abbrev S2x1x6144 : Shape := ⟨3, ![2, 1, 6144]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S2x8192x512 : Shape := ⟨3, ![2, 8192, 512]⟩
abbrev S2x512x8192 : Shape := ⟨3, ![2, 512, 8192]⟩
abbrev S2x32x512x256 : Shape := ⟨4, ![2, 32, 512, 256]⟩
abbrev S2x16x512 : Shape := ⟨3, ![2, 16, 512]⟩
abbrev S1x512x1024 : Shape := ⟨3, ![1, 512, 1024]⟩
abbrev S1x1x6144 : Shape := ⟨3, ![1, 1, 6144]⟩
abbrev S512x128 : Shape := ⟨2, ![512, 128]⟩
abbrev S1x512x512 : Shape := ⟨3, ![1, 512, 512]⟩
abbrev S1x2x512x256 : Shape := ⟨4, ![1, 2, 512, 256]⟩
abbrev S1x16x512 : Shape := ⟨3, ![1, 16, 512]⟩
abbrev S528x512 : Shape := ⟨2, ![528, 512]⟩
abbrev S528x384 : Shape := ⟨2, ![528, 384]⟩
abbrev S528x256 : Shape := ⟨2, ![528, 256]⟩
abbrev S528x128 : Shape := ⟨2, ![528, 128]⟩
abbrev S16x512 : Shape := ⟨2, ![16, 512]⟩
abbrev S16x384 : Shape := ⟨2, ![16, 384]⟩
abbrev S16x256 : Shape := ⟨2, ![16, 256]⟩
abbrev S16x128 : Shape := ⟨2, ![16, 128]⟩
abbrev S512x1024 : Shape := ⟨2, ![512, 1024]⟩
abbrev S1x6144 : Shape := ⟨2, ![1, 6144]⟩
abbrev S512x1 : Shape := ⟨2, ![512, 1]⟩
abbrev S512x2048 : Shape := ⟨2, ![512, 2048]⟩
abbrev S512x512 : Shape := ⟨2, ![512, 512]⟩
abbrev S1x128 : Shape := ⟨2, ![1, 128]⟩
abbrev S256x512 : Shape := ⟨2, ![256, 512]⟩
abbrev S512x256 : Shape := ⟨2, ![512, 256]⟩
abbrev S1x1x512x256 : Shape := ⟨4, ![1, 1, 512, 256]⟩
abbrev S512x384 : Shape := ⟨2, ![512, 384]⟩
abbrev S1x128x128 : Shape := ⟨3, ![1, 128, 128]⟩
abbrev S128x128 : Shape := ⟨2, ![128, 128]⟩

abbrev nBuf : Space → Nat
  | .hbm => 47
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S1x1024, .f32⟩
  | .hbm, ⟨3, _⟩ => ⟨S1x1024x2048, .f32⟩
  | .hbm, ⟨4, _⟩ => ⟨S1x4x128x128, .f32⟩
  | .hbm, ⟨5, _⟩ => ⟨S1x512, .f32⟩
  | .hbm, ⟨6, _⟩ => ⟨S8192, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x64, .f32⟩
  | .hbm, ⟨24, _⟩ => ⟨S1x8192x1x64, .f32⟩
  | .hbm, ⟨25, _⟩ => ⟨S1x8192x2x64, .f32⟩
  | .hbm, ⟨26, _⟩ => ⟨S8192x128, .f32⟩
  | .hbm, ⟨27, _⟩ => ⟨S8192x32, .f32⟩
  | .hbm, ⟨28, _⟩ => ⟨S8192x64, .f32⟩
  | .hbm, ⟨29, _⟩ => ⟨S1x8192x1x64, .f32⟩
  | .hbm, ⟨30, _⟩ => ⟨S1x8192x2x64, .f32⟩
  | .hbm, ⟨31, _⟩ => ⟨S8192x128, .f32⟩
  | .hbm, ⟨32, _⟩ => ⟨S1024, .f32⟩
  | .hbm, ⟨33, _⟩ => ⟨S1x1024, .f32⟩
  | .hbm, ⟨34, _⟩ => ⟨S1024x2048, .f32⟩
  | .hbm, ⟨35, _⟩ => ⟨S1024x2048, .bf16⟩
  | .hbm, ⟨36, _⟩ => ⟨S4x128x128, .f32⟩
  | .hbm, ⟨37, _⟩ => ⟨S4x128x128, .bf16⟩
  | .hbm, ⟨38, _⟩ => ⟨S512, .f32⟩
  | .hbm, ⟨39, _⟩ => ⟨S1x512, .f32⟩
  | .hbm, ⟨40, _⟩ => ⟨S2x8192x512, .f32⟩
  | .hbm, ⟨41, _⟩ => ⟨S2x8192x512, .f32⟩
  | .hbm, ⟨42, _⟩ => ⟨S2x512x8192, .bf16⟩
  | .hbm, ⟨43, _⟩ => ⟨S2x8192x512, .bf16⟩
  | .hbm, ⟨44, _⟩ => ⟨S2x32x512x256, .bf16⟩
  | .hbm, ⟨45, _⟩ => ⟨S2x8192x512, .bf16⟩
  | .hbm, ⟨46, _⟩ => ⟨S2x16x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2048, .bf16⟩
  | .local _ .vmem, ⟨6, _⟩ => ⟨S4x128x128, .bf16⟩
  | .local _ .vmem, ⟨7, _⟩ => ⟨S1x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x2x512x256, .bf16⟩
  | .local _ .vmem, ⟨21, _⟩ => ⟨S1x2x512x256, .bf16⟩
  | .local _ .vmem, ⟨22, _⟩ => ⟨S1x512x512, .bf16⟩
  | .local _ .vmem, ⟨23, _⟩ => ⟨S1x512x512, .bf16⟩
  | .local _ .vmem, ⟨24, _⟩ => ⟨S1x16x512, .f32⟩
  | .local _ .vmem, ⟨25, _⟩ => ⟨S1x16x512, .f32⟩
  | .local _ .vmem, ⟨26, _⟩ => ⟨S528x512, .f32⟩
  | .local _ .vmem, ⟨27, _⟩ => ⟨S528x384, .f32⟩
  | .local _ .vmem, ⟨28, _⟩ => ⟨S528x256, .f32⟩
  | .local _ .vmem, ⟨29, _⟩ => ⟨S528x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32_0 : Ref sig .tc := ⟨.hbm, 40, rfl⟩
abbrev main_v32_1 : Ref sig .tc := ⟨.hbm, 41, rfl⟩
abbrev main_v32_2 : Ref sig .tc := ⟨.hbm, 42, rfl⟩
abbrev main_v32_3 : Ref sig .tc := ⟨.hbm, 43, rfl⟩
abbrev main_v32_4 : Ref sig .tc := ⟨.hbm, 44, rfl⟩
abbrev main_v32_5 : Ref sig .tc := ⟨.hbm, 45, rfl⟩
abbrev main_v32_6 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== PrePromptRefIdeal.lean ====
abbrev S2x8192x1024 : Shape := ⟨3, ![2, 8192, 1024]⟩
abbrev S2x1x6144 : Shape := ⟨3, ![2, 1, 6144]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2048 : Shape := ⟨2, ![1024, 2048]⟩
abbrev S2x8192x2048 : Shape := ⟨3, ![2, 8192, 2048]⟩
abbrev S2x8192x512 : Shape := ⟨3, ![2, 8192, 512]⟩
abbrev S4x128x128 : Shape := ⟨3, ![4, 128, 128]⟩
abbrev S512 : Shape := ⟨1, ![512]⟩
abbrev S2x8193x512 : Shape := ⟨3, ![2, 8193, 512]⟩
abbrev S8192 : Shape := ⟨1, ![8192]⟩
abbrev S2x8193x128 : Shape := ⟨3, ![2, 8193, 128]⟩
abbrev S2x8192x128 : Shape := ⟨3, ![2, 8192, 128]⟩
abbrev S8192x1 : Shape := ⟨2, ![8192, 1]⟩
abbrev S1x8192x1 : Shape := ⟨3, ![1, 8192, 1]⟩
abbrev S2x8192x1x128 : Shape := ⟨4, ![2, 8192, 1, 128]⟩
abbrev S2x8192x4x128 : Shape := ⟨4, ![2, 8192, 4, 128]⟩
abbrev S4x128x2x8192 : Shape := ⟨4, ![4, 128, 2, 8192]⟩
abbrev S1x1x512 : Shape := ⟨3, ![1, 1, 512]⟩
abbrev S2x8192x8x64 : Shape := ⟨4, ![2, 8192, 8, 64]⟩
abbrev S32 : Shape := ⟨1, ![32]⟩
abbrev S1x32 : Shape := ⟨2, ![1, 32]⟩
abbrev S8192x32 : Shape := ⟨2, ![8192, 32]⟩
abbrev S1x8192x1x32 : Shape := ⟨4, ![1, 8192, 1, 32]⟩
abbrev S2x8192x8x32 : Shape := ⟨4, ![2, 8192, 8, 32]⟩
abbrev S2x512x8192 : Shape := ⟨3, ![2, 512, 8192]⟩
abbrev S2x32x256x512 : Shape := ⟨4, ![2, 32, 256, 512]⟩
abbrev S2x32x512x256 : Shape := ⟨4, ![2, 32, 512, 256]⟩
abbrev S2x16x512 : Shape := ⟨3, ![2, 16, 512]⟩

abbrev nBuf : Space → Nat
  | .hbm => 276
  | .vmem => 0
  | .smem => 0
  | _ => 0

abbrev hbmTy0_0 (i : Nat) : BufTy := match i % 128 with
  | 0 => ⟨S2x8192x1024, .f32⟩
  | 1 => ⟨S2x1x6144, .f32⟩
  | 2 => ⟨S1x1024, .f32⟩
  | 3 => ⟨S1x1024x2048, .f32⟩
  | 4 => ⟨S1x4x128x128, .f32⟩
  | 5 => ⟨S1x512, .f32⟩
  | 6 => ⟨S2x1x1024, .f32⟩
  | 7 => ⟨S2x1x1024, .f32⟩
  | 8 => ⟨S2x1x1024, .f32⟩
  | 9 => ⟨S2x1x1024, .f32⟩
  | 10 => ⟨S2x1x1024, .f32⟩
  | 11 => ⟨S2x1x1024, .f32⟩
  | 12 => ⟨S1024, .f32⟩
  | 13 => ⟨S2x8192x1024, .f32⟩
  | 14 => ⟨S_, .f32⟩
  | 15 => ⟨S2x8192, .f32⟩
  | 16 => ⟨S2x8192x1, .f32⟩
  | 17 => ⟨S_, .f32⟩
  | 18 => ⟨S2x8192x1, .f32⟩
  | 19 => ⟨S2x8192x1, .f32⟩
  | 20 => ⟨S_, .f32⟩
  | 21 => ⟨S2x8192x1, .f32⟩
  | 22 => ⟨S2x8192x1, .f32⟩
  | 23 => ⟨S2x8192x1, .f32⟩
  | 24 => ⟨S2x8192x1024, .f32⟩
  | 25 => ⟨S2x8192x1024, .f32⟩
  | 26 => ⟨S1x1x1024, .f32⟩
  | 27 => ⟨S2x8192x1024, .f32⟩
  | 28 => ⟨S2x8192x1024, .f32⟩
  | 29 => ⟨S_, .f32⟩
  | 30 => ⟨S2x1x1024, .f32⟩
  | 31 => ⟨S2x1x1024, .f32⟩
  | 32 => ⟨S2x8192x1024, .f32⟩
  | 33 => ⟨S2x8192x1024, .f32⟩
  | 34 => ⟨S2x8192x1024, .f32⟩
  | 35 => ⟨S2x8192x1024, .f32⟩
  | 36 => ⟨S1024x2048, .f32⟩
  | 37 => ⟨S2x8192x2048, .f32⟩
  | 38 => ⟨S2x8192x512, .f32⟩
  | 39 => ⟨S2x8192x512, .f32⟩
  | 40 => ⟨S2x8192x512, .f32⟩
  | 41 => ⟨S2x8192x512, .f32⟩
  | 42 => ⟨S4x128x128, .f32⟩
  | 43 => ⟨S512, .f32⟩
  | 44 => ⟨S_, .f32⟩
  | 45 => ⟨S_, .f32⟩
  | 46 => ⟨S2x8192x512, .f32⟩
  | 47 => ⟨S_, .i32⟩
  | 48 => ⟨S_, .f32⟩
  | 49 => ⟨S2x8193x512, .f32⟩
  | 50 => ⟨S8192, .i32⟩
  | 51 => ⟨S2x8193x128, .f32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S2x8192x128, .f32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S2x8192x128, .f32⟩
  | 71 => ⟨S2x8192x128, .f32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S8192, .f32⟩
  | 79 => ⟨S8192x1, .f32⟩
  | 80 => ⟨S1x8192x1, .f32⟩
  | 81 => ⟨S2x8192x128, .f32⟩
  | 82 => ⟨S2x8192x128, .f32⟩
  | 83 => ⟨S2x8192x128, .f32⟩
  | 84 => ⟨S2x8192x128, .f32⟩
  | 85 => ⟨S2x8193x128, .f32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S2x8192x128, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S2x8192x128, .f32⟩
  | 105 => ⟨S2x8192x128, .f32⟩
  | 106 => ⟨S_, .i32⟩
  | 107 => ⟨S8192, .i32⟩
  | 108 => ⟨S8192, .i32⟩
  | 109 => ⟨S_, .i32⟩
  | 110 => ⟨S8192, .i32⟩
  | 111 => ⟨S8192, .i32⟩
  | 112 => ⟨S8192, .f32⟩
  | 113 => ⟨S8192x1, .f32⟩
  | 114 => ⟨S1x8192x1, .f32⟩
  | 115 => ⟨S2x8192x128, .f32⟩
  | 116 => ⟨S2x8192x128, .f32⟩
  | 117 => ⟨S2x8192x128, .f32⟩
  | 118 => ⟨S2x8192x128, .f32⟩
  | 119 => ⟨S2x8193x128, .f32⟩
  | 120 => ⟨S_, .i32⟩
  | 121 => ⟨S8192, .i32⟩
  | 122 => ⟨S8192, .i32⟩
  | 123 => ⟨S_, .i32⟩
  | 124 => ⟨S8192, .i32⟩
  | 125 => ⟨S8192, .i32⟩
  | 126 => ⟨S_, .i32⟩
  | 127 => ⟨S8192, .i32⟩
  | _ => ⟨S2x8192x1024, .f32⟩

abbrev hbmTy0_1 (i : Nat) : BufTy := match i % 128 with
  | 0 => ⟨S8192, .i32⟩
  | 1 => ⟨S2x8192x128, .f32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S2x8192x128, .f32⟩
  | 11 => ⟨S2x8192x128, .f32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S8192, .f32⟩
  | 19 => ⟨S8192x1, .f32⟩
  | 20 => ⟨S1x8192x1, .f32⟩
  | 21 => ⟨S2x8192x128, .f32⟩
  | 22 => ⟨S2x8192x128, .f32⟩
  | 23 => ⟨S2x8192x128, .f32⟩
  | 24 => ⟨S2x8192x128, .f32⟩
  | 25 => ⟨S2x8193x128, .f32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S2x8192x128, .f32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S2x8192x128, .f32⟩
  | 45 => ⟨S2x8192x128, .f32⟩
  | 46 => ⟨S_, .i32⟩
  | 47 => ⟨S8192, .i32⟩
  | 48 => ⟨S8192, .i32⟩
  | 49 => ⟨S_, .i32⟩
  | 50 => ⟨S8192, .i32⟩
  | 51 => ⟨S8192, .i32⟩
  | 52 => ⟨S8192, .f32⟩
  | 53 => ⟨S8192x1, .f32⟩
  | 54 => ⟨S1x8192x1, .f32⟩
  | 55 => ⟨S2x8192x128, .f32⟩
  | 56 => ⟨S2x8192x128, .f32⟩
  | 57 => ⟨S2x8192x128, .f32⟩
  | 58 => ⟨S2x8192x128, .f32⟩
  | 59 => ⟨S2x8192x1x128, .f32⟩
  | 60 => ⟨S2x8192x1x128, .f32⟩
  | 61 => ⟨S2x8192x1x128, .f32⟩
  | 62 => ⟨S2x8192x1x128, .f32⟩
  | 63 => ⟨S2x8192x4x128, .f32⟩
  | 64 => ⟨S4x128x2x8192, .f32⟩
  | 65 => ⟨S2x8192x4x128, .f32⟩
  | 66 => ⟨S2x8192x512, .f32⟩
  | 67 => ⟨S1x1x512, .f32⟩
  | 68 => ⟨S2x8192x512, .f32⟩
  | 69 => ⟨S2x8192x512, .f32⟩
  | 70 => ⟨S8192, .i32⟩
  | 71 => ⟨S2x8192x8x64, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S8192, .f32⟩
  | 81 => ⟨S8192x1, .f32⟩
  | 82 => ⟨S1x32, .f32⟩
  | 83 => ⟨S8192x32, .f32⟩
  | 84 => ⟨S8192x32, .f32⟩
  | 85 => ⟨S8192x32, .f32⟩
  | 86 => ⟨S8192x32, .f32⟩
  | 87 => ⟨S1x8192x1x32, .f32⟩
  | 88 => ⟨S8192x32, .f32⟩
  | 89 => ⟨S1x8192x1x32, .f32⟩
  | 90 => ⟨S2x8192x8x32, .f32⟩
  | 91 => ⟨S2x8192x8x32, .f32⟩
  | 92 => ⟨S2x8192x8x32, .f32⟩
  | 93 => ⟨S2x8192x8x32, .f32⟩
  | 94 => ⟨S2x8192x8x32, .f32⟩
  | 95 => ⟨S2x8192x8x32, .f32⟩
  | 96 => ⟨S2x8192x8x32, .f32⟩
  | 97 => ⟨S2x8192x8x32, .f32⟩
  | 98 => ⟨S2x8192x8x32, .f32⟩
  | 99 => ⟨S2x8192x8x32, .f32⟩
  | 100 => ⟨S2x8192x8x32, .f32⟩
  | 101 => ⟨S2x8192x8x32, .f32⟩
  | 102 => ⟨S2x8192x8x64, .f32⟩
  | 103 => ⟨S2x8192x512, .f32⟩
  | 104 => ⟨S2x8192x8x64, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S8192, .f32⟩
  | 114 => ⟨S8192x1, .f32⟩
  | 115 => ⟨S1x32, .f32⟩
  | 116 => ⟨S8192x32, .f32⟩
  | 117 => ⟨S8192x32, .f32⟩
  | 118 => ⟨S8192x32, .f32⟩
  | 119 => ⟨S8192x32, .f32⟩
  | 120 => ⟨S1x8192x1x32, .f32⟩
  | 121 => ⟨S8192x32, .f32⟩
  | 122 => ⟨S1x8192x1x32, .f32⟩
  | 123 => ⟨S2x8192x8x32, .f32⟩
  | 124 => ⟨S2x8192x8x32, .f32⟩
  | 125 => ⟨S2x8192x8x32, .f32⟩
  | 126 => ⟨S2x8192x8x32, .f32⟩
  | 127 => ⟨S2x8192x8x32, .f32⟩
  | _ => ⟨S2x8192x1024, .f32⟩

abbrev hbmTy0_2 (i : Nat) : BufTy := match i % 128 with
  | 0 => ⟨S2x8192x8x32, .f32⟩
  | 1 => ⟨S2x8192x8x32, .f32⟩
  | 2 => ⟨S2x8192x8x32, .f32⟩
  | 3 => ⟨S2x8192x8x32, .f32⟩
  | 4 => ⟨S2x8192x8x32, .f32⟩
  | 5 => ⟨S2x8192x8x32, .f32⟩
  | 6 => ⟨S2x8192x8x32, .f32⟩
  | 7 => ⟨S2x8192x8x64, .f32⟩
  | 8 => ⟨S2x8192x512, .f32⟩
  | 9 => ⟨S_, .f32⟩
  | 10 => ⟨S2x8192x512, .f32⟩
  | 11 => ⟨S2x8192x512, .f32⟩
  | 12 => ⟨S2x512x8192, .f32⟩
  | 13 => ⟨S2x512x8192, .bf16⟩
  | 14 => ⟨S2x32x256x512, .f32⟩
  | 15 => ⟨S2x32x512x256, .f32⟩
  | 16 => ⟨S2x32x512x256, .bf16⟩
  | 17 => ⟨S2x8192x512, .bf16⟩
  | 18 => ⟨S2x8192x512, .bf16⟩
  | 19 => ⟨S2x16x512, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_call0_cst : Ref sig .tc := ⟨.hbm, 44, rfl⟩
abbrev main_call0_call0_v0 : Ref sig .tc := ⟨.hbm, 45, rfl⟩
abbrev main_v34 : Ref sig .tc := ⟨.hbm, 46, rfl⟩
abbrev main_c : Ref sig .tc := ⟨.hbm, 47, rfl⟩
abbrev main_call1_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_3 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_8 : Ref sig .tc := ⟨.hbm, 72, rfl⟩
abbrev main_v53 : Ref sig .tc := ⟨.hbm, 73, rfl⟩
abbrev main_v54 : Ref sig .tc := ⟨.hbm, 74, rfl⟩
abbrev main_c_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_10 : Ref sig .tc := ⟨.hbm, 86, rfl⟩
abbrev main_v65 : Ref sig .tc := ⟨.hbm, 87, rfl⟩
abbrev main_v66 : Ref sig .tc := ⟨.hbm, 88, rfl⟩
abbrev main_c_11 : Ref sig .tc := ⟨.hbm, 89, rfl⟩
abbrev main_v67 : Ref sig .tc := ⟨.hbm, 90, rfl⟩
abbrev main_v68 : Ref sig .tc := ⟨.hbm, 91, rfl⟩
abbrev main_c_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_13 : Ref sig .tc := ⟨.hbm, 96, rfl⟩
abbrev main_v72 : Ref sig .tc := ⟨.hbm, 97, rfl⟩
abbrev main_v73 : Ref sig .tc := ⟨.hbm, 98, rfl⟩
abbrev main_c_14 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_15 : Ref sig .tc := ⟨.hbm, 106, rfl⟩
abbrev main_v80 : Ref sig .tc := ⟨.hbm, 107, rfl⟩
abbrev main_v81 : Ref sig .tc := ⟨.hbm, 108, rfl⟩
abbrev main_c_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_17 : Ref sig .tc := ⟨.hbm, 120, rfl⟩
abbrev main_v92 : Ref sig .tc := ⟨.hbm, 121, rfl⟩
abbrev main_v93 : Ref sig .tc := ⟨.hbm, 122, rfl⟩
abbrev main_c_18 : Ref sig .tc := ⟨.hbm, 123, rfl⟩
abbrev main_v94 : Ref sig .tc := ⟨.hbm, 124, rfl⟩
abbrev main_v95 : Ref sig .tc := ⟨.hbm, 125, rfl⟩
abbrev main_c_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_20 : Ref sig .tc := ⟨.hbm, 130, rfl⟩
abbrev main_v99 : Ref sig .tc := ⟨.hbm, 131, rfl⟩
abbrev main_v100 : Ref sig .tc := ⟨.hbm, 132, rfl⟩
abbrev main_c_21 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_22 : Ref sig .tc := ⟨.hbm, 140, rfl⟩
abbrev main_v107 : Ref sig .tc := ⟨.hbm, 141, rfl⟩
abbrev main_v108 : Ref sig .tc := ⟨.hbm, 142, rfl⟩
abbrev main_c_23 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_c_24 : Ref sig .tc := ⟨.hbm, 154, rfl⟩
abbrev main_v119 : Ref sig .tc := ⟨.hbm, 155, rfl⟩
abbrev main_v120 : Ref sig .tc := ⟨.hbm, 156, rfl⟩
abbrev main_c_25 : Ref sig .tc := ⟨.hbm, 157, rfl⟩
abbrev main_v121 : Ref sig .tc := ⟨.hbm, 158, rfl⟩
abbrev main_v122 : Ref sig .tc := ⟨.hbm, 159, rfl⟩
abbrev main_c_26 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_c_27 : Ref sig .tc := ⟨.hbm, 164, rfl⟩
abbrev main_v126 : Ref sig .tc := ⟨.hbm, 165, rfl⟩
abbrev main_v127 : Ref sig .tc := ⟨.hbm, 166, rfl⟩
abbrev main_c_28 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_c_29 : Ref sig .tc := ⟨.hbm, 174, rfl⟩
abbrev main_v134 : Ref sig .tc := ⟨.hbm, 175, rfl⟩
abbrev main_v135 : Ref sig .tc := ⟨.hbm, 176, rfl⟩
abbrev main_c_30 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_31 : Ref sig .tc := ⟨.hbm, 202, rfl⟩
abbrev main_v160 : Ref sig .tc := ⟨.hbm, 203, rfl⟩
abbrev main_v161 : Ref sig .tc := ⟨.hbm, 204, rfl⟩
abbrev main_cst_32 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_cst_33 : Ref sig .tc := ⟨.hbm, 235, rfl⟩
abbrev main_v191 : Ref sig .tc := ⟨.hbm, 236, rfl⟩
abbrev main_v192 : Ref sig .tc := ⟨.hbm, 237, rfl⟩
abbrev main_cst_34 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_cst_35 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩

abbrev nD : Nat := 1
abbrev τ : Topo := Topo.v7x

variable {F : FTy → Type} [FloatOps F]
-- ==== PostPrompt.lean ====
abbrev S2x8192x1024 : Shape := ⟨3, ![2, 8192, 1024]⟩
abbrev S2x8192x512 : Shape := ⟨3, ![2, 8192, 512]⟩
abbrev S2x512x8192 : Shape := ⟨3, ![2, 512, 8192]⟩
abbrev S2x1x6144 : Shape := ⟨3, ![2, 1, 6144]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x512x1024 : Shape := ⟨3, ![1, 512, 1024]⟩
abbrev S512x1024 : Shape := ⟨2, ![512, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x8x5632 : Shape := ⟨3, ![2, 8, 5632]⟩
abbrev S1x256x1024 : Shape := ⟨3, ![1, 256, 1024]⟩
abbrev S1x256x512 : Shape := ⟨3, ![1, 256, 512]⟩
abbrev S1x512x256 : Shape := ⟨3, ![1, 512, 256]⟩
abbrev S1x1x6144 : Shape := ⟨3, ![1, 1, 6144]⟩
abbrev S1x8x5632 : Shape := ⟨3, ![1, 8, 5632]⟩
abbrev S8x5632 : Shape := ⟨2, ![8, 5632]⟩
abbrev S264x1408 : Shape := ⟨2, ![264, 1408]⟩
abbrev S256x1024 : Shape := ⟨2, ![256, 1024]⟩
abbrev S1x6144 : Shape := ⟨2, ![1, 6144]⟩
abbrev S256x512 : Shape := ⟨2, ![256, 512]⟩
abbrev S512x256 : Shape := ⟨2, ![512, 256]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S8x1408 : Shape := ⟨2, ![8, 1408]⟩
abbrev S1x1408 : Shape := ⟨2, ![1, 1408]⟩
abbrev S1408x1024 : Shape := ⟨2, ![1408, 1024]⟩

abbrev nBuf : Space → Nat
  | .hbm => 33
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x512x8192, .bf16⟩
  | .hbm, ⟨3, _⟩ => ⟨S2x1x6144, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x5632, .f32⟩
  | .hbm, ⟨9, _⟩ => ⟨S1x3x5632, .f32⟩
  | .hbm, ⟨10, _⟩ => ⟨S1x5632, .f32⟩
  | .hbm, ⟨11, _⟩ => ⟨S1x2816x1024, .f32⟩
  | .hbm, ⟨12, _⟩ => ⟨S1x512x1024, .f32⟩
  | .hbm, ⟨13, _⟩ => ⟨S512x1024, .f32⟩
  | .hbm, ⟨14, _⟩ => ⟨S512x1024, .bf16⟩
  | .hbm, ⟨15, _⟩ => ⟨S1x512x1024, .f32⟩
  | .hbm, ⟨16, _⟩ => ⟨S512x1024, .f32⟩
  | .hbm, ⟨17, _⟩ => ⟨S512x1024, .bf16⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024x5632, .f32⟩
  | .hbm, ⟨25, _⟩ => ⟨S1024x5632, .bf16⟩
  | .hbm, ⟨26, _⟩ => ⟨S3x5632, .f32⟩
  | .hbm, ⟨27, _⟩ => ⟨S5632, .f32⟩
  | .hbm, ⟨28, _⟩ => ⟨S1x5632, .f32⟩
  | .hbm, ⟨29, _⟩ => ⟨S2816x1024, .f32⟩
  | .hbm, ⟨30, _⟩ => ⟨S2816x1024, .bf16⟩
  | .hbm, ⟨31, _⟩ => ⟨S2x8192x1024, .f32⟩
  | .hbm, ⟨32, _⟩ => ⟨S2x8x5632, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x1x6144, .f32⟩
  | .local _ .vmem, ⟨7, _⟩ => ⟨S1x1x6144, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1x256x1024, .f32⟩
  | .local _ .vmem, ⟨18, _⟩ => ⟨S1x256x1024, .f32⟩
  | .local _ .vmem, ⟨19, _⟩ => ⟨S1x8x5632, .f32⟩
  | .local _ .vmem, ⟨20, _⟩ => ⟨S1x8x5632, .f32⟩
  | .local _ .vmem, ⟨21, _⟩ => ⟨S8x5632, .f32⟩
  | .local _ .vmem, ⟨22, _⟩ => ⟨S264x1408, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x5632 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== PostPromptRefIdeal.lean ====
abbrev S2x8192x1024 : Shape := ⟨3, ![2, 8192, 1024]⟩
abbrev S2x8192x512 : Shape := ⟨3, ![2, 8192, 512]⟩
abbrev S2x512x8192 : Shape := ⟨3, ![2, 512, 8192]⟩
abbrev S2x1x6144 : Shape := ⟨3, ![2, 1, 6144]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S2x1x1024 : Shape := ⟨3, ![2, 1, 1024]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S2x2x5632 : Shape := ⟨3, ![2, 2, 5632]⟩
abbrev S2x8194x5632 : Shape := ⟨3, ![2, 8194, 5632]⟩
abbrev S5632 : Shape := ⟨1, ![5632]⟩
abbrev S1x1x5632 : Shape := ⟨3, ![1, 1, 5632]⟩
abbrev S2x8192x2816 : Shape := ⟨3, ![2, 8192, 2816]⟩
abbrev S2816x1024 : Shape := ⟨2, ![2816, 1024]⟩
abbrev S2x8x5632 : Shape := ⟨3, ![2, 8, 5632]⟩

abbrev nBuf : Space → Nat
  | .hbm => 135
  | .vmem => 0
  | .smem => 0
  | _ => 0

abbrev hbmTy0_0 (i : Nat) : BufTy := match i % 128 with
  | 0 => ⟨S2x8192x1024, .f32⟩
  | 1 => ⟨S2x8192x512, .bf16⟩
  | 2 => ⟨S2x512x8192, .bf16⟩
  | 3 => ⟨S2x1x6144, .f32⟩
  | 4 => ⟨S1x1024x1024, .f32⟩
  | 5 => ⟨S1x1024, .f32⟩
  | 6 => ⟨S1x1024, .f32⟩
  | 7 => ⟨S1x1024, .f32⟩
  | 8 => ⟨S1x1024x5632, .f32⟩
  | 9 => ⟨S1x3x5632, .f32⟩
  | 10 => ⟨S1x5632, .f32⟩
  | 11 => ⟨S1x2816x1024, .f32⟩
  | 12 => ⟨S2x1x1024, .f32⟩
  | 13 => ⟨S2x1x1024, .f32⟩
  | 14 => ⟨S2x1x1024, .f32⟩
  | 15 => ⟨S2x1x1024, .f32⟩
  | 16 => ⟨S2x1x1024, .f32⟩
  | 17 => ⟨S2x1x1024, .f32⟩
  | 18 => ⟨S2x512x8192, .f32⟩
  | 19 => ⟨S2x8192x512, .f32⟩
  | 20 => ⟨S2x8192x512, .f32⟩
  | 21 => ⟨S2x8192x1024, .f32⟩
  | 22 => ⟨S1024x1024, .f32⟩
  | 23 => ⟨S2x8192x1024, .f32⟩
  | 24 => ⟨S1024, .f32⟩
  | 25 => ⟨S2x8192x1024, .f32⟩
  | 26 => ⟨S_, .f32⟩
  | 27 => ⟨S2x8192, .f32⟩
  | 28 => ⟨S2x8192x1, .f32⟩
  | 29 => ⟨S_, .f32⟩
  | 30 => ⟨S2x8192x1, .f32⟩
  | 31 => ⟨S2x8192x1, .f32⟩
  | 32 => ⟨S_, .f32⟩
  | 33 => ⟨S2x8192x1, .f32⟩
  | 34 => ⟨S2x8192x1, .f32⟩
  | 35 => ⟨S2x8192x1, .f32⟩
  | 36 => ⟨S2x8192x1024, .f32⟩
  | 37 => ⟨S2x8192x1024, .f32⟩
  | 38 => ⟨S1x1x1024, .f32⟩
  | 39 => ⟨S2x8192x1024, .f32⟩
  | 40 => ⟨S2x8192x1024, .f32⟩
  | 41 => ⟨S2x8192x1024, .f32⟩
  | 42 => ⟨S2x8192x1024, .f32⟩
  | 43 => ⟨S2x8192x1024, .f32⟩
  | 44 => ⟨S1024, .f32⟩
  | 45 => ⟨S2x8192x1024, .f32⟩
  | 46 => ⟨S_, .f32⟩
  | 47 => ⟨S2x8192, .f32⟩
  | 48 => ⟨S2x8192x1, .f32⟩
  | 49 => ⟨S_, .f32⟩
  | 50 => ⟨S2x8192x1, .f32⟩
  | 51 => ⟨S2x8192x1, .f32⟩
  | 52 => ⟨S_, .f32⟩
  | 53 => ⟨S2x8192x1, .f32⟩
  | 54 => ⟨S2x8192x1, .f32⟩
  | 55 => ⟨S2x8192x1, .f32⟩
  | 56 => ⟨S2x8192x1024, .f32⟩
  | 57 => ⟨S2x8192x1024, .f32⟩
  | 58 => ⟨S1x1x1024, .f32⟩
  | 59 => ⟨S2x8192x1024, .f32⟩
  | 60 => ⟨S2x8192x1024, .f32⟩
  | 61 => ⟨S_, .f32⟩
  | 62 => ⟨S2x1x1024, .f32⟩
  | 63 => ⟨S2x1x1024, .f32⟩
  | 64 => ⟨S2x8192x1024, .f32⟩
  | 65 => ⟨S2x8192x1024, .f32⟩
  | 66 => ⟨S2x8192x1024, .f32⟩
  | 67 => ⟨S2x8192x1024, .f32⟩
  | 68 => ⟨S1024x5632, .f32⟩
  | 69 => ⟨S2x8192x5632, .f32⟩
  | 70 => ⟨S_, .f32⟩
  | 71 => ⟨S2x2x5632, .f32⟩
  | 72 => ⟨S2x8194x5632, .f32⟩
  | 73 => ⟨S5632, .f32⟩
  | 74 => ⟨S1x1x5632, .f32⟩
  | 75 => ⟨S5632, .f32⟩
  | 76 => ⟨S2x8192x5632, .f32⟩
  | 77 => ⟨S1x1x5632, .f32⟩
  | 78 => ⟨S2x8192x5632, .f32⟩
  | 79 => ⟨S2x8192x5632, .f32⟩
  | 80 => ⟨S_, .f32⟩
  | 81 => ⟨S2x8192x5632, .f32⟩
  | 82 => ⟨S2x8192x5632, .f32⟩
  | 83 => ⟨S1x1x5632, .f32⟩
  | 84 => ⟨S5632, .f32⟩
  | 85 => ⟨S2x8192x5632, .f32⟩
  | 86 => ⟨S1x1x5632, .f32⟩
  | 87 => ⟨S2x8192x5632, .f32⟩
  | 88 => ⟨S2x8192x5632, .f32⟩
  | 89 => ⟨S2x8192x5632, .f32⟩
  | 90 => ⟨S1x1x5632, .f32⟩
  | 91 => ⟨S5632, .f32⟩
  | 92 => ⟨S2x8192x5632, .f32⟩
  | 93 => ⟨S1x1x5632, .f32⟩
  | 94 => ⟨S2x8192x5632, .f32⟩
  | 95 => ⟨S2x8192x5632, .f32⟩
  | 96 => ⟨S2x8192x5632, .f32⟩
  | 97 => ⟨S1x1x5632, .f32⟩
  | 98 => ⟨S2x8192x5632, .f32⟩
  | 99 => ⟨S2x8192x5632, .f32⟩
  | 100 => ⟨S2x8192x2816, .f32⟩
  | 101 => ⟨S2x8192x2816, .f32⟩
  | 102 => ⟨S2x8192x2816, .f32⟩
  | 103 => ⟨S2x8192x2816, .f32⟩
  | 104 => ⟨S_, .f32⟩
  | 105 => ⟨S2x8192x2816, .f32⟩
  | 106 => ⟨S2x8192x2816, .f32⟩
  | 107 => ⟨S_, .f32⟩
  | 108 => ⟨S2x8192x2816, .f32⟩
  | 109 => ⟨S2x8192x2816, .f32⟩
  | 110 => ⟨S2x8192x2816, .f32⟩
  | 111 => ⟨S2x8192x2816, .f32⟩
  | 112 => ⟨S2816x1024, .f32⟩
  | 113 => ⟨S2x8192x1024, .f32⟩
  | 114 => ⟨S1024, .f32⟩
  | 115 => ⟨S2x8192x1024, .f32⟩
  | 116 => ⟨S_, .f32⟩
  | 117 => ⟨S2x8192, .f32⟩
  | 118 => ⟨S2x8192x1, .f32⟩
  | 119 => ⟨S_, .f32⟩
  | 120 => ⟨S2x8192x1, .f32⟩
  | 121 => ⟨S2x8192x1, .f32⟩
  | 122 => ⟨S_, .f32⟩
  | 123 => ⟨S2x8192x1, .f32⟩
  | 124 => ⟨S2x8192x1, .f32⟩
  | 125 => ⟨S2x8192x1, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S1x1x1024, .f32⟩
  | 1 => ⟨S2x8192x1024, .f32⟩
  | 2 => ⟨S2x8192x1024, .f32⟩
  | 3 => ⟨S2x8192x1024, .f32⟩
  | 4 => ⟨S2x8192x1024, .f32⟩
  | 5 => ⟨S2x8192x1024, .f32⟩
  | 6 => ⟨S2x8x5632, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_call0_v0 : Ref sig .tc := ⟨.hbm, 102, rfl⟩
abbrev main_call0_v1 : Ref sig .tc := ⟨.hbm, 103, rfl⟩
abbrev main_call0_cst : Ref sig .tc := ⟨.hbm, 104, rfl⟩
abbrev main_call0_v2 : Ref sig .tc := ⟨.hbm, 105, rfl⟩
abbrev main_call0_v3 : Ref sig .tc := ⟨.hbm, 106, rfl⟩
abbrev main_call0_cst_0 : Ref sig .tc := ⟨.hbm, 107, rfl⟩
abbrev main_call0_v4 : Ref sig .tc := ⟨.hbm, 108, rfl⟩
abbrev main_call0_v5 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_8 : Ref sig .tc := ⟨.hbm, 116, rfl⟩
abbrev main_v87 : Ref sig .tc := ⟨.hbm, 117, rfl⟩
abbrev main_v88 : Ref sig .tc := ⟨.hbm, 118, rfl⟩
abbrev main_cst_9 : Ref sig .tc := ⟨.hbm, 119, rfl⟩
abbrev main_v89 : Ref sig .tc := ⟨.hbm, 120, rfl⟩
abbrev main_v90 : Ref sig .tc := ⟨.hbm, 121, rfl⟩
abbrev main_cst_10 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== PreSample.lean ====
abbrev S128x1x1024 : Shape := ⟨3, ![128, 1, 1024]⟩
abbrev S128x6144 : Shape := ⟨2, ![128, 6144]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S1x128x15x512 : Shape := ⟨4, ![1, 128, 15, 512]⟩
abbrev S1 : Shape := ⟨1, ![1]⟩
abbrev S_ : Shape := ⟨0, ![]⟩
abbrev S32 : Shape := ⟨1, ![32]⟩
abbrev S1x1 : Shape := ⟨2, ![1, 1]⟩
abbrev S1x32 : Shape := ⟨2, ![1, 32]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S128x1024 : Shape := ⟨2, ![128, 1024]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S128x15x512 : Shape := ⟨3, ![128, 15, 512]⟩
abbrev S128x512 : Shape := ⟨2, ![128, 512]⟩
abbrev S128 : Shape := ⟨1, ![128]⟩
abbrev S128x1 : Shape := ⟨2, ![128, 1]⟩
abbrev S128x2048 : Shape := ⟨2, ![128, 2048]⟩
abbrev S128x128 : Shape := ⟨2, ![128, 128]⟩
abbrev S128x1x128 : Shape := ⟨3, ![128, 1, 128]⟩
abbrev S128x3x128 : Shape := ⟨3, ![128, 3, 128]⟩
abbrev S128x7x128 : Shape := ⟨3, ![128, 7, 128]⟩
abbrev S128x15x128 : Shape := ⟨3, ![128, 15, 128]⟩
abbrev S1x128x128 : Shape := ⟨3, ![1, 128, 128]⟩

abbrev nBuf : Space → Nat
  | .hbm => 50
  | .vmem => 14
  | .smem => 0
  | _ => 0

abbrev bufTy : (tb : Table) → Fin (tcTables nBuf tb) → BufTy
  | .hbm, ⟨0, _⟩ => ⟨S128x1x1024, .f32⟩
  | .hbm, ⟨1, _⟩ => ⟨S128x6144, .f32⟩
  | .hbm, ⟨2, _⟩ => ⟨S1x1024, .f32⟩
  | .hbm, ⟨3, _⟩ => ⟨S1x1024x2048, .f32⟩
  | .hbm, ⟨4, _⟩ => ⟨S1x4x128x128, .f32⟩
  | .hbm, ⟨5, _⟩ => ⟨S1x512, .f32⟩
  | .hbm, ⟨6, _⟩ => ⟨S1x128x15x512, .f32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1, .f32⟩
  | .hbm, ⟨20, _⟩ => ⟨S1x1, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x64, .f32⟩
  | .hbm, ⟨27, _⟩ => ⟨S1x1x1x64, .f32⟩
  | .hbm, ⟨28, _⟩ => ⟨S1x1x2x64, .f32⟩
  | .hbm, ⟨29, _⟩ => ⟨S1x128, .f32⟩
  | .hbm, ⟨30, _⟩ => ⟨S1x32, .f32⟩
  | .hbm, ⟨31, _⟩ => ⟨S1x64, .f32⟩
  | .hbm, ⟨32, _⟩ => ⟨S1x1x1x64, .f32⟩
  | .hbm, ⟨33, _⟩ => ⟨S1x1x2x64, .f32⟩
  | .hbm, ⟨34, _⟩ => ⟨S1x128, .f32⟩
  | .hbm, ⟨35, _⟩ => ⟨S128x1024, .f32⟩
  | .hbm, ⟨36, _⟩ => ⟨S1024, .f32⟩
  | .hbm, ⟨37, _⟩ => ⟨S1x1024, .f32⟩
  | .hbm, ⟨38, _⟩ => ⟨S1024x2048, .f32⟩
  | .hbm, ⟨39, _⟩ => ⟨S1024x2048, .bf16⟩
  | .hbm, ⟨40, _⟩ => ⟨S4x128x128, .f32⟩
  | .hbm, ⟨41, _⟩ => ⟨S4x128x128, .bf16⟩
  | .hbm, ⟨42, _⟩ => ⟨S512, .f32⟩
  | .hbm, ⟨43, _⟩ => ⟨S1x512, .f32⟩
  | .hbm, ⟨44, _⟩ => ⟨S128x15x512, .f32⟩
  | .hbm, ⟨45, _⟩ => ⟨S128x512, .f32⟩
  | .hbm, ⟨46, _⟩ => ⟨S128x512, .f32⟩
  | .hbm, ⟨47, _⟩ => ⟨S128x512, .f32⟩
  | .hbm, ⟨48, _⟩ => ⟨S128x512, .f32⟩
  | .hbm, ⟨49, _⟩ => ⟨S128x512, .bf16⟩
  | .local _ .vmem, ⟨0, _⟩ => ⟨S128x1024, .f32⟩
  | .local _ .vmem, ⟨1, _⟩ => ⟨S128x6144, .f32⟩
  | .local _ .vmem, ⟨2, _⟩ => ⟨S1x1024, .f32⟩
  | .local _ .vmem, ⟨3, _⟩ => ⟨S1024x2048, .bf16⟩
  | .local _ .vmem, ⟨4, _⟩ => ⟨S4x128x128, .bf16⟩
  | .local _ .vmem, ⟨5, _⟩ => ⟨S1x512, .f32⟩
  | .local _ .vmem, ⟨6, _⟩ => ⟨S1x128, .f32⟩
  | .local _ .vmem, ⟨7, _⟩ => ⟨S1x128, .f32⟩
  | .local _ .vmem, ⟨8, _⟩ => ⟨S128x15x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v35_2 : Ref sig .tc := ⟨.hbm, 47, rfl⟩
abbrev main_v35_3 : Ref sig .tc := ⟨.hbm, 48, rfl⟩
abbrev main_v35_4 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x15x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== PreSampleRefIdeal.lean ====
abbrev S128x1x1024 : Shape := ⟨3, ![128, 1, 1024]⟩
abbrev S128x6144 : Shape := ⟨2, ![128, 6144]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S1x128x15x512 : Shape := ⟨4, ![1, 128, 15, 512]⟩
abbrev S128x1x6144 : Shape := ⟨3, ![128, 1, 6144]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x2048 : Shape := ⟨2, ![1024, 2048]⟩
abbrev S128x1x2048 : Shape := ⟨3, ![128, 1, 2048]⟩
abbrev S128x1x512 : Shape := ⟨3, ![128, 1, 512]⟩
abbrev S128x15x512 : Shape := ⟨3, ![128, 15, 512]⟩
abbrev S4x128x128 : Shape := ⟨3, ![4, 128, 128]⟩
abbrev S512 : Shape := ⟨1, ![512]⟩
abbrev S128x16x512 : Shape := ⟨3, ![128, 16, 512]⟩
abbrev S128x17x512 : Shape := ⟨3, ![128, 17, 512]⟩
abbrev S1 : Shape := ⟨1, ![1]⟩
abbrev S128x17x128 : Shape := ⟨3, ![128, 17, 128]⟩
abbrev S128x1x128 : Shape := ⟨3, ![128, 1, 128]⟩
abbrev S1x1 : Shape := ⟨2, ![1, 1]⟩
abbrev S1x1x1 : Shape := ⟨3, ![1, 1, 1]⟩
abbrev S128x1x1x128 : Shape := ⟨4, ![128, 1, 1, 128]⟩
abbrev S128x1x4x128 : Shape := ⟨4, ![128, 1, 4, 128]⟩
abbrev S4x128x128x1 : Shape := ⟨4, ![4, 128, 128, 1]⟩
abbrev S1x1x512 : Shape := ⟨3, ![1, 1, 512]⟩
abbrev S128x1x8x64 : Shape := ⟨4, ![128, 1, 8, 64]⟩
abbrev S32 : Shape := ⟨1, ![32]⟩
abbrev S1x32 : Shape := ⟨2, ![1, 32]⟩
abbrev S1x1x1x32 : Shape := ⟨4, ![1, 1, 1, 32]⟩
abbrev S128x1x8x32 : Shape := ⟨4, ![128, 1, 8, 32]⟩
abbrev S128x512 : Shape := ⟨2, ![128, 512]⟩

abbrev nBuf : Space → Nat
  | .hbm => 277
  | .vmem => 0
  | .smem => 0
  | _ => 0

abbrev hbmTy0_0 (i : Nat) : BufTy := match i % 128 with
  | 0 => ⟨S128x1x1024, .f32⟩
  | 1 => ⟨S128x6144, .f32⟩
  | 2 => ⟨S1x1024, .f32⟩
  | 3 => ⟨S1x1024x2048, .f32⟩
  | 4 => ⟨S1x4x128x128, .f32⟩
  | 5 => ⟨S1x512, .f32⟩
  | 6 => ⟨S1x128x15x512, .f32⟩
  | 7 => ⟨S128x1x6144, .f32⟩
  | 8 => ⟨S128x1x1024, .f32⟩
  | 9 => ⟨S128x1x1024, .f32⟩
  | 10 => ⟨S128x1x1024, .f32⟩
  | 11 => ⟨S128x1x1024, .f32⟩
  | 12 => ⟨S128x1x1024, .f32⟩
  | 13 => ⟨S128x1x1024, .f32⟩
  | 14 => ⟨S1024, .f32⟩
  | 15 => ⟨S128x1x1024, .f32⟩
  | 16 => ⟨S_, .f32⟩
  | 17 => ⟨S128x1, .f32⟩
  | 18 => ⟨S128x1x1, .f32⟩
  | 19 => ⟨S_, .f32⟩
  | 20 => ⟨S128x1x1, .f32⟩
  | 21 => ⟨S128x1x1, .f32⟩
  | 22 => ⟨S_, .f32⟩
  | 23 => ⟨S128x1x1, .f32⟩
  | 24 => ⟨S128x1x1, .f32⟩
  | 25 => ⟨S128x1x1, .f32⟩
  | 26 => ⟨S128x1x1024, .f32⟩
  | 27 => ⟨S128x1x1024, .f32⟩
  | 28 => ⟨S1x1x1024, .f32⟩
  | 29 => ⟨S128x1x1024, .f32⟩
  | 30 => ⟨S128x1x1024, .f32⟩
  | 31 => ⟨S_, .f32⟩
  | 32 => ⟨S128x1x1024, .f32⟩
  | 33 => ⟨S128x1x1024, .f32⟩
  | 34 => ⟨S128x1x1024, .f32⟩
  | 35 => ⟨S128x1x1024, .f32⟩
  | 36 => ⟨S1024x2048, .f32⟩
  | 37 => ⟨S128x1x2048, .f32⟩
  | 38 => ⟨S128x1x512, .f32⟩
  | 39 => ⟨S128x1x512, .f32⟩
  | 40 => ⟨S128x1x512, .f32⟩
  | 41 => ⟨S128x1x512, .f32⟩
  | 42 => ⟨S128x15x512, .f32⟩
  | 43 => ⟨S4x128x128, .f32⟩
  | 44 => ⟨S512, .f32⟩
  | 45 => ⟨S128x16x512, .f32⟩
  | 46 => ⟨S_, .f32⟩
  | 47 => ⟨S_, .f32⟩
  | 48 => ⟨S128x16x512, .f32⟩
  | 49 => ⟨S_, .i32⟩
  | 50 => ⟨S_, .f32⟩
  | 51 => ⟨S128x17x512, .f32⟩
  | 52 => ⟨S1, .i32⟩
  | 53 => ⟨S_, .i32⟩
  | 54 => ⟨S1, .i32⟩
  | 55 => ⟨S1, .i32⟩
  | 56 => ⟨S128x17x128, .f32⟩
  | 57 => ⟨S_, .i32⟩
  | 58 => ⟨S1, .i32⟩
  | 59 => ⟨S1, .i32⟩
  | 60 => ⟨S_, .i32⟩
  | 61 => ⟨S1, .i32⟩
  | 62 => ⟨S1, .i32⟩
  | 63 => ⟨S_, .i32⟩
  | 64 => ⟨S1, .i32⟩
  | 65 => ⟨S1, .i32⟩
  | 66 => ⟨S128x1x128, .f32⟩
  | 67 => ⟨S_, .i32⟩
  | 68 => ⟨S1, .i32⟩
  | 69 => ⟨S1, .i1⟩
  | 70 => ⟨S_, .i32⟩
  | 71 => ⟨S1, .i32⟩
  | 72 => ⟨S1, .i32⟩
  | 73 => ⟨S1, .i32⟩
  | 74 => ⟨S1x1, .i32⟩
  | 75 => ⟨S128x1x128, .f32⟩
  | 76 => ⟨S128x1x128, .f32⟩
  | 77 => ⟨S_, .i32⟩
  | 78 => ⟨S1, .i32⟩
  | 79 => ⟨S1, .i32⟩
  | 80 => ⟨S_, .i32⟩
  | 81 => ⟨S1, .i32⟩
  | 82 => ⟨S1, .i32⟩
  | 83 => ⟨S1, .f32⟩
  | 84 => ⟨S1x1, .f32⟩
  | 85 => ⟨S1x1x1, .f32⟩
  | 86 => ⟨S128x1x128, .f32⟩
  | 87 => ⟨S128x1x128, .f32⟩
  | 88 => ⟨S128x1x128, .f32⟩
  | 89 => ⟨S128x1x128, .f32⟩
  | 90 => ⟨S128x17x128, .f32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S_, .i32⟩
  | 98 => ⟨S1, .i32⟩
  | 99 => ⟨S1, .i32⟩
  | 100 => ⟨S128x1x128, .f32⟩
  | 101 => ⟨S_, .i32⟩
  | 102 => ⟨S1, .i32⟩
  | 103 => ⟨S1, .i1⟩
  | 104 => ⟨S_, .i32⟩
  | 105 => ⟨S1, .i32⟩
  | 106 => ⟨S1, .i32⟩
  | 107 => ⟨S1, .i32⟩
  | 108 => ⟨S1x1, .i32⟩
  | 109 => ⟨S128x1x128, .f32⟩
  | 110 => ⟨S128x1x128, .f32⟩
  | 111 => ⟨S_, .i32⟩
  | 112 => ⟨S1, .i32⟩
  | 113 => ⟨S1, .i32⟩
  | 114 => ⟨S_, .i32⟩
  | 115 => ⟨S1, .i32⟩
  | 116 => ⟨S1, .i32⟩
  | 117 => ⟨S1, .f32⟩
  | 118 => ⟨S1x1, .f32⟩
  | 119 => ⟨S1x1x1, .f32⟩
  | 120 => ⟨S128x1x128, .f32⟩
  | 121 => ⟨S128x1x128, .f32⟩
  | 122 => ⟨S128x1x128, .f32⟩
  | 123 => ⟨S128x1x128, .f32⟩
  | 124 => ⟨S128x17x128, .f32⟩
  | 125 => ⟨S_, .i32⟩
  | 126 => ⟨S1, .i32⟩
  | 127 => ⟨S1, .i32⟩
  | _ => ⟨S128x1x1024, .f32⟩

abbrev hbmTy0_1 (i : Nat) : BufTy := match i % 128 with
  | 0 => ⟨S_, .i32⟩
  | 1 => ⟨S1, .i32⟩
  | 2 => ⟨S1, .i32⟩
  | 3 => ⟨S_, .i32⟩
  | 4 => ⟨S1, .i32⟩
  | 5 => ⟨S1, .i32⟩
  | 6 => ⟨S128x1x128, .f32⟩
  | 7 => ⟨S_, .i32⟩
  | 8 => ⟨S1, .i32⟩
  | 9 => ⟨S1, .i1⟩
  | 10 => ⟨S_, .i32⟩
  | 11 => ⟨S1, .i32⟩
  | 12 => ⟨S1, .i32⟩
  | 13 => ⟨S1, .i32⟩
  | 14 => ⟨S1x1, .i32⟩
  | 15 => ⟨S128x1x128, .f32⟩
  | 16 => ⟨S128x1x128, .f32⟩
  | 17 => ⟨S_, .i32⟩
  | 18 => ⟨S1, .i32⟩
  | 19 => ⟨S1, .i32⟩
  | 20 => ⟨S_, .i32⟩
  | 21 => ⟨S1, .i32⟩
  | 22 => ⟨S1, .i32⟩
  | 23 => ⟨S1, .f32⟩
  | 24 => ⟨S1x1, .f32⟩
  | 25 => ⟨S1x1x1, .f32⟩
  | 26 => ⟨S128x1x128, .f32⟩
  | 27 => ⟨S128x1x128, .f32⟩
  | 28 => ⟨S128x1x128, .f32⟩
  | 29 => ⟨S128x1x128, .f32⟩
  | 30 => ⟨S128x17x128, .f32⟩
  | 31 => ⟨S_, .i32⟩
  | 32 => ⟨S1, .i32⟩
  | 33 => ⟨S1, .i32⟩
  | 34 => ⟨S_, .i32⟩
  | 35 => ⟨S1, .i32⟩
  | 36 => ⟨S1, .i32⟩
  | 37 => ⟨S_, .i32⟩
  | 38 => ⟨S1, .i32⟩
  | 39 => ⟨S1, .i32⟩
  | 40 => ⟨S128x1x128, .f32⟩
  | 41 => ⟨S_, .i32⟩
  | 42 => ⟨S1, .i32⟩
  | 43 => ⟨S1, .i1⟩
  | 44 => ⟨S_, .i32⟩
  | 45 => ⟨S1, .i32⟩
  | 46 => ⟨S1, .i32⟩
  | 47 => ⟨S1, .i32⟩
  | 48 => ⟨S1x1, .i32⟩
  | 49 => ⟨S128x1x128, .f32⟩
  | 50 => ⟨S128x1x128, .f32⟩
  | 51 => ⟨S_, .i32⟩
  | 52 => ⟨S1, .i32⟩
  | 53 => ⟨S1, .i32⟩
  | 54 => ⟨S_, .i32⟩
  | 55 => ⟨S1, .i32⟩
  | 56 => ⟨S1, .i32⟩
  | 57 => ⟨S1, .f32⟩
  | 58 => ⟨S1x1, .f32⟩
  | 59 => ⟨S1x1x1, .f32⟩
  | 60 => ⟨S128x1x128, .f32⟩
  | 61 => ⟨S128x1x128, .f32⟩
  | 62 => ⟨S128x1x128, .f32⟩
  | 63 => ⟨S128x1x128, .f32⟩
  | 64 => ⟨S128x1x1x128, .f32⟩
  | 65 => ⟨S128x1x1x128, .f32⟩
  | 66 => ⟨S128x1x1x128, .f32⟩
  | 67 => ⟨S128x1x1x128, .f32⟩
  | 68 => ⟨S128x1x4x128, .f32⟩
  | 69 => ⟨S4x128x128x1, .f32⟩
  | 70 => ⟨S128x1x4x128, .f32⟩
  | 71 => ⟨S128x1x512, .f32⟩
  | 72 => ⟨S1x1x512, .f32⟩
  | 73 => ⟨S128x1x512, .f32⟩
  | 74 => ⟨S128x1x512, .f32⟩
  | 75 => ⟨S128x15x512, .f32⟩
  | 76 => ⟨S1, .i32⟩
  | 77 => ⟨S_, .i32⟩
  | 78 => ⟨S1, .i32⟩
  | 79 => ⟨S1, .i32⟩
  | 80 => ⟨S128x1x8x64, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S1, .f32⟩
  | 90 => ⟨S1x1, .f32⟩
  | 91 => ⟨S1x32, .f32⟩
  | 92 => ⟨S1x32, .f32⟩
  | 93 => ⟨S1x32, .f32⟩
  | 94 => ⟨S1x32, .f32⟩
  | 95 => ⟨S1x1x1x32, .f32⟩
  | 96 => ⟨S1x32, .f32⟩
  | 97 => ⟨S1x1x1x32, .f32⟩
  | 98 => ⟨S128x1x8x32, .f32⟩
  | 99 => ⟨S128x1x8x32, .f32⟩
  | 100 => ⟨S128x1x8x32, .f32⟩
  | 101 => ⟨S128x1x8x32, .f32⟩
  | 102 => ⟨S128x1x8x32, .f32⟩
  | 103 => ⟨S128x1x8x32, .f32⟩
  | 104 => ⟨S128x1x8x32, .f32⟩
  | 105 => ⟨S128x1x8x32, .f32⟩
  | 106 => ⟨S128x1x8x32, .f32⟩
  | 107 => ⟨S128x1x8x32, .f32⟩
  | 108 => ⟨S128x1x8x32, .f32⟩
  | 109 => ⟨S128x1x8x32, .f32⟩
  | 110 => ⟨S128x1x8x64, .f32⟩
  | 111 => ⟨S128x512, .f32⟩
  | 112 => ⟨S128x1x8x64, .f32⟩
  | 113 => ⟨S32, .f32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S1, .f32⟩
  | 122 => ⟨S1x1, .f32⟩
  | 123 => ⟨S1x32, .f32⟩
  | 124 => ⟨S1x32, .f32⟩
  | 125 => ⟨S1x32, .f32⟩
  | 126 => ⟨S1x32, .f32⟩
  | 127 => ⟨S1x1x1x32, .f32⟩
  | _ => ⟨S128x1x1024, .f32⟩

abbrev hbmTy0_2 (i : Nat) : BufTy := match i % 128 with
  | 0 => ⟨S1x32, .f32⟩
  | 1 => ⟨S1x1x1x32, .f32⟩
  | 2 => ⟨S128x1x8x32, .f32⟩
  | 3 => ⟨S128x1x8x32, .f32⟩
  | 4 => ⟨S128x1x8x32, .f32⟩
  | 5 => ⟨S128x1x8x32, .f32⟩
  | 6 => ⟨S128x1x8x32, .f32⟩
  | 7 => ⟨S128x1x8x32, .f32⟩
  | 8 => ⟨S128x1x8x32, .f32⟩
  | 9 => ⟨S128x1x8x32, .f32⟩
  | 10 => ⟨S128x1x8x32, .f32⟩
  | 11 => ⟨S128x1x8x32, .f32⟩
  | 12 => ⟨S128x1x8x32, .f32⟩
  | 13 => ⟨S128x1x8x32, .f32⟩
  | 14 => ⟨S128x1x8x64, .f32⟩
  | 15 => ⟨S128x512, .f32⟩
  | 16 => ⟨S128x1x512, .f32⟩
  | 17 => ⟨S128x512, .f32⟩
  | 18 => ⟨S128x512, .f32⟩
  | 19 => ⟨S128x512, .f32⟩
  | 20 => ⟨S128x512, .bf16⟩
  | _ => ⟨S128x1x1024, .f32⟩

abbrev hbmTy (i : Nat) : BufTy := match i / 128 with
  | 0 => hbmTy0_0 i
  | 1 => hbmTy0_1 i
  | 2 => hbmTy0_2 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_call0_cst : Ref sig .tc := ⟨.hbm, 46, rfl⟩
abbrev main_call0_call0_v0 : Ref sig .tc := ⟨.hbm, 47, rfl⟩
abbrev main_v35 : Ref sig .tc := ⟨.hbm, 48, rfl⟩
abbrev main_c : Ref sig .tc := ⟨.hbm, 49, rfl⟩
abbrev main_call1_v0 : Ref sig .tc := ⟨.hbm, 50, rfl⟩
abbrev main_v36 : Ref sig .tc := ⟨.hbm, 51, rfl⟩
abbrev main_v37 : Ref sig .tc := ⟨.hbm, 52, rfl⟩
abbrev main_c_3 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_4 : Ref sig .tc := ⟨.hbm, 57, rfl⟩
abbrev main_v41 : Ref sig .tc := ⟨.hbm, 58, rfl⟩
abbrev main_v42 : Ref sig .tc := ⟨.hbm, 59, rfl⟩
abbrev main_c_5 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_c_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_11 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_14 : Ref sig .tc := ⟨.hbm, 101, rfl⟩
abbrev main_v75 : Ref sig .tc := ⟨.hbm, 102, rfl⟩
abbrev main_v76 : Ref sig .tc := ⟨.hbm, 103, rfl⟩
abbrev main_c_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_16 : Ref sig .tc := ⟨.hbm, 111, rfl⟩
abbrev main_v83 : Ref sig .tc := ⟨.hbm, 112, rfl⟩
abbrev main_v84 : Ref sig .tc := ⟨.hbm, 113, rfl⟩
abbrev main_c_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_18 : Ref sig .tc := ⟨.hbm, 125, rfl⟩
abbrev main_v95 : Ref sig .tc := ⟨.hbm, 126, rfl⟩
abbrev main_v96 : Ref sig .tc := ⟨.hbm, 127, rfl⟩
abbrev main_c_19 : Ref sig .tc := ⟨.hbm, 128, rfl⟩
abbrev main_v97 : Ref sig .tc := ⟨.hbm, 129, rfl⟩
abbrev main_v98 : Ref sig .tc := ⟨.hbm, 130, rfl⟩
abbrev main_c_20 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_21 : Ref sig .tc := ⟨.hbm, 135, rfl⟩
abbrev main_v102 : Ref sig .tc := ⟨.hbm, 136, rfl⟩
abbrev main_v103 : Ref sig .tc := ⟨.hbm, 137, rfl⟩
abbrev main_c_22 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_c_23 : Ref sig .tc := ⟨.hbm, 145, rfl⟩
abbrev main_v110 : Ref sig .tc := ⟨.hbm, 146, rfl⟩
abbrev main_v111 : Ref sig .tc := ⟨.hbm, 147, rfl⟩
abbrev main_c_24 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_c_25 : Ref sig .tc := ⟨.hbm, 159, rfl⟩
abbrev main_v122 : Ref sig .tc := ⟨.hbm, 160, rfl⟩
abbrev main_v123 : Ref sig .tc := ⟨.hbm, 161, rfl⟩
abbrev main_c_26 : Ref sig .tc := ⟨.hbm, 162, rfl⟩
abbrev main_v124 : Ref sig .tc := ⟨.hbm, 163, rfl⟩
abbrev main_v125 : Ref sig .tc := ⟨.hbm, 164, rfl⟩
abbrev main_c_27 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_c_28 : Ref sig .tc := ⟨.hbm, 169, rfl⟩
abbrev main_v129 : Ref sig .tc := ⟨.hbm, 170, rfl⟩
abbrev main_v130 : Ref sig .tc := ⟨.hbm, 171, rfl⟩
abbrev main_c_29 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_c_30 : Ref sig .tc := ⟨.hbm, 179, rfl⟩
abbrev main_v137 : Ref sig .tc := ⟨.hbm, 180, rfl⟩
abbrev main_v138 : Ref sig .tc := ⟨.hbm, 181, rfl⟩
abbrev main_c_31 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_c_32 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_33 : Ref sig .tc := ⟨.hbm, 211, rfl⟩
abbrev main_v166 : Ref sig .tc := ⟨.hbm, 212, rfl⟩
abbrev main_v167 : Ref sig .tc := ⟨.hbm, 213, rfl⟩
abbrev main_cst_34 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_cst_35 : Ref sig .tc := ⟨.hbm, 243, rfl⟩
abbrev main_v196 : Ref sig .tc := ⟨.hbm, 244, rfl⟩
abbrev main_v197 : Ref sig .tc := ⟨.hbm, 245, rfl⟩
abbrev main_cst_36 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩

abbrev nD : Nat := 1
abbrev τ : Topo := Topo.v7x

variable {F : FTy → Type} [FloatOps F]
-- ==== PostSample.lean ====
abbrev S128x1x1024 : Shape := ⟨3, ![128, 1, 1024]⟩
abbrev S128x512 : Shape := ⟨2, ![128, 512]⟩
abbrev S128x8x64 : Shape := ⟨3, ![128, 8, 64]⟩
abbrev S128x6144 : Shape := ⟨2, ![128, 6144]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x128x2x5632 : Shape := ⟨4, ![1, 128, 2, 5632]⟩
abbrev S1x512x1024 : Shape := ⟨3, ![1, 512, 1024]⟩
abbrev S512x1024 : Shape := ⟨2, ![512, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x128x1024 : Shape := ⟨3, ![1, 128, 1024]⟩
abbrev S1x128x512 : Shape := ⟨3, ![1, 128, 512]⟩
abbrev S1x128x6144 : Shape := ⟨3, ![1, 128, 6144]⟩
abbrev S1x128x1x5632 : Shape := ⟨4, ![1, 128, 1, 5632]⟩
abbrev S128x5632 : Shape := ⟨2, ![128, 5632]⟩
abbrev S1x128x5632 : Shape := ⟨3, ![1, 128, 5632]⟩
abbrev S128x1024 : Shape := ⟨2, ![128, 1024]⟩
abbrev S128 : Shape := ⟨1, ![128]⟩
abbrev S128x1 : Shape := ⟨2, ![128, 1]⟩
abbrev S1024x1408 : Shape := ⟨2, ![1024, 1408]⟩
abbrev S128x1408 : Shape := ⟨2, ![128, 1408]⟩
abbrev S1x128x1408 : Shape := ⟨3, ![1, 128, 1408]⟩
abbrev S1x1408 : Shape := ⟨2, ![1, 1408]⟩
abbrev S1408x1024 : Shape := ⟨2, ![1408, 1024]⟩

abbrev nBuf : Space → Nat
  | .hbm => 45
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S128x512, .bf16⟩
  | .hbm, ⟨2, _⟩ => ⟨S128x8x64, .f32⟩
  | .hbm, ⟨3, _⟩ => ⟨S128x6144, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x5632, .f32⟩
  | .hbm, ⟨9, _⟩ => ⟨S1x3x5632, .f32⟩
  | .hbm, ⟨10, _⟩ => ⟨S1x5632, .f32⟩
  | .hbm, ⟨11, _⟩ => ⟨S1x2816x1024, .f32⟩
  | .hbm, ⟨12, _⟩ => ⟨S1x128x2x5632, .f32⟩
  | .hbm, ⟨13, _⟩ => ⟨S1x512x1024, .f32⟩
  | .hbm, ⟨14, _⟩ => ⟨S512x1024, .f32⟩
  | .hbm, ⟨15, _⟩ => ⟨S512x1024, .bf16⟩
  | .hbm, ⟨16, _⟩ => ⟨S1x512x1024, .f32⟩
  | .hbm, ⟨17, _⟩ => ⟨S512x1024, .f32⟩
  | .hbm, ⟨18, _⟩ => ⟨S512x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024x5632, .f32⟩
  | .hbm, ⟨26, _⟩ => ⟨S1024x5632, .bf16⟩
  | .hbm, ⟨27, _⟩ => ⟨S3x5632, .f32⟩
  | .hbm, ⟨28, _⟩ => ⟨S5632, .f32⟩
  | .hbm, ⟨29, _⟩ => ⟨S1x5632, .f32⟩
  | .hbm, ⟨30, _⟩ => ⟨S2816x1024, .f32⟩
  | .hbm, ⟨31, _⟩ => ⟨S2816x1024, .bf16⟩
  | .hbm, ⟨32, _⟩ => ⟨S1x128x1024, .f32⟩
  | .hbm, ⟨33, _⟩ => ⟨S1x128x512, .bf16⟩
  | .hbm, ⟨34, _⟩ => ⟨S1x128x512, .f32⟩
  | .hbm, ⟨35, _⟩ => ⟨S1x128x512, .bf16⟩
  | .hbm, ⟨36, _⟩ => ⟨S1x128x6144, .f32⟩
  | .hbm, ⟨37, _⟩ => ⟨S1x128x1x5632, .f32⟩
  | .hbm, ⟨38, _⟩ => ⟨S128x5632, .f32⟩
  | .hbm, ⟨39, _⟩ => ⟨S1x128x5632, .f32⟩
  | .hbm, ⟨40, _⟩ => ⟨S1x128x1x5632, .f32⟩
  | .hbm, ⟨41, _⟩ => ⟨S128x5632, .f32⟩
  | .hbm, ⟨42, _⟩ => ⟨S1x128x5632, .f32⟩
  | .hbm, ⟨43, _⟩ => ⟨S1x128x1024, .f32⟩
  | .hbm, ⟨44, _⟩ => ⟨S1x128x5632, .f32⟩
  | .local _ .vmem, ⟨0, _⟩ => ⟨S1x128x1024, .f32⟩
  | .local _ .vmem, ⟨1, _⟩ => ⟨S1x128x512, .bf16⟩
  | .local _ .vmem, ⟨2, _⟩ => ⟨S1x128x512, .bf16⟩
  | .local _ .vmem, ⟨3, _⟩ => ⟨S1x128x6144, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S1x128x5632, .f32⟩
  | .local _ .vmem, ⟨14, _⟩ => ⟨S1x128x5632, .f32⟩
  | .local _ .vmem, ⟨15, _⟩ => ⟨S1x128x1024, .f32⟩
  | .local _ .vmem, ⟨16, _⟩ => ⟨S1x128x5632, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x128x5632 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x128x5632 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]
-- ==== PostSampleRefIdeal.lean ====
abbrev S128x1x1024 : Shape := ⟨3, ![128, 1, 1024]⟩
abbrev S128x512 : Shape := ⟨2, ![128, 512]⟩
abbrev S128x8x64 : Shape := ⟨3, ![128, 8, 64]⟩
abbrev S128x6144 : Shape := ⟨2, ![128, 6144]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1x128x2x5632 : Shape := ⟨4, ![1, 128, 2, 5632]⟩
abbrev S128x1x6144 : Shape := ⟨3, ![128, 1, 6144]⟩
abbrev S128x1x512 : Shape := ⟨3, ![128, 1, 512]⟩
abbrev S1024x1024 : Shape := ⟨2, ![1024, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x5632 : Shape := ⟨2, ![1024, 5632]⟩
abbrev S128x1x5632 : Shape := ⟨3, ![128, 1, 5632]⟩
abbrev S128x2x5632 : Shape := ⟨3, ![128, 2, 5632]⟩
abbrev S128x3x5632 : Shape := ⟨3, ![128, 3, 5632]⟩
abbrev S5632 : Shape := ⟨1, ![5632]⟩
abbrev S1x1x5632 : Shape := ⟨3, ![1, 1, 5632]⟩
abbrev S128x1x2816 : Shape := ⟨3, ![128, 1, 2816]⟩
abbrev S2816x1024 : Shape := ⟨2, ![2816, 1024]⟩
abbrev S1x128x1024 : Shape := ⟨3, ![1, 128, 1024]⟩
abbrev S128x5632 : Shape := ⟨2, ![128, 5632]⟩
abbrev S1x128x5632 : Shape := ⟨3, ![1, 128, 5632]⟩

abbrev nBuf : Space → Nat
  | .hbm => 136
  | .vmem => 0
  | .smem => 0
  | _ => 0

abbrev hbmTy0_0 (i : Nat) : BufTy := match i % 128 with
  | 0 => ⟨S128x1x1024, .f32⟩
  | 1 => ⟨S128x512, .bf16⟩
  | 2 => ⟨S128x8x64, .f32⟩
  | 3 => ⟨S128x6144, .f32⟩
  | 4 => ⟨S1x1024x1024, .f32⟩
  | 5 => ⟨S1x1024, .f32⟩
  | 6 => ⟨S1x1024, .f32⟩
  | 7 => ⟨S1x1024, .f32⟩
  | 8 => ⟨S1x1024x5632, .f32⟩
  | 9 => ⟨S1x3x5632, .f32⟩
  | 10 => ⟨S1x5632, .f32⟩
  | 11 => ⟨S1x2816x1024, .f32⟩
  | 12 => ⟨S1x128x2x5632, .f32⟩
  | 13 => ⟨S128x1x6144, .f32⟩
  | 14 => ⟨S128x1x1024, .f32⟩
  | 15 => ⟨S128x1x1024, .f32⟩
  | 16 => ⟨S128x1x1024, .f32⟩
  | 17 => ⟨S128x1x1024, .f32⟩
  | 18 => ⟨S128x1x1024, .f32⟩
  | 19 => ⟨S128x1x1024, .f32⟩
  | 20 => ⟨S128x512, .f32⟩
  | 21 => ⟨S128x1x512, .f32⟩
  | 22 => ⟨S128x1x512, .f32⟩
  | 23 => ⟨S128x1x1024, .f32⟩
  | 24 => ⟨S1024x1024, .f32⟩
  | 25 => ⟨S128x1x1024, .f32⟩
  | 26 => ⟨S1024, .f32⟩
  | 27 => ⟨S128x1x1024, .f32⟩
  | 28 => ⟨S_, .f32⟩
  | 29 => ⟨S128x1, .f32⟩
  | 30 => ⟨S128x1x1, .f32⟩
  | 31 => ⟨S_, .f32⟩
  | 32 => ⟨S128x1x1, .f32⟩
  | 33 => ⟨S128x1x1, .f32⟩
  | 34 => ⟨S_, .f32⟩
  | 35 => ⟨S128x1x1, .f32⟩
  | 36 => ⟨S128x1x1, .f32⟩
  | 37 => ⟨S128x1x1, .f32⟩
  | 38 => ⟨S128x1x1024, .f32⟩
  | 39 => ⟨S128x1x1024, .f32⟩
  | 40 => ⟨S1x1x1024, .f32⟩
  | 41 => ⟨S128x1x1024, .f32⟩
  | 42 => ⟨S128x1x1024, .f32⟩
  | 43 => ⟨S128x1x1024, .f32⟩
  | 44 => ⟨S128x1x1024, .f32⟩
  | 45 => ⟨S1024, .f32⟩
  | 46 => ⟨S128x1x1024, .f32⟩
  | 47 => ⟨S_, .f32⟩
  | 48 => ⟨S128x1, .f32⟩
  | 49 => ⟨S128x1x1, .f32⟩
  | 50 => ⟨S_, .f32⟩
  | 51 => ⟨S128x1x1, .f32⟩
  | 52 => ⟨S128x1x1, .f32⟩
  | 53 => ⟨S_, .f32⟩
  | 54 => ⟨S128x1x1, .f32⟩
  | 55 => ⟨S128x1x1, .f32⟩
  | 56 => ⟨S128x1x1, .f32⟩
  | 57 => ⟨S128x1x1024, .f32⟩
  | 58 => ⟨S128x1x1024, .f32⟩
  | 59 => ⟨S1x1x1024, .f32⟩
  | 60 => ⟨S128x1x1024, .f32⟩
  | 61 => ⟨S128x1x1024, .f32⟩
  | 62 => ⟨S_, .f32⟩
  | 63 => ⟨S128x1x1024, .f32⟩
  | 64 => ⟨S128x1x1024, .f32⟩
  | 65 => ⟨S128x1x1024, .f32⟩
  | 66 => ⟨S128x1x1024, .f32⟩
  | 67 => ⟨S1024x5632, .f32⟩
  | 68 => ⟨S128x1x5632, .f32⟩
  | 69 => ⟨S128x2x5632, .f32⟩
  | 70 => ⟨S128x3x5632, .f32⟩
  | 71 => ⟨S5632, .f32⟩
  | 72 => ⟨S1x1x5632, .f32⟩
  | 73 => ⟨S5632, .f32⟩
  | 74 => ⟨S128x1x5632, .f32⟩
  | 75 => ⟨S1x1x5632, .f32⟩
  | 76 => ⟨S128x1x5632, .f32⟩
  | 77 => ⟨S128x1x5632, .f32⟩
  | 78 => ⟨S_, .f32⟩
  | 79 => ⟨S128x1x5632, .f32⟩
  | 80 => ⟨S128x1x5632, .f32⟩
  | 81 => ⟨S1x1x5632, .f32⟩
  | 82 => ⟨S5632, .f32⟩
  | 83 => ⟨S128x1x5632, .f32⟩
  | 84 => ⟨S1x1x5632, .f32⟩
  | 85 => ⟨S128x1x5632, .f32⟩
  | 86 => ⟨S128x1x5632, .f32⟩
  | 87 => ⟨S128x1x5632, .f32⟩
  | 88 => ⟨S1x1x5632, .f32⟩
  | 89 => ⟨S5632, .f32⟩
  | 90 => ⟨S128x1x5632, .f32⟩
  | 91 => ⟨S1x1x5632, .f32⟩
  | 92 => ⟨S128x1x5632, .f32⟩
  | 93 => ⟨S128x1x5632, .f32⟩
  | 94 => ⟨S128x1x5632, .f32⟩
  | 95 => ⟨S1x1x5632, .f32⟩
  | 96 => ⟨S128x1x5632, .f32⟩
  | 97 => ⟨S128x1x5632, .f32⟩
  | 98 => ⟨S128x1x2816, .f32⟩
  | 99 => ⟨S128x1x2816, .f32⟩
  | 100 => ⟨S128x1x2816, .f32⟩
  | 101 => ⟨S128x1x2816, .f32⟩
  | 102 => ⟨S_, .f32⟩
  | 103 => ⟨S128x1x2816, .f32⟩
  | 104 => ⟨S128x1x2816, .f32⟩
  | 105 => ⟨S_, .f32⟩
  | 106 => ⟨S128x1x2816, .f32⟩
  | 107 => ⟨S128x1x2816, .f32⟩
  | 108 => ⟨S128x1x2816, .f32⟩
  | 109 => ⟨S128x1x2816, .f32⟩
  | 110 => ⟨S2816x1024, .f32⟩
  | 111 => ⟨S128x1x1024, .f32⟩
  | 112 => ⟨S1024, .f32⟩
  | 113 => ⟨S128x1x1024, .f32⟩
  | 114 => ⟨S_, .f32⟩
  | 115 => ⟨S128x1, .f32⟩
  | 116 => ⟨S128x1x1, .f32⟩
  | 117 => ⟨S_, .f32⟩
  | 118 => ⟨S128x1x1, .f32⟩
  | 119 => ⟨S128x1x1, .f32⟩
  | 120 => ⟨S_, .f32⟩
  | 121 => ⟨S128x1x1, .f32⟩
  | 122 => ⟨S128x1x1, .f32⟩
  | 123 => ⟨S128x1x1, .f32⟩
  | 124 => ⟨S128x1x1024, .f32⟩
  | 125 => ⟨S128x1x1024, .f32⟩
  | 126 => ⟨S1x1x1024, .f32⟩
  | 127 => ⟨S128x1x1024, .f32⟩
  | _ => ⟨S128x1x1024, .f32⟩

abbrev hbmTy0_1 (i : Nat) : BufTy := match i % 128 with
  | 0 => ⟨S128x1x1024, .f32⟩
  | 1 => ⟨S128x1x1024, .f32⟩
  | 2 => ⟨S128x1x1024, .f32⟩
  | 3 => ⟨S1x128x1024, .f32⟩
  | 4 => ⟨S128x2x5632, .f32⟩
  | 5 => ⟨S128x1x5632, .f32⟩
  | 6 => ⟨S128x5632, .f32⟩
  | 7 => ⟨S1x128x5632, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_6 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_call0_v0 : Ref sig .tc := ⟨.hbm, 100, rfl⟩
abbrev main_call0_v1 : Ref sig .tc := ⟨.hbm, 101, rfl⟩
abbrev main_call0_cst : Ref sig .tc := ⟨.hbm, 102, rfl⟩
abbrev main_call0_v2 : Ref sig .tc := ⟨.hbm, 103, rfl⟩
abbrev main_call0_v3 : Ref sig .tc := ⟨.hbm, 104, rfl⟩
abbrev main_call0_cst_0 : Ref sig .tc := ⟨.hbm, 105, rfl⟩
abbrev main_call0_v4 : Ref sig .tc := ⟨.hbm, 106, rfl⟩
abbrev main_call0_v5 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_7 : Ref sig .tc := ⟨.hbm, 114, rfl⟩
abbrev main_v85 : Ref sig .tc := ⟨.hbm, 115, rfl⟩
abbrev main_v86 : Ref sig .tc := ⟨.hbm, 116, rfl⟩
abbrev main_cst_8 : Ref sig .tc := ⟨.hbm, 117, rfl⟩
abbrev main_v87 : Ref sig .tc := ⟨.hbm, 118, rfl⟩
abbrev main_v88 : Ref sig .tc := ⟨.hbm, 119, rfl⟩
abbrev main_cst_9 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩

abbrev nD : Nat := 1
abbrev τ : Topo := Topo.v7x

variable {F : FTy → Type} [FloatOps F]
-- ==== Mod.lean ====
abbrev S2x1024 : Shape := ⟨2, ![2, 1024]⟩
abbrev S128x1024 : Shape := ⟨2, ![128, 1024]⟩
abbrev S1x1024x6144 : Shape := ⟨3, ![1, 1024, 6144]⟩
abbrev S1x6144 : Shape := ⟨2, ![1, 6144]⟩
abbrev S130x1024 : Shape := ⟨2, ![130, 1024]⟩
abbrev S1024x6144 : Shape := ⟨2, ![1024, 6144]⟩
abbrev S6144 : Shape := ⟨1, ![6144]⟩
abbrev S130x6144 : Shape := ⟨2, ![130, 6144]⟩
abbrev S1024x1024 : Shape := ⟨2, ![1024, 1024]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S130x1024, .f32⟩
  | .hbm, ⟨5, _⟩ => ⟨S1024x6144, .f32⟩
  | .hbm, ⟨6, _⟩ => ⟨S6144, .f32⟩
  | .hbm, ⟨7, _⟩ => ⟨S1x6144, .f32⟩
  | .hbm, ⟨8, _⟩ => ⟨S130x6144, .f32⟩
  | .local _ .vmem, ⟨0, _⟩ => ⟨S130x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S130x1024, .f32⟩
  | .local _ .vmem, ⟨6, _⟩ => ⟨S130x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S130x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S130x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S2x1024 : Shape := ⟨2, ![2, 1024]⟩
abbrev S128x1024 : Shape := ⟨2, ![128, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S2x6144 : Shape := ⟨2, ![2, 6144]⟩
abbrev S6144 : Shape := ⟨1, ![6144]⟩
abbrev S128x6144 : Shape := ⟨2, ![128, 6144]⟩
abbrev S130x6144 : Shape := ⟨2, ![130, 6144]⟩

abbrev nBuf : Space → Nat
  | .hbm => 35
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S128x1024, .f32⟩
  | .hbm, ⟨2, _⟩ => ⟨S1x1024x6144, .f32⟩
  | .hbm, ⟨3, _⟩ => ⟨S1x6144, .f32⟩
  | .hbm, ⟨4, _⟩ => ⟨S2x1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S1024x6144, .f32⟩
  | .hbm, ⟨14, _⟩ => ⟨S2x6144, .f32⟩
  | .hbm, ⟨15, _⟩ => ⟨S6144, .f32⟩
  | .hbm, ⟨16, _⟩ => ⟨S1x6144, .f32⟩
  | .hbm, ⟨17, _⟩ => ⟨S2x6144, .f32⟩
  | .hbm, ⟨18, _⟩ => ⟨S2x6144, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S1024x6144, .f32⟩
  | .hbm, ⟨29, _⟩ => ⟨S128x6144, .f32⟩
  | .hbm, ⟨30, _⟩ => ⟨S6144, .f32⟩
  | .hbm, ⟨31, _⟩ => ⟨S1x6144, .f32⟩
  | .hbm, ⟨32, _⟩ => ⟨S128x6144, .f32⟩
  | .hbm, ⟨33, _⟩ => ⟨S128x6144, .f32⟩
  | .hbm, ⟨34, _⟩ => ⟨S130x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== PromptAttention.lean ====
abbrev S2x512x8192 : Shape := ⟨3, ![2, 512, 8192]⟩
abbrev S2x8192x512 : Shape := ⟨3, ![2, 8192, 512]⟩
abbrev S2x32x512x256 : Shape := ⟨4, ![2, 32, 512, 256]⟩
abbrev S2x32x256x512 : Shape := ⟨4, ![2, 32, 256, 512]⟩
abbrev S1x512x256 : Shape := ⟨3, ![1, 512, 256]⟩
abbrev S1x32x256x512 : Shape := ⟨4, ![1, 32, 256, 512]⟩
abbrev S1x32x512x256 : Shape := ⟨4, ![1, 32, 512, 256]⟩
abbrev S32x512 : Shape := ⟨2, ![32, 512]⟩
abbrev S32x1x256 : Shape := ⟨3, ![32, 1, 256]⟩
abbrev S1x1x256x512 : Shape := ⟨4, ![1, 1, 256, 512]⟩
abbrev S256x512 : Shape := ⟨2, ![256, 512]⟩
abbrev S512 : Shape := ⟨1, ![512]⟩
abbrev S1x512 : Shape := ⟨2, ![1, 512]⟩
abbrev S32x256 : Shape := ⟨2, ![32, 256]⟩
abbrev S256x256 : Shape := ⟨2, ![256, 256]⟩
abbrev S128x256 : Shape := ⟨2, ![128, 256]⟩
abbrev S1x128x256 : Shape := ⟨3, ![1, 128, 256]⟩
abbrev S32x128 : Shape := ⟨2, ![32, 128]⟩
abbrev S256 : Shape := ⟨1, ![256]⟩
abbrev S1x256 : Shape := ⟨2, ![1, 256]⟩
abbrev S1x1x256 : Shape := ⟨3, ![1, 1, 256]⟩
abbrev S1x1x256x128 : Shape := ⟨4, ![1, 1, 256, 128]⟩
abbrev S256x128 : Shape := ⟨2, ![256, 128]⟩
abbrev S1x1x64x256 : Shape := ⟨4, ![1, 1, 64, 256]⟩
abbrev S64x256 : Shape := ⟨2, ![64, 256]⟩
abbrev S1x64x256 : Shape := ⟨3, ![1, 64, 256]⟩

abbrev nBuf : Space → Nat
  | .hbm => 5
  | .vmem => 8
  | .smem => 0
  | _ => 0

abbrev bufTy : (tb : Table) → Fin (tcTables nBuf tb) → BufTy
  | .hbm, ⟨0, _⟩ => ⟨S2x512x8192, .bf16⟩
  | .hbm, ⟨1, _⟩ => ⟨S2x8192x512, .bf16⟩
  | .hbm, ⟨2, _⟩ => ⟨S2x32x512x256, .bf16⟩
  | .hbm, ⟨3, _⟩ => ⟨S2x32x256x512, .bf16⟩
  | .hbm, ⟨4, _⟩ => ⟨S2x512x8192, .bf16⟩
  | .local _ .vmem, ⟨0, _⟩ => ⟨S1x512x256, .bf16⟩
  | .local _ .vmem, ⟨1, _⟩ => ⟨S1x512x256, .bf16⟩
  | .local _ .vmem, ⟨2, _⟩ => ⟨S1x32x256x512, .bf16⟩
  | .local _ .vmem, ⟨3, _⟩ => ⟨S1x32x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S32x512, .f32⟩
  | .local _ .vmem, ⟨7, _⟩ => ⟨S32x1x256, .f32⟩
  | _, _ => ⟨S2x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_off1 (i : grid0.Coords) : Fin 4 → Nat :=
  let c0_85 : Index := 0#32
  let arg1 : BitVec 32 := BitVec.ofNat 32 (i 1).val
  let v192 : Index := Scalar.indexCast arg1
  let c0_86 : Index := 0#32
  let c0_87 : Index := 0#32
  ![0, v192.toNat, 0, 0]
def k0_off2 (i : grid0.Coords) : Fin 4 → Nat :=
  let c0_92 : Index := 0#32
  let arg1 : BitVec 32 := BitVec.ofNat 32 (i 1).val
  let v205 : Index := Scalar.indexCast arg1
  let c0_93 : Index := 0#32
  let c0_94 : Index := 0#32
  ![0, v205.toNat, 0, 0]
@[reducible] def k0_t1_loop (i : grid0.Coords) : Scf.Loop 32 :=
  let c0_i32_96 : BitVec 32 := 0#32
  let arg1 : BitVec 32 := BitVec.ofNat 32 (i 1).val
  let v210 : BitVec 32 := Scalar.subi arg1 c0_i32_96
  let c1_i32 : BitVec 32 := 1#32
  let v212 : BitVec 32 := Scalar.divsi v210 c1_i32
  let v213 : BitVec 32 := Scalar.muli v212 c1_i32
  let v214 : BitVec 32 := Scalar.addi c0_i32_96 v213
  let c1_i32_97 : BitVec 32 := 1#32
  ⟨c0_i32_96, v214, c1_i32_97⟩
def k0_off3 (i : grid0.Coords) (k0_t1 : Fin (k0_t1_loop i).trips) : Fin 4 → Nat :=
  let c0_1054 : Index := 0#32
  let c0_i32_96 : BitVec 32 := 0#32
  let c1_i32_97 : BitVec 32 := 1#32
  let arg8 : BitVec 32 := Scf.iv c0_i32_96 c1_i32_97 k0_t1
  let v1707 : Index := Scalar.indexCast arg8
  let c0_1055 : Index := 0#32
  let c0_1056 : Index := 0#32
  ![0, v1707.toNat, 0, 0]
def k0_off4 (i : grid0.Coords) (k0_t1 : Fin (k0_t1_loop i).trips) : Fin 3 → Nat :=
  let c0_i32_96 : BitVec 32 := 0#32
  let c1_i32_97 : BitVec 32 := 1#32
  let arg8 : BitVec 32 := Scf.iv c0_i32_96 c1_i32_97 k0_t1
  let v1711 : Index := Scalar.indexCast arg8
  let c0_1058 : Index := 0#32
  let c0_1059 : Index := 0#32
  ![v1711.toNat, 0, 0]
def k0_off5 (i : grid0.Coords) (k0_t1 : Fin (k0_t1_loop i).trips) : Fin 4 → Nat :=
  let c0_1062 : Index := 0#32
  let c0_i32_96 : BitVec 32 := 0#32
  let c1_i32_97 : BitVec 32 := 1#32
  let arg8 : BitVec 32 := Scf.iv c0_i32_96 c1_i32_97 k0_t1
  let v1730 : Index := Scalar.indexCast arg8
  let c0_1063 : Index := 0#32
  let c0_1064 : Index := 0#32
  ![0, v1730.toNat, 0, 0]
@[reducible] def k0_t2_loop (i : grid0.Coords) : Scf.Loop 32 :=
  let c0_i32_96 : BitVec 32 := 0#32
  let arg1 : BitVec 32 := BitVec.ofNat 32 (i 1).val
  let v210 : BitVec 32 := Scalar.subi arg1 c0_i32_96
  let c1_i32 : BitVec 32 := 1#32
  let v212 : BitVec 32 := Scalar.divsi v210 c1_i32
  let v213 : BitVec 32 := Scalar.muli v212 c1_i32
  let v214 : BitVec 32 := Scalar.addi c0_i32_96 v213
  let v211 : BitVec 32 := Scalar.addi c0_i32_96 v210
  let c1_i32_98 : BitVec 32 := 1#32
  ⟨v214, v211, c1_i32_98⟩
def k0_off6 (i : grid0.Coords) (k0_t2 : Fin (k0_t2_loop i).trips) : Fin 4 → Nat :=
  let c0_1054 : Index := 0#32
  let c0_i32_96 : BitVec 32 := 0#32
  let arg1 : BitVec 32 := BitVec.ofNat 32 (i 1).val
  let v210 : BitVec 32 := Scalar.subi arg1 c0_i32_96
  let c1_i32 : BitVec 32 := 1#32
  let v212 : BitVec 32 := Scalar.divsi v210 c1_i32
  let v213 : BitVec 32 := Scalar.muli v212 c1_i32
  let v214 : BitVec 32 := Scalar.addi c0_i32_96 v213
  let c1_i32_98 : BitVec 32 := 1#32
  let arg8 : BitVec 32 := Scf.iv v214 c1_i32_98 k0_t2
  let v1707 : Index := Scalar.indexCast arg8
  let c0_1055 : Index := 0#32
  let c0_1056 : Index := 0#32
  ![0, v1707.toNat, 0, 0]
def k0_off7 (i : grid0.Coords) (k0_t2 : Fin (k0_t2_loop i).trips) : Fin 3 → Nat :=
  let c0_i32_96 : BitVec 32 := 0#32
  let arg1 : BitVec 32 := BitVec.ofNat 32 (i 1).val
  let v210 : BitVec 32 := Scalar.subi arg1 c0_i32_96
  let c1_i32 : BitVec 32 := 1#32
  let v212 : BitVec 32 := Scalar.divsi v210 c1_i32
  let v213 : BitVec 32 := Scalar.muli v212 c1_i32
  let v214 : BitVec 32 := Scalar.addi c0_i32_96 v213
  let c1_i32_98 : BitVec 32 := 1#32
  let arg8 : BitVec 32 := Scf.iv v214 c1_i32_98 k0_t2
  let v1711 : Index := Scalar.indexCast arg8
  let c0_1058 : Index := 0#32
  let c0_1059 : Index := 0#32
  ![v1711.toNat, 0, 0]
def k0_off8 (i : grid0.Coords) (k0_t2 : Fin (k0_t2_loop i).trips) : Fin 4 → Nat :=
  let c0_1062 : Index := 0#32
  let c0_i32_96 : BitVec 32 := 0#32
  let arg1 : BitVec 32 := BitVec.ofNat 32 (i 1).val
  let v210 : BitVec 32 := Scalar.subi arg1 c0_i32_96
  let c1_i32 : BitVec 32 := 1#32
  let v212 : BitVec 32 := Scalar.divsi v210 c1_i32
  let v213 : BitVec 32 := Scalar.muli v212 c1_i32
  let v214 : BitVec 32 := Scalar.addi c0_i32_96 v213
  let c1_i32_98 : BitVec 32 := 1#32
  let arg8 : BitVec 32 := Scf.iv v214 c1_i32_98 k0_t2
  let v1730 : Index := Scalar.indexCast arg8
  let c0_1063 : Index := 0#32
  let c0_1064 : Index := 0#32
  ![0, v1730.toNat, 0, 0]
def k0_off9 (i : grid0.Coords) : Fin 4 → Nat :=
  let c0_228 : Index := 0#32
  let arg1 : BitVec 32 := BitVec.ofNat 32 (i 1).val
  let v417 : Index := Scalar.indexCast arg1
  let c64 : Index := 64#32
  let c0_229 : Index := 0#32
  ![0, v417.toNat, 64, 0]
@[reducible] def k0_t3_loop (i : grid0.Coords) : Scf.Loop 32 :=
  let c0_i32_231 : BitVec 32 := 0#32
  let arg1 : BitVec 32 := BitVec.ofNat 32 (i 1).val
  let v422 : BitVec 32 := Scalar.subi arg1 c0_i32_231
  let c1_i32_232 : BitVec 32 := 1#32
  let v424 : BitVec 32 := Scalar.divsi v422 c1_i32_232
  let v425 : BitVec 32 := Scalar.muli v424 c1_i32_232
  let v426 : BitVec 32 := Scalar.addi c0_i32_231 v425
  let c1_i32_233 : BitVec 32 := 1#32
  ⟨c0_i32_231, v426, c1_i32_233⟩
def k0_off10 (i : grid0.Coords) (k0_t3 : Fin (k0_t3_loop i).trips) : Fin 4 → Nat :=
  let c0_1054 : Index := 0#32
  let c0_i32_231 : BitVec 32 := 0#32
  let c1_i32_233 : BitVec 32 := 1#32
  let arg8 : BitVec 32 := Scf.iv c0_i32_231 c1_i32_233 k0_t3
  let v1707 : Index := Scalar.indexCast arg8
  let c0_1055 : Index := 0#32
  let c0_1056 : Index := 0#32
  ![0, v1707.toNat, 0, 0]
def k0_off11 (i : grid0.Coords) (k0_t3 : Fin (k0_t3_loop i).trips) : Fin 3 → Nat :=
  let c0_i32_231 : BitVec 32 := 0#32
  let c1_i32_233 : BitVec 32 := 1#32
  let arg8 : BitVec 32 := Scf.iv c0_i32_231 c1_i32_233 k0_t3
  let v1711 : Index := Scalar.indexCast arg8
  let c0_1058 : Index := 0#32
  let c0_1059 : Index := 0#32
  ![v1711.toNat, 0, 0]
def k0_off12 (i : grid0.Coords) (k0_t3 : Fin (k0_t3_loop i).trips) : Fin 4 → Nat :=
  let c0_1062 : Index := 0#32
  let c0_i32_231 : BitVec 32 := 0#32
  let c1_i32_233 : BitVec 32 := 1#32
  let arg8 : BitVec 32 := Scf.iv c0_i32_231 c1_i32_233 k0_t3
  let v1730 : Index := Scalar.indexCast arg8
  let c64_1063 : Index := 64#32
  let c0_1064 : Index := 0#32
  ![0, v1730.toNat, 64, 0]
@[reducible] def k0_t4_loop (i : grid0.Coords) : Scf.Loop 32 :=
  let c0_i32_231 : BitVec 32 := 0#32
  let arg1 : BitVec 32 := BitVec.ofNat 32 (i 1).val
  let v422 : BitVec 32 := Scalar.subi arg1 c0_i32_231
  let c1_i32_232 : BitVec 32 := 1#32
  let v424 : BitVec 32 := Scalar.divsi v422 c1_i32_232
  let v425 : BitVec 32 := Scalar.muli v424 c1_i32_232
  let v426 : BitVec 32 := Scalar.addi c0_i32_231 v425
  let v423 : BitVec 32 := Scalar.addi c0_i32_231 v422
  let c1_i32_234 : BitVec 32 := 1#32
  ⟨v426, v423, c1_i32_234⟩
def k0_off13 (i : grid0.Coords) (k0_t4 : Fin (k0_t4_loop i).trips) : Fin 4 → Nat :=
  let c0_1054 : Index := 0#32
  let c0_i32_231 : BitVec 32 := 0#32
  let arg1 : BitVec 32 := BitVec.ofNat 32 (i 1).val
  let v422 : BitVec 32 := Scalar.subi arg1 c0_i32_231
  let c1_i32_232 : BitVec 32 := 1#32
  let v424 : BitVec 32 := Scalar.divsi v422 c1_i32_232
  let v425 : BitVec 32 := Scalar.muli v424 c1_i32_232
  let v426 : BitVec 32 := Scalar.addi c0_i32_231 v425
  let c1_i32_234 : BitVec 32 := 1#32
  let arg8 : BitVec 32 := Scf.iv v426 c1_i32_234 k0_t4
  let v1707 : Index := Scalar.indexCast arg8
  let c0_1055 : Index := 0#32
  let c0_1056 : Index := 0#32
  ![0, v1707.toNat, 0, 0]
def k0_off14 (i : grid0.Coords) (k0_t4 : Fin (k0_t4_loop i).trips) : Fin 3 → Nat :=
  let c0_i32_231 : BitVec 32 := 0#32
  let arg1 : BitVec 32 := BitVec.ofNat 32 (i 1).val
  let v422 : BitVec 32 := Scalar.subi arg1 c0_i32_231
  let c1_i32_232 : BitVec 32 := 1#32
  let v424 : BitVec 32 := Scalar.divsi v422 c1_i32_232
  let v425 : BitVec 32 := Scalar.muli v424 c1_i32_232
  let v426 : BitVec 32 := Scalar.addi c0_i32_231 v425
  let c1_i32_234 : BitVec 32 := 1#32
  let arg8 : BitVec 32 := Scf.iv v426 c1_i32_234 k0_t4
  let v1711 : Index := Scalar.indexCast arg8
  let c0_1058 : Index := 0#32
  let c0_1059 : Index := 0#32
  ![v1711.toNat, 0, 0]
def k0_off15 (i : grid0.Coords) (k0_t4 : Fin (k0_t4_loop i).trips) : Fin 4 → Nat :=
  let c0_1062 : Index := 0#32
  let c0_i32_231 : BitVec 32 := 0#32
  let arg1 : BitVec 32 := BitVec.ofNat 32 (i 1).val
  let v422 : BitVec 32 := Scalar.subi arg1 c0_i32_231
  let c1_i32_232 : BitVec 32 := 1#32
  let v424 : BitVec 32 := Scalar.divsi v422 c1_i32_232
  let v425 : BitVec 32 := Scalar.muli v424 c1_i32_232
  let v426 : BitVec 32 := Scalar.addi c0_i32_231 v425
  let c1_i32_234 : BitVec 32 := 1#32
  let arg8 : BitVec 32 := Scf.iv v426 c1_i32_234 k0_t4
  let v1730 : Index := Scalar.indexCast arg8
  let c64_1063 : Index := 64#32
  let c0_1064 : Index := 0#32
  ![0, v1730.toNat, 64, 0]
def k0_off16 (i : grid0.Coords) : Fin 4 → Nat :=
  let c0_356 : Index := 0#32
  let arg1 : BitVec 32 := BitVec.ofNat 32 (i 1).val
  let v616 : Index := Scalar.indexCast arg1
  let c0_357 : Index := 0#32
  let c128_358 : Index := 128#32
  ![0, v616.toNat, 0, 128]
def k0_off17 (i : grid0.Coords) : Fin 4 → Nat :=
  let c0_363 : Index := 0#32
  let arg1 : BitVec 32 := BitVec.ofNat 32 (i 1).val
  let v629 : Index := Scalar.indexCast arg1
  let c128_364 : Index := 128#32
  let c0_365 : Index := 0#32
  ![0, v629.toNat, 128, 0]
@[reducible] def k0_t5_loop (i : grid0.Coords) : Scf.Loop 32 :=
  let c0_i32_367 : BitVec 32 := 0#32
  let arg1 : BitVec 32 := BitVec.ofNat 32 (i 1).val
  let v634 : BitVec 32 := Scalar.subi arg1 c0_i32_367
  let c1_i32_368 : BitVec 32 := 1#32
  let v636 : BitVec 32 := Scalar.divsi v634 c1_i32_368
  let v637 : BitVec 32 := Scalar.muli v636 c1_i32_368
  let v638 : BitVec 32 := Scalar.addi c0_i32_367 v637
  let c1_i32_369 : BitVec 32 := 1#32
  ⟨c0_i32_367, v638, c1_i32_369⟩
def k0_off18 (i : grid0.Coords) (k0_t5 : Fin (k0_t5_loop i).trips) : Fin 4 → Nat :=
  let c0_1054 : Index := 0#32
  let c0_i32_367 : BitVec 32 := 0#32
  let c1_i32_369 : BitVec 32 := 1#32
  let arg8 : BitVec 32 := Scf.iv c0_i32_367 c1_i32_369 k0_t5
  let v1707 : Index := Scalar.indexCast arg8
  let c0_1055 : Index := 0#32
  let c128_1056 : Index := 128#32
  ![0, v1707.toNat, 0, 128]
def k0_off19 (i : grid0.Coords) (k0_t5 : Fin (k0_t5_loop i).trips) : Fin 3 → Nat :=
  let c0_i32_367 : BitVec 32 := 0#32
  let c1_i32_369 : BitVec 32 := 1#32
  let arg8 : BitVec 32 := Scf.iv c0_i32_367 c1_i32_369 k0_t5
  let v1711 : Index := Scalar.indexCast arg8
  let c0_1058 : Index := 0#32
  let c0_1059 : Index := 0#32
  ![v1711.toNat, 0, 0]
def k0_off20 (i : grid0.Coords) (k0_t5 : Fin (k0_t5_loop i).trips) : Fin 4 → Nat :=
  let c0_1062 : Index := 0#32
  let c0_i32_367 : BitVec 32 := 0#32
  let c1_i32_369 : BitVec 32 := 1#32
  let arg8 : BitVec 32 := Scf.iv c0_i32_367 c1_i32_369 k0_t5
  let v1730 : Index := Scalar.indexCast arg8
  let c128_1063 : Index := 128#32
  let c0_1064 : Index := 0#32
  ![0, v1730.toNat, 128, 0]
@[reducible] def k0_t6_loop (i : grid0.Coords) : Scf.Loop 32 :=
  let c0_i32_367 : BitVec 32 := 0#32
  let arg1 : BitVec 32 := BitVec.ofNat 32 (i 1).val
  let v634 : BitVec 32 := Scalar.subi arg1 c0_i32_367
  let c1_i32_368 : BitVec 32 := 1#32
  let v636 : BitVec 32 := Scalar.divsi v634 c1_i32_368
  let v637 : BitVec 32 := Scalar.muli v636 c1_i32_368
  let v638 : BitVec 32 := Scalar.addi c0_i32_367 v637
  let v635 : BitVec 32 := Scalar.addi c0_i32_367 v634
  let c1_i32_370 : BitVec 32 := 1#32
  ⟨v638, v635, c1_i32_370⟩
def k0_off21 (i : grid0.Coords) (k0_t6 : Fin (k0_t6_loop i).trips) : Fin 4 → Nat :=
  let c0_1054 : Index := 0#32
  let c0_i32_367 : BitVec 32 := 0#32
  let arg1 : BitVec 32 := BitVec.ofNat 32 (i 1).val
  let v634 : BitVec 32 := Scalar.subi arg1 c0_i32_367
  let c1_i32_368 : BitVec 32 := 1#32
  let v636 : BitVec 32 := Scalar.divsi v634 c1_i32_368
  let v637 : BitVec 32 := Scalar.muli v636 c1_i32_368
  let v638 : BitVec 32 := Scalar.addi c0_i32_367 v637
  let c1_i32_370 : BitVec 32 := 1#32
  let arg8 : BitVec 32 := Scf.iv v638 c1_i32_370 k0_t6
  let v1707 : Index := Scalar.indexCast arg8
  let c0_1055 : Index := 0#32
  let c128_1056 : Index := 128#32
  ![0, v1707.toNat, 0, 128]
def k0_off22 (i : grid0.Coords) (k0_t6 : Fin (k0_t6_loop i).trips) : Fin 3 → Nat :=
  let c0_i32_367 : BitVec 32 := 0#32
  let arg1 : BitVec 32 := BitVec.ofNat 32 (i 1).val
  let v634 : BitVec 32 := Scalar.subi arg1 c0_i32_367
  let c1_i32_368 : BitVec 32 := 1#32
  let v636 : BitVec 32 := Scalar.divsi v634 c1_i32_368
  let v637 : BitVec 32 := Scalar.muli v636 c1_i32_368
  let v638 : BitVec 32 := Scalar.addi c0_i32_367 v637
  let c1_i32_370 : BitVec 32 := 1#32
  let arg8 : BitVec 32 := Scf.iv v638 c1_i32_370 k0_t6
  let v1711 : Index := Scalar.indexCast arg8
  let c0_1058 : Index := 0#32
  let c0_1059 : Index := 0#32
  ![v1711.toNat, 0, 0]
def k0_off23 (i : grid0.Coords) (k0_t6 : Fin (k0_t6_loop i).trips) : Fin 4 → Nat :=
  let c0_1062 : Index := 0#32
  let c0_i32_367 : BitVec 32 := 0#32
  let arg1 : BitVec 32 := BitVec.ofNat 32 (i 1).val
  let v634 : BitVec 32 := Scalar.subi arg1 c0_i32_367
  let c1_i32_368 : BitVec 32 := 1#32
  let v636 : BitVec 32 := Scalar.divsi v634 c1_i32_368
  let v637 : BitVec 32 := Scalar.muli v636 c1_i32_368
  let v638 : BitVec 32 := Scalar.addi c0_i32_367 v637
  let c1_i32_370 : BitVec 32 := 1#32
  let arg8 : BitVec 32 := Scf.iv v638 c1_i32_370 k0_t6
  let v1730 : Index := Scalar.indexCast arg8
  let c128_1063 : Index := 128#32
  let c0_1064 : Index := 0#32
  ![0, v1730.toNat, 128, 0]
def k0_off24 (i : grid0.Coords) : Fin 4 → Nat :=
  let c0_500 : Index := 0#32
  let arg1 : BitVec 32 := BitVec.ofNat 32 (i 1).val
  let v841 : Index := Scalar.indexCast arg1
  let c192 : Index := 192#32
  let c0_501 : Index := 0#32
  ![0, v841.toNat, 192, 0]
@[reducible] def k0_t7_loop (i : grid0.Coords) : Scf.Loop 32 :=
  let c0_i32_503 : BitVec 32 := 0#32
  let arg1 : BitVec 32 := BitVec.ofNat 32 (i 1).val
  let v846 : BitVec 32 := Scalar.subi arg1 c0_i32_503
  let c1_i32_504 : BitVec 32 := 1#32
  let v848 : BitVec 32 := Scalar.divsi v846 c1_i32_504
  let v849 : BitVec 32 := Scalar.muli v848 c1_i32_504
  let v850 : BitVec 32 := Scalar.addi c0_i32_503 v849
  let c1_i32_505 : BitVec 32 := 1#32
  ⟨c0_i32_503, v850, c1_i32_505⟩
def k0_off25 (i : grid0.Coords) (k0_t7 : Fin (k0_t7_loop i).trips) : Fin 4 → Nat :=
  let c0_1054 : Index := 0#32
  let c0_i32_503 : BitVec 32 := 0#32
  let c1_i32_505 : BitVec 32 := 1#32
  let arg8 : BitVec 32 := Scf.iv c0_i32_503 c1_i32_505 k0_t7
  let v1707 : Index := Scalar.indexCast arg8
  let c0_1055 : Index := 0#32
  let c128_1056 : Index := 128#32
  ![0, v1707.toNat, 0, 128]
def k0_off26 (i : grid0.Coords) (k0_t7 : Fin (k0_t7_loop i).trips) : Fin 3 → Nat :=
  let c0_i32_503 : BitVec 32 := 0#32
  let c1_i32_505 : BitVec 32 := 1#32
  let arg8 : BitVec 32 := Scf.iv c0_i32_503 c1_i32_505 k0_t7
  let v1711 : Index := Scalar.indexCast arg8
  let c0_1058 : Index := 0#32
  let c0_1059 : Index := 0#32
  ![v1711.toNat, 0, 0]
def k0_off27 (i : grid0.Coords) (k0_t7 : Fin (k0_t7_loop i).trips) : Fin 4 → Nat :=
  let c0_1062 : Index := 0#32
  let c0_i32_503 : BitVec 32 := 0#32
  let c1_i32_505 : BitVec 32 := 1#32
  let arg8 : BitVec 32 := Scf.iv c0_i32_503 c1_i32_505 k0_t7
  let v1730 : Index := Scalar.indexCast arg8
  let c192_1063 : Index := 192#32
  let c0_1064 : Index := 0#32
  ![0, v1730.toNat, 192, 0]
@[reducible] def k0_t8_loop (i : grid0.Coords) : Scf.Loop 32 :=
  let c0_i32_503 : BitVec 32 := 0#32
  let arg1 : BitVec 32 := BitVec.ofNat 32 (i 1).val
  let v846 : BitVec 32 := Scalar.subi arg1 c0_i32_503
  let c1_i32_504 : BitVec 32 := 1#32
  let v848 : BitVec 32 := Scalar.divsi v846 c1_i32_504
  let v849 : BitVec 32 := Scalar.muli v848 c1_i32_504
  let v850 : BitVec 32 := Scalar.addi c0_i32_503 v849
  let v847 : BitVec 32 := Scalar.addi c0_i32_503 v846
  let c1_i32_506 : BitVec 32 := 1#32
  ⟨v850, v847, c1_i32_506⟩
def k0_off28 (i : grid0.Coords) (k0_t8 : Fin (k0_t8_loop i).trips) : Fin 4 → Nat :=
  let c0_1054 : Index := 0#32
  let c0_i32_503 : BitVec 32 := 0#32
  let arg1 : BitVec 32 := BitVec.ofNat 32 (i 1).val
  let v846 : BitVec 32 := Scalar.subi arg1 c0_i32_503
  let c1_i32_504 : BitVec 32 := 1#32
  let v848 : BitVec 32 := Scalar.divsi v846 c1_i32_504
  let v849 : BitVec 32 := Scalar.muli v848 c1_i32_504
  let v850 : BitVec 32 := Scalar.addi c0_i32_503 v849
  let c1_i32_506 : BitVec 32 := 1#32
  let arg8 : BitVec 32 := Scf.iv v850 c1_i32_506 k0_t8
  let v1707 : Index := Scalar.indexCast arg8
  let c0_1055 : Index := 0#32
  let c128_1056 : Index := 128#32
  ![0, v1707.toNat, 0, 128]
def k0_off29 (i : grid0.Coords) (k0_t8 : Fin (k0_t8_loop i).trips) : Fin 3 → Nat :=
  let c0_i32_503 : BitVec 32 := 0#32
  let arg1 : BitVec 32 := BitVec.ofNat 32 (i 1).val
  let v846 : BitVec 32 := Scalar.subi arg1 c0_i32_503
  let c1_i32_504 : BitVec 32 := 1#32
  let v848 : BitVec 32 := Scalar.divsi v846 c1_i32_504
  let v849 : BitVec 32 := Scalar.muli v848 c1_i32_504
  let v850 : BitVec 32 := Scalar.addi c0_i32_503 v849
  let c1_i32_506 : BitVec 32 := 1#32
  let arg8 : BitVec 32 := Scf.iv v850 c1_i32_506 k0_t8
  let v1711 : Index := Scalar.indexCast arg8
  let c0_1058 : Index := 0#32
  let c0_1059 : Index := 0#32
  ![v1711.toNat, 0, 0]
def k0_off30 (i : grid0.Coords) (k0_t8 : Fin (k0_t8_loop i).trips) : Fin 4 → Nat :=
  let c0_1062 : Index := 0#32
  let c0_i32_503 : BitVec 32 := 0#32
  let arg1 : BitVec 32 := BitVec.ofNat 32 (i 1).val
  let v846 : BitVec 32 := Scalar.subi arg1 c0_i32_503
  let c1_i32_504 : BitVec 32 := 1#32
  let v848 : BitVec 32 := Scalar.divsi v846 c1_i32_504
  let v849 : BitVec 32 := Scalar.muli v848 c1_i32_504
  let v850 : BitVec 32 := Scalar.addi c0_i32_503 v849
  let c1_i32_506 : BitVec 32 := 1#32
  let arg8 : BitVec 32 := Scf.iv v850 c1_i32_506 k0_t8
  let v1730 : Index := Scalar.indexCast arg8
  let c192_1063 : Index := 192#32
  let c0_1064 : Index := 0#32
  ![0, v1730.toNat, 192, 0]
def k0_off31 (i : grid0.Coords) : Fin 4 → Nat :=
  let c0_628 : Index := 0#32
  let arg1 : BitVec 32 := BitVec.ofNat 32 (i 1).val
  let v1040 : Index := Scalar.indexCast arg1
  let c0_629 : Index := 0#32
  let c256_630 : Index := 256#32
  ![0, v1040.toNat, 0, 256]
def k0_off32 (i : grid0.Coords) : Fin 4 → Nat :=
  let c0_635 : Index := 0#32
  let arg1 : BitVec 32 := BitVec.ofNat 32 (i 1).val
  let v1053 : Index := Scalar.indexCast arg1
  let c256_636 : Index := 256#32
  let c0_637 : Index := 0#32
  ![0, v1053.toNat, 256, 0]
@[reducible] def k0_t9_loop (i : grid0.Coords) : Scf.Loop 32 :=
  let c0_i32_639 : BitVec 32 := 0#32
  let arg1 : BitVec 32 := BitVec.ofNat 32 (i 1).val
  let v1058 : BitVec 32 := Scalar.subi arg1 c0_i32_639
  let c1_i32_640 : BitVec 32 := 1#32
  let v1060 : BitVec 32 := Scalar.divsi v1058 c1_i32_640
  let v1061 : BitVec 32 := Scalar.muli v1060 c1_i32_640
  let v1062 : BitVec 32 := Scalar.addi c0_i32_639 v1061
  let c1_i32_641 : BitVec 32 := 1#32
  ⟨c0_i32_639, v1062, c1_i32_641⟩
def k0_off33 (i : grid0.Coords) (k0_t9 : Fin (k0_t9_loop i).trips) : Fin 4 → Nat :=
  let c0_1054 : Index := 0#32
  let c0_i32_639 : BitVec 32 := 0#32
  let c1_i32_641 : BitVec 32 := 1#32
  let arg8 : BitVec 32 := Scf.iv c0_i32_639 c1_i32_641 k0_t9
  let v1707 : Index := Scalar.indexCast arg8
  let c0_1055 : Index := 0#32
  let c256_1056 : Index := 256#32
  ![0, v1707.toNat, 0, 256]
def k0_off34 (i : grid0.Coords) (k0_t9 : Fin (k0_t9_loop i).trips) : Fin 3 → Nat :=
  let c0_i32_639 : BitVec 32 := 0#32
  let c1_i32_641 : BitVec 32 := 1#32
  let arg8 : BitVec 32 := Scf.iv c0_i32_639 c1_i32_641 k0_t9
  let v1711 : Index := Scalar.indexCast arg8
  let c0_1058 : Index := 0#32
  let c0_1059 : Index := 0#32
  ![v1711.toNat, 0, 0]
def k0_off35 (i : grid0.Coords) (k0_t9 : Fin (k0_t9_loop i).trips) : Fin 4 → Nat :=
  let c0_1062 : Index := 0#32
  let c0_i32_639 : BitVec 32 := 0#32
  let c1_i32_641 : BitVec 32 := 1#32
  let arg8 : BitVec 32 := Scf.iv c0_i32_639 c1_i32_641 k0_t9
  let v1730 : Index := Scalar.indexCast arg8
  let c256_1063 : Index := 256#32
  let c0_1064 : Index := 0#32
  ![0, v1730.toNat, 256, 0]
@[reducible] def k0_t10_loop (i : grid0.Coords) : Scf.Loop 32 :=
  let c0_i32_639 : BitVec 32 := 0#32
  let arg1 : BitVec 32 := BitVec.ofNat 32 (i 1).val
  let v1058 : BitVec 32 := Scalar.subi arg1 c0_i32_639
  let c1_i32_640 : BitVec 32 := 1#32
  let v1060 : BitVec 32 := Scalar.divsi v1058 c1_i32_640
  let v1061 : BitVec 32 := Scalar.muli v1060 c1_i32_640
  let v1062 : BitVec 32 := Scalar.addi c0_i32_639 v1061
  let v1059 : BitVec 32 := Scalar.addi c0_i32_639 v1058
  let c1_i32_642 : BitVec 32 := 1#32
  ⟨v1062, v1059, c1_i32_642⟩
def k0_off36 (i : grid0.Coords) (k0_t10 : Fin (k0_t10_loop i).trips) : Fin 4 → Nat :=
  let c0_1054 : Index := 0#32
  let c0_i32_639 : BitVec 32 := 0#32
  let arg1 : BitVec 32 := BitVec.ofNat 32 (i 1).val
  let v1058 : BitVec 32 := Scalar.subi arg1 c0_i32_639
  let c1_i32_640 : BitVec 32 := 1#32
  let v1060 : BitVec 32 := Scalar.divsi v1058 c1_i32_640
  let v1061 : BitVec 32 := Scalar.muli v1060 c1_i32_640
  let v1062 : BitVec 32 := Scalar.addi c0_i32_639 v1061
  let c1_i32_642 : BitVec 32 := 1#32
  let arg8 : BitVec 32 := Scf.iv v1062 c1_i32_642 k0_t10
  let v1707 : Index := Scalar.indexCast arg8
  let c0_1055 : Index := 0#32
  let c256_1056 : Index := 256#32
  ![0, v1707.toNat, 0, 256]
def k0_off37 (i : grid0.Coords) (k0_t10 : Fin (k0_t10_loop i).trips) : Fin 3 → Nat :=
  let c0_i32_639 : BitVec 32 := 0#32
  let arg1 : BitVec 32 := BitVec.ofNat 32 (i 1).val
  let v1058 : BitVec 32 := Scalar.subi arg1 c0_i32_639
  let c1_i32_640 : BitVec 32 := 1#32
  let v1060 : BitVec 32 := Scalar.divsi v1058 c1_i32_640
  let v1061 : BitVec 32 := Scalar.muli v1060 c1_i32_640
  let v1062 : BitVec 32 := Scalar.addi c0_i32_639 v1061
  let c1_i32_642 : BitVec 32 := 1#32
  let arg8 : BitVec 32 := Scf.iv v1062 c1_i32_642 k0_t10
  let v1711 : Index := Scalar.indexCast arg8
  let c0_1058 : Index := 0#32
  let c0_1059 : Index := 0#32
  ![v1711.toNat, 0, 0]
def k0_off38 (i : grid0.Coords) (k0_t10 : Fin (k0_t10_loop i).trips) : Fin 4 → Nat :=
  let c0_1062 : Index := 0#32
  let c0_i32_639 : BitVec 32 := 0#32
  let arg1 : BitVec 32 := BitVec.ofNat 32 (i 1).val
  let v1058 : BitVec 32 := Scalar.subi arg1 c0_i32_639
  let c1_i32_640 : BitVec 32 := 1#32
  let v1060 : BitVec 32 := Scalar.divsi v1058 c1_i32_640
  let v1061 : BitVec 32 := Scalar.muli v1060 c1_i32_640
  let v1062 : BitVec 32 := Scalar.addi c0_i32_639 v1061
  let c1_i32_642 : BitVec 32 := 1#32
  let arg8 : BitVec 32 := Scf.iv v1062 c1_i32_642 k0_t10
  let v1730 : Index := Scalar.indexCast arg8
  let c256_1063 : Index := 256#32
  let c0_1064 : Index := 0#32
  ![0, v1730.toNat, 256, 0]
def k0_off39 (i : grid0.Coords) : Fin 4 → Nat :=
  let c0_772 : Index := 0#32
  let arg1 : BitVec 32 := BitVec.ofNat 32 (i 1).val
  let v1265 : Index := Scalar.indexCast arg1
  let c320 : Index := 320#32
  let c0_773 : Index := 0#32
  ![0, v1265.toNat, 320, 0]
@[reducible] def k0_t11_loop (i : grid0.Coords) : Scf.Loop 32 :=
  let c0_i32_775 : BitVec 32 := 0#32
  let arg1 : BitVec 32 := BitVec.ofNat 32 (i 1).val
  let v1270 : BitVec 32 := Scalar.subi arg1 c0_i32_775
  let c1_i32_776 : BitVec 32 := 1#32
  let v1272 : BitVec 32 := Scalar.divsi v1270 c1_i32_776
  let v1273 : BitVec 32 := Scalar.muli v1272 c1_i32_776
  let v1274 : BitVec 32 := Scalar.addi c0_i32_775 v1273
  let c1_i32_777 : BitVec 32 := 1#32
  ⟨c0_i32_775, v1274, c1_i32_777⟩
def k0_off40 (i : grid0.Coords) (k0_t11 : Fin (k0_t11_loop i).trips) : Fin 4 → Nat :=
  let c0_1054 : Index := 0#32
  let c0_i32_775 : BitVec 32 := 0#32
  let c1_i32_777 : BitVec 32 := 1#32
  let arg8 : BitVec 32 := Scf.iv c0_i32_775 c1_i32_777 k0_t11
  let v1707 : Index := Scalar.indexCast arg8
  let c0_1055 : Index := 0#32
  let c256_1056 : Index := 256#32
  ![0, v1707.toNat, 0, 256]
def k0_off41 (i : grid0.Coords) (k0_t11 : Fin (k0_t11_loop i).trips) : Fin 3 → Nat :=
  let c0_i32_775 : BitVec 32 := 0#32
  let c1_i32_777 : BitVec 32 := 1#32
  let arg8 : BitVec 32 := Scf.iv c0_i32_775 c1_i32_777 k0_t11
  let v1711 : Index := Scalar.indexCast arg8
  let c0_1058 : Index := 0#32
  let c0_1059 : Index := 0#32
  ![v1711.toNat, 0, 0]
def k0_off42 (i : grid0.Coords) (k0_t11 : Fin (k0_t11_loop i).trips) : Fin 4 → Nat :=
  let c0_1062 : Index := 0#32
  let c0_i32_775 : BitVec 32 := 0#32
  let c1_i32_777 : BitVec 32 := 1#32
  let arg8 : BitVec 32 := Scf.iv c0_i32_775 c1_i32_777 k0_t11
  let v1730 : Index := Scalar.indexCast arg8
  let c320_1063 : Index := 320#32
  let c0_1064 : Index := 0#32
  ![0, v1730.toNat, 320, 0]
@[reducible] def k0_t12_loop (i : grid0.Coords) : Scf.Loop 32 :=
  let c0_i32_775 : BitVec 32 := 0#32
  let arg1 : BitVec 32 := BitVec.ofNat 32 (i 1).val
  let v1270 : BitVec 32 := Scalar.subi arg1 c0_i32_775
  let c1_i32_776 : BitVec 32 := 1#32
  let v1272 : BitVec 32 := Scalar.divsi v1270 c1_i32_776
  let v1273 : BitVec 32 := Scalar.muli v1272 c1_i32_776
  let v1274 : BitVec 32 := Scalar.addi c0_i32_775 v1273
  let v1271 : BitVec 32 := Scalar.addi c0_i32_775 v1270
  let c1_i32_778 : BitVec 32 := 1#32
  ⟨v1274, v1271, c1_i32_778⟩
def k0_off43 (i : grid0.Coords) (k0_t12 : Fin (k0_t12_loop i).trips) : Fin 4 → Nat :=
  let c0_1054 : Index := 0#32
  let c0_i32_775 : BitVec 32 := 0#32
  let arg1 : BitVec 32 := BitVec.ofNat 32 (i 1).val
  let v1270 : BitVec 32 := Scalar.subi arg1 c0_i32_775
  let c1_i32_776 : BitVec 32 := 1#32
  let v1272 : BitVec 32 := Scalar.divsi v1270 c1_i32_776
  let v1273 : BitVec 32 := Scalar.muli v1272 c1_i32_776
  let v1274 : BitVec 32 := Scalar.addi c0_i32_775 v1273
  let c1_i32_778 : BitVec 32 := 1#32
  let arg8 : BitVec 32 := Scf.iv v1274 c1_i32_778 k0_t12
  let v1707 : Index := Scalar.indexCast arg8
  let c0_1055 : Index := 0#32
  let c256_1056 : Index := 256#32
  ![0, v1707.toNat, 0, 256]
def k0_off44 (i : grid0.Coords) (k0_t12 : Fin (k0_t12_loop i).trips) : Fin 3 → Nat :=
  let c0_i32_775 : BitVec 32 := 0#32
  let arg1 : BitVec 32 := BitVec.ofNat 32 (i 1).val
  let v1270 : BitVec 32 := Scalar.subi arg1 c0_i32_775
  let c1_i32_776 : BitVec 32 := 1#32
  let v1272 : BitVec 32 := Scalar.divsi v1270 c1_i32_776
  let v1273 : BitVec 32 := Scalar.muli v1272 c1_i32_776
  let v1274 : BitVec 32 := Scalar.addi c0_i32_775 v1273
  let c1_i32_778 : BitVec 32 := 1#32
  let arg8 : BitVec 32 := Scf.iv v1274 c1_i32_778 k0_t12
  let v1711 : Index := Scalar.indexCast arg8
  let c0_1058 : Index := 0#32
  let c0_1059 : Index := 0#32
  ![v1711.toNat, 0, 0]
def k0_off45 (i : grid0.Coords) (k0_t12 : Fin (k0_t12_loop i).trips) : Fin 4 → Nat :=
  let c0_1062 : Index := 0#32
  let c0_i32_775 : BitVec 32 := 0#32
  let arg1 : BitVec 32 := BitVec.ofNat 32 (i 1).val
  let v1270 : BitVec 32 := Scalar.subi arg1 c0_i32_775
  let c1_i32_776 : BitVec 32 := 1#32
  let v1272 : BitVec 32 := Scalar.divsi v1270 c1_i32_776
  let v1273 : BitVec 32 := Scalar.muli v1272 c1_i32_776
  let v1274 : BitVec 32 := Scalar.addi c0_i32_775 v1273
  let c1_i32_778 : BitVec 32 := 1#32
  let arg8 : BitVec 32 := Scf.iv v1274 c1_i32_778 k0_t12
  let v1730 : Index := Scalar.indexCast arg8
  let c320_1063 : Index := 320#32
  let c0_1064 : Index := 0#32
  ![0, v1730.toNat, 320, 0]
def k0_off46 (i : grid0.Coords) : Fin 4 → Nat :=
  let c0_900 : Index := 0#32
  let arg1 : BitVec 32 := BitVec.ofNat 32 (i 1).val
  let v1464 : Index := Scalar.indexCast arg1
  let c0_901 : Index := 0#32
  let c384_902 : Index := 384#32
  ![0, v1464.toNat, 0, 384]
def k0_off47 (i : grid0.Coords) : Fin 4 → Nat :=
  let c0_907 : Index := 0#32
  let arg1 : BitVec 32 := BitVec.ofNat 32 (i 1).val
  let v1477 : Index := Scalar.indexCast arg1
  let c384_908 : Index := 384#32
  let c0_909 : Index := 0#32
  ![0, v1477.toNat, 384, 0]
@[reducible] def k0_t13_loop (i : grid0.Coords) : Scf.Loop 32 :=
  let c0_i32_911 : BitVec 32 := 0#32
  let arg1 : BitVec 32 := BitVec.ofNat 32 (i 1).val
  let v1482 : BitVec 32 := Scalar.subi arg1 c0_i32_911
  let c1_i32_912 : BitVec 32 := 1#32
  let v1484 : BitVec 32 := Scalar.divsi v1482 c1_i32_912
  let v1485 : BitVec 32 := Scalar.muli v1484 c1_i32_912
  let v1486 : BitVec 32 := Scalar.addi c0_i32_911 v1485
  let c1_i32_913 : BitVec 32 := 1#32
  ⟨c0_i32_911, v1486, c1_i32_913⟩
def k0_off48 (i : grid0.Coords) (k0_t13 : Fin (k0_t13_loop i).trips) : Fin 4 → Nat :=
  let c0_1054 : Index := 0#32
  let c0_i32_911 : BitVec 32 := 0#32
  let c1_i32_913 : BitVec 32 := 1#32
  let arg8 : BitVec 32 := Scf.iv c0_i32_911 c1_i32_913 k0_t13
  let v1707 : Index := Scalar.indexCast arg8
  let c0_1055 : Index := 0#32
  let c384_1056 : Index := 384#32
  ![0, v1707.toNat, 0, 384]
def k0_off49 (i : grid0.Coords) (k0_t13 : Fin (k0_t13_loop i).trips) : Fin 3 → Nat :=
  let c0_i32_911 : BitVec 32 := 0#32
  let c1_i32_913 : BitVec 32 := 1#32
  let arg8 : BitVec 32 := Scf.iv c0_i32_911 c1_i32_913 k0_t13
  let v1711 : Index := Scalar.indexCast arg8
  let c0_1058 : Index := 0#32
  let c0_1059 : Index := 0#32
  ![v1711.toNat, 0, 0]
def k0_off50 (i : grid0.Coords) (k0_t13 : Fin (k0_t13_loop i).trips) : Fin 4 → Nat :=
  let c0_1062 : Index := 0#32
  let c0_i32_911 : BitVec 32 := 0#32
  let c1_i32_913 : BitVec 32 := 1#32
  let arg8 : BitVec 32 := Scf.iv c0_i32_911 c1_i32_913 k0_t13
  let v1730 : Index := Scalar.indexCast arg8
  let c384_1063 : Index := 384#32
  let c0_1064 : Index := 0#32
  ![0, v1730.toNat, 384, 0]
@[reducible] def k0_t14_loop (i : grid0.Coords) : Scf.Loop 32 :=
  let c0_i32_911 : BitVec 32 := 0#32
  let arg1 : BitVec 32 := BitVec.ofNat 32 (i 1).val
  let v1482 : BitVec 32 := Scalar.subi arg1 c0_i32_911
  let c1_i32_912 : BitVec 32 := 1#32
  let v1484 : BitVec 32 := Scalar.divsi v1482 c1_i32_912
  let v1485 : BitVec 32 := Scalar.muli v1484 c1_i32_912
  let v1486 : BitVec 32 := Scalar.addi c0_i32_911 v1485
  let v1483 : BitVec 32 := Scalar.addi c0_i32_911 v1482
  let c1_i32_914 : BitVec 32 := 1#32
  ⟨v1486, v1483, c1_i32_914⟩
def k0_off51 (i : grid0.Coords) (k0_t14 : Fin (k0_t14_loop i).trips) : Fin 4 → Nat :=
  let c0_1054 : Index := 0#32
  let c0_i32_911 : BitVec 32 := 0#32
  let arg1 : BitVec 32 := BitVec.ofNat 32 (i 1).val
  let v1482 : BitVec 32 := Scalar.subi arg1 c0_i32_911
  let c1_i32_912 : BitVec 32 := 1#32
  let v1484 : BitVec 32 := Scalar.divsi v1482 c1_i32_912
  let v1485 : BitVec 32 := Scalar.muli v1484 c1_i32_912
  let v1486 : BitVec 32 := Scalar.addi c0_i32_911 v1485
  let c1_i32_914 : BitVec 32 := 1#32
  let arg8 : BitVec 32 := Scf.iv v1486 c1_i32_914 k0_t14
  let v1707 : Index := Scalar.indexCast arg8
  let c0_1055 : Index := 0#32
  let c384_1056 : Index := 384#32
  ![0, v1707.toNat, 0, 384]
def k0_off52 (i : grid0.Coords) (k0_t14 : Fin (k0_t14_loop i).trips) : Fin 3 → Nat :=
  let c0_i32_911 : BitVec 32 := 0#32
  let arg1 : BitVec 32 := BitVec.ofNat 32 (i 1).val
  let v1482 : BitVec 32 := Scalar.subi arg1 c0_i32_911
  let c1_i32_912 : BitVec 32 := 1#32
  let v1484 : BitVec 32 := Scalar.divsi v1482 c1_i32_912
  let v1485 : BitVec 32 := Scalar.muli v1484 c1_i32_912
  let v1486 : BitVec 32 := Scalar.addi c0_i32_911 v1485
  let c1_i32_914 : BitVec 32 := 1#32
  let arg8 : BitVec 32 := Scf.iv v1486 c1_i32_914 k0_t14
  let v1711 : Index := Scalar.indexCast arg8
  let c0_1058 : Index := 0#32
  let c0_1059 : Index := 0#32
  ![v1711.toNat, 0, 0]
def k0_off53 (i : grid0.Coords) (k0_t14 : Fin (k0_t14_loop i).trips) : Fin 4 → Nat :=
  let c0_1062 : Index := 0#32
  let c0_i32_911 : BitVec 32 := 0#32
  let arg1 : BitVec 32 := BitVec.ofNat 32 (i 1).val
  let v1482 : BitVec 32 := Scalar.subi arg1 c0_i32_911
  let c1_i32_912 : BitVec 32 := 1#32
  let v1484 : BitVec 32 := Scalar.divsi v1482 c1_i32_912
  let v1485 : BitVec 32 := Scalar.muli v1484 c1_i32_912
  let v1486 : BitVec 32 := Scalar.addi c0_i32_911 v1485
  let c1_i32_914 : BitVec 32 := 1#32
  let arg8 : BitVec 32 := Scf.iv v1486 c1_i32_914 k0_t14
  let v1730 : Index := Scalar.indexCast arg8
  let c384_1063 : Index := 384#32
  let c0_1064 : Index := 0#32
  ![0, v1730.toNat, 384, 0]
def k0_off54 (i : grid0.Coords) : Fin 4 → Nat :=
  let c0_1044 : Index := 0#32
  let arg1 : BitVec 32 := BitVec.ofNat 32 (i 1).val
  let v1689 : Index := Scalar.indexCast arg1
  let c448 : Index := 448#32
  let c0_1045 : Index := 0#32
  ![0, v1689.toNat, 448, 0]
@[reducible] def k0_t15_loop (i : grid0.Coords) : Scf.Loop 32 :=
  let c0_i32_1047 : BitVec 32 := 0#32
  let arg1 : BitVec 32 := BitVec.ofNat 32 (i 1).val
  let v1694 : BitVec 32 := Scalar.subi arg1 c0_i32_1047
  let c1_i32_1048 : BitVec 32 := 1#32
  let v1696 : BitVec 32 := Scalar.divsi v1694 c1_i32_1048
  let v1697 : BitVec 32 := Scalar.muli v1696 c1_i32_1048
  let v1698 : BitVec 32 := Scalar.addi c0_i32_1047 v1697
  let c1_i32_1049 : BitVec 32 := 1#32
  ⟨c0_i32_1047, v1698, c1_i32_1049⟩
def k0_off55 (i : grid0.Coords) (k0_t15 : Fin (k0_t15_loop i).trips) : Fin 4 → Nat :=
  let c0_1054 : Index := 0#32
  let c0_i32_1047 : BitVec 32 := 0#32
  let c1_i32_1049 : BitVec 32 := 1#32
  let arg8 : BitVec 32 := Scf.iv c0_i32_1047 c1_i32_1049 k0_t15
  let v1707 : Index := Scalar.indexCast arg8
  let c0_1055 : Index := 0#32
  let c384_1056 : Index := 384#32
  ![0, v1707.toNat, 0, 384]
def k0_off56 (i : grid0.Coords) (k0_t15 : Fin (k0_t15_loop i).trips) : Fin 3 → Nat :=
  let c0_i32_1047 : BitVec 32 := 0#32
  let c1_i32_1049 : BitVec 32 := 1#32
  let arg8 : BitVec 32 := Scf.iv c0_i32_1047 c1_i32_1049 k0_t15
  let v1711 : Index := Scalar.indexCast arg8
  let c0_1058 : Index := 0#32
  let c0_1059 : Index := 0#32
  ![v1711.toNat, 0, 0]
def k0_off57 (i : grid0.Coords) (k0_t15 : Fin (k0_t15_loop i).trips) : Fin 4 → Nat :=
  let c0_1062 : Index := 0#32
  let c0_i32_1047 : BitVec 32 := 0#32
  let c1_i32_1049 : BitVec 32 := 1#32
  let arg8 : BitVec 32 := Scf.iv c0_i32_1047 c1_i32_1049 k0_t15
  let v1730 : Index := Scalar.indexCast arg8
  let c448_1063 : Index := 448#32
  let c0_1064 : Index := 0#32
  ![0, v1730.toNat, 448, 0]
@[reducible] def k0_t16_loop (i : grid0.Coords) : Scf.Loop 32 :=
  let c0_i32_1047 : BitVec 32 := 0#32
  let arg1 : BitVec 32 := BitVec.ofNat 32 (i 1).val
  let v1694 : BitVec 32 := Scalar.subi arg1 c0_i32_1047
  let c1_i32_1048 : BitVec 32 := 1#32
  let v1696 : BitVec 32 := Scalar.divsi v1694 c1_i32_1048
  let v1697 : BitVec 32 := Scalar.muli v1696 c1_i32_1048
  let v1698 : BitVec 32 := Scalar.addi c0_i32_1047 v1697
  let v1695 : BitVec 32 := Scalar.addi c0_i32_1047 v1694
  let c1_i32_1050 : BitVec 32 := 1#32
  ⟨v1698, v1695, c1_i32_1050⟩
def k0_off58 (i : grid0.Coords) (k0_t16 : Fin (k0_t16_loop i).trips) : Fin 4 → Nat :=
  let c0_1054 : Index := 0#32
  let c0_i32_1047 : BitVec 32 := 0#32
  let arg1 : BitVec 32 := BitVec.ofNat 32 (i 1).val
  let v1694 : BitVec 32 := Scalar.subi arg1 c0_i32_1047
  let c1_i32_1048 : BitVec 32 := 1#32
  let v1696 : BitVec 32 := Scalar.divsi v1694 c1_i32_1048
  let v1697 : BitVec 32 := Scalar.muli v1696 c1_i32_1048
  let v1698 : BitVec 32 := Scalar.addi c0_i32_1047 v1697
  let c1_i32_1050 : BitVec 32 := 1#32
  let arg8 : BitVec 32 := Scf.iv v1698 c1_i32_1050 k0_t16
  let v1707 : Index := Scalar.indexCast arg8
  let c0_1055 : Index := 0#32
  let c384_1056 : Index := 384#32
  ![0, v1707.toNat, 0, 384]
def k0_off59 (i : grid0.Coords) (k0_t16 : Fin (k0_t16_loop i).trips) : Fin 3 → Nat :=
  let c0_i32_1047 : BitVec 32 := 0#32
  let arg1 : BitVec 32 := BitVec.ofNat 32 (i 1).val
  let v1694 : BitVec 32 := Scalar.subi arg1 c0_i32_1047
  let c1_i32_1048 : BitVec 32 := 1#32
  let v1696 : BitVec 32 := Scalar.divsi v1694 c1_i32_1048
  let v1697 : BitVec 32 := Scalar.muli v1696 c1_i32_1048
  let v1698 : BitVec 32 := Scalar.addi c0_i32_1047 v1697
  let c1_i32_1050 : BitVec 32 := 1#32
  let arg8 : BitVec 32 := Scf.iv v1698 c1_i32_1050 k0_t16
  let v1711 : Index := Scalar.indexCast arg8
  let c0_1058 : Index := 0#32
  let c0_1059 : Index := 0#32
  ![v1711.toNat, 0, 0]
def k0_off60 (i : grid0.Coords) (k0_t16 : Fin (k0_t16_loop i).trips) : Fin 4 → Nat :=
  let c0_1062 : Index := 0#32
  let c0_i32_1047 : BitVec 32 := 0#32
  let arg1 : BitVec 32 := BitVec.ofNat 32 (i 1).val
  let v1694 : BitVec 32 := Scalar.subi arg1 c0_i32_1047
  let c1_i32_1048 : BitVec 32 := 1#32
  let v1696 : BitVec 32 := Scalar.divsi v1694 c1_i32_1048
  let v1697 : BitVec 32 := Scalar.muli v1696 c1_i32_1048
  let v1698 : BitVec 32 := Scalar.addi c0_i32_1047 v1697
  let c1_i32_1050 : BitVec 32 := 1#32
  let arg8 : BitVec 32 := Scf.iv v1698 c1_i32_1050 k0_t16
  let v1730 : Index := Scalar.indexCast arg8
  let c448_1063 : Index := 448#32
  let c0_1064 : Index := 0#32
  ![0, v1730.toNat, 448, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x32x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x32x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Proof.PreBody.lean ====
module
public import proofs.«01_k».proof.Defs
public import proofs.«01_k».proof.Proof.Gen.PrePromptIdeal.Frame
public import Idealize.ShloMosaic.Lib.Pipeline.Value
public import Idealize.ShloMosaic.Lib.Pipeline.CanonAppend
public import Idealize.ShloMosaic.Lib.Pipeline.ReadBack
public import Idealize.ShloMosaic.Lib.Pointwise
public import Idealize.ShloMosaic.Lib.Tactic
@[expose] public section
set_option maxRecDepth 16384

/-! What one grid point of the pre-attention kernel computes, as closed forms of its blocks and of the rows carried in its four shift buffers. -/

noncomputable section
open Idealize.ShloMosaic Idealize.ShloMosaic.TcCoe Idealize.SL.Sem
namespace Cert.PrePromptIdeal.Out
open Cert.PrePromptIdeal Cert.PrePromptIdeal.Gen
variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-! The 512 columns wide shift buffer: 16 rows kept from the block before, then the block's 512 rows; it is read 1 rows up. -/

/-- Row `r - 1` of the block, or of the 16 rows before it. -/
def shf512 (cy : Vec F S16x512 .f32) (u : FVec F S512x512 .f32) : FVec F S512x512 .f32 := fun j =>
  if h : (j 0).val < 1 then cy (ix2 ⟨15 + (j 0).val, by omega⟩ (j 1)) else u (ix2 ⟨(j 0).val - 1, by have : (j 0).val < 512 := (j 0).isLt; omega⟩ (j 1))

/-- The last 16 rows of the block. -/
def tl512 (u : FVec F S512x512 .f32) : Vec F S16x512 .f32 := fun j => u (ix2 ⟨496 + (j 0).val, by have : (j 0).val < 16 := (j 0).isLt; omega⟩ (j 1))

/-- The first 16 rows of the buffer. -/
def hd512 (xs : Vec F S528x512 .f32) : Vec F S16x512 .f32 := fun j => xs (ix2 ⟨(j 0).val, by have : (j 0).val < 16 := (j 0).isLt; omega⟩ (j 1))

theorem lo512 (ih : ∀ a, (![15, 0] : Fin 2 → Nat) a + (![512, 512] : Fin 2 → Nat) a ≤ S528x512.size a)
    (i16 : ∀ a, (![16, 0] : Fin 2 → Nat) a + (![512, 512] : Fin 2 → Nat) a ≤ S528x512.size a)
    (j : (⟨2, ![512, 512]⟩ : Shape).Idx) (h : (j 0).val < 1) :
    (Rect.unit ![15, 0] ![512, 512] ih).toLoadRect.idx j ∉ (Rect.unit (s := S528x512) ![16, 0] ![512, 512] i16).set := by
  intro hm
  have h0 := (Rect.mem_set_unit.1 hm 0).1
  simp [LoadRect.idx, Rect.toLoadRect, Rect.unit] at h0
  omega

theorem hi512 (ih : ∀ a, (![15, 0] : Fin 2 → Nat) a + (![512, 512] : Fin 2 → Nat) a ≤ S528x512.size a)
    (i16 : ∀ a, (![16, 0] : Fin 2 → Nat) a + (![512, 512] : Fin 2 → Nat) a ≤ S528x512.size a)
    (j : (⟨2, ![512, 512]⟩ : Shape).Idx) (h : ¬(j 0).val < 1) :
    (Rect.unit ![15, 0] ![512, 512] ih).toLoadRect.idx j = (Rect.unit (s := S528x512) ![16, 0] ![512, 512] i16).emb
      (ix2 ⟨(j 0).val - 1, by have : (j 0).val < 512 := (j 0).isLt; omega⟩ (j 1)) := by
  funext a; apply Fin.ext; fin_cases a
  · simp [Rect.emb, LoadRect.idx, Rect.toLoadRect, Rect.unit, ix2]; omega
  · simp [Rect.emb, LoadRect.idx, Rect.toLoadRect, Rect.unit, ix2]

/-- Reading 1 rows up after the rows are zeroed and the block stored. -/
theorem readA512 (v : View sig .tc .vmem S528x512 .f32)
    (ih : ∀ a, (![15, 0] : Fin 2 → Nat) a + (![512, 512] : Fin 2 → Nat) a ≤ S528x512.size a)
    (i16 : ∀ a, (![16, 0] : Fin 2 → Nat) a + (![512, 512] : Fin 2 → Nat) a ≤ S528x512.size a)
    (i0 : ∀ a, (![0, 0] : Fin 2 → Nat) a + (![16, 512] : Fin 2 → Nat) a ≤ S528x512.size a)
    (u : FVec F S512x512 .f32) (cy : Vec F S16x512 .f32) (L : List (View.Piece (Elt F) S528x512 .f32)) :
    v.readCov (⟨Rect.unit ![16, 0] ![512, 512] i16, u⟩ :: ⟨Rect.unit ![0, 0] ![16, 512] i0, cy⟩ :: L)
      (Rect.unit ![15, 0] ![512, 512] ih).toLoadRect = shf512 cy u := by
  rw [View.readCov_eq_canon']
  funext j
  unfold shf512
  by_cases h : (j 0).val < 1
  · rw [dif_pos h, View.canon_cons_of_not_mem]
    · have e : (Rect.unit ![15, 0] ![512, 512] ih).toLoadRect.idx j = (Rect.unit (s := S528x512) ![0, 0] ![16, 512] i0).emb (ix2 ⟨15 + (j 0).val, by omega⟩ (j 1)) := by
        funext a; apply Fin.ext; fin_cases a <;> simp [Rect.emb, LoadRect.idx, Rect.toLoadRect, Rect.unit, ix2]
      rw [e, View.canon_cons_emb]
    · exact lo512 ih i16 j h
  · rw [dif_neg h, hi512 ih i16 j h, View.canon_cons_emb]

/-- Reading 1 rows up after the block is stored over what the buffer held. -/
theorem readB512 (M : Memref sig .tc .vmem S528x512 .f32) (hM : M.IsWhole)
    (ih : ∀ a, (![15, 0] : Fin 2 → Nat) a + (![512, 512] : Fin 2 → Nat) a ≤ S528x512.size a)
    (i16 : ∀ a, (![16, 0] : Fin 2 → Nat) a + (![512, 512] : Fin 2 → Nat) a ≤ S528x512.size a)
    (u : FVec F S512x512 .f32) (xs : Vec F S528x512 .f32) :
    View.ld (View.read (Elt F) M.view (M.view.writes (Elt F) (hM.unread xs) [⟨Rect.unit ![16, 0] ![512, 512] i16, u⟩]))
      (Rect.unit ![15, 0] ![512, 512] ih) = shf512 (hd512 xs) u := by
  funext j
  show View.read (Elt F) M.view (M.view.writes (Elt F) (hM.unread xs) [⟨Rect.unit ![16, 0] ![512, 512] i16, u⟩])
    ((Rect.unit ![15, 0] ![512, 512] ih).toLoadRect.idx j) = _
  unfold shf512
  by_cases h : (j 0).val < 1
  · rw [dif_pos h, View.read_writes_apply_of_forall_not_mem _ _ _ _ (by
      intro p hp
      obtain rfl := List.mem_singleton.1 hp
      exact lo512 ih i16 j h), hM.read_unread]
    unfold hd512
    congr 1
    funext a; apply Fin.ext; fin_cases a <;> simp [LoadRect.idx, Rect.toLoadRect, Rect.unit, ix2]
  · rw [dif_neg h, hi512 ih i16 j h, View.read_writes_cons_emb]

/-- The last 16 rows of the buffer, after the block is stored. -/
theorem readT512 (v : View sig .tc .vmem S528x512 .f32)
    (ih : ∀ a, (![512, 0] : Fin 2 → Nat) a + (![16, 512] : Fin 2 → Nat) a ≤ S528x512.size a)
    (i16 : ∀ a, (![16, 0] : Fin 2 → Nat) a + (![512, 512] : Fin 2 → Nat) a ≤ S528x512.size a)
    (u : FVec F S512x512 .f32) (L : List (View.Piece (Elt F) S528x512 .f32)) :
    v.readCov (⟨Rect.unit ![16, 0] ![512, 512] i16, u⟩ :: L) (Rect.unit ![512, 0] ![16, 512] ih).toLoadRect = tl512 u := by
  rw [View.readCov_eq_canon']
  funext j
  have hj0 : (j 0).val < 16 := (j 0).isLt
  have e : (Rect.unit ![512, 0] ![16, 512] ih).toLoadRect.idx j = (Rect.unit (s := S528x512) ![16, 0] ![512, 512] i16).emb (ix2 ⟨496 + (j 0).val, by omega⟩ (j 1)) := by
    funext a; apply Fin.ext; fin_cases a
    · simp [Rect.emb, LoadRect.idx, Rect.toLoadRect, Rect.unit, ix2]; omega
    · simp [Rect.emb, LoadRect.idx, Rect.toLoadRect, Rect.unit, ix2]
  rw [e, View.canon_cons_emb]
  rfl

/-- The first 16 rows once they are stored last. -/
theorem hdC512 (i0 : ∀ a, (![0, 0] : Fin 2 → Nat) a + (![16, 512] : Fin 2 → Nat) a ≤ S528x512.size a)
    (t : Vec F S16x512 .f32) (L : List (View.Piece (Elt F) S528x512 .f32)) :
    hd512 (View.canon (⟨Rect.unit ![0, 0] ![16, 512] i0, t⟩ :: L)) = t := by
  funext j
  have hj0 : (j 0).val < 16 := (j 0).isLt
  unfold hd512
  have e : (ix2 ⟨(j 0).val, by omega⟩ (j 1) : S528x512.Idx) = (Rect.unit (s := S528x512) ![0, 0] ![16, 512] i0).emb j := by
    funext a; apply Fin.ext; fin_cases a <;> simp [Rect.emb, LoadRect.idx, Rect.toLoadRect, Rect.unit, ix2]
  rw [e, View.canon_cons_emb]

/-! The 384 columns wide shift buffer: 16 rows kept from the block before, then the block's 512 rows; it is read 2 rows up. -/

/-- Row `r - 2` of the block, or of the 16 rows before it. -/
def shf384 (cy : Vec F S16x384 .f32) (u : FVec F S512x384 .f32) : FVec F S512x384 .f32 := fun j =>
  if h : (j 0).val < 2 then cy (ix2 ⟨14 + (j 0).val, by omega⟩ (j 1)) else u (ix2 ⟨(j 0).val - 2, by have : (j 0).val < 512 := (j 0).isLt; omega⟩ (j 1))

/-- The last 16 rows of the block. -/
def tl384 (u : FVec F S512x384 .f32) : Vec F S16x384 .f32 := fun j => u (ix2 ⟨496 + (j 0).val, by have : (j 0).val < 16 := (j 0).isLt; omega⟩ (j 1))

/-- The first 16 rows of the buffer. -/
def hd384 (xs : Vec F S528x384 .f32) : Vec F S16x384 .f32 := fun j => xs (ix2 ⟨(j 0).val, by have : (j 0).val < 16 := (j 0).isLt; omega⟩ (j 1))

theorem lo384 (ih : ∀ a, (![14, 0] : Fin 2 → Nat) a + (![512, 384] : Fin 2 → Nat) a ≤ S528x384.size a)
    (i16 : ∀ a, (![16, 0] : Fin 2 → Nat) a + (![512, 384] : Fin 2 → Nat) a ≤ S528x384.size a)
    (j : (⟨2, ![512, 384]⟩ : Shape).Idx) (h : (j 0).val < 2) :
    (Rect.unit ![14, 0] ![512, 384] ih).toLoadRect.idx j ∉ (Rect.unit (s := S528x384) ![16, 0] ![512, 384] i16).set := by
  intro hm
  have h0 := (Rect.mem_set_unit.1 hm 0).1
  simp [LoadRect.idx, Rect.toLoadRect, Rect.unit] at h0
  omega

theorem hi384 (ih : ∀ a, (![14, 0] : Fin 2 → Nat) a + (![512, 384] : Fin 2 → Nat) a ≤ S528x384.size a)
    (i16 : ∀ a, (![16, 0] : Fin 2 → Nat) a + (![512, 384] : Fin 2 → Nat) a ≤ S528x384.size a)
    (j : (⟨2, ![512, 384]⟩ : Shape).Idx) (h : ¬(j 0).val < 2) :
    (Rect.unit ![14, 0] ![512, 384] ih).toLoadRect.idx j = (Rect.unit (s := S528x384) ![16, 0] ![512, 384] i16).emb
      (ix2 ⟨(j 0).val - 2, by have : (j 0).val < 512 := (j 0).isLt; omega⟩ (j 1)) := by
  funext a; apply Fin.ext; fin_cases a
  · simp [Rect.emb, LoadRect.idx, Rect.toLoadRect, Rect.unit, ix2]; omega
  · simp [Rect.emb, LoadRect.idx, Rect.toLoadRect, Rect.unit, ix2]

/-- Reading 2 rows up after the rows are zeroed and the block stored. -/
theorem readA384 (v : View sig .tc .vmem S528x384 .f32)
    (ih : ∀ a, (![14, 0] : Fin 2 → Nat) a + (![512, 384] : Fin 2 → Nat) a ≤ S528x384.size a)
    (i16 : ∀ a, (![16, 0] : Fin 2 → Nat) a + (![512, 384] : Fin 2 → Nat) a ≤ S528x384.size a)
    (i0 : ∀ a, (![0, 0] : Fin 2 → Nat) a + (![16, 384] : Fin 2 → Nat) a ≤ S528x384.size a)
    (u : FVec F S512x384 .f32) (cy : Vec F S16x384 .f32) (L : List (View.Piece (Elt F) S528x384 .f32)) :
    v.readCov (⟨Rect.unit ![16, 0] ![512, 384] i16, u⟩ :: ⟨Rect.unit ![0, 0] ![16, 384] i0, cy⟩ :: L)
      (Rect.unit ![14, 0] ![512, 384] ih).toLoadRect = shf384 cy u := by
  rw [View.readCov_eq_canon']
  funext j
  unfold shf384
  by_cases h : (j 0).val < 2
  · rw [dif_pos h, View.canon_cons_of_not_mem]
    · have e : (Rect.unit ![14, 0] ![512, 384] ih).toLoadRect.idx j = (Rect.unit (s := S528x384) ![0, 0] ![16, 384] i0).emb (ix2 ⟨14 + (j 0).val, by omega⟩ (j 1)) := by
        funext a; apply Fin.ext; fin_cases a <;> simp [Rect.emb, LoadRect.idx, Rect.toLoadRect, Rect.unit, ix2]
      rw [e, View.canon_cons_emb]
    · exact lo384 ih i16 j h
  · rw [dif_neg h, hi384 ih i16 j h, View.canon_cons_emb]

/-- Reading 2 rows up after the block is stored over what the buffer held. -/
theorem readB384 (M : Memref sig .tc .vmem S528x384 .f32) (hM : M.IsWhole)
    (ih : ∀ a, (![14, 0] : Fin 2 → Nat) a + (![512, 384] : Fin 2 → Nat) a ≤ S528x384.size a)
    (i16 : ∀ a, (![16, 0] : Fin 2 → Nat) a + (![512, 384] : Fin 2 → Nat) a ≤ S528x384.size a)
    (u : FVec F S512x384 .f32) (xs : Vec F S528x384 .f32) :
    View.ld (View.read (Elt F) M.view (M.view.writes (Elt F) (hM.unread xs) [⟨Rect.unit ![16, 0] ![512, 384] i16, u⟩]))
      (Rect.unit ![14, 0] ![512, 384] ih) = shf384 (hd384 xs) u := by
  funext j
  show View.read (Elt F) M.view (M.view.writes (Elt F) (hM.unread xs) [⟨Rect.unit ![16, 0] ![512, 384] i16, u⟩])
    ((Rect.unit ![14, 0] ![512, 384] ih).toLoadRect.idx j) = _
  unfold shf384
  by_cases h : (j 0).val < 2
  · rw [dif_pos h, View.read_writes_apply_of_forall_not_mem _ _ _ _ (by
      intro p hp
      obtain rfl := List.mem_singleton.1 hp
      exact lo384 ih i16 j h), hM.read_unread]
    unfold hd384
    congr 1
    funext a; apply Fin.ext; fin_cases a <;> simp [LoadRect.idx, Rect.toLoadRect, Rect.unit, ix2]
  · rw [dif_neg h, hi384 ih i16 j h, View.read_writes_cons_emb]

/-- The last 16 rows of the buffer, after the block is stored. -/
theorem readT384 (v : View sig .tc .vmem S528x384 .f32)
    (ih : ∀ a, (![512, 0] : Fin 2 → Nat) a + (![16, 384] : Fin 2 → Nat) a ≤ S528x384.size a)
    (i16 : ∀ a, (![16, 0] : Fin 2 → Nat) a + (![512, 384] : Fin 2 → Nat) a ≤ S528x384.size a)
    (u : FVec F S512x384 .f32) (L : List (View.Piece (Elt F) S528x384 .f32)) :
    v.readCov (⟨Rect.unit ![16, 0] ![512, 384] i16, u⟩ :: L) (Rect.unit ![512, 0] ![16, 384] ih).toLoadRect = tl384 u := by
  rw [View.readCov_eq_canon']
  funext j
  have hj0 : (j 0).val < 16 := (j 0).isLt
  have e : (Rect.unit ![512, 0] ![16, 384] ih).toLoadRect.idx j = (Rect.unit (s := S528x384) ![16, 0] ![512, 384] i16).emb (ix2 ⟨496 + (j 0).val, by omega⟩ (j 1)) := by
    funext a; apply Fin.ext; fin_cases a
    · simp [Rect.emb, LoadRect.idx, Rect.toLoadRect, Rect.unit, ix2]; omega
    · simp [Rect.emb, LoadRect.idx, Rect.toLoadRect, Rect.unit, ix2]
  rw [e, View.canon_cons_emb]
  rfl

/-- The first 16 rows once they are stored last. -/
theorem hdC384 (i0 : ∀ a, (![0, 0] : Fin 2 → Nat) a + (![16, 384] : Fin 2 → Nat) a ≤ S528x384.size a)
    (t : Vec F S16x384 .f32) (L : List (View.Piece (Elt F) S528x384 .f32)) :
    hd384 (View.canon (⟨Rect.unit ![0, 0] ![16, 384] i0, t⟩ :: L)) = t := by
  funext j
  have hj0 : (j 0).val < 16 := (j 0).isLt
  unfold hd384
  have e : (ix2 ⟨(j 0).val, by omega⟩ (j 1) : S528x384.Idx) = (Rect.unit (s := S528x384) ![0, 0] ![16, 384] i0).emb j := by
    funext a; apply Fin.ext; fin_cases a <;> simp [Rect.emb, LoadRect.idx, Rect.toLoadRect, Rect.unit, ix2]
  rw [e, View.canon_cons_emb]

/-! The 256 columns wide shift buffer: 16 rows kept from the block before, then the block's 512 rows; it is read 4 rows up. -/

/-- Row `r - 4` of the block, or of the 16 rows before it. -/
def shf256 (cy : Vec F S16x256 .f32) (u : FVec F S512x256 .f32) : FVec F S512x256 .f32 := fun j =>
  if h : (j 0).val < 4 then cy (ix2 ⟨12 + (j 0).val, by omega⟩ (j 1)) else u (ix2 ⟨(j 0).val - 4, by have : (j 0).val < 512 := (j 0).isLt; omega⟩ (j 1))

/-- The last 16 rows of the block. -/
def tl256 (u : FVec F S512x256 .f32) : Vec F S16x256 .f32 := fun j => u (ix2 ⟨496 + (j 0).val, by have : (j 0).val < 16 := (j 0).isLt; omega⟩ (j 1))

/-- The first 16 rows of the buffer. -/
def hd256 (xs : Vec F S528x256 .f32) : Vec F S16x256 .f32 := fun j => xs (ix2 ⟨(j 0).val, by have : (j 0).val < 16 := (j 0).isLt; omega⟩ (j 1))

theorem lo256 (ih : ∀ a, (![12, 0] : Fin 2 → Nat) a + (![512, 256] : Fin 2 → Nat) a ≤ S528x256.size a)
    (i16 : ∀ a, (![16, 0] : Fin 2 → Nat) a + (![512, 256] : Fin 2 → Nat) a ≤ S528x256.size a)
    (j : (⟨2, ![512, 256]⟩ : Shape).Idx) (h : (j 0).val < 4) :
    (Rect.unit ![12, 0] ![512, 256] ih).toLoadRect.idx j ∉ (Rect.unit (s := S528x256) ![16, 0] ![512, 256] i16).set := by
  intro hm
  have h0 := (Rect.mem_set_unit.1 hm 0).1
  simp [LoadRect.idx, Rect.toLoadRect, Rect.unit] at h0
  omega

theorem hi256 (ih : ∀ a, (![12, 0] : Fin 2 → Nat) a + (![512, 256] : Fin 2 → Nat) a ≤ S528x256.size a)
    (i16 : ∀ a, (![16, 0] : Fin 2 → Nat) a + (![512, 256] : Fin 2 → Nat) a ≤ S528x256.size a)
    (j : (⟨2, ![512, 256]⟩ : Shape).Idx) (h : ¬(j 0).val < 4) :
    (Rect.unit ![12, 0] ![512, 256] ih).toLoadRect.idx j = (Rect.unit (s := S528x256) ![16, 0] ![512, 256] i16).emb
      (ix2 ⟨(j 0).val - 4, by have : (j 0).val < 512 := (j 0).isLt; omega⟩ (j 1)) := by
  funext a; apply Fin.ext; fin_cases a
  · simp [Rect.emb, LoadRect.idx, Rect.toLoadRect, Rect.unit, ix2]; omega
  · simp [Rect.emb, LoadRect.idx, Rect.toLoadRect, Rect.unit, ix2]

/-- Reading 4 rows up after the rows are zeroed and the block stored. -/
theorem readA256 (v : View sig .tc .vmem S528x256 .f32)
    (ih : ∀ a, (![12, 0] : Fin 2 → Nat) a + (![512, 256] : Fin 2 → Nat) a ≤ S528x256.size a)
    (i16 : ∀ a, (![16, 0] : Fin 2 → Nat) a + (![512, 256] : Fin 2 → Nat) a ≤ S528x256.size a)
    (i0 : ∀ a, (![0, 0] : Fin 2 → Nat) a + (![16, 256] : Fin 2 → Nat) a ≤ S528x256.size a)
    (u : FVec F S512x256 .f32) (cy : Vec F S16x256 .f32) (L : List (View.Piece (Elt F) S528x256 .f32)) :
    v.readCov (⟨Rect.unit ![16, 0] ![512, 256] i16, u⟩ :: ⟨Rect.unit ![0, 0] ![16, 256] i0, cy⟩ :: L)
      (Rect.unit ![12, 0] ![512, 256] ih).toLoadRect = shf256 cy u := by
  rw [View.readCov_eq_canon']
  funext j
  unfold shf256
  by_cases h : (j 0).val < 4
  · rw [dif_pos h, View.canon_cons_of_not_mem]
    · have e : (Rect.unit ![12, 0] ![512, 256] ih).toLoadRect.idx j = (Rect.unit (s := S528x256) ![0, 0] ![16, 256] i0).emb (ix2 ⟨12 + (j 0).val, by omega⟩ (j 1)) := by
        funext a; apply Fin.ext; fin_cases a <;> simp [Rect.emb, LoadRect.idx, Rect.toLoadRect, Rect.unit, ix2]
      rw [e, View.canon_cons_emb]
    · exact lo256 ih i16 j h
  · rw [dif_neg h, hi256 ih i16 j h, View.canon_cons_emb]

/-- Reading 4 rows up after the block is stored over what the buffer held. -/
theorem readB256 (M : Memref sig .tc .vmem S528x256 .f32) (hM : M.IsWhole)
    (ih : ∀ a, (![12, 0] : Fin 2 → Nat) a + (![512, 256] : Fin 2 → Nat) a ≤ S528x256.size a)
    (i16 : ∀ a, (![16, 0] : Fin 2 → Nat) a + (![512, 256] : Fin 2 → Nat) a ≤ S528x256.size a)
    (u : FVec F S512x256 .f32) (xs : Vec F S528x256 .f32) :
    View.ld (View.read (Elt F) M.view (M.view.writes (Elt F) (hM.unread xs) [⟨Rect.unit ![16, 0] ![512, 256] i16, u⟩]))
      (Rect.unit ![12, 0] ![512, 256] ih) = shf256 (hd256 xs) u := by
  funext j
  show View.read (Elt F) M.view (M.view.writes (Elt F) (hM.unread xs) [⟨Rect.unit ![16, 0] ![512, 256] i16, u⟩])
    ((Rect.unit ![12, 0] ![512, 256] ih).toLoadRect.idx j) = _
  unfold shf256
  by_cases h : (j 0).val < 4
  · rw [dif_pos h, View.read_writes_apply_of_forall_not_mem _ _ _ _ (by
      intro p hp
      obtain rfl := List.mem_singleton.1 hp
      exact lo256 ih i16 j h), hM.read_unread]
    unfold hd256
    congr 1
    funext a; apply Fin.ext; fin_cases a <;> simp [LoadRect.idx, Rect.toLoadRect, Rect.unit, ix2]
  · rw [dif_neg h, hi256 ih i16 j h, View.read_writes_cons_emb]

/-- The last 16 rows of the buffer, after the block is stored. -/
theorem readT256 (v : View sig .tc .vmem S528x256 .f32)
    (ih : ∀ a, (![512, 0] : Fin 2 → Nat) a + (![16, 256] : Fin 2 → Nat) a ≤ S528x256.size a)
    (i16 : ∀ a, (![16, 0] : Fin 2 → Nat) a + (![512, 256] : Fin 2 → Nat) a ≤ S528x256.size a)
    (u : FVec F S512x256 .f32) (L : List (View.Piece (Elt F) S528x256 .f32)) :
    v.readCov (⟨Rect.unit ![16, 0] ![512, 256] i16, u⟩ :: L) (Rect.unit ![512, 0] ![16, 256] ih).toLoadRect = tl256 u := by
  rw [View.readCov_eq_canon']
  funext j
  have hj0 : (j 0).val < 16 := (j 0).isLt
  have e : (Rect.unit ![512, 0] ![16, 256] ih).toLoadRect.idx j = (Rect.unit (s := S528x256) ![16, 0] ![512, 256] i16).emb (ix2 ⟨496 + (j 0).val, by omega⟩ (j 1)) := by
    funext a; apply Fin.ext; fin_cases a
    · simp [Rect.emb, LoadRect.idx, Rect.toLoadRect, Rect.unit, ix2]; omega
    · simp [Rect.emb, LoadRect.idx, Rect.toLoadRect, Rect.unit, ix2]
  rw [e, View.canon_cons_emb]
  rfl

/-- The first 16 rows once they are stored last. -/
theorem hdC256 (i0 : ∀ a, (![0, 0] : Fin 2 → Nat) a + (![16, 256] : Fin 2 → Nat) a ≤ S528x256.size a)
    (t : Vec F S16x256 .f32) (L : List (View.Piece (Elt F) S528x256 .f32)) :
    hd256 (View.canon (⟨Rect.unit ![0, 0] ![16, 256] i0, t⟩ :: L)) = t := by
  funext j
  have hj0 : (j 0).val < 16 := (j 0).isLt
  unfold hd256
  have e : (ix2 ⟨(j 0).val, by omega⟩ (j 1) : S528x256.Idx) = (Rect.unit (s := S528x256) ![0, 0] ![16, 256] i0).emb j := by
    funext a; apply Fin.ext; fin_cases a <;> simp [Rect.emb, LoadRect.idx, Rect.toLoadRect, Rect.unit, ix2]
  rw [e, View.canon_cons_emb]

/-! The 128 columns wide shift buffer: 16 rows kept from the block before, then the block's 512 rows; it is read 8 rows up. -/

/-- Row `r - 8` of the block, or of the 16 rows before it. -/
def shf128 (cy : Vec F S16x128 .f32) (u : FVec F S512x128 .f32) : FVec F S512x128 .f32 := fun j =>
  if h : (j 0).val < 8 then cy (ix2 ⟨8 + (j 0).val, by omega⟩ (j 1)) else u (ix2 ⟨(j 0).val - 8, by have : (j 0).val < 512 := (j 0).isLt; omega⟩ (j 1))

/-- The last 16 rows of the block. -/
def tl128 (u : FVec F S512x128 .f32) : Vec F S16x128 .f32 := fun j => u (ix2 ⟨496 + (j 0).val, by have : (j 0).val < 16 := (j 0).isLt; omega⟩ (j 1))

/-- The first 16 rows of the buffer. -/
def hd128 (xs : Vec F S528x128 .f32) : Vec F S16x128 .f32 := fun j => xs (ix2 ⟨(j 0).val, by have : (j 0).val < 16 := (j 0).isLt; omega⟩ (j 1))

theorem lo128 (ih : ∀ a, (![8, 0] : Fin 2 → Nat) a + (![512, 128] : Fin 2 → Nat) a ≤ S528x128.size a)
    (i16 : ∀ a, (![16, 0] : Fin 2 → Nat) a + (![512, 128] : Fin 2 → Nat) a ≤ S528x128.size a)
    (j : (⟨2, ![512, 128]⟩ : Shape).Idx) (h : (j 0).val < 8) :
    (Rect.unit ![8, 0] ![512, 128] ih).toLoadRect.idx j ∉ (Rect.unit (s := S528x128) ![16, 0] ![512, 128] i16).set := by
  intro hm
  have h0 := (Rect.mem_set_unit.1 hm 0).1
  simp [LoadRect.idx, Rect.toLoadRect, Rect.unit] at h0
  omega

theorem hi128 (ih : ∀ a, (![8, 0] : Fin 2 → Nat) a + (![512, 128] : Fin 2 → Nat) a ≤ S528x128.size a)
    (i16 : ∀ a, (![16, 0] : Fin 2 → Nat) a + (![512, 128] : Fin 2 → Nat) a ≤ S528x128.size a)
    (j : (⟨2, ![512, 128]⟩ : Shape).Idx) (h : ¬(j 0).val < 8) :
    (Rect.unit ![8, 0] ![512, 128] ih).toLoadRect.idx j = (Rect.unit (s := S528x128) ![16, 0] ![512, 128] i16).emb
      (ix2 ⟨(j 0).val - 8, by have : (j 0).val < 512 := (j 0).isLt; omega⟩ (j 1)) := by
  funext a; apply Fin.ext; fin_cases a
  · simp [Rect.emb, LoadRect.idx, Rect.toLoadRect, Rect.unit, ix2]; omega
  · simp [Rect.emb, LoadRect.idx, Rect.toLoadRect, Rect.unit, ix2]

/-- Reading 8 rows up after the rows are zeroed and the block stored. -/
theorem readA128 (v : View sig .tc .vmem S528x128 .f32)
    (ih : ∀ a, (![8, 0] : Fin 2 → Nat) a + (![512, 128] : Fin 2 → Nat) a ≤ S528x128.size a)
    (i16 : ∀ a, (![16, 0] : Fin 2 → Nat) a + (![512, 128] : Fin 2 → Nat) a ≤ S528x128.size a)
    (i0 : ∀ a, (![0, 0] : Fin 2 → Nat) a + (![16, 128] : Fin 2 → Nat) a ≤ S528x128.size a)
    (u : FVec F S512x128 .f32) (cy : Vec F S16x128 .f32) (L : List (View.Piece (Elt F) S528x128 .f32)) :
    v.readCov (⟨Rect.unit ![16, 0] ![512, 128] i16, u⟩ :: ⟨Rect.unit ![0, 0] ![16, 128] i0, cy⟩ :: L)
      (Rect.unit ![8, 0] ![512, 128] ih).toLoadRect = shf128 cy u := by
  rw [View.readCov_eq_canon']
  funext j
  unfold shf128
  by_cases h : (j 0).val < 8
  · rw [dif_pos h, View.canon_cons_of_not_mem]
    · have e : (Rect.unit ![8, 0] ![512, 128] ih).toLoadRect.idx j = (Rect.unit (s := S528x128) ![0, 0] ![16, 128] i0).emb (ix2 ⟨8 + (j 0).val, by omega⟩ (j 1)) := by
        funext a; apply Fin.ext; fin_cases a <;> simp [Rect.emb, LoadRect.idx, Rect.toLoadRect, Rect.unit, ix2]
      rw [e, View.canon_cons_emb]
    · exact lo128 ih i16 j h
  · rw [dif_neg h, hi128 ih i16 j h, View.canon_cons_emb]

/-- Reading 8 rows up after the block is stored over what the buffer held. -/
theorem readB128 (M : Memref sig .tc .vmem S528x128 .f32) (hM : M.IsWhole)
    (ih : ∀ a, (![8, 0] : Fin 2 → Nat) a + (![512, 128] : Fin 2 → Nat) a ≤ S528x128.size a)
    (i16 : ∀ a, (![16, 0] : Fin 2 → Nat) a + (![512, 128] : Fin 2 → Nat) a ≤ S528x128.size a)
    (u : FVec F S512x128 .f32) (xs : Vec F S528x128 .f32) :
    View.ld (View.read (Elt F) M.view (M.view.writes (Elt F) (hM.unread xs) [⟨Rect.unit ![16, 0] ![512, 128] i16, u⟩]))
      (Rect.unit ![8, 0] ![512, 128] ih) = shf128 (hd128 xs) u := by
  funext j
  show View.read (Elt F) M.view (M.view.writes (Elt F) (hM.unread xs) [⟨Rect.unit ![16, 0] ![512, 128] i16, u⟩])
    ((Rect.unit ![8, 0] ![512, 128] ih).toLoadRect.idx j) = _
  unfold shf128
  by_cases h : (j 0).val < 8
  · rw [dif_pos h, View.read_writes_apply_of_forall_not_mem _ _ _ _ (by
      intro p hp
      obtain rfl := List.mem_singleton.1 hp
      exact lo128 ih i16 j h), hM.read_unread]
    unfold hd128
    congr 1
    funext a; apply Fin.ext; fin_cases a <;> simp [LoadRect.idx, Rect.toLoadRect, Rect.unit, ix2]
  · rw [dif_neg h, hi128 ih i16 j h, View.read_writes_cons_emb]

/-- The last 16 rows of the buffer, after the block is stored. -/
theorem readT128 (v : View sig .tc .vmem S528x128 .f32)
    (ih : ∀ a, (![512, 0] : Fin 2 → Nat) a + (![16, 128] : Fin 2 → Nat) a ≤ S528x128.size a)
    (i16 : ∀ a, (![16, 0] : Fin 2 → Nat) a + (![512, 128] : Fin 2 → Nat) a ≤ S528x128.size a)
    (u : FVec F S512x128 .f32) (L : List (View.Piece (Elt F) S528x128 .f32)) :
    v.readCov (⟨Rect.unit ![16, 0] ![512, 128] i16, u⟩ :: L) (Rect.unit ![512, 0] ![16, 128] ih).toLoadRect = tl128 u := by
  rw [View.readCov_eq_canon']
  funext j
  have hj0 : (j 0).val < 16 := (j 0).isLt
  have e : (Rect.unit ![512, 0] ![16, 128] ih).toLoadRect.idx j = (Rect.unit (s := S528x128) ![16, 0] ![512, 128] i16).emb (ix2 ⟨496 + (j 0).val, by omega⟩ (j 1)) := by
    funext a; apply Fin.ext; fin_cases a
    · simp [Rect.emb, LoadRect.idx, Rect.toLoadRect, Rect.unit, ix2]; omega
    · simp [Rect.emb, LoadRect.idx, Rect.toLoadRect, Rect.unit, ix2]
  rw [e, View.canon_cons_emb]
  rfl

/-- The first 16 rows once they are stored last. -/
theorem hdC128 (i0 : ∀ a, (![0, 0] : Fin 2 → Nat) a + (![16, 128] : Fin 2 → Nat) a ≤ S528x128.size a)
    (t : Vec F S16x128 .f32) (L : List (View.Piece (Elt F) S528x128 .f32)) :
    hd128 (View.canon (⟨Rect.unit ![0, 0] ![16, 128] i0, t⟩ :: L)) = t := by
  funext j
  have hj0 : (j 0).val < 16 := (j 0).isLt
  unfold hd128
  have e : (ix2 ⟨(j 0).val, by omega⟩ (j 1) : S528x128.Idx) = (Rect.unit (s := S528x128) ![0, 0] ![16, 128] i0).emb j := by
    funext a; apply Fin.ext; fin_cases a <;> simp [Rect.emb, LoadRect.idx, Rect.toLoadRect, Rect.unit, ix2]
  rw [e, View.canon_cons_emb]

/-- The first 16 rows of the widest buffer read back once they are stored last. -/
theorem readH (v : View sig .tc .vmem S528x512 .f32)
    (i0 i0' : ∀ a, (![0, 0] : Fin 2 → Nat) a + (![16, 512] : Fin 2 → Nat) a ≤ S528x512.size a)
    (t : Vec F S16x512 .f32) (L : List (View.Piece (Elt F) S528x512 .f32)) :
    v.readCov (⟨Rect.unit ![0, 0] ![16, 512] i0, t⟩ :: L) (Rect.unit ![0, 0] ![16, 512] i0').toLoadRect = t := by
  rw [View.readCov_eq_canon']
  funext j
  exact View.canon_cons_emb _ _ _ _

/-! The pieces of the body that only reshape to the same shape. -/

theorem pay33_eq (v : FVec F S512x512 .f32) : k0_pay33 v = v := shapeCast_self _ _
theorem pay40_eq (v : FVec F S512x128 .f32) : k0_pay40 v = v := shapeCast_self _ _
theorem pay46_eq (v : Vec F S16x512 .f32) : k0_pay46 v = v := shapeCast_self _ _
theorem pay47_eq (v : Vec F S16x384 .f32) : k0_pay47 v = v := shapeCast_self _ _
theorem pay1_eq (v : Vec F S16x256 .f32) : k0_pay1 v = v := shapeCast_self _ _
theorem pay2_eq (v : Vec F S16x128 .f32) : k0_pay2 v = v := shapeCast_self _ _

/-! The running sums over 2, 4, 8 and 16 rows, from the block's pooled columns `u` and the rows `h0 … h3` before it. -/

abbrev r2V (h0 : Vec F S16x512 .f32) (u : FVec F S512x512 .f32) : FVec F S512x512 .f32 := shf512 h0 u
abbrev r4V (h0 : Vec F S16x512 .f32) (h1 : Vec F S16x384 .f32) (u : FVec F S512x512 .f32) : FVec F S512x384 .f32 :=
  shf384 h1 (k0_pay35 u (r2V h0 u))
abbrev r8V (h0 : Vec F S16x512 .f32) (h1 : Vec F S16x384 .f32) (h2 : Vec F S16x256 .f32) (u : FVec F S512x512 .f32) : FVec F S512x256 .f32 :=
  shf256 h2 (k0_pay37 u (r2V h0 u) (r4V h0 h1 u))
abbrev s8V (h0 : Vec F S16x512 .f32) (h1 : Vec F S16x384 .f32) (h2 : Vec F S16x256 .f32) (u : FVec F S512x512 .f32) : FVec F S512x128 .f32 :=
  k0_pay39 u (r2V h0 u) (r4V h0 h1 u) (r8V h0 h1 h2 u)
abbrev r16V (h0 : Vec F S16x512 .f32) (h1 : Vec F S16x384 .f32) (h2 : Vec F S16x256 .f32) (h3 : Vec F S16x128 .f32) (u : FVec F S512x512 .f32) : FVec F S512x128 .f32 :=
  shf128 h3 (s8V h0 h1 h2 u)

/-- The pooled block before its channel projection. -/
def poolV (a : BitVec 32) (h0 : Vec F S16x512 .f32) (h1 : Vec F S16x384 .f32) (h2 : Vec F S16x256 .f32) (h3 : Vec F S16x128 .f32) (u : FVec F S512x512 .f32) : FVec F S512x512 .f32 :=
  k0_pay41 a u (k0_pay34 u (r2V h0 u)) (k0_pay36 u (r2V h0 u) (r4V h0 h1 u)) (k0_pay38 u (r2V h0 u) (r4V h0 h1 u) (r8V h0 h1 h2 u)) (r16V h0 h1 h2 h3 u)

/-- Its first group of columns, as the first product reads it. -/
def pool0V (a : BitVec 32) (h0 : Vec F S16x512 .f32) (h1 : Vec F S16x384 .f32) (h2 : Vec F S16x256 .f32) (h3 : Vec F S16x128 .f32) (u : FVec F S512x512 .f32) : FVec F S512x128 .bf16 :=
  k0_pay43 a u (k0_pay34 u (r2V h0 u)) (k0_pay36 u (r2V h0 u) (r4V h0 h1 u)) (k0_pay38 u (r2V h0 u) (r4V h0 h1 u) (r8V h0 h1 h2 u)) (r16V h0 h1 h2 h3 u)

/-- The block of the pooled result. -/
def outPoolV (a : BitVec 32) (h0 : Vec F S16x512 .f32) (h1 : Vec F S16x384 .f32) (h2 : Vec F S16x256 .f32) (h3 : Vec F S16x128 .f32) (u : FVec F S512x512 .f32)
    (x4 : Vec F S4x128x128 .bf16) (x5 : Vec F S1x512 .f32) : FVec F S1x512x512 .bf16 :=
  k0_pay45 (poolV a h0 h1 h2 h3 u) (k0_pay42 x5) (pool0V a h0 h1 h2 h3 u)
    (k0_pay44 (View.ld x4 (Rect.unit ![0, 0, 0] ![1, 128, 128] inb_S4x128x128_S1x128x128_0_0_0)))
    (View.ld x4 (Rect.unit ![1, 0, 0] ![1, 128, 128] inb_S4x128x128_S1x128x128_1_0_0))
    (View.ld x4 (Rect.unit ![2, 0, 0] ![1, 128, 128] inb_S4x128x128_S1x128x128_2_0_0))
    (View.ld x4 (Rect.unit ![3, 0, 0] ![1, 128, 128] inb_S4x128x128_S1x128x128_3_0_0))

/-- The rotated keys, the scaled rotated queries and the values, as stored. -/
def kV (p : FVec F S512x2048 .f32) (x6 x7 : Vec F S512x128 .f32) : FVec F S1x512x512 .f32 :=
  k0_pay27 (k0_pay10 x6) (k0_pay11 x7) (k0_pay20 p) k0_pay21 (k0_pay22 p (k0_pay10 x6) (k0_pay11 x7)) (k0_pay23 p) (k0_pay24 p)
def kbV (p : FVec F S512x2048 .f32) (x6 x7 : Vec F S512x128 .f32) : FVec F S1x512x512 .bf16 :=
  k0_pay29 (k0_pay10 x6) (k0_pay11 x7) (k0_pay20 p) k0_pay21 (k0_pay22 p (k0_pay10 x6) (k0_pay11 x7)) (k0_pay23 p) (k0_pay24 p)
def qV (p : FVec F S512x2048 .f32) (x6 x7 : Vec F S512x128 .f32) : FVec F S1x512x512 .bf16 :=
  k0_pay30 (k0_pay19 (k0_pay10 x6) (k0_pay11 x7) (k0_pay12 p) k0_pay13 (k0_pay14 p (k0_pay10 x6) x7) (k0_pay15 p (k0_pay10 x6) x7) (k0_pay17 p) (k0_pay18 p (k0_pay10 x6)))

/-- The body at a later block, over the rows it finds: result 1's block. -/
theorem out0_B_8_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 = kV (k0_pay8 x0 x1 x2 x3) x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  rw [View.canon_unit_zero (S := S1x512x512) hz3]
  rfl

/-- The body at a later block, over the rows it finds: result 3's block. -/
theorem out0_B_10_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 = qV (k0_pay8 x0 x1 x2 x3) x6 x7 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  rw [View.canon_unit_zero (S := S1x512x512) hz3]
  rfl

/-- The body at a later block, over the rows it finds: result 4's block. -/
theorem out0_B_11_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 = kbV (k0_pay8 x0 x1 x2 x3) x6 x7 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  rw [View.canon_unit_zero (S := S1x512x512) hz3]
  rfl

/-- The body at a later block, over the rows it finds: result 2's block. -/
theorem out0_B_9_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 = k0_pay28 (k0_pay8 x0 x1 x2 x3) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  rw [View.canon_unit_zero (S := S1x512x512) hz3]

/-- The body at a later block, over the rows it finds: result 5's block, in two pieces. -/
theorem out0_B_12_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 = View.canon [⟨Rect.unit ![0, 1, 0, 0] ![1, 1, 512, 256] inb_S1x2x512x256_S1x1x512x256_0_1_0_0, k0_pay32 (k0_pay26 (k0_pay8 x0 x1 x2 x3))⟩, ⟨Rect.unit ![0, 0, 0, 0] ![1, 1, 512, 256] inb_S1x2x512x256_S1x1x512x256_0_0_0_0, k0_pay31 (k0_pay26 (k0_pay8 x0 x1 x2 x3))⟩] := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]

/-- The body at a later block, over the rows it finds: result 6's block. -/
theorem out0_B_13_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 = outPoolV (BitVec.ofNat 32 (i 1).val) (hd512 xs0) (hd384 xs1) (hd256 xs2) (hd128 xs3) (k0_pay9 x0 x1 x2 x3) x4 x5 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readB512, readT512, readB384, readT384, readB256, readT256, readB128, readT128, readH]
  rw [View.canon_unit_zero (S := S1x512x512) hz3]
  rfl

/-- The body at a later block, over the rows it finds: result 7's block. -/
theorem out0_B_14_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3 = k0_pay3 (tl512 (k0_pay9 x0 x1 x2 x3)) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readB512, readT512, readB384, readT384, readB256, readT256, readB128, readT128, readH]
  rw [View.canon_unit_zero (S := S1x16x512) hz3]

/-- The body at a later block, over the rows it finds: the rows it keeps in buffer 0. -/
theorem sout0_B_0_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    hd512 (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3) = tl512 (k0_pay9 x0 x1 x2 x3) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readB512, readT512, readB384, readT384, readB256, readT256, readB128, readT128, readH]
  rw [hdC512]

/-- The body at a later block, over the rows it finds: the rows it keeps in buffer 1. -/
theorem sout0_B_1_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    hd384 (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3) = tl384 (k0_pay35 (k0_pay9 x0 x1 x2 x3) (r2V (hd512 xs0) (k0_pay9 x0 x1 x2 x3))) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readB512, readT512, readB384, readT384, readB256, readT256, readB128, readT128, readH]
  rw [hdC384]

/-- The body at a later block, over the rows it finds: the rows it keeps in buffer 2. -/
theorem sout0_B_2_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    hd256 (sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3) = tl256 (k0_pay37 (k0_pay9 x0 x1 x2 x3) (r2V (hd512 xs0) (k0_pay9 x0 x1 x2 x3)) (r4V (hd512 xs0) (hd384 xs1) (k0_pay9 x0 x1 x2 x3))) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readB512, readT512, readB384, readT384, readB256, readT256, readB128, readT128, readH]
  rw [hdC256]

/-- The body at a later block, over the rows it finds: the rows it keeps in buffer 3. -/
theorem sout0_B_3_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : ¬cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) (xs0 : Vec F S528x512 .f32) (xs1 : Vec F S528x384 .f32) (xs2 : Vec F S528x256 .f32) (xs3 : Vec F S528x128 .f32) :
    hd128 (sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3) = tl128 (s8V (hd512 xs0) (hd384 xs1) (hd256 xs2) (k0_pay9 x0 x1 x2 x3)) := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xs0 xs1 xs2 xs3)]
  unfold kernelRun0_B
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readB512, readT512, readB384, readT384, readB256, readT256, readB128, readT128, readH]
  rw [hdC128]

/-- The body at the first block of a batch row, where the kept rows are zeroed: result 1's block. -/
theorem out0_A_8_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 = kV (k0_pay8 x0 x1 x2 x3) x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  rw [View.canon_unit_zero (S := S1x512x512) hz3]
  rfl

/-- The body at the first block of a batch row, where the kept rows are zeroed: result 3's block. -/
theorem out0_A_10_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 = qV (k0_pay8 x0 x1 x2 x3) x6 x7 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  rw [View.canon_unit_zero (S := S1x512x512) hz3]
  rfl

/-- The body at the first block of a batch row, where the kept rows are zeroed: result 4's block. -/
theorem out0_A_11_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 = kbV (k0_pay8 x0 x1 x2 x3) x6 x7 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  rw [View.canon_unit_zero (S := S1x512x512) hz3]
  rfl

/-- The body at the first block of a batch row, where the kept rows are zeroed: result 2's block. -/
theorem out0_A_9_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 = k0_pay28 (k0_pay8 x0 x1 x2 x3) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  rw [View.canon_unit_zero (S := S1x512x512) hz3]

/-- The body at the first block of a batch row, where the kept rows are zeroed: result 5's block, in two pieces. -/
theorem out0_A_12_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 = View.canon [⟨Rect.unit ![0, 1, 0, 0] ![1, 1, 512, 256] inb_S1x2x512x256_S1x1x512x256_0_1_0_0, k0_pay32 (k0_pay26 (k0_pay8 x0 x1 x2 x3))⟩, ⟨Rect.unit ![0, 0, 0, 0] ![1, 1, 512, 256] inb_S1x2x512x256_S1x1x512x256_0_0_0_0, k0_pay31 (k0_pay26 (k0_pay8 x0 x1 x2 x3))⟩] := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]

/-- The body at the first block of a batch row, where the kept rows are zeroed: result 6's block. -/
theorem out0_A_13_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 = outPoolV (BitVec.ofNat 32 (i 1).val) (k0_pay4 (F := F)) (k0_pay5 (F := F)) (k0_pay6 (F := F)) (k0_pay7 (F := F)) (k0_pay9 x0 x1 x2 x3) x4 x5 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readA512, readT512, readA384, readT384, readA256, readT256, readA128, readT128, readH]
  rw [View.canon_unit_zero (S := S1x512x512) hz3]
  rfl

/-- The body at the first block of a batch row, where the kept rows are zeroed: result 7's block. -/
theorem out0_A_14_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 = k0_pay3 (tl512 (k0_pay9 x0 x1 x2 x3)) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readA512, readT512, readA384, readT384, readA256, readT256, readA128, readT128, readH]
  rw [View.canon_unit_zero (S := S1x16x512) hz3]

/-- The body at the first block of a batch row, where the kept rows are zeroed: the rows it keeps in buffer 0. -/
theorem sout0_A_0_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    hd512 (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7) = tl512 (k0_pay9 x0 x1 x2 x3) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readA512, readT512, readA384, readT384, readA256, readT256, readA128, readT128, readH]
  rw [hdC512]

/-- The body at the first block of a batch row, where the kept rows are zeroed: the rows it keeps in buffer 1. -/
theorem sout0_A_1_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    hd384 (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7) = tl384 (k0_pay35 (k0_pay9 x0 x1 x2 x3) (r2V (k0_pay4 (F := F)) (k0_pay9 x0 x1 x2 x3))) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readA512, readT512, readA384, readT384, readA256, readT256, readA128, readT128, readH]
  rw [hdC384]

/-- The body at the first block of a batch row, where the kept rows are zeroed: the rows it keeps in buffer 2. -/
theorem sout0_A_2_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    hd256 (sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7) = tl256 (k0_pay37 (k0_pay9 x0 x1 x2 x3) (r2V (k0_pay4 (F := F)) (k0_pay9 x0 x1 x2 x3)) (r4V (k0_pay4 (F := F)) (k0_pay5 (F := F)) (k0_pay9 x0 x1 x2 x3))) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readA512, readT512, readA384, readT384, readA256, readT256, readA128, readT128, readH]
  rw [hdC256]

/-- The body at the first block of a batch row, where the kept rows are zeroed: the rows it keeps in buffer 3. -/
theorem sout0_A_3_eq (c : Dev nD) (i : grid0.Coords) (arg2 : Memref sig .tc .vmem S1x512x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole) (arg13 : Memref sig .tc .vmem S1x512x512 .bf16) (harg13 : arg13.IsWhole) (arg14 : Memref sig .tc .vmem S1x2x512x256 .bf16) (harg14 : arg14.IsWhole) (arg15 : Memref sig .tc .vmem S1x512x512 .bf16) (harg15 : arg15.IsWhole) (arg16 : Memref sig .tc .vmem S1x16x512 .f32) (harg16 : arg16.IsWhole) (arg17 : Memref sig .tc .vmem S528x512 .f32) (harg17 : arg17.IsWhole) (arg18 : Memref sig .tc .vmem S528x384 .f32) (harg18 : arg18.IsWhole) (arg19 : Memref sig .tc .vmem S528x256 .f32) (harg19 : arg19.IsWhole) (arg20 : Memref sig .tc .vmem S528x128 .f32) (harg20 : arg20.IsWhole) (hc0 : cond0_0 i)
    (x0 : Vec F S1x512x1024 .f32) (x1 : Vec F S1x1x6144 .f32) (x2 : Vec F S1x1024 .f32) (x3 : Vec F S1024x2048 .bf16) (x4 : Vec F S4x128x128 .bf16) (x5 : Vec F S1x512 .f32) (x6 : Vec F S512x128 .f32) (x7 : Vec F S512x128 .f32) :
    hd128 (sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7) = tl128 (s8V (k0_pay4 (F := F)) (k0_pay5 (F := F)) (k0_pay6 (F := F)) (k0_pay9 x0 x1 x2 x3)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg17.read_unread, harg18.read_unread, harg19.read_unread, harg20.read_unread,
    View.ld_unit_zero (S := S1x512x1024) hz3, View.ld_unit_zero (S := S1x1x6144) hz3,
    View.ld_unit_zero (S := S1x1024) hz2, View.ld_unit_zero (S := S1024x2048) hz2, View.ld_unit_zero (S := S1x512) hz2, View.ld_unit_zero (S := S512x128) hz2]
  simp only [pay33_eq, pay40_eq, pay46_eq, pay47_eq, pay1_eq, pay2_eq]
  simp only [readA512, readT512, readA384, readT384, readA256, readT256, readA128, readT128, readH]
  rw [hdC128]

end Cert.PrePromptIdeal.Out
end
end
-- ==== Proof.PPSpec.lean ====
module
public import Idealize.ShloMosaic.Lib.Pointwise
@[expose] public section

/-! The post-attention half of the layer, one row at a time, in plain arithmetic on extended reals. -/

noncomputable section
open Idealize.ShloMosaic
namespace Cert.PP

/-- Root-mean-square normalisation of a row of 1024, with its scale `g`. -/
def rms (f g : Fin 1024 → EReal) (n : Fin 1024) : EReal :=
  f n * Ideal.rsqrt (Ideal.div (∑ k, f k * f k) (Ideal.ofBits FTy.f32 1149239296#32) + Ideal.ofBits FTy.f32 897988541#32) * g n

/-- The output projection of the pooled half and the attention half of a row. -/
def mixR (p a : Fin 512 → EReal) (wo : Fin 1024 → Fin 1024 → EReal) (n : Fin 1024) : EReal :=
  ∑ k : Fin 512, p k * wo ⟨k.val, by omega⟩ n + ∑ k : Fin 512, a k * wo ⟨512 + k.val, by omega⟩ n

/-- The residual stream after the attention half: the gated, normed projection added. -/
def x1R (x : Fin 1024 → EReal) (md : Fin 6144 → EReal) (mx g : Fin 1024 → EReal) (n : Fin 1024) : EReal :=
  x n + md ⟨2048 + n.val, by omega⟩ * rms mx g n

/-- The normed row, scaled and shifted by the modulation. -/
def h2R (x1 : Fin 1024 → EReal) (md : Fin 6144 → EReal) (g : Fin 1024 → EReal) (n : Fin 1024) : EReal :=
  rms x1 g n * (1 + md ⟨4096 + n.val, by omega⟩) + md ⟨3072 + n.val, by omega⟩

/-- The up-projection. -/
def upR (h : Fin 1024 → EReal) (wu : Fin 1024 → Fin 5632 → EReal) (n : Fin 5632) : EReal := ∑ k : Fin 1024, h k * wu k n

/-- The up-projection `d` rows before row `s`: zero before the first row. -/
def backR (U : Fin 8192 → Fin 5632 → EReal) (s : Fin 8192) (d : Nat) (n : Fin 5632) : EReal :=
  if s.val < d then 0 else U ⟨s.val - d, by omega⟩ n

/-- The depthwise causal convolution over three rows. -/
def convR (cw : Fin 3 → Fin 5632 → EReal) (cb q p v : Fin 5632 → EReal) (n : Fin 5632) : EReal :=
  cb n + cw 0 n * q n + cw 1 n * p n + cw 2 n * v n

/-- The gated unit: the first half through `x · sigmoid x`, times the second half. -/
def actR (cv : Fin 5632 → EReal) (k : Fin 2816) : EReal :=
  cv ⟨k.val, by omega⟩ * Ideal.logistic (cv ⟨k.val, by omega⟩) * cv ⟨2816 + k.val, by omega⟩

/-- The down-projection. -/
def ffnR (cv : Fin 5632 → EReal) (wd : Fin 2816 → Fin 1024 → EReal) (n : Fin 1024) : EReal := ∑ k : Fin 2816, actR cv k * wd k n

/-- The result row. -/
def yR (x1 : Fin 1024 → EReal) (md : Fin 6144 → EReal) (g : Fin 1024 → EReal) (ff : Fin 1024 → EReal) (n : Fin 1024) : EReal :=
  x1 n + md ⟨5120 + n.val, by omega⟩ * rms ff g n

end Cert.PP
end
end
-- ==== Proof.PreSpec.lean ====
module
public import proofs.«01_k».proof.Proof.PPSpec
public import Idealize.ShloMosaic.Lib.Pointwise
@[expose] public section
set_option maxRecDepth 16384

/-! The half of the layer before the attention, row by row over the extended reals: the modulated projection, the
rotation of queries and keys, and the pooled sums over the last 2, 4, 8 and 16 rows. -/

noncomputable section
open Idealize.ShloMosaic
namespace Cert.Pre
open Cert.PP

/-- The normed row, scaled and shifted by the modulation. -/
def hR (x : Fin 1024 → EReal) (md : Fin 6144 → EReal) (g : Fin 1024 → EReal) (n : Fin 1024) : EReal :=
  rms x g n * (1 + md ⟨1024 + n.val, by omega⟩) + md ⟨n.val, by omega⟩

/-- The projection to the pooled columns, the queries, the keys and the values. -/
def projR (h : Fin 1024 → EReal) (w : Fin 1024 → Fin 2048 → EReal) (n : Fin 2048) : EReal := ∑ k, h k * w k n

/-- A sequence `d` rows before row `s`: zero before the first row. -/
def back (f : Nat → EReal) (s d : Nat) : EReal := if d ≤ s then f (s - d) else 0

/-- The sum of the last `w` rows up to row `s`. -/
def win (f : Nat → EReal) (w s : Nat) : EReal := ∑ d ∈ Finset.range w, back f s d

/-- How many rows the window of `w` rows holds at row `s`. -/
def cnt (w s : Nat) : EReal := ((min w (s + 1) : Nat) : ℝ)

/-- The pooled columns at row `s`: the mean over the window of the column's group, less the row itself. -/
def pooledR (U : Nat → Fin 512 → EReal) (s : Nat) (n : Fin 512) : EReal :=
  if n.val < 128 then Ideal.div (win (fun t => U t n) 2 s) (cnt 2 s) - U s n
  else if n.val < 256 then Ideal.div (win (fun t => U t n) 4 s) (cnt 4 s) - U s n
  else if n.val < 384 then Ideal.div (win (fun t => U t n) 8 s) (cnt 8 s) - U s n
  else Ideal.div (win (fun t => U t n) 16 s) (cnt 16 s) - U s n

/-- The projection of a pooled row, group by group, times the scale. -/
def poolR (p : Fin 512 → EReal) (pw : Fin 4 → Fin 128 → Fin 128 → EReal) (ps : Fin 512 → EReal) (n : Fin 512) : EReal :=
  (∑ k : Fin 128, p ⟨128 * (n.val / 128) + k.val, by omega⟩ * pw ⟨n.val / 128, by omega⟩ k ⟨n.val % 128, by omega⟩) * ps n

/-- The rotation of a row of eight heads: each head's halves of 32 rotated by the angle of the position. -/
def ropeR (p : Fin 512 → EReal) (co si : Fin 32 → EReal) (n : Fin 512) : EReal :=
  if h : n.val % 64 < 32 then
    p n * co ⟨n.val % 32, by omega⟩ - p ⟨n.val + 32, by omega⟩ * si ⟨n.val % 32, by omega⟩
  else p n * co ⟨n.val % 32, by omega⟩ + p ⟨n.val - 32, by omega⟩ * si ⟨n.val % 32, by omega⟩

theorem back_zero (f : Nat → EReal) (s : Nat) : back f s 0 = f s := by simp [back]

theorem win_one (f : Nat → EReal) (s : Nat) : win f 1 s = f s := by simp [win, back_zero]

/-- A window of `w + w` rows is the window of `w` rows and the one before it. -/
theorem win_double (f : Nat → EReal) (w s : Nat) : win f (w + w) s = win f w s + back (win f w) s w := by
  unfold win
  rw [Finset.sum_range_add]
  congr 1
  unfold back
  by_cases h : w ≤ s
  · rw [if_pos h]
    refine Finset.sum_congr rfl fun d _ => ?_
    by_cases hd : d ≤ s - w
    · rw [if_pos (by omega), if_pos hd]
      congr 1; omega
    · rw [if_neg (by omega), if_neg hd]
  · rw [if_neg h]
    exact Finset.sum_eq_zero fun d _ => if_neg (by omega)

/-- An extended real that is a real number. -/
def IsR (x : EReal) : Prop := ∃ r : ℝ, x = r

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem isR_one : IsR 1 := ⟨1, rfl⟩
theorem IsR.of_lt {x : EReal} (h : ⊥ < x) (h' : x < ⊤) : IsR x := ⟨x.toReal, (EReal.coe_toReal h'.ne h.ne').symm⟩

theorem coe_sum {ι : Type} (s : Finset ι) (g : ι → ℝ) : ∑ i ∈ s, (g i : EReal) = ((∑ i ∈ s, g i : ℝ) : EReal) := by
  classical
  induction s using Finset.induction_on with
  | empty => rfl
  | insert a s ha ih => rw [Finset.sum_insert ha, Finset.sum_insert ha, ih, EReal.coe_add]

theorem IsR.sum {ι : Type} (s : Finset ι) {f : ι → EReal} (h : ∀ i, IsR (f i)) : IsR (∑ i ∈ s, f i) := by
  choose g hg using h
  exact ⟨∑ i ∈ s, g i, by rw [← coe_sum]; exact Finset.sum_congr rfl fun i _ => hg i⟩

theorem ofBits_1024 : Ideal.ofBits .f32 1149239296#32 = ((1024 : ℝ) : EReal) := by
  simp [Ideal.ofBits, Ideal.ieee, -EReal.coe_mul]; norm_num

theorem ofBits_eps : ∃ e : ℝ, 0 < e ∧ Ideal.ofBits .f32 897988541#32 = (e : EReal) := by
  refine ⟨_, ?_, by simp [Ideal.ofBits, Ideal.ieee, -EReal.coe_mul]; rfl⟩
  positivity

theorem ofBits_2 : Ideal.ofBits .f32 1073741824#32 = ((2 : ℝ) : EReal) := by
  simp [Ideal.ofBits, Ideal.ieee, -EReal.coe_mul]; norm_num
theorem ofBits_4 : Ideal.ofBits .f32 1082130432#32 = ((4 : ℝ) : EReal) := by
  simp [Ideal.ofBits, Ideal.ieee, -EReal.coe_mul]; norm_num
theorem ofBits_8 : Ideal.ofBits .f32 1090519040#32 = ((8 : ℝ) : EReal) := by
  simp [Ideal.ofBits, Ideal.ieee, -EReal.coe_mul]; norm_num
theorem ofBits_16 : Ideal.ofBits .f32 1098907648#32 = ((16 : ℝ) : EReal) := by
  simp [Ideal.ofBits, Ideal.ieee, -EReal.coe_mul]; norm_num

/-- A row of real numbers has a real norm. -/
theorem isR_rms {f g : Fin 1024 → EReal} (hf : ∀ n, IsR (f n)) (hg : ∀ n, IsR (g n)) (n : Fin 1024) : IsR (rms f g n) := by
  unfold rms
  refine ((hf n).mul ?_).mul (hg n)
  choose a ha using hf
  obtain ⟨e, he, hE⟩ := ofBits_eps
  have hs : (∑ k, f k * f k) = ((∑ k, a k * a k : ℝ) : EReal) := by
    rw [← coe_sum]
    exact Finset.sum_congr rfl fun k _ => by rw [ha k, EReal.coe_mul]
  have hd : Ideal.div (∑ k, f k * f k) (Ideal.ofBits .f32 1149239296#32) + Ideal.ofBits .f32 897988541#32
      = (((∑ k, a k * a k) / 1024 + e : ℝ) : EReal) := by
    rw [hs, ofBits_1024, hE, Ideal.div_coe (by norm_num : (1024 : ℝ) ≠ 0)]
    rw [← EReal.coe_mul, ← EReal.coe_add, mul_one_div]
  rw [hd]
  have hp : 0 < (∑ k, a k * a k) / 1024 + e := by
    have : 0 ≤ ∑ k, a k * a k := Finset.sum_nonneg fun k _ => mul_self_nonneg _
    positivity
  refine ⟨(Real.sqrt ((∑ k, a k * a k) / 1024 + e))⁻¹, ?_⟩
  show (if _ then _ else _) = _
  rw [if_neg (not_lt.2 hp.le), if_neg hp.ne']

/-- Real arguments give a real projection. -/
theorem isR_proj {x : Fin 1024 → EReal} {md : Fin 6144 → EReal} {g : Fin 1024 → EReal} {w : Fin 1024 → Fin 2048 → EReal}
    (hx : ∀ n, IsR (x n)) (hm : ∀ n, IsR (md n)) (hg : ∀ n, IsR (g n)) (hw : ∀ k n, IsR (w k n)) (n : Fin 2048) :
    IsR (projR (hR x md g) w n) :=
  IsR.sum _ fun k => ((((isR_rms hx hg k).mul (isR_one.add (hm _))).add (hm _))).mul (hw k n)

/-- The difference of two prefix sums of real numbers is the sum over the window between them. -/
theorem prefix_sub (f : Nat → EReal) (hf : ∀ i, IsR (f i)) (w s : Nat) :
    (∑ i ∈ Finset.range (s + 1), f i) - (∑ i ∈ Finset.range (s + 1 - w), f i) = win f w s := by
  choose g hg using hf
  obtain rfl : f = fun i => (g i : EReal) := funext hg
  have hr : ∀ w, (∑ i ∈ Finset.range (s + 1), g i) - (∑ i ∈ Finset.range (s + 1 - w), g i)
      = ∑ d ∈ Finset.range w, if d ≤ s then g (s - d) else 0 := by
    intro w
    induction w with
    | zero => simp
    | succ w ih =>
      rw [Finset.sum_range_succ (n := w), ← ih]
      by_cases h : w ≤ s
      · rw [if_pos h, show s + 1 - w = (s - w) + 1 by omega, Finset.sum_range_succ (n := s - w), show s + 1 - (w + 1) = s - w by omega]
        ring
      · rw [if_neg h, show s + 1 - w = 0 by omega, show s + 1 - (w + 1) = 0 by omega]
        simp
  rw [coe_sum, coe_sum, ← EReal.coe_sub, hr, ← coe_sum]
  refine Finset.sum_congr rfl fun d _ => ?_
  show _ = if d ≤ s then ((g (s - d) : ℝ) : EReal) else 0
  split_ifs <;> rfl

end Cert.Pre
end
end
-- ==== Proof.PreIdx.lean ====
module
public import proofs.«01_k».proof.Proof.PreBody
public import proofs.«01_k».proof.Proof.PreSpec
@[expose] public section
set_option maxRecDepth 16384

/-! The blocks of the pre-attention kernel read at an index: each is a row formula of PreSpec. -/

noncomputable section
open Idealize.ShloMosaic Idealize.ShloMosaic.TcCoe Idealize.SL.Sem
namespace Cert.PrePromptIdeal.Out
open Cert.PrePromptIdeal Cert.PrePromptIdeal.Gen Cert.Pre

/-- The projected block. -/
theorem proj_apply (x0 : Vec Ideal S1x512x1024 .f32) (x1 : Vec Ideal S1x1x6144 .f32) (x2 : Vec Ideal S1x1024 .f32) (x3 : Vec Ideal S1024x2048 .bf16) (r : Fin 512) (n : Fin 2048) :
    k0_pay8 x0 x1 x2 x3 (ix2 r n)
      = projR (hR (fun k => x0 (ix3 0 r k)) (fun k => x1 (ix3 0 0 k)) (fun k => x2 (ix2 0 k))) (fun k n => x3 (ix2 k n)) n := by
  pointwise [k0_pay8]
  rfl

/-- Its first 512 columns. -/
theorem u_apply (x0 : Vec Ideal S1x512x1024 .f32) (x1 : Vec Ideal S1x1x6144 .f32) (x2 : Vec Ideal S1x1024 .f32) (x3 : Vec Ideal S1024x2048 .bf16) (r n : Fin 512) :
    k0_pay9 x0 x1 x2 x3 (ix2 r n) = k0_pay8 x0 x1 x2 x3 (ix2 r ⟨n.val, by omega⟩) := by
  unfold k0_pay9
  generalize k0_pay8 x0 x1 x2 x3 = p
  pointwise

theorem v_apply (p : FVec Ideal S512x2048 .f32) (r n : Fin 512) :
    k0_pay28 p (ix3 0 r n) = p (ix2 r ⟨1536 + n.val, by omega⟩) := by
  pointwise [k0_pay28, k0_pay26]

theorem vt0_apply (p : FVec Ideal S512x2048 .f32) (n : Fin 512) (r : Fin 256) :
    k0_pay31 (k0_pay26 p) (ix4 0 0 n r) = p (ix2 ⟨r.val, by omega⟩ ⟨1536 + n.val, by omega⟩) := by
  pointwise [k0_pay31, k0_pay26]

theorem vt1_apply (p : FVec Ideal S512x2048 .f32) (n : Fin 512) (r : Fin 256) :
    k0_pay32 (k0_pay26 p) (ix4 0 0 n r) = p (ix2 ⟨256 + r.val, by omega⟩ ⟨1536 + n.val, by omega⟩) := by
  pointwise [k0_pay32, k0_pay26]

/-- The rotation over the two tables of 128 columns, column by column. -/
def ropeT (p : Fin 512 → EReal) (c s : Fin 128 → EReal) (n : Fin 512) : EReal :=
  p n * c ⟨n.val % 128, by omega⟩
    + (if h : n.val % 64 < 32 then p ⟨n.val + 32, by omega⟩ else p ⟨n.val - 32, by omega⟩) * s ⟨n.val % 128, by omega⟩

/-- The mask of the first half of a head, as the kernel writes it. -/
def halfBit (l : BitVec 32) : BitVec 1 :=
  IntOp.cmpi CmpIPredicate.slt
    (Scalar.select
      (IntOp.andi
        (IntOp.xori
          (IntOp.cmpi CmpIPredicate.slt
            (IntOp.remsi ArithUnit.vector l (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector l (Scalar.select (Scalar.cmpi CmpIPredicate.eq 64#32 0#32) 1#32 64#32)) 0#32))
      (IntOp.addi
        (IntOp.remsi ArithUnit.vector l (Scalar.select (Scalar.cmpi CmpIPredicate.eq 64#32 0#32) 1#32 64#32))
        (Scalar.select (Scalar.cmpi CmpIPredicate.eq 64#32 0#32) 1#32 64#32))
      (IntOp.remsi ArithUnit.vector l (Scalar.select (Scalar.cmpi CmpIPredicate.eq 64#32 0#32) 1#32 64#32)))
    32#32

theorem halfBit_eq : ∀ l : Fin 128, halfBit (BitVec.ofNat 32 l.val) = if l.val % 64 < 32 then 1#1 else 0#1 := by
  decide +kernel

theorem select_half (l : Nat) (h : l < 128) (a b : EReal) :
    Scalar.select (halfBit (BitVec.ofNat 32 l)) a b = if l % 64 < 32 then a else b := by
  rw [halfBit_eq ⟨l, h⟩]
  dsimp only
  split_ifs <;> rfl

theorem ropeT_of (P : Fin 2048 → EReal) (o : Nat) (ho : o + 512 ≤ 2048) (c s : Fin 128 → EReal) (n : Fin 512) (a b d : Fin 2048) (l : Fin 128)
    (ha : a.val = o + n.val) (hl : l.val = n.val % 128) (hb : n.val % 64 < 32 → b.val = o + (n.val + 32))
    (hd : ¬ n.val % 64 < 32 → d.val = o + (n.val - 32)) :
    P a * c l + Scalar.select (halfBit (BitVec.ofNat 32 l.val)) (P b) (P d) * s l
      = ropeT (fun k => P ⟨o + k.val, Nat.lt_of_lt_of_le (Nat.add_lt_add_left k.isLt o) ho⟩) c s n := by
  have e1 : a = ⟨o + n.val, by omega⟩ := Fin.ext ha
  have e2 : l = ⟨n.val % 128, by omega⟩ := Fin.ext hl
  rw [select_half l.val l.isLt]
  conv_lhs => rw [e1, e2]
  unfold ropeT
  dsimp only
  by_cases h : n.val % 64 < 32
  · rw [if_pos (by omega), dif_pos h, show b = ⟨o + (n.val + 32), by omega⟩ from Fin.ext (hb h)]
  · rw [if_neg (by omega), dif_neg h, show d = ⟨o + (n.val - 32), by omega⟩ from Fin.ext (hd h)]

theorem k_apply (p : FVec Ideal S512x2048 .f32) (x6 x7 : Vec Ideal S512x128 .f32) (r n : Fin 512) :
    kV p x6 x7 (ix3 0 r n)
      = ropeT (fun k => p (ix2 r ⟨1024 + k.val, by omega⟩)) (fun l => x6 (ix2 r l)) (fun l => x7 (ix2 r l)) n := by
  pointwise [kV, k0_pay27, k0_pay10, k0_pay11, k0_pay20, k0_pay21, k0_pay22, k0_pay23, k0_pay24, k0_pay25]
  simp only [← halfBit.eq_def]
  have hn := n.isLt
  by_cases h0 : n.val < 128
  · rw [dif_pos h0]
    exact (ropeT_of (fun k => p (ix2 r k)) 1024 (by omega) (fun l => x6 (ix2 r l)) (fun l => x7 (ix2 r l)) n ⟨1024 + n.val, by omega⟩ ⟨1024 + (n.val + 128 - 96) % 128, by omega⟩ ⟨1024 + (n.val + 128 - 32) % 128, by omega⟩ ⟨n.val, by omega⟩
      (by first | rfl | (dsimp only; omega)) (by dsimp only; omega) (by dsimp only; omega) (by dsimp only; omega))
  rw [dif_neg h0]
  by_cases h1 : n.val - 128 < 128
  · rw [dif_pos h1]
    exact (ropeT_of (fun k => p (ix2 r k)) 1024 (by omega) (fun l => x6 (ix2 r l)) (fun l => x7 (ix2 r l)) n ⟨1024 + (128 + (n.val - 128)), by omega⟩ ⟨1024 + (128 + (n.val - 128 + 128 - 96) % 128), by omega⟩ ⟨1024 + (128 + (n.val - 128 + 128 - 32) % 128), by omega⟩ ⟨n.val - 128, by omega⟩
      (by first | rfl | (dsimp only; omega)) (by dsimp only; omega) (by dsimp only; omega) (by dsimp only; omega))
  rw [dif_neg h1]
  by_cases h2 : n.val - 128 - 128 < 128
  · rw [dif_pos h2]
    exact (ropeT_of (fun k => p (ix2 r k)) 1024 (by omega) (fun l => x6 (ix2 r l)) (fun l => x7 (ix2 r l)) n ⟨1024 + (256 + (n.val - 128 - 128)), by omega⟩ ⟨1024 + (256 + (n.val - 128 - 128 + 128 - 96) % 128), by omega⟩ ⟨1024 + (256 + (n.val - 128 - 128 + 128 - 32) % 128), by omega⟩ ⟨n.val - 128 - 128, by omega⟩
      (by first | rfl | (dsimp only; omega)) (by dsimp only; omega) (by dsimp only; omega) (by dsimp only; omega))
  rw [dif_neg h2]
  exact (ropeT_of (fun k => p (ix2 r k)) 1024 (by omega) (fun l => x6 (ix2 r l)) (fun l => x7 (ix2 r l)) n ⟨1024 + (384 + (n.val - 128 - 128 - 128)), by omega⟩ ⟨1024 + (384 + (n.val - 128 - 128 - 128 + 128 - 96) % 128), by omega⟩ ⟨1024 + (384 + (n.val - 128 - 128 - 128 + 128 - 32) % 128), by omega⟩ ⟨n.val - 128 - 128 - 128, by omega⟩
      (by first | rfl | (dsimp only; omega)) (by dsimp only; omega) (by dsimp only; omega) (by dsimp only; omega))

theorem kb_apply (p : FVec Ideal S512x2048 .f32) (x6 x7 : Vec Ideal S512x128 .f32) (r n : Fin 512) :
    kbV p x6 x7 (ix3 0 r n)
      = ropeT (fun k => p (ix2 r ⟨1024 + k.val, by omega⟩)) (fun l => x6 (ix2 r l)) (fun l => x7 (ix2 r l)) n := by
  pointwise [kbV, k0_pay29, k0_pay10, k0_pay11, k0_pay20, k0_pay21, k0_pay22, k0_pay23, k0_pay24, k0_pay25]
  simp only [← halfBit.eq_def]
  have hn := n.isLt
  by_cases h0 : n.val < 128
  · rw [dif_pos h0]
    exact (ropeT_of (fun k => p (ix2 r k)) 1024 (by omega) (fun l => x6 (ix2 r l)) (fun l => x7 (ix2 r l)) n ⟨1024 + n.val, by omega⟩ ⟨1024 + (n.val + 128 - 96) % 128, by omega⟩ ⟨1024 + (n.val + 128 - 32) % 128, by omega⟩ ⟨n.val, by omega⟩
      (by first | rfl | (dsimp only; omega)) (by dsimp only; omega) (by dsimp only; omega) (by dsimp only; omega))
  rw [dif_neg h0]
  by_cases h1 : n.val - 128 < 128
  · rw [dif_pos h1]
    exact (ropeT_of (fun k => p (ix2 r k)) 1024 (by omega) (fun l => x6 (ix2 r l)) (fun l => x7 (ix2 r l)) n ⟨1024 + (128 + (n.val - 128)), by omega⟩ ⟨1024 + (128 + (n.val - 128 + 128 - 96) % 128), by omega⟩ ⟨1024 + (128 + (n.val - 128 + 128 - 32) % 128), by omega⟩ ⟨n.val - 128, by omega⟩
      (by first | rfl | (dsimp only; omega)) (by dsimp only; omega) (by dsimp only; omega) (by dsimp only; omega))
  rw [dif_neg h1]
  by_cases h2 : n.val - 128 - 128 < 128
  · rw [dif_pos h2]
    exact (ropeT_of (fun k => p (ix2 r k)) 1024 (by omega) (fun l => x6 (ix2 r l)) (fun l => x7 (ix2 r l)) n ⟨1024 + (256 + (n.val - 128 - 128)), by omega⟩ ⟨1024 + (256 + (n.val - 128 - 128 + 128 - 96) % 128), by omega⟩ ⟨1024 + (256 + (n.val - 128 - 128 + 128 - 32) % 128), by omega⟩ ⟨n.val - 128 - 128, by omega⟩
      (by first | rfl | (dsimp only; omega)) (by dsimp only; omega) (by dsimp only; omega) (by dsimp only; omega))
  rw [dif_neg h2]
  exact (ropeT_of (fun k => p (ix2 r k)) 1024 (by omega) (fun l => x6 (ix2 r l)) (fun l => x7 (ix2 r l)) n ⟨1024 + (384 + (n.val - 128 - 128 - 128)), by omega⟩ ⟨1024 + (384 + (n.val - 128 - 128 - 128 + 128 - 96) % 128), by omega⟩ ⟨1024 + (384 + (n.val - 128 - 128 - 128 + 128 - 32) % 128), by omega⟩ ⟨n.val - 128 - 128 - 128, by omega⟩
      (by first | rfl | (dsimp only; omega)) (by dsimp only; omega) (by dsimp only; omega) (by dsimp only; omega))

theorem q_apply (p : FVec Ideal S512x2048 .f32) (x6 x7 : Vec Ideal S512x128 .f32) (r n : Fin 512) :
    qV p x6 x7 (ix3 0 n r)
      = ropeT (fun k => p (ix2 r ⟨512 + k.val, by omega⟩)) (fun l => x6 (ix2 r l)) (fun l => x7 (ix2 r l)) n
        * Ideal.ofBits .f32 0x3E38AA3B#32 := by
  pointwise [qV, k0_pay30, k0_pay19, k0_pay10, k0_pay11, k0_pay12, k0_pay13, k0_pay14, k0_pay15, k0_pay16, k0_pay17, k0_pay18]
  simp only [← halfBit.eq_def]
  have hn := n.isLt
  by_cases h0 : n.val < 128
  · rw [dif_pos h0]
    exact congrArg (· * Ideal.ofBits .f32 0x3E38AA3B#32) (ropeT_of (fun k => p (ix2 r k)) 512 (by omega) (fun l => x6 (ix2 r l)) (fun l => x7 (ix2 r l)) n ⟨512 + n.val, by omega⟩ ⟨512 + (n.val + 128 - 96) % 128, by omega⟩ ⟨512 + (n.val + 128 - 32) % 128, by omega⟩ ⟨n.val, by omega⟩
      (by first | rfl | (dsimp only; omega)) (by dsimp only; omega) (by dsimp only; omega) (by dsimp only; omega))
  rw [dif_neg h0]
  by_cases h1 : n.val - 128 < 128
  · rw [dif_pos h1]
    exact congrArg (· * Ideal.ofBits .f32 0x3E38AA3B#32) (ropeT_of (fun k => p (ix2 r k)) 512 (by omega) (fun l => x6 (ix2 r l)) (fun l => x7 (ix2 r l)) n ⟨512 + (128 + (n.val - 128)), by omega⟩ ⟨512 + (128 + (n.val - 128 + 128 - 96) % 128), by omega⟩ ⟨512 + (128 + (n.val - 128 + 128 - 32) % 128), by omega⟩ ⟨n.val - 128, by omega⟩
      (by first | rfl | (dsimp only; omega)) (by dsimp only; omega) (by dsimp only; omega) (by dsimp only; omega))
  rw [dif_neg h1]
  by_cases h2 : n.val - 128 - 128 < 128
  · rw [dif_pos h2]
    exact congrArg (· * Ideal.ofBits .f32 0x3E38AA3B#32) (ropeT_of (fun k => p (ix2 r k)) 512 (by omega) (fun l => x6 (ix2 r l)) (fun l => x7 (ix2 r l)) n ⟨512 + (256 + (n.val - 128 - 128)), by omega⟩ ⟨512 + (256 + (n.val - 128 - 128 + 128 - 96) % 128), by omega⟩ ⟨512 + (256 + (n.val - 128 - 128 + 128 - 32) % 128), by omega⟩ ⟨n.val - 128 - 128, by omega⟩
      (by first | rfl | (dsimp only; omega)) (by dsimp only; omega) (by dsimp only; omega) (by dsimp only; omega))
  rw [dif_neg h2]
  exact congrArg (· * Ideal.ofBits .f32 0x3E38AA3B#32) (ropeT_of (fun k => p (ix2 r k)) 512 (by omega) (fun l => x6 (ix2 r l)) (fun l => x7 (ix2 r l)) n ⟨512 + (384 + (n.val - 128 - 128 - 128)), by omega⟩ ⟨512 + (384 + (n.val - 128 - 128 - 128 + 128 - 96) % 128), by omega⟩ ⟨512 + (384 + (n.val - 128 - 128 - 128 + 128 - 32) % 128), by omega⟩ ⟨n.val - 128 - 128 - 128, by omega⟩
      (by first | rfl | (dsimp only; omega)) (by dsimp only; omega) (by dsimp only; omega) (by dsimp only; omega))

end Cert.PrePromptIdeal.Out
end
end
-- ==== Proof.PreRefOps.lean ====
module
public import proofs.«01_k».proof.Proof.Gen.PrePromptRefIdeal.Run
public import proofs.«01_k».proof.Proof.Gen.PrePromptRefIdeal.Read
public import proofs.«01_k».proof.Proof.PreSpec
@[expose] public section
set_option maxRecDepth 16384

/-! Two operations of the reference read at an index: the running sum down the rows, and the gather of rows. -/

noncomputable section
open Idealize.ShloMosaic Idealize.ShloMosaic.TcCoe Idealize.SL.Sem
namespace Cert.PrePromptRefIdeal.Out
open Cert.PrePromptRefIdeal Cert.PrePromptRefIdeal.Facts₀ Cert.PrePromptRefIdeal.Facts Cert.PrePromptRefIdeal.Read Cert.Pre

/-- The gather of rows: row `s` of the result is the operand's row named by start index `s`, clamped to the operand. -/
theorem gather_rows (x : S2x8193x128.Idx → EReal) (idx : IVec S8192x1 32) (b : Fin 2) (s : Fin 8192) (c : Fin 128) :
    Host.gather gather_S2x8193x128_S8192x1_S2x8192x128_02_1_n_n_1_1_21128 x idx (ix3 b s c)
      = x (ix3 b ⟨min (idx (ix2 s 0)).toInt.toNat 8192, by omega⟩ c) := by
  unfold Host.gather
  refine congrArg x (funext fun a => Fin.ext ?_)
  match a with
  | ⟨0, _⟩ =>
    show GatherDims.start gather_S2x8193x128_S8192x1_S2x8192x128_02_1_n_n_1_1_21128 (ix3 b s c) idx 0 + GatherDims.batchCoord _ (ix3 b s c) 0 + GatherDims.offCoord _ (ix3 b s c) 0 = b.val
    have h1 : GatherDims.start gather_S2x8193x128_S8192x1_S2x8192x128_02_1_n_n_1_1_21128 (ix3 b s c) idx 0 = 0 := by
      unfold GatherDims.start; exact dif_neg (by decide)
    have h2 : GatherDims.batchCoord gather_S2x8193x128_S8192x1_S2x8192x128_02_1_n_n_1_1_21128 (ix3 b s c) 0 = 0 := by
      unfold GatherDims.batchCoord; exact dif_neg (by decide)
    have h3 : GatherDims.offCoord gather_S2x8193x128_S8192x1_S2x8192x128_02_1_n_n_1_1_21128 (ix3 b s c) 0 = b.val := by
      unfold GatherDims.offCoord; exact (dif_pos (by decide)).trans rfl
    rw [h1, h2, h3, Nat.zero_add]
  | ⟨1, _⟩ =>
    show GatherDims.start gather_S2x8193x128_S8192x1_S2x8192x128_02_1_n_n_1_1_21128 (ix3 b s c) idx 1 + GatherDims.batchCoord _ (ix3 b s c) 1 + GatherDims.offCoord _ (ix3 b s c) 1 = min (idx (ix2 s 0)).toInt.toNat 8192
    have hsi : GatherDims.siIdx gather_S2x8193x128_S8192x1_S2x8192x128_02_1_n_n_1_1_21128 (ix3 b s c) ⟨0, by decide⟩ = (ix2 s 0 : S8192x1.Idx) := by
      funext k; refine Fin.ext ?_
      match k with
      | ⟨0, _⟩ => rfl
      | ⟨1, _⟩ => rfl
    have h1 : GatherDims.start gather_S2x8193x128_S8192x1_S2x8192x128_02_1_n_n_1_1_21128 (ix3 b s c) idx 1 = min (idx (ix2 s 0)).toInt.toNat 8192 := by
      unfold GatherDims.start
      exact (dif_pos (by decide)).trans (congrArg (fun i => min (idx i).toInt.toNat 8192) hsi)
    have h2 : GatherDims.batchCoord gather_S2x8193x128_S8192x1_S2x8192x128_02_1_n_n_1_1_21128 (ix3 b s c) 1 = 0 := by
      unfold GatherDims.batchCoord; exact dif_neg (by decide)
    have h3 : GatherDims.offCoord gather_S2x8193x128_S8192x1_S2x8192x128_02_1_n_n_1_1_21128 (ix3 b s c) 1 = 0 := by
      unfold GatherDims.offCoord; exact dif_neg (by decide)
    rw [h1, h2, h3]
    rfl
  | ⟨2, _⟩ =>
    show GatherDims.start gather_S2x8193x128_S8192x1_S2x8192x128_02_1_n_n_1_1_21128 (ix3 b s c) idx 2 + GatherDims.batchCoord _ (ix3 b s c) 2 + GatherDims.offCoord _ (ix3 b s c) 2 = c.val
    have h1 : GatherDims.start gather_S2x8193x128_S8192x1_S2x8192x128_02_1_n_n_1_1_21128 (ix3 b s c) idx 2 = 0 := by
      unfold GatherDims.start; exact dif_neg (by decide)
    have h2 : GatherDims.batchCoord gather_S2x8193x128_S8192x1_S2x8192x128_02_1_n_n_1_1_21128 (ix3 b s c) 2 = 0 := by
      unfold GatherDims.batchCoord; exact dif_neg (by decide)
    have h3 : GatherDims.offCoord gather_S2x8193x128_S8192x1_S2x8192x128_02_1_n_n_1_1_21128 (ix3 b s c) 2 = c.val := by
      unfold GatherDims.offCoord; exact (dif_pos (by decide)).trans rfl
    rw [h1, h2, h3, Nat.zero_add]

theorem numel_w : (⟨3, ![1, 8192, 1]⟩ : Shape).numel = 8192 := by decide +kernel

theorem symm_w (n : Fin (⟨3, ![1, 8192, 1]⟩ : Shape).numel) :
    (⟨3, ![1, 8192, 1]⟩ : Shape).rowMajor.symm n = ix3 (0 : Fin 1) (n.cast numel_w) (0 : Fin 1) := by
  rw [Equiv.symm_apply_eq]
  refine Fin.ext ?_
  rw [Shape.rowMajor_val_three]
  show n.val = (0 * 8192 + n.val) * 1 + 0
  omega

/-- The running sum down the rows: entry `s` is the sum of the rows up to `s`. -/
theorem cumsum_rows (x : S2x8192x512.Idx → EReal) (init : S_.Idx → EReal) (hinit : init (Shape.Idx.first h_S_) = 0) (b : Fin 2) (s : Fin 8192) (n : Fin 512) :
    Host.reduceWindowAdd (F := Ideal) (φ := .f32) ![1, 8192, 1] ![1, 1, 1] ![0, 8191, 0] ![0, 0, 0] x init
        reduceWindows_S2x8192x512_S2x8192x512_w1s1p0_0_w8192s1p8191_0_w1s1p0_0 h_S_ (ix3 b s n)
      = ∑ t ∈ Finset.range (s.val + 1), (if h : t < 8192 then x (ix3 b ⟨t, h⟩ n) else 0) := by
  unfold Host.reduceWindowAdd
  rw [Ideal.hostReduceWindowAdd_def, hinit]
  unfold Ideal.hostReduceWindowAdd Host.reduceWindow
  dsimp only
  have hs := s.isLt
  have key : ∀ (l : List (Fin (⟨3, ![1, 8192, 1]⟩ : Shape).numel)) (a : EReal) (f : Fin (⟨3, ![1, 8192, 1]⟩ : Shape).numel → EReal),
      l.foldl (fun r n => r + f n) a = a + (l.map f).sum := by
    intro l
    induction l with
    | nil => intro a f; simp
    | cons q l ih => intro a f; rw [List.foldl_cons, ih, List.map_cons, List.sum_cons, add_assoc]
  refine (key _ _ _).trans ?_
  rw [zero_add]
  rw [show ∀ f : Fin (⟨3, ![1, 8192, 1]⟩ : Shape).numel → EReal, ((List.finRange _).map f).sum = ∑ m, f m from fun f => (Fin.sum_univ_def f).symm]
  have hw : ∀ m : Fin (⟨3, ![1, 8192, 1]⟩ : Shape).numel, ((⟨3, ![1, 8192, 1]⟩ : Shape).rowMajor.symm m 0).val = 0
      ∧ ((⟨3, ![1, 8192, 1]⟩ : Shape).rowMajor.symm m 1).val = m.val ∧ ((⟨3, ![1, 8192, 1]⟩ : Shape).rowMajor.symm m 2).val = 0 := fun m => by
    rw [symm_w]; exact ⟨rfl, rfl, rfl⟩
  refine (Finset.sum_congr (g := fun m : Fin (⟨3, ![1, 8192, 1]⟩ : Shape).numel =>
      if 8191 ≤ s.val + m.val then (fun t => if h : t < 8192 then x (ix3 b ⟨t, h⟩ n) else 0) (s.val + m.val - 8191) else 0) rfl fun m _ => ?_).trans ?_
  · dsimp only
    obtain ⟨w0, w1, w2⟩ := hw m
    have hm : m.val < 8192 := lt_of_lt_of_eq m.isLt numel_w
    by_cases hc : 8191 ≤ s.val + m.val
    · rw [if_pos hc, dif_pos]
      · show _ = if h : s.val + m.val - 8191 < 8192 then _ else 0
        rw [dif_pos (by omega)]
        refine congrArg x (funext fun a => Fin.ext ?_)
        match a with
        | ⟨0, _⟩ => show b.val * 1 + ((⟨3, ![1, 8192, 1]⟩ : Shape).rowMajor.symm m 0).val - 0 = b.val; omega
        | ⟨1, _⟩ => show s.val * 1 + ((⟨3, ![1, 8192, 1]⟩ : Shape).rowMajor.symm m 1).val - 8191 = s.val + m.val - 8191; omega
        | ⟨2, _⟩ => show n.val * 1 + ((⟨3, ![1, 8192, 1]⟩ : Shape).rowMajor.symm m 2).val - 0 = n.val; omega
      · intro a
        match a with
        | ⟨0, _⟩ =>
          show 0 ≤ b.val * 1 + ((⟨3, ![1, 8192, 1]⟩ : Shape).rowMajor.symm m 0).val ∧ b.val * 1 + ((⟨3, ![1, 8192, 1]⟩ : Shape).rowMajor.symm m 0).val - 0 < 2
          omega
        | ⟨1, _⟩ =>
          show 8191 ≤ s.val * 1 + ((⟨3, ![1, 8192, 1]⟩ : Shape).rowMajor.symm m 1).val ∧ s.val * 1 + ((⟨3, ![1, 8192, 1]⟩ : Shape).rowMajor.symm m 1).val - 8191 < 8192
          omega
        | ⟨2, _⟩ =>
          show 0 ≤ n.val * 1 + ((⟨3, ![1, 8192, 1]⟩ : Shape).rowMajor.symm m 2).val ∧ n.val * 1 + ((⟨3, ![1, 8192, 1]⟩ : Shape).rowMajor.symm m 2).val - 0 < 512
          omega
    · rw [if_neg hc, dif_neg]
      intro hin
      have h1 := (hin 1).1
      change 8191 ≤ s.val * 1 + ((⟨3, ![1, 8192, 1]⟩ : Shape).rowMajor.symm m 1).val at h1
      omega
  generalize (fun t => if h : t < 8192 then x (ix3 b ⟨t, h⟩ n) else (0 : EReal)) = f
  rw [Fin.sum_univ_eq_sum_range (fun m => if 8191 ≤ s.val + m then f (s.val + m - 8191) else 0), numel_w, ← Finset.sum_filter]
  refine Finset.sum_nbij' (fun m => s.val + m - 8191) (fun t => t + 8191 - s.val) ?_ ?_ ?_ ?_ ?_
  all_goals intro m hm
  all_goals simp only [Finset.mem_filter, Finset.mem_range] at hm ⊢
  all_goals omega

end Cert.PrePromptRefIdeal.Out
end
end
-- ==== Proof.PreRef.lean ====
module
public import proofs.«01_k».proof.Proof.PreRefOps
public import Idealize.ShloMosaic.Lib.Pointwise
@[expose] public section
set_option maxRecDepth 16384

/-! The reference of the pre-attention half, read at an index: each stage is the row formula of PreSpec. -/

noncomputable section
open Idealize.ShloMosaic Idealize.ShloMosaic.TcCoe Idealize.SL.Sem
namespace Cert.PrePromptRefIdeal.Out
open Cert.PrePromptRefIdeal Cert.PrePromptRefIdeal.Facts₀ Cert.PrePromptRefIdeal.Facts Cert.PrePromptRefIdeal.Read Cert.Pre
variable (x0 : (⟨S2x8192x1024, .f32⟩ : BufTy).Contents (Elt Ideal)) (x1 : (⟨S2x1x6144, .f32⟩ : BufTy).Contents (Elt Ideal)) (x2 : (⟨S1x1024, .f32⟩ : BufTy).Contents (Elt Ideal)) (x3 : (⟨S1x1024x2048, .f32⟩ : BufTy).Contents (Elt Ideal)) (x4 : (⟨S1x4x128x128, .f32⟩ : BufTy).Contents (Elt Ideal)) (x5 : (⟨S1x512, .f32⟩ : BufTy).Contents (Elt Ideal))

/-- The projected row of batch row `b` at position `s`. -/
def P (b : Fin 2) (s : Fin 8192) : Fin 2048 → EReal :=
  projR (hR (fun n => x0 (ix3 b s n)) (fun n => x1 (ix3 b 0 n)) (fun n => x2 (ix2 0 n))) (fun k n => x3 (ix3 0 k n))

/-- The pooled columns of batch row `b` by position; zero past the last one. -/
def U (b : Fin 2) (t : Nat) (n : Fin 512) : EReal :=
  if h : t < 8192 then P x0 x1 x2 x3 b ⟨t, h⟩ ⟨n.val, by omega⟩ else 0

/-- The arguments the pooled columns depend on hold real numbers. -/
def Fin6 : Prop := (∀ i, IsR (x0 i)) ∧ (∀ i, IsR (x1 i)) ∧ (∀ i, IsR (x2 i)) ∧ (∀ i, IsR (x3 i))

theorem isR_U (h : Fin6 x0 x1 x2 x3) (b : Fin 2) (t : Nat) (n : Fin 512) : IsR (U x0 x1 x2 x3 b t n) := by
  unfold U
  by_cases ht : t < 8192
  · rw [dif_pos ht]; exact isR_proj (fun _ => h.1 _) (fun _ => h.2.1 _) (fun _ => h.2.2.1 _) (fun _ _ => h.2.2.2 _) _
  · rw [dif_neg ht]; exact ⟨0, rfl⟩

theorem proj_apply (b : Fin 2) (s : Fin 8192) (n : Fin 2048) :
    val_main_v27 x0 x1 x2 x3 (ix3 b s n) = P x0 x1 x2 x3 b s n := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_v23, val_main_v24, val_main_v25, val_main_v26, val_main_v27]
  rfl

theorem u_apply (b : Fin 2) (s : Fin 8192) (n : Fin 512) :
    val_main_v28 x0 x1 x2 x3 (ix3 b s n) = U x0 x1 x2 x3 b s.val n := by
  have H := proj_apply x0 x1 x2 x3
  unfold U
  rw [dif_pos s.isLt]
  simp only [val_main_v28]
  generalize val_main_v27 (F := Ideal) x0 x1 x2 x3 = mx at *
  pointwise
  simp only [H]

/-- The running sum with a zero row before it: row `t` is the sum of the rows before row `t`. -/
theorem cum_apply (b : Fin 2) (t : Fin 8193) (n : Fin 512) :
    val_main_v35 x0 x1 x2 x3 (ix3 b t n) = ∑ k ∈ Finset.range t.val, U x0 x1 x2 x3 b k n := by
  have H : ∀ (b : Fin 2) (s : Fin 8192) (n : Fin 512), val_main_v34 x0 x1 x2 x3 (ix3 b s n)
      = ∑ k ∈ Finset.range (s.val + 1), U x0 x1 x2 x3 b k n := fun b s n => by
    unfold val_main_v34
    rw [cumsum_rows _ _ (by simp only [val_main_call0_call0_v0, val_main_call0_call0_cst]; pointwise)]
    refine Finset.sum_congr rfl fun k _ => ?_
    by_cases hk : k < 8192
    · rw [dif_pos hk]; exact u_apply x0 x1 x2 x3 b ⟨k, hk⟩ n
    · rw [dif_neg hk]; unfold U; rw [dif_neg hk]
  simp only [val_main_v35, val_main_call1_v0, val_main_c]
  generalize val_main_v34 (F := Ideal) x0 x1 x2 x3 = mx at *
  pointwise [pad_apply]
  by_cases ht : 1 ≤ t.val
  · rw [dif_pos (show 1 ≤ t.val ∧ t.val - 1 < 8192 by omega), H]
    congr 2
    show t.val - 1 + 1 = t.val
    omega
  · rw [dif_neg (show ¬ (1 ≤ t.val ∧ t.val - 1 < 8192) by omega), show t.val = 0 by omega, Finset.sum_range_zero]
    show (((0#32 : BitVec 32).toInt : ℝ) : EReal) = 0
    norm_num

/-- Group 0: the start row of the window of 2 rows. -/
theorem start0 (s : Fin 8192) : min (val_main_v50 (F := Ideal) (ix2 s 0)).toInt.toNat 8192 = s.val + 1 - 2 := by
  pointwise [val_main_v50, val_main_v49, val_main_v48, val_main_v47, val_main_c_7, val_main_v46, val_main_v45, val_main_c_6, val_main_v43, val_main_v42, val_main_c_5, val_main_v41, val_main_v40, val_main_c_4, val_main_v39, val_main_v38, val_main_c_3, val_main_v36]
  revert s
  decide +kernel

/-- Group 0: the number of rows in the window. -/
theorem count0 (b : Fin 2) (s : Fin 8192) (c : Fin 128) : val_main_v60 (F := Ideal) (ix3 b s c) = cnt 2 s.val := by
  have h : ∀ s : Fin 8192, (IntOp.minsi 2#32 (IntOp.addi (BitVec.ofNat 32 s.val) 1#32)).toInt = ((min 2 (s.val + 1) : Nat) : Int) := by decide +kernel
  pointwise [val_main_v60, val_main_v59, val_main_v58, val_main_v57, val_main_v56, val_main_v55, val_main_c_9, val_main_v54, val_main_v53, val_main_c_8, val_main_v36]
  show (((IntOp.minsi 2#32 (IntOp.addi (BitVec.ofNat 32 s.val) 1#32)).toInt : ℝ) : EReal) = _
  rw [h]
  unfold cnt
  rw [Int.cast_natCast]

/-- Group 0: the mean over the window of 2 rows, less the row itself. -/
theorem group0 (hf : Fin6 x0 x1 x2 x3) (b : Fin 2) (s : Fin 8192) (c : Fin 128) :
    val_main_v63 x0 x1 x2 x3 (ix3 b s c)
      = Ideal.div (win (fun t => U x0 x1 x2 x3 b t ⟨c.val, by omega⟩) 2 s.val) (cnt 2 s.val)
        - U x0 x1 x2 x3 b s.val ⟨c.val, by omega⟩ := by
  have H := u_apply x0 x1 x2 x3
  have K := cum_apply x0 x1 x2 x3
  have K1 : ∀ n, val_main_v35 x0 x1 x2 x3 (ix3 b ⟨1 + s.val, by omega⟩ n) = ∑ k ∈ Finset.range (s.val + 1), U x0 x1 x2 x3 b k n := fun n => by
    rw [K, Nat.add_comm s.val 1]
  have C := count0 b s c
  have G : val_main_v51 x0 x1 x2 x3 (ix3 b s c) = ∑ k ∈ Finset.range (s.val + 1 - 2), U x0 x1 x2 x3 b k ⟨c.val, by omega⟩ := by
    unfold val_main_v51
    rw [gather_rows]
    simp only [start0]
    simp only [val_main_v37]
    generalize val_main_v35 (F := Ideal) x0 x1 x2 x3 = cx at *
    pointwise
    simp only [K]
  rw [← prefix_sub _ (fun t => isR_U x0 x1 x2 x3 hf b t _) 2 s.val]
  simp only [val_main_v63, val_main_v61, val_main_v62, val_main_v52, val_main_v44, val_main_v37]
  generalize val_main_v51 (F := Ideal) x0 x1 x2 x3 = gx at *
  generalize val_main_v28 (F := Ideal) x0 x1 x2 x3 = mx at *
  generalize val_main_v35 (F := Ideal) x0 x1 x2 x3 = cx at *
  generalize val_main_v60 (F := Ideal) = nx at *
  pointwise
  simp only [H, K1, C, G]

/-- Group 1: the start row of the window of 4 rows. -/
theorem start1 (s : Fin 8192) : min (val_main_v77 (F := Ideal) (ix2 s 0)).toInt.toNat 8192 = s.val + 1 - 4 := by
  pointwise [val_main_v77, val_main_v76, val_main_v75, val_main_v74, val_main_c_14, val_main_v73, val_main_v72, val_main_c_13, val_main_v70, val_main_v69, val_main_c_12, val_main_v68, val_main_v67, val_main_c_11, val_main_v66, val_main_v65, val_main_c_10, val_main_v36]
  revert s
  decide +kernel

/-- Group 1: the number of rows in the window. -/
theorem count1 (b : Fin 2) (s : Fin 8192) (c : Fin 128) : val_main_v87 (F := Ideal) (ix3 b s c) = cnt 4 s.val := by
  have h : ∀ s : Fin 8192, (IntOp.minsi 4#32 (IntOp.addi (BitVec.ofNat 32 s.val) 1#32)).toInt = ((min 4 (s.val + 1) : Nat) : Int) := by decide +kernel
  pointwise [val_main_v87, val_main_v86, val_main_v85, val_main_v84, val_main_v83, val_main_v82, val_main_c_16, val_main_v81, val_main_v80, val_main_c_15, val_main_v36]
  show (((IntOp.minsi 4#32 (IntOp.addi (BitVec.ofNat 32 s.val) 1#32)).toInt : ℝ) : EReal) = _
  rw [h]
  unfold cnt
  rw [Int.cast_natCast]

/-- Group 1: the mean over the window of 4 rows, less the row itself. -/
theorem group1 (hf : Fin6 x0 x1 x2 x3) (b : Fin 2) (s : Fin 8192) (c : Fin 128) :
    val_main_v90 x0 x1 x2 x3 (ix3 b s c)
      = Ideal.div (win (fun t => U x0 x1 x2 x3 b t ⟨128 + c.val, by omega⟩) 4 s.val) (cnt 4 s.val)
        - U x0 x1 x2 x3 b s.val ⟨128 + c.val, by omega⟩ := by
  have H := u_apply x0 x1 x2 x3
  have K := cum_apply x0 x1 x2 x3
  have K1 : ∀ n, val_main_v35 x0 x1 x2 x3 (ix3 b ⟨1 + s.val, by omega⟩ n) = ∑ k ∈ Finset.range (s.val + 1), U x0 x1 x2 x3 b k n := fun n => by
    rw [K, Nat.add_comm s.val 1]
  have C := count1 b s c
  have G : val_main_v78 x0 x1 x2 x3 (ix3 b s c) = ∑ k ∈ Finset.range (s.val + 1 - 4), U x0 x1 x2 x3 b k ⟨128 + c.val, by omega⟩ := by
    unfold val_main_v78
    rw [gather_rows]
    simp only [start1]
    simp only [val_main_v64]
    generalize val_main_v35 (F := Ideal) x0 x1 x2 x3 = cx at *
    pointwise
    simp only [K]
  rw [← prefix_sub _ (fun t => isR_U x0 x1 x2 x3 hf b t _) 4 s.val]
  simp only [val_main_v90, val_main_v88, val_main_v89, val_main_v79, val_main_v71, val_main_v64]
  generalize val_main_v78 (F := Ideal) x0 x1 x2 x3 = gx at *
  generalize val_main_v28 (F := Ideal) x0 x1 x2 x3 = mx at *
  generalize val_main_v35 (F := Ideal) x0 x1 x2 x3 = cx at *
  generalize val_main_v87 (F := Ideal) = nx at *
  pointwise
  simp only [H, K1, C, G]

/-- Group 2: the start row of the window of 8 rows. -/
theorem start2 (s : Fin 8192) : min (val_main_v104 (F := Ideal) (ix2 s 0)).toInt.toNat 8192 = s.val + 1 - 8 := by
  pointwise [val_main_v104, val_main_v103, val_main_v102, val_main_v101, val_main_c_21, val_main_v100, val_main_v99, val_main_c_20, val_main_v97, val_main_v96, val_main_c_19, val_main_v95, val_main_v94, val_main_c_18, val_main_v93, val_main_v92, val_main_c_17, val_main_v36]
  revert s
  decide +kernel

/-- Group 2: the number of rows in the window. -/
theorem count2 (b : Fin 2) (s : Fin 8192) (c : Fin 128) : val_main_v114 (F := Ideal) (ix3 b s c) = cnt 8 s.val := by
  have h : ∀ s : Fin 8192, (IntOp.minsi 8#32 (IntOp.addi (BitVec.ofNat 32 s.val) 1#32)).toInt = ((min 8 (s.val + 1) : Nat) : Int) := by decide +kernel
  pointwise [val_main_v114, val_main_v113, val_main_v112, val_main_v111, val_main_v110, val_main_v109, val_main_c_23, val_main_v108, val_main_v107, val_main_c_22, val_main_v36]
  show (((IntOp.minsi 8#32 (IntOp.addi (BitVec.ofNat 32 s.val) 1#32)).toInt : ℝ) : EReal) = _
  rw [h]
  unfold cnt
  rw [Int.cast_natCast]

/-- Group 2: the mean over the window of 8 rows, less the row itself. -/
theorem group2 (hf : Fin6 x0 x1 x2 x3) (b : Fin 2) (s : Fin 8192) (c : Fin 128) :
    val_main_v117 x0 x1 x2 x3 (ix3 b s c)
      = Ideal.div (win (fun t => U x0 x1 x2 x3 b t ⟨256 + c.val, by omega⟩) 8 s.val) (cnt 8 s.val)
        - U x0 x1 x2 x3 b s.val ⟨256 + c.val, by omega⟩ := by
  have H := u_apply x0 x1 x2 x3
  have K := cum_apply x0 x1 x2 x3
  have K1 : ∀ n, val_main_v35 x0 x1 x2 x3 (ix3 b ⟨1 + s.val, by omega⟩ n) = ∑ k ∈ Finset.range (s.val + 1), U x0 x1 x2 x3 b k n := fun n => by
    rw [K, Nat.add_comm s.val 1]
  have C := count2 b s c
  have G : val_main_v105 x0 x1 x2 x3 (ix3 b s c) = ∑ k ∈ Finset.range (s.val + 1 - 8), U x0 x1 x2 x3 b k ⟨256 + c.val, by omega⟩ := by
    unfold val_main_v105
    rw [gather_rows]
    simp only [start2]
    simp only [val_main_v91]
    generalize val_main_v35 (F := Ideal) x0 x1 x2 x3 = cx at *
    pointwise
    simp only [K]
  rw [← prefix_sub _ (fun t => isR_U x0 x1 x2 x3 hf b t _) 8 s.val]
  simp only [val_main_v117, val_main_v115, val_main_v116, val_main_v106, val_main_v98, val_main_v91]
  generalize val_main_v105 (F := Ideal) x0 x1 x2 x3 = gx at *
  generalize val_main_v28 (F := Ideal) x0 x1 x2 x3 = mx at *
  generalize val_main_v35 (F := Ideal) x0 x1 x2 x3 = cx at *
  generalize val_main_v114 (F := Ideal) = nx at *
  pointwise
  simp only [H, K1, C, G]

/-- Group 3: the start row of the window of 16 rows. -/
theorem start3 (s : Fin 8192) : min (val_main_v131 (F := Ideal) (ix2 s 0)).toInt.toNat 8192 = s.val + 1 - 16 := by
  pointwise [val_main_v131, val_main_v130, val_main_v129, val_main_v128, val_main_c_28, val_main_v127, val_main_v126, val_main_c_27, val_main_v124, val_main_v123, val_main_c_26, val_main_v122, val_main_v121, val_main_c_25, val_main_v120, val_main_v119, val_main_c_24, val_main_v36]
  revert s
  decide +kernel

/-- Group 3: the number of rows in the window. -/
theorem count3 (b : Fin 2) (s : Fin 8192) (c : Fin 128) : val_main_v141 (F := Ideal) (ix3 b s c) = cnt 16 s.val := by
  have h : ∀ s : Fin 8192, (IntOp.minsi 16#32 (IntOp.addi (BitVec.ofNat 32 s.val) 1#32)).toInt = ((min 16 (s.val + 1) : Nat) : Int) := by decide +kernel
  pointwise [val_main_v141, val_main_v140, val_main_v139, val_main_v138, val_main_v137, val_main_v136, val_main_c_30, val_main_v135, val_main_v134, val_main_c_29, val_main_v36]
  show (((IntOp.minsi 16#32 (IntOp.addi (BitVec.ofNat 32 s.val) 1#32)).toInt : ℝ) : EReal) = _
  rw [h]
  unfold cnt
  rw [Int.cast_natCast]

/-- Group 3: the mean over the window of 16 rows, less the row itself. -/
theorem group3 (hf : Fin6 x0 x1 x2 x3) (b : Fin 2) (s : Fin 8192) (c : Fin 128) :
    val_main_v144 x0 x1 x2 x3 (ix3 b s c)
      = Ideal.div (win (fun t => U x0 x1 x2 x3 b t ⟨384 + c.val, by omega⟩) 16 s.val) (cnt 16 s.val)
        - U x0 x1 x2 x3 b s.val ⟨384 + c.val, by omega⟩ := by
  have H := u_apply x0 x1 x2 x3
  have K := cum_apply x0 x1 x2 x3
  have K1 : ∀ n, val_main_v35 x0 x1 x2 x3 (ix3 b ⟨1 + s.val, by omega⟩ n) = ∑ k ∈ Finset.range (s.val + 1), U x0 x1 x2 x3 b k n := fun n => by
    rw [K, Nat.add_comm s.val 1]
  have C := count3 b s c
  have G : val_main_v132 x0 x1 x2 x3 (ix3 b s c) = ∑ k ∈ Finset.range (s.val + 1 - 16), U x0 x1 x2 x3 b k ⟨384 + c.val, by omega⟩ := by
    unfold val_main_v132
    rw [gather_rows]
    simp only [start3]
    simp only [val_main_v118]
    generalize val_main_v35 (F := Ideal) x0 x1 x2 x3 = cx at *
    pointwise
    simp only [K]
  rw [← prefix_sub _ (fun t => isR_U x0 x1 x2 x3 hf b t _) 16 s.val]
  simp only [val_main_v144, val_main_v142, val_main_v143, val_main_v133, val_main_v125, val_main_v118]
  generalize val_main_v132 (F := Ideal) x0 x1 x2 x3 = gx at *
  generalize val_main_v28 (F := Ideal) x0 x1 x2 x3 = mx at *
  generalize val_main_v35 (F := Ideal) x0 x1 x2 x3 = cx at *
  generalize val_main_v141 (F := Ideal) = nx at *
  pointwise
  simp only [H, K1, C, G]

end Cert.PrePromptRefIdeal.Out
end
end
-- ==== Proof.PreRef2.lean ====
module
public import proofs.«01_k».proof.Proof.PreRef
public import Idealize.ShloMosaic.Lib.Pointwise
@[expose] public section
set_option maxRecDepth 16384

/-! The reference of the pre-attention half, read at an index: the results, from the projected rows. -/

noncomputable section
open Idealize.ShloMosaic Idealize.ShloMosaic.TcCoe Idealize.SL.Sem
namespace Cert.PrePromptRefIdeal.Out
open Cert.PrePromptRefIdeal Cert.PrePromptRefIdeal.Facts₀ Cert.PrePromptRefIdeal.Facts Cert.PrePromptRefIdeal.Read Cert.Pre
variable (x0 : (⟨S2x8192x1024, .f32⟩ : BufTy).Contents (Elt Ideal)) (x1 : (⟨S2x1x6144, .f32⟩ : BufTy).Contents (Elt Ideal)) (x2 : (⟨S1x1024, .f32⟩ : BufTy).Contents (Elt Ideal)) (x3 : (⟨S1x1024x2048, .f32⟩ : BufTy).Contents (Elt Ideal)) (x4 : (⟨S1x4x128x128, .f32⟩ : BufTy).Contents (Elt Ideal)) (x5 : (⟨S1x512, .f32⟩ : BufTy).Contents (Elt Ideal))

theorem q_apply (b : Fin 2) (s : Fin 8192) (n : Fin 512) :
    val_main_v29 x0 x1 x2 x3 (ix3 b s n) = P x0 x1 x2 x3 b s ⟨512 + n.val, by omega⟩ := by
  have H := proj_apply x0 x1 x2 x3
  simp only [val_main_v29]
  generalize val_main_v27 (F := Ideal) x0 x1 x2 x3 = mx at *
  pointwise
  simp only [H]

theorem k_apply (b : Fin 2) (s : Fin 8192) (n : Fin 512) :
    val_main_v30 x0 x1 x2 x3 (ix3 b s n) = P x0 x1 x2 x3 b s ⟨1024 + n.val, by omega⟩ := by
  have H := proj_apply x0 x1 x2 x3
  simp only [val_main_v30]
  generalize val_main_v27 (F := Ideal) x0 x1 x2 x3 = mx at *
  pointwise
  simp only [H]

theorem v_apply (b : Fin 2) (s : Fin 8192) (n : Fin 512) :
    val_main_v31 x0 x1 x2 x3 (ix3 b s n) = P x0 x1 x2 x3 b s ⟨1536 + n.val, by omega⟩ := by
  have H := proj_apply x0 x1 x2 x3
  simp only [val_main_v31]
  generalize val_main_v27 (F := Ideal) x0 x1 x2 x3 = mx at *
  pointwise
  simp only [H]

/-- The angle of frequency `l` at position `s`. -/
def ang (s : Fin 8192) (l : Fin 32) : EReal := val_main_v169 (F := Ideal) (ix2 s l)

/-- A row of projections rotated by the angles of position `s`, its columns starting at `o`. -/
abbrev rot (b : Fin 2) (s : Fin 8192) (o : Nat) (ho : o + 512 ≤ 2048) : Fin 512 → EReal :=
  ropeR (fun n => P x0 x1 x2 x3 b s ⟨o + n.val, by omega⟩) (fun l => Ideal.cos (ang s l)) (fun l => Ideal.sin (ang s l))

/-- The rotated keys. -/
theorem krot_apply (b : Fin 2) (s : Fin 8192) (n : Fin 512) :
    val_main_v218 x0 x1 x2 x3 (ix3 b s n) = rot x0 x1 x2 x3 b s 1024 (by omega) n := by
  have H := k_apply x0 x1 x2 x3
  have A : ∀ s l, val_main_v200 (F := Ideal) (ix2 s l) = ang s l := fun _ _ => rfl
  simp only [val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v188]
  generalize val_main_v30 (F := Ideal) x0 x1 x2 x3 = mx at *
  generalize val_main_v200 (F := Ideal) = an at *
  pointwise
  unfold rot ropeR
  by_cases h : n.val % 64 < 32
  · rw [dif_pos h, dif_pos h]
    simp only [H, A]
    refine congrArg₂ HSub.hSub (congrArg₂ HMul.hMul (congrArg (P x0 x1 x2 x3 b s) (Fin.ext ?_)) (congrArg (fun l => Ideal.cos (ang s l)) (Fin.ext ?_)))
      (congrArg₂ HMul.hMul (congrArg (P x0 x1 x2 x3 b s) (Fin.ext ?_)) (congrArg (fun l => Ideal.sin (ang s l)) (Fin.ext ?_)))
    all_goals dsimp only
    all_goals omega
  · rw [dif_neg h, dif_neg h]
    simp only [H, A]
    refine congrArg₂ HAdd.hAdd (congrArg₂ HMul.hMul (congrArg (P x0 x1 x2 x3 b s) (Fin.ext ?_)) (congrArg (fun l => Ideal.cos (ang s l)) (Fin.ext ?_)))
      (congrArg₂ HMul.hMul (congrArg (P x0 x1 x2 x3 b s) (Fin.ext ?_)) (congrArg (fun l => Ideal.sin (ang s l)) (Fin.ext ?_)))
    all_goals dsimp only
    all_goals omega

/-- The rotated queries. -/
theorem qrot_apply (b : Fin 2) (s : Fin 8192) (n : Fin 512) :
    val_main_v187 x0 x1 x2 x3 (ix3 b s n) = rot x0 x1 x2 x3 b s 512 (by omega) n := by
  have H := q_apply x0 x1 x2 x3
  have A : ∀ s l, val_main_v169 (F := Ideal) (ix2 s l) = ang s l := fun _ _ => rfl
  simp only [val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v157]
  generalize val_main_v29 (F := Ideal) x0 x1 x2 x3 = mx at *
  generalize val_main_v169 (F := Ideal) = an at *
  pointwise
  unfold rot ropeR
  by_cases h : n.val % 64 < 32
  · rw [dif_pos h, dif_pos h]
    simp only [H, A]
    refine congrArg₂ HSub.hSub (congrArg₂ HMul.hMul (congrArg (P x0 x1 x2 x3 b s) (Fin.ext ?_)) (congrArg (fun l => Ideal.cos (ang s l)) (Fin.ext ?_)))
      (congrArg₂ HMul.hMul (congrArg (P x0 x1 x2 x3 b s) (Fin.ext ?_)) (congrArg (fun l => Ideal.sin (ang s l)) (Fin.ext ?_)))
    all_goals dsimp only
    all_goals omega
  · rw [dif_neg h, dif_neg h]
    simp only [H, A]
    refine congrArg₂ HAdd.hAdd (congrArg₂ HMul.hMul (congrArg (P x0 x1 x2 x3 b s) (Fin.ext ?_)) (congrArg (fun l => Ideal.cos (ang s l)) (Fin.ext ?_)))
      (congrArg₂ HMul.hMul (congrArg (P x0 x1 x2 x3 b s) (Fin.ext ?_)) (congrArg (fun l => Ideal.sin (ang s l)) (Fin.ext ?_)))
    all_goals dsimp only
    all_goals omega

end Cert.PrePromptRefIdeal.Out
end
end
-- ==== Proof.PreRef3.lean ====
module
public import proofs.«01_k».proof.Proof.PreRef2
public import Idealize.ShloMosaic.Lib.Pointwise
@[expose] public section
set_option maxRecDepth 16384

/-! The reference of the pre-attention half, read at an index: the results, from the projected rows. -/

noncomputable section
open Idealize.ShloMosaic Idealize.ShloMosaic.TcCoe Idealize.SL.Sem
namespace Cert.PrePromptRefIdeal.Out
open Cert.PrePromptRefIdeal Cert.PrePromptRefIdeal.Facts₀ Cert.PrePromptRefIdeal.Facts Cert.PrePromptRefIdeal.Read Cert.Pre
variable (x0 : (⟨S2x8192x1024, .f32⟩ : BufTy).Contents (Elt Ideal)) (x1 : (⟨S2x1x6144, .f32⟩ : BufTy).Contents (Elt Ideal)) (x2 : (⟨S1x1024, .f32⟩ : BufTy).Contents (Elt Ideal)) (x3 : (⟨S1x1024x2048, .f32⟩ : BufTy).Contents (Elt Ideal)) (x4 : (⟨S1x4x128x128, .f32⟩ : BufTy).Contents (Elt Ideal)) (x5 : (⟨S1x512, .f32⟩ : BufTy).Contents (Elt Ideal))

theorem bf_apply {S : Shape} (x : FVec Ideal S .f32) (h : FTy.bf16.bits < FTy.f32.bits) (i : S.Idx) : truncf (F := Ideal) .bf16 x h i = x i := rfl

theorem qt_of (mx : (⟨S2x8192x512, .f32⟩ : BufTy).Contents (Elt Ideal)) (b : Fin 2) (n : Fin 512) (s : Fin 8192) :
    transpose S2x512x8192 [0, 2, 1] (mulf (F := Ideal) (φ := .f32) mx (val_main_v219 (F := Ideal)) : (⟨S2x8192x512, .f32⟩ : BufTy).Contents (Elt Ideal)) transposes_S2x8192x512_S2x512x8192_0_2_1 (ix3 b n s)
      = mx (ix3 b s n) * Ideal.ofBits .f32 0x3E38AA3B#32 := by
  pointwise [val_main_v219, val_main_cst_35]

/-- The scaled queries, transposed. -/
theorem qt_apply (b : Fin 2) (n : Fin 512) (s : Fin 8192) :
    val_main_v222 x0 x1 x2 x3 (ix3 b n s) = rot x0 x1 x2 x3 b s 512 (by omega) n * Ideal.ofBits .f32 0x3E38AA3B#32 := by
  unfold val_main_v222 val_main_v221 val_main_v220
  rw [bf_apply, qt_of, qrot_apply]

/-- The keys the attention reads. -/
theorem kb_apply (b : Fin 2) (s : Fin 8192) (n : Fin 512) :
    val_main_v226 x0 x1 x2 x3 (ix3 b s n) = rot x0 x1 x2 x3 b s 1024 (by omega) n := by
  unfold val_main_v226
  rw [bf_apply, krot_apply]

/-- The values by blocks of 256 rows, transposed. -/
theorem vt_apply (b : Fin 2) (j : Fin 32) (n : Fin 512) (r : Fin 256) :
    val_main_v225 x0 x1 x2 x3 (ix4 b j n r) = P x0 x1 x2 x3 b ⟨256 * j.val + r.val, by omega⟩ ⟨1536 + n.val, by omega⟩ := by
  have H := v_apply x0 x1 x2 x3
  simp only [val_main_v225, val_main_v224, val_main_v223]
  generalize val_main_v31 (F := Ideal) x0 x1 x2 x3 = mx at *
  pointwise
  simp only [H]
  congr 2
  all_goals try omega

/-- The last sixteen rows of the pooled columns. -/
theorem ut_apply (b : Fin 2) (j : Fin 16) (n : Fin 512) :
    val_main_v228 x0 x1 x2 x3 (ix3 b j n) = U x0 x1 x2 x3 b (8176 + j.val) n := by
  have H := u_apply x0 x1 x2 x3
  simp only [val_main_v228]
  generalize val_main_v28 (F := Ideal) x0 x1 x2 x3 = mx at *
  pointwise
  simp only [H]

theorem groups_of (g0 g1 g2 g3 : (⟨S2x8192x128, .f32⟩ : BufTy).Contents (Elt Ideal)) (b : Fin 2) (s : Fin 8192) (g : Fin 4) (c : Fin 128) :
    concatenate S2x8192x4x128 2
        [⟨S2x8192x1x128, (broadcastInDim S2x8192x1x128 ![0, 1, 3] bcast_S2x8192x128_S2x8192x1x128_0_1_3 g0 : (⟨S2x8192x1x128, .f32⟩ : BufTy).Contents (Elt Ideal))⟩,
          ⟨S2x8192x1x128, (broadcastInDim S2x8192x1x128 ![0, 1, 3] bcast_S2x8192x128_S2x8192x1x128_0_1_3 g1 : (⟨S2x8192x1x128, .f32⟩ : BufTy).Contents (Elt Ideal))⟩,
          ⟨S2x8192x1x128, (broadcastInDim S2x8192x1x128 ![0, 1, 3] bcast_S2x8192x128_S2x8192x1x128_0_1_3 g2 : (⟨S2x8192x1x128, .f32⟩ : BufTy).Contents (Elt Ideal))⟩,
          ⟨S2x8192x1x128, (broadcastInDim S2x8192x1x128 ![0, 1, 3] bcast_S2x8192x128_S2x8192x1x128_0_1_3 g3 : (⟨S2x8192x1x128, .f32⟩ : BufTy).Contents (Elt Ideal))⟩]
        concatenates_S2x8192x1x128_S2x8192x1x128_S2x8192x1x128_S2x8192x1x128_S2x8192x4x128_d2 (ix4 b s g c)
      = if g.val < 1 then g0 (ix3 b s c) else if g.val < 2 then g1 (ix3 b s c) else if g.val < 3 then g2 (ix3 b s c) else g3 (ix3 b s c) := by
  pointwise
  by_cases h1 : g.val < 1
  · rw [dif_pos h1, if_pos h1]
  rw [dif_neg h1, if_neg h1]
  by_cases h2 : g.val < 2
  · rw [dif_pos (show g.val - 1 < 1 by omega), if_pos h2]
  rw [dif_neg (show ¬ g.val - 1 < 1 by omega), if_neg h2]
  by_cases h3 : g.val < 3
  · rw [dif_pos (show g.val - 1 - 1 < 1 by omega), if_pos h3]
  rw [dif_neg (show ¬ g.val - 1 - 1 < 1 by omega), if_neg h3]

/-- The four groups side by side. -/
theorem groups_apply (hf : Fin6 x0 x1 x2 x3) (b : Fin 2) (s : Fin 8192) (g : Fin 4) (c : Fin 128) :
    val_main_v149 x0 x1 x2 x3 (ix4 b s g c) = pooledR (U x0 x1 x2 x3 b) s.val ⟨128 * g.val + c.val, by omega⟩ := by
  unfold val_main_v149 val_main_v148 val_main_v147 val_main_v146 val_main_v145
  refine (groups_of _ _ _ _ b s g c).trans ?_
  rw [group0 x0 x1 x2 x3 hf, group1 x0 x1 x2 x3 hf, group2 x0 x1 x2 x3 hf, group3 x0 x1 x2 x3 hf]
  unfold pooledR
  have hc := c.isLt
  match g with
  | ⟨0, _⟩ =>
    rw [if_pos (show (0 : Nat) < 1 by omega), if_pos (show 128 * 0 + c.val < 128 by omega)]
    simp only [Nat.mul_zero, Nat.zero_add]
  | ⟨1, _⟩ =>
    rw [if_neg (show ¬ (1 : Nat) < 1 by omega), if_pos (show (1 : Nat) < 2 by omega), if_neg (show ¬ 128 * 1 + c.val < 128 by omega),
      if_pos (show 128 * 1 + c.val < 256 by omega)]
    rfl
  | ⟨2, _⟩ =>
    rw [if_neg (show ¬ (2 : Nat) < 1 by omega), if_neg (show ¬ (2 : Nat) < 2 by omega), if_pos (show (2 : Nat) < 3 by omega), if_neg (show ¬ 128 * 2 + c.val < 128 by omega),
      if_neg (show ¬ 128 * 2 + c.val < 256 by omega), if_pos (show 128 * 2 + c.val < 384 by omega)]
    rfl
  | ⟨3, _⟩ =>
    rw [if_neg (show ¬ (3 : Nat) < 1 by omega), if_neg (show ¬ (3 : Nat) < 2 by omega), if_neg (show ¬ (3 : Nat) < 3 by omega), if_neg (show ¬ 128 * 3 + c.val < 128 by omega),
      if_neg (show ¬ 128 * 3 + c.val < 256 by omega), if_neg (show ¬ 128 * 3 + c.val < 384 by omega)]
    rfl

/-- The pooled rows through the projection, scaled. -/
theorem pool_apply (hf : Fin6 x0 x1 x2 x3) (b : Fin 2) (s : Fin 8192) (n : Fin 512) :
    val_main_v227 x0 x1 x2 x3 x4 x5 (ix3 b s n)
      = poolR (pooledR (U x0 x1 x2 x3 b) s.val) (fun g k c => x4 (ix4 0 g k c)) (fun n => x5 (ix2 0 n)) n := by
  have H := groups_apply x0 x1 x2 x3 hf
  simp only [val_main_v227, val_main_v155, val_main_v154, val_main_v153, val_main_v152, val_main_v151, val_main_v150, val_main_v33, val_main_v32]
  generalize val_main_v149 (F := Ideal) x0 x1 x2 x3 = mx at *
  pointwise
  simp only [H]
  unfold poolR
  refine congrArg (· * _) (Finset.sum_congr rfl fun k _ => mul_comm _ _)

end Cert.PrePromptRefIdeal.Out
end
end
-- ==== Proof.PreWin.lean ====
module
public import proofs.«01_k».proof.Proof.PreIdx
@[expose] public section
set_option maxRecDepth 16384

/-! The window sums of a block: with the rows kept from the block before, each partial sum the kernel forms is the sum
over the last 2, 4, 8 or 16 rows of the whole sequence, and the rows it keeps are the next block's. -/

noncomputable section
open Idealize.ShloMosaic Idealize.ShloMosaic.TcCoe Idealize.SL.Sem
namespace Cert.PrePromptIdeal.Out
open Cert.PrePromptIdeal Cert.PrePromptIdeal.Gen Cert.Pre

/-- The block `u` holds rows `512 i …` of the sequence `f`. -/
def Til (i : Nat) {W : Nat} (f : Nat → Fin W → EReal) (u : (⟨2, ![512, W]⟩ : Shape).Idx → EReal) : Prop :=
  ∀ (r : Fin 512) (n : Fin W), u (ix2 r n) = f (512 * i + r.val) n

/-- The kept rows are the sequence's last sixteen before block `i`, zeros before the first block. -/
def Hal (i : Nat) {W : Nat} (f : Nat → Fin W → EReal) (h : (⟨2, ![16, W]⟩ : Shape).Idx → EReal) : Prop :=
  ∀ (j : Fin 16) (n : Fin W), h (ix2 j n) = if i = 0 then 0 else f (512 * i + j.val - 16) n

variable {i : Nat} {U : Nat → Fin 512 → EReal}

/-- The two-row sums of the columns from 128, the four-row sums from 256, the eight-row sums from 384. -/
def F2 (U : Nat → Fin 512 → EReal) (s : Nat) (n : Fin 384) : EReal := win (fun t => U t ⟨128 + n.val, by omega⟩) 2 s
def F4 (U : Nat → Fin 512 → EReal) (s : Nat) (n : Fin 256) : EReal := win (fun t => U t ⟨256 + n.val, by omega⟩) 4 s
def F8 (U : Nat → Fin 512 → EReal) (s : Nat) (n : Fin 128) : EReal := win (fun t => U t ⟨384 + n.val, by omega⟩) 8 s

theorem shf512_back {f : Nat → Fin 512 → EReal} {h : Vec Ideal S16x512 .f32} {u : FVec Ideal S512x512 .f32} (H : Hal i f h) (hu : Til i f u) (r : Fin 512) (n : Fin 512) :
    shf512 h u (ix2 r n) = back (fun s => f s n) (512 * i + r.val) 1 := by
  have hr := r.isLt
  show (if g : r.val < 1 then h (ix2 ⟨15 + r.val, by omega⟩ n) else u (ix2 ⟨r.val - 1, by omega⟩ n)) = _
  unfold back
  by_cases g : r.val < 1
  · rw [dif_pos g, H]
    by_cases hi : i = 0
    · subst hi
      rw [if_pos rfl, if_neg (by omega)]
    · rw [if_neg hi, if_pos (by omega)]
      exact congrArg (fun t => f t n) (by dsimp only; omega)
  · rw [dif_neg g, if_pos (by omega), hu]
    exact congrArg (fun t => f t n) (by dsimp only; omega)

theorem shf384_back {f : Nat → Fin 384 → EReal} {h : Vec Ideal S16x384 .f32} {u : FVec Ideal S512x384 .f32} (H : Hal i f h) (hu : Til i f u) (r : Fin 512) (n : Fin 384) :
    shf384 h u (ix2 r n) = back (fun s => f s n) (512 * i + r.val) 2 := by
  have hr := r.isLt
  show (if g : r.val < 2 then h (ix2 ⟨14 + r.val, by omega⟩ n) else u (ix2 ⟨r.val - 2, by omega⟩ n)) = _
  unfold back
  by_cases g : r.val < 2
  · rw [dif_pos g, H]
    by_cases hi : i = 0
    · subst hi
      rw [if_pos rfl, if_neg (by omega)]
    · rw [if_neg hi, if_pos (by omega)]
      exact congrArg (fun t => f t n) (by dsimp only; omega)
  · rw [dif_neg g, if_pos (by omega), hu]
    exact congrArg (fun t => f t n) (by dsimp only; omega)

theorem shf256_back {f : Nat → Fin 256 → EReal} {h : Vec Ideal S16x256 .f32} {u : FVec Ideal S512x256 .f32} (H : Hal i f h) (hu : Til i f u) (r : Fin 512) (n : Fin 256) :
    shf256 h u (ix2 r n) = back (fun s => f s n) (512 * i + r.val) 4 := by
  have hr := r.isLt
  show (if g : r.val < 4 then h (ix2 ⟨12 + r.val, by omega⟩ n) else u (ix2 ⟨r.val - 4, by omega⟩ n)) = _
  unfold back
  by_cases g : r.val < 4
  · rw [dif_pos g, H]
    by_cases hi : i = 0
    · subst hi
      rw [if_pos rfl, if_neg (by omega)]
    · rw [if_neg hi, if_pos (by omega)]
      exact congrArg (fun t => f t n) (by dsimp only; omega)
  · rw [dif_neg g, if_pos (by omega), hu]
    exact congrArg (fun t => f t n) (by dsimp only; omega)

theorem shf128_back {f : Nat → Fin 128 → EReal} {h : Vec Ideal S16x128 .f32} {u : FVec Ideal S512x128 .f32} (H : Hal i f h) (hu : Til i f u) (r : Fin 512) (n : Fin 128) :
    shf128 h u (ix2 r n) = back (fun s => f s n) (512 * i + r.val) 8 := by
  have hr := r.isLt
  show (if g : r.val < 8 then h (ix2 ⟨8 + r.val, by omega⟩ n) else u (ix2 ⟨r.val - 8, by omega⟩ n)) = _
  unfold back
  by_cases g : r.val < 8
  · rw [dif_pos g, H]
    by_cases hi : i = 0
    · subst hi
      rw [if_pos rfl, if_neg (by omega)]
    · rw [if_neg hi, if_pos (by omega)]
      exact congrArg (fun t => f t n) (by dsimp only; omega)
  · rw [dif_neg g, if_pos (by omega), hu]
    exact congrArg (fun t => f t n) (by dsimp only; omega)

variable {h0 : Vec Ideal S16x512 .f32} {h1 : Vec Ideal S16x384 .f32} {h2 : Vec Ideal S16x256 .f32} {h3 : Vec Ideal S16x128 .f32} {u : FVec Ideal S512x512 .f32}

theorem w2 (hu : Til i U u) (H0 : Hal i U h0) (r n : Fin 512) :
    k0_pay34 u (r2V h0 u) (ix2 r n) = win (fun t => U t n) 2 (512 * i + r.val) := by
  have e : k0_pay34 u (r2V h0 u) (ix2 r n) = u (ix2 r n) + r2V h0 u (ix2 r n) := by
    unfold k0_pay34
    generalize r2V h0 u = r2
    pointwise
  rw [e, show r2V h0 u = shf512 h0 u from rfl, shf512_back H0 hu, hu, win_double _ 1, show win (fun t => U t n) 1 = fun t => U t n from funext (win_one _)]

theorem p35_apply (r2 : FVec Ideal S512x512 .f32) (r : Fin 512) (n : Fin 384) : k0_pay35 u r2 (ix2 r n) = k0_pay34 u r2 (ix2 r ⟨128 + n.val, by omega⟩) := by
  unfold k0_pay35
  generalize k0_pay34 u r2 = s2
  pointwise

theorem til2 (hu : Til i U u) (H0 : Hal i U h0) : Til i (F2 U) (k0_pay35 u (r2V h0 u)) := by
  intro r n
  rw [p35_apply, w2 hu H0]
  rfl

theorem w4 (hu : Til i U u) (H0 : Hal i U h0) (H1 : Hal i (F2 U) h1) (r : Fin 512) (n : Fin 384) :
    k0_pay36 u (r2V h0 u) (r4V h0 h1 u) (ix2 r n) = win (fun t => U t ⟨128 + n.val, by omega⟩) 4 (512 * i + r.val) := by
  have e : k0_pay36 u (r2V h0 u) (r4V h0 h1 u) (ix2 r n) = k0_pay34 u (r2V h0 u) (ix2 r ⟨128 + n.val, by omega⟩) + r4V h0 h1 u (ix2 r n) := by
    unfold k0_pay36
    generalize r4V h0 h1 u = r4
    generalize k0_pay34 u (r2V h0 u) = s2
    pointwise
  rw [e, w2 hu H0, show r4V h0 h1 u = shf384 h1 (k0_pay35 u (r2V h0 u)) from rfl, shf384_back H1 (til2 hu H0), win_double _ 2]
  rfl

theorem p37_apply (r2 : FVec Ideal S512x512 .f32) (r4 : FVec Ideal S512x384 .f32) (r : Fin 512) (n : Fin 256) :
    k0_pay37 u r2 r4 (ix2 r n) = k0_pay36 u r2 r4 (ix2 r ⟨128 + n.val, by omega⟩) := by
  unfold k0_pay37
  generalize k0_pay36 u r2 r4 = s4
  pointwise

theorem til4 (hu : Til i U u) (H0 : Hal i U h0) (H1 : Hal i (F2 U) h1) : Til i (F4 U) (k0_pay37 u (r2V h0 u) (r4V h0 h1 u)) := by
  intro r n
  rw [p37_apply, w4 hu H0 H1]
  unfold F4
  refine congrArg (fun f => win f 4 _) (funext fun t => congrArg (U t) (Fin.ext ?_))
  dsimp only; omega

theorem w8 (hu : Til i U u) (H0 : Hal i U h0) (H1 : Hal i (F2 U) h1) (H2 : Hal i (F4 U) h2) (r : Fin 512) (n : Fin 256) :
    k0_pay38 u (r2V h0 u) (r4V h0 h1 u) (r8V h0 h1 h2 u) (ix2 r n) = win (fun t => U t ⟨256 + n.val, by omega⟩) 8 (512 * i + r.val) := by
  have e : k0_pay38 u (r2V h0 u) (r4V h0 h1 u) (r8V h0 h1 h2 u) (ix2 r n)
      = k0_pay36 u (r2V h0 u) (r4V h0 h1 u) (ix2 r ⟨128 + n.val, by omega⟩) + r8V h0 h1 h2 u (ix2 r n) := by
    unfold k0_pay38
    generalize r8V h0 h1 h2 u = r8
    generalize k0_pay36 u (r2V h0 u) (r4V h0 h1 u) = s4
    pointwise
  rw [e, ← p37_apply, til4 hu H0 H1, show r8V h0 h1 h2 u = shf256 h2 (k0_pay37 u (r2V h0 u) (r4V h0 h1 u)) from rfl, shf256_back H2 (til4 hu H0 H1), win_double _ 4]
  rfl

theorem til8 (hu : Til i U u) (H0 : Hal i U h0) (H1 : Hal i (F2 U) h1) (H2 : Hal i (F4 U) h2) : Til i (F8 U) (s8V h0 h1 h2 u) := by
  intro r n
  have e : s8V h0 h1 h2 u (ix2 r n) = k0_pay38 u (r2V h0 u) (r4V h0 h1 u) (r8V h0 h1 h2 u) (ix2 r ⟨128 + n.val, by omega⟩) := by
    unfold s8V k0_pay39
    generalize k0_pay38 u (r2V h0 u) (r4V h0 h1 u) (r8V h0 h1 h2 u) = s8
    pointwise
  rw [e, w8 hu H0 H1 H2]
  unfold F8
  refine congrArg (fun f => win f 8 _) (funext fun t => congrArg (U t) (Fin.ext ?_))
  dsimp only; omega

theorem tl512_hal {f : Nat → Fin 512 → EReal} {u : FVec Ideal S512x512 .f32} (hu : Til i f u) : Hal (i + 1) f (tl512 u) := by
  intro j n
  rw [if_neg (by omega)]
  show u (ix2 ⟨496 + j.val, by omega⟩ n) = _
  rw [hu]
  exact congrArg (fun t => f t n) (by dsimp only; omega)

theorem tl384_hal {f : Nat → Fin 384 → EReal} {u : FVec Ideal S512x384 .f32} (hu : Til i f u) : Hal (i + 1) f (tl384 u) := by
  intro j n
  rw [if_neg (by omega)]
  show u (ix2 ⟨496 + j.val, by omega⟩ n) = _
  rw [hu]
  exact congrArg (fun t => f t n) (by dsimp only; omega)

theorem tl256_hal {f : Nat → Fin 256 → EReal} {u : FVec Ideal S512x256 .f32} (hu : Til i f u) : Hal (i + 1) f (tl256 u) := by
  intro j n
  rw [if_neg (by omega)]
  show u (ix2 ⟨496 + j.val, by omega⟩ n) = _
  rw [hu]
  exact congrArg (fun t => f t n) (by dsimp only; omega)

theorem tl128_hal {f : Nat → Fin 128 → EReal} {u : FVec Ideal S512x128 .f32} (hu : Til i f u) : Hal (i + 1) f (tl128 u) := by
  intro j n
  rw [if_neg (by omega)]
  show u (ix2 ⟨496 + j.val, by omega⟩ n) = _
  rw [hu]
  exact congrArg (fun t => f t n) (by dsimp only; omega)

/-- The rows counted so far, at most the window: as the kernel writes it. -/
theorem kcnt (w : Nat) (c : EReal) (hc : c = ((w : ℝ) : EReal)) (hi : i < 16) (r : Fin 512) :
    min c (FloatOps.sitofp (F := Ideal) .f32 (IntOp.addi (Scalar.addi (Scalar.muli (BitVec.ofNat 32 i) 512#32) 1#32) (BitVec.ofNat 32 r.val)))
      = cnt w (512 * i + r.val) := by
  have hb : IntOp.addi (Scalar.addi (Scalar.muli (BitVec.ofNat 32 i) 512#32) 1#32) (BitVec.ofNat 32 r.val) = BitVec.ofNat 32 (512 * i + r.val + 1) := by
    show BitVec.ofNat 32 i * 512#32 + 1#32 + BitVec.ofNat 32 r.val = _
    apply BitVec.eq_of_toNat_eq
    simp only [BitVec.toNat_add, BitVec.toNat_mul, BitVec.toNat_ofNat]
    omega
  have hr := r.isLt
  have hI : (BitVec.ofNat 32 (512 * i + r.val + 1)).toInt = ((512 * i + r.val + 1 : Nat) : Int) := by
    rw [BitVec.toInt_eq_toNat_of_lt] <;> rw [BitVec.toNat_ofNat, Nat.mod_eq_of_lt (by omega)]
    omega
  rw [hb, hc]
  show min _ (((BitVec.ofNat 32 (512 * i + r.val + 1)).toInt : ℝ) : EReal) = _
  rw [hI]
  unfold cnt
  rw [← EReal.coe_strictMono.monotone.map_min]
  congr 1
  push_cast
  rfl

/-- The pooled block is the pooled rows. -/
theorem pooled_apply (hi : i < 16) (hu : Til i U u) (H0 : Hal i U h0) (H1 : Hal i (F2 U) h1) (H2 : Hal i (F4 U) h2) (H3 : Hal i (F8 U) h3)
    (r n : Fin 512) : poolV (BitVec.ofNat 32 i) h0 h1 h2 h3 u (ix2 r n) = pooledR U (512 * i + r.val) n := by
  unfold poolV
  have e2 := w2 hu H0
  have e4 := w4 hu H0 H1
  have e8 := w8 hu H0 H1 H2
  have t8 := til8 hu H0 H1 H2
  have e16 := shf128_back H3 t8
  have q8 : ∀ (r : Fin 512) (n : Fin 128), k0_pay38 u (r2V h0 u) (r4V h0 h1 u) (r8V h0 h1 h2 u) (ix2 r ⟨128 + n.val, by omega⟩) = F8 U (512 * i + r.val) n := by
    intro r n
    rw [e8]
    unfold F8
    refine congrArg (fun f => win f 8 _) (funext fun t => congrArg (U t) (Fin.ext ?_))
    dsimp only; omega
  generalize k0_pay34 u (r2V h0 u) = s2 at *
  generalize k0_pay36 u (r2V h0 u) (r4V h0 h1 u) = s4 at *
  generalize k0_pay38 u (r2V h0 u) (r4V h0 h1 u) (r8V h0 h1 h2 u) = s8 at *
  change ∀ (r : Fin 512) (n : Fin 128), r16V h0 h1 h2 h3 u (ix2 r n) = _ at e16
  generalize r16V h0 h1 h2 h3 u = r16 at *
  have hn := n.isLt
  pointwise [k0_pay41]
  unfold pooledR
  have fx : ∀ (m : Fin 512) (t : Nat), m.val = n.val → U t m = U t n := fun m t h => congrArg (U t) (Fin.ext h)
  by_cases c0 : n.val < 128
  · rw [dif_pos c0, if_pos c0, kcnt 2 _ ofBits_2 hi, e2, hu]
  rw [dif_neg c0, if_neg c0]
  by_cases c1 : n.val - 128 < 128
  · rw [dif_pos c1, if_pos (show n.val < 256 by omega), kcnt 4 _ ofBits_4 hi, e4, hu]
    simp only [fx ⟨128 + (n.val - 128), by omega⟩ _ (by dsimp only; omega)]
  rw [dif_neg c1, if_neg (show ¬ n.val < 256 by omega)]
  by_cases c2 : n.val - 128 - 128 < 128
  · rw [dif_pos c2, if_pos (show n.val < 384 by omega), kcnt 8 _ ofBits_8 hi, e8, hu]
    simp only [fx ⟨256 + (n.val - 128 - 128), by omega⟩ _ (by dsimp only; omega)]
  rw [dif_neg c2, if_neg (show ¬ n.val < 384 by omega), kcnt 16 _ ofBits_16 hi, hu, q8 r ⟨n.val - 128 - 128 - 128, by omega⟩, e16]
  rw [show (win (fun t => U t n) 16 (512 * i + r.val)) = win (fun t => U t n) (8 + 8) (512 * i + r.val) from rfl, win_double]
  unfold F8
  simp only [fx ⟨384 + (n.val - 128 - 128 - 128), by omega⟩ _ (by dsimp only; omega)]

/-- The block of the pooled result is the projection of the pooled rows. -/
theorem pool_apply (hi : i < 16) (hu : Til i U u) (H0 : Hal i U h0) (H1 : Hal i (F2 U) h1) (H2 : Hal i (F4 U) h2) (H3 : Hal i (F8 U) h3)
    (x4 : Vec Ideal S4x128x128 .bf16) (x5 : Vec Ideal S1x512 .f32) (r n : Fin 512) :
    outPoolV (BitVec.ofNat 32 i) h0 h1 h2 h3 u x4 x5 (ix3 0 r n)
      = poolR (pooledR U (512 * i + r.val)) (fun g k c => x4 (ix3 g k c)) (fun n => x5 (ix2 0 n)) n := by
  have e := pooled_apply hi hu H0 H1 H2 H3
  have e0 : ∀ (r : Fin 512) (n : Fin 128), pool0V (BitVec.ofNat 32 i) h0 h1 h2 h3 u (ix2 r n) = pooledR U (512 * i + r.val) ⟨n.val, by omega⟩ := by
    intro r n
    rw [← e]
    unfold pool0V k0_pay43
    unfold poolV
    generalize k0_pay41 (BitVec.ofNat 32 i) u (k0_pay34 u (r2V h0 u)) (k0_pay36 u (r2V h0 u) (r4V h0 h1 u)) (k0_pay38 u (r2V h0 u) (r4V h0 h1 u) (r8V h0 h1 h2 u)) (r16V h0 h1 h2 h3 u) = p
    pointwise
  have hn := n.isLt
  unfold outPoolV
  generalize poolV (BitVec.ofNat 32 i) h0 h1 h2 h3 u = p at *
  generalize pool0V (BitVec.ofNat 32 i) h0 h1 h2 h3 u = p0 at *
  pointwise [k0_pay45, k0_pay42, k0_pay44]
  unfold poolR
  refine congrArg (· * _) ?_
  simp only [e, e0]
  have fx : ∀ (g : Fin 4) (c : Fin 128) (f : Fin 128 → Fin 512), g.val = n.val / 128 → c.val = n.val % 128 → (∀ k, (f k).val = 128 * (n.val / 128) + k.val) →
      ∑ k : Fin 128, pooledR U (512 * i + r.val) (f k) * x4 (ix3 g k c)
        = ∑ k : Fin 128, pooledR U (512 * i + r.val) ⟨128 * (n.val / 128) + k.val, by omega⟩ * x4 (ix3 ⟨n.val / 128, by omega⟩ k ⟨n.val % 128, by omega⟩) := by
    intro g c f hg hc hf
    rw [show g = ⟨n.val / 128, by omega⟩ from Fin.ext hg, show c = ⟨n.val % 128, by omega⟩ from Fin.ext hc]
    exact Finset.sum_congr rfl fun k _ => congrArg (fun m => pooledR U _ m * _) (Fin.ext (hf k))
  by_cases c0 : n.val < 128
  · rw [dif_pos c0]
    exact fx 0 ⟨n.val, c0⟩ (fun k => ⟨k.val, by omega⟩) (by show 0 = _; omega) (by dsimp only; omega) (fun k => by dsimp only; omega)
  rw [dif_neg c0]
  by_cases c1 : n.val - 128 < 128
  · rw [dif_pos c1]
    exact fx 1 ⟨n.val - 128, c1⟩ (fun k => ⟨128 + k.val, by omega⟩) (by show 1 = _; omega) (by dsimp only; omega) (fun k => by dsimp only; omega)
  rw [dif_neg c1]
  by_cases c2 : n.val - 128 - 128 < 128
  · rw [dif_pos c2]
    exact fx 2 ⟨n.val - 128 - 128, c2⟩ (fun k => ⟨256 + k.val, by omega⟩) (by show 2 = _; omega) (by dsimp only; omega) (fun k => by dsimp only; omega)
  rw [dif_neg c2]
  exact fx 3 ⟨n.val - 128 - 128 - 128, by omega⟩ (fun k => ⟨384 + k.val, by omega⟩) (by show 3 = _; omega) (by dsimp only; omega) (fun k => by dsimp only; omega)

end Cert.PrePromptIdeal.Out
end
end
-- ==== Proof.PreBlk.lean ====
module
public import proofs.«01_k».proof.Proof.PreIdx
public import proofs.«01_k».proof.Proof.PreRef3
public import proofs.«01_k».proof.Proof.PreWin
public import proofs.«01_k».proof.Proof.Gen.PrePromptIdeal.Value
@[expose] public section
set_option maxRecDepth 16384

/-! The blocks of the pre-attention kernel as parts of its arguments and of the two rotation tables. -/

noncomputable section
open Idealize.ShloMosaic Idealize.ShloMosaic.TcCoe Idealize.SL.Sem
namespace Cert.PrePromptIdeal.Out
open Cert.PrePromptIdeal Cert.PrePromptIdeal.Gen Cert.Pre
open Cert.PrePromptRefIdeal.Out (ang)
variable (m : (ℓ : Loc nD τ sig) → Buf (Elt Ideal) ℓ)

/-! The arguments, as arrays. -/
abbrev a0 (c : Dev nD) : S2x8192x1024.Idx → EReal := m ((c : Thread nD τ).loc main_arg0)
abbrev a1 (c : Dev nD) : S2x1x6144.Idx → EReal := m ((c : Thread nD τ).loc main_arg1)
abbrev a2 (c : Dev nD) : S1x1024.Idx → EReal := m ((c : Thread nD τ).loc main_arg2)
abbrev a3 (c : Dev nD) : S1x1024x2048.Idx → EReal := m ((c : Thread nD τ).loc main_arg3)
abbrev a4 (c : Dev nD) : S1x4x128x128.Idx → EReal := m ((c : Thread nD τ).loc main_arg4)
abbrev a5 (c : Dev nD) : S1x512.Idx → EReal := m ((c : Thread nD τ).loc main_arg5)

/-! What the host lines before the kernel write. -/

theorem V_v25 (c : Dev nD) (n : Fin 1024) : (V m c main_v25 : S1x1024.Idx → EReal) (ix2 0 n) = a2 m c (ix2 0 n) := by
  have e : (V m c main_v25 : S1x1024.Idx → EReal) = shapeCast S1x1024 (shapeCast S1024 (a2 m c) shapeCasts_S1x1024_S1024) shapeCasts_S1024_S1x1024 := by
    unfold_abbrev_sides
    after_results
    rfl
  rw [e]
  pointwise

theorem V_v27 (c : Dev nD) (k : Fin 1024) (n : Fin 2048) : (V m c main_v27 : S1024x2048.Idx → EReal) (ix2 k n) = a3 m c (ix3 0 k n) := by
  have e : (V m c main_v27 : S1024x2048.Idx → EReal) = truncf (F := Ideal) .bf16 (shapeCast S1024x2048 (a3 m c) shapeCasts_S1x1024x2048_S1024x2048) bitsLt_bf16_f32 := by
    unfold_abbrev_sides
    after_results
    rfl
  rw [e]
  pointwise

theorem V_v29 (c : Dev nD) (g : Fin 4) (k n : Fin 128) : (V m c main_v29 : S4x128x128.Idx → EReal) (ix3 g k n) = a4 m c (ix4 0 g k n) := by
  have e : (V m c main_v29 : S4x128x128.Idx → EReal) = truncf (F := Ideal) .bf16 (shapeCast S4x128x128 (a4 m c) shapeCasts_S1x4x128x128_S4x128x128) bitsLt_bf16_f32 := by
    unfold_abbrev_sides
    after_results
    rfl
  rw [e]
  pointwise

theorem V_v31 (c : Dev nD) (n : Fin 512) : (V m c main_v31 : S1x512.Idx → EReal) (ix2 0 n) = a5 m c (ix2 0 n) := by
  have e : (V m c main_v31 : S1x512.Idx → EReal) = shapeCast S1x512 (shapeCast S512 (a5 m c) shapeCasts_S1x512_S512) shapeCasts_S512_S1x512 := by
    unfold_abbrev_sides
    after_results
    rfl
  rw [e]
  pointwise

/-- Two arrays of 32 columns side by side, twice over. -/
def tab (p q : (⟨S8192x32, .f32⟩ : BufTy).Contents (Elt Ideal)) : S8192x128.Idx → EReal :=
  shapeCast S8192x128 (broadcastInDim S1x8192x2x64 ![0, 1, 2, 3] bcast_S1x8192x1x64_S1x8192x2x64_0_1_2_3 (shapeCast S1x8192x1x64 (concatenate S8192x64 1 [⟨S8192x32, p⟩, ⟨S8192x32, q⟩] concatenates_S8192x32_S8192x32_S8192x64_d1) shapeCasts_S8192x64_S1x8192x1x64)) shapeCasts_S1x8192x2x64_S8192x128

/-- Two arrays of 32 columns side by side, twice over, read at a column. -/
theorem tab_apply (p q : (⟨S8192x32, .f32⟩ : BufTy).Contents (Elt Ideal)) (s : Fin 8192) (l : Fin 128) :
    tab p q (ix2 s l)
      = if l.val % 64 < 32 then p (ix2 s ⟨l.val % 32, by omega⟩) else q (ix2 s ⟨l.val % 32, by omega⟩) := by
  pointwise [tab]
  by_cases h : l.val % 64 < 32
  · rw [dif_pos h, if_pos h]
    refine congrArg (fun j => p (ix2 s j)) (Fin.ext ?_)
    dsimp only
    omega
  · rw [dif_neg h, if_neg h]
    refine congrArg (fun j => q (ix2 s j)) (Fin.ext ?_)
    dsimp only
    omega

theorem V_v18 (c : Dev nD) (s : Fin 8192) (l : Fin 128) : (V m c main_v18 : S8192x128.Idx → EReal) (ix2 s l) = Ideal.cos (ang s ⟨l.val % 32, by omega⟩) := by
  have e : (V m c main_v18 : S8192x128.Idx → EReal) = tab (Host.cos (F := Ideal) (φ := .f32) (Cert.PrePromptRefIdeal.Read.val_main_v169 (F := Ideal) : (⟨S8192x32, .f32⟩ : BufTy).Contents (Elt Ideal))) (Host.cos (F := Ideal) (φ := .f32) (Cert.PrePromptRefIdeal.Read.val_main_v169 (F := Ideal) : (⟨S8192x32, .f32⟩ : BufTy).Contents (Elt Ideal))) := by
    unfold_abbrev_sides
    after_results
    rfl
  rw [e]
  rw [tab_apply]
  by_cases h : l.val % 64 < 32
  · rw [if_pos h]; rfl
  · rw [if_neg h]; rfl

theorem V_v23 (c : Dev nD) (s : Fin 8192) (l : Fin 128) : (V m c main_v23 : S8192x128.Idx → EReal) (ix2 s l) = if l.val % 64 < 32 then - Ideal.sin (ang s ⟨l.val % 32, by omega⟩) else Ideal.sin (ang s ⟨l.val % 32, by omega⟩) := by
  have e : (V m c main_v23 : S8192x128.Idx → EReal) = tab (Host.negf (F := Ideal) (φ := .f32) (Host.sin (F := Ideal) (φ := .f32) (Cert.PrePromptRefIdeal.Read.val_main_v169 (F := Ideal) : (⟨S8192x32, .f32⟩ : BufTy).Contents (Elt Ideal)))) (Host.sin (F := Ideal) (φ := .f32) (Cert.PrePromptRefIdeal.Read.val_main_v169 (F := Ideal) : (⟨S8192x32, .f32⟩ : BufTy).Contents (Elt Ideal))) := by
    unfold_abbrev_sides
    after_results
    rfl
  rw [e]
  rw [tab_apply]
  by_cases h : l.val % 64 < 32
  · rw [if_pos h, if_pos h]; rfl
  · rw [if_neg h, if_neg h]; rfl

/-! The batch row and the positions of the block of grid point `t`. -/

abbrev bOf (t : Fin cfg0.N) : Fin 2 := ⟨t.val / 16, by have := lt_of_lt_of_eq t.isLt N_0; omega⟩
abbrev sOf (t : Fin cfg0.N) (r : Fin 512) : Fin 8192 := ⟨512 * (t.val % 16) + r.val, by omega⟩

theorem coord1 : ∀ t : Fin cfg0.N, (grid0.coords t 1).val = t.val % 16 :=
  (by decide +kernel : ∀ t : Fin grid0.N, (grid0.coords t 1).val = t.val % 16)

/-! Each window's block, at an index. -/

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

theorem blk0 (c : Dev nD) (t : Fin cfg0.N) (r : Fin 512) (n : Fin 1024) : (iblk m c 0 t : S1x512x1024.Idx → EReal) (ix3 0 r n) = a0 m c (ix3 (bOf t) (sOf t r) n) := by
  obtain ⟨h0, h1, h2⟩ := idx0 t
  unfold iblk
  rw [View.read_apply]
  refine Eq.trans ?_ (congrFun (V_main_arg0 m c) (ix3 (bOf t) (sOf t r) n))
  show V m c main_arg0 _ = V m c main_arg0 _
  congr 1
  funext a
  apply Fin.ext
  match a with
  | ⟨0, _⟩ => show win0_0.index t 0 * 1 + 1 * 0 = _; rw [h0]; simp [ix3]; try omega
  | ⟨1, _⟩ => show win0_0.index t 1 * 512 + 1 * r.val = _; rw [h1]; simp [ix3]; try omega
  | ⟨2, _⟩ => show win0_0.index t 2 * 1024 + 1 * n.val = _; rw [h2]; simp [ix3]; try omega

theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, _)

theorem blk1 (c : Dev nD) (t : Fin cfg0.N) (n : Fin 6144) : (iblk m c 1 t : S1x1x6144.Idx → EReal) (ix3 0 0 n) = a1 m c (ix3 (bOf t) 0 n) := by
  obtain ⟨h0, h1, h2⟩ := idx1 t
  unfold iblk
  rw [View.read_apply]
  refine Eq.trans ?_ (congrFun (V_main_arg1 m c) (ix3 (bOf t) 0 n))
  show V m c main_arg1 _ = V m c main_arg1 _
  congr 1
  funext a
  apply Fin.ext
  match a with
  | ⟨0, _⟩ => show win0_1.index t 0 * 1 + 1 * 0 = _; rw [h0]; simp [ix3]; try omega
  | ⟨1, _⟩ => show win0_1.index t 1 * 1 + 1 * 0 = _; rw [h1]; simp [ix3]; try omega
  | ⟨2, _⟩ => show win0_1.index t 2 * 6144 + 1 * n.val = _; rw [h2]; simp [ix3]; try omega

theorem idx2 : ∀ t : Fin cfg0.N, win0_2.index t (0 : Fin 2) = 0 ∧ win0_2.index t (1 : Fin 2) = 0 :=
  (by decide +kernel : ∀ t : Fin grid0.N, _)

theorem blk2 (c : Dev nD) (t : Fin cfg0.N) (n : Fin 1024) : (iblk m c 2 t : S1x1024.Idx → EReal) (ix2 0 n) = a2 m c (ix2 0 n) := by
  obtain ⟨h0, h1⟩ := idx2 t
  unfold iblk
  rw [View.read_apply]
  refine Eq.trans ?_ (V_v25 m c n)
  show V m c main_v25 _ = V m c main_v25 _
  congr 1
  funext a
  apply Fin.ext
  match a with
  | ⟨0, _⟩ => show win0_2.index t 0 * 1 + 1 * 0 = _; rw [h0]; simp [ix2]; try omega
  | ⟨1, _⟩ => show win0_2.index t 1 * 1024 + 1 * n.val = _; rw [h1]; simp [ix2]; try omega

theorem idx3 : ∀ t : Fin cfg0.N, win0_3.index t (0 : Fin 2) = 0 ∧ win0_3.index t (1 : Fin 2) = 0 :=
  (by decide +kernel : ∀ t : Fin grid0.N, _)

theorem blk3 (c : Dev nD) (t : Fin cfg0.N) (k : Fin 1024) (n : Fin 2048) : (iblk m c 3 t : S1024x2048.Idx → EReal) (ix2 k n) = a3 m c (ix3 0 k n) := by
  obtain ⟨h0, h1⟩ := idx3 t
  unfold iblk
  rw [View.read_apply]
  refine Eq.trans ?_ (V_v27 m c k n)
  show V m c main_v27 _ = V m c main_v27 _
  congr 1
  funext a
  apply Fin.ext
  match a with
  | ⟨0, _⟩ => show win0_3.index t 0 * 1024 + 1 * k.val = _; rw [h0]; simp [ix2]; try omega
  | ⟨1, _⟩ => show win0_3.index t 1 * 2048 + 1 * n.val = _; rw [h1]; simp [ix2]; try omega

theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)

theorem blk4 (c : Dev nD) (t : Fin cfg0.N) (g : Fin 4) (k n : Fin 128) : (iblk m c 4 t : S4x128x128.Idx → EReal) (ix3 g k n) = a4 m c (ix4 0 g k n) := by
  obtain ⟨h0, h1, h2⟩ := idx4 t
  unfold iblk
  rw [View.read_apply]
  refine Eq.trans ?_ (V_v29 m c g k n)
  show V m c main_v29 _ = V m c main_v29 _
  congr 1
  funext a
  apply Fin.ext
  match a with
  | ⟨0, _⟩ => show win0_4.index t 0 * 4 + 1 * g.val = _; rw [h0]; simp [ix3]; try omega
  | ⟨1, _⟩ => show win0_4.index t 1 * 128 + 1 * k.val = _; rw [h1]; simp [ix3]; try omega
  | ⟨2, _⟩ => show win0_4.index t 2 * 128 + 1 * n.val = _; rw [h2]; simp [ix3]; try omega

theorem idx5 : ∀ t : Fin cfg0.N, win0_5.index t (0 : Fin 2) = 0 ∧ win0_5.index t (1 : Fin 2) = 0 :=
  (by decide +kernel : ∀ t : Fin grid0.N, _)

theorem blk5 (c : Dev nD) (t : Fin cfg0.N) (n : Fin 512) : (iblk m c 5 t : S1x512.Idx → EReal) (ix2 0 n) = a5 m c (ix2 0 n) := by
  obtain ⟨h0, h1⟩ := idx5 t
  unfold iblk
  rw [View.read_apply]
  refine Eq.trans ?_ (V_v31 m c n)
  show V m c main_v31 _ = V m c main_v31 _
  congr 1
  funext a
  apply Fin.ext
  match a with
  | ⟨0, _⟩ => show win0_5.index t 0 * 1 + 1 * 0 = _; rw [h0]; simp [ix2]; try omega
  | ⟨1, _⟩ => show win0_5.index t 1 * 512 + 1 * n.val = _; rw [h1]; simp [ix2]; try omega

theorem idx6 : ∀ t : Fin cfg0.N, win0_6.index t (0 : Fin 2) = t.val % 16 ∧ win0_6.index t (1 : Fin 2) = 0 :=
  (by decide +kernel : ∀ t : Fin grid0.N, _)

theorem blk6 (c : Dev nD) (t : Fin cfg0.N) (r : Fin 512) (l : Fin 128) : (iblk m c 6 t : S512x128.Idx → EReal) (ix2 r l) = Ideal.cos (ang (sOf t r) ⟨l.val % 32, by omega⟩) := by
  obtain ⟨h0, h1⟩ := idx6 t
  unfold iblk
  rw [View.read_apply]
  refine Eq.trans ?_ (V_v18 m c (sOf t r) l)
  show V m c main_v18 _ = V m c main_v18 _
  congr 1
  funext a
  apply Fin.ext
  match a with
  | ⟨0, _⟩ => show win0_6.index t 0 * 512 + 1 * r.val = _; rw [h0]; simp [ix2]; try omega
  | ⟨1, _⟩ => show win0_6.index t 1 * 128 + 1 * l.val = _; rw [h1]; simp [ix2]; try omega

theorem idx7 : ∀ t : Fin cfg0.N, win0_7.index t (0 : Fin 2) = t.val % 16 ∧ win0_7.index t (1 : Fin 2) = 0 :=
  (by decide +kernel : ∀ t : Fin grid0.N, _)

theorem blk7 (c : Dev nD) (t : Fin cfg0.N) (r : Fin 512) (l : Fin 128) : (iblk m c 7 t : S512x128.Idx → EReal) (ix2 r l) = if l.val % 64 < 32 then - Ideal.sin (ang (sOf t r) ⟨l.val % 32, by omega⟩) else Ideal.sin (ang (sOf t r) ⟨l.val % 32, by omega⟩) := by
  obtain ⟨h0, h1⟩ := idx7 t
  unfold iblk
  rw [View.read_apply]
  refine Eq.trans ?_ (V_v23 m c (sOf t r) l)
  show V m c main_v23 _ = V m c main_v23 _
  congr 1
  funext a
  apply Fin.ext
  match a with
  | ⟨0, _⟩ => show win0_7.index t 0 * 512 + 1 * r.val = _; rw [h0]; simp [ix2]; try omega
  | ⟨1, _⟩ => show win0_7.index t 1 * 128 + 1 * l.val = _; rw [h1]; simp [ix2]; try omega

end Cert.PrePromptIdeal.Out
end
end
-- ==== Proof.PreOut.lean ====
module
public import proofs.«01_k».proof.Proof.PreBlk
@[expose] public section
set_option maxRecDepth 16384

/-! What each grid point of the pre-attention kernel leaves in its windows and in its carried rows. -/

noncomputable section
open Idealize.ShloMosaic Idealize.ShloMosaic.TcCoe Idealize.SL.Sem
namespace Cert.PrePromptIdeal.Out
open Cert.PrePromptIdeal Cert.PrePromptIdeal.Gen Cert.Pre
open Cert.PrePromptRefIdeal.Out (ang rot)
variable (m : (ℓ : Loc nD τ sig) → Buf (Elt Ideal) ℓ)

/-- The projected rows of the arguments. -/
abbrev Pm (c : Dev nD) : Fin 2 → Fin 8192 → Fin 2048 → EReal := Cert.PrePromptRefIdeal.Out.P (a0 m c) (a1 m c) (a2 m c) (a3 m c)
/-- Their first 512 columns by position. -/
abbrev Um (c : Dev nD) : Fin 2 → Nat → Fin 512 → EReal := Cert.PrePromptRefIdeal.Out.U (a0 m c) (a1 m c) (a2 m c) (a3 m c)

/-- The block's projected rows are the arguments' projected rows. -/
theorem proj_blk (c : Dev nD) (t : Fin cfg0.N) (r : Fin 512) (n : Fin 2048) :
    k0_pay8 (iblk m c 0 t) (iblk m c 1 t) (iblk m c 2 t) (iblk m c 3 t) (ix2 r n) = Pm m c (bOf t) (sOf t r) n := by
  refine (proj_apply (iblk m c 0 t) (iblk m c 1 t) (iblk m c 2 t) (iblk m c 3 t) r n).trans ?_
  unfold Pm Cert.PrePromptRefIdeal.Out.P
  rw [funext (blk0 m c t r), funext (blk1 m c t), funext (blk2 m c t), funext fun k => funext (blk3 m c t k)]

/-- So the block's pooled columns tile the sequence of pooled columns. -/
theorem til_u (c : Dev nD) (t : Fin cfg0.N) : Til (t.val % 16) (Um m c (bOf t)) (k0_pay9 (iblk m c 0 t) (iblk m c 1 t) (iblk m c 2 t) (iblk m c 3 t)) := by
  intro r n
  refine (u_apply (iblk m c 0 t) (iblk m c 1 t) (iblk m c 2 t) (iblk m c 3 t) r n).trans ((proj_blk m c t r _).trans ?_)
  have hr := r.isLt
  have h : 512 * (t.val % 16) + r.val < 8192 := by omega
  unfold Um Cert.PrePromptRefIdeal.Out.U
  rw [dif_pos h]

/-- Rotating by the two blocks of the tables is the rotation by the angle of the position. -/
theorem rope_blk (c : Dev nD) (t : Fin cfg0.N) (r : Fin 512) (p : Fin 512 → EReal) (n : Fin 512) :
    ropeT p (fun l => (iblk m c 6 t : S512x128.Idx → EReal) (ix2 r l)) (fun l => (iblk m c 7 t : S512x128.Idx → EReal) (ix2 r l)) n
      = ropeR p (fun l => Ideal.cos (ang (sOf t r) l)) (fun l => Ideal.sin (ang (sOf t r) l)) n := by
  unfold ropeT ropeR
  dsimp only
  rw [blk6 m c t, blk7 m c t]
  have e : (⟨(n.val % 128) % 32, by omega⟩ : Fin 32) = ⟨n.val % 32, by omega⟩ := Fin.ext (by dsimp only; omega)
  rw [e]
  by_cases h : n.val % 64 < 32
  · rw [dif_pos h, dif_pos h, if_pos (by dsimp only; omega), mul_neg, sub_eq_add_neg]
  · rw [dif_neg h, dif_neg h, if_neg (by dsimp only; omega)]

/-! The rows the first point of a batch row begins with are zeros. -/
theorem zero4 (j : Fin 16) (n : Fin 512) : k0_pay4 (F := Ideal) (ix2 j n) = (0 : EReal) := by
  pointwise [k0_pay4]
theorem zero5 (j : Fin 16) (n : Fin 384) : k0_pay5 (F := Ideal) (ix2 j n) = (0 : EReal) := by
  pointwise [k0_pay5]
theorem zero6 (j : Fin 16) (n : Fin 256) : k0_pay6 (F := Ideal) (ix2 j n) = (0 : EReal) := by
  pointwise [k0_pay6]
theorem zero7 (j : Fin 16) (n : Fin 128) : k0_pay7 (F := Ideal) (ix2 j n) = (0 : EReal) := by
  pointwise [k0_pay7]

/-- The carried rows after point `t` are the last sixteen rows of its block, of the sequence and of its sums over two,
    four and eight rows. -/
theorem carry (c : Dev nD) : ∀ (k : Nat) (t : Fin cfg0.N), t.val = k →
    Hal (t.val % 16 + 1) (Um m c (bOf t)) (hd512 (outsAt0 m c t.val t.isLt).2.2.2.2.2.2.2.1)
      ∧ Hal (t.val % 16 + 1) (F2 (Um m c (bOf t))) (hd384 (outsAt0 m c t.val t.isLt).2.2.2.2.2.2.2.2.1)
      ∧ Hal (t.val % 16 + 1) (F4 (Um m c (bOf t))) (hd256 (outsAt0 m c t.val t.isLt).2.2.2.2.2.2.2.2.2.1)
      ∧ Hal (t.val % 16 + 1) (F8 (Um m c (bOf t))) (hd128 (outsAt0 m c t.val t.isLt).2.2.2.2.2.2.2.2.2.2) := by
  intro k
  induction k with
  | zero =>
    intro t ht
    have h0 : t.val % 16 = 0 := by omega
    have hu := til_u m c t
    have Z0 : Hal (t.val % 16) (Um m c (bOf t)) (k0_pay4 (F := Ideal)) := fun j n => by rw [if_pos h0]; exact zero4 j n
    have Z1 : Hal (t.val % 16) (F2 (Um m c (bOf t))) (k0_pay5 (F := Ideal)) := fun j n => by rw [if_pos h0]; exact zero5 j n
    have Z2 : Hal (t.val % 16) (F4 (Um m c (bOf t))) (k0_pay6 (F := Ideal)) := fun j n => by rw [if_pos h0]; exact zero6 j n
    rw [outsAt0_A m c t h0]
    dsimp only
    rw [sout0_A_0_eq, sout0_A_1_eq, sout0_A_2_eq, sout0_A_3_eq]
    exact ⟨tl512_hal hu, tl384_hal (til2 hu Z0), tl256_hal (til4 hu Z0 Z1), tl128_hal (til8 hu Z0 Z1 Z2)⟩
  | succ k ih =>
    intro t ht
    have hu := til_u m c t
    by_cases h0 : t.val % 16 = 0
    · have Z0 : Hal (t.val % 16) (Um m c (bOf t)) (k0_pay4 (F := Ideal)) := fun j n => by rw [if_pos h0]; exact zero4 j n
      have Z1 : Hal (t.val % 16) (F2 (Um m c (bOf t))) (k0_pay5 (F := Ideal)) := fun j n => by rw [if_pos h0]; exact zero5 j n
      have Z2 : Hal (t.val % 16) (F4 (Um m c (bOf t))) (k0_pay6 (F := Ideal)) := fun j n => by rw [if_pos h0]; exact zero6 j n
      rw [outsAt0_A m c t h0]
      dsimp only
      rw [sout0_A_0_eq, sout0_A_1_eq, sout0_A_2_eq, sout0_A_3_eq]
      exact ⟨tl512_hal hu, tl384_hal (til2 hu Z0), tl256_hal (til4 hu Z0 Z1), tl128_hal (til8 hu Z0 Z1 Z2)⟩
    · have hp : t.val - 1 < cfg0.N := Nat.lt_of_le_of_lt (Nat.sub_le _ _) t.isLt
      obtain ⟨Z0, Z1, Z2, Z3⟩ := ih ⟨t.val - 1, hp⟩ (by dsimp only; omega)
      have hb : bOf (⟨t.val - 1, hp⟩ : Fin cfg0.N) = bOf t := Fin.ext (by simp only [bOf]; omega)
      have hm : (t.val - 1) % 16 + 1 = t.val % 16 := by omega
      simp only [hb, hm] at Z0 Z1 Z2 Z3
      rw [outsAt0_B m c t h0]
      dsimp only
      rw [sout0_B_0_eq, sout0_B_1_eq, sout0_B_2_eq, sout0_B_3_eq]
      exact ⟨tl512_hal hu, tl384_hal (til2 hu Z0), tl256_hal (til4 hu Z0 Z1), tl128_hal (til8 hu Z0 Z1 Z2)⟩

/-- The rotated keys. -/
theorem out8 (c : Dev nD) (t : Fin cfg0.N) (r n : Fin 512) :
    ((outsAt0 m c t.val t.isLt).1 : S1x512x512.Idx → EReal) (ix3 0 r n)
      = rot (a0 m c) (a1 m c) (a2 m c) (a3 m c) (bOf t) (sOf t r) 1024 (by omega) n := by
  have key := (k_apply (k0_pay8 (iblk m c 0 t) (iblk m c 1 t) (iblk m c 2 t) (iblk m c 3 t)) (iblk m c 6 t) (iblk m c 7 t) r n).trans ((rope_blk m c t r _ n).trans (congrArg (fun p => ropeR p (fun l => Ideal.cos (ang (sOf t r) l)) (fun l => Ideal.sin (ang (sOf t r) l)) n) (funext fun k => proj_blk m c t r ⟨1024 + k.val, by omega⟩)))
  by_cases h0 : t.val % 16 = 0
  · rw [outsAt0_A m c t h0]
    dsimp only
    rw [out0_A_8_eq]
    exact key
  · rw [outsAt0_B m c t h0]
    dsimp only
    rw [out0_B_8_eq]
    exact key

/-- The rotated keys again, as the attention reads them. -/
theorem out11 (c : Dev nD) (t : Fin cfg0.N) (r n : Fin 512) :
    ((outsAt0 m c t.val t.isLt).2.2.2.1 : S1x512x512.Idx → EReal) (ix3 0 r n)
      = rot (a0 m c) (a1 m c) (a2 m c) (a3 m c) (bOf t) (sOf t r) 1024 (by omega) n := by
  have key := (kb_apply (k0_pay8 (iblk m c 0 t) (iblk m c 1 t) (iblk m c 2 t) (iblk m c 3 t)) (iblk m c 6 t) (iblk m c 7 t) r n).trans ((rope_blk m c t r _ n).trans (congrArg (fun p => ropeR p (fun l => Ideal.cos (ang (sOf t r) l)) (fun l => Ideal.sin (ang (sOf t r) l)) n) (funext fun k => proj_blk m c t r ⟨1024 + k.val, by omega⟩)))
  by_cases h0 : t.val % 16 = 0
  · rw [outsAt0_A m c t h0]
    dsimp only
    rw [out0_A_11_eq]
    exact key
  · rw [outsAt0_B m c t h0]
    dsimp only
    rw [out0_B_11_eq]
    exact key

/-- The rotated, scaled queries, transposed. -/
theorem out10 (c : Dev nD) (t : Fin cfg0.N) (r n : Fin 512) :
    ((outsAt0 m c t.val t.isLt).2.2.1 : S1x512x512.Idx → EReal) (ix3 0 n r)
      = rot (a0 m c) (a1 m c) (a2 m c) (a3 m c) (bOf t) (sOf t r) 512 (by omega) n * Ideal.ofBits .f32 0x3E38AA3B#32 := by
  have key := (q_apply (k0_pay8 (iblk m c 0 t) (iblk m c 1 t) (iblk m c 2 t) (iblk m c 3 t)) (iblk m c 6 t) (iblk m c 7 t) r n).trans (congrArg (fun y => y * Ideal.ofBits .f32 0x3E38AA3B#32) ((rope_blk m c t r _ n).trans (congrArg (fun p => ropeR p (fun l => Ideal.cos (ang (sOf t r) l)) (fun l => Ideal.sin (ang (sOf t r) l)) n) (funext fun k => proj_blk m c t r ⟨512 + k.val, by omega⟩))))
  by_cases h0 : t.val % 16 = 0
  · rw [outsAt0_A m c t h0]
    dsimp only
    rw [out0_A_10_eq]
    exact key
  · rw [outsAt0_B m c t h0]
    dsimp only
    rw [out0_B_10_eq]
    exact key

/-- The values. -/
theorem out9 (c : Dev nD) (t : Fin cfg0.N) (r n : Fin 512) :
    ((outsAt0 m c t.val t.isLt).2.1 : S1x512x512.Idx → EReal) (ix3 0 r n)
      = Pm m c (bOf t) (sOf t r) ⟨1536 + n.val, by omega⟩ := by
  have key := (v_apply (k0_pay8 (iblk m c 0 t) (iblk m c 1 t) (iblk m c 2 t) (iblk m c 3 t)) r n).trans (proj_blk m c t r _)
  by_cases h0 : t.val % 16 = 0
  · rw [outsAt0_A m c t h0]
    dsimp only
    rw [out0_A_9_eq]
    exact key
  · rw [outsAt0_B m c t h0]
    dsimp only
    rw [out0_B_9_eq]
    exact key

/-- The two halves of the transposed values, where the block stores them. -/
theorem vt_canon (w0 w1 : FVec Ideal S1x1x512x256 .bf16) (j : Fin 2) (n : Fin 512) (r : Fin 256) :
    View.canon (Val := Elt Ideal) (s := S1x2x512x256) (e := .bf16) [⟨Rect.unit ![0, 1, 0, 0] ![1, 1, 512, 256] inb_S1x2x512x256_S1x1x512x256_0_1_0_0, w1⟩, ⟨Rect.unit ![0, 0, 0, 0] ![1, 1, 512, 256] inb_S1x2x512x256_S1x1x512x256_0_0_0_0, w0⟩] (ix4 0 j n r)
      = if j.val = 0 then w0 (ix4 0 0 n r) else w1 (ix4 0 0 n r) := by
  by_cases h : j.val = 0
  · rw [if_pos h, View.canon_cons_of_not_mem]
    · have e : (ix4 0 j n r : S1x2x512x256.Idx) = (Rect.unit (s := S1x2x512x256) ![0, 0, 0, 0] ![1, 1, 512, 256] inb_S1x2x512x256_S1x1x512x256_0_0_0_0).emb (ix4 0 0 n r) := by
        funext a; apply Fin.ext; fin_cases a <;> simp [Rect.emb, LoadRect.idx, Rect.toLoadRect, Rect.unit, ix4, h]
      rw [e, View.canon_cons_emb]
    · intro hm
      have hm : (ix4 0 j n r : S1x2x512x256.Idx) ∈ (Rect.unit (s := S1x2x512x256) ![0, 1, 0, 0] ![1, 1, 512, 256] inb_S1x2x512x256_S1x1x512x256_0_1_0_0).set := hm
      have h0 := (Rect.mem_set_unit.1 hm 1).1
      simp [ix4, h] at h0
  · have e : (ix4 0 j n r : S1x2x512x256.Idx) = (Rect.unit (s := S1x2x512x256) ![0, 1, 0, 0] ![1, 1, 512, 256] inb_S1x2x512x256_S1x1x512x256_0_1_0_0).emb (ix4 0 0 n r) := by
      have h1 : j.val = 1 := by omega
      funext a; apply Fin.ext; fin_cases a <;> simp [Rect.emb, LoadRect.idx, Rect.toLoadRect, Rect.unit, ix4, h1]
    rw [if_neg h, e, View.canon_cons_emb]

/-- The values transposed, in two halves of 256 rows. -/
theorem out12 (c : Dev nD) (t : Fin cfg0.N) (j : Fin 2) (n : Fin 512) (r : Fin 256) :
    ((outsAt0 m c t.val t.isLt).2.2.2.2.1 : S1x2x512x256.Idx → EReal) (ix4 0 j n r)
      = Pm m c (bOf t) (sOf t ⟨256 * j.val + r.val, by omega⟩) ⟨1536 + n.val, by omega⟩ := by
  have k0 := vt0_apply (k0_pay8 (iblk m c 0 t) (iblk m c 1 t) (iblk m c 2 t) (iblk m c 3 t))
  have k1 := vt1_apply (k0_pay8 (iblk m c 0 t) (iblk m c 1 t) (iblk m c 2 t) (iblk m c 3 t))
  by_cases h0 : t.val % 16 = 0
  · rw [outsAt0_A m c t h0]
    dsimp only
    rw [out0_A_12_eq]
    refine (vt_canon _ _ j n r).trans ?_
    by_cases h : j.val = 0
    · rw [if_pos h]
      refine (k0 n r).trans ((proj_blk m c t _ _).trans (congrArg (fun s => Pm m c (bOf t) s _) (Fin.ext ?_)))
      simp only [sOf]; omega
    · rw [if_neg h]
      refine (k1 n r).trans ((proj_blk m c t _ _).trans (congrArg (fun s => Pm m c (bOf t) s _) (Fin.ext ?_)))
      simp only [sOf]; omega
  · rw [outsAt0_B m c t h0]
    dsimp only
    rw [out0_B_12_eq]
    refine (vt_canon _ _ j n r).trans ?_
    by_cases h : j.val = 0
    · rw [if_pos h]
      refine (k0 n r).trans ((proj_blk m c t _ _).trans (congrArg (fun s => Pm m c (bOf t) s _) (Fin.ext ?_)))
      simp only [sOf]; omega
    · rw [if_neg h]
      refine (k1 n r).trans ((proj_blk m c t _ _).trans (congrArg (fun s => Pm m c (bOf t) s _) (Fin.ext ?_)))
      simp only [sOf]; omega

theorem k0_pay3_apply (w : FVec Ideal S16x512 .f32) (j : Fin 16) (n : Fin 512) : k0_pay3 w (ix3 0 j n) = w (ix2 j n) := by
  pointwise [k0_pay3]

/-- The last sixteen rows of the pooled columns. -/
theorem out14 (c : Dev nD) (t : Fin cfg0.N) (j : Fin 16) (n : Fin 512) :
    ((outsAt0 m c t.val t.isLt).2.2.2.2.2.2.1 : S1x16x512.Idx → EReal) (ix3 0 j n)
      = Um m c (bOf t) (512 * (t.val % 16 + 1) + j.val - 16) n := by
  have key : tl512 (k0_pay9 (iblk m c 0 t) (iblk m c 1 t) (iblk m c 2 t) (iblk m c 3 t)) (ix2 j n) = Um m c (bOf t) (512 * (t.val % 16 + 1) + j.val - 16) n :=
    (tl512_hal (til_u m c t) j n).trans (if_neg (by omega))
  by_cases h0 : t.val % 16 = 0
  · rw [outsAt0_A m c t h0]
    dsimp only
    rw [out0_A_14_eq]
    exact (k0_pay3_apply _ j n).trans key
  · rw [outsAt0_B m c t h0]
    dsimp only
    rw [out0_B_14_eq]
    exact (k0_pay3_apply _ j n).trans key

/-- The pooled and mixed rows. -/
theorem out13 (c : Dev nD) (t : Fin cfg0.N) (r n : Fin 512) :
    ((outsAt0 m c t.val t.isLt).2.2.2.2.2.1 : S1x512x512.Idx → EReal) (ix3 0 r n)
      = poolR (pooledR (Um m c (bOf t)) (sOf t r).val) (fun g k n => a4 m c (ix4 0 g k n)) (fun n => a5 m c (ix2 0 n)) n := by
  have hu := til_u m c t
  have fin : ∀ (h0 : Vec Ideal S16x512 .f32) (h1 : Vec Ideal S16x384 .f32) (h2 : Vec Ideal S16x256 .f32) (h3 : Vec Ideal S16x128 .f32),
      Hal (t.val % 16) (Um m c (bOf t)) h0 → Hal (t.val % 16) (F2 (Um m c (bOf t))) h1 → Hal (t.val % 16) (F4 (Um m c (bOf t))) h2 → Hal (t.val % 16) (F8 (Um m c (bOf t))) h3 →
      outPoolV (BitVec.ofNat 32 (grid0.coords t 1).val) h0 h1 h2 h3 (k0_pay9 (iblk m c 0 t) (iblk m c 1 t) (iblk m c 2 t) (iblk m c 3 t)) (iblk m c 4 t) (iblk m c 5 t) (ix3 0 r n)
        = poolR (pooledR (Um m c (bOf t)) (sOf t r).val) (fun g k n => a4 m c (ix4 0 g k n)) (fun n => a5 m c (ix2 0 n)) n := by
    intro h0 h1 h2 h3 H0 H1 H2 H3
    rw [coord1]
    refine (pool_apply (by omega) hu H0 H1 H2 H3 (iblk m c 4 t) (iblk m c 5 t) r n).trans ?_
    rw [funext fun g => funext fun k => funext (blk4 m c t g k), funext (blk5 m c t)]
  by_cases h0 : t.val % 16 = 0
  · have Z0 : Hal (t.val % 16) (Um m c (bOf t)) (k0_pay4 (F := Ideal)) := fun j n => by rw [if_pos h0]; exact zero4 j n
    have Z1 : Hal (t.val % 16) (F2 (Um m c (bOf t))) (k0_pay5 (F := Ideal)) := fun j n => by rw [if_pos h0]; exact zero5 j n
    have Z2 : Hal (t.val % 16) (F4 (Um m c (bOf t))) (k0_pay6 (F := Ideal)) := fun j n => by rw [if_pos h0]; exact zero6 j n
    have Z3 : Hal (t.val % 16) (F8 (Um m c (bOf t))) (k0_pay7 (F := Ideal)) := fun j n => by rw [if_pos h0]; exact zero7 j n
    rw [outsAt0_A m c t h0]
    dsimp only
    rw [out0_A_13_eq]
    exact fin _ _ _ _ Z0 Z1 Z2 Z3
  · have hp : t.val - 1 < cfg0.N := Nat.lt_of_le_of_lt (Nat.sub_le _ _) t.isLt
    obtain ⟨Z0, Z1, Z2, Z3⟩ := carry m c (t.val - 1) ⟨t.val - 1, hp⟩ rfl
    have hb : bOf (⟨t.val - 1, hp⟩ : Fin cfg0.N) = bOf t := Fin.ext (by simp only [bOf]; omega)
    have hm : (t.val - 1) % 16 + 1 = t.val % 16 := by omega
    simp only [hb, hm] at Z0 Z1 Z2 Z3
    rw [outsAt0_B m c t h0]
    dsimp only
    rw [out0_B_13_eq]
    exact fin _ _ _ _ Z0 Z1 Z2 Z3

end Cert.PrePromptIdeal.Out
-- ==== Proof.PreValue.lean ====
module
public import proofs.«01_k».proof.Proof.PreOut
public import proofs.«01_k».proof.Proof.Gen.Pre_finite_args
public import proofs.«01_k».proof.Defs
public import proofs.«01_k».proof.Proof.Gen.PrePromptIdeal.Value
public import proofs.«01_k».proof.Proof.Gen.PrePromptRefIdeal.Run
public import proofs.«01_k».proof.Proof.Gen.PrePromptRefIdeal.Read
@[expose] public section
set_option maxRecDepth 16384

/-! The pre-attention kernel's seven result arrays are the reference's, at every index. -/

noncomputable section
open Idealize.ShloMosaic Idealize.ShloMosaic.TcCoe Idealize.SL.Sem
namespace Cert.PrePromptIdeal.Out
open Cert.PrePromptIdeal Cert.PrePromptIdeal.Gen Cert.PrePromptIdeal.Value Cert.Pre
open Cert.PrePromptRefIdeal.Out (rot Fin6)
variable (m : (ℓ : Loc nD τ sig) → Buf (Elt Ideal) ℓ)

/-- The kernel's rotated keys are the reference's. -/
theorem G8_eq (c : Dev nD) : (G8 m c : S2x8192x512.Idx → EReal)
    = Cert.PrePromptRefIdeal.Read.val_main_v218 (F := Ideal) (a0 m c) (a1 m c) (a2 m c) (a3 m c) := by
  funext i
  have h0 : (i 0).val < 2 := (i 0).isLt
  have h1 : (i 1).val < 8192 := (i 1).isLt
  have h2 : (i 2).val < 512 := (i 2).isLt
  have hp : pt8Of i = 16 * (i 0).val + (i 1).val / 512 := by
    show 16 * ((i 0).val / 1 - 0) + 1 * ((i 1).val / 512 - 0) + 1 * ((i 2).val / 512 - 0) = _
    omega
  have hlt : pt8Of i < cfg0.N := by
    rw [hp]; refine lt_of_lt_of_eq ?_ (show 32 = cfg0.N from N_0.symm); omega
  have hi : i = ix3 (i 0) (i 1) (i 2) := by
    funext a
    match a with
    | ⟨0, _⟩ => rfl
    | ⟨1, _⟩ => rfl
    | ⟨2, _⟩ => rfl
  have hl : loc8Of i = ix3 0 (⟨(i 1).val % 512, by omega⟩ : Fin 512) (i 2) := by
    funext a
    apply Fin.ext
    match a with
    | ⟨0, _⟩ => show (i 0).val % 1 = 0; omega
    | ⟨1, _⟩ => rfl
    | ⟨2, _⟩ => show (i 2).val % 512 = (i 2).val; omega
  have hG : (G8 m c : S2x8192x512.Idx → EReal) i = ((outsAt0 m c (pt8Of i) hlt).1 : S1x512x512.Idx → EReal) (loc8Of i) := by
    rw [outsAt0_sweep]
    exact dif_pos hlt
  rw [hG, hl]
  conv_rhs => rw [hi]
  refine (out8 m c ⟨pt8Of i, hlt⟩ _ _).trans (Eq.trans ?_ (Cert.PrePromptRefIdeal.Out.krot_apply (a0 m c) (a1 m c) (a2 m c) (a3 m c) (i 0) (i 1) (i 2)).symm)
  refine congrArg₂ (fun b s => rot (a0 m c) (a1 m c) (a2 m c) (a3 m c) b s 1024 (by omega) (i 2)) (Fin.ext ?_) (Fin.ext ?_)
  · show pt8Of i / 16 = (i 0).val
    rw [hp]; omega
  · show 512 * (pt8Of i % 16) + (i 1).val % 512 = (i 1).val
    rw [hp]; omega

/-- The kernel's values are the reference's. -/
theorem G9_eq (c : Dev nD) : (G9 m c : S2x8192x512.Idx → EReal)
    = Cert.PrePromptRefIdeal.Read.val_main_v31 (F := Ideal) (a0 m c) (a1 m c) (a2 m c) (a3 m c) := by
  funext i
  have h0 : (i 0).val < 2 := (i 0).isLt
  have h1 : (i 1).val < 8192 := (i 1).isLt
  have h2 : (i 2).val < 512 := (i 2).isLt
  have hp : pt9Of i = 16 * (i 0).val + (i 1).val / 512 := by
    show 16 * ((i 0).val / 1 - 0) + 1 * ((i 1).val / 512 - 0) + 1 * ((i 2).val / 512 - 0) = _
    omega
  have hlt : pt9Of i < cfg0.N := by
    rw [hp]; refine lt_of_lt_of_eq ?_ (show 32 = cfg0.N from N_0.symm); omega
  have hi : i = ix3 (i 0) (i 1) (i 2) := by
    funext a
    match a with
    | ⟨0, _⟩ => rfl
    | ⟨1, _⟩ => rfl
    | ⟨2, _⟩ => rfl
  have hl : loc9Of i = ix3 0 (⟨(i 1).val % 512, by omega⟩ : Fin 512) (i 2) := by
    funext a
    apply Fin.ext
    match a with
    | ⟨0, _⟩ => show (i 0).val % 1 = 0; omega
    | ⟨1, _⟩ => rfl
    | ⟨2, _⟩ => show (i 2).val % 512 = (i 2).val; omega
  have hG : (G9 m c : S2x8192x512.Idx → EReal) i = ((outsAt0 m c (pt9Of i) hlt).2.1 : S1x512x512.Idx → EReal) (loc9Of i) := by
    rw [outsAt0_sweep]
    exact dif_pos hlt
  rw [hG, hl]
  conv_rhs => rw [hi]
  refine (out9 m c ⟨pt9Of i, hlt⟩ _ _).trans (Eq.trans ?_ (Cert.PrePromptRefIdeal.Out.v_apply (a0 m c) (a1 m c) (a2 m c) (a3 m c) (i 0) (i 1) (i 2)).symm)
  refine congrArg₂ (fun b s => Cert.PrePromptRefIdeal.Out.P (a0 m c) (a1 m c) (a2 m c) (a3 m c) b s ⟨1536 + (i 2).val, by omega⟩) (Fin.ext ?_) (Fin.ext ?_)
  · show pt9Of i / 16 = (i 0).val
    rw [hp]; omega
  · show 512 * (pt9Of i % 16) + (i 1).val % 512 = (i 1).val
    rw [hp]; omega

/-- The kernel's keys for the attention are the reference's. -/
theorem G11_eq (c : Dev nD) : (G11 m c : S2x8192x512.Idx → EReal)
    = Cert.PrePromptRefIdeal.Read.val_main_v226 (F := Ideal) (a0 m c) (a1 m c) (a2 m c) (a3 m c) := by
  funext i
  have h0 : (i 0).val < 2 := (i 0).isLt
  have h1 : (i 1).val < 8192 := (i 1).isLt
  have h2 : (i 2).val < 512 := (i 2).isLt
  have hp : pt11Of i = 16 * (i 0).val + (i 1).val / 512 := by
    show 16 * ((i 0).val / 1 - 0) + 1 * ((i 1).val / 512 - 0) + 1 * ((i 2).val / 512 - 0) = _
    omega
  have hlt : pt11Of i < cfg0.N := by
    rw [hp]; refine lt_of_lt_of_eq ?_ (show 32 = cfg0.N from N_0.symm); omega
  have hi : i = ix3 (i 0) (i 1) (i 2) := by
    funext a
    match a with
    | ⟨0, _⟩ => rfl
    | ⟨1, _⟩ => rfl
    | ⟨2, _⟩ => rfl
  have hl : loc11Of i = ix3 0 (⟨(i 1).val % 512, by omega⟩ : Fin 512) (i 2) := by
    funext a
    apply Fin.ext
    match a with
    | ⟨0, _⟩ => show (i 0).val % 1 = 0; omega
    | ⟨1, _⟩ => rfl
    | ⟨2, _⟩ => show (i 2).val % 512 = (i 2).val; omega
  have hG : (G11 m c : S2x8192x512.Idx → EReal) i = ((outsAt0 m c (pt11Of i) hlt).2.2.2.1 : S1x512x512.Idx → EReal) (loc11Of i) := by
    rw [outsAt0_sweep]
    exact dif_pos hlt
  rw [hG, hl]
  conv_rhs => rw [hi]
  refine (out11 m c ⟨pt11Of i, hlt⟩ _ _).trans (Eq.trans ?_ (Cert.PrePromptRefIdeal.Out.kb_apply (a0 m c) (a1 m c) (a2 m c) (a3 m c) (i 0) (i 1) (i 2)).symm)
  refine congrArg₂ (fun b s => rot (a0 m c) (a1 m c) (a2 m c) (a3 m c) b s 1024 (by omega) (i 2)) (Fin.ext ?_) (Fin.ext ?_)
  · show pt11Of i / 16 = (i 0).val
    rw [hp]; omega
  · show 512 * (pt11Of i % 16) + (i 1).val % 512 = (i 1).val
    rw [hp]; omega

/-- The kernel's scaled, rotated, transposed queries are the reference's. -/
theorem G10_eq (c : Dev nD) : (G10 m c : S2x512x8192.Idx → EReal)
    = Cert.PrePromptRefIdeal.Read.val_main_v222 (F := Ideal) (a0 m c) (a1 m c) (a2 m c) (a3 m c) := by
  funext i
  have h0 : (i 0).val < 2 := (i 0).isLt
  have h1 : (i 1).val < 512 := (i 1).isLt
  have h2 : (i 2).val < 8192 := (i 2).isLt
  have hp : pt10Of i = 16 * (i 0).val + (i 2).val / 512 := by
    show 16 * ((i 0).val / 1 - 0) + 16 * ((i 1).val / 512 - 0) + 1 * ((i 2).val / 512 - 0) = _
    omega
  have hlt : pt10Of i < cfg0.N := by
    rw [hp]; refine lt_of_lt_of_eq ?_ (show 32 = cfg0.N from N_0.symm); omega
  have hi : i = ix3 (i 0) (i 1) (i 2) := by
    funext a
    match a with
    | ⟨0, _⟩ => rfl
    | ⟨1, _⟩ => rfl
    | ⟨2, _⟩ => rfl
  have hl : loc10Of i = ix3 0 (i 1) (⟨(i 2).val % 512, by omega⟩ : Fin 512) := by
    funext a
    apply Fin.ext
    match a with
    | ⟨0, _⟩ => show (i 0).val % 1 = 0; omega
    | ⟨1, _⟩ => show (i 1).val % 512 = (i 1).val; omega
    | ⟨2, _⟩ => rfl
  have hG : (G10 m c : S2x512x8192.Idx → EReal) i = ((outsAt0 m c (pt10Of i) hlt).2.2.1 : S1x512x512.Idx → EReal) (loc10Of i) := by
    rw [outsAt0_sweep]
    exact dif_pos hlt
  rw [hG, hl]
  conv_rhs => rw [hi]
  refine (out10 m c ⟨pt10Of i, hlt⟩ _ _).trans (Eq.trans ?_ (Cert.PrePromptRefIdeal.Out.qt_apply (a0 m c) (a1 m c) (a2 m c) (a3 m c) (i 0) (i 1) (i 2)).symm)
  refine congrArg₂ (fun b s => rot (a0 m c) (a1 m c) (a2 m c) (a3 m c) b s 512 (by omega) (i 1) * Ideal.ofBits .f32 0x3E38AA3B#32) (Fin.ext ?_) (Fin.ext ?_)
  · show pt10Of i / 16 = (i 0).val
    rw [hp]; omega
  · show 512 * (pt10Of i % 16) + (i 2).val % 512 = (i 2).val
    rw [hp]; omega

/-- The kernel's transposed values are the reference's. -/
theorem G12_eq (c : Dev nD) : (G12 m c : S2x32x512x256.Idx → EReal)
    = Cert.PrePromptRefIdeal.Read.val_main_v225 (F := Ideal) (a0 m c) (a1 m c) (a2 m c) (a3 m c) := by
  funext i
  have h0 : (i 0).val < 2 := (i 0).isLt
  have h1 : (i 1).val < 32 := (i 1).isLt
  have h2 : (i 2).val < 512 := (i 2).isLt
  have h3 : (i 3).val < 256 := (i 3).isLt
  have hp : pt12Of i = 16 * (i 0).val + (i 1).val / 2 := by
    show 16 * ((i 0).val / 1 - 0) + 1 * ((i 1).val / 2 - 0) + 1 * ((i 2).val / 512 - 0) + 1 * ((i 3).val / 256 - 0) = _
    omega
  have hlt : pt12Of i < cfg0.N := by
    rw [hp]; refine lt_of_lt_of_eq ?_ (show 32 = cfg0.N from N_0.symm); omega
  have hi : i = ix4 (i 0) (i 1) (i 2) (i 3) := by
    funext a
    match a with
    | ⟨0, _⟩ => rfl
    | ⟨1, _⟩ => rfl
    | ⟨2, _⟩ => rfl
    | ⟨3, _⟩ => rfl
  have hl : loc12Of i = ix4 0 (⟨(i 1).val % 2, by omega⟩ : Fin 2) (i 2) (i 3) := by
    funext a
    apply Fin.ext
    match a with
    | ⟨0, _⟩ => show (i 0).val % 1 = 0; omega
    | ⟨1, _⟩ => rfl
    | ⟨2, _⟩ => show (i 2).val % 512 = (i 2).val; omega
    | ⟨3, _⟩ => show (i 3).val % 256 = (i 3).val; omega
  have hG : (G12 m c : S2x32x512x256.Idx → EReal) i = ((outsAt0 m c (pt12Of i) hlt).2.2.2.2.1 : S1x2x512x256.Idx → EReal) (loc12Of i) := by
    rw [outsAt0_sweep]
    exact dif_pos hlt
  rw [hG, hl]
  conv_rhs => rw [hi]
  refine (out12 m c ⟨pt12Of i, hlt⟩ _ _ _).trans (Eq.trans ?_ (Cert.PrePromptRefIdeal.Out.vt_apply (a0 m c) (a1 m c) (a2 m c) (a3 m c) (i 0) (i 1) (i 2) (i 3)).symm)
  refine congrArg₂ (fun b s => Cert.PrePromptRefIdeal.Out.P (a0 m c) (a1 m c) (a2 m c) (a3 m c) b s ⟨1536 + (i 2).val, by omega⟩) (Fin.ext ?_) (Fin.ext ?_)
  · show pt12Of i / 16 = (i 0).val
    rw [hp]; omega
  · show 512 * (pt12Of i % 16) + (256 * ((i 1).val % 2) + (i 3).val) = 256 * (i 1).val + (i 3).val
    rw [hp]; omega

/-- The kernel's pooled rows are the reference's, where the arguments are real numbers. -/
theorem G13_eq (c : Dev nD) (hf : Fin6 (a0 m c) (a1 m c) (a2 m c) (a3 m c)) : (G13 m c : S2x8192x512.Idx → EReal)
    = Cert.PrePromptRefIdeal.Read.val_main_v227 (F := Ideal) (a0 m c) (a1 m c) (a2 m c) (a3 m c) (a4 m c) (a5 m c) := by
  funext i
  have h0 : (i 0).val < 2 := (i 0).isLt
  have h1 : (i 1).val < 8192 := (i 1).isLt
  have h2 : (i 2).val < 512 := (i 2).isLt
  have hp : pt13Of i = 16 * (i 0).val + (i 1).val / 512 := by
    show 16 * ((i 0).val / 1 - 0) + 1 * ((i 1).val / 512 - 0) + 1 * ((i 2).val / 512 - 0) = _
    omega
  have hlt : pt13Of i < cfg0.N := by
    rw [hp]; refine lt_of_lt_of_eq ?_ (show 32 = cfg0.N from N_0.symm); omega
  have hi : i = ix3 (i 0) (i 1) (i 2) := by
    funext a
    match a with
    | ⟨0, _⟩ => rfl
    | ⟨1, _⟩ => rfl
    | ⟨2, _⟩ => rfl
  have hl : loc13Of i = ix3 0 (⟨(i 1).val % 512, by omega⟩ : Fin 512) (i 2) := by
    funext a
    apply Fin.ext
    match a with
    | ⟨0, _⟩ => show (i 0).val % 1 = 0; omega
    | ⟨1, _⟩ => rfl
    | ⟨2, _⟩ => show (i 2).val % 512 = (i 2).val; omega
  have hG : (G13 m c : S2x8192x512.Idx → EReal) i = ((outsAt0 m c (pt13Of i) hlt).2.2.2.2.2.1 : S1x512x512.Idx → EReal) (loc13Of i) := by
    rw [outsAt0_sweep]
    exact dif_pos hlt
  rw [hG, hl]
  conv_rhs => rw [hi]
  refine (out13 m c ⟨pt13Of i, hlt⟩ _ _).trans (Eq.trans ?_ (Cert.PrePromptRefIdeal.Out.pool_apply (a0 m c) (a1 m c) (a2 m c) (a3 m c) (a4 m c) (a5 m c) hf (i 0) (i 1) (i 2)).symm)
  refine congrArg₂ (fun (b : Fin 2) (s : Fin 8192) => poolR (pooledR (Um m c b) s.val) (fun g k n => a4 m c (ix4 0 g k n)) (fun n => a5 m c (ix2 0 n)) (i 2)) (Fin.ext ?_) (Fin.ext ?_)
  · show pt13Of i / 16 = (i 0).val
    rw [hp]; omega
  · show 512 * (pt13Of i % 16) + (i 1).val % 512 = (i 1).val
    rw [hp]; omega

/-- The kernel's last rows of the pooled columns are the reference's. -/
theorem G14_eq (c : Dev nD) : (G14 m c : S2x16x512.Idx → EReal)
    = Cert.PrePromptRefIdeal.Read.val_main_v228 (F := Ideal) (a0 m c) (a1 m c) (a2 m c) (a3 m c) := by
  funext i
  have h0 : (i 0).val < 2 := (i 0).isLt
  have h1 : (i 1).val < 16 := (i 1).isLt
  have h2 : (i 2).val < 512 := (i 2).isLt
  have hp : pt14Of i = 16 * (i 0).val + 15 := by
    show 16 * (1 * ((i 0).val / 1 - 0) + 1 * ((i 1).val / 16 - 0) + 1 * ((i 2).val / 512 - 0)) + 15 = _
    omega
  have hlt : pt14Of i < cfg0.N := by
    rw [hp]; refine lt_of_lt_of_eq ?_ (show 32 = cfg0.N from N_0.symm); omega
  have hi : i = ix3 (i 0) (i 1) (i 2) := by
    funext a
    match a with
    | ⟨0, _⟩ => rfl
    | ⟨1, _⟩ => rfl
    | ⟨2, _⟩ => rfl
  have hl : loc14Of i = ix3 0 (i 1) (i 2) := by
    funext a
    apply Fin.ext
    match a with
    | ⟨0, _⟩ => show (i 0).val % 1 = 0; omega
    | ⟨1, _⟩ => show (i 1).val % 16 = (i 1).val; omega
    | ⟨2, _⟩ => show (i 2).val % 512 = (i 2).val; omega
  have hG : (G14 m c : S2x16x512.Idx → EReal) i = ((outsAt0 m c (pt14Of i) hlt).2.2.2.2.2.2.1 : S1x16x512.Idx → EReal) (loc14Of i) := by
    rw [outsAt0_sweep]
    exact dif_pos hlt
  rw [hG, hl]
  conv_rhs => rw [hi]
  refine (out14 m c ⟨pt14Of i, hlt⟩ _ _).trans (Eq.trans ?_ (Cert.PrePromptRefIdeal.Out.ut_apply (a0 m c) (a1 m c) (a2 m c) (a3 m c) (i 0) (i 1) (i 2)).symm)
  refine congrArg₂ (fun b (s : Nat) => Um m c b s (i 2)) (Fin.ext ?_) ?_
  · show pt14Of i / 16 = (i 0).val
    rw [hp]; omega
  · show 512 * (pt14Of i % 16 + 1) + (i 1).val - 16 = 8176 + (i 1).val
    rw [hp]; omega

/-- An element above the least and below the greatest extended real is a real number. -/
theorem real_of_bits {x : EReal}
    (h : IntOp.andi (BitVec.ofBool (decide (Ideal.ofBits .f32 0xFF800000#32 < x))) (BitVec.ofBool (decide (x < Ideal.ofBits .f32 0x7F800000#32))) = 1#1) : IsR x := by
  have e0 : Ideal.ofBits .f32 0xFF800000#32 = (⊥ : EReal) := by simp [Ideal.ofBits, Ideal.ieee]
  have e1 : Ideal.ofBits .f32 0x7F800000#32 = (⊤ : EReal) := by simp [Ideal.ofBits, Ideal.ieee]
  rw [e0, e1] at h
  by_cases h0 : (⊥ : EReal) < x
  · by_cases h1 : x < ⊤
    · exact IsR.of_lt h0 h1
    · simp [h0, h1, IntOp.andi] at h
  · simp [h0, IntOp.andi] at h

/-- The precondition says what it should: the four arrays the pooled columns are made of hold real numbers. -/
theorem fin6_of_pre (hm : Cert.Pre_PrePromptIdeal_finite_args (hPre_finite_args := Cert.Pre_finite_args.Gen.facts) m) (c : Dev nD) :
    Fin6 (a0 m c) (a1 m c) (a2 m c) (a3 m c) := by
  obtain ⟨p0, p1, p2, p3⟩ := hm c
  refine ⟨fun i => ?_, fun i => ?_, fun i => ?_, fun i => ?_⟩
  · have h := congrFun p0 i
    unfold Cert.Pre_finite_args.fn Cert.Pre_finite_args.fn_part1 at h
    dsimp only at h
    refine real_of_bits (Eq.trans ?_ h)
    pointwise
  · have h := congrFun p1 i
    unfold Cert.Pre_finite_args.fn Cert.Pre_finite_args.fn_part1 at h
    dsimp only at h
    refine real_of_bits (Eq.trans ?_ h)
    pointwise
  · have h := congrFun p2 i
    unfold Cert.Pre_finite_args.fn Cert.Pre_finite_args.fn_part1 at h
    dsimp only at h
    refine real_of_bits (Eq.trans ?_ h)
    pointwise
  · have h := congrFun p3 i
    unfold Cert.Pre_finite_args.fn Cert.Pre_finite_args.fn_part1 at h
    dsimp only at h
    refine real_of_bits (Eq.trans ?_ h)
    pointwise

end Cert.PrePromptIdeal.Out

open Cert.PrePromptIdeal.Out Cert.PrePromptIdeal.Value

/-- From the same real arguments the kernel and the reference leave the same seven results, and keep the arguments. -/
theorem Cert.prePrompt_algebraic :
    Cert.algebraic_PrePromptIdeal_PrePromptRefIdeal_pre_finite_args (hPrePromptIdeal := Cert.PrePromptIdeal.Gen.facts) (hPrePromptRefIdeal := Cert.PrePromptRefIdeal.Gen.facts) (hPre_finite_args := Cert.Pre_finite_args.Gen.facts) := by
  intro m g m' g' hm hag
  refine ⟨fun c => G8 m c, fun c => G9 m c, fun c => G10 m c, fun c => G11 m c, fun c => G12 m c, fun c => G13 m c, fun c => G14 m c, Cert.PrePromptIdeal.Value.run m g, ?_⟩
  refine (θ_run Cert.PrePromptRefIdeal.defs _ _).mono (fun r h c => ?_)
    (Cert.PrePromptRefIdeal.Value.run (F := Ideal) m' g')
  obtain ⟨e0, e1, e2, e3, e4, e5, e6, hk⟩ := h c
  obtain ⟨g0, g1, g2, g3, g4, g5⟩ := hag c
  refine ⟨e0.trans ?_, e1.trans ?_, e2.trans ?_, e3.trans ?_, e4.trans ?_, e5.trans ?_, e6.trans ?_, hk⟩
  · rw [Cert.PrePromptRefIdeal.Read.val_main_v218_eq]
    dsimp only
    refine Eq.trans ?_ (G8_eq m c).symm
    show Cert.PrePromptRefIdeal.Read.val_main_v218 (F := Ideal) (m' ((c.tc : Thread Cert.PrePromptRefIdeal.nD Cert.PrePromptRefIdeal.τ).loc Cert.PrePromptRefIdeal.main_arg0)) (m' ((c.tc : Thread Cert.PrePromptRefIdeal.nD Cert.PrePromptRefIdeal.τ).loc Cert.PrePromptRefIdeal.main_arg1)) (m' ((c.tc : Thread Cert.PrePromptRefIdeal.nD Cert.PrePromptRefIdeal.τ).loc Cert.PrePromptRefIdeal.main_arg2)) (m' ((c.tc : Thread Cert.PrePromptRefIdeal.nD Cert.PrePromptRefIdeal.τ).loc Cert.PrePromptRefIdeal.main_arg3)) = _
    rw [g0, g1, g2, g3]
  · rw [Cert.PrePromptRefIdeal.Read.val_main_v31_eq]
    dsimp only
    refine Eq.trans ?_ (G9_eq m c).symm
    show Cert.PrePromptRefIdeal.Read.val_main_v31 (F := Ideal) (m' ((c.tc : Thread Cert.PrePromptRefIdeal.nD Cert.PrePromptRefIdeal.τ).loc Cert.PrePromptRefIdeal.main_arg0)) (m' ((c.tc : Thread Cert.PrePromptRefIdeal.nD Cert.PrePromptRefIdeal.τ).loc Cert.PrePromptRefIdeal.main_arg1)) (m' ((c.tc : Thread Cert.PrePromptRefIdeal.nD Cert.PrePromptRefIdeal.τ).loc Cert.PrePromptRefIdeal.main_arg2)) (m' ((c.tc : Thread Cert.PrePromptRefIdeal.nD Cert.PrePromptRefIdeal.τ).loc Cert.PrePromptRefIdeal.main_arg3)) = _
    rw [g0, g1, g2, g3]
  · rw [Cert.PrePromptRefIdeal.Read.val_main_v222_eq]
    dsimp only
    refine Eq.trans ?_ (G10_eq m c).symm
    show Cert.PrePromptRefIdeal.Read.val_main_v222 (F := Ideal) (m' ((c.tc : Thread Cert.PrePromptRefIdeal.nD Cert.PrePromptRefIdeal.τ).loc Cert.PrePromptRefIdeal.main_arg0)) (m' ((c.tc : Thread Cert.PrePromptRefIdeal.nD Cert.PrePromptRefIdeal.τ).loc Cert.PrePromptRefIdeal.main_arg1)) (m' ((c.tc : Thread Cert.PrePromptRefIdeal.nD Cert.PrePromptRefIdeal.τ).loc Cert.PrePromptRefIdeal.main_arg2)) (m' ((c.tc : Thread Cert.PrePromptRefIdeal.nD Cert.PrePromptRefIdeal.τ).loc Cert.PrePromptRefIdeal.main_arg3)) = _
    rw [g0, g1, g2, g3]
  · rw [Cert.PrePromptRefIdeal.Read.val_main_v226_eq]
    dsimp only
    refine Eq.trans ?_ (G11_eq m c).symm
    show Cert.PrePromptRefIdeal.Read.val_main_v226 (F := Ideal) (m' ((c.tc : Thread Cert.PrePromptRefIdeal.nD Cert.PrePromptRefIdeal.τ).loc Cert.PrePromptRefIdeal.main_arg0)) (m' ((c.tc : Thread Cert.PrePromptRefIdeal.nD Cert.PrePromptRefIdeal.τ).loc Cert.PrePromptRefIdeal.main_arg1)) (m' ((c.tc : Thread Cert.PrePromptRefIdeal.nD Cert.PrePromptRefIdeal.τ).loc Cert.PrePromptRefIdeal.main_arg2)) (m' ((c.tc : Thread Cert.PrePromptRefIdeal.nD Cert.PrePromptRefIdeal.τ).loc Cert.PrePromptRefIdeal.main_arg3)) = _
    rw [g0, g1, g2, g3]
  · rw [Cert.PrePromptRefIdeal.Read.val_main_v225_eq]
    dsimp only
    refine Eq.trans ?_ (G12_eq m c).symm
    show Cert.PrePromptRefIdeal.Read.val_main_v225 (F := Ideal) (m' ((c.tc : Thread Cert.PrePromptRefIdeal.nD Cert.PrePromptRefIdeal.τ).loc Cert.PrePromptRefIdeal.main_arg0)) (m' ((c.tc : Thread Cert.PrePromptRefIdeal.nD Cert.PrePromptRefIdeal.τ).loc Cert.PrePromptRefIdeal.main_arg1)) (m' ((c.tc : Thread Cert.PrePromptRefIdeal.nD Cert.PrePromptRefIdeal.τ).loc Cert.PrePromptRefIdeal.main_arg2)) (m' ((c.tc : Thread Cert.PrePromptRefIdeal.nD Cert.PrePromptRefIdeal.τ).loc Cert.PrePromptRefIdeal.main_arg3)) = _
    rw [g0, g1, g2, g3]
  · rw [Cert.PrePromptRefIdeal.Read.val_main_v227_eq]
    dsimp only
    refine Eq.trans ?_ (G13_eq m c (fin6_of_pre m hm c)).symm
    show Cert.PrePromptRefIdeal.Read.val_main_v227 (F := Ideal) (m' ((c.tc : Thread Cert.PrePromptRefIdeal.nD Cert.PrePromptRefIdeal.τ).loc Cert.PrePromptRefIdeal.main_arg0)) (m' ((c.tc : Thread Cert.PrePromptRefIdeal.nD Cert.PrePromptRefIdeal.τ).loc Cert.PrePromptRefIdeal.main_arg1)) (m' ((c.tc : Thread Cert.PrePromptRefIdeal.nD Cert.PrePromptRefIdeal.τ).loc Cert.PrePromptRefIdeal.main_arg2)) (m' ((c.tc : Thread Cert.PrePromptRefIdeal.nD Cert.PrePromptRefIdeal.τ).loc Cert.PrePromptRefIdeal.main_arg3)) (m' ((c.tc : Thread Cert.PrePromptRefIdeal.nD Cert.PrePromptRefIdeal.τ).loc Cert.PrePromptRefIdeal.main_arg4)) (m' ((c.tc : Thread Cert.PrePromptRefIdeal.nD Cert.PrePromptRefIdeal.τ).loc Cert.PrePromptRefIdeal.main_arg5)) = _
    rw [g0, g1, g2, g3, g4, g5]
  · rw [Cert.PrePromptRefIdeal.Read.val_main_v228_eq]
    dsimp only
    refine Eq.trans ?_ (G14_eq m c).symm
    show Cert.PrePromptRefIdeal.Read.val_main_v228 (F := Ideal) (m' ((c.tc : Thread Cert.PrePromptRefIdeal.nD Cert.PrePromptRefIdeal.τ).loc Cert.PrePromptRefIdeal.main_arg0)) (m' ((c.tc : Thread Cert.PrePromptRefIdeal.nD Cert.PrePromptRefIdeal.τ).loc Cert.PrePromptRefIdeal.main_arg1)) (m' ((c.tc : Thread Cert.PrePromptRefIdeal.nD Cert.PrePromptRefIdeal.τ).loc Cert.PrePromptRefIdeal.main_arg2)) (m' ((c.tc : Thread Cert.PrePromptRefIdeal.nD Cert.PrePromptRefIdeal.τ).loc Cert.PrePromptRefIdeal.main_arg3)) = _
    rw [g0, g1, g2, g3]

end
end
-- ==== Proof.PreClaims.lean ====
module
public import proofs.«01_k».proof.Proof.PreValue
public import proofs.«01_k».proof.Proof.Gen.PrePrompt.Frame
public import proofs.«01_k».proof.Proof.Gen.PrePromptIdeal.Frame
public import Idealize.ShloMosaic.Init
@[expose] public section

/-! The claims about the pre-attention call other than its value. -/

noncomputable section
open Idealize.ShloMosaic Idealize.ShloMosaic.TcCoe Idealize.SL.Sem
namespace Cert.PrePromptClaims

/-- The kernel as printed runs, keeps its arguments and leaves every counter at zero. -/
theorem frame_p : Cert.quiescent_PrePrompt (hPrePrompt := Cert.PrePrompt.Gen.facts) :=
  fun m ρ _ => Cert.PrePrompt.Gen.frame m ρ

/-- The same of the kernel over the extended reals. -/
theorem frame_pi : Cert.quiescent_PrePromptIdeal (hPrePromptIdeal := Cert.PrePromptIdeal.Gen.facts) :=
  fun m ρ _ => Cert.PrePromptIdeal.Gen.frame m ρ

/-- The same of the reference, which has no counters at all. -/
theorem frame_ri : Cert.quiescent_PrePromptRefIdeal (hPrePromptRefIdeal := Cert.PrePromptRefIdeal.Gen.facts) :=
  fun m ρ _ => (θ_run Cert.PrePromptRefIdeal.defs _ _).mono
    (fun r h => ⟨fun c => (h c).2.2.2.2.2.2.2, sem_eq_zero_of_no_sems (by decide) r.2⟩)
    (Cert.PrePromptRefIdeal.Value.run (F := Ideal) m ρ)

/-- The same two under the precondition the value claim states. -/
theorem frame_pi_pre : Cert.quiescent_PrePromptIdeal_pre_finite_args (hPrePromptIdeal := Cert.PrePromptIdeal.Gen.facts) (hPre_finite_args := Cert.Pre_finite_args.Gen.facts) :=
  fun m ρ _ => frame_pi m ρ trivial
theorem frame_ri_pre : Cert.quiescent_PrePromptRefIdeal_pre_finite_args (hPrePromptRefIdeal := Cert.PrePromptRefIdeal.Gen.facts) (hPre_finite_args := Cert.Pre_finite_args.Gen.facts) :=
  fun m ρ _ => frame_ri m ρ trivial

end Cert.PrePromptClaims
end
end
-- ==== Proof.PPBody.lean ====
module
public import proofs.«01_k».proof.Defs
public import proofs.«01_k».proof.Proof.Gen.PostPromptIdeal.Frame
public import Idealize.ShloMosaic.Lib.Pipeline.Value
public import Idealize.ShloMosaic.Lib.Pipeline.CanonAppend
public import Idealize.ShloMosaic.Lib.Pipeline.ReadBack
public import Idealize.ShloMosaic.Lib.Pointwise
public import Idealize.ShloMosaic.Lib.Tactic
@[expose] public section
set_option maxRecDepth 16384

/-! What one grid point of the post-attention kernel computes, as a closed form of its blocks: the scratch the body writes and reads back (the 264-row
shift buffer and the 8-row carry) is eliminated. -/

noncomputable section
open Idealize.ShloMosaic Idealize.ShloMosaic.TcCoe Idealize.SL.Sem
namespace Cert.PostPromptIdeal.Out
open Cert.PostPromptIdeal Cert.PostPromptIdeal.Gen
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz2' : ∀ a : Fin 2, (![0, 0] : Fin 2 → Nat) a = 0 := by decide

/-- The residual stream after the attention half of the layer. -/
def x1V (x0 : Vec F S1x256x1024 .f32) (x1 : Vec F S1x256x512 .bf16) (x2 : Vec F S1x512x256 .bf16) (x3 : Vec F S1x1x6144 .f32)
    (x4 x5 : Vec F S512x1024 .bf16) (x6 : Vec F S1x1024 .f32) : FVec F S256x1024 .f32 :=
  k0_pay13 (k0_pay4 x0) (k0_pay6 x3) (k0_pay10 x1 x4 x2 x5) (k0_pay11 x6) (k0_pay12 x1 x4 x2 x5)

/-- The normed and modulated input of the feed-forward half. -/
def hidV (x0 : Vec F S1x256x1024 .f32) (x1 : Vec F S1x256x512 .bf16) (x2 : Vec F S1x512x256 .bf16) (x3 : Vec F S1x1x6144 .f32)
    (x4 x5 : Vec F S512x1024 .bf16) (x6 x7 : Vec F S1x1024 .f32) : FVec F S256x1024 .bf16 :=
  k0_pay14 (k0_pay4 x0) (k0_pay6 x3) (k0_pay7 x3) (k0_pay8 x3) (k0_pay10 x1 x4 x2 x5) (k0_pay11 x6) (k0_pay12 x1 x4 x2 x5) x7

theorem x1V_def (x0 : Vec F S1x256x1024 .f32) (x1 : Vec F S1x256x512 .bf16) (x2 : Vec F S1x512x256 .bf16) (x3 : Vec F S1x1x6144 .f32)
    (x4 x5 : Vec F S512x1024 .bf16) (x6 : Vec F S1x1024 .f32) : x1V x0 x1 x2 x3 x4 x5 x6 =
  k0_pay13 (k0_pay4 x0) (k0_pay6 x3) (k0_pay10 x1 x4 x2 x5) (k0_pay11 x6) (k0_pay12 x1 x4 x2 x5) := rfl

theorem hidV_def (x0 : Vec F S1x256x1024 .f32) (x1 : Vec F S1x256x512 .bf16) (x2 : Vec F S1x512x256 .bf16) (x3 : Vec F S1x1x6144 .f32)
    (x4 x5 : Vec F S512x1024 .bf16) (x6 x7 : Vec F S1x1024 .f32) : hidV x0 x1 x2 x3 x4 x5 x6 x7 =
  k0_pay14 (k0_pay4 x0) (k0_pay6 x3) (k0_pay7 x3) (k0_pay8 x3) (k0_pay10 x1 x4 x2 x5) (k0_pay11 x6) (k0_pay12 x1 x4 x2 x5) x7 := rfl

/-! The pieces of the body that only reshape to the same shape, or that repeat an earlier piece at another chunk. -/

theorem pay16_eq (v4 : FVec F S256x1024 .f32) (v7 v8 v9 : FVec F S1x1024 .f32) (v21 : FVec F S256x1024 .f32) (v23 : FVec F S1x1024 .f32)
    (v31 : FVec F S256x1 .f32) (v39 : Vec F S1x1024 .f32) (w : Vec F S1024x1408 .bf16) :
    k0_pay16 v4 v7 v8 v9 v21 v23 v31 v39 w = k0_pay21 (k0_pay14 v4 v7 v8 v9 v21 v23 v31 v39) w := rfl
theorem pay18_eq (v4 : FVec F S256x1024 .f32) (v7 v8 v9 : FVec F S1x1024 .f32) (v21 : FVec F S256x1024 .f32) (v23 : FVec F S1x1024 .f32)
    (v31 : FVec F S256x1 .f32) (v39 : Vec F S1x1024 .f32) (w : Vec F S1024x1408 .bf16) :
    k0_pay18 v4 v7 v8 v9 v21 v23 v31 v39 w = k0_pay21 (k0_pay14 v4 v7 v8 v9 v21 v23 v31 v39) w := shapeCast_self _ _
theorem pay23_eq (h : FVec F S256x1024 .bf16) (w : Vec F S1024x1408 .bf16) : k0_pay23 h w = k0_pay21 h w := shapeCast_self _ _
theorem pay28_eq (v : FVec F S256x1408 .f32) : k0_pay28 v = v := shapeCast_self _ _
theorem pay33_eq (v : FVec F S256x1408 .f32) : k0_pay33 v = v := shapeCast_self _ _
theorem pay17_eq (v : Vec F S8x1408 .f32) : k0_pay17 v = v := shapeCast_self _ _
theorem pay22_eq (v : Vec F S8x1408 .f32) : k0_pay22 v = v := shapeCast_self _ _
theorem pay27_eq (v : Vec F S8x1408 .f32) : k0_pay27 v = v := shapeCast_self _ _
theorem pay32_eq (v : Vec F S8x1408 .f32) : k0_pay32 v = v := shapeCast_self _ _
theorem pay19_eq (v : Vec F S8x1408 .f32) : k0_pay19 v = v := shapeCast_self _ _
theorem pay24_eq (v : Vec F S8x1408 .f32) : k0_pay24 v = v := shapeCast_self _ _
theorem pay29_eq (v : Vec F S8x1408 .f32) : k0_pay29 v = v := shapeCast_self _ _
theorem pay34_eq (v : Vec F S8x1408 .f32) : k0_pay34 v = v := shapeCast_self _ _
theorem pay26_eq (h : FVec F S256x1024 .bf16) (w : Vec F S1024x1408 .bf16) : k0_pay26 h w = k0_pay21 h w := rfl
theorem pay31_eq (h : FVec F S256x1024 .bf16) (w : Vec F S1024x1408 .bf16) : k0_pay31 h w = k0_pay21 h w := rfl
theorem pay30_eq (v : FVec F S256x1408 .f32) (p q : Vec F S256x1408 .f32) (b c d e : Vec F S1x1408 .f32) :
    k0_pay30 v p q b c d e = k0_pay20 v p q b c d e := rfl

/-! The shift buffer: 8 rows of carry above 256 rows of the block. -/

/-- Row `o + r` of the 264 rows made of `cy` above `up`. -/
def prevV (o : Nat) (ho : o ≤ 8) (cy : Vec F S8x1408 .f32) (up : FVec F S256x1408 .f32) : FVec F S256x1408 .f32 := fun j =>
  if h : o + (j 0).val < 8 then cy (ix2 ⟨o + (j 0).val, h⟩ (j 1))
  else up (ix2 ⟨o + (j 0).val - 8, by have : (j 0).val < 256 := (j 0).isLt; omega⟩ (j 1))

/-- The last 8 rows of a block of 256. -/
def tailV (up : FVec F S256x1408 .f32) : Vec F S8x1408 .f32 := fun j =>
  up (ix2 ⟨248 + (j 0).val, by have : (j 0).val < 8 := (j 0).isLt; omega⟩ (j 1))

theorem buf_read (v : View sig .tc .vmem S264x1408 .f32) (o : Nat) (ho : o ≤ 8)
    (ih : ∀ a, (![o, 0] : Fin 2 → Nat) a + (![256, 1408] : Fin 2 → Nat) a ≤ S264x1408.size a)
    (i8 : ∀ a, (![8, 0] : Fin 2 → Nat) a + (![256, 1408] : Fin 2 → Nat) a ≤ S264x1408.size a)
    (i0 : ∀ a, (![0, 0] : Fin 2 → Nat) a + (![8, 1408] : Fin 2 → Nat) a ≤ S264x1408.size a)
    (up : FVec F S256x1408 .f32) (cy : Vec F S8x1408 .f32) (L : List (View.Piece (Elt F) S264x1408 .f32)) :
    v.readCov (⟨Rect.unit ![8, 0] ![256, 1408] i8, up⟩ :: ⟨Rect.unit ![0, 0] ![8, 1408] i0, cy⟩ :: L)
      (Rect.unit ![o, 0] ![256, 1408] ih).toLoadRect = prevV o ho cy up := by
  rw [View.readCov_eq_canon']
  funext j
  have hj0 : (j 0).val < 256 := (j 0).isLt
  have hj1 : (j 1).val < 1408 := (j 1).isLt
  unfold prevV
  by_cases h : o + (j 0).val < 8
  · rw [dif_pos h, View.canon_cons_of_not_mem]
    · have e : (Rect.unit ![o, 0] ![256, 1408] ih).toLoadRect.idx j = (Rect.unit (s := S264x1408) ![0, 0] ![8, 1408] i0).emb (ix2 ⟨o + (j 0).val, h⟩ (j 1)) := by
        funext a; apply Fin.ext; fin_cases a <;> simp [Rect.emb, LoadRect.idx, Rect.toLoadRect, Rect.unit, ix2]
      rw [e, View.canon_cons_emb]
    · intro hm
      have hm' : (Rect.unit ![o, 0] ![256, 1408] ih).toLoadRect.idx j ∈ (Rect.unit (s := S264x1408) ![8, 0] ![256, 1408] i8).set := hm
      have h0 := (Rect.mem_set_unit.1 hm' 0).1
      simp [LoadRect.idx, Rect.toLoadRect, Rect.unit] at h0
      omega
  · rw [dif_neg h]
    have e : (Rect.unit ![o, 0] ![256, 1408] ih).toLoadRect.idx j = (Rect.unit (s := S264x1408) ![8, 0] ![256, 1408] i8).emb (ix2 ⟨o + (j 0).val - 8, by omega⟩ (j 1)) := by
      funext a; apply Fin.ext; fin_cases a
      · simp [Rect.emb, LoadRect.idx, Rect.toLoadRect, Rect.unit, ix2]; omega
      · simp [Rect.emb, LoadRect.idx, Rect.toLoadRect, Rect.unit, ix2]
    rw [e, View.canon_cons_emb]

theorem read7 (v : View sig .tc .vmem S264x1408 .f32)
    (ih : ∀ a, (![7, 0] : Fin 2 → Nat) a + (![256, 1408] : Fin 2 → Nat) a ≤ S264x1408.size a)
    (i8 : ∀ a, (![8, 0] : Fin 2 → Nat) a + (![256, 1408] : Fin 2 → Nat) a ≤ S264x1408.size a)
    (i0 : ∀ a, (![0, 0] : Fin 2 → Nat) a + (![8, 1408] : Fin 2 → Nat) a ≤ S264x1408.size a)
    (up : FVec F S256x1408 .f32) (cy : Vec F S8x1408 .f32) (L : List (View.Piece (Elt F) S264x1408 .f32)) :
    v.readCov (⟨Rect.unit ![8, 0] ![256, 1408] i8, up⟩ :: ⟨Rect.unit ![0, 0] ![8, 1408] i0, cy⟩ :: L)
      (Rect.unit ![7, 0] ![256, 1408] ih).toLoadRect = prevV 7 (by decide) cy up := buf_read v 7 (by decide) ih i8 i0 up cy L

theorem read6 (v : View sig .tc .vmem S264x1408 .f32)
    (ih : ∀ a, (![6, 0] : Fin 2 → Nat) a + (![256, 1408] : Fin 2 → Nat) a ≤ S264x1408.size a)
    (i8 : ∀ a, (![8, 0] : Fin 2 → Nat) a + (![256, 1408] : Fin 2 → Nat) a ≤ S264x1408.size a)
    (i0 : ∀ a, (![0, 0] : Fin 2 → Nat) a + (![8, 1408] : Fin 2 → Nat) a ≤ S264x1408.size a)
    (up : FVec F S256x1408 .f32) (cy : Vec F S8x1408 .f32) (L : List (View.Piece (Elt F) S264x1408 .f32)) :
    v.readCov (⟨Rect.unit ![8, 0] ![256, 1408] i8, up⟩ :: ⟨Rect.unit ![0, 0] ![8, 1408] i0, cy⟩ :: L)
      (Rect.unit ![6, 0] ![256, 1408] ih).toLoadRect = prevV 6 (by decide) cy up := buf_read v 6 (by decide) ih i8 i0 up cy L

theorem tail_read (v : View sig .tc .vmem S264x1408 .f32)
    (ih : ∀ a, (![256, 0] : Fin 2 → Nat) a + (![8, 1408] : Fin 2 → Nat) a ≤ S264x1408.size a)
    (i8 : ∀ a, (![8, 0] : Fin 2 → Nat) a + (![256, 1408] : Fin 2 → Nat) a ≤ S264x1408.size a)
    (up : FVec F S256x1408 .f32) (L : List (View.Piece (Elt F) S264x1408 .f32)) :
    v.readCov (⟨Rect.unit ![8, 0] ![256, 1408] i8, up⟩ :: L)
      (Rect.unit ![256, 0] ![8, 1408] ih).toLoadRect = tailV up := by
  rw [View.readCov_eq_canon']
  funext j
  have hj0 : (j 0).val < 8 := (j 0).isLt
  have e : (Rect.unit ![256, 0] ![8, 1408] ih).toLoadRect.idx j = (Rect.unit (s := S264x1408) ![8, 0] ![256, 1408] i8).emb (ix2 ⟨248 + (j 0).val, by omega⟩ (j 1)) := by
    funext a; apply Fin.ext; fin_cases a
    · simp [Rect.emb, LoadRect.idx, Rect.toLoadRect, Rect.unit, ix2]; omega
    · simp [Rect.emb, LoadRect.idx, Rect.toLoadRect, Rect.unit, ix2]
  rw [e, View.canon_cons_emb]
  rfl

/-! The carry: four blocks of 1408 columns. -/

abbrev w0 (x9 : Vec F S1024x5632 .bf16) : Vec F S1024x1408 .bf16 := View.ld x9 (Rect.unit ![0, 0] ![1024, 1408] inb_S1024x5632_S1024x1408_0_0)
abbrev w1 (x9 : Vec F S1024x5632 .bf16) : Vec F S1024x1408 .bf16 := View.ld x9 (Rect.unit ![0, 1408] ![1024, 1408] inb_S1024x5632_S1024x1408_0_1408)
abbrev w2 (x9 : Vec F S1024x5632 .bf16) : Vec F S1024x1408 .bf16 := View.ld x9 (Rect.unit ![0, 2816] ![1024, 1408] inb_S1024x5632_S1024x1408_0_2816)
abbrev w3 (x9 : Vec F S1024x5632 .bf16) : Vec F S1024x1408 .bf16 := View.ld x9 (Rect.unit ![0, 4224] ![1024, 1408] inb_S1024x5632_S1024x1408_0_4224)

/-- Four blocks of 1408 columns side by side. -/
def cat4 (a b d e : Vec F S8x1408 .f32) : Vec F S8x5632 .f32 := fun y =>
  have h5 : (y 1).val < 5632 := (y 1).isLt
  if h : (y 1).val < 1408 then a (ix2 (y 0) ⟨(y 1).val, h⟩)
  else if h1 : (y 1).val < 2816 then b (ix2 (y 0) ⟨(y 1).val - 1408, by omega⟩)
  else if h2 : (y 1).val < 4224 then d (ix2 (y 0) ⟨(y 1).val - 2816, by omega⟩)
  else e (ix2 (y 0) ⟨(y 1).val - 4224, by omega⟩)

theorem cat4_pieces (a b d e : Vec F S8x1408 .f32) :
    View.PiecesOf (cat4 a b d e)
      [⟨Rect.unit ![0, 4224] ![8, 1408] inb_S8x5632_S8x1408_0_4224, e⟩, ⟨Rect.unit ![0, 1408] ![8, 1408] inb_S8x5632_S8x1408_0_1408, b⟩,
       ⟨Rect.unit ![0, 2816] ![8, 1408] inb_S8x5632_S8x1408_0_2816, d⟩, ⟨Rect.unit ![0, 0] ![8, 1408] inb_S8x5632_S8x1408_0_0, a⟩] := by
  refine ⟨fun x => ?_, fun x => ?_, fun x => ?_, fun x => ?_, trivial⟩
  · have hx : (x 1).val < 1408 := (x 1).isLt
    have hv : ((Rect.unit (s := S8x5632) ![0, 4224] ![8, 1408] inb_S8x5632_S8x1408_0_4224).emb x 1).val = 4224 + (x 1).val := by
      simp [Rect.emb, Rect.unit]
    show e x = cat4 a b d e ((Rect.unit (s := S8x5632) ![0, 4224] ![8, 1408] inb_S8x5632_S8x1408_0_4224).emb x)
    unfold cat4
    rw [dif_neg (by omega), dif_neg (by omega), dif_neg (by omega)]
    refine congrArg e (funext fun k => Fin.ext ?_)
    fin_cases k
    · simp [Rect.emb, Rect.unit, ix2]
    · simp only [ix2]; show (x 1).val = _ - 4224; omega
  · have hx : (x 1).val < 1408 := (x 1).isLt
    have hv : ((Rect.unit (s := S8x5632) ![0, 1408] ![8, 1408] inb_S8x5632_S8x1408_0_1408).emb x 1).val = 1408 + (x 1).val := by
      simp [Rect.emb, Rect.unit]
    show b x = cat4 a b d e ((Rect.unit (s := S8x5632) ![0, 1408] ![8, 1408] inb_S8x5632_S8x1408_0_1408).emb x)
    unfold cat4
    rw [dif_neg (by omega), dif_pos (by omega)]
    refine congrArg b (funext fun k => Fin.ext ?_)
    fin_cases k
    · simp [Rect.emb, Rect.unit, ix2]
    · simp only [ix2]; show (x 1).val = _ - 1408; omega
  · have hx : (x 1).val < 1408 := (x 1).isLt
    have hv : ((Rect.unit (s := S8x5632) ![0, 2816] ![8, 1408] inb_S8x5632_S8x1408_0_2816).emb x 1).val = 2816 + (x 1).val := by
      simp [Rect.emb, Rect.unit]
    show d x = cat4 a b d e ((Rect.unit (s := S8x5632) ![0, 2816] ![8, 1408] inb_S8x5632_S8x1408_0_2816).emb x)
    unfold cat4
    rw [dif_neg (by omega), dif_neg (by omega), dif_pos (by omega)]
    refine congrArg d (funext fun k => Fin.ext ?_)
    fin_cases k
    · simp [Rect.emb, Rect.unit, ix2]
    · simp only [ix2]; show (x 1).val = _ - 2816; omega
  · have hx : (x 1).val < 1408 := (x 1).isLt
    have hv : ((Rect.unit (s := S8x5632) ![0, 0] ![8, 1408] inb_S8x5632_S8x1408_0_0).emb x 1).val = (x 1).val := by
      simp [Rect.emb, Rect.unit]
    show a x = cat4 a b d e ((Rect.unit (s := S8x5632) ![0, 0] ![8, 1408] inb_S8x5632_S8x1408_0_0).emb x)
    unfold cat4
    rw [dif_pos (by omega)]
    refine congrArg a (funext fun k => Fin.ext ?_)
    fin_cases k
    · simp [Rect.emb, Rect.unit, ix2]
    · exact hv.symm

theorem cat4_cover (a b d e : Vec F S8x1408 .f32) (y : S8x5632.Idx) : ∃ p ∈ ([⟨Rect.unit ![0, 4224] ![8, 1408] inb_S8x5632_S8x1408_0_4224, e⟩,
    ⟨Rect.unit ![0, 1408] ![8, 1408] inb_S8x5632_S8x1408_0_1408, b⟩,
    ⟨Rect.unit ![0, 2816] ![8, 1408] inb_S8x5632_S8x1408_0_2816, d⟩, ⟨Rect.unit ![0, 0] ![8, 1408] inb_S8x5632_S8x1408_0_0, a⟩] :
      List (View.Piece (Elt F) S8x5632 .f32)), y ∈ p.1.set := by
  have h0 : (y 0).val < 8 := (y 0).isLt
  have h1 : (y 1).val < 5632 := (y 1).isLt
  by_cases ha : (y 1).val < 1408
  · exact ⟨⟨Rect.unit ![0, 0] ![8, 1408] inb_S8x5632_S8x1408_0_0, a⟩, by simp,
      show y ∈ (Rect.unit (s := S8x5632) ![0, 0] ![8, 1408] inb_S8x5632_S8x1408_0_0).set from Rect.mem_set_unit.2 fun k => by
        fin_cases k <;> simp <;> omega⟩
  by_cases hb : (y 1).val < 2816
  · exact ⟨⟨Rect.unit ![0, 1408] ![8, 1408] inb_S8x5632_S8x1408_0_1408, b⟩, by simp,
      show y ∈ (Rect.unit (s := S8x5632) ![0, 1408] ![8, 1408] inb_S8x5632_S8x1408_0_1408).set from Rect.mem_set_unit.2 fun k => by
        fin_cases k <;> simp <;> omega⟩
  by_cases hd : (y 1).val < 4224
  · exact ⟨⟨Rect.unit ![0, 2816] ![8, 1408] inb_S8x5632_S8x1408_0_2816, d⟩, by simp,
      show y ∈ (Rect.unit (s := S8x5632) ![0, 2816] ![8, 1408] inb_S8x5632_S8x1408_0_2816).set from Rect.mem_set_unit.2 fun k => by
        fin_cases k <;> simp <;> omega⟩
  · exact ⟨⟨Rect.unit ![0, 4224] ![8, 1408] inb_S8x5632_S8x1408_0_4224, e⟩, by simp,
      show y ∈ (Rect.unit (s := S8x5632) ![0, 4224] ![8, 1408] inb_S8x5632_S8x1408_0_4224).set from Rect.mem_set_unit.2 fun k => by
        fin_cases k <;> simp <;> omega⟩

/-- The four stores of the carry, over any earlier stores, leave their four blocks side by side. -/
theorem carry_canon (a b d e : Vec F S8x1408 .f32) (L : List (View.Piece (Elt F) S8x5632 .f32)) :
    View.canon (⟨Rect.unit ![0, 4224] ![8, 1408] inb_S8x5632_S8x1408_0_4224, e⟩ :: ⟨Rect.unit ![0, 1408] ![8, 1408] inb_S8x5632_S8x1408_0_1408, b⟩ ::
       ⟨Rect.unit ![0, 2816] ![8, 1408] inb_S8x5632_S8x1408_0_2816, d⟩ :: ⟨Rect.unit ![0, 0] ![8, 1408] inb_S8x5632_S8x1408_0_0, a⟩ :: L) = cat4 a b d e :=
  funext fun y => View.canon_append_of_piecesOf (cat4 a b d e) L _ (cat4_pieces a b d e) y (cat4_cover a b d e y)

/-- A block of columns of the carry read after the fill reads the fill. -/
theorem fill_read (v : View sig .tc .vmem S8x5632 .f32) (i0 : ∀ a, (![0, 0] : Fin 2 → Nat) a + (![8, 5632] : Fin 2 → Nat) a ≤ S8x5632.size a)
    (Z : Vec F S8x5632 .f32) (L : List (View.Piece (Elt F) S8x5632 .f32)) (r : Rect S8x5632) :
    v.readCov (⟨Rect.unit ![0, 0] ![8, 5632] i0, Z⟩ :: L) r.toLoadRect = View.ld Z r :=
  View.readCov_fill v i0 Z L r hz2'

/-- The carry a block leaves: the last 8 rows of its up-projection. -/
def carryV (h : FVec F S256x1024 .bf16) (x9 : Vec F S1024x5632 .bf16) : Vec F S8x5632 .f32 :=
  cat4 (tailV (k0_pay21 h (w0 x9))) (tailV (k0_pay21 h (w1 x9))) (tailV (k0_pay21 h (w2 x9))) (tailV (k0_pay21 h (w3 x9)))

/-- The block of the first result from its inputs and the carry of the block before. -/
def yV (cy : Vec F S8x5632 .f32) (x0 : Vec F S1x256x1024 .f32) (x1 : Vec F S1x256x512 .bf16) (x2 : Vec F S1x512x256 .bf16) (x3 : Vec F S1x1x6144 .f32)
    (x4 x5 : Vec F S512x1024 .bf16) (x6 x7 x8 : Vec F S1x1024 .f32) (x9 : Vec F S1024x5632 .bf16) (x10 : Vec F S3x5632 .f32) (x11 : Vec F S1x5632 .f32)
    (x12 : Vec F S2816x1024 .bf16) : FVec F S1x256x1024 .f32 :=
  let h := hidV x0 x1 x2 x3 x4 x5 x6 x7
  let c0 := View.ld cy (Rect.unit ![0, 0] ![8, 1408] inb_S8x5632_S8x1408_0_0)
  let c1 := View.ld cy (Rect.unit ![0, 1408] ![8, 1408] inb_S8x5632_S8x1408_0_1408)
  let c2 := View.ld cy (Rect.unit ![0, 2816] ![8, 1408] inb_S8x5632_S8x1408_0_2816)
  let c3 := View.ld cy (Rect.unit ![0, 4224] ![8, 1408] inb_S8x5632_S8x1408_0_4224)
  let u0 := k0_pay21 h (w0 x9)
  let u1 := k0_pay21 h (w1 x9)
  let u2 := k0_pay21 h (w2 x9)
  let u3 := k0_pay21 h (w3 x9)
  k0_pay1 (k0_pay9 x3) (x1V x0 x1 x2 x3 x4 x5 x6)
    (k0_pay25 k0_pay15
      (k0_pay20 u0 (prevV 7 (by decide) c0 u0) (prevV 6 (by decide) c0 u0)
        (View.ld x11 (Rect.unit ![0, 0] ![1, 1408] inb_S1x5632_S1x1408_0_0)) (View.ld x10 (Rect.unit ![0, 0] ![1, 1408] inb_S3x5632_S1x1408_0_0))
        (View.ld x10 (Rect.unit ![1, 0] ![1, 1408] inb_S3x5632_S1x1408_1_0)) (View.ld x10 (Rect.unit ![2, 0] ![1, 1408] inb_S3x5632_S1x1408_2_0)))
      u2 (prevV 7 (by decide) c2 u2) (prevV 6 (by decide) c2 u2)
        (View.ld x11 (Rect.unit ![0, 2816] ![1, 1408] inb_S1x5632_S1x1408_0_2816)) (View.ld x10 (Rect.unit ![0, 2816] ![1, 1408] inb_S3x5632_S1x1408_0_2816))
        (View.ld x10 (Rect.unit ![1, 2816] ![1, 1408] inb_S3x5632_S1x1408_1_2816)) (View.ld x10 (Rect.unit ![2, 2816] ![1, 1408] inb_S3x5632_S1x1408_2_2816))
      (View.ld x12 (Rect.unit ![0, 0] ![1408, 1024] inb_S2816x1024_S1408x1024_0_0)))
    (k0_pay35
      (k0_pay20 u1 (prevV 7 (by decide) c1 u1) (prevV 6 (by decide) c1 u1)
        (View.ld x11 (Rect.unit ![0, 1408] ![1, 1408] inb_S1x5632_S1x1408_0_1408)) (View.ld x10 (Rect.unit ![0, 1408] ![1, 1408] inb_S3x5632_S1x1408_0_1408))
        (View.ld x10 (Rect.unit ![1, 1408] ![1, 1408] inb_S3x5632_S1x1408_1_1408)) (View.ld x10 (Rect.unit ![2, 1408] ![1, 1408] inb_S3x5632_S1x1408_2_1408)))
      u3 (prevV 7 (by decide) c3 u3) (prevV 6 (by decide) c3 u3)
        (View.ld x11 (Rect.unit ![0, 4224] ![1, 1408] inb_S1x5632_S1x1408_0_4224)) (View.ld x10 (Rect.unit ![0, 4224] ![1, 1408] inb_S3x5632_S1x1408_0_4224))
        (View.ld x10 (Rect.unit ![1, 4224] ![1, 1408] inb_S3x5632_S1x1408_1_4224)) (View.ld x10 (Rect.unit ![2, 4224] ![1, 1408] inb_S3x5632_S1x1408_2_4224)))
    (View.ld x12 (Rect.unit ![1408, 0] ![1408, 1024] inb_S2816x1024_S1408x1024_1408_0)) x8

/-- The body at a later block, over the carry it finds: the stored block of the first result. -/
theorem out0_B_13_eq (c : Dev nD) (i : grid0.Coords) (arg2 : Memref sig .tc .vmem S1x256x1024 .f32) (harg2 : arg2.IsWhole) (arg3 : Memref sig .tc .vmem S1x256x512 .bf16) (harg3 : arg3.IsWhole) (arg4 : Memref sig .tc .vmem S1x512x256 .bf16) (harg4 : arg4.IsWhole) (arg5 : Memref sig .tc .vmem S1x1x6144 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x256x1024 .f32) (harg15 : arg15.IsWhole) (arg16 : Memref sig .tc .vmem S1x8x5632 .f32) (harg16 : arg16.IsWhole) (arg17 : Memref sig .tc .vmem S8x5632 .f32) (harg17 : arg17.IsWhole) (arg18 : Memref sig .tc .vmem S264x1408 .f32) (harg18 : arg18.IsWhole) (hc0 : ¬cond0_0 i)
    (x0 : Vec F S1x256x1024 .f32) (x1 : Vec F S1x256x512 .bf16) (x2 : Vec F S1x512x256 .bf16) (x3 : Vec F S1x1x6144 .f32) (x4 : Vec F S512x1024 .bf16) (x5 : Vec F S512x1024 .bf16) (x6 : Vec F S1x1024 .f32) (x7 : Vec F S1x1024 .f32) (x8 : Vec F S1x1024 .f32) (x9 : Vec F S1024x5632 .bf16) (x10 : Vec F S3x5632 .f32) (x11 : Vec F S1x5632 .f32) (x12 : Vec F S2816x1024 .bf16) (xs0 : Vec F S8x5632 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 = yV xs0 x0 x1 x2 x3 x4 x5 x6 x7 x8 x9 x10 x11 x12 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread,
    View.ld_unit_zero (S := S1x256x1024) hz3, View.ld_unit_zero (S := S1x256x512) hz3, View.ld_unit_zero (S := S1x512x256) hz3, View.ld_unit_zero (S := S1x1x6144) hz3,
    View.ld_unit_zero (S := S512x1024) hz2, View.ld_unit_zero (S := S1x1024) hz2]
  simp only [pay18_eq, pay23_eq, pay28_eq, pay33_eq, pay17_eq, pay22_eq, pay27_eq, pay32_eq, pay16_eq, pay26_eq, pay31_eq, pay30_eq, ← hidV_def, ← x1V_def]
  simp only [read7, read6, tail_read]
  rw [View.canon_unit_zero (S := S1x256x1024) hz3]
  rfl

/-- The body at a later block, over the carry it finds: the carry it leaves. -/
theorem sout0_B_0_eq (c : Dev nD) (i : grid0.Coords) (arg2 : Memref sig .tc .vmem S1x256x1024 .f32) (harg2 : arg2.IsWhole) (arg3 : Memref sig .tc .vmem S1x256x512 .bf16) (harg3 : arg3.IsWhole) (arg4 : Memref sig .tc .vmem S1x512x256 .bf16) (harg4 : arg4.IsWhole) (arg5 : Memref sig .tc .vmem S1x1x6144 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x256x1024 .f32) (harg15 : arg15.IsWhole) (arg16 : Memref sig .tc .vmem S1x8x5632 .f32) (harg16 : arg16.IsWhole) (arg17 : Memref sig .tc .vmem S8x5632 .f32) (harg17 : arg17.IsWhole) (arg18 : Memref sig .tc .vmem S264x1408 .f32) (harg18 : arg18.IsWhole) (hc0 : ¬cond0_0 i)
    (x0 : Vec F S1x256x1024 .f32) (x1 : Vec F S1x256x512 .bf16) (x2 : Vec F S1x512x256 .bf16) (x3 : Vec F S1x1x6144 .f32) (x4 : Vec F S512x1024 .bf16) (x5 : Vec F S512x1024 .bf16) (x6 : Vec F S1x1024 .f32) (x7 : Vec F S1x1024 .f32) (x8 : Vec F S1x1024 .f32) (x9 : Vec F S1024x5632 .bf16) (x10 : Vec F S3x5632 .f32) (x11 : Vec F S1x5632 .f32) (x12 : Vec F S2816x1024 .bf16) (xs0 : Vec F S8x5632 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 = carryV (hidV x0 x1 x2 x3 x4 x5 x6 x7) x9 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread,
    View.ld_unit_zero (S := S1x256x1024) hz3, View.ld_unit_zero (S := S1x256x512) hz3, View.ld_unit_zero (S := S1x512x256) hz3, View.ld_unit_zero (S := S1x1x6144) hz3,
    View.ld_unit_zero (S := S512x1024) hz2, View.ld_unit_zero (S := S1x1024) hz2]
  simp only [pay18_eq, pay23_eq, pay28_eq, pay33_eq, pay17_eq, pay22_eq, pay27_eq, pay32_eq, pay16_eq, pay26_eq, pay31_eq, pay30_eq, ← hidV_def, ← x1V_def]
  simp only [read7, read6, tail_read]
  simp only [pay19_eq, pay24_eq, pay29_eq, pay34_eq]
  exact carry_canon _ _ _ _ _

/-- The body at a later block, over the carry it finds: the stored block of the second result. -/
theorem out0_B_14_eq (c : Dev nD) (i : grid0.Coords) (arg2 : Memref sig .tc .vmem S1x256x1024 .f32) (harg2 : arg2.IsWhole) (arg3 : Memref sig .tc .vmem S1x256x512 .bf16) (harg3 : arg3.IsWhole) (arg4 : Memref sig .tc .vmem S1x512x256 .bf16) (harg4 : arg4.IsWhole) (arg5 : Memref sig .tc .vmem S1x1x6144 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x256x1024 .f32) (harg15 : arg15.IsWhole) (arg16 : Memref sig .tc .vmem S1x8x5632 .f32) (harg16 : arg16.IsWhole) (arg17 : Memref sig .tc .vmem S8x5632 .f32) (harg17 : arg17.IsWhole) (arg18 : Memref sig .tc .vmem S264x1408 .f32) (harg18 : arg18.IsWhole) (hc0 : ¬cond0_0 i)
    (x0 : Vec F S1x256x1024 .f32) (x1 : Vec F S1x256x512 .bf16) (x2 : Vec F S1x512x256 .bf16) (x3 : Vec F S1x1x6144 .f32) (x4 : Vec F S512x1024 .bf16) (x5 : Vec F S512x1024 .bf16) (x6 : Vec F S1x1024 .f32) (x7 : Vec F S1x1024 .f32) (x8 : Vec F S1x1024 .f32) (x9 : Vec F S1024x5632 .bf16) (x10 : Vec F S3x5632 .f32) (x11 : Vec F S1x5632 .f32) (x12 : Vec F S2816x1024 .bf16) (xs0 : Vec F S8x5632 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0 = k0_pay2 (carryV (hidV x0 x1 x2 x3 x4 x5 x6 x7) x9) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread,
    View.ld_unit_zero (S := S1x256x1024) hz3, View.ld_unit_zero (S := S1x256x512) hz3, View.ld_unit_zero (S := S1x512x256) hz3, View.ld_unit_zero (S := S1x1x6144) hz3,
    View.ld_unit_zero (S := S512x1024) hz2, View.ld_unit_zero (S := S1x1024) hz2]
  simp only [pay18_eq, pay23_eq, pay28_eq, pay33_eq, pay17_eq, pay22_eq, pay27_eq, pay32_eq, pay16_eq, pay26_eq, pay31_eq, pay30_eq, ← hidV_def, ← x1V_def]
  simp only [read7, read6, tail_read]
  simp only [pay19_eq, pay24_eq, pay29_eq, pay34_eq]
  rw [View.canon_unit_zero (S := S1x8x5632) hz3]
  rw [View.readCov_eq_canon']
  rw [carry_canon]
  exact congrArg k0_pay2 (View.ld_unit_zero (S := S8x5632) hz2 _ _)

/-- The body at the first block of a batch row, where the carry is zeroed: the stored block of the first result. -/
theorem out0_A_13_eq (c : Dev nD) (i : grid0.Coords) (arg2 : Memref sig .tc .vmem S1x256x1024 .f32) (harg2 : arg2.IsWhole) (arg3 : Memref sig .tc .vmem S1x256x512 .bf16) (harg3 : arg3.IsWhole) (arg4 : Memref sig .tc .vmem S1x512x256 .bf16) (harg4 : arg4.IsWhole) (arg5 : Memref sig .tc .vmem S1x1x6144 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x256x1024 .f32) (harg15 : arg15.IsWhole) (arg16 : Memref sig .tc .vmem S1x8x5632 .f32) (harg16 : arg16.IsWhole) (arg17 : Memref sig .tc .vmem S8x5632 .f32) (harg17 : arg17.IsWhole) (arg18 : Memref sig .tc .vmem S264x1408 .f32) (harg18 : arg18.IsWhole) (hc0 : cond0_0 i)
    (x0 : Vec F S1x256x1024 .f32) (x1 : Vec F S1x256x512 .bf16) (x2 : Vec F S1x512x256 .bf16) (x3 : Vec F S1x1x6144 .f32) (x4 : Vec F S512x1024 .bf16) (x5 : Vec F S512x1024 .bf16) (x6 : Vec F S1x1024 .f32) (x7 : Vec F S1x1024 .f32) (x8 : Vec F S1x1024 .f32) (x9 : Vec F S1024x5632 .bf16) (x10 : Vec F S3x5632 .f32) (x11 : Vec F S1x5632 .f32) (x12 : Vec F S2816x1024 .bf16) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = yV (k0_pay3 (F := F)) x0 x1 x2 x3 x4 x5 x6 x7 x8 x9 x10 x11 x12 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread,
    View.ld_unit_zero (S := S1x256x1024) hz3, View.ld_unit_zero (S := S1x256x512) hz3, View.ld_unit_zero (S := S1x512x256) hz3, View.ld_unit_zero (S := S1x1x6144) hz3,
    View.ld_unit_zero (S := S512x1024) hz2, View.ld_unit_zero (S := S1x1024) hz2]
  simp only [pay18_eq, pay23_eq, pay28_eq, pay33_eq, pay17_eq, pay22_eq, pay27_eq, pay32_eq, pay16_eq, pay26_eq, pay31_eq, pay30_eq, ← hidV_def, ← x1V_def]
  simp only [read7, read6, tail_read]
  simp (discharger := decide) only [View.readCov_skip, fill_read]
  rw [View.canon_unit_zero (S := S1x256x1024) hz3]
  rfl

/-- The body at the first block of a batch row, where the carry is zeroed: the carry it leaves. -/
theorem sout0_A_0_eq (c : Dev nD) (i : grid0.Coords) (arg2 : Memref sig .tc .vmem S1x256x1024 .f32) (harg2 : arg2.IsWhole) (arg3 : Memref sig .tc .vmem S1x256x512 .bf16) (harg3 : arg3.IsWhole) (arg4 : Memref sig .tc .vmem S1x512x256 .bf16) (harg4 : arg4.IsWhole) (arg5 : Memref sig .tc .vmem S1x1x6144 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x256x1024 .f32) (harg15 : arg15.IsWhole) (arg16 : Memref sig .tc .vmem S1x8x5632 .f32) (harg16 : arg16.IsWhole) (arg17 : Memref sig .tc .vmem S8x5632 .f32) (harg17 : arg17.IsWhole) (arg18 : Memref sig .tc .vmem S264x1408 .f32) (harg18 : arg18.IsWhole) (hc0 : cond0_0 i)
    (x0 : Vec F S1x256x1024 .f32) (x1 : Vec F S1x256x512 .bf16) (x2 : Vec F S1x512x256 .bf16) (x3 : Vec F S1x1x6144 .f32) (x4 : Vec F S512x1024 .bf16) (x5 : Vec F S512x1024 .bf16) (x6 : Vec F S1x1024 .f32) (x7 : Vec F S1x1024 .f32) (x8 : Vec F S1x1024 .f32) (x9 : Vec F S1024x5632 .bf16) (x10 : Vec F S3x5632 .f32) (x11 : Vec F S1x5632 .f32) (x12 : Vec F S2816x1024 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = carryV (hidV x0 x1 x2 x3 x4 x5 x6 x7) x9 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread,
    View.ld_unit_zero (S := S1x256x1024) hz3, View.ld_unit_zero (S := S1x256x512) hz3, View.ld_unit_zero (S := S1x512x256) hz3, View.ld_unit_zero (S := S1x1x6144) hz3,
    View.ld_unit_zero (S := S512x1024) hz2, View.ld_unit_zero (S := S1x1024) hz2]
  simp only [pay18_eq, pay23_eq, pay28_eq, pay33_eq, pay17_eq, pay22_eq, pay27_eq, pay32_eq, pay16_eq, pay26_eq, pay31_eq, pay30_eq, ← hidV_def, ← x1V_def]
  simp only [read7, read6, tail_read]
  simp only [pay19_eq, pay24_eq, pay29_eq, pay34_eq]
  exact carry_canon _ _ _ _ _

/-- The body at the first block of a batch row, where the carry is zeroed: the stored block of the second result. -/
theorem out0_A_14_eq (c : Dev nD) (i : grid0.Coords) (arg2 : Memref sig .tc .vmem S1x256x1024 .f32) (harg2 : arg2.IsWhole) (arg3 : Memref sig .tc .vmem S1x256x512 .bf16) (harg3 : arg3.IsWhole) (arg4 : Memref sig .tc .vmem S1x512x256 .bf16) (harg4 : arg4.IsWhole) (arg5 : Memref sig .tc .vmem S1x1x6144 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x5632 .f32) (harg12 : arg12.IsWhole) (arg13 : Memref sig .tc .vmem S1x5632 .f32) (harg13 : arg13.IsWhole) (arg14 : Memref sig .tc .vmem S2816x1024 .bf16) (harg14 : arg14.IsWhole) (arg15 : Memref sig .tc .vmem S1x256x1024 .f32) (harg15 : arg15.IsWhole) (arg16 : Memref sig .tc .vmem S1x8x5632 .f32) (harg16 : arg16.IsWhole) (arg17 : Memref sig .tc .vmem S8x5632 .f32) (harg17 : arg17.IsWhole) (arg18 : Memref sig .tc .vmem S264x1408 .f32) (harg18 : arg18.IsWhole) (hc0 : cond0_0 i)
    (x0 : Vec F S1x256x1024 .f32) (x1 : Vec F S1x256x512 .bf16) (x2 : Vec F S1x512x256 .bf16) (x3 : Vec F S1x1x6144 .f32) (x4 : Vec F S512x1024 .bf16) (x5 : Vec F S512x1024 .bf16) (x6 : Vec F S1x1024 .f32) (x7 : Vec F S1x1024 .f32) (x8 : Vec F S1x1024 .f32) (x9 : Vec F S1024x5632 .bf16) (x10 : Vec F S3x5632 .f32) (x11 : Vec F S1x5632 .f32) (x12 : Vec F S2816x1024 .bf16) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12 = k0_pay2 (carryV (hidV x0 x1 x2 x3 x4 x5 x6 x7) x9) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 x12)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread,
    View.ld_unit_zero (S := S1x256x1024) hz3, View.ld_unit_zero (S := S1x256x512) hz3, View.ld_unit_zero (S := S1x512x256) hz3, View.ld_unit_zero (S := S1x1x6144) hz3,
    View.ld_unit_zero (S := S512x1024) hz2, View.ld_unit_zero (S := S1x1024) hz2]
  simp only [pay18_eq, pay23_eq, pay28_eq, pay33_eq, pay17_eq, pay22_eq, pay27_eq, pay32_eq, pay16_eq, pay26_eq, pay31_eq, pay30_eq, ← hidV_def, ← x1V_def]
  simp only [read7, read6, tail_read]
  simp only [pay19_eq, pay24_eq, pay29_eq, pay34_eq]
  rw [View.canon_unit_zero (S := S1x8x5632) hz3]
  rw [View.readCov_eq_canon']
  rw [carry_canon]
  exact congrArg k0_pay2 (View.ld_unit_zero (S := S8x5632) hz2 _ _)

end Cert.PostPromptIdeal.Out
end
end
-- ==== Proof.PPIdx.lean ====
module
public import proofs.«01_k».proof.Proof.PPBody
public import proofs.«01_k».proof.Proof.PPSpec
@[expose] public section
set_option maxRecDepth 16384

/-! The closed form of the body, read at an index over the extended reals: the row formulas of PPSpec. -/

noncomputable section
open Idealize.ShloMosaic Idealize.ShloMosaic.TcCoe Idealize.SL.Sem
namespace Cert.PostPromptIdeal.Out
open Cert.PostPromptIdeal Cert.PostPromptIdeal.Gen Cert.PP

/-- The two halves of the output projection as one matrix. -/
def woF (x4 x5 : Vec Ideal S512x1024 .bf16) (k n : Fin 1024) : EReal :=
  if h : k.val < 512 then x4 (ix2 ⟨k.val, h⟩ n) else x5 (ix2 ⟨k.val - 512, by omega⟩ n)

variable (cy : Vec Ideal S8x5632 .f32) (x0 : Vec Ideal S1x256x1024 .f32) (x1 : Vec Ideal S1x256x512 .bf16) (x2 : Vec Ideal S1x512x256 .bf16) (x3 : Vec Ideal S1x1x6144 .f32)
    (x4 x5 : Vec Ideal S512x1024 .bf16) (x6 x7 x8 : Vec Ideal S1x1024 .f32) (x9 : Vec Ideal S1024x5632 .bf16) (x10 : Vec Ideal S3x5632 .f32)
    (x11 : Vec Ideal S1x5632 .f32) (x12 : Vec Ideal S2816x1024 .bf16)

/-- The residual row `r` of the block. -/
def X1b (r : Fin 256) : Fin 1024 → EReal :=
  x1R (fun n => x0 (ix3 0 r n)) (fun n => x3 (ix3 0 0 n)) (mixR (fun k => x1 (ix3 0 r k)) (fun k => x2 (ix3 0 k r)) (woF x4 x5)) (fun n => x6 (ix2 0 n))

/-- The up-projected row `r` of the block. -/
def UPb (r : Fin 256) : Fin 5632 → EReal :=
  upR (h2R (X1b x0 x1 x2 x3 x4 x5 x6 r) (fun n => x3 (ix3 0 0 n)) (fun n => x7 (ix2 0 n))) (fun k n => x9 (ix2 k n))

/-- The up-projected row `d` before row `r`, from the carry where that is before the block. -/
def backb (U : Fin 256 → Fin 5632 → EReal) (r : Fin 256) (d : Nat) (hd : d ≤ 8) (n : Fin 5632) : EReal :=
  if h : r.val < d then cy (ix2 ⟨8 - d + r.val, by omega⟩ n) else U ⟨r.val - d, by omega⟩ n

/-- The convolved row. -/
def CVb (r : Fin 256) : Fin 5632 → EReal :=
  convR (fun d n => x10 (ix2 d n)) (fun n => x11 (ix2 0 n)) (backb cy (UPb x0 x1 x2 x3 x4 x5 x6 x7 x9) r 2 (by decide))
    (backb cy (UPb x0 x1 x2 x3 x4 x5 x6 x7 x9) r 1 (by decide)) (UPb x0 x1 x2 x3 x4 x5 x6 x7 x9 r)

theorem mixb_apply (r : Fin 256) (n : Fin 1024) :
    k0_pay10 x1 x4 x2 x5 (ix2 r n) = mixR (fun k => x1 (ix3 0 r k)) (fun k => x2 (ix3 0 k r)) (woF x4 x5) n := by
  pointwise [k0_pay10]
  unfold mixR woF
  refine congrArg₂ (· + ·) (Finset.sum_congr rfl fun k _ => ?_) (Finset.sum_congr rfl fun k _ => ?_)
  · rw [dif_pos k.isLt]
  · rw [dif_neg (by simp)]
    simp

theorem x1b_apply (r : Fin 256) (n : Fin 1024) : x1V x0 x1 x2 x3 x4 x5 x6 (ix2 r n) = X1b x0 x1 x2 x3 x4 x5 x6 r n := by
  have H := mixb_apply x1 x2 x4 x5
  simp only [x1V, k0_pay13, k0_pay4, k0_pay6, k0_pay11, k0_pay12, k0_pay5]
  generalize k0_pay10 (F := Ideal) x1 x4 x2 x5 = mx at *
  pointwise
  simp only [H]
  rfl

theorem h2b_apply (r : Fin 256) (n : Fin 1024) : hidV x0 x1 x2 x3 x4 x5 x6 x7 (ix2 r n)
    = h2R (X1b x0 x1 x2 x3 x4 x5 x6 r) (fun n => x3 (ix3 0 0 n)) (fun n => x7 (ix2 0 n)) n := by
  have H := x1b_apply x0 x1 x2 x3 x4 x5 x6
  simp only [hidV, k0_pay14, ← x1V_def, k0_pay7, k0_pay8, k0_pay5]
  generalize x1V (F := Ideal) x0 x1 x2 x3 x4 x5 x6 = mx at *
  pointwise
  simp only [H]
  rfl

theorem upb_apply (c : Nat) (hc : c + 1408 ≤ 5632) (inb : ∀ a, (![0, c] : Fin 2 → Nat) a + (![1024, 1408] : Fin 2 → Nat) a ≤ S1024x5632.size a)
    (r : Fin 256) (n : Fin 1408) :
    k0_pay21 (hidV x0 x1 x2 x3 x4 x5 x6 x7) (View.ld x9 (Rect.unit ![0, c] ![1024, 1408] inb)) (ix2 r n)
      = UPb x0 x1 x2 x3 x4 x5 x6 x7 x9 r ⟨c + n.val, by omega⟩ := by
  have H := h2b_apply x0 x1 x2 x3 x4 x5 x6 x7
  generalize hidV (F := Ideal) x0 x1 x2 x3 x4 x5 x6 x7 = mx at *
  pointwise [k0_pay21]
  simp only [H]
  unfold UPb upR
  rfl

theorem convb_apply (c : Nat) (hc : c + 1408 ≤ 5632) (i9 : ∀ a, (![0, c] : Fin 2 → Nat) a + (![1024, 1408] : Fin 2 → Nat) a ≤ S1024x5632.size a)
    (iy : ∀ a, (![0, c] : Fin 2 → Nat) a + (![8, 1408] : Fin 2 → Nat) a ≤ S8x5632.size a)
    (i11 : ∀ a, (![0, c] : Fin 2 → Nat) a + (![1, 1408] : Fin 2 → Nat) a ≤ S1x5632.size a)
    (i0 : ∀ a, (![0, c] : Fin 2 → Nat) a + (![1, 1408] : Fin 2 → Nat) a ≤ S3x5632.size a)
    (i1 : ∀ a, (![1, c] : Fin 2 → Nat) a + (![1, 1408] : Fin 2 → Nat) a ≤ S3x5632.size a)
    (i2 : ∀ a, (![2, c] : Fin 2 → Nat) a + (![1, 1408] : Fin 2 → Nat) a ≤ S3x5632.size a)
    (r : Fin 256) (n : Fin 1408) :
    k0_pay20 (k0_pay21 (hidV x0 x1 x2 x3 x4 x5 x6 x7) (View.ld x9 (Rect.unit ![0, c] ![1024, 1408] i9)))
      (prevV 7 (by decide) (View.ld cy (Rect.unit ![0, c] ![8, 1408] iy)) (k0_pay21 (hidV x0 x1 x2 x3 x4 x5 x6 x7) (View.ld x9 (Rect.unit ![0, c] ![1024, 1408] i9))))
      (prevV 6 (by decide) (View.ld cy (Rect.unit ![0, c] ![8, 1408] iy)) (k0_pay21 (hidV x0 x1 x2 x3 x4 x5 x6 x7) (View.ld x9 (Rect.unit ![0, c] ![1024, 1408] i9))))
      (View.ld x11 (Rect.unit ![0, c] ![1, 1408] i11)) (View.ld x10 (Rect.unit ![0, c] ![1, 1408] i0))
      (View.ld x10 (Rect.unit ![1, c] ![1, 1408] i1)) (View.ld x10 (Rect.unit ![2, c] ![1, 1408] i2)) (ix2 r n)
      = CVb cy x0 x1 x2 x3 x4 x5 x6 x7 x9 x10 x11 r ⟨c + n.val, by omega⟩ := by
  have H := upb_apply x0 x1 x2 x3 x4 x5 x6 x7 x9 c hc i9
  have HP : ∀ (o : Nat) (ho : o ≤ 8) (d : Nat) (hd : d ≤ 8) (e : o + d = 8) (r : Fin 256) (n : Fin 1408),
      prevV o ho (View.ld cy (Rect.unit ![0, c] ![8, 1408] iy)) (k0_pay21 (hidV x0 x1 x2 x3 x4 x5 x6 x7) (View.ld x9 (Rect.unit ![0, c] ![1024, 1408] i9))) (ix2 r n)
        = backb cy (UPb x0 x1 x2 x3 x4 x5 x6 x7 x9) r d hd ⟨c + n.val, by omega⟩ := by
    intro o ho d hd e r n
    unfold prevV backb
    by_cases g : o + r.val < 8
    · rw [dif_pos (show o + ((ix2 r n : S256x1408.Idx) 0).val < 8 from g), dif_pos (by omega)]
      pointwise
      congr 2
      apply Fin.ext; simp; omega
    · rw [dif_neg (show ¬ o + ((ix2 r n : S256x1408.Idx) 0).val < 8 from g), dif_neg (by omega)]
      refine (H _ _).trans ?_
      congr 1
      apply Fin.ext; simp; omega
  have H7 := HP 7 (by decide) 1 (by decide) rfl
  have H6 := HP 6 (by decide) 2 (by decide) rfl
  generalize prevV 7 _ (View.ld cy (Rect.unit ![0, c] ![8, 1408] iy)) (k0_pay21 (hidV x0 x1 x2 x3 x4 x5 x6 x7) (View.ld x9 (Rect.unit ![0, c] ![1024, 1408] i9))) = p7 at *
  generalize prevV 6 _ (View.ld cy (Rect.unit ![0, c] ![8, 1408] iy)) (k0_pay21 (hidV x0 x1 x2 x3 x4 x5 x6 x7) (View.ld x9 (Rect.unit ![0, c] ![1024, 1408] i9))) = p6 at *
  generalize k0_pay21 (hidV x0 x1 x2 x3 x4 x5 x6 x7) (View.ld x9 (Rect.unit ![0, c] ![1024, 1408] i9)) = u at *
  pointwise [k0_pay20]
  simp only [H, H7, H6]
  rfl

theorem pay25_apply (z : FVec Ideal S256x1024 .f32) (a g p q : FVec Ideal S256x1408 .f32) (b d e f : Vec Ideal S1x1408 .f32)
    (wd : Vec Ideal S1408x1024 .bf16) (r : Fin 256) (n : Fin 1024) :
    k0_pay25 z a g p q b d e f wd (ix2 r n) = z (ix2 r n) + ∑ k : Fin 1408,
      a (ix2 r k) * Ideal.logistic (a (ix2 r k)) * k0_pay20 g p q b d e f (ix2 r k) * wd (ix2 k n) := by
  pointwise [k0_pay25, k0_pay20]

theorem pay35_apply (a g p q : FVec Ideal S256x1408 .f32) (b d e f : Vec Ideal S1x1408 .f32) (r : Fin 256) (k : Fin 1408) :
    k0_pay35 a g p q b d e f (ix2 r k) = a (ix2 r k) * Ideal.logistic (a (ix2 r k)) * k0_pay20 g p q b d e f (ix2 r k) := by
  pointwise [k0_pay35, k0_pay20]

theorem pay1_apply (ff0 : FVec Ideal S256x1024 .f32) (x1v : FVec Ideal S256x1024 .f32) (act : FVec Ideal S256x1408 .bf16)
    (wd : Vec Ideal S1408x1024 .bf16) (r : Fin 256) (n : Fin 1024) :
    k0_pay1 (k0_pay9 x3) x1v ff0 act wd x8 (ix3 0 r n)
      = yR (fun n => x1v (ix2 r n)) (fun n => x3 (ix3 0 0 n)) (fun n => x8 (ix2 0 n))
          (fun n => ff0 (ix2 r n) + ∑ k : Fin 1408, act (ix2 r k) * wd (ix2 k n)) n := by
  pointwise [k0_pay1, k0_pay9, k0_pay5]
  rfl

theorem yR_congr (a : Fin 1024 → EReal) (b : Fin 6144 → EReal) (g f f' : Fin 1024 → EReal) (h : ∀ n, f n = f' n) (n : Fin 1024) :
    yR a b g f n = yR a b g f' n := by rw [funext h]

/-- The block of the first result, row `r`. -/
theorem yV_apply (r : Fin 256) (n : Fin 1024) :
    yV cy x0 x1 x2 x3 x4 x5 x6 x7 x8 x9 x10 x11 x12 (ix3 0 r n)
      = yR (X1b x0 x1 x2 x3 x4 x5 x6 r) (fun n => x3 (ix3 0 0 n)) (fun n => x8 (ix2 0 n))
          (ffnR (CVb cy x0 x1 x2 x3 x4 x5 x6 x7 x9 x10 x11 r) (fun k n => x12 (ix2 k n))) n := by
  have C := convb_apply cy x0 x1 x2 x3 x4 x5 x6 x7 x9 x10 x11
  have HX : (fun n => x1V x0 x1 x2 x3 x4 x5 x6 (ix2 r n)) = X1b x0 x1 x2 x3 x4 x5 x6 r := funext fun n => x1b_apply x0 x1 x2 x3 x4 x5 x6 r n
  unfold yV
  rw [pay1_apply, HX]
  refine yR_congr _ _ _ _ _ (fun n => ?_) n
  rw [pay25_apply]
  simp only [pay35_apply]
  simp only [w0, w1, w2, w3]
  simp only [C 0 (by decide), C 1408 (by decide), C 2816 (by decide), C 4224 (by decide)]
  unfold ffnR
  rw [Fin.sum_univ_two_halves 1408 1408 rfl]
  pointwise [k0_pay15]
  refine congrArg₂ (· + ·) (Finset.sum_congr rfl fun k _ => ?_) (Finset.sum_congr rfl fun k _ => ?_)
  · rfl
  · have e1 : (⟨4224 + k.val, by omega⟩ : Fin 5632) = ⟨2816 + (1408 + k.val), by omega⟩ := Fin.ext (by show 4224 + k.val = 2816 + (1408 + k.val); omega)
    unfold actR
    rw [e1]

/-- The carry of the block: rows 248 to 255 of its up-projection. -/
theorem carryV_apply (r : Fin 8) (n : Fin 5632) :
    carryV (hidV x0 x1 x2 x3 x4 x5 x6 x7) x9 (ix2 r n) = UPb x0 x1 x2 x3 x4 x5 x6 x7 x9 ⟨248 + r.val, by omega⟩ n := by
  have H := upb_apply x0 x1 x2 x3 x4 x5 x6 x7 x9
  unfold carryV cat4
  dsimp only
  have hn : ((ix2 r n : S8x5632.Idx) 1).val = n.val := rfl
  have hlt : n.val < 5632 := n.isLt
  by_cases h1 : n.val < 1408
  · rw [dif_pos (show ((ix2 r n : S8x5632.Idx) 1).val < 1408 from h1)]
    refine (H 0 (by decide) _ _ _).trans (congrArg _ (Fin.ext ?_))
    show 0 + n.val = n.val
    omega
  rw [dif_neg (show ¬ ((ix2 r n : S8x5632.Idx) 1).val < 1408 from h1)]
  by_cases h2 : n.val < 2816
  · rw [dif_pos (show ((ix2 r n : S8x5632.Idx) 1).val < 2816 from h2)]
    refine (H 1408 (by decide) _ _ _).trans (congrArg _ (Fin.ext ?_))
    show 1408 + (n.val - 1408) = n.val
    omega
  rw [dif_neg (show ¬ ((ix2 r n : S8x5632.Idx) 1).val < 2816 from h2)]
  by_cases h3 : n.val < 4224
  · rw [dif_pos (show ((ix2 r n : S8x5632.Idx) 1).val < 4224 from h3)]
    refine (H 2816 (by decide) _ _ _).trans (congrArg _ (Fin.ext ?_))
    show 2816 + (n.val - 2816) = n.val
    omega
  rw [dif_neg (show ¬ ((ix2 r n : S8x5632.Idx) 1).val < 4224 from h3)]
  refine (H 4224 (by decide) _ _ _).trans (congrArg _ (Fin.ext ?_))
  show 4224 + (n.val - 4224) = n.val
  omega

end Cert.PostPromptIdeal.Out
end
end
-- ==== Proof.PPRef.lean ====
module
public import proofs.«01_k».proof.Proof.Gen.PostPromptRefIdeal.Run
public import proofs.«01_k».proof.Proof.Gen.PostPromptRefIdeal.Read
public import proofs.«01_k».proof.Proof.PPSpec
public import Idealize.ShloMosaic.Lib.Pointwise
@[expose] public section
set_option maxRecDepth 16384

/-! The reference of the post-attention half, read at an index: each stage is the row formula of PPSpec. -/

noncomputable section
open Idealize.ShloMosaic Idealize.ShloMosaic.TcCoe Idealize.SL.Sem
namespace Cert.PostPromptRefIdeal.Out
open Cert.PostPromptRefIdeal Cert.PostPromptRefIdeal.Read Cert.PP
variable (x0 : (⟨S2x8192x1024, .f32⟩ : BufTy).Contents (Elt Ideal)) (x1 : (⟨S2x8192x512, .bf16⟩ : BufTy).Contents (Elt Ideal)) (x2 : (⟨S2x512x8192, .bf16⟩ : BufTy).Contents (Elt Ideal)) (x3 : (⟨S2x1x6144, .f32⟩ : BufTy).Contents (Elt Ideal)) (x4 : (⟨S1x1024x1024, .f32⟩ : BufTy).Contents (Elt Ideal)) (x5 x6 x7 : (⟨S1x1024, .f32⟩ : BufTy).Contents (Elt Ideal)) (x8 : (⟨S1x1024x5632, .f32⟩ : BufTy).Contents (Elt Ideal)) (x9 : (⟨S1x3x5632, .f32⟩ : BufTy).Contents (Elt Ideal)) (x10 : (⟨S1x5632, .f32⟩ : BufTy).Contents (Elt Ideal)) (x11 : (⟨S1x2816x1024, .f32⟩ : BufTy).Contents (Elt Ideal))

/-- The residual row of batch row `b` at position `s`. -/
def X1 (b : Fin 2) (s : Fin 8192) : Fin 1024 → EReal :=
  x1R (fun n => x0 (ix3 b s n)) (fun n => x3 (ix3 b 0 n))
    (mixR (fun k => x1 (ix3 b s k)) (fun k => x2 (ix3 b k s)) (fun k n => x4 (ix3 0 k n))) (fun n => x5 (ix2 0 n))

/-- The up-projected row. -/
def UP (b : Fin 2) (s : Fin 8192) : Fin 5632 → EReal :=
  upR (h2R (X1 x0 x1 x2 x3 x4 x5 b s) (fun n => x3 (ix3 b 0 n)) (fun n => x6 (ix2 0 n))) (fun k n => x8 (ix3 0 k n))

/-- The convolved row. -/
def CV (b : Fin 2) (s : Fin 8192) : Fin 5632 → EReal :=
  convR (fun d n => x9 (ix3 0 d n)) (fun n => x10 (ix2 0 n)) (backR (UP x0 x1 x2 x3 x4 x5 x6 x8 b) s 2)
    (backR (UP x0 x1 x2 x3 x4 x5 x6 x8 b) s 1) (UP x0 x1 x2 x3 x4 x5 x6 x8 b s)

/-- The result row. -/
def Y (b : Fin 2) (s : Fin 8192) : Fin 1024 → EReal :=
  yR (X1 x0 x1 x2 x3 x4 x5 b s) (fun n => x3 (ix3 b 0 n)) (fun n => x7 (ix2 0 n))
    (ffnR (CV x0 x1 x2 x3 x4 x5 x6 x8 x9 x10 b s) (fun k n => x11 (ix3 0 k n)))

theorem mix_apply (b : Fin 2) (s : Fin 8192) (n : Fin 1024) :
    val_main_v11 x1 x2 x4 (ix3 b s n) = mixR (fun k => x1 (ix3 b s k)) (fun k => x2 (ix3 b k s)) (fun k n => x4 (ix3 0 k n)) n := by
  pointwise [val_main_v11, val_main_v10, val_main_v9, val_main_v8, val_main_v7, val_main_v6]
  rfl

theorem x1_apply (b : Fin 2) (s : Fin 8192) (n : Fin 1024) :
    val_main_v28 x0 x1 x2 x3 x4 x5 (ix3 b s n) = X1 x0 x1 x2 x3 x4 x5 b s n := by
  have H := mix_apply x1 x2 x4
  simp only [val_main_v28, val_main_v27, val_main_v26, val_main_v25, val_main_v24, val_main_v23, val_main_v22, val_main_v21, val_main_v20, val_main_v19, val_main_v18, val_main_v17, val_main_v16, val_main_v15, val_main_v14, val_main_v13, val_main_v12, val_main_cst, val_main_cst_0, val_main_cst_1, val_main_v2]
  generalize val_main_v11 (F := Ideal) x1 x2 x4 = mx at *
  pointwise
  simp only [H]
  rfl

theorem h2_apply (b : Fin 2) (s : Fin 8192) (n : Fin 1024) :
    val_main_v48 x0 x1 x2 x3 x4 x5 x6 (ix3 b s n)
      = h2R (X1 x0 x1 x2 x3 x4 x5 b s) (fun n => x3 (ix3 b 0 n)) (fun n => x6 (ix2 0 n)) n := by
  have H := x1_apply x0 x1 x2 x3 x4 x5
  simp only [val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_cst_2, val_main_cst_3, val_main_cst_4, val_main_cst_5, val_main_v3, val_main_v4]
  generalize val_main_v28 (F := Ideal) x0 x1 x2 x3 x4 x5 = mx at *
  pointwise
  simp only [H]
  rfl

theorem up_apply (b : Fin 2) (s : Fin 8192) (n : Fin 5632) :
    val_main_v50 x0 x1 x2 x3 x4 x5 x6 x8 (ix3 b s n) = UP x0 x1 x2 x3 x4 x5 x6 x8 b s n := by
  have H := h2_apply x0 x1 x2 x3 x4 x5 x6
  simp only [val_main_v50, val_main_v49]
  generalize val_main_v48 (F := Ideal) x0 x1 x2 x3 x4 x5 x6 = mx at *
  pointwise
  simp only [H]
  rfl

theorem cat_apply (z : S2x2x5632.Idx → EReal) (u : S2x8192x5632.Idx → EReal) (h) (b : Fin 2) (s : Fin 8194) (n : Fin 5632) :
    concatenate S2x8194x5632 1 [⟨S2x2x5632, z⟩, ⟨S2x8192x5632, u⟩] h (ix3 b s n)
      = if g : s.val < 2 then z (ix3 b ⟨s.val, g⟩ n) else u (ix3 b ⟨s.val - 2, by omega⟩ n) := by
  pointwise

theorem conv_apply (b : Fin 2) (s : Fin 8192) (n : Fin 5632) :
    val_main_v78 x0 x1 x2 x3 x4 x5 x6 x8 x9 x10 (ix3 b s n) = CV x0 x1 x2 x3 x4 x5 x6 x8 x9 x10 b s n := by
  have H : ∀ (b : Fin 2) (s : Fin 8194) (n : Fin 5632), val_main_v52 x0 x1 x2 x3 x4 x5 x6 x8 (ix3 b s n) =
      if g : s.val < 2 then 0 else UP x0 x1 x2 x3 x4 x5 x6 x8 b ⟨s.val - 2, by omega⟩ n := by
    intro b s n
    unfold val_main_v52
    rw [cat_apply]
    by_cases g : s.val < 2
    · rw [dif_pos g, dif_pos g]; pointwise [val_main_v51, val_main_cst_6]
    · rw [dif_neg g, dif_neg g, up_apply]
  simp only [val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_cst_7]
  generalize val_main_v52 (F := Ideal) x0 x1 x2 x3 x4 x5 x6 x8 = mx at *
  pointwise
  simp only [H]
  have e0 : (if g : s.val < 2 then 0 else UP x0 x1 x2 x3 x4 x5 x6 x8 b ⟨s.val - 2, by omega⟩ n) = backR (UP x0 x1 x2 x3 x4 x5 x6 x8 b) s 2 n := by
    unfold backR; split <;> rfl
  have e1 : (if g : 1 + s.val < 2 then 0 else UP x0 x1 x2 x3 x4 x5 x6 x8 b ⟨1 + s.val - 2, by omega⟩ n) = backR (UP x0 x1 x2 x3 x4 x5 x6 x8 b) s 1 n := by
    unfold backR
    by_cases g : s.val < 1
    · rw [dif_pos (by omega), if_pos g]
    · rw [dif_neg (by omega), if_neg g]; congr 2; omega
  have e2 : (if g : 2 + s.val < 2 then 0 else UP x0 x1 x2 x3 x4 x5 x6 x8 b ⟨2 + s.val - 2, by omega⟩ n) = UP x0 x1 x2 x3 x4 x5 x6 x8 b s n := by
    rw [dif_neg (by omega)]; congr 2; omega
  rw [e0, e1, e2]
  unfold CV convR
  rw [← add_assoc, ← add_assoc]

theorem logistic_eq (a : EReal) : Ideal.div 1 (1 + Ideal.exp (-a)) = Ideal.logistic a := by
  rfl

theorem ffn_apply (b : Fin 2) (s : Fin 8192) (n : Fin 1024) :
    val_main_v84 x0 x1 x2 x3 x4 x5 x6 x8 x9 x10 x11 (ix3 b s n)
      = ffnR (CV x0 x1 x2 x3 x4 x5 x6 x8 x9 x10 b s) (fun k n => x11 (ix3 0 k n)) n := by
  have H := conv_apply x0 x1 x2 x3 x4 x5 x6 x8 x9 x10
  simp only [val_main_v84, val_main_v83, val_main_v82, val_main_v81, val_main_v80, val_main_v79, val_main_call0_v0, val_main_call0_v1, val_main_call0_cst, val_main_call0_v2, val_main_call0_v3, val_main_call0_cst_0, val_main_call0_v4, val_main_call0_v5]
  generalize val_main_v78 (F := Ideal) x0 x1 x2 x3 x4 x5 x6 x8 x9 x10 = mx at *
  pointwise
  simp only [H, logistic_eq]
  rfl

/-- The first result of the reference is the row formula. -/
theorem y_apply (b : Fin 2) (s : Fin 8192) (n : Fin 1024) :
    val_main_v101 x0 x1 x2 x3 x4 x5 x6 x7 x8 x9 x10 x11 (ix3 b s n) = Y x0 x1 x2 x3 x4 x5 x6 x7 x8 x9 x10 x11 b s n := by
  have H := ffn_apply x0 x1 x2 x3 x4 x5 x6 x8 x9 x10 x11
  have H1 := x1_apply x0 x1 x2 x3 x4 x5
  simp only [val_main_v101, val_main_v100, val_main_v99, val_main_v98, val_main_v97, val_main_v96, val_main_v95, val_main_v94, val_main_v93, val_main_v92, val_main_v91, val_main_v90, val_main_v89, val_main_v88, val_main_v87, val_main_v86, val_main_v85, val_main_cst_8, val_main_cst_9, val_main_cst_10, val_main_v5]
  generalize val_main_v84 (F := Ideal) x0 x1 x2 x3 x4 x5 x6 x8 x9 x10 x11 = mx at *
  generalize val_main_v28 (F := Ideal) x0 x1 x2 x3 x4 x5 = my at *
  pointwise
  simp only [H, H1]
  rfl

/-- The second result of the reference: the up-projection of the last 8 positions. -/
theorem tail_apply (b : Fin 2) (r : Fin 8) (n : Fin 5632) :
    val_main_v102 x0 x1 x2 x3 x4 x5 x6 x8 (ix3 b r n) = UP x0 x1 x2 x3 x4 x5 x6 x8 b ⟨8184 + r.val, by omega⟩ n := by
  rw [val_main_v102_apply]
  unfold val_main_v52
  have e : idx_main_v102 (ix3 b r n) = ix3 b (⟨8186 + r.val, by omega⟩ : Fin 8194) n := by
    funext a; fin_cases a <;> apply Fin.ext <;> simp [ix3]
  rw [e, cat_apply, dif_neg (by simp; omega), up_apply]
  congr 2
  simp; omega
end Cert.PostPromptRefIdeal.Out
end
end
-- ==== Proof.PPBlk.lean ====
module
public import proofs.«01_k».proof.Proof.PPIdx
public import proofs.«01_k».proof.Proof.PPRef
public import proofs.«01_k».proof.Proof.Gen.PostPromptIdeal.Value
@[expose] public section
set_option maxRecDepth 16384

/-! The blocks of the post-attention kernel as parts of its arguments, and its results as the row formulas of the reference:
the carry after a block is the last 8 rows of that block's up-projection, so a block finds the rows just before its own. -/

noncomputable section
open Idealize.ShloMosaic Idealize.ShloMosaic.TcCoe Idealize.SL.Sem
namespace Cert.PostPromptIdeal.Out
open Cert.PostPromptIdeal Cert.PostPromptIdeal.Gen Cert.PP
variable (m : (ℓ : Loc nD τ sig) → Buf (Elt Ideal) ℓ)

/-! The arguments, as arrays. -/
abbrev a0 (c : Dev nD) : S2x8192x1024.Idx → EReal := m ((c : Thread nD τ).loc main_arg0)
abbrev a1 (c : Dev nD) : S2x8192x512.Idx → EReal := m ((c : Thread nD τ).loc main_arg1)
abbrev a2 (c : Dev nD) : S2x512x8192.Idx → EReal := m ((c : Thread nD τ).loc main_arg2)
abbrev a3 (c : Dev nD) : S2x1x6144.Idx → EReal := m ((c : Thread nD τ).loc main_arg3)
abbrev a4 (c : Dev nD) : S1x1024x1024.Idx → EReal := m ((c : Thread nD τ).loc main_arg4)
abbrev a5 (c : Dev nD) : S1x1024.Idx → EReal := m ((c : Thread nD τ).loc main_arg5)
abbrev a6 (c : Dev nD) : S1x1024.Idx → EReal := m ((c : Thread nD τ).loc main_arg6)
abbrev a7 (c : Dev nD) : S1x1024.Idx → EReal := m ((c : Thread nD τ).loc main_arg7)
abbrev a8 (c : Dev nD) : S1x1024x5632.Idx → EReal := m ((c : Thread nD τ).loc main_arg8)
abbrev a9 (c : Dev nD) : S1x3x5632.Idx → EReal := m ((c : Thread nD τ).loc main_arg9)
abbrev a10 (c : Dev nD) : S1x5632.Idx → EReal := m ((c : Thread nD τ).loc main_arg10)
abbrev a11 (c : Dev nD) : S1x2816x1024.Idx → EReal := m ((c : Thread nD τ).loc main_arg11)

/-! What the host lines before the kernel write. -/

theorem V_v2 (c : Dev nD) (k : Fin 512) (n : Fin 1024) : (V m c main_v2 : S512x1024.Idx → EReal) (ix2 k n) = a4 m c (ix3 0 ⟨k.val, by omega⟩ n) := by
  have e : (V m c main_v2 : S512x1024.Idx → EReal) = truncf (F := Ideal) .bf16 (shapeCast S512x1024 (extractStridedSlice S1x512x1024 ![0, 0, 0] (a4 m c) slices_S1x1024x1024_S1x512x1024_0_0_0) shapeCasts_S1x512x1024_S512x1024) bitsLt_bf16_f32 := by
    unfold_abbrev_sides
    after_results
    rfl
  rw [e]
  pointwise

theorem V_v5 (c : Dev nD) (k : Fin 512) (n : Fin 1024) : (V m c main_v5 : S512x1024.Idx → EReal) (ix2 k n) = a4 m c (ix3 0 ⟨512 + k.val, by omega⟩ n) := by
  have e : (V m c main_v5 : S512x1024.Idx → EReal) = truncf (F := Ideal) .bf16 (shapeCast S512x1024 (extractStridedSlice S1x512x1024 ![0, 512, 0] (a4 m c) slices_S1x1024x1024_S1x512x1024_0_512_0) shapeCasts_S1x512x1024_S512x1024) bitsLt_bf16_f32 := by
    unfold_abbrev_sides
    after_results
    rfl
  rw [e]
  pointwise

theorem V_v7 (c : Dev nD) (n : Fin 1024) : (V m c main_v7 : S1x1024.Idx → EReal) (ix2 0 n) = a5 m c (ix2 0 n) := by
  have e : (V m c main_v7 : S1x1024.Idx → EReal) = shapeCast S1x1024 (shapeCast S1024 (a5 m c) shapeCasts_S1x1024_S1024) shapeCasts_S1024_S1x1024 := by
    unfold_abbrev_sides
    after_results
    rfl
  rw [e]
  pointwise

theorem V_v9 (c : Dev nD) (n : Fin 1024) : (V m c main_v9 : S1x1024.Idx → EReal) (ix2 0 n) = a6 m c (ix2 0 n) := by
  have e : (V m c main_v9 : S1x1024.Idx → EReal) = shapeCast S1x1024 (shapeCast S1024 (a6 m c) shapeCasts_S1x1024_S1024) shapeCasts_S1024_S1x1024 := by
    unfold_abbrev_sides
    after_results
    rfl
  rw [e]
  pointwise

theorem V_v11 (c : Dev nD) (n : Fin 1024) : (V m c main_v11 : S1x1024.Idx → EReal) (ix2 0 n) = a7 m c (ix2 0 n) := by
  have e : (V m c main_v11 : S1x1024.Idx → EReal) = shapeCast S1x1024 (shapeCast S1024 (a7 m c) shapeCasts_S1x1024_S1024) shapeCasts_S1024_S1x1024 := by
    unfold_abbrev_sides
    after_results
    rfl
  rw [e]
  pointwise

theorem V_v13 (c : Dev nD) (k : Fin 1024) (n : Fin 5632) : (V m c main_v13 : S1024x5632.Idx → EReal) (ix2 k n) = a8 m c (ix3 0 k n) := by
  have e : (V m c main_v13 : S1024x5632.Idx → EReal) = truncf (F := Ideal) .bf16 (shapeCast S1024x5632 (a8 m c) shapeCasts_S1x1024x5632_S1024x5632) bitsLt_bf16_f32 := by
    unfold_abbrev_sides
    after_results
    rfl
  rw [e]
  pointwise

theorem V_v14 (c : Dev nD) (k : Fin 3) (n : Fin 5632) : (V m c main_v14 : S3x5632.Idx → EReal) (ix2 k n) = a9 m c (ix3 0 k n) := by
  have e : (V m c main_v14 : S3x5632.Idx → EReal) = shapeCast S3x5632 (a9 m c) shapeCasts_S1x3x5632_S3x5632 := by
    unfold_abbrev_sides
    after_results
    rfl
  rw [e]
  pointwise

theorem V_v16 (c : Dev nD) (n : Fin 5632) : (V m c main_v16 : S1x5632.Idx → EReal) (ix2 0 n) = a10 m c (ix2 0 n) := by
  have e : (V m c main_v16 : S1x5632.Idx → EReal) = shapeCast S1x5632 (shapeCast S5632 (a10 m c) shapeCasts_S1x5632_S5632) shapeCasts_S5632_S1x5632 := by
    unfold_abbrev_sides
    after_results
    rfl
  rw [e]
  pointwise

theorem V_v18 (c : Dev nD) (k : Fin 2816) (n : Fin 1024) : (V m c main_v18 : S2816x1024.Idx → EReal) (ix2 k n) = a11 m c (ix3 0 k n) := by
  have e : (V m c main_v18 : S2816x1024.Idx → EReal) = truncf (F := Ideal) .bf16 (shapeCast S2816x1024 (a11 m c) shapeCasts_S1x2816x1024_S2816x1024) bitsLt_bf16_f32 := by
    unfold_abbrev_sides
    after_results
    rfl
  rw [e]
  pointwise

/-! The batch row and the positions of the block of grid point `t`. -/

abbrev bOf (t : Fin cfg0.N) : Fin 2 := ⟨t.val / 32, by have := lt_of_lt_of_eq t.isLt N_0; omega⟩
abbrev sOf (t : Fin cfg0.N) (r : Fin 256) : Fin 8192 := ⟨256 * (t.val % 32) + r.val, by omega⟩

/-! Each window's block, at an index. -/

theorem idx0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)

theorem blk0 (c : Dev nD) (t : Fin cfg0.N) (r : Fin 256) (n : Fin 1024) : (iblk m c 0 t : S1x256x1024.Idx → EReal) (ix3 0 r n) = a0 m c (ix3 (bOf t) (sOf t r) n) := by
  obtain ⟨h0, h1, h2⟩ := idx0 t
  unfold iblk
  rw [View.read_apply]
  refine Eq.trans ?_ (congrFun (V_main_arg0 m c) (ix3 (bOf t) (sOf t r) n))
  show V m c main_arg0 _ = V m c main_arg0 _
  congr 1
  funext a
  apply Fin.ext
  match a with
  | ⟨0, _⟩ => show win0_0.index t 0 * 1 + 1 * 0 = _; rw [h0]; simp [ix3]; try omega
  | ⟨1, _⟩ => show win0_0.index t 1 * 256 + 1 * r.val = _; rw [h1]; simp [ix3]; try omega
  | ⟨2, _⟩ => show win0_0.index t 2 * 1024 + 1 * n.val = _; rw [h2]; simp [ix3]

theorem idx1 : ∀ t : Fin cfg0.N, win0_1.index t (0 : Fin 3) = t.val / 32 ∧ win0_1.index t (1 : Fin 3) = t.val % 32 ∧ win0_1.index t (2 : Fin 3) = 0 :=
  (by decide +kernel : ∀ t : Fin grid0.N, _)

theorem blk1 (c : Dev nD) (t : Fin cfg0.N) (r : Fin 256) (n : Fin 512) : (iblk m c 1 t : S1x256x512.Idx → EReal) (ix3 0 r n) = a1 m c (ix3 (bOf t) (sOf t r) n) := by
  obtain ⟨h0, h1, h2⟩ := idx1 t
  unfold iblk
  rw [View.read_apply]
  refine Eq.trans ?_ (congrFun (V_main_arg1 m c) (ix3 (bOf t) (sOf t r) n))
  show V m c main_arg1 _ = V m c main_arg1 _
  congr 1
  funext a
  apply Fin.ext
  match a with
  | ⟨0, _⟩ => show win0_1.index t 0 * 1 + 1 * 0 = _; rw [h0]; simp [ix3]; try omega
  | ⟨1, _⟩ => show win0_1.index t 1 * 256 + 1 * r.val = _; rw [h1]; simp [ix3]; try omega
  | ⟨2, _⟩ => show win0_1.index t 2 * 512 + 1 * n.val = _; rw [h2]; simp [ix3]

theorem idx2 : ∀ t : Fin cfg0.N, win0_2.index t (0 : Fin 3) = t.val / 32 ∧ win0_2.index t (1 : Fin 3) = 0 ∧ win0_2.index t (2 : Fin 3) = t.val % 32 :=
  (by decide +kernel : ∀ t : Fin grid0.N, _)

theorem blk2 (c : Dev nD) (t : Fin cfg0.N) (n : Fin 512) (r : Fin 256) : (iblk m c 2 t : S1x512x256.Idx → EReal) (ix3 0 n r) = a2 m c (ix3 (bOf t) n (sOf t r)) := by
  obtain ⟨h0, h1, h2⟩ := idx2 t
  unfold iblk
  rw [View.read_apply]
  refine Eq.trans ?_ (congrFun (V_main_arg2 m c) (ix3 (bOf t) n (sOf t r)))
  show V m c main_arg2 _ = V m c main_arg2 _
  congr 1
  funext a
  apply Fin.ext
  match a with
  | ⟨0, _⟩ => show win0_2.index t 0 * 1 + 1 * 0 = _; rw [h0]; simp [ix3]; try omega
  | ⟨1, _⟩ => show win0_2.index t 1 * 512 + 1 * n.val = _; rw [h1]; simp [ix3]
  | ⟨2, _⟩ => show win0_2.index t 2 * 256 + 1 * r.val = _; rw [h2]; simp [ix3]; try omega

theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, _)

theorem blk3 (c : Dev nD) (t : Fin cfg0.N) (n : Fin 6144) : (iblk m c 3 t : S1x1x6144.Idx → EReal) (ix3 0 0 n) = a3 m c (ix3 (bOf t) 0 n) := by
  obtain ⟨h0, h1, h2⟩ := idx3 t
  unfold iblk
  rw [View.read_apply]
  refine Eq.trans ?_ (congrFun (V_main_arg3 m c) (ix3 (bOf t) 0 n))
  show V m c main_arg3 _ = V m c main_arg3 _
  congr 1
  funext a
  apply Fin.ext
  match a with
  | ⟨0, _⟩ => show win0_3.index t 0 * 1 + 1 * 0 = _; rw [h0]; simp [ix3]; try omega
  | ⟨1, _⟩ => show win0_3.index t 1 * 1 + 1 * 0 = _; rw [h1]; simp [ix3]
  | ⟨2, _⟩ => show win0_3.index t 2 * 6144 + 1 * n.val = _; rw [h2]; simp [ix3]

theorem idx4 : ∀ t : Fin cfg0.N, win0_4.index t (0 : Fin 2) = 0 ∧ win0_4.index t (1 : Fin 2) = 0 :=
  (by decide +kernel : ∀ t : Fin grid0.N, _)

theorem blk4 (c : Dev nD) (t : Fin cfg0.N) (k : Fin 512) (n : Fin 1024) : (iblk m c 4 t : S512x1024.Idx → EReal) (ix2 k n) = a4 m c (ix3 0 ⟨k.val, by omega⟩ n) := by
  obtain ⟨h0, h1⟩ := idx4 t
  unfold iblk
  rw [View.read_apply]
  refine Eq.trans ?_ (V_v2 m c k n)
  show V m c main_v2 _ = V m c main_v2 _
  congr 1
  funext a
  apply Fin.ext
  match a with
  | ⟨0, _⟩ => show win0_4.index t 0 * 512 + 1 * k.val = _; rw [h0]; simp [ix2]
  | ⟨1, _⟩ => show win0_4.index t 1 * 1024 + 1 * n.val = _; rw [h1]; simp [ix2]

theorem idx5 : ∀ t : Fin cfg0.N, win0_5.index t (0 : Fin 2) = 0 ∧ win0_5.index t (1 : Fin 2) = 0 :=
  (by decide +kernel : ∀ t : Fin grid0.N, _)

theorem blk5 (c : Dev nD) (t : Fin cfg0.N) (k : Fin 512) (n : Fin 1024) : (iblk m c 5 t : S512x1024.Idx → EReal) (ix2 k n) = a4 m c (ix3 0 ⟨512 + k.val, by omega⟩ n) := by
  obtain ⟨h0, h1⟩ := idx5 t
  unfold iblk
  rw [View.read_apply]
  refine Eq.trans ?_ (V_v5 m c k n)
  show V m c main_v5 _ = V m c main_v5 _
  congr 1
  funext a
  apply Fin.ext
  match a with
  | ⟨0, _⟩ => show win0_5.index t 0 * 512 + 1 * k.val = _; rw [h0]; simp [ix2]
  | ⟨1, _⟩ => show win0_5.index t 1 * 1024 + 1 * n.val = _; rw [h1]; simp [ix2]

theorem idx6 : ∀ t : Fin cfg0.N, win0_6.index t (0 : Fin 2) = 0 ∧ win0_6.index t (1 : Fin 2) = 0 :=
  (by decide +kernel : ∀ t : Fin grid0.N, _)

theorem blk6 (c : Dev nD) (t : Fin cfg0.N) (n : Fin 1024) : (iblk m c 6 t : S1x1024.Idx → EReal) (ix2 0 n) = a5 m c (ix2 0 n) := by
  obtain ⟨h0, h1⟩ := idx6 t
  unfold iblk
  rw [View.read_apply]
  refine Eq.trans ?_ (V_v7 m c n)
  show V m c main_v7 _ = V m c main_v7 _
  congr 1
  funext a
  apply Fin.ext
  match a with
  | ⟨0, _⟩ => show win0_6.index t 0 * 1 + 1 * 0 = _; rw [h0]; simp [ix2]
  | ⟨1, _⟩ => show win0_6.index t 1 * 1024 + 1 * n.val = _; rw [h1]; simp [ix2]

theorem idx7 : ∀ t : Fin cfg0.N, win0_7.index t (0 : Fin 2) = 0 ∧ win0_7.index t (1 : Fin 2) = 0 :=
  (by decide +kernel : ∀ t : Fin grid0.N, _)

theorem blk7 (c : Dev nD) (t : Fin cfg0.N) (n : Fin 1024) : (iblk m c 7 t : S1x1024.Idx → EReal) (ix2 0 n) = a6 m c (ix2 0 n) := by
  obtain ⟨h0, h1⟩ := idx7 t
  unfold iblk
  rw [View.read_apply]
  refine Eq.trans ?_ (V_v9 m c n)
  show V m c main_v9 _ = V m c main_v9 _
  congr 1
  funext a
  apply Fin.ext
  match a with
  | ⟨0, _⟩ => show win0_7.index t 0 * 1 + 1 * 0 = _; rw [h0]; simp [ix2]
  | ⟨1, _⟩ => show win0_7.index t 1 * 1024 + 1 * n.val = _; rw [h1]; simp [ix2]

theorem idx8 : ∀ t : Fin cfg0.N, win0_8.index t (0 : Fin 2) = 0 ∧ win0_8.index t (1 : Fin 2) = 0 :=
  (by decide +kernel : ∀ t : Fin grid0.N, _)

theorem blk8 (c : Dev nD) (t : Fin cfg0.N) (n : Fin 1024) : (iblk m c 8 t : S1x1024.Idx → EReal) (ix2 0 n) = a7 m c (ix2 0 n) := by
  obtain ⟨h0, h1⟩ := idx8 t
  unfold iblk
  rw [View.read_apply]
  refine Eq.trans ?_ (V_v11 m c n)
  show V m c main_v11 _ = V m c main_v11 _
  congr 1
  funext a
  apply Fin.ext
  match a with
  | ⟨0, _⟩ => show win0_8.index t 0 * 1 + 1 * 0 = _; rw [h0]; simp [ix2]
  | ⟨1, _⟩ => show win0_8.index t 1 * 1024 + 1 * n.val = _; rw [h1]; simp [ix2]

theorem idx9 : ∀ t : Fin cfg0.N, win0_9.index t (0 : Fin 2) = 0 ∧ win0_9.index t (1 : Fin 2) = 0 :=
  (by decide +kernel : ∀ t : Fin grid0.N, _)

theorem blk9 (c : Dev nD) (t : Fin cfg0.N) (k : Fin 1024) (n : Fin 5632) : (iblk m c 9 t : S1024x5632.Idx → EReal) (ix2 k n) = a8 m c (ix3 0 k n) := by
  obtain ⟨h0, h1⟩ := idx9 t
  unfold iblk
  rw [View.read_apply]
  refine Eq.trans ?_ (V_v13 m c k n)
  show V m c main_v13 _ = V m c main_v13 _
  congr 1
  funext a
  apply Fin.ext
  match a with
  | ⟨0, _⟩ => show win0_9.index t 0 * 1024 + 1 * k.val = _; rw [h0]; simp [ix2]
  | ⟨1, _⟩ => show win0_9.index t 1 * 5632 + 1 * n.val = _; rw [h1]; simp [ix2]

theorem idx10 : ∀ t : Fin cfg0.N, win0_10.index t (0 : Fin 2) = 0 ∧ win0_10.index t (1 : Fin 2) = 0 :=
  (by decide +kernel : ∀ t : Fin grid0.N, _)

theorem blk10 (c : Dev nD) (t : Fin cfg0.N) (k : Fin 3) (n : Fin 5632) : (iblk m c 10 t : S3x5632.Idx → EReal) (ix2 k n) = a9 m c (ix3 0 k n) := by
  obtain ⟨h0, h1⟩ := idx10 t
  unfold iblk
  rw [View.read_apply]
  refine Eq.trans ?_ (V_v14 m c k n)
  show V m c main_v14 _ = V m c main_v14 _
  congr 1
  funext a
  apply Fin.ext
  match a with
  | ⟨0, _⟩ => show win0_10.index t 0 * 3 + 1 * k.val = _; rw [h0]; simp [ix2]
  | ⟨1, _⟩ => show win0_10.index t 1 * 5632 + 1 * n.val = _; rw [h1]; simp [ix2]

theorem idx11 : ∀ t : Fin cfg0.N, win0_11.index t (0 : Fin 2) = 0 ∧ win0_11.index t (1 : Fin 2) = 0 :=
  (by decide +kernel : ∀ t : Fin grid0.N, _)

theorem blk11 (c : Dev nD) (t : Fin cfg0.N) (n : Fin 5632) : (iblk m c 11 t : S1x5632.Idx → EReal) (ix2 0 n) = a10 m c (ix2 0 n) := by
  obtain ⟨h0, h1⟩ := idx11 t
  unfold iblk
  rw [View.read_apply]
  refine Eq.trans ?_ (V_v16 m c n)
  show V m c main_v16 _ = V m c main_v16 _
  congr 1
  funext a
  apply Fin.ext
  match a with
  | ⟨0, _⟩ => show win0_11.index t 0 * 1 + 1 * 0 = _; rw [h0]; simp [ix2]
  | ⟨1, _⟩ => show win0_11.index t 1 * 5632 + 1 * n.val = _; rw [h1]; simp [ix2]

theorem idx12 : ∀ t : Fin cfg0.N, win0_12.index t (0 : Fin 2) = 0 ∧ win0_12.index t (1 : Fin 2) = 0 :=
  (by decide +kernel : ∀ t : Fin grid0.N, _)

theorem blk12 (c : Dev nD) (t : Fin cfg0.N) (k : Fin 2816) (n : Fin 1024) : (iblk m c 12 t : S2816x1024.Idx → EReal) (ix2 k n) = a11 m c (ix3 0 k n) := by
  obtain ⟨h0, h1⟩ := idx12 t
  unfold iblk
  rw [View.read_apply]
  refine Eq.trans ?_ (V_v18 m c k n)
  show V m c main_v18 _ = V m c main_v18 _
  congr 1
  funext a
  apply Fin.ext
  match a with
  | ⟨0, _⟩ => show win0_12.index t 0 * 2816 + 1 * k.val = _; rw [h0]; simp [ix2]
  | ⟨1, _⟩ => show win0_12.index t 1 * 1024 + 1 * n.val = _; rw [h1]; simp [ix2]

theorem X1b_eq (c : Dev nD) (t : Fin cfg0.N) (r : Fin 256) :
    X1b (iblk m c 0 t) (iblk m c 1 t) (iblk m c 2 t) (iblk m c 3 t) (iblk m c 4 t) (iblk m c 5 t) (iblk m c 6 t) r = Cert.PostPromptRefIdeal.Out.X1 (a0 m c) (a1 m c) (a2 m c) (a3 m c) (a4 m c) (a5 m c) (bOf t) (sOf t r) := by
  have hw : woF (iblk m c 4 t) (iblk m c 5 t) = fun k n => a4 m c (ix3 0 k n) := by
    funext k n
    unfold woF
    by_cases h : k.val < 512
    · rw [dif_pos h]; exact blk4 m c t ⟨k.val, h⟩ n
    · rw [dif_neg h]
      refine (blk5 m c t ⟨k.val - 512, by omega⟩ n).trans (congrArg (fun q => a4 m c (ix3 0 q n)) (Fin.ext ?_))
      show 512 + (k.val - 512) = k.val
      omega
  unfold X1b Cert.PostPromptRefIdeal.Out.X1
  rw [hw, funext (blk0 m c t r), funext (blk3 m c t), funext (blk1 m c t r), funext (fun n => blk2 m c t n r), funext (blk6 m c t)]

theorem UPb_eq (c : Dev nD) (t : Fin cfg0.N) (r : Fin 256) :
    UPb (iblk m c 0 t) (iblk m c 1 t) (iblk m c 2 t) (iblk m c 3 t) (iblk m c 4 t) (iblk m c 5 t) (iblk m c 6 t) (iblk m c 7 t) (iblk m c 9 t) r = Cert.PostPromptRefIdeal.Out.UP (a0 m c) (a1 m c) (a2 m c) (a3 m c) (a4 m c) (a5 m c) (a6 m c) (a8 m c) (bOf t) (sOf t r) := by
  unfold UPb Cert.PostPromptRefIdeal.Out.UP
  rw [X1b_eq m c t r, funext (blk3 m c t), funext (blk7 m c t), funext fun k => funext (blk9 m c t k)]

/-- The carry after point `t`. -/
theorem carry_eq (c : Dev nD) (t : Fin cfg0.N) (r : Fin 8) (n : Fin 5632) :
    ((outsAt0 m c t.val t.isLt).2.2 : S8x5632.Idx → EReal) (ix2 r n)
      = Cert.PostPromptRefIdeal.Out.UP (a0 m c) (a1 m c) (a2 m c) (a3 m c) (a4 m c) (a5 m c) (a6 m c) (a8 m c) (bOf t) (sOf t ⟨248 + r.val, by omega⟩) n := by
  refine Eq.trans ?_ ((carryV_apply (iblk m c 0 t) (iblk m c 1 t) (iblk m c 2 t) (iblk m c 3 t) (iblk m c 4 t) (iblk m c 5 t) (iblk m c 6 t) (iblk m c 7 t) (iblk m c 9 t) r n).trans (congrFun (UPb_eq m c t _) n))
  by_cases h0 : t.val % 32 = 0
  · rw [outsAt0_A m c t h0]
    dsimp only
    rw [sout0_A_0_eq]
  · rw [outsAt0_B m c t h0]
    dsimp only
    rw [sout0_B_0_eq]

/-- The second result's block after point `t`: the carry. -/
theorem out14_eq (c : Dev nD) (t : Fin cfg0.N) (r : Fin 8) (n : Fin 5632) :
    ((outsAt0 m c t.val t.isLt).2.1 : S1x8x5632.Idx → EReal) (ix3 0 r n)
      = Cert.PostPromptRefIdeal.Out.UP (a0 m c) (a1 m c) (a2 m c) (a3 m c) (a4 m c) (a5 m c) (a6 m c) (a8 m c) (bOf t) (sOf t ⟨248 + r.val, by omega⟩) n := by
  refine Eq.trans ?_ ((carryV_apply (iblk m c 0 t) (iblk m c 1 t) (iblk m c 2 t) (iblk m c 3 t) (iblk m c 4 t) (iblk m c 5 t) (iblk m c 6 t) (iblk m c 7 t) (iblk m c 9 t) r n).trans (congrFun (UPb_eq m c t _) n))
  have hp : ∀ w : FVec Ideal S8x5632 .f32, k0_pay2 w (ix3 0 r n) = w (ix2 r n) := by
    intro w
    pointwise [k0_pay2]
  by_cases h0 : t.val % 32 = 0
  · rw [outsAt0_A m c t h0]
    dsimp only
    rw [out0_A_14_eq, hp]
  · rw [outsAt0_B m c t h0]
    dsimp only
    rw [out0_B_14_eq, hp]

/-- The convolved row of the block from the carry it finds, once that carry is the rows before the block. -/
theorem CVb_eq (c : Dev nD) (t : Fin cfg0.N) (cy : Vec Ideal S8x5632 .f32) (r : Fin 256)
    (hcy : ∀ (d : Nat) (hd : d ≤ 8) (n : Fin 5632) (h : r.val < d), cy (ix2 ⟨8 - d + r.val, by omega⟩ n)
      = backR (Cert.PostPromptRefIdeal.Out.UP (a0 m c) (a1 m c) (a2 m c) (a3 m c) (a4 m c) (a5 m c) (a6 m c) (a8 m c) (bOf t)) (sOf t r) d n) :
    CVb cy (iblk m c 0 t) (iblk m c 1 t) (iblk m c 2 t) (iblk m c 3 t) (iblk m c 4 t) (iblk m c 5 t) (iblk m c 6 t) (iblk m c 7 t) (iblk m c 9 t) (iblk m c 10 t) (iblk m c 11 t) r = Cert.PostPromptRefIdeal.Out.CV (a0 m c) (a1 m c) (a2 m c) (a3 m c) (a4 m c) (a5 m c) (a6 m c) (a8 m c) (a9 m c) (a10 m c) (bOf t) (sOf t r) := by
  have hb : ∀ (d : Nat) (hd : d ≤ 8), backb cy (UPb (iblk m c 0 t) (iblk m c 1 t) (iblk m c 2 t) (iblk m c 3 t) (iblk m c 4 t) (iblk m c 5 t) (iblk m c 6 t) (iblk m c 7 t) (iblk m c 9 t)) r d hd
      = backR (Cert.PostPromptRefIdeal.Out.UP (a0 m c) (a1 m c) (a2 m c) (a3 m c) (a4 m c) (a5 m c) (a6 m c) (a8 m c) (bOf t)) (sOf t r) d := by
    intro d hd
    funext n
    unfold backb
    by_cases h : r.val < d
    · rw [dif_pos h, hcy d hd n h]
    · rw [dif_neg h, UPb_eq]
      unfold backR
      rw [if_neg (by simp; omega)]
      refine congrArg (fun s => Cert.PostPromptRefIdeal.Out.UP (a0 m c) (a1 m c) (a2 m c) (a3 m c) (a4 m c) (a5 m c) (a6 m c) (a8 m c) (bOf t) s n) (Fin.ext ?_)
      show 256 * (t.val % 32) + (r.val - d) = 256 * (t.val % 32) + r.val - d
      omega
  unfold CVb Cert.PostPromptRefIdeal.Out.CV
  rw [hb 2, hb 1, UPb_eq, funext fun k => funext (blk10 m c t k), funext (blk11 m c t)]

/-- The first result's block after point `t`. -/
theorem out13_eq (c : Dev nD) (t : Fin cfg0.N) (r : Fin 256) (n : Fin 1024) :
    ((outsAt0 m c t.val t.isLt).1 : S1x256x1024.Idx → EReal) (ix3 0 r n)
      = Cert.PostPromptRefIdeal.Out.Y (a0 m c) (a1 m c) (a2 m c) (a3 m c) (a4 m c) (a5 m c) (a6 m c) (a7 m c) (a8 m c) (a9 m c) (a10 m c) (a11 m c) (bOf t) (sOf t r) n := by
  have key : ∀ cy : Vec Ideal S8x5632 .f32, (∀ (d : Nat) (hd : d ≤ 8) (n : Fin 5632) (h : r.val < d), cy (ix2 ⟨8 - d + r.val, by omega⟩ n)
      = backR (Cert.PostPromptRefIdeal.Out.UP (a0 m c) (a1 m c) (a2 m c) (a3 m c) (a4 m c) (a5 m c) (a6 m c) (a8 m c) (bOf t)) (sOf t r) d n) →
      yV cy (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r n) = Cert.PostPromptRefIdeal.Out.Y (a0 m c) (a1 m c) (a2 m c) (a3 m c) (a4 m c) (a5 m c) (a6 m c) (a7 m c) (a8 m c) (a9 m c) (a10 m c) (a11 m c) (bOf t) (sOf t r) n := by
    intro cy hcy
    rw [yV_apply, CVb_eq m c t cy r hcy, X1b_eq]
    unfold Cert.PostPromptRefIdeal.Out.Y
    rw [funext (blk3 m c t), funext (blk8 m c t), funext fun k => funext (blk12 m c t k)]
  have hN := lt_of_lt_of_eq t.isLt N_0
  by_cases h0 : t.val % 32 = 0
  · rw [outsAt0_A m c t h0]
    dsimp only
    rw [out0_A_13_eq]
    refine key _ fun d hd n h => ?_
    unfold backR
    rw [if_pos (by simp; omega)]
    pointwise [k0_pay3]
  · rw [outsAt0_B m c t h0]
    dsimp only
    rw [out0_B_13_eq]
    refine key _ fun d hd n h => ?_
    refine (carry_eq m c ⟨t.val - 1, by omega⟩ _ n).trans ?_
    unfold backR
    rw [if_neg (by simp; omega)]
    have e1 : bOf (⟨t.val - 1, by omega⟩ : Fin cfg0.N) = bOf t := Fin.ext (by show (t.val - 1) / 32 = t.val / 32; omega)
    rw [e1]
    refine congrArg (fun s => Cert.PostPromptRefIdeal.Out.UP (a0 m c) (a1 m c) (a2 m c) (a3 m c) (a4 m c) (a5 m c) (a6 m c) (a8 m c) (bOf t) s n) (Fin.ext ?_)
    show 256 * ((t.val - 1) % 32) + (248 + (8 - d + r.val)) = 256 * (t.val % 32) + r.val - d
    omega

end Cert.PostPromptIdeal.Out
end
end
-- ==== Proof.PPValue.lean ====
module
public import proofs.«01_k».proof.Proof.PPBlk
public import proofs.«01_k».proof.Proof.Gen.PostPromptIdeal.Value
public import proofs.«01_k».proof.Proof.Gen.PostPromptRefIdeal.Run
public import proofs.«01_k».proof.Proof.Gen.PostPromptRefIdeal.Read
@[expose] public section
set_option maxRecDepth 16384

/-! The post-attention kernel's two result arrays are the reference's, at every index and for all arguments. -/

noncomputable section
open Idealize.ShloMosaic Idealize.ShloMosaic.TcCoe Idealize.SL.Sem
namespace Cert.PostPromptIdeal.Out
open Cert.PostPromptIdeal Cert.PostPromptIdeal.Gen Cert.PostPromptIdeal.Value Cert.PP
variable (m : (ℓ : Loc nD τ sig) → Buf (Elt Ideal) ℓ)

/-- The kernel's first result is the reference's layer output. -/
theorem G13_eq (c : Dev nD) : (G13 m c : S2x8192x1024.Idx → EReal)
    = Cert.PostPromptRefIdeal.Read.val_main_v101 (F := Ideal) (a0 m c) (a1 m c) (a2 m c) (a3 m c) (a4 m c) (a5 m c) (a6 m c) (a7 m c) (a8 m c) (a9 m c) (a10 m c) (a11 m c) := by
  funext i
  have h0 : (i 0).val < 2 := (i 0).isLt
  have h1 : (i 1).val < 8192 := (i 1).isLt
  have h2 : (i 2).val < 1024 := (i 2).isLt
  have hp : pt13Of i = 32 * (i 0).val + (i 1).val / 256 := by
    show 32 * ((i 0).val / 1 - 0) + 1 * ((i 1).val / 256 - 0) + 1 * ((i 2).val / 1024 - 0) = _
    omega
  have hlt : pt13Of i < cfg0.N := by
    rw [hp]; refine lt_of_lt_of_eq ?_ (show 64 = cfg0.N from N_0.symm); omega
  have hi : i = ix3 (i 0) (i 1) (i 2) := by
    funext a
    match a with
    | ⟨0, _⟩ => rfl
    | ⟨1, _⟩ => rfl
    | ⟨2, _⟩ => rfl
  have hl : loc13Of i = ix3 0 (⟨(i 1).val % 256, by omega⟩ : Fin 256) (i 2) := by
    funext a
    apply Fin.ext
    match a with
    | ⟨0, _⟩ => show (i 0).val % 1 = 0; omega
    | ⟨1, _⟩ => rfl
    | ⟨2, _⟩ => show (i 2).val % 1024 = (i 2).val; omega
  have hG : (G13 m c : S2x8192x1024.Idx → EReal) i = ((outsAt0 m c (pt13Of i) hlt).1 : S1x256x1024.Idx → EReal) (loc13Of i) := by
    rw [outsAt0_sweep]
    exact dif_pos hlt
  rw [hG, hl]
  conv_rhs => rw [hi]
  refine (out13_eq m c ⟨pt13Of i, hlt⟩ _ _).trans (Eq.trans ?_ (Cert.PostPromptRefIdeal.Out.y_apply (a0 m c) (a1 m c) (a2 m c) (a3 m c) (a4 m c) (a5 m c) (a6 m c) (a7 m c) (a8 m c) (a9 m c) (a10 m c) (a11 m c) (i 0) (i 1) (i 2)).symm)
  refine congrArg₂ (fun b s => Cert.PostPromptRefIdeal.Out.Y (a0 m c) (a1 m c) (a2 m c) (a3 m c) (a4 m c) (a5 m c) (a6 m c) (a7 m c) (a8 m c) (a9 m c) (a10 m c) (a11 m c) b s (i 2)) (Fin.ext ?_) (Fin.ext ?_)
  · show pt13Of i / 32 = (i 0).val
    rw [hp]; omega
  · show 256 * (pt13Of i % 32) + (i 1).val % 256 = (i 1).val
    rw [hp]; omega

/-- The kernel's second result is the reference's convolution state: the last 8 rows of the up-projection. -/
theorem G14_eq (c : Dev nD) : (G14 m c : S2x8x5632.Idx → EReal)
    = Cert.PostPromptRefIdeal.Read.val_main_v102 (F := Ideal) (a0 m c) (a1 m c) (a2 m c) (a3 m c) (a4 m c) (a5 m c) (a6 m c) (a8 m c) := by
  funext i
  have h0 : (i 0).val < 2 := (i 0).isLt
  have h1 : (i 1).val < 8 := (i 1).isLt
  have h2 : (i 2).val < 5632 := (i 2).isLt
  have hp : pt14Of i = 32 * (i 0).val + 31 := by
    show 32 * (1 * ((i 0).val / 1 - 0) + 1 * ((i 1).val / 8 - 0) + 1 * ((i 2).val / 5632 - 0)) + 31 = _
    omega
  have hlt : pt14Of i < cfg0.N := by
    rw [hp]; refine lt_of_lt_of_eq ?_ (show 64 = cfg0.N from N_0.symm); omega
  have hi : i = ix3 (i 0) (i 1) (i 2) := by
    funext a
    match a with
    | ⟨0, _⟩ => rfl
    | ⟨1, _⟩ => rfl
    | ⟨2, _⟩ => rfl
  have hl : loc14Of i = ix3 0 (i 1) (i 2) := by
    funext a
    apply Fin.ext
    match a with
    | ⟨0, _⟩ => show (i 0).val % 1 = 0; omega
    | ⟨1, _⟩ => show (i 1).val % 8 = (i 1).val; omega
    | ⟨2, _⟩ => show (i 2).val % 5632 = (i 2).val; omega
  have hG : (G14 m c : S2x8x5632.Idx → EReal) i = ((outsAt0 m c (pt14Of i) hlt).2.1 : S1x8x5632.Idx → EReal) (loc14Of i) := by
    rw [outsAt0_sweep]
    exact dif_pos hlt
  rw [hG, hl]
  conv_rhs => rw [hi]
  refine (out14_eq m c ⟨pt14Of i, hlt⟩ _ _).trans (Eq.trans ?_ (Cert.PostPromptRefIdeal.Out.tail_apply (a0 m c) (a1 m c) (a2 m c) (a3 m c) (a4 m c) (a5 m c) (a6 m c) (a8 m c) (i 0) (i 1) (i 2)).symm)
  refine congrArg₂ (fun b s => Cert.PostPromptRefIdeal.Out.UP (a0 m c) (a1 m c) (a2 m c) (a3 m c) (a4 m c) (a5 m c) (a6 m c) (a8 m c) b s (i 2)) (Fin.ext ?_) (Fin.ext ?_)
  · show pt14Of i / 32 = (i 0).val
    rw [hp]; omega
  · show 256 * (pt14Of i % 32) + (248 + (i 1).val) = 8184 + (i 1).val
    rw [hp]; omega

end Cert.PostPromptIdeal.Out

open Cert.PostPromptIdeal.Out Cert.PostPromptIdeal.Value

/-- From the same arguments the kernel and the reference leave the same two results, and keep the arguments. -/
theorem Cert.postPrompt_algebraic :
    Cert.algebraic_PostPromptIdeal_PostPromptRefIdeal (hPostPromptIdeal := Cert.PostPromptIdeal.Gen.facts) (hPostPromptRefIdeal := Cert.PostPromptRefIdeal.Gen.facts) := by
  intro m g m' g' _ hag
  refine ⟨fun c => G13 m c, fun c => G14 m c, Cert.PostPromptIdeal.Value.run m g, ?_⟩
  refine (θ_run Cert.PostPromptRefIdeal.defs _ _).mono (fun r h c => ?_)
    (Cert.PostPromptRefIdeal.Value.run (F := Ideal) m' g')
  obtain ⟨e0, e1, hk⟩ := h c
  obtain ⟨g0, g1, g2, g3, g4, g5, g6, g7, g8, g9, g10, g11⟩ := hag c
  refine ⟨e0.trans ?_, e1.trans ?_, hk⟩
  · rw [Cert.PostPromptRefIdeal.Read.val_main_v101_eq]
    dsimp only
    refine Eq.trans ?_ (G13_eq m c).symm
    show Cert.PostPromptRefIdeal.Read.val_main_v101 (F := Ideal) (m' ((c.tc : Thread Cert.PostPromptRefIdeal.nD Cert.PostPromptRefIdeal.τ).loc Cert.PostPromptRefIdeal.main_arg0)) (m' ((c.tc : Thread Cert.PostPromptRefIdeal.nD Cert.PostPromptRefIdeal.τ).loc Cert.PostPromptRefIdeal.main_arg1)) (m' ((c.tc : Thread Cert.PostPromptRefIdeal.nD Cert.PostPromptRefIdeal.τ).loc Cert.PostPromptRefIdeal.main_arg2)) (m' ((c.tc : Thread Cert.PostPromptRefIdeal.nD Cert.PostPromptRefIdeal.τ).loc Cert.PostPromptRefIdeal.main_arg3)) (m' ((c.tc : Thread Cert.PostPromptRefIdeal.nD Cert.PostPromptRefIdeal.τ).loc Cert.PostPromptRefIdeal.main_arg4)) (m' ((c.tc : Thread Cert.PostPromptRefIdeal.nD Cert.PostPromptRefIdeal.τ).loc Cert.PostPromptRefIdeal.main_arg5)) (m' ((c.tc : Thread Cert.PostPromptRefIdeal.nD Cert.PostPromptRefIdeal.τ).loc Cert.PostPromptRefIdeal.main_arg6)) (m' ((c.tc : Thread Cert.PostPromptRefIdeal.nD Cert.PostPromptRefIdeal.τ).loc Cert.PostPromptRefIdeal.main_arg7)) (m' ((c.tc : Thread Cert.PostPromptRefIdeal.nD Cert.PostPromptRefIdeal.τ).loc Cert.PostPromptRefIdeal.main_arg8)) (m' ((c.tc : Thread Cert.PostPromptRefIdeal.nD Cert.PostPromptRefIdeal.τ).loc Cert.PostPromptRefIdeal.main_arg9)) (m' ((c.tc : Thread Cert.PostPromptRefIdeal.nD Cert.PostPromptRefIdeal.τ).loc Cert.PostPromptRefIdeal.main_arg10)) (m' ((c.tc : Thread Cert.PostPromptRefIdeal.nD Cert.PostPromptRefIdeal.τ).loc Cert.PostPromptRefIdeal.main_arg11)) = _
    rw [g0, g1, g2, g3, g4, g5, g6, g7, g8, g9, g10, g11]
  · rw [Cert.PostPromptRefIdeal.Read.val_main_v102_eq]
    dsimp only
    refine Eq.trans ?_ (G14_eq m c).symm
    show Cert.PostPromptRefIdeal.Read.val_main_v102 (F := Ideal) (m' ((c.tc : Thread Cert.PostPromptRefIdeal.nD Cert.PostPromptRefIdeal.τ).loc Cert.PostPromptRefIdeal.main_arg0)) (m' ((c.tc : Thread Cert.PostPromptRefIdeal.nD Cert.PostPromptRefIdeal.τ).loc Cert.PostPromptRefIdeal.main_arg1)) (m' ((c.tc : Thread Cert.PostPromptRefIdeal.nD Cert.PostPromptRefIdeal.τ).loc Cert.PostPromptRefIdeal.main_arg2)) (m' ((c.tc : Thread Cert.PostPromptRefIdeal.nD Cert.PostPromptRefIdeal.τ).loc Cert.PostPromptRefIdeal.main_arg3)) (m' ((c.tc : Thread Cert.PostPromptRefIdeal.nD Cert.PostPromptRefIdeal.τ).loc Cert.PostPromptRefIdeal.main_arg4)) (m' ((c.tc : Thread Cert.PostPromptRefIdeal.nD Cert.PostPromptRefIdeal.τ).loc Cert.PostPromptRefIdeal.main_arg5)) (m' ((c.tc : Thread Cert.PostPromptRefIdeal.nD Cert.PostPromptRefIdeal.τ).loc Cert.PostPromptRefIdeal.main_arg6)) (m' ((c.tc : Thread Cert.PostPromptRefIdeal.nD Cert.PostPromptRefIdeal.τ).loc Cert.PostPromptRefIdeal.main_arg8)) = _
    rw [g0, g1, g2, g3, g4, g5, g6, g8]

end
end
-- ==== Proof.PPClaims.lean ====
module
public import proofs.«01_k».proof.Proof.PPValue
public import proofs.«01_k».proof.Proof.Gen.PostPrompt.Frame
public import proofs.«01_k».proof.Proof.Gen.PostPromptIdeal.Frame
public import Idealize.ShloMosaic.Init
@[expose] public section

/-! The claims about the post-attention call other than its value. -/

noncomputable section
open Idealize.ShloMosaic Idealize.ShloMosaic.TcCoe Idealize.SL.Sem
namespace Cert.PostPromptClaims

/-- The kernel as printed runs, keeps its arguments and leaves every counter at zero. -/
theorem frame_p : Cert.quiescent_PostPrompt (hPostPrompt := Cert.PostPrompt.Gen.facts) :=
  fun m ρ _ => Cert.PostPrompt.Gen.frame m ρ

/-- The same of the kernel over the extended reals. -/
theorem frame_pi : Cert.quiescent_PostPromptIdeal (hPostPromptIdeal := Cert.PostPromptIdeal.Gen.facts) :=
  fun m ρ _ => Cert.PostPromptIdeal.Gen.frame m ρ

/-- The same of the reference, which has no counters at all. -/
theorem frame_ri : Cert.quiescent_PostPromptRefIdeal (hPostPromptRefIdeal := Cert.PostPromptRefIdeal.Gen.facts) :=
  fun m ρ _ => (θ_run Cert.PostPromptRefIdeal.defs _ _).mono
    (fun r h => ⟨fun c => (h c).2.2, sem_eq_zero_of_no_sems (by decide) r.2⟩)
    (Cert.PostPromptRefIdeal.Value.run (F := Ideal) m ρ)

end Cert.PostPromptClaims
end
end
-- ==== Proof.PsIdx.lean ====
module
public import proofs.«01_k».proof.Proof.Gen.PreSampleIdeal.Value
public import proofs.«01_k».proof.Proof.PreIdx
public import proofs.«01_k».proof.Proof.PreSpec
@[expose] public section
set_option maxRecDepth 16384

/-! The blocks of the pre-attention kernel for one new row per sequence, read at an index. -/

noncomputable section
open Idealize.ShloMosaic Idealize.ShloMosaic.TcCoe Idealize.SL.Sem Idealize.ShloMosaic.View
namespace Cert.PreSampleIdeal.Out
open Cert.PreSampleIdeal Cert.PreSampleIdeal.Gen Cert.Pre
open Cert.PrePromptIdeal.Out (ropeT ropeT_of halfBit)
variable (x0 : Vec Ideal S128x1024 .f32) (x1 : Vec Ideal S128x6144 .f32) (x2 : Vec Ideal S1x1024 .f32) (x3 : Vec Ideal S1024x2048 .bf16) (x4 : Vec Ideal S4x128x128 .bf16) (x5 : Vec Ideal S1x512 .f32) (x6 : Vec Ideal S1x128 .f32) (x7 : Vec Ideal S1x128 .f32) (x8 : Vec Ideal S128x15x512 .f32)

/-- A sum over the last rows of sixteen: the last row, and the rows before it in order. -/
theorem win_last (f : Nat → EReal) (w : Nat) (hw : w ≤ 15) : win f (w + 1) 15 = f 15 + ∑ j : Fin w, f (15 - w + j.val) := by
  unfold win
  rw [Finset.sum_range_succ', back_zero, add_comm, Fin.sum_univ_eq_sum_range (fun j => f (15 - w + j)), ← Finset.sum_range_reflect]
  refine congrArg (f 15 + ·) (Finset.sum_congr rfl fun d hd => ?_)
  have := Finset.mem_range.1 hd
  unfold back
  rw [if_pos (by omega)]
  congr 1
  omega

/-- The projected rows. -/
theorem proj_apply (r : Fin 128) (n : Fin 2048) :
    k0_pay2 x0 x1 x2 x3 (ix2 r n)
      = projR (hR (fun k => x0 (ix2 r k)) (fun k => x1 (ix2 r k)) (fun k => x2 (ix2 0 k))) (fun k n => x3 (ix2 k n)) n := by
  pointwise [k0_pay2]
  rfl

theorem u_out (r : Fin 128) (n : Fin 512) :
    out0_9 x0 x1 x2 x3 x4 x5 x6 x7 x8 (ix2 r n) = k0_pay2 x0 x1 x2 x3 (ix2 r ⟨n.val, by omega⟩) := by
  unfold out0_9
  rw [canon_cons_unit_lit _ _ _ (by decide)]
  rw [ld_unit_lit _ _ (by decide), ld_unit_lit _ _ (by decide), ld_unit_lit _ _ (by decide), ld_unit_lit _ _ (by decide)]
  unfold k0_pay3
  generalize k0_pay2 x0 x1 x2 x3 = p
  pointwise

theorem v_out (r : Fin 128) (n : Fin 512) :
    out0_12 x0 x1 x2 x3 x4 x5 x6 x7 x8 (ix2 r n) = k0_pay2 x0 x1 x2 x3 (ix2 r ⟨1536 + n.val, by omega⟩) := by
  unfold out0_12
  rw [canon_cons_unit_lit _ _ _ (by decide)]
  unfold k0_pay29
  rw [ld_unit_lit _ _ (by decide), ld_unit_lit _ _ (by decide), ld_unit_lit _ _ (by decide), ld_unit_lit _ _ (by decide)]
  generalize k0_pay2 x0 x1 x2 x3 = p
  pointwise [k0_pay19]

/-- The rotated queries. -/
theorem q_out (r : Fin 128) (n : Fin 512) :
    out0_10 x0 x1 x2 x3 x4 x5 x6 x7 x8 (ix2 r n)
      = ropeT (fun k => k0_pay2 x0 x1 x2 x3 (ix2 r ⟨512 + k.val, by omega⟩)) (fun l => x6 (ix2 0 l)) (fun l => x7 (ix2 0 l)) n := by
  unfold out0_10
  rw [canon_cons_unit_lit _ _ _ (by decide)]
  unfold k0_pay31 k0_pay32 k0_pay33 k0_pay28
  rw [ld_unit_lit _ x0 (by decide), ld_unit_lit _ x1 (by decide), ld_unit_lit _ x2 (by decide), ld_unit_lit _ x3 (by decide),
    ld_unit_lit _ x6 (by decide), ld_unit_lit _ x7 (by decide)]
  unfold k0_pay6
  generalize k0_pay2 x0 x1 x2 x3 = p
  pointwise [k0_pay12, k0_pay11, k0_pay10, k0_pay9, k0_pay8, k0_pay7, k0_pay5, k0_pay4]
  simp only [← halfBit.eq_def]
  have hn := n.isLt
  by_cases h0 : n.val < 128
  · rw [dif_pos h0]
    exact (ropeT_of (fun k => p (ix2 r k)) 512 (by omega) (fun l => x6 (ix2 0 l)) (fun l => x7 (ix2 0 l)) n ⟨512 + n.val, by omega⟩ ⟨512 + ((n.val + 128 - 96) % 128), by omega⟩ ⟨512 + ((n.val + 128 - 32) % 128), by omega⟩ ⟨n.val, by omega⟩
      (by first | rfl | (dsimp only; omega)) (by dsimp only; omega) (by dsimp only; omega) (by dsimp only; omega))
  rw [dif_neg h0]
  by_cases h1 : n.val - 128 < 128
  · rw [dif_pos h1]
    exact (ropeT_of (fun k => p (ix2 r k)) 512 (by omega) (fun l => x6 (ix2 0 l)) (fun l => x7 (ix2 0 l)) n ⟨512 + (128 + (n.val - 128)), by omega⟩ ⟨512 + (128 + (n.val - 128 + 128 - 96) % 128), by omega⟩ ⟨512 + (128 + (n.val - 128 + 128 - 32) % 128), by omega⟩ ⟨n.val - 128, by omega⟩
      (by first | rfl | (dsimp only; omega)) (by dsimp only; omega) (by dsimp only; omega) (by dsimp only; omega))
  rw [dif_neg h1]
  by_cases h2 : n.val - 128 - 128 < 128
  · rw [dif_pos h2]
    exact (ropeT_of (fun k => p (ix2 r k)) 512 (by omega) (fun l => x6 (ix2 0 l)) (fun l => x7 (ix2 0 l)) n ⟨512 + (256 + (n.val - 128 - 128)), by omega⟩ ⟨512 + (256 + (n.val - 128 - 128 + 128 - 96) % 128), by omega⟩ ⟨512 + (256 + (n.val - 128 - 128 + 128 - 32) % 128), by omega⟩ ⟨n.val - 128 - 128, by omega⟩
      (by first | rfl | (dsimp only; omega)) (by dsimp only; omega) (by dsimp only; omega) (by dsimp only; omega))
  rw [dif_neg h2]
  exact (ropeT_of (fun k => p (ix2 r k)) 512 (by omega) (fun l => x6 (ix2 0 l)) (fun l => x7 (ix2 0 l)) n ⟨512 + (384 + (n.val - 128 - 128 - 128)), by omega⟩ ⟨512 + (384 + (n.val - 128 - 128 - 128 + 128 - 96) % 128), by omega⟩ ⟨512 + (384 + (n.val - 128 - 128 - 128 + 128 - 32) % 128), by omega⟩ ⟨n.val - 128 - 128 - 128, by omega⟩
    (by first | rfl | (dsimp only; omega)) (by dsimp only; omega) (by dsimp only; omega) (by dsimp only; omega))

/-- The rotated keys. -/
theorem k_out (r : Fin 128) (n : Fin 512) :
    out0_11 x0 x1 x2 x3 x4 x5 x6 x7 x8 (ix2 r n)
      = ropeT (fun k => k0_pay2 x0 x1 x2 x3 (ix2 r ⟨1024 + k.val, by omega⟩)) (fun l => x6 (ix2 0 l)) (fun l => x7 (ix2 0 l)) n := by
  unfold out0_11
  rw [canon_cons_unit_lit _ _ _ (by decide)]
  unfold k0_pay31 k0_pay32 k0_pay29
  rw [ld_unit_lit _ x0 (by decide), ld_unit_lit _ x1 (by decide), ld_unit_lit _ x2 (by decide), ld_unit_lit _ x3 (by decide),
    ld_unit_lit _ x6 (by decide), ld_unit_lit _ x7 (by decide)]
  skip
  generalize k0_pay2 x0 x1 x2 x3 = p
  pointwise [k0_pay18, k0_pay17, k0_pay16, k0_pay15, k0_pay14, k0_pay13, k0_pay5, k0_pay4]
  simp only [← halfBit.eq_def]
  have hn := n.isLt
  by_cases h0 : n.val < 128
  · rw [dif_pos h0]
    exact (ropeT_of (fun k => p (ix2 r k)) 1024 (by omega) (fun l => x6 (ix2 0 l)) (fun l => x7 (ix2 0 l)) n ⟨1024 + n.val, by omega⟩ ⟨1024 + ((n.val + 128 - 96) % 128), by omega⟩ ⟨1024 + ((n.val + 128 - 32) % 128), by omega⟩ ⟨n.val, by omega⟩
      (by first | rfl | (dsimp only; omega)) (by dsimp only; omega) (by dsimp only; omega) (by dsimp only; omega))
  rw [dif_neg h0]
  by_cases h1 : n.val - 128 < 128
  · rw [dif_pos h1]
    exact (ropeT_of (fun k => p (ix2 r k)) 1024 (by omega) (fun l => x6 (ix2 0 l)) (fun l => x7 (ix2 0 l)) n ⟨1024 + (128 + (n.val - 128)), by omega⟩ ⟨1024 + (128 + (n.val - 128 + 128 - 96) % 128), by omega⟩ ⟨1024 + (128 + (n.val - 128 + 128 - 32) % 128), by omega⟩ ⟨n.val - 128, by omega⟩
      (by first | rfl | (dsimp only; omega)) (by dsimp only; omega) (by dsimp only; omega) (by dsimp only; omega))
  rw [dif_neg h1]
  by_cases h2 : n.val - 128 - 128 < 128
  · rw [dif_pos h2]
    exact (ropeT_of (fun k => p (ix2 r k)) 1024 (by omega) (fun l => x6 (ix2 0 l)) (fun l => x7 (ix2 0 l)) n ⟨1024 + (256 + (n.val - 128 - 128)), by omega⟩ ⟨1024 + (256 + (n.val - 128 - 128 + 128 - 96) % 128), by omega⟩ ⟨1024 + (256 + (n.val - 128 - 128 + 128 - 32) % 128), by omega⟩ ⟨n.val - 128 - 128, by omega⟩
      (by first | rfl | (dsimp only; omega)) (by dsimp only; omega) (by dsimp only; omega) (by dsimp only; omega))
  rw [dif_neg h2]
  exact (ropeT_of (fun k => p (ix2 r k)) 1024 (by omega) (fun l => x6 (ix2 0 l)) (fun l => x7 (ix2 0 l)) n ⟨1024 + (384 + (n.val - 128 - 128 - 128)), by omega⟩ ⟨1024 + (384 + (n.val - 128 - 128 - 128 + 128 - 96) % 128), by omega⟩ ⟨1024 + (384 + (n.val - 128 - 128 - 128 + 128 - 32) % 128), by omega⟩ ⟨n.val - 128 - 128 - 128, by omega⟩
    (by first | rfl | (dsimp only; omega)) (by dsimp only; omega) (by dsimp only; omega) (by dsimp only; omega))

/-- The pooled columns of sequence `r` by row: its fifteen rows before, then its own. -/
def UB (p : FVec Ideal S128x2048 .f32) (st : Vec Ideal S128x15x512 .f32) (r : Fin 128) (t : Nat) (n : Fin 512) : EReal :=
  if h : t < 15 then st (ix3 r ⟨t, h⟩ n) else p (ix2 r ⟨n.val, by omega⟩)

theorem UB_self (p : FVec Ideal S128x2048 .f32) (st : Vec Ideal S128x15x512 .f32) (r : Fin 128) (n : Fin 512) :
    UB p st r 15 n = p (ix2 r ⟨n.val, by omega⟩) := by
  unfold UB; rw [dif_neg (by omega)]

theorem UB_win (p : FVec Ideal S128x2048 .f32) (st : Vec Ideal S128x15x512 .f32) (r : Fin 128) (n : Fin 512) (w : Nat) (hw : w ≤ 15) :
    win (fun t => UB p st r t n) (w + 1) 15 = p (ix2 r ⟨n.val, by omega⟩) + ∑ j : Fin w, st (ix3 r ⟨15 - w + j.val, by omega⟩ n) := by
  rw [win_last _ w hw, UB_self]
  refine congrArg (_ + ·) (Finset.sum_congr rfl fun j _ => ?_)
  unfold UB
  rw [dif_pos (by omega)]

theorem cnt_2 : cnt 2 15 = Ideal.ofBits .f32 1073741824#32 := by rw [ofBits_2]; unfold cnt; norm_num
theorem cnt_4 : cnt 4 15 = Ideal.ofBits .f32 1082130432#32 := by rw [ofBits_4]; unfold cnt; norm_num
theorem cnt_8 : cnt 8 15 = Ideal.ofBits .f32 1090519040#32 := by rw [ofBits_8]; unfold cnt; norm_num
theorem cnt_16 : cnt 16 15 = Ideal.ofBits .f32 1098907648#32 := by rw [ofBits_16]; unfold cnt; norm_num

/-- The kernel's pooled rows from the projected rows and the rows before. -/
def poolV (p : FVec Ideal S128x2048 .f32) (st : Vec Ideal S128x15x512 .f32) : FVec Ideal S128x512 .f32 :=
  let u : FVec Ideal S128x512 .f32 := extractStridedSlice S128x512 ![0, 0] p slices_S128x2048_o0_0_S128x512
  k0_pay23 u (k0_pay20 st) (k0_pay21 u st) (k0_pay22 u)

/-- The pooled rows. -/
theorem pooled_apply (p : FVec Ideal S128x2048 .f32) (st : Vec Ideal S128x15x512 .f32) (r : Fin 128) (n : Fin 512) :
    poolV p st (ix2 r n) = pooledR (UB p st r) 15 n := by
  have hn := n.isLt
  have R : ∀ (w : Nat) (hw : w ≤ 15) (row : Fin w → Fin 15), (∀ j, (row j).val = 15 - w + j.val) → ∀ (d : EReal) (a : Fin 2048) (m : Fin 512), a.val = n.val → m.val = n.val → cnt (w + 1) 15 = d →
      Ideal.div (p (ix2 r a) + ∑ j, st (ix3 r (row j) m)) d - p (ix2 r a)
        = Ideal.div (win (fun t => UB p st r t n) (w + 1) 15) (cnt (w + 1) 15) - UB p st r 15 n := by
    intro w hw row hrow d a m ha hm hd
    rw [UB_win p st r n w hw, UB_self, hd]
    obtain rfl : m = n := Fin.ext hm
    obtain rfl : a = ⟨m.val, Nat.lt_trans m.isLt (by decide)⟩ := Fin.ext ha
    rw [show row = fun j => ⟨15 - w + j.val, by omega⟩ from funext fun j => Fin.ext (hrow j)]
  pointwise [poolV, k0_pay23, k0_pay22, k0_pay21, k0_pay20]
  by_cases c0 : n.val < 128
  · refine (dif_pos c0).trans (Eq.trans ?_ (if_pos c0).symm)
    exact R 1 (by omega) (fun _ => 14) (fun j => by omega) (Ideal.ofBits .f32 1073741824#32) ⟨n.val, by omega⟩ n rfl rfl cnt_2
  refine (dif_neg c0).trans (Eq.trans ?_ (if_neg c0).symm)
  by_cases c1 : n.val - 128 < 128
  · refine (dif_pos c1).trans (Eq.trans ?_ (if_pos (show n.val < 256 by omega)).symm)
    exact R 3 (by omega) (fun x => ⟨12 + x.val, by omega⟩) (fun j => rfl) (Ideal.ofBits .f32 1082130432#32) ⟨128 + (n.val - 128), by omega⟩ ⟨128 + (n.val - 128), by omega⟩ (by dsimp only; omega) (by dsimp only; omega) cnt_4
  refine (dif_neg c1).trans (Eq.trans ?_ (if_neg (show ¬ n.val < 256 by omega)).symm)
  by_cases c2 : n.val - 128 - 128 < 128
  · refine (dif_pos c2).trans (Eq.trans ?_ (if_pos (show n.val < 384 by omega)).symm)
    exact R 7 (by omega) (fun x => ⟨8 + x.val, by omega⟩) (fun j => rfl) (Ideal.ofBits .f32 1090519040#32) ⟨256 + (n.val - 128 - 128), by omega⟩ ⟨256 + (n.val - 128 - 128), by omega⟩ (by dsimp only; omega) (by dsimp only; omega) cnt_8
  refine (dif_neg c2).trans (Eq.trans ?_ (if_neg (show ¬ n.val < 384 by omega)).symm)
  exact R 15 (by omega) (fun x => x) (fun j => by omega) (Ideal.ofBits .f32 1098907648#32) ⟨384 + (n.val - 128 - 128 - 128), by omega⟩ ⟨384 + (n.val - 128 - 128 - 128), by omega⟩ (by dsimp only; omega) (by dsimp only; omega) cnt_16

/-- The pooled rows through the projection, scaled. -/
theorem pool_out (r : Fin 128) (n : Fin 512) :
    out0_13 x0 x1 x2 x3 x4 x5 x6 x7 x8 (ix2 r n)
      = poolR (pooledR (UB (k0_pay2 x0 x1 x2 x3) x8 r) 15) (fun g k c => x4 (ix3 g k c)) (fun n => x5 (ix2 0 n)) n := by
  have hn := n.isLt
  have e := pooled_apply (k0_pay2 x0 x1 x2 x3) x8
  unfold out0_13
  rw [canon_cons_unit_lit _ _ _ (by decide)]
  unfold k0_pay30 k0_pay34 k0_pay35 k0_pay36
  unfold k0_pay30
  rw [ld_unit_lit _ x0 (by decide), ld_unit_lit _ x1 (by decide), ld_unit_lit _ x2 (by decide), ld_unit_lit _ x3 (by decide),
    ld_unit_lit _ x5 (by decide), ld_unit_lit _ x8 (by decide)]
  unfold k0_pay25 k0_pay26 k0_pay27 k0_pay3
  unfold poolV at e
  dsimp only at e ⊢
  generalize k0_pay2 x0 x1 x2 x3 = p at *
  generalize k0_pay23 (extractStridedSlice S128x512 ![0, 0] p slices_S128x2048_o0_0_S128x512) (k0_pay20 x8) (k0_pay21 (extractStridedSlice S128x512 ![0, 0] p slices_S128x2048_o0_0_S128x512) x8) (k0_pay22 (extractStridedSlice S128x512 ![0, 0] p slices_S128x2048_o0_0_S128x512)) = q at *
  rw [ld_unit, ld_unit, ld_unit, ld_unit]
  pointwise [k0_pay1, k0_pay24]
  unfold poolR
  refine congrArg (· * _) ?_
  simp only [e]
  have fx : ∀ (g : Fin 4) (c : Fin 128) (f : Fin 128 → Fin 512), g.val = n.val / 128 → c.val = n.val % 128 → (∀ k, (f k).val = 128 * (n.val / 128) + k.val) →
      ∑ k : Fin 128, pooledR (UB p x8 r) 15 (f k) * x4 (ix3 g k c)
        = ∑ k : Fin 128, pooledR (UB p x8 r) 15 ⟨128 * (n.val / 128) + k.val, by omega⟩ * x4 (ix3 ⟨n.val / 128, by omega⟩ k ⟨n.val % 128, by omega⟩) := by
    intro g c f hg hc hf
    rw [show g = ⟨n.val / 128, by omega⟩ from Fin.ext hg, show c = ⟨n.val % 128, by omega⟩ from Fin.ext hc]
    exact Finset.sum_congr rfl fun k _ => congrArg (fun m => pooledR (UB p x8 r) 15 m * _) (Fin.ext (hf k))
  by_cases c0 : n.val < 128
  · rw [dif_pos c0]
    exact fx 0 ⟨n.val, c0⟩ (fun k => ⟨k.val, by omega⟩) (by show 0 = _; omega) (by dsimp only; omega) (fun k => by dsimp only; omega)
  rw [dif_neg c0]
  by_cases c1 : n.val - 128 < 128
  · rw [dif_pos c1]
    exact fx 1 ⟨n.val - 128, c1⟩ (fun k => ⟨128 + k.val, by omega⟩) (by show 1 = _; omega) (by dsimp only; omega) (fun k => by dsimp only; omega)
  rw [dif_neg c1]
  by_cases c2 : n.val - 128 - 128 < 128
  · rw [dif_pos c2]
    exact fx 2 ⟨n.val - 128 - 128, c2⟩ (fun k => ⟨256 + k.val, by omega⟩) (by show 2 = _; omega) (by dsimp only; omega) (fun k => by dsimp only; omega)
  rw [dif_neg c2]
  exact fx 3 ⟨n.val - 128 - 128 - 128, by omega⟩ (fun k => ⟨384 + k.val, by omega⟩) (by show 3 = _; omega) (by dsimp only; omega) (fun k => by dsimp only; omega)

end Cert.PreSampleIdeal.Out
end
end
-- ==== Proof.PsRefOps.lean ====
module
public import proofs.«01_k».proof.Proof.Gen.PreSampleRefIdeal.Run
public import proofs.«01_k».proof.Proof.Gen.PreSampleRefIdeal.Read
public import proofs.«01_k».proof.Proof.PreSpec
@[expose] public section
set_option maxRecDepth 16384

/-! Two operations of the one-row reference read at an index: the running sum down sixteen rows, and the gather of a row. -/

noncomputable section
open Idealize.ShloMosaic Idealize.ShloMosaic.TcCoe Idealize.SL.Sem
namespace Cert.PreSampleRefIdeal.Out
open Cert.PreSampleRefIdeal Cert.PreSampleRefIdeal.Facts₀ Cert.PreSampleRefIdeal.Facts Cert.PreSampleRefIdeal.Read Cert.Pre

/-- The gather of rows: the row of the result is the operand's row named by the start index, clamped to the operand. -/
theorem gather_rows (x : S128x17x128.Idx → EReal) (idx : IVec S1x1 32) (b : Fin 128) (s : Fin 1) (c : Fin 128) :
    Host.gather gather_S128x17x128_S1x1_S128x1x128_02_1_n_n_1_1_1281128 x idx (ix3 b s c)
      = x (ix3 b ⟨min (idx (ix2 s 0)).toInt.toNat 16, by omega⟩ c) := by
  unfold Host.gather
  refine congrArg x (funext fun a => Fin.ext ?_)
  match a with
  | ⟨0, _⟩ =>
    show GatherDims.start gather_S128x17x128_S1x1_S128x1x128_02_1_n_n_1_1_1281128 (ix3 b s c) idx 0 + GatherDims.batchCoord _ (ix3 b s c) 0 + GatherDims.offCoord _ (ix3 b s c) 0 = b.val
    have h1 : GatherDims.start gather_S128x17x128_S1x1_S128x1x128_02_1_n_n_1_1_1281128 (ix3 b s c) idx 0 = 0 := by
      unfold GatherDims.start; exact dif_neg (by decide)
    have h2 : GatherDims.batchCoord gather_S128x17x128_S1x1_S128x1x128_02_1_n_n_1_1_1281128 (ix3 b s c) 0 = 0 := by
      unfold GatherDims.batchCoord; exact dif_neg (by decide)
    have h3 : GatherDims.offCoord gather_S128x17x128_S1x1_S128x1x128_02_1_n_n_1_1_1281128 (ix3 b s c) 0 = b.val := by
      unfold GatherDims.offCoord; exact (dif_pos (by decide)).trans rfl
    rw [h1, h2, h3, Nat.zero_add]
  | ⟨1, _⟩ =>
    show GatherDims.start gather_S128x17x128_S1x1_S128x1x128_02_1_n_n_1_1_1281128 (ix3 b s c) idx 1 + GatherDims.batchCoord _ (ix3 b s c) 1 + GatherDims.offCoord _ (ix3 b s c) 1 = min (idx (ix2 s 0)).toInt.toNat 16
    have hsi : GatherDims.siIdx gather_S128x17x128_S1x1_S128x1x128_02_1_n_n_1_1_1281128 (ix3 b s c) ⟨0, by decide⟩ = (ix2 s 0 : S1x1.Idx) := by
      funext k; refine Fin.ext ?_
      match k with
      | ⟨0, _⟩ => rfl
      | ⟨1, _⟩ => rfl
    have h1 : GatherDims.start gather_S128x17x128_S1x1_S128x1x128_02_1_n_n_1_1_1281128 (ix3 b s c) idx 1 = min (idx (ix2 s 0)).toInt.toNat 16 := by
      unfold GatherDims.start
      exact (dif_pos (by decide)).trans (congrArg (fun i => min (idx i).toInt.toNat 16) hsi)
    have h2 : GatherDims.batchCoord gather_S128x17x128_S1x1_S128x1x128_02_1_n_n_1_1_1281128 (ix3 b s c) 1 = 0 := by
      unfold GatherDims.batchCoord; exact dif_neg (by decide)
    have h3 : GatherDims.offCoord gather_S128x17x128_S1x1_S128x1x128_02_1_n_n_1_1_1281128 (ix3 b s c) 1 = 0 := by
      unfold GatherDims.offCoord; exact dif_neg (by decide)
    rw [h1, h2, h3]
    rfl
  | ⟨2, _⟩ =>
    show GatherDims.start gather_S128x17x128_S1x1_S128x1x128_02_1_n_n_1_1_1281128 (ix3 b s c) idx 2 + GatherDims.batchCoord _ (ix3 b s c) 2 + GatherDims.offCoord _ (ix3 b s c) 2 = c.val
    have h1 : GatherDims.start gather_S128x17x128_S1x1_S128x1x128_02_1_n_n_1_1_1281128 (ix3 b s c) idx 2 = 0 := by
      unfold GatherDims.start; exact dif_neg (by decide)
    have h2 : GatherDims.batchCoord gather_S128x17x128_S1x1_S128x1x128_02_1_n_n_1_1_1281128 (ix3 b s c) 2 = 0 := by
      unfold GatherDims.batchCoord; exact dif_neg (by decide)
    have h3 : GatherDims.offCoord gather_S128x17x128_S1x1_S128x1x128_02_1_n_n_1_1_1281128 (ix3 b s c) 2 = c.val := by
      unfold GatherDims.offCoord; exact (dif_pos (by decide)).trans rfl
    rw [h1, h2, h3, Nat.zero_add]

theorem numel_w : (⟨3, ![1, 16, 1]⟩ : Shape).numel = 16 := by decide +kernel

theorem symm_w (n : Fin (⟨3, ![1, 16, 1]⟩ : Shape).numel) :
    (⟨3, ![1, 16, 1]⟩ : Shape).rowMajor.symm n = ix3 (0 : Fin 1) (n.cast numel_w) (0 : Fin 1) := by
  rw [Equiv.symm_apply_eq]
  refine Fin.ext ?_
  rw [Shape.rowMajor_val_three]
  show n.val = (0 * 16 + n.val) * 1 + 0
  omega

/-- The running sum down the rows: entry `s` is the sum of the rows up to `s`. -/
theorem cumsum_rows (x : S128x16x512.Idx → EReal) (init : S_.Idx → EReal) (hinit : init (Shape.Idx.first h_S_) = 0) (b : Fin 128) (s : Fin 16) (n : Fin 512) :
    Host.reduceWindowAdd (F := Ideal) (φ := .f32) ![1, 16, 1] ![1, 1, 1] ![0, 15, 0] ![0, 0, 0] x init
        reduceWindows_S128x16x512_S128x16x512_w1s1p0_0_w16s1p15_0_w1s1p0_0 h_S_ (ix3 b s n)
      = ∑ t ∈ Finset.range (s.val + 1), (if h : t < 16 then x (ix3 b ⟨t, h⟩ n) else 0) := by
  unfold Host.reduceWindowAdd
  rw [Ideal.hostReduceWindowAdd_def, hinit]
  unfold Ideal.hostReduceWindowAdd Host.reduceWindow
  dsimp only
  have hs := s.isLt
  have key : ∀ (l : List (Fin (⟨3, ![1, 16, 1]⟩ : Shape).numel)) (a : EReal) (f : Fin (⟨3, ![1, 16, 1]⟩ : Shape).numel → EReal),
      l.foldl (fun r n => r + f n) a = a + (l.map f).sum := by
    intro l
    induction l with
    | nil => intro a f; simp
    | cons q l ih => intro a f; rw [List.foldl_cons, ih, List.map_cons, List.sum_cons, add_assoc]
  refine (key _ _ _).trans ?_
  rw [zero_add]
  rw [show ∀ f : Fin (⟨3, ![1, 16, 1]⟩ : Shape).numel → EReal, ((List.finRange _).map f).sum = ∑ m, f m from fun f => (Fin.sum_univ_def f).symm]
  have hw : ∀ m : Fin (⟨3, ![1, 16, 1]⟩ : Shape).numel, ((⟨3, ![1, 16, 1]⟩ : Shape).rowMajor.symm m 0).val = 0
      ∧ ((⟨3, ![1, 16, 1]⟩ : Shape).rowMajor.symm m 1).val = m.val ∧ ((⟨3, ![1, 16, 1]⟩ : Shape).rowMajor.symm m 2).val = 0 := fun m => by
    rw [symm_w]; exact ⟨rfl, rfl, rfl⟩
  refine (Finset.sum_congr (g := fun m : Fin (⟨3, ![1, 16, 1]⟩ : Shape).numel =>
      if 15 ≤ s.val + m.val then (fun t => if h : t < 16 then x (ix3 b ⟨t, h⟩ n) else 0) (s.val + m.val - 15) else 0) rfl fun m _ => ?_).trans ?_
  · dsimp only
    obtain ⟨w0, w1, w2⟩ := hw m
    have hm : m.val < 16 := lt_of_lt_of_eq m.isLt numel_w
    by_cases hc : 15 ≤ s.val + m.val
    · rw [if_pos hc, dif_pos]
      · show _ = if h : s.val + m.val - 15 < 16 then _ else 0
        rw [dif_pos (by omega)]
        refine congrArg x (funext fun a => Fin.ext ?_)
        match a with
        | ⟨0, _⟩ => show b.val * 1 + ((⟨3, ![1, 16, 1]⟩ : Shape).rowMajor.symm m 0).val - 0 = b.val; omega
        | ⟨1, _⟩ => show s.val * 1 + ((⟨3, ![1, 16, 1]⟩ : Shape).rowMajor.symm m 1).val - 15 = s.val + m.val - 15; omega
        | ⟨2, _⟩ => show n.val * 1 + ((⟨3, ![1, 16, 1]⟩ : Shape).rowMajor.symm m 2).val - 0 = n.val; omega
      · intro a
        match a with
        | ⟨0, _⟩ =>
          show 0 ≤ b.val * 1 + ((⟨3, ![1, 16, 1]⟩ : Shape).rowMajor.symm m 0).val ∧ b.val * 1 + ((⟨3, ![1, 16, 1]⟩ : Shape).rowMajor.symm m 0).val - 0 < 128
          omega
        | ⟨1, _⟩ =>
          show 15 ≤ s.val * 1 + ((⟨3, ![1, 16, 1]⟩ : Shape).rowMajor.symm m 1).val ∧ s.val * 1 + ((⟨3, ![1, 16, 1]⟩ : Shape).rowMajor.symm m 1).val - 15 < 16
          omega
        | ⟨2, _⟩ =>
          show 0 ≤ n.val * 1 + ((⟨3, ![1, 16, 1]⟩ : Shape).rowMajor.symm m 2).val ∧ n.val * 1 + ((⟨3, ![1, 16, 1]⟩ : Shape).rowMajor.symm m 2).val - 0 < 512
          omega
    · rw [if_neg hc, dif_neg]
      intro hin
      have h1 := (hin 1).1
      change 15 ≤ s.val * 1 + ((⟨3, ![1, 16, 1]⟩ : Shape).rowMajor.symm m 1).val at h1
      omega
  generalize (fun t => if h : t < 16 then x (ix3 b ⟨t, h⟩ n) else (0 : EReal)) = f
  rw [Fin.sum_univ_eq_sum_range (fun m => if 15 ≤ s.val + m then f (s.val + m - 15) else 0), numel_w, ← Finset.sum_filter]
  refine Finset.sum_nbij' (fun m => s.val + m - 15) (fun t => t + 15 - s.val) ?_ ?_ ?_ ?_ ?_
  all_goals intro m hm
  all_goals simp only [Finset.mem_filter, Finset.mem_range] at hm ⊢
  all_goals omega

end Cert.PreSampleRefIdeal.Out
end
end
-- ==== Proof.PsRef.lean ====
module
public import proofs.«01_k».proof.Proof.PsRefOps
public import Idealize.ShloMosaic.Lib.Pointwise
@[expose] public section
set_option maxRecDepth 16384

/-! The reference of the pre-attention half for one new row per sequence, read at an index. -/

noncomputable section
open Idealize.ShloMosaic Idealize.ShloMosaic.TcCoe Idealize.SL.Sem
namespace Cert.PreSampleRefIdeal.Out
open Cert.PreSampleRefIdeal Cert.PreSampleRefIdeal.Facts₀ Cert.PreSampleRefIdeal.Facts Cert.PreSampleRefIdeal.Read Cert.Pre
variable (x0 : (⟨S128x1x1024, .f32⟩ : BufTy).Contents (Elt Ideal)) (x1 : (⟨S128x6144, .f32⟩ : BufTy).Contents (Elt Ideal)) (x2 : (⟨S1x1024, .f32⟩ : BufTy).Contents (Elt Ideal)) (x3 : (⟨S1x1024x2048, .f32⟩ : BufTy).Contents (Elt Ideal)) (x4 : (⟨S1x4x128x128, .f32⟩ : BufTy).Contents (Elt Ideal)) (x5 : (⟨S1x512, .f32⟩ : BufTy).Contents (Elt Ideal)) (x6 : (⟨S1x128x15x512, .f32⟩ : BufTy).Contents (Elt Ideal))

/-- The projected row of sequence `b`. -/
def P (b : Fin 128) : Fin 2048 → EReal :=
  projR (hR (fun n => x0 (ix3 b 0 n)) (fun n => x1 (ix2 b n)) (fun n => x2 (ix2 0 n))) (fun k n => x3 (ix3 0 k n))

/-- The pooled columns of sequence `b` by row: the fifteen rows before it, then its own. -/
def U (b : Fin 128) (t : Nat) (n : Fin 512) : EReal :=
  if h : t < 15 then x6 (ix4 0 b ⟨t, h⟩ n) else P x0 x1 x2 x3 b ⟨n.val, by omega⟩

/-- The arguments the pooled columns depend on hold real numbers. -/
def Fin6 : Prop := ((∀ i, IsR (x0 i)) ∧ (∀ i, IsR (x1 i)) ∧ (∀ i, IsR (x2 i)) ∧ (∀ i, IsR (x3 i))) ∧ (∀ i, IsR (x6 i))

theorem isR_U (h : Fin6 x0 x1 x2 x3 x6) (b : Fin 128) (t : Nat) (n : Fin 512) : IsR (U x0 x1 x2 x3 x6 b t n) := by
  unfold U
  by_cases ht : t < 15
  · rw [dif_pos ht]; exact h.2 _
  · rw [dif_neg ht]; exact isR_proj (fun _ => h.1.1 _) (fun _ => h.1.2.1 _) (fun _ => h.1.2.2.1 _) (fun _ _ => h.1.2.2.2 _) _

theorem proj_apply (b : Fin 128) (n : Fin 2048) :
    val_main_v26 x0 x1 x2 x3 (ix3 b 0 n) = P x0 x1 x2 x3 b n := by
  pointwise [val_main_v8, val_main_cst, val_main_v9, val_main_v10, val_main_cst_0, val_main_v11, val_main_v12, val_main_cst_1, val_main_v13, val_main_v14, val_main_v15, val_main_v16, val_main_v17, val_main_v7, val_main_v18, val_main_v19, val_main_v20, val_main_cst_2, val_main_v21, val_main_v0, val_main_v2, val_main_v22, val_main_v23, val_main_v1, val_main_v24, val_main_v25, val_main_v26]
  rfl

theorem u_apply (b : Fin 128) (n : Fin 512) :
    val_main_v27 x0 x1 x2 x3 (ix3 b 0 n) = U x0 x1 x2 x3 x6 b 15 n := by
  have H := proj_apply x0 x1 x2 x3
  unfold U
  rw [dif_neg (by omega)]
  simp only [val_main_v27]
  generalize val_main_v26 (F := Ideal) x0 x1 x2 x3 = mx at *
  pointwise
  simp only [H]

/-- The sixteen rows of the window. -/
theorem full_apply (b : Fin 128) (t : Fin 16) (n : Fin 512) :
    val_main_v34 x0 x1 x2 x3 x6 (ix3 b t n) = U x0 x1 x2 x3 x6 b t.val n := by
  have H := u_apply x0 x1 x2 x3 x6
  simp only [val_main_v34, val_main_v31]
  generalize val_main_v27 (F := Ideal) x0 x1 x2 x3 = mx at *
  pointwise
  by_cases ht : t.val < 15
  · rw [dif_pos ht]
    unfold U
    rw [dif_pos ht]
  · rw [dif_neg ht]
    exact (congrArg mx (congrArg (fun i => ix3 b i n) (Subsingleton.elim _ _))).trans
      ((H b n).trans (congrArg (fun t => U x0 x1 x2 x3 x6 b t n) (by omega)))

/-- The running sum with a zero row before it: row `t` is the sum of the rows before row `t`. -/
theorem cum_apply (b : Fin 128) (t : Fin 17) (n : Fin 512) :
    val_main_v36 x0 x1 x2 x3 x6 (ix3 b t n) = ∑ k ∈ Finset.range t.val, U x0 x1 x2 x3 x6 b k n := by
  have H : ∀ (b : Fin 128) (s : Fin 16) (n : Fin 512), val_main_v35 x0 x1 x2 x3 x6 (ix3 b s n)
      = ∑ k ∈ Finset.range (s.val + 1), U x0 x1 x2 x3 x6 b k n := fun b s n => by
    unfold val_main_v35
    rw [cumsum_rows _ _ (by simp only [val_main_call0_call0_v0, val_main_call0_call0_cst]; pointwise)]
    refine Finset.sum_congr rfl fun k hk => ?_
    have hk' := Finset.mem_range.1 hk
    have hk : k < 16 := by omega
    rw [dif_pos hk]; exact full_apply x0 x1 x2 x3 x6 b ⟨k, hk⟩ n
  simp only [val_main_v36, val_main_call1_v0, val_main_c]
  generalize val_main_v35 (F := Ideal) x0 x1 x2 x3 x6 = mx at *
  pointwise [pad_apply]
  by_cases ht : 1 ≤ t.val
  · rw [dif_pos (show 1 ≤ t.val ∧ t.val - 1 < 16 by omega), H]
    congr 2
    show t.val - 1 + 1 = t.val
    omega
  · rw [dif_neg (show ¬ (1 ≤ t.val ∧ t.val - 1 < 16) by omega), show t.val = 0 by omega, Finset.sum_range_zero]
    show (((0#32 : BitVec 32).toInt : ℝ) : EReal) = 0
    norm_num

/-- Group 0: the start row of the window of 2 rows. -/
theorem start0 : min (val_main_v53 (F := Ideal) (ix2 0 0)).toInt.toNat 16 = 15 + 1 - 2 := by
  pointwise [val_main_c_4, val_main_v41, val_main_v37, val_main_v42, val_main_c_5, val_main_v43, val_main_v44, val_main_c_6, val_main_v45, val_main_v46, val_main_c_7, val_main_v48, val_main_v49, val_main_c_8, val_main_v50, val_main_v51, val_main_v52, val_main_v53]
  decide +kernel

/-- Group 0: the number of rows in the window. -/
theorem count0 (b : Fin 128) (c : Fin 128) : val_main_v63 (F := Ideal) (ix3 b 0 c) = cnt 2 15 := by
  have h : (IntOp.minsi 2#32 (IntOp.addi (IntOp.addi 2048#32 (BitVec.ofNat 32 0)) 1#32)).toInt = ((2 : Nat) : Int) := by decide +kernel
  pointwise [val_main_c_10, val_main_v58, val_main_c_3, val_main_v38, val_main_v37, val_main_v39, val_main_c_9, val_main_v56, val_main_v57, val_main_v59, val_main_v60, val_main_v61, val_main_v62, val_main_v63]
  show (((IntOp.minsi 2#32 (IntOp.addi (IntOp.addi 2048#32 (BitVec.ofNat 32 0)) 1#32)).toInt : ℝ) : EReal) = _
  rw [h]
  unfold cnt
  rw [show min 2 (15 + 1) = 2 from by decide, Int.cast_natCast]

/-- Group 0: the mean over the window of 2 rows, less the row itself. -/
theorem group0 (hf : Fin6 x0 x1 x2 x3 x6) (b : Fin 128) (c : Fin 128) :
    val_main_v66 x0 x1 x2 x3 x6 (ix3 b 0 c)
      = Ideal.div (win (fun t => U x0 x1 x2 x3 x6 b t ⟨c.val, by omega⟩) 2 15) (cnt 2 15)
        - U x0 x1 x2 x3 x6 b 15 ⟨c.val, by omega⟩ := by
  have H := u_apply x0 x1 x2 x3 x6
  have K := cum_apply x0 x1 x2 x3 x6
  have K1 : ∀ n, val_main_v36 x0 x1 x2 x3 x6 (ix3 b 16 n) = ∑ k ∈ Finset.range (15 + 1), U x0 x1 x2 x3 x6 b k n := fun n => K b 16 n
  have C := count0 b c
  have G : val_main_v54 x0 x1 x2 x3 x6 (ix3 b 0 c) = ∑ k ∈ Finset.range (15 + 1 - 2), U x0 x1 x2 x3 x6 b k ⟨c.val, by omega⟩ := by
    unfold val_main_v54
    rw [gather_rows]
    simp only [start0]
    simp only [val_main_v40]
    generalize val_main_v36 (F := Ideal) x0 x1 x2 x3 x6 = cx at *
    pointwise
    exact K b _ _
  rw [← prefix_sub _ (fun t => isR_U x0 x1 x2 x3 x6 hf b t _) 2 15]
  simp only [val_main_v66, val_main_v64, val_main_v65, val_main_v55, val_main_v47, val_main_v40]
  generalize val_main_v54 (F := Ideal) x0 x1 x2 x3 x6 = gx at *
  generalize val_main_v27 (F := Ideal) x0 x1 x2 x3 = mx at *
  generalize val_main_v36 (F := Ideal) x0 x1 x2 x3 x6 = cx at *
  generalize val_main_v63 (F := Ideal) = nx at *
  pointwise
  simp only [H, K1, C, G] <;> rfl

/-- Group 1: the start row of the window of 4 rows. -/
theorem start1 : min (val_main_v80 (F := Ideal) (ix2 0 0)).toInt.toNat 16 = 15 + 1 - 4 := by
  pointwise [val_main_c_11, val_main_v68, val_main_v37, val_main_v69, val_main_c_12, val_main_v70, val_main_v71, val_main_c_13, val_main_v72, val_main_v73, val_main_c_14, val_main_v75, val_main_v76, val_main_c_15, val_main_v77, val_main_v78, val_main_v79, val_main_v80]
  decide +kernel

/-- Group 1: the number of rows in the window. -/
theorem count1 (b : Fin 128) (c : Fin 128) : val_main_v90 (F := Ideal) (ix3 b 0 c) = cnt 4 15 := by
  have h : (IntOp.minsi 4#32 (IntOp.addi (IntOp.addi 2048#32 (BitVec.ofNat 32 0)) 1#32)).toInt = ((4 : Nat) : Int) := by decide +kernel
  pointwise [val_main_c_17, val_main_v85, val_main_c_3, val_main_v38, val_main_v37, val_main_v39, val_main_c_16, val_main_v83, val_main_v84, val_main_v86, val_main_v87, val_main_v88, val_main_v89, val_main_v90]
  show (((IntOp.minsi 4#32 (IntOp.addi (IntOp.addi 2048#32 (BitVec.ofNat 32 0)) 1#32)).toInt : ℝ) : EReal) = _
  rw [h]
  unfold cnt
  rw [show min 4 (15 + 1) = 4 from by decide, Int.cast_natCast]

/-- Group 1: the mean over the window of 4 rows, less the row itself. -/
theorem group1 (hf : Fin6 x0 x1 x2 x3 x6) (b : Fin 128) (c : Fin 128) :
    val_main_v93 x0 x1 x2 x3 x6 (ix3 b 0 c)
      = Ideal.div (win (fun t => U x0 x1 x2 x3 x6 b t ⟨128 + c.val, by omega⟩) 4 15) (cnt 4 15)
        - U x0 x1 x2 x3 x6 b 15 ⟨128 + c.val, by omega⟩ := by
  have H := u_apply x0 x1 x2 x3 x6
  have K := cum_apply x0 x1 x2 x3 x6
  have K1 : ∀ n, val_main_v36 x0 x1 x2 x3 x6 (ix3 b 16 n) = ∑ k ∈ Finset.range (15 + 1), U x0 x1 x2 x3 x6 b k n := fun n => K b 16 n
  have C := count1 b c
  have G : val_main_v81 x0 x1 x2 x3 x6 (ix3 b 0 c) = ∑ k ∈ Finset.range (15 + 1 - 4), U x0 x1 x2 x3 x6 b k ⟨128 + c.val, by omega⟩ := by
    unfold val_main_v81
    rw [gather_rows]
    simp only [start1]
    simp only [val_main_v67]
    generalize val_main_v36 (F := Ideal) x0 x1 x2 x3 x6 = cx at *
    pointwise
    exact K b _ _
  rw [← prefix_sub _ (fun t => isR_U x0 x1 x2 x3 x6 hf b t _) 4 15]
  simp only [val_main_v93, val_main_v91, val_main_v92, val_main_v82, val_main_v74, val_main_v67]
  generalize val_main_v81 (F := Ideal) x0 x1 x2 x3 x6 = gx at *
  generalize val_main_v27 (F := Ideal) x0 x1 x2 x3 = mx at *
  generalize val_main_v36 (F := Ideal) x0 x1 x2 x3 x6 = cx at *
  generalize val_main_v90 (F := Ideal) = nx at *
  pointwise
  simp only [H, K1, C, G] <;> rfl

/-- Group 2: the start row of the window of 8 rows. -/
theorem start2 : min (val_main_v107 (F := Ideal) (ix2 0 0)).toInt.toNat 16 = 15 + 1 - 8 := by
  pointwise [val_main_c_18, val_main_v95, val_main_v37, val_main_v96, val_main_c_19, val_main_v97, val_main_v98, val_main_c_20, val_main_v99, val_main_v100, val_main_c_21, val_main_v102, val_main_v103, val_main_c_22, val_main_v104, val_main_v105, val_main_v106, val_main_v107]
  decide +kernel

/-- Group 2: the number of rows in the window. -/
theorem count2 (b : Fin 128) (c : Fin 128) : val_main_v117 (F := Ideal) (ix3 b 0 c) = cnt 8 15 := by
  have h : (IntOp.minsi 8#32 (IntOp.addi (IntOp.addi 2048#32 (BitVec.ofNat 32 0)) 1#32)).toInt = ((8 : Nat) : Int) := by decide +kernel
  pointwise [val_main_c_24, val_main_v112, val_main_c_3, val_main_v38, val_main_v37, val_main_v39, val_main_c_23, val_main_v110, val_main_v111, val_main_v113, val_main_v114, val_main_v115, val_main_v116, val_main_v117]
  show (((IntOp.minsi 8#32 (IntOp.addi (IntOp.addi 2048#32 (BitVec.ofNat 32 0)) 1#32)).toInt : ℝ) : EReal) = _
  rw [h]
  unfold cnt
  rw [show min 8 (15 + 1) = 8 from by decide, Int.cast_natCast]

/-- Group 2: the mean over the window of 8 rows, less the row itself. -/
theorem group2 (hf : Fin6 x0 x1 x2 x3 x6) (b : Fin 128) (c : Fin 128) :
    val_main_v120 x0 x1 x2 x3 x6 (ix3 b 0 c)
      = Ideal.div (win (fun t => U x0 x1 x2 x3 x6 b t ⟨256 + c.val, by omega⟩) 8 15) (cnt 8 15)
        - U x0 x1 x2 x3 x6 b 15 ⟨256 + c.val, by omega⟩ := by
  have H := u_apply x0 x1 x2 x3 x6
  have K := cum_apply x0 x1 x2 x3 x6
  have K1 : ∀ n, val_main_v36 x0 x1 x2 x3 x6 (ix3 b 16 n) = ∑ k ∈ Finset.range (15 + 1), U x0 x1 x2 x3 x6 b k n := fun n => K b 16 n
  have C := count2 b c
  have G : val_main_v108 x0 x1 x2 x3 x6 (ix3 b 0 c) = ∑ k ∈ Finset.range (15 + 1 - 8), U x0 x1 x2 x3 x6 b k ⟨256 + c.val, by omega⟩ := by
    unfold val_main_v108
    rw [gather_rows]
    simp only [start2]
    simp only [val_main_v94]
    generalize val_main_v36 (F := Ideal) x0 x1 x2 x3 x6 = cx at *
    pointwise
    exact K b _ _
  rw [← prefix_sub _ (fun t => isR_U x0 x1 x2 x3 x6 hf b t _) 8 15]
  simp only [val_main_v120, val_main_v118, val_main_v119, val_main_v109, val_main_v101, val_main_v94]
  generalize val_main_v108 (F := Ideal) x0 x1 x2 x3 x6 = gx at *
  generalize val_main_v27 (F := Ideal) x0 x1 x2 x3 = mx at *
  generalize val_main_v36 (F := Ideal) x0 x1 x2 x3 x6 = cx at *
  generalize val_main_v117 (F := Ideal) = nx at *
  pointwise
  simp only [H, K1, C, G] <;> rfl

/-- Group 3: the start row of the window of 16 rows. -/
theorem start3 : min (val_main_v134 (F := Ideal) (ix2 0 0)).toInt.toNat 16 = 15 + 1 - 16 := by
  pointwise [val_main_c_25, val_main_v122, val_main_v37, val_main_v123, val_main_c_26, val_main_v124, val_main_v125, val_main_c_27, val_main_v126, val_main_v127, val_main_c_28, val_main_v129, val_main_v130, val_main_c_29, val_main_v131, val_main_v132, val_main_v133, val_main_v134]
  decide +kernel

/-- Group 3: the number of rows in the window. -/
theorem count3 (b : Fin 128) (c : Fin 128) : val_main_v144 (F := Ideal) (ix3 b 0 c) = cnt 16 15 := by
  have h : (IntOp.minsi 16#32 (IntOp.addi (IntOp.addi 2048#32 (BitVec.ofNat 32 0)) 1#32)).toInt = ((16 : Nat) : Int) := by decide +kernel
  pointwise [val_main_c_31, val_main_v139, val_main_c_3, val_main_v38, val_main_v37, val_main_v39, val_main_c_30, val_main_v137, val_main_v138, val_main_v140, val_main_v141, val_main_v142, val_main_v143, val_main_v144]
  show (((IntOp.minsi 16#32 (IntOp.addi (IntOp.addi 2048#32 (BitVec.ofNat 32 0)) 1#32)).toInt : ℝ) : EReal) = _
  rw [h]
  unfold cnt
  rw [show min 16 (15 + 1) = 16 from by decide, Int.cast_natCast]

/-- Group 3: the mean over the window of 16 rows, less the row itself. -/
theorem group3 (hf : Fin6 x0 x1 x2 x3 x6) (b : Fin 128) (c : Fin 128) :
    val_main_v147 x0 x1 x2 x3 x6 (ix3 b 0 c)
      = Ideal.div (win (fun t => U x0 x1 x2 x3 x6 b t ⟨384 + c.val, by omega⟩) 16 15) (cnt 16 15)
        - U x0 x1 x2 x3 x6 b 15 ⟨384 + c.val, by omega⟩ := by
  have H := u_apply x0 x1 x2 x3 x6
  have K := cum_apply x0 x1 x2 x3 x6
  have K1 : ∀ n, val_main_v36 x0 x1 x2 x3 x6 (ix3 b 16 n) = ∑ k ∈ Finset.range (15 + 1), U x0 x1 x2 x3 x6 b k n := fun n => K b 16 n
  have C := count3 b c
  have G : val_main_v135 x0 x1 x2 x3 x6 (ix3 b 0 c) = ∑ k ∈ Finset.range (15 + 1 - 16), U x0 x1 x2 x3 x6 b k ⟨384 + c.val, by omega⟩ := by
    unfold val_main_v135
    rw [gather_rows]
    simp only [start3]
    simp only [val_main_v121]
    generalize val_main_v36 (F := Ideal) x0 x1 x2 x3 x6 = cx at *
    pointwise
    exact K b _ _
  rw [← prefix_sub _ (fun t => isR_U x0 x1 x2 x3 x6 hf b t _) 16 15]
  simp only [val_main_v147, val_main_v145, val_main_v146, val_main_v136, val_main_v128, val_main_v121]
  generalize val_main_v135 (F := Ideal) x0 x1 x2 x3 x6 = gx at *
  generalize val_main_v27 (F := Ideal) x0 x1 x2 x3 = mx at *
  generalize val_main_v36 (F := Ideal) x0 x1 x2 x3 x6 = cx at *
  generalize val_main_v144 (F := Ideal) = nx at *
  pointwise
  simp only [H, K1, C, G] <;> rfl

end Cert.PreSampleRefIdeal.Out
end
end
-- ==== Proof.PsRef2.lean ====
module
public import proofs.«01_k».proof.Proof.PsRef
public import Idealize.ShloMosaic.Lib.Pointwise
@[expose] public section
set_option maxRecDepth 16384

/-! The reference of the pre-attention half for one new row per sequence: its results, from the projected rows. -/

noncomputable section
open Idealize.ShloMosaic Idealize.ShloMosaic.TcCoe Idealize.SL.Sem
namespace Cert.PreSampleRefIdeal.Out
open Cert.PreSampleRefIdeal Cert.PreSampleRefIdeal.Facts₀ Cert.PreSampleRefIdeal.Facts Cert.PreSampleRefIdeal.Read Cert.Pre
variable (x0 : (⟨S128x1x1024, .f32⟩ : BufTy).Contents (Elt Ideal)) (x1 : (⟨S128x6144, .f32⟩ : BufTy).Contents (Elt Ideal)) (x2 : (⟨S1x1024, .f32⟩ : BufTy).Contents (Elt Ideal)) (x3 : (⟨S1x1024x2048, .f32⟩ : BufTy).Contents (Elt Ideal)) (x4 : (⟨S1x4x128x128, .f32⟩ : BufTy).Contents (Elt Ideal)) (x5 : (⟨S1x512, .f32⟩ : BufTy).Contents (Elt Ideal)) (x6 : (⟨S1x128x15x512, .f32⟩ : BufTy).Contents (Elt Ideal))

theorem q_apply (b : Fin 128) (n : Fin 512) :
    val_main_v28 x0 x1 x2 x3 (ix3 b 0 n) = P x0 x1 x2 x3 b ⟨512 + n.val, by omega⟩ := by
  have H := proj_apply x0 x1 x2 x3
  simp only [val_main_v28]
  generalize val_main_v26 (F := Ideal) x0 x1 x2 x3 = mx at *
  pointwise
  simp only [H]

theorem k_apply (b : Fin 128) (n : Fin 512) :
    val_main_v29 x0 x1 x2 x3 (ix3 b 0 n) = P x0 x1 x2 x3 b ⟨1024 + n.val, by omega⟩ := by
  have H := proj_apply x0 x1 x2 x3
  simp only [val_main_v29]
  generalize val_main_v26 (F := Ideal) x0 x1 x2 x3 = mx at *
  pointwise
  simp only [H]

theorem v_apply (b : Fin 128) (n : Fin 512) :
    val_main_v30 x0 x1 x2 x3 (ix3 b 0 n) = P x0 x1 x2 x3 b ⟨1536 + n.val, by omega⟩ := by
  have H := proj_apply x0 x1 x2 x3
  simp only [val_main_v30]
  generalize val_main_v26 (F := Ideal) x0 x1 x2 x3 = mx at *
  pointwise
  simp only [H]

/-- The angle of frequency `l` at the new row's position. -/
def ang (l : Fin 32) : EReal := val_main_v174 (F := Ideal) (ix2 0 l)

/-- A row of projections rotated by the angles of the position, its columns starting at `o`. -/
abbrev rot (b : Fin 128) (o : Nat) (ho : o + 512 ≤ 2048) : Fin 512 → EReal :=
  ropeR (fun n => P x0 x1 x2 x3 b ⟨o + n.val, by omega⟩) (fun l => Ideal.cos (ang l)) (fun l => Ideal.sin (ang l))

/-- The rotated queries. -/
theorem qrot_apply (b : Fin 128) (n : Fin 512) :
    val_main_v192 x0 x1 x2 x3 (ix2 b n) = rot x0 x1 x2 x3 b 512 (by omega) n := by
  have H := q_apply x0 x1 x2 x3
  have A : ∀ l, val_main_v174 (F := Ideal) (ix2 0 l) = ang l := fun _ => rfl
  simp only [val_main_v192, val_main_v191, val_main_v190, val_main_v189, val_main_v188, val_main_v187, val_main_v186, val_main_v185, val_main_v184, val_main_v183, val_main_v178, val_main_v177, val_main_v180, val_main_v182, val_main_v181, val_main_v176, val_main_v175, val_main_v179, val_main_v163]
  generalize val_main_v28 (F := Ideal) x0 x1 x2 x3 = mx at *
  generalize val_main_v174 (F := Ideal) = an at *
  pointwise
  unfold rot ropeR
  by_cases h : n.val % 64 < 32
  · rw [dif_pos h, dif_pos h]
    simp only [H, A]
    refine congrArg₂ HSub.hSub (congrArg₂ HMul.hMul (congrArg (P x0 x1 x2 x3 b) (Fin.ext ?_)) (congrArg (fun l => Ideal.cos (ang l)) (Fin.ext ?_)))
      (congrArg₂ HMul.hMul (congrArg (P x0 x1 x2 x3 b) (Fin.ext ?_)) (congrArg (fun l => Ideal.sin (ang l)) (Fin.ext ?_)))
    all_goals dsimp only
    all_goals omega
  · rw [dif_neg h, dif_neg h]
    simp only [H, A]
    refine congrArg₂ HAdd.hAdd (congrArg₂ HMul.hMul (congrArg (P x0 x1 x2 x3 b) (Fin.ext ?_)) (congrArg (fun l => Ideal.cos (ang l)) (Fin.ext ?_)))
      (congrArg₂ HMul.hMul (congrArg (P x0 x1 x2 x3 b) (Fin.ext ?_)) (congrArg (fun l => Ideal.sin (ang l)) (Fin.ext ?_)))
    all_goals dsimp only
    all_goals omega

/-- The rotated keys. -/
theorem krot_apply (b : Fin 128) (n : Fin 512) :
    val_main_v222 x0 x1 x2 x3 (ix2 b n) = rot x0 x1 x2 x3 b 1024 (by omega) n := by
  have H := k_apply x0 x1 x2 x3
  have A : ∀ l, val_main_v204 (F := Ideal) (ix2 0 l) = ang l := fun _ => rfl
  simp only [val_main_v222, val_main_v221, val_main_v220, val_main_v219, val_main_v218, val_main_v217, val_main_v216, val_main_v215, val_main_v214, val_main_v213, val_main_v208, val_main_v207, val_main_v210, val_main_v212, val_main_v211, val_main_v206, val_main_v205, val_main_v209, val_main_v193]
  generalize val_main_v29 (F := Ideal) x0 x1 x2 x3 = mx at *
  generalize val_main_v204 (F := Ideal) = an at *
  pointwise
  unfold rot ropeR
  by_cases h : n.val % 64 < 32
  · rw [dif_pos h, dif_pos h]
    simp only [H, A]
    refine congrArg₂ HSub.hSub (congrArg₂ HMul.hMul (congrArg (P x0 x1 x2 x3 b) (Fin.ext ?_)) (congrArg (fun l => Ideal.cos (ang l)) (Fin.ext ?_)))
      (congrArg₂ HMul.hMul (congrArg (P x0 x1 x2 x3 b) (Fin.ext ?_)) (congrArg (fun l => Ideal.sin (ang l)) (Fin.ext ?_)))
    all_goals dsimp only
    all_goals omega
  · rw [dif_neg h, dif_neg h]
    simp only [H, A]
    refine congrArg₂ HAdd.hAdd (congrArg₂ HMul.hMul (congrArg (P x0 x1 x2 x3 b) (Fin.ext ?_)) (congrArg (fun l => Ideal.cos (ang l)) (Fin.ext ?_)))
      (congrArg₂ HMul.hMul (congrArg (P x0 x1 x2 x3 b) (Fin.ext ?_)) (congrArg (fun l => Ideal.sin (ang l)) (Fin.ext ?_)))
    all_goals dsimp only
    all_goals omega

/-- The values. -/
theorem vrow_apply (b : Fin 128) (n : Fin 512) :
    val_main_v225 x0 x1 x2 x3 (ix2 b n) = P x0 x1 x2 x3 b ⟨1536 + n.val, by omega⟩ := by
  have H := v_apply x0 x1 x2 x3
  simp only [val_main_v225]
  generalize val_main_v30 (F := Ideal) x0 x1 x2 x3 = mx at *
  pointwise
  simp only [H]

/-- The new row of the window. -/
theorem urow_apply (b : Fin 128) (n : Fin 512) :
    val_main_v224 x0 x1 x2 x3 x6 (ix2 b n) = P x0 x1 x2 x3 b ⟨n.val, by omega⟩ := by
  have H := full_apply x0 x1 x2 x3 x6
  simp only [val_main_v224, val_main_v223, val_main_v159]
  generalize val_main_v34 (F := Ideal) x0 x1 x2 x3 x6 = mx at *
  pointwise
  simp only [H]
  rfl

theorem groups_of (g0 g1 g2 g3 : (⟨S128x1x128, .f32⟩ : BufTy).Contents (Elt Ideal)) (b : Fin 128) (g : Fin 4) (c : Fin 128) :
    concatenate S128x1x4x128 2
        [⟨S128x1x1x128, (broadcastInDim S128x1x1x128 ![0, 1, 3] bcast_S128x1x128_S128x1x1x128_0_1_3 g0 : (⟨S128x1x1x128, .f32⟩ : BufTy).Contents (Elt Ideal))⟩,
          ⟨S128x1x1x128, (broadcastInDim S128x1x1x128 ![0, 1, 3] bcast_S128x1x128_S128x1x1x128_0_1_3 g1 : (⟨S128x1x1x128, .f32⟩ : BufTy).Contents (Elt Ideal))⟩,
          ⟨S128x1x1x128, (broadcastInDim S128x1x1x128 ![0, 1, 3] bcast_S128x1x128_S128x1x1x128_0_1_3 g2 : (⟨S128x1x1x128, .f32⟩ : BufTy).Contents (Elt Ideal))⟩,
          ⟨S128x1x1x128, (broadcastInDim S128x1x1x128 ![0, 1, 3] bcast_S128x1x128_S128x1x1x128_0_1_3 g3 : (⟨S128x1x1x128, .f32⟩ : BufTy).Contents (Elt Ideal))⟩]
        concatenates_S128x1x1x128_S128x1x1x128_S128x1x1x128_S128x1x1x128_S128x1x4x128_d2 (ix4 b 0 g c)
      = if g.val < 1 then g0 (ix3 b 0 c) else if g.val < 2 then g1 (ix3 b 0 c) else if g.val < 3 then g2 (ix3 b 0 c) else g3 (ix3 b 0 c) := by
  pointwise
  by_cases h1 : g.val < 1
  · rw [dif_pos h1, if_pos h1]
  rw [dif_neg h1, if_neg h1]
  by_cases h2 : g.val < 2
  · rw [dif_pos (show g.val - 1 < 1 by omega), if_pos h2]
  rw [dif_neg (show ¬ g.val - 1 < 1 by omega), if_neg h2]
  by_cases h3 : g.val < 3
  · rw [dif_pos (show g.val - 1 - 1 < 1 by omega), if_pos h3]
  rw [dif_neg (show ¬ g.val - 1 - 1 < 1 by omega), if_neg h3]

/-- The four groups side by side. -/
theorem groups_apply (hf : Fin6 x0 x1 x2 x3 x6) (b : Fin 128) (g : Fin 4) (c : Fin 128) :
    val_main_v152 x0 x1 x2 x3 x6 (ix4 b 0 g c) = pooledR (U x0 x1 x2 x3 x6 b) 15 ⟨128 * g.val + c.val, by omega⟩ := by
  unfold val_main_v152 val_main_v151 val_main_v150 val_main_v149 val_main_v148
  refine (groups_of _ _ _ _ b g c).trans ?_
  rw [group0 x0 x1 x2 x3 x6 hf, group1 x0 x1 x2 x3 x6 hf, group2 x0 x1 x2 x3 x6 hf, group3 x0 x1 x2 x3 x6 hf]
  unfold pooledR
  have hc := c.isLt
  match g with
  | ⟨0, _⟩ =>
    rw [if_pos (show (0 : Nat) < 1 by omega), if_pos (show 128 * 0 + c.val < 128 by omega)]
    simp only [Nat.mul_zero, Nat.zero_add]
  | ⟨1, _⟩ =>
    rw [if_neg (show ¬ (1 : Nat) < 1 by omega), if_pos (show (1 : Nat) < 2 by omega), if_neg (show ¬ 128 * 1 + c.val < 128 by omega),
      if_pos (show 128 * 1 + c.val < 256 by omega)]
    rfl
  | ⟨2, _⟩ =>
    rw [if_neg (show ¬ (2 : Nat) < 1 by omega), if_neg (show ¬ (2 : Nat) < 2 by omega), if_pos (show (2 : Nat) < 3 by omega), if_neg (show ¬ 128 * 2 + c.val < 128 by omega),
      if_neg (show ¬ 128 * 2 + c.val < 256 by omega), if_pos (show 128 * 2 + c.val < 384 by omega)]
    rfl
  | ⟨3, _⟩ =>
    rw [if_neg (show ¬ (3 : Nat) < 1 by omega), if_neg (show ¬ (3 : Nat) < 2 by omega), if_neg (show ¬ (3 : Nat) < 3 by omega), if_neg (show ¬ 128 * 3 + c.val < 128 by omega),
      if_neg (show ¬ 128 * 3 + c.val < 256 by omega), if_neg (show ¬ 128 * 3 + c.val < 384 by omega)]
    rfl

theorem bf_apply {S : Shape} (x : FVec Ideal S .f32) (h : FTy.bf16.bits < FTy.f32.bits) (i : S.Idx) : truncf (F := Ideal) .bf16 x h i = x i := rfl

/-- The pooled row through the projection, scaled. -/
theorem pool_apply (hf : Fin6 x0 x1 x2 x3 x6) (b : Fin 128) (n : Fin 512) :
    val_main_v227 x0 x1 x2 x3 x4 x5 x6 (ix2 b n)
      = poolR (pooledR (U x0 x1 x2 x3 x6 b) 15) (fun g k c => x4 (ix4 0 g k c)) (fun n => x5 (ix2 0 n)) n := by
  have H := groups_apply x0 x1 x2 x3 x6 hf
  simp only [val_main_v227, val_main_v226, val_main_v158, val_main_v157, val_main_v156, val_main_v33, val_main_v155, val_main_v154, val_main_v153, val_main_v32]
  generalize val_main_v152 (F := Ideal) x0 x1 x2 x3 x6 = mx at *
  pointwise
  simp only [H]
  unfold poolR
  refine congrArg (· * _) (Finset.sum_congr rfl fun k _ => mul_comm _ _)

end Cert.PreSampleRefIdeal.Out
end
end
-- ==== Proof.PsBlk.lean ====
module
public import proofs.«01_k».proof.Proof.PsIdx
public import proofs.«01_k».proof.Proof.PsRef2
public import proofs.«01_k».proof.Proof.Gen.PreSampleIdeal.Value
@[expose] public section
set_option maxRecDepth 16384

/-! The blocks of the one-position pre-attention kernel as parts of its arguments and of the two rotation tables. -/

noncomputable section
open Idealize.ShloMosaic Idealize.ShloMosaic.TcCoe Idealize.SL.Sem
namespace Cert.PreSampleIdeal.Out
open Cert.PreSampleIdeal Cert.PreSampleIdeal.Gen Cert.Pre
open Cert.PreSampleRefIdeal.Out (ang)
variable (m : (ℓ : Loc nD τ sig) → Buf (Elt Ideal) ℓ)

/-! The arguments, as arrays. -/
abbrev a0 (c : Dev nD) : S128x1x1024.Idx → EReal := m ((c : Thread nD τ).loc main_arg0)
abbrev a1 (c : Dev nD) : S128x6144.Idx → EReal := m ((c : Thread nD τ).loc main_arg1)
abbrev a2 (c : Dev nD) : S1x1024.Idx → EReal := m ((c : Thread nD τ).loc main_arg2)
abbrev a3 (c : Dev nD) : S1x1024x2048.Idx → EReal := m ((c : Thread nD τ).loc main_arg3)
abbrev a4 (c : Dev nD) : S1x4x128x128.Idx → EReal := m ((c : Thread nD τ).loc main_arg4)
abbrev a5 (c : Dev nD) : S1x512.Idx → EReal := m ((c : Thread nD τ).loc main_arg5)
abbrev a6 (c : Dev nD) : S1x128x15x512.Idx → EReal := m ((c : Thread nD τ).loc main_arg6)

/-! What the host lines before the kernel write. -/

theorem V_v25 (c : Dev nD) (b : Fin 128) (n : Fin 1024) : (V m c main_v25 : S128x1024.Idx → EReal) (ix2 b n) = a0 m c (ix3 b 0 n) := by
  have e : (V m c main_v25 : S128x1024.Idx → EReal) = shapeCast S128x1024 (a0 m c) shapeCasts_S128x1x1024_S128x1024 := by
    unfold_abbrev_sides
    after_results
    rfl
  rw [e]
  pointwise

theorem V_v27 (c : Dev nD) (n : Fin 1024) : (V m c main_v27 : S1x1024.Idx → EReal) (ix2 0 n) = a2 m c (ix2 0 n) := by
  have e : (V m c main_v27 : S1x1024.Idx → EReal) = shapeCast S1x1024 (shapeCast S1024 (a2 m c) shapeCasts_S1x1024_S1024) shapeCasts_S1024_S1x1024 := by
    unfold_abbrev_sides
    after_results
    rfl
  rw [e]
  pointwise

theorem V_v29 (c : Dev nD) (k : Fin 1024) (n : Fin 2048) : (V m c main_v29 : S1024x2048.Idx → EReal) (ix2 k n) = a3 m c (ix3 0 k n) := by
  have e : (V m c main_v29 : S1024x2048.Idx → EReal) = truncf (F := Ideal) .bf16 (shapeCast S1024x2048 (a3 m c) shapeCasts_S1x1024x2048_S1024x2048) bitsLt_bf16_f32 := by
    unfold_abbrev_sides
    after_results
    rfl
  rw [e]
  pointwise

theorem V_v31 (c : Dev nD) (g : Fin 4) (k n : Fin 128) : (V m c main_v31 : S4x128x128.Idx → EReal) (ix3 g k n) = a4 m c (ix4 0 g k n) := by
  have e : (V m c main_v31 : S4x128x128.Idx → EReal) = truncf (F := Ideal) .bf16 (shapeCast S4x128x128 (a4 m c) shapeCasts_S1x4x128x128_S4x128x128) bitsLt_bf16_f32 := by
    unfold_abbrev_sides
    after_results
    rfl
  rw [e]
  pointwise

theorem V_v33 (c : Dev nD) (n : Fin 512) : (V m c main_v33 : S1x512.Idx → EReal) (ix2 0 n) = a5 m c (ix2 0 n) := by
  have e : (V m c main_v33 : S1x512.Idx → EReal) = shapeCast S1x512 (shapeCast S512 (a5 m c) shapeCasts_S1x512_S512) shapeCasts_S512_S1x512 := by
    unfold_abbrev_sides
    after_results
    rfl
  rw [e]
  pointwise

theorem V_v34 (c : Dev nD) (b : Fin 128) (t : Fin 15) (n : Fin 512) : (V m c main_v34 : S128x15x512.Idx → EReal) (ix3 b t n) = a6 m c (ix4 0 b t n) := by
  have e : (V m c main_v34 : S128x15x512.Idx → EReal) = shapeCast S128x15x512 (a6 m c) shapeCasts_S1x128x15x512_S128x15x512 := by
    unfold_abbrev_sides
    after_results
    rfl
  rw [e]
  pointwise

/-- Two arrays of 32 columns side by side, twice over. -/
def tab (p q : (⟨S1x32, .f32⟩ : BufTy).Contents (Elt Ideal)) : S1x128.Idx → EReal :=
  shapeCast S1x128 (broadcastInDim S1x1x2x64 ![0, 1, 2, 3] bcast_S1x1x1x64_S1x1x2x64_0_1_2_3 (shapeCast S1x1x1x64 (concatenate S1x64 1 [⟨S1x32, p⟩, ⟨S1x32, q⟩] concatenates_S1x32_S1x32_S1x64_d1) shapeCasts_S1x64_S1x1x1x64)) shapeCasts_S1x1x2x64_S1x128

/-- Two arrays of 32 columns side by side, twice over, read at a column. -/
theorem tab_apply (p q : (⟨S1x32, .f32⟩ : BufTy).Contents (Elt Ideal)) (l : Fin 128) :
    tab p q (ix2 0 l)
      = if l.val % 64 < 32 then p (ix2 0 ⟨l.val % 32, by omega⟩) else q (ix2 0 ⟨l.val % 32, by omega⟩) := by
  pointwise [tab]
  by_cases h : l.val % 64 < 32
  · rw [dif_pos h, if_pos h]
    refine congrArg (fun j => p (ix2 0 j)) (Fin.ext ?_)
    dsimp only
    omega
  · rw [dif_neg h, if_neg h]
    refine congrArg (fun j => q (ix2 0 j)) (Fin.ext ?_)
    dsimp only
    omega

theorem V_v19 (c : Dev nD) (l : Fin 128) : (V m c main_v19 : S1x128.Idx → EReal) (ix2 0 l) = Ideal.cos (ang ⟨l.val % 32, by omega⟩) := by
  have e : (V m c main_v19 : S1x128.Idx → EReal) = tab (Host.cos (F := Ideal) (φ := .f32) (Cert.PreSampleRefIdeal.Read.val_main_v174 (F := Ideal) : (⟨S1x32, .f32⟩ : BufTy).Contents (Elt Ideal))) (Host.cos (F := Ideal) (φ := .f32) (Cert.PreSampleRefIdeal.Read.val_main_v174 (F := Ideal) : (⟨S1x32, .f32⟩ : BufTy).Contents (Elt Ideal))) := by
    unfold_abbrev_sides
    after_results
    rfl
  rw [e]
  rw [tab_apply]
  by_cases h : l.val % 64 < 32
  · rw [if_pos h]; rfl
  · rw [if_neg h]; rfl

theorem V_v24 (c : Dev nD) (l : Fin 128) : (V m c main_v24 : S1x128.Idx → EReal) (ix2 0 l) = if l.val % 64 < 32 then - Ideal.sin (ang ⟨l.val % 32, by omega⟩) else Ideal.sin (ang ⟨l.val % 32, by omega⟩) := by
  have e : (V m c main_v24 : S1x128.Idx → EReal) = tab (Host.negf (F := Ideal) (φ := .f32) (Host.sin (F := Ideal) (φ := .f32) (Cert.PreSampleRefIdeal.Read.val_main_v174 (F := Ideal) : (⟨S1x32, .f32⟩ : BufTy).Contents (Elt Ideal)))) (Host.sin (F := Ideal) (φ := .f32) (Cert.PreSampleRefIdeal.Read.val_main_v174 (F := Ideal) : (⟨S1x32, .f32⟩ : BufTy).Contents (Elt Ideal))) := by
    unfold_abbrev_sides
    after_results
    rfl
  rw [e]
  rw [tab_apply]
  by_cases h : l.val % 64 < 32
  · rw [if_pos h, if_pos h]; rfl
  · rw [if_neg h, if_neg h]; rfl

/-! The kernel has one grid point, and each window's block is the whole array. -/

/-- The only grid point. -/
def t0 : Fin cfg0.N := ⟨0, by decide⟩

theorem blk0 (c : Dev nD) (t : Fin cfg0.N) : (iblk m c 0 t : S128x1024.Idx → EReal) = V m c main_v25 := by
  funext i
  unfold iblk
  rw [View.read_apply]
  show V m c main_v25 _ = V m c main_v25 _
  congr 1
  funext a
  apply Fin.ext
  match a with
  | ⟨0, _⟩ => show 0 * 128 + 1 * (i 0).val = (i 0).val; omega
  | ⟨1, _⟩ => show 0 * 1024 + 1 * (i 1).val = (i 1).val; omega

theorem blk1 (c : Dev nD) (t : Fin cfg0.N) : (iblk m c 1 t : S128x6144.Idx → EReal) = V m c main_arg1 := by
  funext i
  unfold iblk
  rw [View.read_apply]
  show V m c main_arg1 _ = V m c main_arg1 _
  congr 1
  funext a
  apply Fin.ext
  match a with
  | ⟨0, _⟩ => show 0 * 128 + 1 * (i 0).val = (i 0).val; omega
  | ⟨1, _⟩ => show 0 * 6144 + 1 * (i 1).val = (i 1).val; omega

theorem blk2 (c : Dev nD) (t : Fin cfg0.N) : (iblk m c 2 t : S1x1024.Idx → EReal) = V m c main_v27 := by
  funext i
  unfold iblk
  rw [View.read_apply]
  show V m c main_v27 _ = V m c main_v27 _
  congr 1
  funext a
  apply Fin.ext
  match a with
  | ⟨0, _⟩ => show 0 * 1 + 1 * (i 0).val = (i 0).val; omega
  | ⟨1, _⟩ => show 0 * 1024 + 1 * (i 1).val = (i 1).val; omega

theorem blk3 (c : Dev nD) (t : Fin cfg0.N) : (iblk m c 3 t : S1024x2048.Idx → EReal) = V m c main_v29 := by
  funext i
  unfold iblk
  rw [View.read_apply]
  show V m c main_v29 _ = V m c main_v29 _
  congr 1
  funext a
  apply Fin.ext
  match a with
  | ⟨0, _⟩ => show 0 * 1024 + 1 * (i 0).val = (i 0).val; omega
  | ⟨1, _⟩ => show 0 * 2048 + 1 * (i 1).val = (i 1).val; omega

theorem blk4 (c : Dev nD) (t : Fin cfg0.N) : (iblk m c 4 t : S4x128x128.Idx → EReal) = V m c main_v31 := by
  funext i
  unfold iblk
  rw [View.read_apply]
  show V m c main_v31 _ = V m c main_v31 _
  congr 1
  funext a
  apply Fin.ext
  match a with
  | ⟨0, _⟩ => show 0 * 4 + 1 * (i 0).val = (i 0).val; omega
  | ⟨1, _⟩ => show 0 * 128 + 1 * (i 1).val = (i 1).val; omega
  | ⟨2, _⟩ => show 0 * 128 + 1 * (i 2).val = (i 2).val; omega

theorem blk5 (c : Dev nD) (t : Fin cfg0.N) : (iblk m c 5 t : S1x512.Idx → EReal) = V m c main_v33 := by
  funext i
  unfold iblk
  rw [View.read_apply]
  show V m c main_v33 _ = V m c main_v33 _
  congr 1
  funext a
  apply Fin.ext
  match a with
  | ⟨0, _⟩ => show 0 * 1 + 1 * (i 0).val = (i 0).val; omega
  | ⟨1, _⟩ => show 0 * 512 + 1 * (i 1).val = (i 1).val; omega

theorem blk6 (c : Dev nD) (t : Fin cfg0.N) : (iblk m c 6 t : S1x128.Idx → EReal) = V m c main_v19 := by
  funext i
  unfold iblk
  rw [View.read_apply]
  show V m c main_v19 _ = V m c main_v19 _
  congr 1
  funext a
  apply Fin.ext
  match a with
  | ⟨0, _⟩ => show 0 * 1 + 1 * (i 0).val = (i 0).val; omega
  | ⟨1, _⟩ => show 0 * 128 + 1 * (i 1).val = (i 1).val; omega

theorem blk7 (c : Dev nD) (t : Fin cfg0.N) : (iblk m c 7 t : S1x128.Idx → EReal) = V m c main_v24 := by
  funext i
  unfold iblk
  rw [View.read_apply]
  show V m c main_v24 _ = V m c main_v24 _
  congr 1
  funext a
  apply Fin.ext
  match a with
  | ⟨0, _⟩ => show 0 * 1 + 1 * (i 0).val = (i 0).val; omega
  | ⟨1, _⟩ => show 0 * 128 + 1 * (i 1).val = (i 1).val; omega

theorem blk8 (c : Dev nD) (t : Fin cfg0.N) : (iblk m c 8 t : S128x15x512.Idx → EReal) = V m c main_v34 := by
  funext i
  unfold iblk
  rw [View.read_apply]
  show V m c main_v34 _ = V m c main_v34 _
  congr 1
  funext a
  apply Fin.ext
  match a with
  | ⟨0, _⟩ => show 0 * 128 + 1 * (i 0).val = (i 0).val; omega
  | ⟨1, _⟩ => show 0 * 15 + 1 * (i 1).val = (i 1).val; omega
  | ⟨2, _⟩ => show 0 * 512 + 1 * (i 2).val = (i 2).val; omega

end Cert.PreSampleIdeal.Out
end
end
-- ==== Proof.PsValue.lean ====
module
public import proofs.«01_k».proof.Proof.PsBlk
public import proofs.«01_k».proof.Proof.PreValue
public import proofs.«01_k».proof.Proof.Gen.Pre_finite_step
public import proofs.«01_k».proof.Defs
public import proofs.«01_k».proof.Proof.Gen.PreSampleRefIdeal.Run
public import proofs.«01_k».proof.Proof.Gen.PreSampleRefIdeal.Read
@[expose] public section
set_option maxRecDepth 16384

/-! The one-position pre-attention kernel's five result arrays are the reference's, at every index. -/

noncomputable section
open Idealize.ShloMosaic Idealize.ShloMosaic.TcCoe Idealize.SL.Sem
namespace Cert.PreSampleIdeal.Out
open Cert.PreSampleIdeal Cert.PreSampleIdeal.Gen Cert.PreSampleIdeal.Value Cert.Pre
open Cert.PreSampleRefIdeal.Out (ang rot Fin6 P U)
open Cert.PrePromptIdeal.Out (ropeT ropeT_of real_of_bits)
variable (m : (ℓ : Loc nD τ sig) → Buf (Elt Ideal) ℓ)

/-- The kernel's projections are the reference's. -/
theorem proj_blk (c : Dev nD) (b : Fin 128) (n : Fin 2048) :
    (k0_pay2 (iblk m c 0 t0) (iblk m c 1 t0) (iblk m c 2 t0) (iblk m c 3 t0) : S128x2048.Idx → EReal) (ix2 b n) = P (a0 m c) (a1 m c) (a2 m c) (a3 m c) b n := by
  refine (proj_apply (iblk m c 0 t0) (iblk m c 1 t0) (iblk m c 2 t0) (iblk m c 3 t0) b n).trans ?_
  unfold P
  rw [blk0 m c t0, blk1 m c t0, blk2 m c t0, blk3 m c t0]
  refine congrFun (congrArg₂ projR ?_ ?_) n
  · have e0 : (fun n => (V m c main_v25 : S128x1024.Idx → EReal) (ix2 b n)) = fun n => a0 m c (ix3 b 0 n) := funext fun n => V_v25 m c b n
    have e1 : (fun n => (V m c main_arg1 : S128x6144.Idx → EReal) (ix2 b n)) = fun n => a1 m c (ix2 b n) := funext fun n => congrFun (V_main_arg1 m c) (ix2 b n)
    have e2 : (fun n => (V m c main_v27 : S1x1024.Idx → EReal) (ix2 0 n)) = fun n => a2 m c (ix2 0 n) := funext fun n => V_v27 m c n
    rw [e0, e1, e2]
  · funext k n
    exact V_v29 m c k n

/-- Rotating by the two blocks of the tables is the rotation by the angle of the position. -/
theorem rope_blk (c : Dev nD) (p : Fin 512 → EReal) (n : Fin 512) :
    ropeT p (fun l => (iblk m c 6 t0 : S1x128.Idx → EReal) (ix2 0 l)) (fun l => (iblk m c 7 t0 : S1x128.Idx → EReal) (ix2 0 l)) n
      = ropeR p (fun l => Ideal.cos (ang l)) (fun l => Ideal.sin (ang l)) n := by
  unfold ropeT ropeR
  dsimp only
  rw [blk6 m c t0, blk7 m c t0, V_v19 m c, V_v24 m c]
  have e : (⟨(n.val % 128) % 32, by omega⟩ : Fin 32) = ⟨n.val % 32, by omega⟩ := Fin.ext (by dsimp only; omega)
  rw [e]
  by_cases h : n.val % 64 < 32
  · rw [dif_pos h, dif_pos h, if_pos (by dsimp only; omega), mul_neg, sub_eq_add_neg]
  · rw [dif_neg h, dif_neg h, if_neg (by dsimp only; omega)]

/-- The kernel's pooled columns by row are the reference's. -/
theorem win_blk (c : Dev nD) (b : Fin 128) :
    UB (k0_pay2 (iblk m c 0 t0) (iblk m c 1 t0) (iblk m c 2 t0) (iblk m c 3 t0)) (iblk m c 8 t0) b = U (a0 m c) (a1 m c) (a2 m c) (a3 m c) (a6 m c) b := by
  funext t n
  unfold UB U
  by_cases h : t < 15
  · rw [dif_pos h, dif_pos h, blk8 m c t0]
    exact V_v34 m c b ⟨t, h⟩ n
  · rw [dif_neg h, dif_neg h]
    exact proj_blk m c b ⟨n.val, by omega⟩

/-- Result 1 of the kernel is the block its only grid point leaves. -/
theorem arr9 (c : Dev nD) (i : S128x512.Idx) :
    ((dats m 0 c).arrAt 9 cfg0.N : S128x512.Idx → EReal) i = (out0_9 (iblk m c 0 t0) (iblk m c 1 t0) (iblk m c 2 t0) (iblk m c 3 t0) (iblk m c 4 t0) (iblk m c 5 t0) (iblk m c 6 t0) (iblk m c 7 t0) (iblk m c 8 t0) : S128x512.Idx → EReal) i := by
  have h := blocks9 m c t0 (by decide)
  rw [flushed9] at h
  refine Eq.trans ?_ (congrFun h i)
  rw [View.read_apply]
  show (dats m 0 c).arrAt 9 cfg0.N _ = (dats m 0 c).arrAt 9 cfg0.N _
  congr 1
  funext a
  apply Fin.ext
  match a with
  | ⟨0, _⟩ => show (i 0).val = 0 * 128 + 1 * (i 0).val; omega
  | ⟨1, _⟩ => show (i 1).val = 0 * 512 + 1 * (i 1).val; omega

/-- The row the kernel appends to the pooled columns is the reference's. -/
theorem G9_eq (c : Dev nD) : ((dats m 0 c).arrAt 9 cfg0.N : S128x512.Idx → EReal)
    = Cert.PreSampleRefIdeal.Read.val_main_v224 (F := Ideal) (a0 m c) (a1 m c) (a2 m c) (a3 m c) (a6 m c) := by
  funext i
  have hi : i = ix2 (i 0) (i 1) := by
    funext a
    match a with
    | ⟨0, _⟩ => rfl
    | ⟨1, _⟩ => rfl
  rw [arr9 m c i, hi]
  refine (u_out (iblk m c 0 t0) (iblk m c 1 t0) (iblk m c 2 t0) (iblk m c 3 t0) (iblk m c 4 t0) (iblk m c 5 t0) (iblk m c 6 t0) (iblk m c 7 t0) (iblk m c 8 t0) (i 0) (i 1)).trans (Eq.trans ?_ (Cert.PreSampleRefIdeal.Out.urow_apply (a0 m c) (a1 m c) (a2 m c) (a3 m c) (a6 m c) (i 0) (i 1)).symm)
  exact proj_blk m c (i 0) ⟨(i 1).val, _⟩

/-- Result 2 of the kernel is the block its only grid point leaves. -/
theorem arr10 (c : Dev nD) (i : S128x512.Idx) :
    ((dats m 0 c).arrAt 10 cfg0.N : S128x512.Idx → EReal) i = (out0_10 (iblk m c 0 t0) (iblk m c 1 t0) (iblk m c 2 t0) (iblk m c 3 t0) (iblk m c 4 t0) (iblk m c 5 t0) (iblk m c 6 t0) (iblk m c 7 t0) (iblk m c 8 t0) : S128x512.Idx → EReal) i := by
  have h := blocks10 m c t0 (by decide)
  rw [flushed10] at h
  refine Eq.trans ?_ (congrFun h i)
  rw [View.read_apply]
  show (dats m 0 c).arrAt 10 cfg0.N _ = (dats m 0 c).arrAt 10 cfg0.N _
  congr 1
  funext a
  apply Fin.ext
  match a with
  | ⟨0, _⟩ => show (i 0).val = 0 * 128 + 1 * (i 0).val; omega
  | ⟨1, _⟩ => show (i 1).val = 0 * 512 + 1 * (i 1).val; omega

/-- The kernel's rotated queries are the reference's. -/
theorem G10_eq (c : Dev nD) : ((dats m 0 c).arrAt 10 cfg0.N : S128x512.Idx → EReal)
    = Cert.PreSampleRefIdeal.Read.val_main_v192 (F := Ideal) (a0 m c) (a1 m c) (a2 m c) (a3 m c) := by
  funext i
  have hi : i = ix2 (i 0) (i 1) := by
    funext a
    match a with
    | ⟨0, _⟩ => rfl
    | ⟨1, _⟩ => rfl
  rw [arr10 m c i, hi]
  refine (q_out (iblk m c 0 t0) (iblk m c 1 t0) (iblk m c 2 t0) (iblk m c 3 t0) (iblk m c 4 t0) (iblk m c 5 t0) (iblk m c 6 t0) (iblk m c 7 t0) (iblk m c 8 t0) (i 0) (i 1)).trans (Eq.trans ?_ (Cert.PreSampleRefIdeal.Out.qrot_apply (a0 m c) (a1 m c) (a2 m c) (a3 m c) (i 0) (i 1)).symm)
  refine (rope_blk m c _ (i 1)).trans ?_
  refine congrArg (fun p => ropeR p (fun l => Ideal.cos (ang l)) (fun l => Ideal.sin (ang l)) (i 1)) (funext fun k => ?_)
  exact proj_blk m c (i 0) ⟨512 + k.val, _⟩

/-- Result 3 of the kernel is the block its only grid point leaves. -/
theorem arr11 (c : Dev nD) (i : S128x512.Idx) :
    ((dats m 0 c).arrAt 11 cfg0.N : S128x512.Idx → EReal) i = (out0_11 (iblk m c 0 t0) (iblk m c 1 t0) (iblk m c 2 t0) (iblk m c 3 t0) (iblk m c 4 t0) (iblk m c 5 t0) (iblk m c 6 t0) (iblk m c 7 t0) (iblk m c 8 t0) : S128x512.Idx → EReal) i := by
  have h := blocks11 m c t0 (by decide)
  rw [flushed11] at h
  refine Eq.trans ?_ (congrFun h i)
  rw [View.read_apply]
  show (dats m 0 c).arrAt 11 cfg0.N _ = (dats m 0 c).arrAt 11 cfg0.N _
  congr 1
  funext a
  apply Fin.ext
  match a with
  | ⟨0, _⟩ => show (i 0).val = 0 * 128 + 1 * (i 0).val; omega
  | ⟨1, _⟩ => show (i 1).val = 0 * 512 + 1 * (i 1).val; omega

/-- The kernel's rotated keys are the reference's. -/
theorem G11_eq (c : Dev nD) : ((dats m 0 c).arrAt 11 cfg0.N : S128x512.Idx → EReal)
    = Cert.PreSampleRefIdeal.Read.val_main_v222 (F := Ideal) (a0 m c) (a1 m c) (a2 m c) (a3 m c) := by
  funext i
  have hi : i = ix2 (i 0) (i 1) := by
    funext a
    match a with
    | ⟨0, _⟩ => rfl
    | ⟨1, _⟩ => rfl
  rw [arr11 m c i, hi]
  refine (k_out (iblk m c 0 t0) (iblk m c 1 t0) (iblk m c 2 t0) (iblk m c 3 t0) (iblk m c 4 t0) (iblk m c 5 t0) (iblk m c 6 t0) (iblk m c 7 t0) (iblk m c 8 t0) (i 0) (i 1)).trans (Eq.trans ?_ (Cert.PreSampleRefIdeal.Out.krot_apply (a0 m c) (a1 m c) (a2 m c) (a3 m c) (i 0) (i 1)).symm)
  refine (rope_blk m c _ (i 1)).trans ?_
  refine congrArg (fun p => ropeR p (fun l => Ideal.cos (ang l)) (fun l => Ideal.sin (ang l)) (i 1)) (funext fun k => ?_)
  exact proj_blk m c (i 0) ⟨1024 + k.val, _⟩

/-- Result 4 of the kernel is the block its only grid point leaves. -/
theorem arr12 (c : Dev nD) (i : S128x512.Idx) :
    ((dats m 0 c).arrAt 12 cfg0.N : S128x512.Idx → EReal) i = (out0_12 (iblk m c 0 t0) (iblk m c 1 t0) (iblk m c 2 t0) (iblk m c 3 t0) (iblk m c 4 t0) (iblk m c 5 t0) (iblk m c 6 t0) (iblk m c 7 t0) (iblk m c 8 t0) : S128x512.Idx → EReal) i := by
  have h := blocks12 m c t0 (by decide)
  rw [flushed12] at h
  refine Eq.trans ?_ (congrFun h i)
  rw [View.read_apply]
  show (dats m 0 c).arrAt 12 cfg0.N _ = (dats m 0 c).arrAt 12 cfg0.N _
  congr 1
  funext a
  apply Fin.ext
  match a with
  | ⟨0, _⟩ => show (i 0).val = 0 * 128 + 1 * (i 0).val; omega
  | ⟨1, _⟩ => show (i 1).val = 0 * 512 + 1 * (i 1).val; omega

/-- The kernel's values are the reference's. -/
theorem G12_eq (c : Dev nD) : ((dats m 0 c).arrAt 12 cfg0.N : S128x512.Idx → EReal)
    = Cert.PreSampleRefIdeal.Read.val_main_v225 (F := Ideal) (a0 m c) (a1 m c) (a2 m c) (a3 m c) := by
  funext i
  have hi : i = ix2 (i 0) (i 1) := by
    funext a
    match a with
    | ⟨0, _⟩ => rfl
    | ⟨1, _⟩ => rfl
  rw [arr12 m c i, hi]
  refine (v_out (iblk m c 0 t0) (iblk m c 1 t0) (iblk m c 2 t0) (iblk m c 3 t0) (iblk m c 4 t0) (iblk m c 5 t0) (iblk m c 6 t0) (iblk m c 7 t0) (iblk m c 8 t0) (i 0) (i 1)).trans (Eq.trans ?_ (Cert.PreSampleRefIdeal.Out.vrow_apply (a0 m c) (a1 m c) (a2 m c) (a3 m c) (i 0) (i 1)).symm)
  exact proj_blk m c (i 0) ⟨1536 + (i 1).val, _⟩

/-- Result 5 of the kernel is the block its only grid point leaves. -/
theorem arr13 (c : Dev nD) (i : S128x512.Idx) :
    ((dats m 0 c).arrAt 13 cfg0.N : S128x512.Idx → EReal) i = (out0_13 (iblk m c 0 t0) (iblk m c 1 t0) (iblk m c 2 t0) (iblk m c 3 t0) (iblk m c 4 t0) (iblk m c 5 t0) (iblk m c 6 t0) (iblk m c 7 t0) (iblk m c 8 t0) : S128x512.Idx → EReal) i := by
  have h := blocks13 m c t0 (by decide)
  rw [flushed13] at h
  refine Eq.trans ?_ (congrFun h i)
  rw [View.read_apply]
  show (dats m 0 c).arrAt 13 cfg0.N _ = (dats m 0 c).arrAt 13 cfg0.N _
  congr 1
  funext a
  apply Fin.ext
  match a with
  | ⟨0, _⟩ => show (i 0).val = 0 * 128 + 1 * (i 0).val; omega
  | ⟨1, _⟩ => show (i 1).val = 0 * 512 + 1 * (i 1).val; omega

/-- The kernel's pooled rows are the reference's, where the arguments are real numbers. -/
theorem G13_eq (c : Dev nD) (hf : Fin6 (a0 m c) (a1 m c) (a2 m c) (a3 m c) (a6 m c)) : ((dats m 0 c).arrAt 13 cfg0.N : S128x512.Idx → EReal)
    = Cert.PreSampleRefIdeal.Read.val_main_v227 (F := Ideal) (a0 m c) (a1 m c) (a2 m c) (a3 m c) (a4 m c) (a5 m c) (a6 m c) := by
  funext i
  have hi : i = ix2 (i 0) (i 1) := by
    funext a
    match a with
    | ⟨0, _⟩ => rfl
    | ⟨1, _⟩ => rfl
  rw [arr13 m c i, hi]
  refine (pool_out (iblk m c 0 t0) (iblk m c 1 t0) (iblk m c 2 t0) (iblk m c 3 t0) (iblk m c 4 t0) (iblk m c 5 t0) (iblk m c 6 t0) (iblk m c 7 t0) (iblk m c 8 t0) (i 0) (i 1)).trans (Eq.trans ?_ (Cert.PreSampleRefIdeal.Out.pool_apply (a0 m c) (a1 m c) (a2 m c) (a3 m c) (a4 m c) (a5 m c) (a6 m c) hf (i 0) (i 1)).symm)
  rw [win_blk m c (i 0), blk4 m c t0, blk5 m c t0]
  refine congrFun (congrArg₂ (poolR _) ?_ ?_) (i 1)
  · funext g k n
    exact V_v31 m c g k n
  · funext n
    exact V_v33 m c n

/-- The precondition says what it should: the five arrays the pooled columns are made of hold real numbers. -/
theorem fin6_of_pre (hm : Cert.Pre_PreSampleIdeal_finite_step (hPre_finite_step := Cert.Pre_finite_step.Gen.facts) m) (c : Dev nD) :
    Fin6 (a0 m c) (a1 m c) (a2 m c) (a3 m c) (a6 m c) := by
  obtain ⟨p0, p1, p2, p3, p4⟩ := hm c
  refine ⟨⟨fun i => ?_, fun i => ?_, fun i => ?_, fun i => ?_⟩, fun i => ?_⟩
  · have h := congrFun p0 i
    unfold Cert.Pre_finite_step.fn Cert.Pre_finite_step.fn_part1 at h
    dsimp only at h
    refine real_of_bits (Eq.trans ?_ h)
    pointwise
  · have h := congrFun p1 i
    unfold Cert.Pre_finite_step.fn Cert.Pre_finite_step.fn_part1 at h
    dsimp only at h
    refine real_of_bits (Eq.trans ?_ h)
    pointwise
  · have h := congrFun p2 i
    unfold Cert.Pre_finite_step.fn Cert.Pre_finite_step.fn_part1 at h
    dsimp only at h
    refine real_of_bits (Eq.trans ?_ h)
    pointwise
  · have h := congrFun p3 i
    unfold Cert.Pre_finite_step.fn Cert.Pre_finite_step.fn_part1 at h
    dsimp only at h
    refine real_of_bits (Eq.trans ?_ h)
    pointwise
  · have h := congrFun p4 i
    unfold Cert.Pre_finite_step.fn Cert.Pre_finite_step.fn_part1 at h
    dsimp only at h
    refine real_of_bits (Eq.trans ?_ h)
    pointwise

end Cert.PreSampleIdeal.Out

open Cert.PreSampleIdeal.Out Cert.PreSampleIdeal.Value Cert.PreSampleIdeal.Gen Cert.PreSampleIdeal

/-- From the same real arguments the kernel and the reference leave the same five results, and keep the arguments. -/
theorem Cert.preSample_algebraic :
    Cert.algebraic_PreSampleIdeal_PreSampleRefIdeal_pre_finite_step (hPreSampleIdeal := Cert.PreSampleIdeal.Gen.facts) (hPreSampleRefIdeal := Cert.PreSampleRefIdeal.Gen.facts) (hPre_finite_step := Cert.Pre_finite_step.Gen.facts) := by
  intro m g m' g' hm hag
  refine ⟨fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, Cert.PreSampleIdeal.Value.run_blocks m g, ?_⟩
  refine (θ_run Cert.PreSampleRefIdeal.defs _ _).mono (fun r h c => ?_)
    (Cert.PreSampleRefIdeal.Value.run (F := Ideal) m' g')
  obtain ⟨e0, e1, e2, e3, e4, hk⟩ := h c
  obtain ⟨g0, g1, g2, g3, g4, g5, g6⟩ := hag c
  refine ⟨e0.trans ?_, e1.trans ?_, e2.trans ?_, e3.trans ?_, e4.trans ?_, hk⟩
  · rw [Cert.PreSampleRefIdeal.Read.val_main_v224_eq]
    dsimp only
    refine Eq.trans ?_ (G9_eq m c).symm
    show Cert.PreSampleRefIdeal.Read.val_main_v224 (F := Ideal) (m' ((c.tc : Thread Cert.PreSampleRefIdeal.nD Cert.PreSampleRefIdeal.τ).loc Cert.PreSampleRefIdeal.main_arg0)) (m' ((c.tc : Thread Cert.PreSampleRefIdeal.nD Cert.PreSampleRefIdeal.τ).loc Cert.PreSampleRefIdeal.main_arg1)) (m' ((c.tc : Thread Cert.PreSampleRefIdeal.nD Cert.PreSampleRefIdeal.τ).loc Cert.PreSampleRefIdeal.main_arg2)) (m' ((c.tc : Thread Cert.PreSampleRefIdeal.nD Cert.PreSampleRefIdeal.τ).loc Cert.PreSampleRefIdeal.main_arg3)) (m' ((c.tc : Thread Cert.PreSampleRefIdeal.nD Cert.PreSampleRefIdeal.τ).loc Cert.PreSampleRefIdeal.main_arg6)) = _
    rw [g0, g1, g2, g3, g6]
  · rw [Cert.PreSampleRefIdeal.Read.val_main_v192_eq]
    dsimp only
    refine Eq.trans ?_ (G10_eq m c).symm
    show Cert.PreSampleRefIdeal.Read.val_main_v192 (F := Ideal) (m' ((c.tc : Thread Cert.PreSampleRefIdeal.nD Cert.PreSampleRefIdeal.τ).loc Cert.PreSampleRefIdeal.main_arg0)) (m' ((c.tc : Thread Cert.PreSampleRefIdeal.nD Cert.PreSampleRefIdeal.τ).loc Cert.PreSampleRefIdeal.main_arg1)) (m' ((c.tc : Thread Cert.PreSampleRefIdeal.nD Cert.PreSampleRefIdeal.τ).loc Cert.PreSampleRefIdeal.main_arg2)) (m' ((c.tc : Thread Cert.PreSampleRefIdeal.nD Cert.PreSampleRefIdeal.τ).loc Cert.PreSampleRefIdeal.main_arg3)) = _
    rw [g0, g1, g2, g3]
  · rw [Cert.PreSampleRefIdeal.Read.val_main_v222_eq]
    dsimp only
    refine Eq.trans ?_ (G11_eq m c).symm
    show Cert.PreSampleRefIdeal.Read.val_main_v222 (F := Ideal) (m' ((c.tc : Thread Cert.PreSampleRefIdeal.nD Cert.PreSampleRefIdeal.τ).loc Cert.PreSampleRefIdeal.main_arg0)) (m' ((c.tc : Thread Cert.PreSampleRefIdeal.nD Cert.PreSampleRefIdeal.τ).loc Cert.PreSampleRefIdeal.main_arg1)) (m' ((c.tc : Thread Cert.PreSampleRefIdeal.nD Cert.PreSampleRefIdeal.τ).loc Cert.PreSampleRefIdeal.main_arg2)) (m' ((c.tc : Thread Cert.PreSampleRefIdeal.nD Cert.PreSampleRefIdeal.τ).loc Cert.PreSampleRefIdeal.main_arg3)) = _
    rw [g0, g1, g2, g3]
  · rw [Cert.PreSampleRefIdeal.Read.val_main_v225_eq]
    dsimp only
    refine Eq.trans ?_ (G12_eq m c).symm
    show Cert.PreSampleRefIdeal.Read.val_main_v225 (F := Ideal) (m' ((c.tc : Thread Cert.PreSampleRefIdeal.nD Cert.PreSampleRefIdeal.τ).loc Cert.PreSampleRefIdeal.main_arg0)) (m' ((c.tc : Thread Cert.PreSampleRefIdeal.nD Cert.PreSampleRefIdeal.τ).loc Cert.PreSampleRefIdeal.main_arg1)) (m' ((c.tc : Thread Cert.PreSampleRefIdeal.nD Cert.PreSampleRefIdeal.τ).loc Cert.PreSampleRefIdeal.main_arg2)) (m' ((c.tc : Thread Cert.PreSampleRefIdeal.nD Cert.PreSampleRefIdeal.τ).loc Cert.PreSampleRefIdeal.main_arg3)) = _
    rw [g0, g1, g2, g3]
  · rw [Cert.PreSampleRefIdeal.Read.val_main_v227_eq]
    dsimp only
    refine Eq.trans ?_ (G13_eq m c (fin6_of_pre m hm c)).symm
    show Cert.PreSampleRefIdeal.Read.val_main_v227 (F := Ideal) (m' ((c.tc : Thread Cert.PreSampleRefIdeal.nD Cert.PreSampleRefIdeal.τ).loc Cert.PreSampleRefIdeal.main_arg0)) (m' ((c.tc : Thread Cert.PreSampleRefIdeal.nD Cert.PreSampleRefIdeal.τ).loc Cert.PreSampleRefIdeal.main_arg1)) (m' ((c.tc : Thread Cert.PreSampleRefIdeal.nD Cert.PreSampleRefIdeal.τ).loc Cert.PreSampleRefIdeal.main_arg2)) (m' ((c.tc : Thread Cert.PreSampleRefIdeal.nD Cert.PreSampleRefIdeal.τ).loc Cert.PreSampleRefIdeal.main_arg3)) (m' ((c.tc : Thread Cert.PreSampleRefIdeal.nD Cert.PreSampleRefIdeal.τ).loc Cert.PreSampleRefIdeal.main_arg4)) (m' ((c.tc : Thread Cert.PreSampleRefIdeal.nD Cert.PreSampleRefIdeal.τ).loc Cert.PreSampleRefIdeal.main_arg5)) (m' ((c.tc : Thread Cert.PreSampleRefIdeal.nD Cert.PreSampleRefIdeal.τ).loc Cert.PreSampleRefIdeal.main_arg6)) = _
    rw [g0, g1, g2, g3, g4, g5, g6]

end
end
-- ==== Proof.PsClaims.lean ====
module
public import proofs.«01_k».proof.Proof.PsValue
public import proofs.«01_k».proof.Proof.Gen.PreSample.Frame
public import proofs.«01_k».proof.Proof.Gen.PreSampleIdeal.Frame
public import Idealize.ShloMosaic.Init
@[expose] public section

/-! The claims about the one-position pre-attention call other than its value. -/

noncomputable section
open Idealize.ShloMosaic Idealize.ShloMosaic.TcCoe Idealize.SL.Sem
namespace Cert.PreSampleClaims

/-- The kernel as printed runs, keeps its arguments and leaves every counter at zero. -/
theorem frame_p : Cert.quiescent_PreSample (hPreSample := Cert.PreSample.Gen.facts) :=
  fun m ρ _ => Cert.PreSample.Gen.frame m ρ

/-- The same of the kernel over the extended reals. -/
theorem frame_pi : Cert.quiescent_PreSampleIdeal (hPreSampleIdeal := Cert.PreSampleIdeal.Gen.facts) :=
  fun m ρ _ => Cert.PreSampleIdeal.Gen.frame m ρ

/-- The same of the reference, which has no counters at all. -/
theorem frame_ri : Cert.quiescent_PreSampleRefIdeal (hPreSampleRefIdeal := Cert.PreSampleRefIdeal.Gen.facts) :=
  fun m ρ _ => (θ_run Cert.PreSampleRefIdeal.defs _ _).mono
    (fun r h => ⟨fun c => (h c).2.2.2.2.2, sem_eq_zero_of_no_sems (by decide) r.2⟩)
    (Cert.PreSampleRefIdeal.Value.run (F := Ideal) m ρ)

/-- The same two under the precondition the value claim states. -/
theorem frame_pi_pre : Cert.quiescent_PreSampleIdeal_pre_finite_step (hPreSampleIdeal := Cert.PreSampleIdeal.Gen.facts) (hPre_finite_step := Cert.Pre_finite_step.Gen.facts) :=
  fun m ρ _ => frame_pi m ρ trivial
theorem frame_ri_pre : Cert.quiescent_PreSampleRefIdeal_pre_finite_step (hPreSampleRefIdeal := Cert.PreSampleRefIdeal.Gen.facts) (hPre_finite_step := Cert.Pre_finite_step.Gen.facts) :=
  fun m ρ _ => frame_ri m ρ trivial

end Cert.PreSampleClaims
end
end
-- ==== Proof.QsIdx.lean ====
module
public import proofs.«01_k».proof.Proof.Gen.PostSampleIdeal.Value
public import proofs.«01_k».proof.Proof.PPSpec
public import Idealize.ShloMosaic.Lib.Pipeline.Value
public import Idealize.ShloMosaic.Lib.Pipeline.CanonAppend
public import Idealize.ShloMosaic.Lib.Pipeline.ReadBack
public import Idealize.ShloMosaic.Lib.Pointwise
public import Idealize.ShloMosaic.Lib.Tactic
@[expose] public section
set_option maxRecDepth 16384

/-! The blocks of the post-attention kernel for one new row per sequence, read at an index: the row formulas of PPSpec. -/

noncomputable section
open Idealize.ShloMosaic Idealize.ShloMosaic.TcCoe Idealize.SL.Sem Idealize.ShloMosaic.View
namespace Cert.PostSampleIdeal.Out
open Cert.PostSampleIdeal Cert.PostSampleIdeal.Gen Cert.PP
variable (x0 : Vec Ideal S1x128x1024 .f32) (x1 : Vec Ideal S1x128x512 .bf16) (x2 : Vec Ideal S1x128x512 .bf16) (x3 : Vec Ideal S1x128x6144 .f32) (x4 : Vec Ideal S512x1024 .bf16) (x5 : Vec Ideal S512x1024 .bf16) (x6 : Vec Ideal S1x1024 .f32) (x7 : Vec Ideal S1x1024 .f32) (x8 : Vec Ideal S1x1024 .f32) (x9 : Vec Ideal S1024x5632 .bf16) (x10 : Vec Ideal S3x5632 .f32) (x11 : Vec Ideal S1x5632 .f32) (x12 : Vec Ideal S2816x1024 .bf16) (x13 : Vec Ideal S1x128x5632 .f32) (x14 : Vec Ideal S1x128x5632 .f32)

/-- The two halves of the output projection as one matrix. -/
def woF (k n : Fin 1024) : EReal :=
  if h : k.val < 512 then x4 (ix2 ⟨k.val, h⟩ n) else x5 (ix2 ⟨k.val - 512, by omega⟩ n)

/-- The residual row `r`. -/
def X1b (r : Fin 128) : Fin 1024 → EReal :=
  x1R (fun n => x0 (ix3 0 r n)) (fun n => x3 (ix3 0 r n)) (mixR (fun k => x1 (ix3 0 r k)) (fun k => x2 (ix3 0 r k)) (woF x4 x5)) (fun n => x6 (ix2 0 n))

/-- The up-projected row `r`. -/
def UPb (r : Fin 128) : Fin 5632 → EReal :=
  upR (h2R (X1b x0 x1 x2 x3 x4 x5 x6 r) (fun n => x3 (ix3 0 r n)) (fun n => x7 (ix2 0 n))) (fun k n => x9 (ix2 k n))

/-- The convolved row: the two kept rows and the new one. -/
def CVb (r : Fin 128) : Fin 5632 → EReal :=
  convR (fun d n => x10 (ix2 d n)) (fun n => x11 (ix2 0 n)) (fun n => x13 (ix3 0 r n)) (fun n => x14 (ix3 0 r n))
    (UPb x0 x1 x2 x3 x4 x5 x6 x7 x9 r)

theorem x1b_apply (r : Fin 128) (n : Fin 1024) : k0_pay6 x0 x3 x1 x4 x2 x5 x6 (ix2 r n) = X1b x0 x1 x2 x3 x4 x5 x6 r n := by
  have E : mixR (fun k => x1 (ix3 0 r k)) (fun k => x2 (ix3 0 r k)) (woF x4 x5)
      = fun n => ∑ k : Fin 512, x1 (ix3 0 r k) * x4 (ix2 k n) + ∑ k : Fin 512, x2 (ix3 0 r k) * x5 (ix2 k n) := by
    funext n
    unfold mixR woF
    refine congrArg₂ (· + ·) (Finset.sum_congr rfl fun k _ => ?_) (Finset.sum_congr rfl fun k _ => ?_)
    · rw [dif_pos k.isLt]
    · rw [dif_neg (by simp)]
      simp
  unfold X1b
  rw [E]
  pointwise [k0_pay6, k0_pay2]
  rfl

theorem h2b_apply (r : Fin 128) (n : Fin 1024) : k0_pay28 x0 x1 x2 x3 x4 x5 x6 x7 x8 x9 x10 x11 x12 x13 x14 (ix2 r n)
    = h2R (X1b x0 x1 x2 x3 x4 x5 x6 r) (fun n => x3 (ix3 0 r n)) (fun n => x7 (ix2 0 n)) n := by
  have H := x1b_apply x0 x1 x2 x3 x4 x5 x6
  unfold k0_pay28 k0_pay25 k0_pay26 k0_pay27
  rw [ld_unit_lit _ x0 (by decide), ld_unit_lit _ x1 (by decide), ld_unit_lit _ x2 (by decide), ld_unit_lit _ x3 (by decide),
    ld_unit_lit _ x4 (by decide), ld_unit_lit _ x5 (by decide), ld_unit_lit _ x6 (by decide), ld_unit_lit _ x7 (by decide)]
  generalize k0_pay6 (F := Ideal) x0 x3 x1 x4 x2 x5 x6 = mx at *
  pointwise [k0_pay7, k0_pay4, k0_pay3, k0_pay2]
  simp only [H]
  rfl

theorem upb_apply (c : Nat) (hc : c + 1408 ≤ 5632) (i9 : ∀ a, (![0, c] : Fin 2 → Nat) a + S1024x1408.size a ≤ S1024x5632.size a)
    (r : Fin 128) (n : Fin 1408) :
    k0_pay15 (k0_pay28 x0 x1 x2 x3 x4 x5 x6 x7 x8 x9 x10 x11 x12 x13 x14) (View.ld x9 (Rect.unit (s := S1024x5632) ![0, c] S1024x1408.size i9)) (ix2 r n)
      = UPb x0 x1 x2 x3 x4 x5 x6 x7 x9 r ⟨c + n.val, by omega⟩ := by
  have H := h2b_apply x0 x1 x2 x3 x4 x5 x6 x7 x8 x9 x10 x11 x12 x13 x14
  generalize k0_pay28 (F := Ideal) x0 x1 x2 x3 x4 x5 x6 x7 x8 x9 x10 x11 x12 x13 x14 = mx at *
  pointwise [k0_pay15]
  simp only [H]
  unfold UPb upR
  rfl

/-- The convolution at a column of one of the four parts the columns are cut into. -/
theorem convb_apply (c : Nat) (hc : c + 1408 ≤ 5632) (i9 : ∀ a, (![0, c] : Fin 2 → Nat) a + S1024x1408.size a ≤ S1024x5632.size a)
    (i11 : ∀ a, (![0, c] : Fin 2 → Nat) a + S1x1408.size a ≤ S1x5632.size a) (i0 : ∀ a, (![0, c] : Fin 2 → Nat) a + S1x1408.size a ≤ S3x5632.size a)
    (i1 : ∀ a, (![1, c] : Fin 2 → Nat) a + S1x1408.size a ≤ S3x5632.size a) (i2 : ∀ a, (![2, c] : Fin 2 → Nat) a + S1x1408.size a ≤ S3x5632.size a)
    (i13 : ∀ a, (![0, 0, c] : Fin 3 → Nat) a + S1x128x1408.size a ≤ S1x128x5632.size a) (r : Fin 128) (n : Fin 1408) :
    View.ld x11 (Rect.unit (s := S1x5632) ![0, c] S1x1408.size i11) (ix2 0 n)
      + View.ld x10 (Rect.unit (s := S3x5632) ![0, c] S1x1408.size i0) (ix2 0 n) * View.ld x13 (Rect.unit (s := S1x128x5632) ![0, 0, c] S1x128x1408.size i13) (ix3 0 r n)
      + View.ld x10 (Rect.unit (s := S3x5632) ![1, c] S1x1408.size i1) (ix2 0 n) * View.ld x14 (Rect.unit (s := S1x128x5632) ![0, 0, c] S1x128x1408.size i13) (ix3 0 r n)
      + View.ld x10 (Rect.unit (s := S3x5632) ![2, c] S1x1408.size i2) (ix2 0 n)
        * k0_pay15 (k0_pay28 x0 x1 x2 x3 x4 x5 x6 x7 x8 x9 x10 x11 x12 x13 x14) (View.ld x9 (Rect.unit (s := S1024x5632) ![0, c] S1024x1408.size i9)) (ix2 r n)
      = CVb x0 x1 x2 x3 x4 x5 x6 x7 x9 x10 x11 x13 x14 r ⟨c + n.val, by omega⟩ := by
  rw [upb_apply x0 x1 x2 x3 x4 x5 x6 x7 x8 x9 x10 x11 x12 x13 x14 c hc i9]
  pointwise
  rfl

theorem pay14_apply (u : FVec Ideal S128x1408 .f32) (p q : Vec Ideal S1x128x1408 .f32) (b d e f : Vec Ideal S1x1408 .f32)
    (r : Fin 128) (k : Fin 1408) :
    k0_pay14 u (k0_pay10 p) (k0_pay12 b) (k0_pay13 q d) e f (ix2 r k)
      = b (ix2 0 k) + d (ix2 0 k) * q (ix3 0 r k) + e (ix2 0 k) * p (ix3 0 r k) + f (ix2 0 k) * u (ix2 r k) := by
  pointwise [k0_pay14, k0_pay10, k0_pay12, k0_pay13]

theorem pay17_apply (q p : Vec Ideal S1x128x1408 .f32) (b d e : Vec Ideal S1x1408 .f32) (r : Fin 128) (k : Fin 1408) :
    k0_pay17 q p b d e (ix2 r k) = b (ix2 0 k) + d (ix2 0 k) * q (ix3 0 r k) + e (ix2 0 k) * p (ix3 0 r k) := by
  pointwise [k0_pay17]

theorem pay21_apply (q p : Vec Ideal S1x128x1408 .f32) (b d e : Vec Ideal S1x1408 .f32) (r : Fin 128) (k : Fin 1408) :
    k0_pay21 q p b d e (ix2 r k) = b (ix2 0 k) + d (ix2 0 k) * q (ix3 0 r k) + e (ix2 0 k) * p (ix3 0 r k) := by
  pointwise [k0_pay21]

theorem pay18_apply (a u v : FVec Ideal S128x1408 .f32) (f : Vec Ideal S1x1408 .f32) (wd : Vec Ideal S1408x1024 .bf16)
    (r : Fin 128) (n : Fin 1024) :
    k0_pay18 k0_pay8 a u v f wd (ix2 r n) = ∑ k : Fin 1408,
      a (ix2 r k) * Ideal.logistic (a (ix2 r k)) * (v (ix2 r k) + f (ix2 0 k) * u (ix2 r k)) * wd (ix2 k n) := by
  pointwise [k0_pay18, k0_pay8]

theorem pay24_apply (h : FVec Ideal S128x1024 .bf16) (u v : FVec Ideal S128x1408 .f32) (f : Vec Ideal S1x1408 .f32)
    (w : Vec Ideal S1024x1408 .bf16) (q p : Vec Ideal S1x128x1408 .f32) (b d e g : Vec Ideal S1x1408 .f32) (r : Fin 128) (k : Fin 1408) :
    k0_pay24 h u v f w q p b d e g (ix2 r k)
      = (v (ix2 r k) + f (ix2 0 k) * u (ix2 r k)) * Ideal.logistic (v (ix2 r k) + f (ix2 0 k) * u (ix2 r k))
          * (b (ix2 0 k) + d (ix2 0 k) * q (ix3 0 r k) + e (ix2 0 k) * p (ix3 0 r k) + g (ix2 0 k) * k0_pay15 h w (ix2 r k)) := by
  have E : k0_pay22 h w = k0_pay15 h w := rfl
  unfold k0_pay24
  rw [E]
  generalize k0_pay15 h w = mx
  pointwise

theorem wd_apply (c : Nat) (hc : c + 1408 ≤ 2816) (i : ∀ a, (![c, 0] : Fin 2 → Nat) a + S1408x1024.size a ≤ S2816x1024.size a) (k : Fin 1408) (n : Fin 1024) :
    View.ld x12 (Rect.unit (s := S2816x1024) ![c, 0] S1408x1024.size i) (ix2 k n) = x12 (ix2 ⟨c + k.val, by omega⟩ n) := by
  pointwise

theorem pay1_apply (ff0 x1v : FVec Ideal S128x1024 .f32) (act : FVec Ideal S128x1408 .bf16)
    (wd : Vec Ideal S1408x1024 .bf16) (r : Fin 128) (n : Fin 1024) :
    k0_pay1 (k0_pay5 x3) x1v ff0 act wd x8 (ix3 0 r n)
      = yR (fun n => x1v (ix2 r n)) (fun n => x3 (ix3 0 r n)) (fun n => x8 (ix2 0 n))
          (fun n => ff0 (ix2 r n) + ∑ k : Fin 1408, act (ix2 r k) * wd (ix2 k n)) n := by
  pointwise [k0_pay1, k0_pay5, k0_pay2]
  rfl

theorem yR_congr (a : Fin 1024 → EReal) (b : Fin 6144 → EReal) (g f f' : Fin 1024 → EReal) (h : ∀ n, f n = f' n) (n : Fin 1024) :
    yR a b g f n = yR a b g f' n := by rw [funext h]

/-- The first result's block, row `r`. -/
theorem y_out (r : Fin 128) (n : Fin 1024) :
    out0_15 x0 x1 x2 x3 x4 x5 x6 x7 x8 x9 x10 x11 x12 x13 x14 (ix3 0 r n)
      = yR (X1b x0 x1 x2 x3 x4 x5 x6 r) (fun n => x3 (ix3 0 r n)) (fun n => x8 (ix2 0 n))
          (ffnR (CVb x0 x1 x2 x3 x4 x5 x6 x7 x9 x10 x11 x13 x14 r) (fun k n => x12 (ix2 k n))) n := by
  have C := convb_apply x0 x1 x2 x3 x4 x5 x6 x7 x8 x9 x10 x11 x12 x13 x14
  have HX : (fun n => k0_pay27 x0 x1 x2 x3 x4 x5 x6 x7 x8 x9 x10 x11 x12 x13 x14 (ix2 r n)) = X1b x0 x1 x2 x3 x4 x5 x6 r := funext fun n => by
    unfold k0_pay27
    rw [ld_unit_lit _ x0 (by decide), ld_unit_lit _ x1 (by decide), ld_unit_lit _ x2 (by decide), ld_unit_lit _ x3 (by decide),
      ld_unit_lit _ x4 (by decide), ld_unit_lit _ x5 (by decide), ld_unit_lit _ x6 (by decide)]
    exact x1b_apply x0 x1 x2 x3 x4 x5 x6 r n
  have E9 : ∀ w : Vec Ideal S1024x1408 .bf16, k0_pay9 (k0_pay25 x0 x1 x2 x3 x4 x5 x6 x7 x8 x9 x10 x11 x12 x13 x14) (k0_pay26 x0 x1 x2 x3 x4 x5 x6 x7 x8 x9 x10 x11 x12 x13 x14) (k0_pay27 x0 x1 x2 x3 x4 x5 x6 x7 x8 x9 x10 x11 x12 x13 x14) (View.ld x7 r0_4) w
      = k0_pay15 (k0_pay28 x0 x1 x2 x3 x4 x5 x6 x7 x8 x9 x10 x11 x12 x13 x14) w := fun _ => rfl
  have E19 : ∀ (h : FVec Ideal S128x1024 .bf16) (w : Vec Ideal S1024x1408 .bf16), k0_pay19 h w = k0_pay15 h w := fun _ _ => rfl
  unfold out0_15
  rw [canon_cons_unit_lit _ _ _ (by decide), E9, E19, ld_unit_lit _ x3 (by decide), ld_unit_lit _ x8 (by decide), pay1_apply, HX]
  refine yR_congr _ _ _ _ _ (fun n => ?_) n
  simp only [pay18_apply, pay14_apply, pay17_apply, pay24_apply, pay21_apply]
  simp only [C 0 (by decide), C 1408 (by decide), C 2816 (by decide), C 4224 (by decide)]
  unfold ffnR
  rw [Fin.sum_univ_two_halves 1408 1408 rfl]
  refine congrArg₂ (· + ·) (Finset.sum_congr rfl fun k _ => ?_) (Finset.sum_congr rfl fun k _ => ?_)
  · have e0 : (⟨0 + k.val, by omega⟩ : Fin 5632) = ⟨k.val, by omega⟩ := Fin.ext (Nat.zero_add _)
    have e1 : (⟨0 + k.val, by omega⟩ : Fin 2816) = ⟨k.val, by omega⟩ := Fin.ext (Nat.zero_add _)
    unfold actR
    rw [e0]
    refine congrArg₂ (· * ·) rfl ((wd_apply x12 0 (by decide) _ k n).trans ?_)
    rw [e1]
  · have e1 : (⟨4224 + k.val, by omega⟩ : Fin 5632) = ⟨2816 + (1408 + k.val), by omega⟩ :=
      Fin.ext (by show 4224 + k.val = 2816 + (1408 + k.val); omega)
    unfold actR
    rw [e1]
    exact congrArg₂ (· * ·) rfl (wd_apply x12 1408 (by decide) _ k n)

theorem emb_col (c : Nat) (i : ∀ a, (![0, 0, c] : Fin 3 → Nat) a + S1x128x1408.size a ≤ S1x128x5632.size a) (r : Fin 128) (n : Fin 5632) (h : c ≤ n.val) (h' : n.val - c < 1408) :
    (ix3 0 r n : S1x128x5632.Idx) = (Rect.unit (s := S1x128x5632) ![0, 0, c] S1x128x1408.size i).emb (ix3 0 r ⟨n.val - c, h'⟩) := by
  funext a
  apply Fin.ext
  match a with
  | ⟨0, _⟩ => simp [Rect.emb, Rect.unit, ix3]
  | ⟨1, _⟩ => simp [Rect.emb, Rect.unit, ix3]
  | ⟨2, _⟩ => simp [Rect.emb, Rect.unit, ix3]; omega

theorem not_col (c : Nat) (i : ∀ a, (![0, 0, c] : Fin 3 → Nat) a + S1x128x1408.size a ≤ S1x128x5632.size a) (r : Fin 128) (n : Fin 5632) (h : n.val < c ∨ c + 1408 ≤ n.val) :
    (ix3 0 r n : S1x128x5632.Idx) ∉ (Rect.unit (s := S1x128x5632) ![0, 0, c] S1x128x1408.size i).set := by
  intro hm
  have h0 := Rect.mem_set_unit.1 hm 2
  simp [ix3] at h0
  omega

/-- Four strips of columns that all agree with `U` make up `U`. -/
theorem strips (p0 p1 p2 p3 : Vec Ideal S1x128x1408 .f32) (r : Fin 128) (U : Fin 5632 → EReal)
    (h0 : ∀ k, p0 (ix3 0 r k) = U ⟨0 + k.val, by omega⟩) (h1 : ∀ k, p1 (ix3 0 r k) = U ⟨1408 + k.val, by omega⟩)
    (h2 : ∀ k, p2 (ix3 0 r k) = U ⟨2816 + k.val, by omega⟩) (h3 : ∀ k, p3 (ix3 0 r k) = U ⟨4224 + k.val, by omega⟩) (n : Fin 5632) :
    (View.canon [⟨Rect.unit (s := S1x128x5632) ![0, 0, 4224] S1x128x1408.size inb_S1x128x5632_S1x128x1408_0_0_4224, p3⟩, ⟨Rect.unit (s := S1x128x5632) ![0, 0, 1408] S1x128x1408.size inb_S1x128x5632_S1x128x1408_0_0_1408, p1⟩,
      ⟨Rect.unit (s := S1x128x5632) ![0, 0, 2816] S1x128x1408.size inb_S1x128x5632_S1x128x1408_0_0_2816, p2⟩, ⟨Rect.unit (s := S1x128x5632) ![0, 0, 0] S1x128x1408.size inb_S1x128x5632_S1x128x1408_0_0_0, p0⟩] : Vec Ideal S1x128x5632 .f32) (ix3 0 r n) = U n := by
  have hn := n.isLt
  by_cases g3 : 4224 ≤ n.val
  · rw [emb_col 4224 inb_S1x128x5632_S1x128x1408_0_0_4224 r n g3 (by omega), View.canon_cons_emb, h3]
    refine congrArg U (Fin.ext ?_)
    show 4224 + (n.val - 4224) = n.val
    omega
  rw [View.canon_cons_of_not_mem]
  swap
  · exact not_col 4224 inb_S1x128x5632_S1x128x1408_0_0_4224 r n (by omega)
  by_cases g1 : 1408 ≤ n.val ∧ n.val < 2816
  · rw [emb_col 1408 inb_S1x128x5632_S1x128x1408_0_0_1408 r n g1.1 (by omega), View.canon_cons_emb, h1]
    refine congrArg U (Fin.ext ?_)
    show 1408 + (n.val - 1408) = n.val
    omega
  rw [View.canon_cons_of_not_mem]
  swap
  · exact not_col 1408 inb_S1x128x5632_S1x128x1408_0_0_1408 r n (by omega)
  by_cases g2 : 2816 ≤ n.val
  · rw [emb_col 2816 inb_S1x128x5632_S1x128x1408_0_0_2816 r n g2 (by omega), View.canon_cons_emb, h2]
    refine congrArg U (Fin.ext ?_)
    show 2816 + (n.val - 2816) = n.val
    omega
  rw [View.canon_cons_of_not_mem]
  swap
  · exact not_col 2816 inb_S1x128x5632_S1x128x1408_0_0_2816 r n (by omega)
  rw [emb_col 0 inb_S1x128x5632_S1x128x1408_0_0_0 r n (by omega) (by omega), View.canon_cons_emb, h0]
  refine congrArg U (Fin.ext ?_)
  show 0 + (n.val - 0) = n.val
  omega

theorem pay16_apply (h : FVec Ideal S128x1024 .bf16) (w : Vec Ideal S1024x1408 .bf16) (r : Fin 128) (k : Fin 1408) :
    k0_pay16 h w (ix3 0 r k) = k0_pay15 h w (ix2 r k) := by
  have E : k0_pay16 h w = shapeCast S1x128x1408 (k0_pay15 h w) shapeCasts_S128x1408_S1x128x1408 := rfl
  rw [E]
  generalize k0_pay15 h w = mx
  pointwise

/-- The second result's block, row `r`: the up-projected row. -/
theorem up_out (r : Fin 128) (n : Fin 5632) :
    out0_16 x0 x1 x2 x3 x4 x5 x6 x7 x8 x9 x10 x11 x12 x13 x14 (ix3 0 r n) = UPb x0 x1 x2 x3 x4 x5 x6 x7 x9 r n := by
  have H := upb_apply x0 x1 x2 x3 x4 x5 x6 x7 x8 x9 x10 x11 x12 x13 x14
  unfold out0_16
  refine strips _ _ _ _ r _ (fun k => ?_) (fun k => ?_) (fun k => ?_) (fun k => ?_) n
  · exact (pay16_apply _ _ r k).trans (H 0 (by decide) _ r k)
  · exact (pay16_apply _ _ r k).trans (H 1408 (by decide) _ r k)
  · exact (pay16_apply _ _ r k).trans (H 2816 (by decide) _ r k)
  · exact (pay16_apply _ _ r k).trans (H 4224 (by decide) _ r k)

end Cert.PostSampleIdeal.Out
end
end
-- ==== Proof.QsRef.lean ====
module
public import proofs.«01_k».proof.Proof.Gen.PostSampleRefIdeal.Run
public import proofs.«01_k».proof.Proof.Gen.PostSampleRefIdeal.Read
public import proofs.«01_k».proof.Proof.PPSpec
public import Idealize.ShloMosaic.Lib.Pointwise
@[expose] public section
set_option maxRecDepth 16384

/-! The reference of the post-attention half for one new row per sequence, read at an index: each stage is the row formula
    of PPSpec. -/

noncomputable section
open Idealize.ShloMosaic Idealize.ShloMosaic.TcCoe Idealize.SL.Sem
namespace Cert.PostSampleRefIdeal.Out
open Cert.PostSampleRefIdeal Cert.PostSampleRefIdeal.Read Cert.PP
variable (x0 : (⟨S128x1x1024, .f32⟩ : BufTy).Contents (Elt Ideal)) (x1 : (⟨S128x512, .bf16⟩ : BufTy).Contents (Elt Ideal)) (x2 : (⟨S128x8x64, .f32⟩ : BufTy).Contents (Elt Ideal)) (x3 : (⟨S128x6144, .f32⟩ : BufTy).Contents (Elt Ideal)) (x4 : (⟨S1x1024x1024, .f32⟩ : BufTy).Contents (Elt Ideal)) (x5 x6 x7 : (⟨S1x1024, .f32⟩ : BufTy).Contents (Elt Ideal)) (x8 : (⟨S1x1024x5632, .f32⟩ : BufTy).Contents (Elt Ideal)) (x9 : (⟨S1x3x5632, .f32⟩ : BufTy).Contents (Elt Ideal)) (x10 : (⟨S1x5632, .f32⟩ : BufTy).Contents (Elt Ideal)) (x11 : (⟨S1x2816x1024, .f32⟩ : BufTy).Contents (Elt Ideal)) (x12 : (⟨S1x128x2x5632, .f32⟩ : BufTy).Contents (Elt Ideal))

/-- The attention half of the row of sequence `b`: eight heads of 64 side by side. -/
def attR (b : Fin 128) (k : Fin 512) : EReal := x2 (ix3 b ⟨k.val / 64, by omega⟩ ⟨k.val % 64, by omega⟩)

/-- The residual row of sequence `b`. -/
def X1 (b : Fin 128) : Fin 1024 → EReal :=
  x1R (fun n => x0 (ix3 b 0 n)) (fun n => x3 (ix2 b n))
    (mixR (fun k => x1 (ix2 b k)) (attR x2 b) (fun k n => x4 (ix3 0 k n))) (fun n => x5 (ix2 0 n))

/-- The up-projected row. -/
def UP (b : Fin 128) : Fin 5632 → EReal :=
  upR (h2R (X1 x0 x1 x2 x3 x4 x5 b) (fun n => x3 (ix2 b n)) (fun n => x6 (ix2 0 n))) (fun k n => x8 (ix3 0 k n))

/-- The convolved row: the two kept rows and the new one. -/
def CV (b : Fin 128) : Fin 5632 → EReal :=
  convR (fun d n => x9 (ix3 0 d n)) (fun n => x10 (ix2 0 n)) (fun n => x12 (ix4 0 b 0 n)) (fun n => x12 (ix4 0 b 1 n))
    (UP x0 x1 x2 x3 x4 x5 x6 x8 b)

/-- The result row. -/
def Y (b : Fin 128) : Fin 1024 → EReal :=
  yR (X1 x0 x1 x2 x3 x4 x5 b) (fun n => x3 (ix2 b n)) (fun n => x7 (ix2 0 n))
    (ffnR (CV x0 x1 x2 x3 x4 x5 x6 x8 x9 x10 x12 b) (fun k n => x11 (ix3 0 k n)))

theorem att_apply (b : Fin 128) (k : Fin 512) : val_main_v9 x2 (ix3 b 0 k) = attR x2 b k := by
  pointwise [val_main_v9]
  rfl

theorem mix_apply (b : Fin 128) (n : Fin 1024) :
    val_main_v12 x1 x2 x4 (ix3 b 0 n) = mixR (fun k => x1 (ix2 b k)) (attR x2 b) (fun k n => x4 (ix3 0 k n)) n := by
  have H := att_apply x2
  simp only [val_main_v12, val_main_v11, val_main_v10, val_main_v8, val_main_v7]
  generalize val_main_v9 (F := Ideal) x2 = mx at *
  pointwise
  simp only [H]
  rfl

theorem x1_apply (b : Fin 128) (n : Fin 1024) :
    val_main_v28 x0 x1 x2 x3 x4 x5 (ix3 b 0 n) = X1 x0 x1 x2 x3 x4 x5 b n := by
  have H := mix_apply x1 x2 x4
  simp only [val_main_v28, val_main_v27, val_main_v26, val_main_v25, val_main_v24, val_main_v23, val_main_v22, val_main_v21, val_main_v20, val_main_v19, val_main_v18, val_main_v17, val_main_v16, val_main_v15, val_main_v14, val_main_v13, val_main_cst, val_main_cst_0, val_main_cst_1, val_main_v3, val_main_v0]
  generalize val_main_v12 (F := Ideal) x1 x2 x4 = mx at *
  pointwise
  simp only [H]
  rfl

theorem h2_apply (b : Fin 128) (n : Fin 1024) :
    val_main_v46 x0 x1 x2 x3 x4 x5 x6 (ix3 b 0 n)
      = h2R (X1 x0 x1 x2 x3 x4 x5 b) (fun n => x3 (ix2 b n)) (fun n => x6 (ix2 0 n)) n := by
  have H := x1_apply x0 x1 x2 x3 x4 x5
  simp only [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_cst_2, val_main_cst_3, val_main_cst_4, val_main_cst_5, val_main_v4, val_main_v5, val_main_v0]
  generalize val_main_v28 (F := Ideal) x0 x1 x2 x3 x4 x5 = mx at *
  pointwise
  simp only [H]
  rfl

theorem up_apply (b : Fin 128) (n : Fin 5632) :
    val_main_v48 x0 x1 x2 x3 x4 x5 x6 x8 (ix3 b 0 n) = UP x0 x1 x2 x3 x4 x5 x6 x8 b n := by
  have H := h2_apply x0 x1 x2 x3 x4 x5 x6
  simp only [val_main_v48, val_main_v47]
  generalize val_main_v46 (F := Ideal) x0 x1 x2 x3 x4 x5 x6 = mx at *
  pointwise
  simp only [H]
  rfl

theorem cat_apply (z : S128x2x5632.Idx → EReal) (u : S128x1x5632.Idx → EReal) (h) (b : Fin 128) (s : Fin 3) (n : Fin 5632) :
    concatenate S128x3x5632 1 [⟨S128x2x5632, z⟩, ⟨S128x1x5632, u⟩] h (ix3 b s n)
      = if g : s.val < 2 then z (ix3 b ⟨s.val, g⟩ n) else u (ix3 b ⟨s.val - 2, by omega⟩ n) := by
  pointwise

/-- The three rows the convolution reads. -/
theorem rows_apply (b : Fin 128) (n : Fin 5632) :
    val_main_v50 x0 x1 x2 x3 x4 x5 x6 x8 x12 (ix3 b 0 n) = x12 (ix4 0 b 0 n)
      ∧ val_main_v50 x0 x1 x2 x3 x4 x5 x6 x8 x12 (ix3 b 1 n) = x12 (ix4 0 b 1 n)
      ∧ val_main_v50 x0 x1 x2 x3 x4 x5 x6 x8 x12 (ix3 b 2 n) = UP x0 x1 x2 x3 x4 x5 x6 x8 b n := by
  have Z : ∀ (s : Fin 2), val_main_v49 x12 (ix3 b s n) = x12 (ix4 0 b s n) := fun s => by
    pointwise [val_main_v49]
  unfold val_main_v50
  refine ⟨?_, ?_, ?_⟩
  · rw [cat_apply, dif_pos (by decide)]
    exact Z 0
  · rw [cat_apply, dif_pos (by decide)]
    exact Z 1
  · rw [cat_apply, dif_neg (by decide)]
    exact up_apply x0 x1 x2 x3 x4 x5 x6 x8 b n

theorem conv_apply (b : Fin 128) (n : Fin 5632) :
    val_main_v76 x0 x1 x2 x3 x4 x5 x6 x8 x9 x10 x12 (ix3 b 0 n) = CV x0 x1 x2 x3 x4 x5 x6 x8 x9 x10 x12 b n := by
  have H0 := fun n => (rows_apply x0 x1 x2 x3 x4 x5 x6 x8 x12 b n).1
  have H1 := fun n => (rows_apply x0 x1 x2 x3 x4 x5 x6 x8 x12 b n).2.1
  have H2 := fun n => (rows_apply x0 x1 x2 x3 x4 x5 x6 x8 x12 b n).2.2
  simp only [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_cst_6]
  generalize val_main_v50 (F := Ideal) x0 x1 x2 x3 x4 x5 x6 x8 x12 = mx at *
  pointwise
  simp only [H0, H1, H2, ← add_assoc]
  rfl

theorem logistic_eq (a : EReal) : Ideal.div 1 (1 + Ideal.exp (-a)) = Ideal.logistic a := by
  rfl

theorem ffn_apply (b : Fin 128) (n : Fin 1024) :
    val_main_v82 x0 x1 x2 x3 x4 x5 x6 x8 x9 x10 x11 x12 (ix3 b 0 n)
      = ffnR (CV x0 x1 x2 x3 x4 x5 x6 x8 x9 x10 x12 b) (fun k n => x11 (ix3 0 k n)) n := by
  have H := conv_apply x0 x1 x2 x3 x4 x5 x6 x8 x9 x10 x12
  simp only [val_main_v82, val_main_v81, val_main_v80, val_main_v79, val_main_v78, val_main_v77, val_main_call0_v0, val_main_call0_v1, val_main_call0_cst, val_main_call0_v2, val_main_call0_v3, val_main_call0_cst_0, val_main_call0_v4, val_main_call0_v5]
  generalize val_main_v76 (F := Ideal) x0 x1 x2 x3 x4 x5 x6 x8 x9 x10 x12 = mx at *
  pointwise
  simp only [H, logistic_eq]
  rfl

/-- The first result of the reference is the row formula. -/
theorem y_apply (b : Fin 128) (n : Fin 1024) :
    val_main_v99 x0 x1 x2 x3 x4 x5 x6 x7 x8 x9 x10 x11 x12 (ix3 0 b n) = Y x0 x1 x2 x3 x4 x5 x6 x7 x8 x9 x10 x11 x12 b n := by
  have H := ffn_apply x0 x1 x2 x3 x4 x5 x6 x8 x9 x10 x11 x12
  have H1 := x1_apply x0 x1 x2 x3 x4 x5
  simp only [val_main_v99, val_main_v98, val_main_v97, val_main_v96, val_main_v95, val_main_v94, val_main_v93, val_main_v92, val_main_v91, val_main_v90, val_main_v89, val_main_v88, val_main_v87, val_main_v86, val_main_v85, val_main_v84, val_main_v83, val_main_cst_7, val_main_cst_8, val_main_cst_9, val_main_v6, val_main_v0]
  generalize val_main_v82 (F := Ideal) x0 x1 x2 x3 x4 x5 x6 x8 x9 x10 x11 x12 = mx at *
  generalize val_main_v28 (F := Ideal) x0 x1 x2 x3 x4 x5 = my at *
  pointwise
  simp only [H, H1]
  rfl

/-- The second result of the reference: the up-projected row. -/
theorem tail_apply (b : Fin 128) (n : Fin 5632) :
    val_main_v103 x0 x1 x2 x3 x4 x5 x6 x8 x12 (ix3 0 b n) = UP x0 x1 x2 x3 x4 x5 x6 x8 b n := by
  have H2 := fun n => (rows_apply x0 x1 x2 x3 x4 x5 x6 x8 x12 b n).2.2
  simp only [val_main_v103, val_main_v102, val_main_v101, val_main_v100]
  generalize val_main_v50 (F := Ideal) x0 x1 x2 x3 x4 x5 x6 x8 x12 = mx at *
  pointwise
  exact H2 n

end Cert.PostSampleRefIdeal.Out
end
end
-- ==== Proof.QsBlk.lean ====
module
public import proofs.«01_k».proof.Proof.QsIdx
public import proofs.«01_k».proof.Proof.QsRef
public import proofs.«01_k».proof.Proof.Gen.PostSampleIdeal.Value
@[expose] public section
set_option maxRecDepth 16384

/-! The blocks of the one-row post-attention kernel as parts of its arguments. -/

noncomputable section
open Idealize.ShloMosaic Idealize.ShloMosaic.TcCoe Idealize.SL.Sem
namespace Cert.PostSampleIdeal.Out
open Cert.PostSampleIdeal Cert.PostSampleIdeal.Gen Cert.PP
variable (m : (ℓ : Loc nD τ sig) → Buf (Elt Ideal) ℓ)

/-! The arguments, as arrays. -/
abbrev a0 (c : Dev nD) : S128x1x1024.Idx → EReal := m ((c : Thread nD τ).loc main_arg0)
abbrev a1 (c : Dev nD) : S128x512.Idx → EReal := m ((c : Thread nD τ).loc main_arg1)
abbrev a2 (c : Dev nD) : S128x8x64.Idx → EReal := m ((c : Thread nD τ).loc main_arg2)
abbrev a3 (c : Dev nD) : S128x6144.Idx → EReal := m ((c : Thread nD τ).loc main_arg3)
abbrev a4 (c : Dev nD) : S1x1024x1024.Idx → EReal := m ((c : Thread nD τ).loc main_arg4)
abbrev a5 (c : Dev nD) : S1x1024.Idx → EReal := m ((c : Thread nD τ).loc main_arg5)
abbrev a6 (c : Dev nD) : S1x1024.Idx → EReal := m ((c : Thread nD τ).loc main_arg6)
abbrev a7 (c : Dev nD) : S1x1024.Idx → EReal := m ((c : Thread nD τ).loc main_arg7)
abbrev a8 (c : Dev nD) : S1x1024x5632.Idx → EReal := m ((c : Thread nD τ).loc main_arg8)
abbrev a9 (c : Dev nD) : S1x3x5632.Idx → EReal := m ((c : Thread nD τ).loc main_arg9)
abbrev a10 (c : Dev nD) : S1x5632.Idx → EReal := m ((c : Thread nD τ).loc main_arg10)
abbrev a11 (c : Dev nD) : S1x2816x1024.Idx → EReal := m ((c : Thread nD τ).loc main_arg11)
abbrev a12 (c : Dev nD) : S1x128x2x5632.Idx → EReal := m ((c : Thread nD τ).loc main_arg12)

/-! What the host lines before the kernel write. -/

theorem V_v2 (c : Dev nD) (k : Fin 512) (n : Fin 1024) : (V m c main_v2 : S512x1024.Idx → EReal) (ix2 k n) = a4 m c (ix3 0 ⟨k.val, by omega⟩ n) := by
  have e : (V m c main_v2 : S512x1024.Idx → EReal) = truncf (F := Ideal) .bf16 (shapeCast S512x1024 (extractStridedSlice S1x512x1024 ![0, 0, 0] (a4 m c) slices_S1x1024x1024_S1x512x1024_0_0_0) shapeCasts_S1x512x1024_S512x1024) bitsLt_bf16_f32 := by
    unfold_abbrev_sides
    after_results
    rfl
  rw [e]
  pointwise

theorem V_v5 (c : Dev nD) (k : Fin 512) (n : Fin 1024) : (V m c main_v5 : S512x1024.Idx → EReal) (ix2 k n) = a4 m c (ix3 0 ⟨512 + k.val, by omega⟩ n) := by
  have e : (V m c main_v5 : S512x1024.Idx → EReal) = truncf (F := Ideal) .bf16 (shapeCast S512x1024 (extractStridedSlice S1x512x1024 ![0, 512, 0] (a4 m c) slices_S1x1024x1024_S1x512x1024_0_512_0) shapeCasts_S1x512x1024_S512x1024) bitsLt_bf16_f32 := by
    unfold_abbrev_sides
    after_results
    rfl
  rw [e]
  pointwise

theorem V_v7 (c : Dev nD) (n : Fin 1024) : (V m c main_v7 : S1x1024.Idx → EReal) (ix2 0 n) = a5 m c (ix2 0 n) := by
  have e : (V m c main_v7 : S1x1024.Idx → EReal) = shapeCast S1x1024 (shapeCast S1024 (a5 m c) shapeCasts_S1x1024_S1024) shapeCasts_S1024_S1x1024 := by
    unfold_abbrev_sides
    after_results
    rfl
  rw [e]
  pointwise

theorem V_v9 (c : Dev nD) (n : Fin 1024) : (V m c main_v9 : S1x1024.Idx → EReal) (ix2 0 n) = a6 m c (ix2 0 n) := by
  have e : (V m c main_v9 : S1x1024.Idx → EReal) = shapeCast S1x1024 (shapeCast S1024 (a6 m c) shapeCasts_S1x1024_S1024) shapeCasts_S1024_S1x1024 := by
    unfold_abbrev_sides
    after_results
    rfl
  rw [e]
  pointwise

theorem V_v11 (c : Dev nD) (n : Fin 1024) : (V m c main_v11 : S1x1024.Idx → EReal) (ix2 0 n) = a7 m c (ix2 0 n) := by
  have e : (V m c main_v11 : S1x1024.Idx → EReal) = shapeCast S1x1024 (shapeCast S1024 (a7 m c) shapeCasts_S1x1024_S1024) shapeCasts_S1024_S1x1024 := by
    unfold_abbrev_sides
    after_results
    rfl
  rw [e]
  pointwise

theorem V_v13 (c : Dev nD) (k : Fin 1024) (n : Fin 5632) : (V m c main_v13 : S1024x5632.Idx → EReal) (ix2 k n) = a8 m c (ix3 0 k n) := by
  have e : (V m c main_v13 : S1024x5632.Idx → EReal) = truncf (F := Ideal) .bf16 (shapeCast S1024x5632 (a8 m c) shapeCasts_S1x1024x5632_S1024x5632) bitsLt_bf16_f32 := by
    unfold_abbrev_sides
    after_results
    rfl
  rw [e]
  pointwise

theorem V_v14 (c : Dev nD) (k : Fin 3) (n : Fin 5632) : (V m c main_v14 : S3x5632.Idx → EReal) (ix2 k n) = a9 m c (ix3 0 k n) := by
  have e : (V m c main_v14 : S3x5632.Idx → EReal) = shapeCast S3x5632 (a9 m c) shapeCasts_S1x3x5632_S3x5632 := by
    unfold_abbrev_sides
    after_results
    rfl
  rw [e]
  pointwise

theorem V_v16 (c : Dev nD) (n : Fin 5632) : (V m c main_v16 : S1x5632.Idx → EReal) (ix2 0 n) = a10 m c (ix2 0 n) := by
  have e : (V m c main_v16 : S1x5632.Idx → EReal) = shapeCast S1x5632 (shapeCast S5632 (a10 m c) shapeCasts_S1x5632_S5632) shapeCasts_S5632_S1x5632 := by
    unfold_abbrev_sides
    after_results
    rfl
  rw [e]
  pointwise

theorem V_v18 (c : Dev nD) (k : Fin 2816) (n : Fin 1024) : (V m c main_v18 : S2816x1024.Idx → EReal) (ix2 k n) = a11 m c (ix3 0 k n) := by
  have e : (V m c main_v18 : S2816x1024.Idx → EReal) = truncf (F := Ideal) .bf16 (shapeCast S2816x1024 (a11 m c) shapeCasts_S1x2816x1024_S2816x1024) bitsLt_bf16_f32 := by
    unfold_abbrev_sides
    after_results
    rfl
  rw [e]
  pointwise

theorem V_v19 (c : Dev nD) (b : Fin 128) (n : Fin 1024) : (V m c main_v19 : S1x128x1024.Idx → EReal) (ix3 0 b n) = a0 m c (ix3 b 0 n) := by
  have e : (V m c main_v19 : S1x128x1024.Idx → EReal) = shapeCast S1x128x1024 (a0 m c) shapeCasts_S128x1x1024_S1x128x1024 := by
    unfold_abbrev_sides
    after_results
    rfl
  rw [e]
  pointwise

theorem V_v20 (c : Dev nD) (b : Fin 128) (n : Fin 512) : (V m c main_v20 : S1x128x512.Idx → EReal) (ix3 0 b n) = a1 m c (ix2 b n) := by
  have e : (V m c main_v20 : S1x128x512.Idx → EReal) = shapeCast S1x128x512 (a1 m c) shapeCasts_S128x512_S1x128x512 := by
    unfold_abbrev_sides
    after_results
    rfl
  rw [e]
  pointwise

theorem V_v22 (c : Dev nD) (b : Fin 128) (n : Fin 512) : (V m c main_v22 : S1x128x512.Idx → EReal) (ix3 0 b n) = Cert.PostSampleRefIdeal.Out.attR (a2 m c) b n := by
  have e : (V m c main_v22 : S1x128x512.Idx → EReal) = truncf (F := Ideal) .bf16 (shapeCast S1x128x512 (a2 m c) shapeCasts_S128x8x64_S1x128x512) bitsLt_bf16_f32 := by
    unfold_abbrev_sides
    after_results
    rfl
  rw [e]
  pointwise
  rfl

theorem V_v23 (c : Dev nD) (b : Fin 128) (n : Fin 6144) : (V m c main_v23 : S1x128x6144.Idx → EReal) (ix3 0 b n) = a3 m c (ix2 b n) := by
  have e : (V m c main_v23 : S1x128x6144.Idx → EReal) = shapeCast S1x128x6144 (a3 m c) shapeCasts_S128x6144_S1x128x6144 := by
    unfold_abbrev_sides
    after_results
    rfl
  rw [e]
  pointwise

theorem V_v26 (c : Dev nD) (b : Fin 128) (n : Fin 5632) : (V m c main_v26 : S1x128x5632.Idx → EReal) (ix3 0 b n) = a12 m c (ix4 0 b 0 n) := by
  have e : (V m c main_v26 : S1x128x5632.Idx → EReal) = shapeCast S1x128x5632 (shapeCast S128x5632 (extractStridedSlice S1x128x1x5632 ![0, 0, 0, 0] (a12 m c) slices_S1x128x2x5632_S1x128x1x5632_0_0_0_0) shapeCasts_S1x128x1x5632_S128x5632) shapeCasts_S128x5632_S1x128x5632 := by
    unfold_abbrev_sides
    after_results
    rfl
  rw [e]
  pointwise

theorem V_v29 (c : Dev nD) (b : Fin 128) (n : Fin 5632) : (V m c main_v29 : S1x128x5632.Idx → EReal) (ix3 0 b n) = a12 m c (ix4 0 b 1 n) := by
  have e : (V m c main_v29 : S1x128x5632.Idx → EReal) = shapeCast S1x128x5632 (shapeCast S128x5632 (extractStridedSlice S1x128x1x5632 ![0, 0, 1, 0] (a12 m c) slices_S1x128x2x5632_S1x128x1x5632_0_0_1_0) shapeCasts_S1x128x1x5632_S128x5632) shapeCasts_S128x5632_S1x128x5632 := by
    unfold_abbrev_sides
    after_results
    rfl
  rw [e]
  pointwise

/-! The kernel has one grid point, and each window's block is the whole array. -/

/-- The only grid point. -/
def t0 : Fin cfg0.N := ⟨0, by decide⟩

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

theorem blk0 (c : Dev nD) (t : Fin cfg0.N) : (iblk m c 0 t : S1x128x1024.Idx → EReal) = V m c main_v19 := by
  obtain ⟨h0, h1, h2⟩ := idx0 t
  funext i
  unfold iblk
  rw [View.read_apply]
  show V m c main_v19 _ = V m c main_v19 _
  congr 1
  funext a
  apply Fin.ext
  match a with
  | ⟨0, _⟩ => show win0_0.index t 0 * 1 + 1 * (i 0).val = (i 0).val; rw [h0]; omega
  | ⟨1, _⟩ => show win0_0.index t 1 * 128 + 1 * (i 1).val = (i 1).val; rw [h1]; omega
  | ⟨2, _⟩ => show win0_0.index t 2 * 1024 + 1 * (i 2).val = (i 2).val; rw [h2]; omega

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem blk1 (c : Dev nD) (t : Fin cfg0.N) : (iblk m c 1 t : S1x128x512.Idx → EReal) = V m c main_v20 := by
  obtain ⟨h0, h1, h2⟩ := idx1 t
  funext i
  unfold iblk
  rw [View.read_apply]
  show V m c main_v20 _ = V m c main_v20 _
  congr 1
  funext a
  apply Fin.ext
  match a with
  | ⟨0, _⟩ => show win0_1.index t 0 * 1 + 1 * (i 0).val = (i 0).val; rw [h0]; omega
  | ⟨1, _⟩ => show win0_1.index t 1 * 128 + 1 * (i 1).val = (i 1).val; rw [h1]; omega
  | ⟨2, _⟩ => show win0_1.index t 2 * 512 + 1 * (i 2).val = (i 2).val; rw [h2]; omega

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem blk2 (c : Dev nD) (t : Fin cfg0.N) : (iblk m c 2 t : S1x128x512.Idx → EReal) = V m c main_v22 := by
  obtain ⟨h0, h1, h2⟩ := idx2 t
  funext i
  unfold iblk
  rw [View.read_apply]
  show V m c main_v22 _ = V m c main_v22 _
  congr 1
  funext a
  apply Fin.ext
  match a with
  | ⟨0, _⟩ => show win0_2.index t 0 * 1 + 1 * (i 0).val = (i 0).val; rw [h0]; omega
  | ⟨1, _⟩ => show win0_2.index t 1 * 128 + 1 * (i 1).val = (i 1).val; rw [h1]; omega
  | ⟨2, _⟩ => show win0_2.index t 2 * 512 + 1 * (i 2).val = (i 2).val; rw [h2]; omega

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

theorem blk3 (c : Dev nD) (t : Fin cfg0.N) : (iblk m c 3 t : S1x128x6144.Idx → EReal) = V m c main_v23 := by
  obtain ⟨h0, h1, h2⟩ := idx3 t
  funext i
  unfold iblk
  rw [View.read_apply]
  show V m c main_v23 _ = V m c main_v23 _
  congr 1
  funext a
  apply Fin.ext
  match a with
  | ⟨0, _⟩ => show win0_3.index t 0 * 1 + 1 * (i 0).val = (i 0).val; rw [h0]; omega
  | ⟨1, _⟩ => show win0_3.index t 1 * 128 + 1 * (i 1).val = (i 1).val; rw [h1]; omega
  | ⟨2, _⟩ => show win0_3.index t 2 * 6144 + 1 * (i 2).val = (i 2).val; rw [h2]; omega

theorem idx4 : ∀ t : Fin cfg0.N, win0_4.index t (0 : Fin 2) = 0 ∧ win0_4.index t (1 : Fin 2) = 0 :=
  (by decide +kernel : ∀ t : Fin grid0.N, _)

theorem blk4 (c : Dev nD) (t : Fin cfg0.N) : (iblk m c 4 t : S512x1024.Idx → EReal) = V m c main_v2 := by
  obtain ⟨h0, h1⟩ := idx4 t
  funext i
  unfold iblk
  rw [View.read_apply]
  show V m c main_v2 _ = V m c main_v2 _
  congr 1
  funext a
  apply Fin.ext
  match a with
  | ⟨0, _⟩ => show win0_4.index t 0 * 512 + 1 * (i 0).val = (i 0).val; rw [h0]; omega
  | ⟨1, _⟩ => show win0_4.index t 1 * 1024 + 1 * (i 1).val = (i 1).val; rw [h1]; omega

theorem idx5 : ∀ t : Fin cfg0.N, win0_5.index t (0 : Fin 2) = 0 ∧ win0_5.index t (1 : Fin 2) = 0 :=
  (by decide +kernel : ∀ t : Fin grid0.N, _)

theorem blk5 (c : Dev nD) (t : Fin cfg0.N) : (iblk m c 5 t : S512x1024.Idx → EReal) = V m c main_v5 := by
  obtain ⟨h0, h1⟩ := idx5 t
  funext i
  unfold iblk
  rw [View.read_apply]
  show V m c main_v5 _ = V m c main_v5 _
  congr 1
  funext a
  apply Fin.ext
  match a with
  | ⟨0, _⟩ => show win0_5.index t 0 * 512 + 1 * (i 0).val = (i 0).val; rw [h0]; omega
  | ⟨1, _⟩ => show win0_5.index t 1 * 1024 + 1 * (i 1).val = (i 1).val; rw [h1]; omega

theorem idx6 : ∀ t : Fin cfg0.N, win0_6.index t (0 : Fin 2) = 0 ∧ win0_6.index t (1 : Fin 2) = 0 :=
  (by decide +kernel : ∀ t : Fin grid0.N, _)

theorem blk6 (c : Dev nD) (t : Fin cfg0.N) : (iblk m c 6 t : S1x1024.Idx → EReal) = V m c main_v7 := by
  obtain ⟨h0, h1⟩ := idx6 t
  funext i
  unfold iblk
  rw [View.read_apply]
  show V m c main_v7 _ = V m c main_v7 _
  congr 1
  funext a
  apply Fin.ext
  match a with
  | ⟨0, _⟩ => show win0_6.index t 0 * 1 + 1 * (i 0).val = (i 0).val; rw [h0]; omega
  | ⟨1, _⟩ => show win0_6.index t 1 * 1024 + 1 * (i 1).val = (i 1).val; rw [h1]; omega

theorem idx7 : ∀ t : Fin cfg0.N, win0_7.index t (0 : Fin 2) = 0 ∧ win0_7.index t (1 : Fin 2) = 0 :=
  (by decide +kernel : ∀ t : Fin grid0.N, _)

theorem blk7 (c : Dev nD) (t : Fin cfg0.N) : (iblk m c 7 t : S1x1024.Idx → EReal) = V m c main_v9 := by
  obtain ⟨h0, h1⟩ := idx7 t
  funext i
  unfold iblk
  rw [View.read_apply]
  show V m c main_v9 _ = V m c main_v9 _
  congr 1
  funext a
  apply Fin.ext
  match a with
  | ⟨0, _⟩ => show win0_7.index t 0 * 1 + 1 * (i 0).val = (i 0).val; rw [h0]; omega
  | ⟨1, _⟩ => show win0_7.index t 1 * 1024 + 1 * (i 1).val = (i 1).val; rw [h1]; omega

theorem idx8 : ∀ t : Fin cfg0.N, win0_8.index t (0 : Fin 2) = 0 ∧ win0_8.index t (1 : Fin 2) = 0 :=
  (by decide +kernel : ∀ t : Fin grid0.N, _)

theorem blk8 (c : Dev nD) (t : Fin cfg0.N) : (iblk m c 8 t : S1x1024.Idx → EReal) = V m c main_v11 := by
  obtain ⟨h0, h1⟩ := idx8 t
  funext i
  unfold iblk
  rw [View.read_apply]
  show V m c main_v11 _ = V m c main_v11 _
  congr 1
  funext a
  apply Fin.ext
  match a with
  | ⟨0, _⟩ => show win0_8.index t 0 * 1 + 1 * (i 0).val = (i 0).val; rw [h0]; omega
  | ⟨1, _⟩ => show win0_8.index t 1 * 1024 + 1 * (i 1).val = (i 1).val; rw [h1]; omega

theorem idx9 : ∀ t : Fin cfg0.N, win0_9.index t (0 : Fin 2) = 0 ∧ win0_9.index t (1 : Fin 2) = 0 :=
  (by decide +kernel : ∀ t : Fin grid0.N, _)

theorem blk9 (c : Dev nD) (t : Fin cfg0.N) : (iblk m c 9 t : S1024x5632.Idx → EReal) = V m c main_v13 := by
  obtain ⟨h0, h1⟩ := idx9 t
  funext i
  unfold iblk
  rw [View.read_apply]
  show V m c main_v13 _ = V m c main_v13 _
  congr 1
  funext a
  apply Fin.ext
  match a with
  | ⟨0, _⟩ => show win0_9.index t 0 * 1024 + 1 * (i 0).val = (i 0).val; rw [h0]; omega
  | ⟨1, _⟩ => show win0_9.index t 1 * 5632 + 1 * (i 1).val = (i 1).val; rw [h1]; omega

theorem idx10 : ∀ t : Fin cfg0.N, win0_10.index t (0 : Fin 2) = 0 ∧ win0_10.index t (1 : Fin 2) = 0 :=
  (by decide +kernel : ∀ t : Fin grid0.N, _)

theorem blk10 (c : Dev nD) (t : Fin cfg0.N) : (iblk m c 10 t : S3x5632.Idx → EReal) = V m c main_v14 := by
  obtain ⟨h0, h1⟩ := idx10 t
  funext i
  unfold iblk
  rw [View.read_apply]
  show V m c main_v14 _ = V m c main_v14 _
  congr 1
  funext a
  apply Fin.ext
  match a with
  | ⟨0, _⟩ => show win0_10.index t 0 * 3 + 1 * (i 0).val = (i 0).val; rw [h0]; omega
  | ⟨1, _⟩ => show win0_10.index t 1 * 5632 + 1 * (i 1).val = (i 1).val; rw [h1]; omega

theorem idx11 : ∀ t : Fin cfg0.N, win0_11.index t (0 : Fin 2) = 0 ∧ win0_11.index t (1 : Fin 2) = 0 :=
  (by decide +kernel : ∀ t : Fin grid0.N, _)

theorem blk11 (c : Dev nD) (t : Fin cfg0.N) : (iblk m c 11 t : S1x5632.Idx → EReal) = V m c main_v16 := by
  obtain ⟨h0, h1⟩ := idx11 t
  funext i
  unfold iblk
  rw [View.read_apply]
  show V m c main_v16 _ = V m c main_v16 _
  congr 1
  funext a
  apply Fin.ext
  match a with
  | ⟨0, _⟩ => show win0_11.index t 0 * 1 + 1 * (i 0).val = (i 0).val; rw [h0]; omega
  | ⟨1, _⟩ => show win0_11.index t 1 * 5632 + 1 * (i 1).val = (i 1).val; rw [h1]; omega

theorem idx12 : ∀ t : Fin cfg0.N, win0_12.index t (0 : Fin 2) = 0 ∧ win0_12.index t (1 : Fin 2) = 0 :=
  (by decide +kernel : ∀ t : Fin grid0.N, _)

theorem blk12 (c : Dev nD) (t : Fin cfg0.N) : (iblk m c 12 t : S2816x1024.Idx → EReal) = V m c main_v18 := by
  obtain ⟨h0, h1⟩ := idx12 t
  funext i
  unfold iblk
  rw [View.read_apply]
  show V m c main_v18 _ = V m c main_v18 _
  congr 1
  funext a
  apply Fin.ext
  match a with
  | ⟨0, _⟩ => show win0_12.index t 0 * 2816 + 1 * (i 0).val = (i 0).val; rw [h0]; omega
  | ⟨1, _⟩ => show win0_12.index t 1 * 1024 + 1 * (i 1).val = (i 1).val; rw [h1]; omega

theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)

theorem blk13 (c : Dev nD) (t : Fin cfg0.N) : (iblk m c 13 t : S1x128x5632.Idx → EReal) = V m c main_v26 := by
  obtain ⟨h0, h1, h2⟩ := idx13 t
  funext i
  unfold iblk
  rw [View.read_apply]
  show V m c main_v26 _ = V m c main_v26 _
  congr 1
  funext a
  apply Fin.ext
  match a with
  | ⟨0, _⟩ => show win0_13.index t 0 * 1 + 1 * (i 0).val = (i 0).val; rw [h0]; omega
  | ⟨1, _⟩ => show win0_13.index t 1 * 128 + 1 * (i 1).val = (i 1).val; rw [h1]; omega
  | ⟨2, _⟩ => show win0_13.index t 2 * 5632 + 1 * (i 2).val = (i 2).val; rw [h2]; omega

theorem idx14 : ∀ t : Fin cfg0.N, win0_14.index t (0 : Fin 3) = 0 ∧ win0_14.index t (1 : Fin 3) = 0 ∧ win0_14.index t (2 : Fin 3) = 0 :=
  (by decide +kernel : ∀ t : Fin grid0.N, _)

theorem blk14 (c : Dev nD) (t : Fin cfg0.N) : (iblk m c 14 t : S1x128x5632.Idx → EReal) = V m c main_v29 := by
  obtain ⟨h0, h1, h2⟩ := idx14 t
  funext i
  unfold iblk
  rw [View.read_apply]
  show V m c main_v29 _ = V m c main_v29 _
  congr 1
  funext a
  apply Fin.ext
  match a with
  | ⟨0, _⟩ => show win0_14.index t 0 * 1 + 1 * (i 0).val = (i 0).val; rw [h0]; omega
  | ⟨1, _⟩ => show win0_14.index t 1 * 128 + 1 * (i 1).val = (i 1).val; rw [h1]; omega
  | ⟨2, _⟩ => show win0_14.index t 2 * 5632 + 1 * (i 2).val = (i 2).val; rw [h2]; omega

end Cert.PostSampleIdeal.Out
end
end
-- ==== Proof.QsValue.lean ====
module
public import proofs.«01_k».proof.Proof.QsBlk
public import proofs.«01_k».proof.Defs
public import proofs.«01_k».proof.Proof.Gen.PostSampleRefIdeal.Run
public import proofs.«01_k».proof.Proof.Gen.PostSampleRefIdeal.Read
@[expose] public section
set_option maxRecDepth 16384

/-! The one-row post-attention kernel's two result arrays are the reference's, at every index. -/

noncomputable section
open Idealize.ShloMosaic Idealize.ShloMosaic.TcCoe Idealize.SL.Sem
namespace Cert.PostSampleIdeal.Out
open Cert.PostSampleIdeal Cert.PostSampleIdeal.Gen Cert.PostSampleIdeal.Value Cert.PP
open Cert.PostSampleRefIdeal.Out (X1 UP CV Y attR)
variable (m : (ℓ : Loc nD τ sig) → Buf (Elt Ideal) ℓ)

/-- The two halves of the output projection are the argument's rows. -/
theorem wo_blk (c : Dev nD) : woF (iblk m c 4 t0) (iblk m c 5 t0) = fun k n => a4 m c (ix3 0 k n) := by
  funext k n
  unfold woF
  rw [blk4 m c t0, blk5 m c t0]
  by_cases h : k.val < 512
  · rw [dif_pos h]
    exact V_v2 m c ⟨k.val, h⟩ n
  · rw [dif_neg h]
    refine (V_v5 m c ⟨k.val - 512, by omega⟩ n).trans (congrArg (fun j => a4 m c (ix3 0 j n)) (Fin.ext ?_))
    show 512 + (k.val - 512) = k.val
    omega

/-- The kernel's modulation row is the argument's. -/
theorem md_blk (c : Dev nD) (b : Fin 128) :
    (fun n => (iblk m c 3 t0 : S1x128x6144.Idx → EReal) (ix3 0 b n)) = fun n => a3 m c (ix2 b n) := funext fun n => by
  rw [blk3 m c t0]
  exact V_v23 m c b n

/-- The kernel's residual row is the reference's. -/
theorem x1_blk (c : Dev nD) (b : Fin 128) :
    X1b (iblk m c 0 t0) (iblk m c 1 t0) (iblk m c 2 t0) (iblk m c 3 t0) (iblk m c 4 t0) (iblk m c 5 t0) (iblk m c 6 t0) b = X1 (a0 m c) (a1 m c) (a2 m c) (a3 m c) (a4 m c) (a5 m c) b := by
  have e0 : (fun n => (iblk m c 0 t0 : S1x128x1024.Idx → EReal) (ix3 0 b n)) = fun n => a0 m c (ix3 b 0 n) := funext fun n => by
    rw [blk0 m c t0]
    exact V_v19 m c b n
  have e1 : (fun k => (iblk m c 1 t0 : S1x128x512.Idx → EReal) (ix3 0 b k)) = fun k => a1 m c (ix2 b k) := funext fun n => by
    rw [blk1 m c t0]
    exact V_v20 m c b n
  have e2 : (fun k => (iblk m c 2 t0 : S1x128x512.Idx → EReal) (ix3 0 b k)) = attR (a2 m c) b := funext fun n => by
    rw [blk2 m c t0]
    exact V_v22 m c b n
  have e6 : (fun n => (iblk m c 6 t0 : S1x1024.Idx → EReal) (ix2 0 n)) = fun n => a5 m c (ix2 0 n) := funext fun n => by
    rw [blk6 m c t0]
    exact V_v7 m c n
  unfold X1b X1
  rw [e0, e1, e2, e6, md_blk m c b, wo_blk m c]

/-- The kernel's up-projected row is the reference's. -/
theorem up_blk (c : Dev nD) (b : Fin 128) :
    UPb (iblk m c 0 t0) (iblk m c 1 t0) (iblk m c 2 t0) (iblk m c 3 t0) (iblk m c 4 t0) (iblk m c 5 t0) (iblk m c 6 t0) (iblk m c 7 t0) (iblk m c 9 t0) b = UP (a0 m c) (a1 m c) (a2 m c) (a3 m c) (a4 m c) (a5 m c) (a6 m c) (a8 m c) b := by
  have e7 : (fun n => (iblk m c 7 t0 : S1x1024.Idx → EReal) (ix2 0 n)) = fun n => a6 m c (ix2 0 n) := funext fun n => by
    rw [blk7 m c t0]
    exact V_v9 m c n
  have e9 : (fun k n => (iblk m c 9 t0 : S1024x5632.Idx → EReal) (ix2 k n)) = fun k n => a8 m c (ix3 0 k n) := funext fun k => funext fun n => by
    rw [blk9 m c t0]
    exact V_v13 m c k n
  unfold UPb UP
  rw [x1_blk m c b, md_blk m c b, e7, e9]

/-- The kernel's convolved row is the reference's. -/
theorem cv_blk (c : Dev nD) (b : Fin 128) :
    CVb (iblk m c 0 t0) (iblk m c 1 t0) (iblk m c 2 t0) (iblk m c 3 t0) (iblk m c 4 t0) (iblk m c 5 t0) (iblk m c 6 t0) (iblk m c 7 t0) (iblk m c 9 t0) (iblk m c 10 t0) (iblk m c 11 t0) (iblk m c 13 t0) (iblk m c 14 t0) b = CV (a0 m c) (a1 m c) (a2 m c) (a3 m c) (a4 m c) (a5 m c) (a6 m c) (a8 m c) (a9 m c) (a10 m c) (a12 m c) b := by
  have e10 : (fun d n => (iblk m c 10 t0 : S3x5632.Idx → EReal) (ix2 d n)) = fun d n => a9 m c (ix3 0 d n) := funext fun d => funext fun n => by
    rw [blk10 m c t0]
    exact V_v14 m c d n
  have e11 : (fun n => (iblk m c 11 t0 : S1x5632.Idx → EReal) (ix2 0 n)) = fun n => a10 m c (ix2 0 n) := funext fun n => by
    rw [blk11 m c t0]
    exact V_v16 m c n
  have e13 : (fun n => (iblk m c 13 t0 : S1x128x5632.Idx → EReal) (ix3 0 b n)) = fun n => a12 m c (ix4 0 b 0 n) := funext fun n => by
    rw [blk13 m c t0]
    exact V_v26 m c b n
  have e14 : (fun n => (iblk m c 14 t0 : S1x128x5632.Idx → EReal) (ix3 0 b n)) = fun n => a12 m c (ix4 0 b 1 n) := funext fun n => by
    rw [blk14 m c t0]
    exact V_v29 m c b n
  unfold CVb CV
  rw [up_blk m c b, e10, e11, e13, e14]

theorem idx15 : ∀ t : Fin cfg0.N, win0_15.index t (0 : Fin 3) = 0 ∧ win0_15.index t (1 : Fin 3) = 0 ∧ win0_15.index t (2 : Fin 3) = 0 :=
  (by decide +kernel : ∀ t : Fin grid0.N, _)

/-- Result 1 of the kernel is the block its only grid point leaves. -/
theorem arr15 (c : Dev nD) (i : S1x128x1024.Idx) :
    ((dats m 0 c).arrAt 15 cfg0.N : S1x128x1024.Idx → EReal) i = (out0_15 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) : S1x128x1024.Idx → EReal) i := by
  obtain ⟨h0, h1, h2⟩ := idx15 t0
  have h := blocks15 m c t0 (by decide)
  rw [flushed15] at h
  refine Eq.trans ?_ (congrFun h i)
  rw [View.read_apply]
  show (dats m 0 c).arrAt 15 cfg0.N _ = (dats m 0 c).arrAt 15 cfg0.N _
  congr 1
  funext a
  apply Fin.ext
  match a with
  | ⟨0, _⟩ => show (i 0).val = win0_15.index t0 0 * 1 + 1 * (i 0).val; rw [h0]; omega
  | ⟨1, _⟩ => show (i 1).val = win0_15.index t0 1 * 128 + 1 * (i 1).val; rw [h1]; omega
  | ⟨2, _⟩ => show (i 2).val = win0_15.index t0 2 * 1024 + 1 * (i 2).val; rw [h2]; omega

/-- The kernel's first result is the reference's. -/
theorem G15_eq (c : Dev nD) : ((dats m 0 c).arrAt 15 cfg0.N : S1x128x1024.Idx → EReal)
    = Cert.PostSampleRefIdeal.Read.val_main_v99 (F := Ideal) (a0 m c) (a1 m c) (a2 m c) (a3 m c) (a4 m c) (a5 m c) (a6 m c) (a7 m c) (a8 m c) (a9 m c) (a10 m c) (a11 m c) (a12 m c) := by
  funext i
  have hi : i = ix3 0 (i 1) (i 2) := by
    funext a
    match a with
    | ⟨0, _⟩ => exact Fin.ext (by have h : (i 0).val < 1 := (i 0).isLt; show (i 0).val = 0; omega)
    | ⟨1, _⟩ => rfl
    | ⟨2, _⟩ => rfl
  rw [arr15 m c i, hi]
  refine (y_out (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (i 1) (i 2)).trans (Eq.trans ?_ (Cert.PostSampleRefIdeal.Out.y_apply (a0 m c) (a1 m c) (a2 m c) (a3 m c) (a4 m c) (a5 m c) (a6 m c) (a7 m c) (a8 m c) (a9 m c) (a10 m c) (a11 m c) (a12 m c) (i 1) (i 2)).symm)
  have e8 : (fun n => (iblk m c 8 t0 : S1x1024.Idx → EReal) (ix2 0 n)) = fun n => a7 m c (ix2 0 n) := funext fun n => by
    rw [blk8 m c t0]
    exact V_v11 m c n
  have e12 : (fun k n => (iblk m c 12 t0 : S2816x1024.Idx → EReal) (ix2 k n)) = fun k n => a11 m c (ix3 0 k n) := funext fun k => funext fun n => by
    rw [blk12 m c t0]
    exact V_v18 m c k n
  unfold Y
  rw [x1_blk m c (i 1), md_blk m c (i 1), cv_blk m c (i 1), e8, e12]

theorem idx16 : ∀ t : Fin cfg0.N, win0_16.index t (0 : Fin 3) = 0 ∧ win0_16.index t (1 : Fin 3) = 0 ∧ win0_16.index t (2 : Fin 3) = 0 :=
  (by decide +kernel : ∀ t : Fin grid0.N, _)

/-- Result 2 of the kernel is the block its only grid point leaves. -/
theorem arr16 (c : Dev nD) (i : S1x128x5632.Idx) :
    ((dats m 0 c).arrAt 16 cfg0.N : S1x128x5632.Idx → EReal) i = (out0_16 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) : S1x128x5632.Idx → EReal) i := by
  obtain ⟨h0, h1, h2⟩ := idx16 t0
  have h := blocks16 m c t0 (by decide)
  rw [flushed16] at h
  refine Eq.trans ?_ (congrFun h i)
  rw [View.read_apply]
  show (dats m 0 c).arrAt 16 cfg0.N _ = (dats m 0 c).arrAt 16 cfg0.N _
  congr 1
  funext a
  apply Fin.ext
  match a with
  | ⟨0, _⟩ => show (i 0).val = win0_16.index t0 0 * 1 + 1 * (i 0).val; rw [h0]; omega
  | ⟨1, _⟩ => show (i 1).val = win0_16.index t0 1 * 128 + 1 * (i 1).val; rw [h1]; omega
  | ⟨2, _⟩ => show (i 2).val = win0_16.index t0 2 * 5632 + 1 * (i 2).val; rw [h2]; omega

/-- The kernel's second result, the up-projected rows, is the reference's. -/
theorem G16_eq (c : Dev nD) : ((dats m 0 c).arrAt 16 cfg0.N : S1x128x5632.Idx → EReal)
    = Cert.PostSampleRefIdeal.Read.val_main_v103 (F := Ideal) (a0 m c) (a1 m c) (a2 m c) (a3 m c) (a4 m c) (a5 m c) (a6 m c) (a8 m c) (a12 m c) := by
  funext i
  have hi : i = ix3 0 (i 1) (i 2) := by
    funext a
    match a with
    | ⟨0, _⟩ => exact Fin.ext (by have h : (i 0).val < 1 := (i 0).isLt; show (i 0).val = 0; omega)
    | ⟨1, _⟩ => rfl
    | ⟨2, _⟩ => rfl
  rw [arr16 m c i, hi]
  refine (up_out (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (i 1) (i 2)).trans (Eq.trans ?_ (Cert.PostSampleRefIdeal.Out.tail_apply (a0 m c) (a1 m c) (a2 m c) (a3 m c) (a4 m c) (a5 m c) (a6 m c) (a8 m c) (a12 m c) (i 1) (i 2)).symm)
  exact congrFun (up_blk m c (i 1)) (i 2)

end Cert.PostSampleIdeal.Out

open Cert.PostSampleIdeal.Out Cert.PostSampleIdeal.Value Cert.PostSampleIdeal.Gen Cert.PostSampleIdeal

/-- From the same arguments the kernel and the reference leave the same two results, and keep the arguments. -/
theorem Cert.postSample_algebraic :
    Cert.algebraic_PostSampleIdeal_PostSampleRefIdeal (hPostSampleIdeal := Cert.PostSampleIdeal.Gen.facts) (hPostSampleRefIdeal := Cert.PostSampleRefIdeal.Gen.facts) := by
  intro m g m' g' hm hag
  refine ⟨fun c => (dats m 0 c).arrAt 15 cfg0.N, fun c => (dats m 0 c).arrAt 16 cfg0.N, Cert.PostSampleIdeal.Value.run_blocks m g, ?_⟩
  refine (θ_run Cert.PostSampleRefIdeal.defs _ _).mono (fun r h c => ?_)
    (Cert.PostSampleRefIdeal.Value.run (F := Ideal) m' g')
  obtain ⟨e0, e1, hk⟩ := h c
  obtain ⟨g0, g1, g2, g3, g4, g5, g6, g7, g8, g9, g10, g11, g12⟩ := hag c
  refine ⟨e0.trans ?_, e1.trans ?_, hk⟩
  · rw [Cert.PostSampleRefIdeal.Read.val_main_v99_eq]
    dsimp only
    refine Eq.trans ?_ (G15_eq m c).symm
    show Cert.PostSampleRefIdeal.Read.val_main_v99 (F := Ideal) (m' ((c.tc : Thread Cert.PostSampleRefIdeal.nD Cert.PostSampleRefIdeal.τ).loc Cert.PostSampleRefIdeal.main_arg0)) (m' ((c.tc : Thread Cert.PostSampleRefIdeal.nD Cert.PostSampleRefIdeal.τ).loc Cert.PostSampleRefIdeal.main_arg1)) (m' ((c.tc : Thread Cert.PostSampleRefIdeal.nD Cert.PostSampleRefIdeal.τ).loc Cert.PostSampleRefIdeal.main_arg2)) (m' ((c.tc : Thread Cert.PostSampleRefIdeal.nD Cert.PostSampleRefIdeal.τ).loc Cert.PostSampleRefIdeal.main_arg3)) (m' ((c.tc : Thread Cert.PostSampleRefIdeal.nD Cert.PostSampleRefIdeal.τ).loc Cert.PostSampleRefIdeal.main_arg4)) (m' ((c.tc : Thread Cert.PostSampleRefIdeal.nD Cert.PostSampleRefIdeal.τ).loc Cert.PostSampleRefIdeal.main_arg5)) (m' ((c.tc : Thread Cert.PostSampleRefIdeal.nD Cert.PostSampleRefIdeal.τ).loc Cert.PostSampleRefIdeal.main_arg6)) (m' ((c.tc : Thread Cert.PostSampleRefIdeal.nD Cert.PostSampleRefIdeal.τ).loc Cert.PostSampleRefIdeal.main_arg7)) (m' ((c.tc : Thread Cert.PostSampleRefIdeal.nD Cert.PostSampleRefIdeal.τ).loc Cert.PostSampleRefIdeal.main_arg8)) (m' ((c.tc : Thread Cert.PostSampleRefIdeal.nD Cert.PostSampleRefIdeal.τ).loc Cert.PostSampleRefIdeal.main_arg9)) (m' ((c.tc : Thread Cert.PostSampleRefIdeal.nD Cert.PostSampleRefIdeal.τ).loc Cert.PostSampleRefIdeal.main_arg10)) (m' ((c.tc : Thread Cert.PostSampleRefIdeal.nD Cert.PostSampleRefIdeal.τ).loc Cert.PostSampleRefIdeal.main_arg11)) (m' ((c.tc : Thread Cert.PostSampleRefIdeal.nD Cert.PostSampleRefIdeal.τ).loc Cert.PostSampleRefIdeal.main_arg12)) = _
    rw [g0, g1, g2, g3, g4, g5, g6, g7, g8, g9, g10, g11, g12]
  · rw [Cert.PostSampleRefIdeal.Read.val_main_v103_eq]
    dsimp only
    refine Eq.trans ?_ (G16_eq m c).symm
    show Cert.PostSampleRefIdeal.Read.val_main_v103 (F := Ideal) (m' ((c.tc : Thread Cert.PostSampleRefIdeal.nD Cert.PostSampleRefIdeal.τ).loc Cert.PostSampleRefIdeal.main_arg0)) (m' ((c.tc : Thread Cert.PostSampleRefIdeal.nD Cert.PostSampleRefIdeal.τ).loc Cert.PostSampleRefIdeal.main_arg1)) (m' ((c.tc : Thread Cert.PostSampleRefIdeal.nD Cert.PostSampleRefIdeal.τ).loc Cert.PostSampleRefIdeal.main_arg2)) (m' ((c.tc : Thread Cert.PostSampleRefIdeal.nD Cert.PostSampleRefIdeal.τ).loc Cert.PostSampleRefIdeal.main_arg3)) (m' ((c.tc : Thread Cert.PostSampleRefIdeal.nD Cert.PostSampleRefIdeal.τ).loc Cert.PostSampleRefIdeal.main_arg4)) (m' ((c.tc : Thread Cert.PostSampleRefIdeal.nD Cert.PostSampleRefIdeal.τ).loc Cert.PostSampleRefIdeal.main_arg5)) (m' ((c.tc : Thread Cert.PostSampleRefIdeal.nD Cert.PostSampleRefIdeal.τ).loc Cert.PostSampleRefIdeal.main_arg6)) (m' ((c.tc : Thread Cert.PostSampleRefIdeal.nD Cert.PostSampleRefIdeal.τ).loc Cert.PostSampleRefIdeal.main_arg8)) (m' ((c.tc : Thread Cert.PostSampleRefIdeal.nD Cert.PostSampleRefIdeal.τ).loc Cert.PostSampleRefIdeal.main_arg12)) = _
    rw [g0, g1, g2, g3, g4, g5, g6, g8, g12]

end
end
-- ==== Proof.QsClaims.lean ====
module
public import proofs.«01_k».proof.Proof.QsValue
public import proofs.«01_k».proof.Proof.Gen.PostSample.Frame
public import proofs.«01_k».proof.Proof.Gen.PostSampleIdeal.Frame
public import Idealize.ShloMosaic.Init
@[expose] public section

/-! The claims about the one-row post-attention call other than its value. -/

noncomputable section
open Idealize.ShloMosaic Idealize.ShloMosaic.TcCoe Idealize.SL.Sem
namespace Cert.PostSampleClaims

/-- The kernel as printed runs, keeps its arguments and leaves every counter at zero. -/
theorem frame_p : Cert.quiescent_PostSample (hPostSample := Cert.PostSample.Gen.facts) :=
  fun m ρ _ => Cert.PostSample.Gen.frame m ρ

/-- The same of the kernel over the extended reals. -/
theorem frame_pi : Cert.quiescent_PostSampleIdeal (hPostSampleIdeal := Cert.PostSampleIdeal.Gen.facts) :=
  fun m ρ _ => Cert.PostSampleIdeal.Gen.frame m ρ

/-- The same of the reference, which has no counters at all. -/
theorem frame_ri : Cert.quiescent_PostSampleRefIdeal (hPostSampleRefIdeal := Cert.PostSampleRefIdeal.Gen.facts) :=
  fun m ρ _ => (θ_run Cert.PostSampleRefIdeal.defs _ _).mono
    (fun r h => ⟨fun c => (h c).2.2, sem_eq_zero_of_no_sems (by decide) r.2⟩)
    (Cert.PostSampleRefIdeal.Value.run (F := Ideal) m ρ)

end Cert.PostSampleClaims
end
end
-- ==== Proof.Mod.lean ====
module
public import proofs.«01_k».proof.Proof.Gen.ModIdeal.Value
public import proofs.«01_k».proof.Proof.Gen.ModRefIdeal.Run
public import proofs.«01_k».proof.Proof.Gen.ModRefIdeal.Read
public import proofs.«01_k».proof.Proof.Gen.Mod.Frame
public import proofs.«01_k».proof.Proof.Gen.ModIdeal.Frame
public import proofs.«01_k».proof.Defs
public import Idealize.ShloMosaic.Init
public import Idealize.ShloMosaic.Lib.Pointwise
public import Idealize.ShloMosaic.Lib.Tactic
public import Idealize.ShloMosaic.Lib.Pipeline.Value
public import Idealize.ShloMosaic.Lib.Pipeline.ReadBack
@[expose] public section
set_option maxRecDepth 16384

/-! The modulation: each row of conditioning through the gated linear unit's gate, a matrix and a bias; kernel and
    reference leave the same array. -/

noncomputable section
open Idealize.ShloMosaic Idealize.ShloMosaic.TcCoe Idealize.SL.Sem

/-- One entry of a row's modulation: the row `c` times its logistic, times column `n` of `w`, plus the bias. -/
def Cert.modR (c : Fin 1024 → EReal) (w : Fin 1024 → EReal) (b : EReal) : EReal :=
  ∑ k : Fin 1024, c k * Ideal.logistic (c k) * w k + b

/-- Two rows of the prompt's conditioning followed by 128 rows of the samples'. -/
def Cert.catR (p : Fin 2 → Fin 1024 → EReal) (s : Fin 128 → Fin 1024 → EReal) (r : Fin 130) : Fin 1024 → EReal :=
  if h : r.val < 2 then p ⟨r.val, h⟩ else s ⟨r.val - 2, by omega⟩

namespace Cert.ModRefIdeal.Out
open Cert.ModRefIdeal Cert.ModRefIdeal.Read
variable (x0 : (⟨S2x1024, .f32⟩ : BufTy).Contents (Elt Ideal)) (x1 : (⟨S128x1024, .f32⟩ : BufTy).Contents (Elt Ideal)) (x2 : (⟨S1x1024x6144, .f32⟩ : BufTy).Contents (Elt Ideal)) (x3 : (⟨S1x6144, .f32⟩ : BufTy).Contents (Elt Ideal))

theorem logistic_eq (a : EReal) : Ideal.div 1 (1 + Ideal.exp (-a)) = Ideal.logistic a := by
  rfl

/-- The prompt's rows of the reference. -/
theorem p_apply (r : Fin 2) (n : Fin 6144) :
    val_main_v6 x0 x2 x3 (ix2 r n) = modR (fun k => x0 (ix2 r k)) (fun k => x2 (ix3 0 k n)) (x3 (ix2 0 n)) := by
  pointwise [val_main_v6, val_main_v5, val_main_v4, val_main_v3, val_main_v2, val_main_v1, val_main_v0, val_main_call0_v0, val_main_call0_v1, val_main_call0_cst, val_main_call0_v2, val_main_call0_v3, val_main_call0_cst_0, val_main_call0_v4, val_main_call0_v5]
  simp only [logistic_eq]
  rfl

/-- The samples' rows of the reference. -/
theorem s_apply (r : Fin 128) (n : Fin 6144) :
    val_main_v13 x1 x2 x3 (ix2 r n) = modR (fun k => x1 (ix2 r k)) (fun k => x2 (ix3 0 k n)) (x3 (ix2 0 n)) := by
  pointwise [val_main_v13, val_main_v12, val_main_v11, val_main_v10, val_main_v9, val_main_v8, val_main_v7, val_main_call1_v0, val_main_call1_v1, val_main_call1_cst, val_main_call1_v2, val_main_call1_v3, val_main_call1_cst_0, val_main_call1_v4, val_main_call1_v5]
  simp only [logistic_eq]
  rfl

theorem cat_apply (z : S2x6144.Idx → EReal) (u : S128x6144.Idx → EReal) (h) (r : Fin 130) (n : Fin 6144) :
    concatenate S130x6144 0 [⟨S2x6144, z⟩, ⟨S128x6144, u⟩] h (ix2 r n)
      = if g : r.val < 2 then z (ix2 ⟨r.val, g⟩ n) else u (ix2 ⟨r.val - 2, by omega⟩ n) := by
  pointwise

/-- The reference's array. -/
theorem mod_apply (r : Fin 130) (n : Fin 6144) :
    val_main_v14 x0 x1 x2 x3 (ix2 r n)
      = modR (catR (fun r k => x0 (ix2 r k)) (fun r k => x1 (ix2 r k)) r) (fun k => x2 (ix3 0 k n)) (x3 (ix2 0 n)) := by
  unfold val_main_v14 catR
  rw [cat_apply]
  by_cases h : r.val < 2
  · rw [dif_pos h, dif_pos h]
    exact p_apply x0 x2 x3 _ n
  · rw [dif_neg h, dif_neg h]
    exact s_apply x1 x2 x3 _ n

end Cert.ModRefIdeal.Out

namespace Cert.ModIdeal.Out
open Cert.ModIdeal Cert.ModIdeal.Gen Cert.ModIdeal.Value Idealize.ShloMosaic.View

/-- The block a grid point leaves. -/
theorem out_apply (x0 : Vec Ideal S130x1024 .f32) (x1 : Vec Ideal S1024x1024 .f32) (x2 : Vec Ideal S1x1024 .f32) (r : Fin 130) (n : Fin 1024) :
    out0_3 x0 x1 x2 (ix2 r n) = modR (fun k => x0 (ix2 r k)) (fun k => x1 (ix2 k n)) (x2 (ix2 0 n)) := by
  unfold out0_3
  rw [canon_cons_unit_lit _ _ _ (by decide), ld_unit_lit _ x0 (by decide), ld_unit_lit _ x1 (by decide), ld_unit_lit _ x2 (by decide)]
  pointwise [k0_pay1]
  rfl

variable (m : (ℓ : Loc nD τ sig) → Buf (Elt Ideal) ℓ)
abbrev a0 (c : Dev nD) : S2x1024.Idx → EReal := m ((c : Thread nD τ).loc main_arg0)
abbrev a1 (c : Dev nD) : S128x1024.Idx → EReal := m ((c : Thread nD τ).loc main_arg1)
abbrev a2 (c : Dev nD) : S1x1024x6144.Idx → EReal := m ((c : Thread nD τ).loc main_arg2)
abbrev a3 (c : Dev nD) : S1x6144.Idx → EReal := m ((c : Thread nD τ).loc main_arg3)

theorem cat_apply (z : S2x1024.Idx → EReal) (u : S128x1024.Idx → EReal) (h) (r : Fin 130) (n : Fin 1024) :
    concatenate S130x1024 0 [⟨S2x1024, z⟩, ⟨S128x1024, u⟩] h (ix2 r n)
      = if g : r.val < 2 then z (ix2 ⟨r.val, g⟩ n) else u (ix2 ⟨r.val - 2, by omega⟩ n) := by
  pointwise

theorem V_v0 (c : Dev nD) (r : Fin 130) (n : Fin 1024) : (V m c main_v0 : S130x1024.Idx → EReal) (ix2 r n)
    = catR (fun r k => a0 m c (ix2 r k)) (fun r k => a1 m c (ix2 r k)) r n := by
  have e : (V m c main_v0 : S130x1024.Idx → EReal)
      = concatenate S130x1024 0 [⟨S2x1024, a0 m c⟩, ⟨S128x1024, a1 m c⟩] concatenates_S2x1024_S128x1024_S130x1024_d0 := by
    unfold_abbrev_sides
    after_results
  rw [e, cat_apply]
  unfold catR
  by_cases h : r.val < 2
  · rw [dif_pos h, dif_pos h]
  · rw [dif_neg h, dif_neg h]

theorem V_v1 (c : Dev nD) (k : Fin 1024) (n : Fin 6144) : (V m c main_v1 : S1024x6144.Idx → EReal) (ix2 k n) = a2 m c (ix3 0 k n) := by
  have e : (V m c main_v1 : S1024x6144.Idx → EReal) = shapeCast S1024x6144 (a2 m c) shapeCasts_S1x1024x6144_S1024x6144 := by
    unfold_abbrev_sides
    after_results
    rfl
  rw [e]
  pointwise

theorem V_v3 (c : Dev nD) (n : Fin 6144) : (V m c main_v3 : S1x6144.Idx → EReal) (ix2 0 n) = a3 m c (ix2 0 n) := by
  have e : (V m c main_v3 : S1x6144.Idx → EReal) = shapeCast S1x6144 (shapeCast S6144 (a3 m c) shapeCasts_S1x6144_S6144) shapeCasts_S6144_S1x6144 := by
    unfold_abbrev_sides
    after_results
    rfl
  rw [e]
  pointwise

theorem lt6 (t : Fin cfg0.N) : t.val < 6 := lt_of_lt_of_eq t.isLt N_0

/-- Column `n` of block `t`. -/
def colOf (t : Fin cfg0.N) (n : Fin 1024) : Fin 6144 := ⟨1024 * t.val + n.val, by have := lt6 t; omega⟩

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem flush3 : ∀ t : Fin cfg0.N, (cfg0.win 3).flush t = true :=
  (by decide +kernel : ∀ t : Fin grid0.N, _)

theorem blk0 (c : Dev nD) (t : Fin cfg0.N) (r : Fin 130) (n : Fin 1024) :
    (iblk m c 0 t : S130x1024.Idx → EReal) (ix2 r n) = catR (fun r k => a0 m c (ix2 r k)) (fun r k => a1 m c (ix2 r k)) r n := by
  obtain ⟨h0, h1⟩ := idx0 t
  unfold iblk
  rw [View.read_apply]
  refine Eq.trans ?_ (V_v0 m c r n)
  show V m c main_v0 _ = V m c main_v0 _
  congr 1
  funext a
  apply Fin.ext
  match a with
  | ⟨0, _⟩ => show win0_0.index t 0 * 130 + 1 * r.val = r.val; rw [h0]; omega
  | ⟨1, _⟩ => show win0_0.index t 1 * 1024 + 1 * n.val = n.val; rw [h1]; omega

theorem blk1 (c : Dev nD) (t : Fin cfg0.N) (k n : Fin 1024) :
    (iblk m c 1 t : S1024x1024.Idx → EReal) (ix2 k n) = a2 m c (ix3 0 k (colOf t n)) := by
  obtain ⟨h0, h1⟩ := idx1 t
  unfold iblk
  rw [View.read_apply]
  refine Eq.trans ?_ (V_v1 m c k (colOf t n))
  show V m c main_v1 _ = V m c main_v1 _
  congr 1
  funext a
  apply Fin.ext
  match a with
  | ⟨0, _⟩ => show win0_1.index t 0 * 1024 + 1 * k.val = k.val; rw [h0]; omega
  | ⟨1, _⟩ => show win0_1.index t 1 * 1024 + 1 * n.val = 1024 * t.val + n.val; rw [h1]; omega

theorem blk2 (c : Dev nD) (t : Fin cfg0.N) (n : Fin 1024) :
    (iblk m c 2 t : S1x1024.Idx → EReal) (ix2 0 n) = a3 m c (ix2 0 (colOf t n)) := by
  obtain ⟨h0, h1⟩ := idx2 t
  unfold iblk
  rw [View.read_apply]
  refine Eq.trans ?_ (V_v3 m c (colOf t n))
  show V m c main_v3 _ = V m c main_v3 _
  congr 1
  funext a
  apply Fin.ext
  match a with
  | ⟨0, _⟩ => show win0_2.index t 0 * 1 + 1 * 0 = 0; rw [h0]
  | ⟨1, _⟩ => show win0_2.index t 1 * 1024 + 1 * n.val = 1024 * t.val + n.val; rw [h1]; omega

/-- The kernel's array, at column `n` of block `t`. -/
theorem arr3 (c : Dev nD) (t : Fin cfg0.N) (r : Fin 130) (n : Fin 1024) :
    ((dats m 0 c).arrAt 3 cfg0.N : S130x6144.Idx → EReal) (ix2 r (colOf t n))
      = (out0_3 (iblk m c 0 t) (iblk m c 1 t) (iblk m c 2 t) : S130x1024.Idx → EReal) (ix2 r n) := by
  obtain ⟨h0, h1⟩ := idx3 t
  have h := blocks3 m c t (flush3 t)
  rw [flushed3] at h
  refine Eq.trans ?_ (congrFun h (ix2 r n))
  rw [View.read_apply]
  show (dats m 0 c).arrAt 3 cfg0.N _ = (dats m 0 c).arrAt 3 cfg0.N _
  congr 1
  funext a
  apply Fin.ext
  match a with
  | ⟨0, _⟩ => show r.val = win0_3.index t 0 * 130 + 1 * r.val; rw [h0]; omega
  | ⟨1, _⟩ => show 1024 * t.val + n.val = win0_3.index t 1 * 1024 + 1 * n.val; rw [h1]; omega

/-- The kernel's array is the reference's. -/
theorem G3_eq (c : Dev nD) : ((dats m 0 c).arrAt 3 cfg0.N : S130x6144.Idx → EReal)
    = Cert.ModRefIdeal.Read.val_main_v14 (F := Ideal) (a0 m c) (a1 m c) (a2 m c) (a3 m c) := by
  funext i
  have h1 : (i 1).val < 6144 := (i 1).isLt
  have ht : (i 1).val / 1024 < cfg0.N := by
    refine lt_of_lt_of_eq ?_ N_0.symm
    omega
  have e : i = ix2 (i 0) (colOf ⟨(i 1).val / 1024, ht⟩ ⟨(i 1).val % 1024, by omega⟩) := by
    funext a
    match a with
    | ⟨0, _⟩ => rfl
    | ⟨1, _⟩ => exact Fin.ext (by show (i 1).val = 1024 * ((i 1).val / 1024) + (i 1).val % 1024; omega)
  rw [e]
  refine (arr3 m c _ _ _).trans ?_
  refine (out_apply _ _ _ _ _).trans (Eq.trans ?_ (Cert.ModRefIdeal.Out.mod_apply (a0 m c) (a1 m c) (a2 m c) (a3 m c) _ _).symm)
  have e0 := fun k => blk0 m c ⟨(i 1).val / 1024, ht⟩ (i 0) k
  have e1 := fun k => blk1 m c ⟨(i 1).val / 1024, ht⟩ k ⟨(i 1).val % 1024, by omega⟩
  have e2 := blk2 m c ⟨(i 1).val / 1024, ht⟩ ⟨(i 1).val % 1024, by omega⟩
  rw [funext e0, funext e1, e2]

end Cert.ModIdeal.Out

/-- From the same arguments the kernel and the reference leave the same array, and keep the arguments. -/
theorem Cert.mod_algebraic :
    Cert.algebraic_ModIdeal_ModRefIdeal (hModIdeal := Cert.ModIdeal.Gen.facts) (hModRefIdeal := Cert.ModRefIdeal.Gen.facts) := by
  intro m g m' g' hm hag
  refine ⟨fun c => (Cert.ModIdeal.Gen.dats m 0 c).arrAt 3 Cert.ModIdeal.cfg0.N, Cert.ModIdeal.Value.run_blocks m g, ?_⟩
  refine (θ_run Cert.ModRefIdeal.defs _ _).mono (fun r h c => ?_)
    (Cert.ModRefIdeal.Value.run (F := Ideal) m' g')
  obtain ⟨e0, hk⟩ := h c
  obtain ⟨g0, g1, g2, g3⟩ := hag c
  refine ⟨e0.trans ?_, hk⟩
  rw [Cert.ModRefIdeal.Read.val_main_v14_eq]
  dsimp only
  refine Eq.trans ?_ (Cert.ModIdeal.Out.G3_eq m c).symm
  show Cert.ModRefIdeal.Read.val_main_v14 (F := Ideal) (m' ((c.tc : Thread Cert.ModRefIdeal.nD Cert.ModRefIdeal.τ).loc Cert.ModRefIdeal.main_arg0)) (m' ((c.tc : Thread Cert.ModRefIdeal.nD Cert.ModRefIdeal.τ).loc Cert.ModRefIdeal.main_arg1)) (m' ((c.tc : Thread Cert.ModRefIdeal.nD Cert.ModRefIdeal.τ).loc Cert.ModRefIdeal.main_arg2)) (m' ((c.tc : Thread Cert.ModRefIdeal.nD Cert.ModRefIdeal.τ).loc Cert.ModRefIdeal.main_arg3)) = _
  rw [g0, g1, g2, g3]

namespace Cert.ModClaims

/-- The kernel as printed runs, keeps its arguments and leaves every counter at zero. -/
theorem frame_p : Cert.quiescent_Mod (hMod := Cert.Mod.Gen.facts) :=
  fun m ρ _ => Cert.Mod.Gen.frame m ρ

/-- The same of the kernel over the extended reals. -/
theorem frame_pi : Cert.quiescent_ModIdeal (hModIdeal := Cert.ModIdeal.Gen.facts) :=
  fun m ρ _ => Cert.ModIdeal.Gen.frame m ρ

/-- The same of the reference, which has no counters at all. -/
theorem frame_ri : Cert.quiescent_ModRefIdeal (hModRefIdeal := Cert.ModRefIdeal.Gen.facts) :=
  fun m ρ _ => (θ_run Cert.ModRefIdeal.defs _ _).mono
    (fun r h => ⟨fun c => (h c).2, sem_eq_zero_of_no_sems (by decide) r.2⟩)
    (Cert.ModRefIdeal.Value.run (F := Ideal) m ρ)

end Cert.ModClaims
end
end
-- ==== Proof.lean ====
module

public import proofs.«01_k».proof.Defs
public import proofs.«01_k».proof.Proof.PreClaims
public import proofs.«01_k».proof.Proof.PPClaims
public import proofs.«01_k».proof.Proof.PsClaims
public import proofs.«01_k».proof.Proof.QsClaims
public import proofs.«01_k».proof.Proof.Mod
public import proofs.«01_k».proof.Proof.Gen.PromptAttention.Frame
public import proofs.«01_k».proof.Proof.Gen.PromptAttentionIdeal.Frame

@[expose] public section

noncomputable section

namespace Cert.Proof

open Idealize.ShloMosaic Idealize.SL.Sem

theorem claim : Cert.Claim :=
  ⟨Cert.PrePrompt.Gen.facts, Cert.PrePromptIdeal.Gen.facts, Cert.PrePromptRefIdeal.Gen.facts,
    Cert.PostPrompt.Gen.facts, Cert.PostPromptIdeal.Gen.facts, Cert.PostPromptRefIdeal.Gen.facts,
    Cert.PreSample.Gen.facts, Cert.PreSampleIdeal.Gen.facts, Cert.PreSampleRefIdeal.Gen.facts,
    Cert.PostSample.Gen.facts, Cert.PostSampleIdeal.Gen.facts, Cert.PostSampleRefIdeal.Gen.facts,
    Cert.Mod.Gen.facts, Cert.ModIdeal.Gen.facts, Cert.ModRefIdeal.Gen.facts,
    Cert.PromptAttention.Gen.facts, Cert.PromptAttentionIdeal.Gen.facts,
    Cert.Pre_finite_args.Gen.facts, Cert.Pre_finite_step.Gen.facts,
    PrePromptClaims.frame_p, PrePromptClaims.frame_pi, PrePromptClaims.frame_pi_pre, PrePromptClaims.frame_ri, PrePromptClaims.frame_ri_pre,
    PostPromptClaims.frame_p, PostPromptClaims.frame_pi, PostPromptClaims.frame_ri,
    PreSampleClaims.frame_p, PreSampleClaims.frame_pi, PreSampleClaims.frame_pi_pre, PreSampleClaims.frame_ri, PreSampleClaims.frame_ri_pre,
    PostSampleClaims.frame_p, PostSampleClaims.frame_pi, PostSampleClaims.frame_ri,
    ModClaims.frame_p, ModClaims.frame_pi, ModClaims.frame_ri,
    fun m ρ _ => Cert.PromptAttention.Gen.frame m ρ, fun m ρ _ => Cert.PromptAttentionIdeal.Gen.frame m ρ,
    trivial, Cert.prePrompt_algebraic, trivial, Cert.postPrompt_algebraic,
    trivial, Cert.preSample_algebraic, trivial, Cert.postSample_algebraic,
    trivial, Cert.mod_algebraic, trivial⟩

end Cert.Proof

end
